-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_params [hPre_finite_params : Cert.Pre_finite_params.Facts] (m : (ℓ : Loc Cert.KernelIdeal.nD Cert.KernelIdeal.τ Cert.KernelIdeal.sig) → Buf (Elt Ideal) ℓ) : Prop :=
  ∀ c : Dev Cert.KernelIdeal.nD,
    (Cert.Pre_finite_params.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_params.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite_params.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite_params.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_params [hPre_finite_params : Cert.Pre_finite_params.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_params.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_params.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite_params.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite_params.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_cond [hPre_finite_cond : Cert.Pre_finite_cond.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_cond.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite_cond.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_cond [hPre_finite_cond : Cert.Pre_finite_cond.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_cond.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite_cond.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_params [hKernelIdeal : Cert.KernelIdeal.Facts] [hPre_finite_params : Cert.Pre_finite_params.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_params m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_params [hReferenceIdeal : Cert.ReferenceIdeal.Facts] [hPre_finite_params : Cert.Pre_finite_params.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_params m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite_cond [hKernel2Ideal : Cert.Kernel2Ideal.Facts] [hPre_finite_cond : Cert.Pre_finite_cond.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_cond m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite_cond [hReference2Ideal : Cert.Reference2Ideal.Facts] [hPre_finite_cond : Cert.Pre_finite_cond.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_cond m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def preserves_Kernel_KernelIdeal : Prop :=
  IdealRules.named_const.Statement Cert.KernelIdeal.κ "qk_scale" .f32 0x3E38AA3B#32 ((8⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "clamp" .f32 0x42FC0000#32 ⊤
  ∧ IdealRules.named_const.Statement Cert.KernelIdeal.κ "cut" .f32 0x43180000#32 ⊤

def algebraic_KernelIdeal_ReferenceIdeal_pre_finite_params [hKernelIdeal : Cert.KernelIdeal.Facts] [hReferenceIdeal : Cert.ReferenceIdeal.Facts] [hPre_finite_params : Cert.Pre_finite_params.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_params m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal_pre_finite_cond [hKernel2Ideal : Cert.Kernel2Ideal.Facts] [hReference2Ideal : Cert.Reference2Ideal.Facts] [hPre_finite_cond : Cert.Pre_finite_cond.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_cond m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_params : Cert.Pre_finite_params.Facts) (hPre_finite_cond : Cert.Pre_finite_cond.Facts),
    quiescent_Kernel (hKernel := hKernel)
    ∧ quiescent_KernelIdeal (hKernelIdeal := hKernelIdeal)
    ∧ quiescent_KernelIdeal_pre_finite_params (hKernelIdeal := hKernelIdeal) (hPre_finite_params := hPre_finite_params)
    ∧ quiescent_ReferenceIdeal (hReferenceIdeal := hReferenceIdeal)
    ∧ quiescent_ReferenceIdeal_pre_finite_params (hReferenceIdeal := hReferenceIdeal) (hPre_finite_params := hPre_finite_params)
    ∧ quiescent_Kernel2 (hKernel2 := hKernel2)
    ∧ quiescent_Kernel2Ideal (hKernel2Ideal := hKernel2Ideal)
    ∧ quiescent_Kernel2Ideal_pre_finite_cond (hKernel2Ideal := hKernel2Ideal) (hPre_finite_cond := hPre_finite_cond)
    ∧ quiescent_Reference2Ideal (hReference2Ideal := hReference2Ideal)
    ∧ quiescent_Reference2Ideal_pre_finite_cond (hReference2Ideal := hReference2Ideal) (hPre_finite_cond := hPre_finite_cond)
    ∧ preserves_Kernel_KernelIdeal
    ∧ algebraic_KernelIdeal_ReferenceIdeal_pre_finite_params (hKernelIdeal := hKernelIdeal) (hReferenceIdeal := hReferenceIdeal) (hPre_finite_params := hPre_finite_params)
    ∧ preserves_Kernel2_Kernel2Ideal
    ∧ algebraic_Kernel2Ideal_Reference2Ideal_pre_finite_cond (hKernel2Ideal := hKernel2Ideal) (hReference2Ideal := hReference2Ideal) (hPre_finite_cond := hPre_finite_cond)
-- ==== Pre_finite_cond.lean ====
abbrev S16x1024 : Shape := ⟨2, ![16, 1024]⟩
abbrev S1x1024x3072 : Shape := ⟨3, ![1, 1024, 3072]⟩
abbrev S1x3072 : Shape := ⟨2, ![1, 3072]⟩
abbrev S_ : Shape := ⟨0, ![]⟩

class Facts : Prop where
  bcast_S_S16x1024 : S_.BroadcastsInDim S16x1024 (![] : Fin 0 → Fin S16x1024.rank)
  bcast_S_S1x1024x3072 : S_.BroadcastsInDim S1x1024x3072 (![] : Fin 0 → Fin S1x1024x3072.rank)

variable [Facts]

def fn {F : FTy → Type} [FloatOps F] (main_arg0 : FVec F S16x1024 .f32) (main_arg1 : FVec F S1x1024x3072 .f32) (main_arg2 : FVec F S1x3072 .f32) : IVec S16x1024 1 × IVec S1x1024x3072 1 :=
  let main_v0 : FVec F S16x1024 .f32 := Host.absf main_arg0
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_v3 : FVec F S1x1024x3072 .f32 := Host.absf main_arg1
  let main_cst_0 : FVec F S_ .f32 := constant S_ .f32 0x7F800000#32
  let main_v4 : FVec F S1x1024x3072 .f32 := broadcastInDim S1x1024x3072 ![] bcast_S_S1x1024x3072 main_cst_0
  let main_v5 : IVec S1x1024x3072 1 := cmpf .olt main_v3 main_v4
  (main_v2, main_v5)
-- ==== Pre_finite_params.lean ====
abbrev S16x2048x1024 : Shape := ⟨3, ![16, 2048, 1024]⟩
abbrev S16x3072 : Shape := ⟨2, ![16, 3072]⟩
abbrev S1x1024 : Shape := ⟨2, ![1, 1024]⟩
abbrev S1x1024x6152 : Shape := ⟨3, ![1, 1024, 6152]⟩
abbrev S1x8 : Shape := ⟨2, ![1, 8]⟩
abbrev S1x512x1024 : Shape := ⟨3, ![1, 512, 1024]⟩
abbrev S1x2048 : Shape := ⟨2, ![1, 2048]⟩
abbrev S1x1024x1024 : Shape := ⟨3, ![1, 1024, 1024]⟩
abbrev S1024 : Shape := ⟨1, ![1024]⟩
abbrev S_ : Shape := ⟨0, ![]⟩

class Facts : Prop where
  bcast_S_S16x3072 : S_.BroadcastsInDim S16x3072 (![] : Fin 0 → Fin S16x3072.rank)
  bcast_S_S1x1024 : S_.BroadcastsInDim S1x1024 (![] : Fin 0 → Fin S1x1024.rank)
  bcast_S_S1x1024x6152 : S_.BroadcastsInDim S1x1024x6152 (![] : Fin 0 → Fin S1x1024x6152.rank)
  bcast_S_S1x8 : S_.BroadcastsInDim S1x8 (![] : Fin 0 → Fin S1x8.rank)

variable [Facts]

def fn {F : FTy → Type} [FloatOps F] (main_arg0 : FVec F S16x2048x1024 .f32) (main_arg1 : FVec F S16x3072 .f32) (main_arg2 : FVec F S1x1024 .f32) (main_arg3 : FVec F S1x1024x6152 .f32) (main_arg4 : FVec F S1x8 .f32) (main_arg5 : FVec F S1x512x1024 .f32) (main_arg6 : FVec F S1x512x1024 .f32) (main_arg7 : FVec F S1x2048 .f32) (main_arg8 : FVec F S1x1024x1024 .f32) (main_arg9 : FVec F S1024 .f32) : IVec S16x3072 1 × IVec S1x1024 1 × IVec S1x1024x6152 1 × IVec S1x8 1 :=
  let main_v0 : FVec F S16x3072 .f32 := Host.absf main_arg1
  let main_cst : FVec F S_ .f32 := constant S_ .f32 0x7F800000#32
  let main_v1 : FVec F S16x3072 .f32 := broadcastInDim S16x3072 ![] bcast_S_S16x3072 main_cst
  let main_v2 : IVec S16x3072 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x6152 .f32 := Host.absf main_arg3
  let main_cst_1 : FVec F S_ .f32 := constant S_ .f32 0x7F800000#32
  let main_v7 : FVec F S1x1024x6152 .f32 := broadcastInDim S1x1024x6152 ![] bcast_S_S1x1024x6152 main_cst_1
  let main_v8 : IVec S1x1024x6152 1 := cmpf .olt main_v6 main_v7
  let main_v9 : FVec F S1x8 .f32 := Host.absf main_arg4
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  (main_v2, main_v5, main_v8, main_v11)
-- ==== Kernel.lean ====
abbrev S16x2048x1024 : Shape := ⟨3, ![16, 2048, 1024]⟩
abbrev S16x3072 : Shape := ⟨2, ![16, 3072]⟩
abbrev S1x1024 : Shape := ⟨2, ![1, 1024]⟩
abbrev S1x1024x6152 : Shape := ⟨3, ![1, 1024, 6152]⟩
abbrev S1x8 : Shape := ⟨2, ![1, 8]⟩
abbrev S1x512x1024 : Shape := ⟨3, ![1, 512, 1024]⟩
abbrev S1x2048 : Shape := ⟨2, ![1, 2048]⟩
abbrev S1x1024x1024 : Shape := ⟨3, ![1, 1024, 1024]⟩
abbrev S1024 : Shape := ⟨1, ![1024]⟩
abbrev S1024x6152 : Shape := ⟨2, ![1024, 6152]⟩
abbrev S1024x4096 : Shape := ⟨2, ![1024, 4096]⟩
abbrev S1024x2048 : Shape := ⟨2, ![1024, 2048]⟩
abbrev S1024x8 : Shape := ⟨2, ![1024, 8]⟩
abbrev S1024x8x16 : Shape := ⟨3, ![1024, 8, 16]⟩
abbrev S1024x128 : Shape := ⟨2, ![1024, 128]⟩
abbrev S8 : Shape := ⟨1, ![8]⟩
abbrev S8x16 : Shape := ⟨2, ![8, 16]⟩
abbrev S128 : Shape := ⟨1, ![128]⟩
abbrev S1x128 : Shape := ⟨2, ![1, 128]⟩
abbrev S32768x1024 : Shape := ⟨2, ![32768, 1024]⟩
abbrev S16x3x1024 : Shape := ⟨3, ![16, 3, 1024]⟩
abbrev S32768x6144 : Shape := ⟨2, ![32768, 6144]⟩
abbrev S32768x128 : Shape := ⟨2, ![32768, 128]⟩
abbrev S512x1024 : Shape := ⟨2, ![512, 1024]⟩
abbrev S1x3x1024 : Shape := ⟨3, ![1, 3, 1024]⟩
abbrev S512x6144 : Shape := ⟨2, ![512, 6144]⟩
abbrev S512x128 : Shape := ⟨2, ![512, 128]⟩
abbrev S512 : Shape := ⟨1, ![512]⟩
abbrev S512x1 : Shape := ⟨2, ![512, 1]⟩
abbrev S1x1x1024 : Shape := ⟨3, ![1, 1, 1024]⟩
abbrev S1024x1024 : Shape := ⟨2, ![1024, 1024]⟩
abbrev S16x2048x6144 : Shape := ⟨3, ![16, 2048, 6144]⟩
abbrev S16x2048x128 : Shape := ⟨3, ![16, 2048, 128]⟩
abbrev S1x2048x128 : Shape := ⟨3, ![1, 2048, 128]⟩
abbrev S256x256 : Shape := ⟨2, ![256, 256]⟩
abbrev S256x128 : Shape := ⟨2, ![256, 128]⟩
abbrev S1x256x128 : Shape := ⟨3, ![1, 256, 128]⟩
abbrev S16x2048x512 : Shape := ⟨3, ![16, 2048, 512]⟩
abbrev S2x256x2048 : Shape := ⟨3, ![2, 256, 2048]⟩
abbrev S2x2048x128 : Shape := ⟨3, ![2, 2048, 128]⟩
abbrev S2x2048x2048 : Shape := ⟨3, ![2, 2048, 2048]⟩
abbrev S2048x128 : Shape := ⟨2, ![2048, 128]⟩
abbrev S128x2048 : Shape := ⟨2, ![128, 2048]⟩
abbrev S256x2048 : Shape := ⟨2, ![256, 2048]⟩
abbrev S1x256x2048 : Shape := ⟨3, ![1, 256, 2048]⟩
abbrev S2048x256 : Shape := ⟨2, ![2048, 256]⟩
abbrev S1x256x256 : Shape := ⟨3, ![1, 256, 256]⟩
abbrev S1792x256 : Shape := ⟨2, ![1792, 256]⟩
abbrev S1x2048x256 : Shape := ⟨3, ![1, 2048, 256]⟩
abbrev S1536x256 : Shape := ⟨2, ![1536, 256]⟩
abbrev S1x1792x256 : Shape := ⟨3, ![1, 1792, 256]⟩
abbrev S1792x128 : Shape := ⟨2, ![1792, 128]⟩
abbrev S1280x256 : Shape := ⟨2, ![1280, 256]⟩
abbrev S1x1536x256 : Shape := ⟨3, ![1, 1536, 256]⟩
abbrev S1536x128 : Shape := ⟨2, ![1536, 128]⟩
abbrev S1024x256 : Shape := ⟨2, ![1024, 256]⟩
abbrev S1x1280x256 : Shape := ⟨3, ![1, 1280, 256]⟩
abbrev S1280x128 : Shape := ⟨2, ![1280, 128]⟩
abbrev S768x256 : Shape := ⟨2, ![768, 256]⟩
abbrev S1x1024x256 : Shape := ⟨3, ![1, 1024, 256]⟩
abbrev S512x256 : Shape := ⟨2, ![512, 256]⟩
abbrev S1x768x256 : Shape := ⟨3, ![1, 768, 256]⟩
abbrev S768x128 : Shape := ⟨2, ![768, 128]⟩
abbrev S1x512x256 : Shape := ⟨3, ![1, 512, 256]⟩
abbrev S256 : Shape := ⟨1, ![256]⟩
abbrev S256x1 : Shape := ⟨2, ![256, 1]⟩
abbrev S2x128x2048 : Shape := ⟨3, ![2, 128, 2048]⟩
abbrev S1x128x2048 : Shape := ⟨3, ![1, 128, 2048]⟩
abbrev S1x128x256 : Shape := ⟨3, ![1, 128, 256]⟩
abbrev S128x256 : Shape := ⟨2, ![128, 256]⟩
abbrev S768x1 : Shape := ⟨2, ![768, 1]⟩
abbrev S1x256x1 : Shape := ⟨3, ![1, 256, 1]⟩
abbrev S1 : Shape := ⟨1, ![1]⟩
abbrev S1x1x1 : Shape := ⟨3, ![1, 1, 1]⟩
abbrev S1024x1 : Shape := ⟨2, ![1024, 1]⟩
abbrev S32768x512 : Shape := ⟨2, ![32768, 512]⟩
abbrev S2048 : Shape := ⟨1, ![2048]⟩
abbrev S512x512 : Shape := ⟨2, ![512, 512]⟩
abbrev S512x2048 : Shape := ⟨2, ![512, 2048]⟩

abbrev nBuf : Space → Nat
  | .hbm => 48
  | .vmem => 65
  | .smem => 0
  | _ => 0

abbrev bufTy : (tb : Table) → Fin (tcTables nBuf tb) → BufTy
  | .hbm, ⟨0, _⟩ => ⟨S16x2048x1024, .f32⟩
  | .hbm, ⟨1, _⟩ => ⟨S16x3072, .f32⟩
  | .hbm, ⟨2, _⟩ => ⟨S1x1024, .f32⟩
  | .hbm, ⟨3, _⟩ => ⟨S1x1024x6152, .f32⟩
  | .hbm, ⟨4, _⟩ => ⟨S1x8, .f32⟩
  | .hbm, ⟨5, _⟩ => ⟨S1x512x1024, .f32⟩
  | .hbm, ⟨6, _⟩ => ⟨S1x512x1024, .f32⟩
  | .hbm, ⟨7, _⟩ => ⟨S1x2048, .f32⟩
  | .hbm, ⟨8, _⟩ => ⟨S1x1024x1024, .f32⟩
  | .hbm, ⟨9, _⟩ => ⟨S1024, .f32⟩
  | .hbm, ⟨10, _⟩ => ⟨S1024x6152, .f32⟩
  | .hbm, ⟨11, _⟩ => ⟨S1024x4096, .f32⟩
  | .hbm, ⟨12, _⟩ => ⟨S1024x4096, .bf16⟩
  | .hbm, ⟨13, _⟩ => ⟨S1024x2048, .f32⟩
  | .hbm, ⟨14, _⟩ => ⟨S1024x2048, .bf16⟩
  | .hbm, ⟨15, _⟩ => ⟨S1024x8, .f32⟩
  | .hbm, ⟨16, _⟩ => ⟨S1024x8x16, .f32⟩
  | .hbm, ⟨17, _⟩ => ⟨S1024x128, .f32⟩
  | .hbm, ⟨18, _⟩ => ⟨S1024x128, .bf16⟩
  | .hbm, ⟨19, _⟩ => ⟨S8, .f32⟩
  | .hbm, ⟨20, _⟩ => ⟨S8x16, .f32⟩
  | .hbm, ⟨21, _⟩ => ⟨S128, .f32⟩
  | .hbm, ⟨22, _⟩ => ⟨S1x128, .f32⟩
  | .hbm, ⟨23, _⟩ => ⟨S32768x1024, .f32⟩
  | .hbm, ⟨24, _⟩ => ⟨S16x3x1024, .f32⟩
  | .hbm, ⟨25, _⟩ => ⟨S1024, .f32⟩
  | .hbm, ⟨26, _⟩ => ⟨S1x1024, .f32⟩
  | .hbm, ⟨27, _⟩ => ⟨S32768x6144, .bf16⟩
  | .hbm, ⟨28, _⟩ => ⟨S32768x128, .f32⟩
  | .hbm, ⟨29, _⟩ => ⟨S16x2048x6144, .bf16⟩
  | .hbm, ⟨30, _⟩ => ⟨S16x2048x128, .f32⟩
  | .hbm, ⟨31, _⟩ => ⟨S16x2048x128, .bf16⟩
  | .hbm, ⟨32, _⟩ => ⟨S16x2048x128, .bf16⟩
  | .hbm, ⟨33, _⟩ => ⟨S16x2048x512, .bf16⟩
  | .hbm, ⟨34, _⟩ => ⟨S16x2048x512, .bf16⟩
  | .hbm, ⟨35, _⟩ => ⟨S32768x512, .bf16⟩
  | .hbm, ⟨36, _⟩ => ⟨S32768x512, .bf16⟩
  | .hbm, ⟨37, _⟩ => ⟨S2048, .f32⟩
  | .hbm, ⟨38, _⟩ => ⟨S1x2048, .f32⟩
  | .hbm, ⟨39, _⟩ => ⟨S512x1024, .f32⟩
  | .hbm, ⟨40, _⟩ => ⟨S512x1024, .bf16⟩
  | .hbm, ⟨41, _⟩ => ⟨S512x1024, .f32⟩
  | .hbm, ⟨42, _⟩ => ⟨S512x1024, .bf16⟩
  | .hbm, ⟨43, _⟩ => ⟨S1024x1024, .f32⟩
  | .hbm, ⟨44, _⟩ => ⟨S1024x1024, .bf16⟩
  | .hbm, ⟨45, _⟩ => ⟨S1x1024, .f32⟩
  | .hbm, ⟨46, _⟩ => ⟨S32768x1024, .f32⟩
  | .hbm, ⟨47, _⟩ => ⟨S16x2048x1024, .f32⟩
  | .local _ .vmem, ⟨0, _⟩ => ⟨S512x1024, .f32⟩
  | .local _ .vmem, ⟨1, _⟩ => ⟨S512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1024x4096, .bf16⟩
  | .local _ .vmem, ⟨6, _⟩ => ⟨S1024x2048, .bf16⟩
  | .local _ .vmem, ⟨7, _⟩ => ⟨S1024x128, .bf16⟩
  | .local _ .vmem, ⟨8, _⟩ => ⟨S512x6144, .bf16⟩
  | .local _ .vmem, ⟨9, _⟩ => ⟨S512x6144, .bf16⟩
  | .local _ .vmem, ⟨10, _⟩ => ⟨S512x128, .f32⟩
  | .local _ .vmem, ⟨11, _⟩ => ⟨S512x128, .f32⟩
  | .local _ .vmem, ⟨12, _⟩ => ⟨S1x2048x128, .f32⟩
  | .local _ .vmem, ⟨13, _⟩ => ⟨S1x2048x128, .f32⟩
  | .local _ .vmem, ⟨14, _⟩ => ⟨S1x128, .f32⟩
  | .local _ .vmem, ⟨15, _⟩ => ⟨S1x2048x128, .bf16⟩
  | .local _ .vmem, ⟨16, _⟩ => ⟨S1x2048x128, .bf16⟩
  | .local _ .vmem, ⟨17, _⟩ => ⟨S1x2048x128, .bf16⟩
  | .local _ .vmem, ⟨18, _⟩ => ⟨S1x2048x128, .bf16⟩
  | .local _ .vmem, ⟨19, _⟩ => ⟨S1x2048x128, .bf16⟩
  | .local _ .vmem, ⟨20, _⟩ => ⟨S1x2048x128, .bf16⟩
  | .local _ .vmem, ⟨21, _⟩ => ⟨S1x2048x128, .bf16⟩
  | .local _ .vmem, ⟨22, _⟩ => ⟨S1x2048x128, .bf16⟩
  | .local _ .vmem, ⟨23, _⟩ => ⟨S1x2048x128, .bf16⟩
  | .local _ .vmem, ⟨24, _⟩ => ⟨S1x2048x128, .bf16⟩
  | .local _ .vmem, ⟨25, _⟩ => ⟨S1x2048x128, .bf16⟩
  | .local _ .vmem, ⟨26, _⟩ => ⟨S1x2048x128, .bf16⟩
  | .local _ .vmem, ⟨27, _⟩ => ⟨S1x2048x128, .bf16⟩
  | .local _ .vmem, ⟨28, _⟩ => ⟨S1x2048x128, .bf16⟩
  | .local _ .vmem, ⟨29, _⟩ => ⟨S1x2048x128, .bf16⟩
  | .local _ .vmem, ⟨30, _⟩ => ⟨S1x2048x128, .bf16⟩
  | .local _ .vmem, ⟨31, _⟩ => ⟨S1x2048x128, .bf16⟩
  | .local _ .vmem, ⟨32, _⟩ => ⟨S1x2048x128, .bf16⟩
  | .local _ .vmem, ⟨33, _⟩ => ⟨S2x256x2048, .bf16⟩
  | .local _ .vmem, ⟨34, _⟩ => ⟨S2x2048x128, .bf16⟩
  | .local _ .vmem, ⟨35, _⟩ => ⟨S2x2048x2048, .f32⟩
  | .local _ .vmem, ⟨36, _⟩ => ⟨S1x2048x128, .bf16⟩
  | .local _ .vmem, ⟨37, _⟩ => ⟨S1x2048x128, .bf16⟩
  | .local _ .vmem, ⟨38, _⟩ => ⟨S1x2048x128, .bf16⟩
  | .local _ .vmem, ⟨39, _⟩ => ⟨S1x2048x128, .bf16⟩
  | .local _ .vmem, ⟨40, _⟩ => ⟨S1x2048x128, .bf16⟩
  | .local _ .vmem, ⟨41, _⟩ => ⟨S1x2048x128, .bf16⟩
  | .local _ .vmem, ⟨42, _⟩ => ⟨S1x2048x128, .bf16⟩
  | .local _ .vmem, ⟨43, _⟩ => ⟨S1x2048x128, .bf16⟩
  | .local _ .vmem, ⟨44, _⟩ => ⟨S1x2048x128, .bf16⟩
  | .local _ .vmem, ⟨45, _⟩ => ⟨S1x2048x128, .bf16⟩
  | .local _ .vmem, ⟨46, _⟩ => ⟨S2x128x2048, .bf16⟩
  | .local _ .vmem, ⟨47, _⟩ => ⟨S256x256, .bf16⟩
  | .local _ .vmem, ⟨48, _⟩ => ⟨S512x512, .bf16⟩
  | .local _ .vmem, ⟨49, _⟩ => ⟨S512x512, .bf16⟩
  | .local _ .vmem, ⟨50, _⟩ => ⟨S512x512, .bf16⟩
  | .local _ .vmem, ⟨51, _⟩ => ⟨S512x512, .bf16⟩
  | .local _ .vmem, ⟨52, _⟩ => ⟨S512x2048, .bf16⟩
  | .local _ .vmem, ⟨53, _⟩ => ⟨S512x2048, .bf16⟩
  | .local _ .vmem, ⟨54, _⟩ => ⟨S512x1024, .f32⟩
  | .local _ .vmem, ⟨55, _⟩ => ⟨S512x1024, .f32⟩
  | .local _ .vmem, ⟨56, _⟩ => ⟨S1x3x1024, .f32⟩
  | .local _ .vmem, ⟨57, _⟩ => ⟨S1x3x1024, .f32⟩
  | .local _ .vmem, ⟨58, _⟩ => ⟨S1x2048, .f32⟩
  | .local _ .vmem, ⟨59, _⟩ => ⟨S512x1024, .bf16⟩
  | .local _ .vmem, ⟨60, _⟩ => ⟨S512x1024, .bf16⟩
  | .local _ .vmem, ⟨61, _⟩ => ⟨S1024x1024, .bf16⟩
  | .local _ .vmem, ⟨62, _⟩ => ⟨S1x1024, .f32⟩
  | .local _ .vmem, ⟨63, _⟩ => ⟨S512x1024, .f32⟩
  | .local _ .vmem, ⟨64, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc2_scratch0 : Ref sig .tc := ⟨.vmem, 33, rfl⟩
abbrev cc2_scratch1 : Ref sig .tc := ⟨.vmem, 34, rfl⟩
abbrev cc2_scratch2 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc3_stg4_0 : Ref sig .tc := ⟨.vmem, 44, rfl⟩
abbrev cc3_stg4_1 : Ref sig .tc := ⟨.vmem, 45, rfl⟩
abbrev cc3_scratch0 : Ref sig .tc := ⟨.vmem, 46, rfl⟩
abbrev cc3_scratch1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg2_1 : Ref sig .tc := ⟨.vmem, 53, rfl⟩
abbrev cc4_stg3_0 : Ref sig .tc := ⟨.vmem, 54, rfl⟩
abbrev cc4_stg3_1 : Ref sig .tc := ⟨.vmem, 55, rfl⟩
abbrev cc4_stg4_0 : Ref sig .tc := ⟨.vmem, 56, rfl⟩
abbrev cc4_stg4_1 : Ref sig .tc := ⟨.vmem, 57, rfl⟩
abbrev cc4_stg5_0 : Ref sig .tc := ⟨.vmem, 58, rfl⟩
abbrev cc4_stg6_0 : Ref sig .tc := ⟨.vmem, 59, rfl⟩
abbrev cc4_stg7_0 : Ref sig .tc := ⟨.vmem, 60, rfl⟩
abbrev cc4_stg8_0 : Ref sig .tc := ⟨.vmem, 61, rfl⟩
abbrev cc4_stg9_0 : Ref sig .tc := ⟨.vmem, 62, rfl⟩
abbrev cc4_stg10_0 : Ref sig .tc := ⟨.vmem, 63, rfl⟩
abbrev cc4_stg10_1 : Ref sig .tc := ⟨.vmem, 64, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28
abbrev cc2_sem5_0 : DmaSem sig := 29
abbrev cc2_sem5_1 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem3_1 : DmaSem sig := 40
abbrev cc3_sem4_0 : DmaSem sig := 41
abbrev cc3_sem4_1 : DmaSem sig := 42
abbrev cc4_sem0_0 : DmaSem sig := 43
abbrev cc4_sem0_1 : DmaSem sig := 44
abbrev cc4_sem1_0 : DmaSem sig := 45
abbrev cc4_sem1_1 : DmaSem sig := 46
abbrev cc4_sem2_0 : DmaSem sig := 47
abbrev cc4_sem2_1 : DmaSem sig := 48
abbrev cc4_sem3_0 : DmaSem sig := 49
abbrev cc4_sem3_1 : DmaSem sig := 50
abbrev cc4_sem4_0 : DmaSem sig := 51
abbrev cc4_sem4_1 : DmaSem sig := 52
abbrev cc4_sem5_0 : DmaSem sig := 53
abbrev cc4_sem6_0 : DmaSem sig := 54
abbrev cc4_sem7_0 : DmaSem sig := 55
abbrev cc4_sem8_0 : DmaSem sig := 56
abbrev cc4_sem9_0 : DmaSem sig := 57
abbrev cc4_sem10_0 : DmaSem sig := 58
abbrev cc4_sem10_1 : DmaSem sig := 59

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨3, ![16, 4, 1], ![false, false, false]⟩

def k2_cond2 (i : grid2.Coords) : BitVec 1 :=
  let arg2 : BitVec 32 := BitVec.ofNat 32 (i 2).val
  let c0_i32_1 : BitVec 32 := 0#32
  let v3 : BitVec 1 := Scalar.cmpi .eq arg2 c0_i32_1
  let v4 : BitVec 32 := Scalar.extui v3
  let c0_i32_2 : BitVec 32 := 0#32
  let v5 : BitVec 1 := Scalar.cmpi .ne v4 c0_i32_2
  v5

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, arg2.toNat, v0.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg1
  let c0_i32 : BitVec 32 := 0#32
  ![arg0.toNat, arg2.toNat, v0.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage2_0 : Fin 2 → Memref sig .tc .vmem S1x2048x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S1x2048x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1x2048x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev stage2_4 : Fin 2 → Memref sig .tc .vmem S1x2048x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false, true]

abbrev stage2_5 : Fin 2 → Memref sig .tc .vmem S1x2048x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false, false]

abbrev stage2_6 : Fin 2 → Memref sig .tc .vmem S1x2048x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true, true]

abbrev grid3 : Pipeline.Grid := ⟨3, ![16, 4, 1], ![false, false, false]⟩

def k3_cond2 (i : grid3.Coords) : BitVec 1 :=
  let arg2 : BitVec 32 := BitVec.ofNat 32 (i 2).val
  let c0_i32_3 : BitVec 32 := 0#32
  let v8 : BitVec 1 := Scalar.cmpi .eq arg2 c0_i32_3
  let v9 : BitVec 32 := Scalar.extui v8
  let c0_i32_4 : BitVec 32 := 0#32
  let v10 : BitVec 1 := Scalar.cmpi .ne v9 c0_i32_4
  v10

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc3_transform_4 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage3_0 : Fin 2 → Memref sig .tc .vmem S1x2048x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x2048x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, false]

abbrev stage3_2 : Fin 2 → Memref sig .tc .vmem S1x2048x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1x2048x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev stage3_4 : Fin 2 → Memref sig .tc .vmem S1x2048x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, true]

abbrev grid4 : Pipeline.Grid := ⟨1, ![64], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c2_i32 : BitVec 32 := 2#32
  let c0_i32 : BitVec 32 := 0#32
  ![arg0.toNat, c2_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S512x2048 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1x3x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x2048 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S512x1024 .bf16 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S512x1024 .bf16 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1024x1024 .bf16 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x1024 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 2 → Memref sig .tc .vmem S512x1024 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]
-- ==== KernelIdeal.lean ====
variable {F : FTy → Type} [FloatOps F] [Named F]
def κ : String → Option EReal := fun
  | "clamp" => some ⊤
  | "cut" => some ⊤
  | "log2e" => some (((Real.log 2)⁻¹ : ℝ) : EReal)
  | "mask" => some ⊥
  | "qk_scale" => some ((8⁻¹ * (Real.log 2)⁻¹ : ℝ) : EReal)
  | _ => none
-- ==== ReferenceIdeal.lean ====
abbrev S16x2048x1024 : Shape := ⟨3, ![16, 2048, 1024]⟩
abbrev S16x3072 : Shape := ⟨2, ![16, 3072]⟩
abbrev S1x1024 : Shape := ⟨2, ![1, 1024]⟩
abbrev S1x1024x6152 : Shape := ⟨3, ![1, 1024, 6152]⟩
abbrev S1x8 : Shape := ⟨2, ![1, 8]⟩
abbrev S1x512x1024 : Shape := ⟨3, ![1, 512, 1024]⟩
abbrev S1x2048 : Shape := ⟨2, ![1, 2048]⟩
abbrev S1x1024x1024 : Shape := ⟨3, ![1, 1024, 1024]⟩
abbrev S1024 : Shape := ⟨1, ![1024]⟩
abbrev S16x1024 : Shape := ⟨2, ![16, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x1x1024 : Shape := ⟨3, ![16, 1, 1024]⟩
abbrev S1024x6152 : Shape := ⟨2, ![1024, 6152]⟩
abbrev S16x2048x6152 : Shape := ⟨3, ![16, 2048, 6152]⟩
abbrev S16x2048x512 : Shape := ⟨3, ![16, 2048, 512]⟩
abbrev S16x2048x8x64 : Shape := ⟨4, ![16, 2048, 8, 64]⟩
abbrev S16x8x2048x64 : Shape := ⟨4, ![16, 8, 2048, 64]⟩
abbrev S16x2048x8 : Shape := ⟨3, ![16, 2048, 8]⟩
abbrev S8 : Shape := ⟨1, ![8]⟩
abbrev S1x1x8 : Shape := ⟨3, ![1, 1, 8]⟩
abbrev S16x8x2048 : Shape := ⟨3, ![16, 8, 2048]⟩
abbrev S16x8x2048x2048 : Shape := ⟨4, ![16, 8, 2048, 2048]⟩
abbrev S16x8x2048x1 : Shape := ⟨4, ![16, 8, 2048, 1]⟩
abbrev S16x8x1x2048 : Shape := ⟨4, ![16, 8, 1, 2048]⟩
abbrev S2048 : Shape := ⟨1, ![2048]⟩
abbrev S2048x1 : Shape := ⟨2, ![2048, 1]⟩
abbrev S2048x2048 : Shape := ⟨2, ![2048, 2048]⟩
abbrev S512x1024 : Shape := ⟨2, ![512, 1024]⟩
abbrev S16x2048x2048 : Shape := ⟨3, ![16, 2048, 2048]⟩
abbrev S1x1x2048 : Shape := ⟨3, ![1, 1, 2048]⟩
abbrev S16x2048x2x1024 : Shape := ⟨4, ![16, 2048, 2, 1024]⟩
abbrev S16x2048x1x1024 : Shape := ⟨4, ![16, 2048, 1, 1024]⟩
abbrev S1024x1024 : Shape := ⟨2, ![1024, 1024]⟩

abbrev nBuf : Space → Nat
  | .hbm => 257
  | .vmem => 0
  | .smem => 0
  | _ => 0

abbrev hbmTy0_0 (i : Nat) : BufTy := match i % 128 with
  | 0 => ⟨S16x2048x1024, .f32⟩
  | 1 => ⟨S16x3072, .f32⟩
  | 2 => ⟨S1x1024, .f32⟩
  | 3 => ⟨S1x1024x6152, .f32⟩
  | 4 => ⟨S1x8, .f32⟩
  | 5 => ⟨S1x512x1024, .f32⟩
  | 6 => ⟨S1x512x1024, .f32⟩
  | 7 => ⟨S1x2048, .f32⟩
  | 8 => ⟨S1x1024x1024, .f32⟩
  | 9 => ⟨S1024, .f32⟩
  | 10 => ⟨S16x1024, .f32⟩
  | 11 => ⟨S16x1024, .f32⟩
  | 12 => ⟨S16x1024, .f32⟩
  | 13 => ⟨S1024, .f32⟩
  | 14 => ⟨S16x2048x1024, .f32⟩
  | 15 => ⟨S_, .f32⟩
  | 16 => ⟨S16x2048, .f32⟩
  | 17 => ⟨S16x2048x1, .f32⟩
  | 18 => ⟨S_, .f32⟩
  | 19 => ⟨S16x2048x1, .f32⟩
  | 20 => ⟨S16x2048x1, .f32⟩
  | 21 => ⟨S_, .f32⟩
  | 22 => ⟨S16x2048x1, .f32⟩
  | 23 => ⟨S16x2048x1, .f32⟩
  | 24 => ⟨S16x2048x1, .f32⟩
  | 25 => ⟨S16x2048x1024, .f32⟩
  | 26 => ⟨S16x2048x1024, .f32⟩
  | 27 => ⟨S1x1x1024, .f32⟩
  | 28 => ⟨S16x2048x1024, .f32⟩
  | 29 => ⟨S16x2048x1024, .f32⟩
  | 30 => ⟨S16x1x1024, .f32⟩
  | 31 => ⟨S_, .f32⟩
  | 32 => ⟨S16x1x1024, .f32⟩
  | 33 => ⟨S16x1x1024, .f32⟩
  | 34 => ⟨S16x2048x1024, .f32⟩
  | 35 => ⟨S16x2048x1024, .f32⟩
  | 36 => ⟨S16x1x1024, .f32⟩
  | 37 => ⟨S16x2048x1024, .f32⟩
  | 38 => ⟨S16x2048x1024, .f32⟩
  | 39 => ⟨S1024x6152, .f32⟩
  | 40 => ⟨S16x2048x6152, .f32⟩
  | 41 => ⟨S16x2048x512, .f32⟩
  | 42 => ⟨S16x2048x8x64, .f32⟩
  | 43 => ⟨S16x8x2048x64, .f32⟩
  | 44 => ⟨S16x2048x512, .f32⟩
  | 45 => ⟨S16x2048x8x64, .f32⟩
  | 46 => ⟨S16x8x2048x64, .f32⟩
  | 47 => ⟨S16x2048x512, .f32⟩
  | 48 => ⟨S16x2048x8x64, .f32⟩
  | 49 => ⟨S16x8x2048x64, .f32⟩
  | 50 => ⟨S16x2048x512, .f32⟩
  | 51 => ⟨S16x2048x8, .f32⟩
  | 52 => ⟨S8, .f32⟩
  | 53 => ⟨S1x1x8, .f32⟩
  | 54 => ⟨S16x2048x8, .f32⟩
  | 55 => ⟨S16x2048x8, .f32⟩
  | 56 => ⟨S16x2048x8, .f32⟩
  | 57 => ⟨S_, .f32⟩
  | 58 => ⟨S16x2048x8, .f32⟩
  | 59 => ⟨S16x2048x8, .f32⟩
  | 60 => ⟨S16x2048x8, .f32⟩
  | 61 => ⟨S16x2048x8, .f32⟩
  | 62 => ⟨S16x2048x8, .i1⟩
  | 63 => ⟨S16x2048x8, .f32⟩
  | 64 => ⟨S16x2048x8, .f32⟩
  | 65 => ⟨S16x2048x8, .f32⟩
  | 66 => ⟨S16x2048x8, .f32⟩
  | 67 => ⟨S16x2048x8, .f32⟩
  | 68 => ⟨S16x2048x8, .f32⟩
  | 69 => ⟨S16x2048x8, .f32⟩
  | 70 => ⟨S16x2048x8, .f32⟩
  | 71 => ⟨S16x2048x8, .f32⟩
  | 72 => ⟨S_, .f32⟩
  | 73 => ⟨S_, .f32⟩
  | 74 => ⟨S16x2048x8, .f32⟩
  | 75 => ⟨S16x8x2048, .f32⟩
  | 76 => ⟨S16x8x2048x2048, .f32⟩
  | 77 => ⟨S_, .f32⟩
  | 78 => ⟨S16x8x2048x2048, .f32⟩
  | 79 => ⟨S16x8x2048x2048, .f32⟩
  | 80 => ⟨S16x8x2048x1, .f32⟩
  | 81 => ⟨S16x8x2048x2048, .f32⟩
  | 82 => ⟨S16x8x2048x2048, .f32⟩
  | 83 => ⟨S16x8x1x2048, .f32⟩
  | 84 => ⟨S16x8x2048x2048, .f32⟩
  | 85 => ⟨S16x8x2048x2048, .f32⟩
  | 86 => ⟨S2048, .i32⟩
  | 87 => ⟨S2048x1, .i32⟩
  | 88 => ⟨S2048, .i32⟩
  | 89 => ⟨S1x2048, .i32⟩
  | 90 => ⟨S2048x2048, .i32⟩
  | 91 => ⟨S2048x2048, .i32⟩
  | 92 => ⟨S2048x2048, .i1⟩
  | 93 => ⟨S_, .f32⟩
  | 94 => ⟨S_, .f32⟩
  | 95 => ⟨S16x8x2048x2048, .i1⟩
  | 96 => ⟨S16x8x2048x2048, .f32⟩
  | 97 => ⟨S16x8x2048x2048, .f32⟩
  | 98 => ⟨S_, .f32⟩
  | 99 => ⟨S16x8x2048, .f32⟩
  | 100 => ⟨S_, .f32⟩
  | 101 => ⟨S16x8x2048, .f32⟩
  | 102 => ⟨S16x8x2048, .f32⟩
  | 103 => ⟨S16x8x2048x1, .f32⟩
  | 104 => ⟨S16x8x2048x2048, .f32⟩
  | 105 => ⟨S16x8x2048x2048, .f32⟩
  | 106 => ⟨S16x8x2048x2048, .f32⟩
  | 107 => ⟨S_, .f32⟩
  | 108 => ⟨S16x8x2048, .f32⟩
  | 109 => ⟨S16x8x2048x1, .f32⟩
  | 110 => ⟨S16x8x2048x2048, .f32⟩
  | 111 => ⟨S16x8x2048x2048, .f32⟩
  | 112 => ⟨S16x8x2048x64, .f32⟩
  | 113 => ⟨S16x2048x8x64, .f32⟩
  | 114 => ⟨S16x2048x512, .f32⟩
  | 115 => ⟨S16x2048x512, .f32⟩
  | 116 => ⟨S16x2048x512, .f32⟩
  | 117 => ⟨S_, .f32⟩
  | 118 => ⟨S16x2048x512, .f32⟩
  | 119 => ⟨S16x2048x512, .f32⟩
  | 120 => ⟨S_, .f32⟩
  | 121 => ⟨S16x2048x512, .f32⟩
  | 122 => ⟨S16x2048x512, .f32⟩
  | 123 => ⟨S16x2048x512, .f32⟩
  | 124 => ⟨S16x2048x512, .f32⟩
  | 125 => ⟨S512x1024, .f32⟩
  | 126 => ⟨S16x2048x1024, .f32⟩
  | 127 => ⟨S16x2048x512, .f32⟩
  | _ => ⟨S16x2048x1024, .f32⟩

abbrev hbmTy0_1 (i : Nat) : BufTy := match i % 128 with
  | 0 => ⟨S16x2048x8x64, .f32⟩
  | 1 => ⟨S16x8x2048x64, .f32⟩
  | 2 => ⟨S16x2048x512, .f32⟩
  | 3 => ⟨S16x2048x8x64, .f32⟩
  | 4 => ⟨S16x8x2048x64, .f32⟩
  | 5 => ⟨S16x2048x512, .f32⟩
  | 6 => ⟨S16x2048x8x64, .f32⟩
  | 7 => ⟨S16x8x2048x64, .f32⟩
  | 8 => ⟨S16x8x2048x2048, .f32⟩
  | 9 => ⟨S_, .f32⟩
  | 10 => ⟨S16x8x2048x2048, .f32⟩
  | 11 => ⟨S16x8x2048x2048, .f32⟩
  | 12 => ⟨S2048, .i32⟩
  | 13 => ⟨S1x2048, .i32⟩
  | 14 => ⟨S2048, .i32⟩
  | 15 => ⟨S2048x1, .i32⟩
  | 16 => ⟨S2048x2048, .i32⟩
  | 17 => ⟨S2048x2048, .i32⟩
  | 18 => ⟨S2048x2048, .i1⟩
  | 19 => ⟨S16x8x2048x2048, .f32⟩
  | 20 => ⟨S16x8x2048x2048, .f32⟩
  | 21 => ⟨S_, .f32⟩
  | 22 => ⟨S16x8x2048x2048, .f32⟩
  | 23 => ⟨S16x8x2048x2048, .f32⟩
  | 24 => ⟨S16x8x2048x2048, .f32⟩
  | 25 => ⟨S16x8x2048x2048, .f32⟩
  | 26 => ⟨S16x8x2048x2048, .i1⟩
  | 27 => ⟨S16x8x2048x2048, .f32⟩
  | 28 => ⟨S16x8x2048x2048, .f32⟩
  | 29 => ⟨S16x8x2048x2048, .f32⟩
  | 30 => ⟨S16x8x2048x2048, .f32⟩
  | 31 => ⟨S16x8x2048x2048, .f32⟩
  | 32 => ⟨S16x8x2048x2048, .f32⟩
  | 33 => ⟨S16x8x2048x2048, .f32⟩
  | 34 => ⟨S16x8x2048x2048, .f32⟩
  | 35 => ⟨S16x8x2048x2048, .f32⟩
  | 36 => ⟨S_, .f32⟩
  | 37 => ⟨S_, .f32⟩
  | 38 => ⟨S16x8x2048x2048, .i1⟩
  | 39 => ⟨S16x8x2048x2048, .f32⟩
  | 40 => ⟨S16x8x2048x2048, .f32⟩
  | 41 => ⟨S_, .f32⟩
  | 42 => ⟨S_, .f32⟩
  | 43 => ⟨S2048x2048, .f32⟩
  | 44 => ⟨S2048x2048, .f32⟩
  | 45 => ⟨S2048x2048, .f32⟩
  | 46 => ⟨S16x8x2048x2048, .f32⟩
  | 47 => ⟨S16x8x2048x2048, .f32⟩
  | 48 => ⟨S_, .f32⟩
  | 49 => ⟨S16x8x2048x2048, .f32⟩
  | 50 => ⟨S16x8x2048x2048, .f32⟩
  | 51 => ⟨S16x8x2048x2048, .f32⟩
  | 52 => ⟨S16x8x2048x2048, .f32⟩
  | 53 => ⟨S16x8x2048x2048, .i1⟩
  | 54 => ⟨S16x8x2048x2048, .f32⟩
  | 55 => ⟨S16x8x2048x2048, .f32⟩
  | 56 => ⟨S16x8x2048x2048, .f32⟩
  | 57 => ⟨S16x8x2048x2048, .f32⟩
  | 58 => ⟨S16x8x2048x2048, .f32⟩
  | 59 => ⟨S16x8x2048x2048, .f32⟩
  | 60 => ⟨S16x8x2048x2048, .f32⟩
  | 61 => ⟨S16x8x2048x2048, .f32⟩
  | 62 => ⟨S16x8x2048x2048, .f32⟩
  | 63 => ⟨S16x8x2048x2048, .f32⟩
  | 64 => ⟨S16x8x2048x2048, .f32⟩
  | 65 => ⟨S_, .f32⟩
  | 66 => ⟨S_, .f32⟩
  | 67 => ⟨S16x8x2048x2048, .i1⟩
  | 68 => ⟨S16x8x2048x2048, .f32⟩
  | 69 => ⟨S16x8x2048x2048, .f32⟩
  | 70 => ⟨S16x8x2048x64, .f32⟩
  | 71 => ⟨S16x2048x8x64, .f32⟩
  | 72 => ⟨S16x2048x512, .f32⟩
  | 73 => ⟨S16x2048x512, .f32⟩
  | 74 => ⟨S16x2048x512, .f32⟩
  | 75 => ⟨S16x2048x512, .f32⟩
  | 76 => ⟨S_, .f32⟩
  | 77 => ⟨S16x2048x512, .f32⟩
  | 78 => ⟨S16x2048x512, .f32⟩
  | 79 => ⟨S_, .f32⟩
  | 80 => ⟨S16x2048x512, .f32⟩
  | 81 => ⟨S16x2048x512, .f32⟩
  | 82 => ⟨S16x2048x512, .f32⟩
  | 83 => ⟨S16x2048x512, .f32⟩
  | 84 => ⟨S512x1024, .f32⟩
  | 85 => ⟨S16x2048x1024, .f32⟩
  | 86 => ⟨S16x2048x2048, .f32⟩
  | 87 => ⟨S2048, .f32⟩
  | 88 => ⟨S1x1x2048, .f32⟩
  | 89 => ⟨S16x2048x2048, .f32⟩
  | 90 => ⟨S16x2048x2048, .f32⟩
  | 91 => ⟨S16x2048x2048, .f32⟩
  | 92 => ⟨S16x2048x2048, .f32⟩
  | 93 => ⟨S_, .f32⟩
  | 94 => ⟨S16x2048x2048, .f32⟩
  | 95 => ⟨S16x2048x2048, .f32⟩
  | 96 => ⟨S_, .f32⟩
  | 97 => ⟨S16x2048x2048, .f32⟩
  | 98 => ⟨S16x2048x2048, .f32⟩
  | 99 => ⟨S16x2048x2x1024, .f32⟩
  | 100 => ⟨S16x2048x1x1024, .f32⟩
  | 101 => ⟨S16x2048x1024, .f32⟩
  | 102 => ⟨S16x2048x1024, .f32⟩
  | 103 => ⟨S16x2048x1x1024, .f32⟩
  | 104 => ⟨S16x2048x1024, .f32⟩
  | 105 => ⟨S16x2048x1024, .f32⟩
  | 106 => ⟨S16x2048x1024, .f32⟩
  | 107 => ⟨S16x1x1024, .f32⟩
  | 108 => ⟨S1024x1024, .f32⟩
  | 109 => ⟨S16x2048x1024, .f32⟩
  | 110 => ⟨S16x2048x1024, .f32⟩
  | 111 => ⟨S16x2048x1024, .f32⟩
  | 112 => ⟨S16x2048x1024, .f32⟩
  | 113 => ⟨S16x2048x1024, .f32⟩
  | 114 => ⟨S_, .f32⟩
  | 115 => ⟨S16x2048, .f32⟩
  | 116 => ⟨S16x2048x1, .f32⟩
  | 117 => ⟨S_, .f32⟩
  | 118 => ⟨S16x2048x1, .f32⟩
  | 119 => ⟨S16x2048x1, .f32⟩
  | 120 => ⟨S_, .f32⟩
  | 121 => ⟨S16x2048x1, .f32⟩
  | 122 => ⟨S16x2048x1, .f32⟩
  | 123 => ⟨S16x2048x1, .f32⟩
  | 124 => ⟨S16x2048x1024, .f32⟩
  | 125 => ⟨S16x2048x1024, .f32⟩
  | 126 => ⟨S1x1x1024, .f32⟩
  | 127 => ⟨S16x2048x1024, .f32⟩
  | _ => ⟨S16x2048x1024, .f32⟩

abbrev hbmTy0_2 (i : Nat) : BufTy := match i % 128 with
  | 0 => ⟨S16x2048x1024, .f32⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call0_v0 : Ref sig .tc := ⟨.hbm, 56, rfl⟩
abbrev main_call0_call0_cst : Ref sig .tc := ⟨.hbm, 57, rfl⟩
abbrev main_call0_call0_v0 : Ref sig .tc := ⟨.hbm, 58, rfl⟩
abbrev main_call0_call0_v1 : Ref sig .tc := ⟨.hbm, 59, rfl⟩
abbrev main_call0_call0_v2 : Ref sig .tc := ⟨.hbm, 60, rfl⟩
abbrev main_call0_call0_v3 : Ref sig .tc := ⟨.hbm, 61, rfl⟩
abbrev main_call0_call0_v4 : Ref sig .tc := ⟨.hbm, 62, rfl⟩
abbrev main_call0_call0_v5 : Ref sig .tc := ⟨.hbm, 63, rfl⟩
abbrev main_call0_call0_v6 : Ref sig .tc := ⟨.hbm, 64, rfl⟩
abbrev main_call0_call0_v7 : Ref sig .tc := ⟨.hbm, 65, rfl⟩
abbrev main_call0_call0_v8 : Ref sig .tc := ⟨.hbm, 66, rfl⟩
abbrev main_call0_call0_v9 : Ref sig .tc := ⟨.hbm, 67, rfl⟩
abbrev main_call0_call0_v10 : Ref sig .tc := ⟨.hbm, 68, rfl⟩
abbrev main_call0_call0_v11 : Ref sig .tc := ⟨.hbm, 69, rfl⟩
abbrev main_call0_v1 : Ref sig .tc := ⟨.hbm, 70, rfl⟩
abbrev main_v42 : Ref sig .tc := ⟨.hbm, 71, rfl⟩
abbrev main_call1_call0_cst : Ref sig .tc := ⟨.hbm, 72, rfl⟩
abbrev main_call1_call0_v0 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_3 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_4 : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_v61 : Ref sig .tc := ⟨.hbm, 97, rfl⟩
abbrev main_cst_5 : Ref sig .tc := ⟨.hbm, 98, rfl⟩
abbrev main_v62 : Ref sig .tc := ⟨.hbm, 99, rfl⟩
abbrev main_cst_6 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_7 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_call3_v0 : Ref sig .tc := ⟨.hbm, 115, rfl⟩
abbrev main_call3_v1 : Ref sig .tc := ⟨.hbm, 116, rfl⟩
abbrev main_call3_cst : Ref sig .tc := ⟨.hbm, 117, rfl⟩
abbrev main_call3_v2 : Ref sig .tc := ⟨.hbm, 118, rfl⟩
abbrev main_call3_v3 : Ref sig .tc := ⟨.hbm, 119, rfl⟩
abbrev main_call3_cst_0 : Ref sig .tc := ⟨.hbm, 120, rfl⟩
abbrev main_call3_v4 : Ref sig .tc := ⟨.hbm, 121, rfl⟩
abbrev main_call3_v5 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_cst_8 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_call4_v0 : Ref sig .tc := ⟨.hbm, 148, rfl⟩
abbrev main_call4_call0_cst : Ref sig .tc := ⟨.hbm, 149, rfl⟩
abbrev main_call4_call0_v0 : Ref sig .tc := ⟨.hbm, 150, rfl⟩
abbrev main_call4_call0_v1 : Ref sig .tc := ⟨.hbm, 151, rfl⟩
abbrev main_call4_call0_v2 : Ref sig .tc := ⟨.hbm, 152, rfl⟩
abbrev main_call4_call0_v3 : Ref sig .tc := ⟨.hbm, 153, rfl⟩
abbrev main_call4_call0_v4 : Ref sig .tc := ⟨.hbm, 154, rfl⟩
abbrev main_call4_call0_v5 : Ref sig .tc := ⟨.hbm, 155, rfl⟩
abbrev main_call4_call0_v6 : Ref sig .tc := ⟨.hbm, 156, rfl⟩
abbrev main_call4_call0_v7 : Ref sig .tc := ⟨.hbm, 157, rfl⟩
abbrev main_call4_call0_v8 : Ref sig .tc := ⟨.hbm, 158, rfl⟩
abbrev main_call4_call0_v9 : Ref sig .tc := ⟨.hbm, 159, rfl⟩
abbrev main_call4_call0_v10 : Ref sig .tc := ⟨.hbm, 160, rfl⟩
abbrev main_call4_call0_v11 : Ref sig .tc := ⟨.hbm, 161, rfl⟩
abbrev main_call4_v1 : Ref sig .tc := ⟨.hbm, 162, rfl⟩
abbrev main_v100 : Ref sig .tc := ⟨.hbm, 163, rfl⟩
abbrev main_cst_9 : Ref sig .tc := ⟨.hbm, 164, rfl⟩
abbrev main_call5_v0 : Ref sig .tc := ⟨.hbm, 165, rfl⟩
abbrev main_call5_v1 : Ref sig .tc := ⟨.hbm, 166, rfl⟩
abbrev main_call5_v2 : Ref sig .tc := ⟨.hbm, 167, rfl⟩
abbrev main_v101 : Ref sig .tc := ⟨.hbm, 168, rfl⟩
abbrev main_cst_10 : Ref sig .tc := ⟨.hbm, 169, rfl⟩
abbrev main_cst_11 : Ref sig .tc := ⟨.hbm, 170, rfl⟩
abbrev main_call6_v0 : Ref sig .tc := ⟨.hbm, 171, rfl⟩
abbrev main_call6_v1 : Ref sig .tc := ⟨.hbm, 172, rfl⟩
abbrev main_v102 : Ref sig .tc := ⟨.hbm, 173, rfl⟩
abbrev main_v103 : Ref sig .tc := ⟨.hbm, 174, rfl⟩
abbrev main_call7_v0 : Ref sig .tc := ⟨.hbm, 175, rfl⟩
abbrev main_call7_call0_cst : Ref sig .tc := ⟨.hbm, 176, rfl⟩
abbrev main_call7_call0_v0 : Ref sig .tc := ⟨.hbm, 177, rfl⟩
abbrev main_call7_call0_v1 : Ref sig .tc := ⟨.hbm, 178, rfl⟩
abbrev main_call7_call0_v2 : Ref sig .tc := ⟨.hbm, 179, rfl⟩
abbrev main_call7_call0_v3 : Ref sig .tc := ⟨.hbm, 180, rfl⟩
abbrev main_call7_call0_v4 : Ref sig .tc := ⟨.hbm, 181, rfl⟩
abbrev main_call7_call0_v5 : Ref sig .tc := ⟨.hbm, 182, rfl⟩
abbrev main_call7_call0_v6 : Ref sig .tc := ⟨.hbm, 183, rfl⟩
abbrev main_call7_call0_v7 : Ref sig .tc := ⟨.hbm, 184, rfl⟩
abbrev main_call7_call0_v8 : Ref sig .tc := ⟨.hbm, 185, rfl⟩
abbrev main_call7_call0_v9 : Ref sig .tc := ⟨.hbm, 186, rfl⟩
abbrev main_call7_call0_v10 : Ref sig .tc := ⟨.hbm, 187, rfl⟩
abbrev main_call7_call0_v11 : Ref sig .tc := ⟨.hbm, 188, rfl⟩
abbrev main_call7_v1 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_cst_12 : Ref sig .tc := ⟨.hbm, 193, rfl⟩
abbrev main_call8_v0 : Ref sig .tc := ⟨.hbm, 194, rfl⟩
abbrev main_call8_v1 : Ref sig .tc := ⟨.hbm, 195, rfl⟩
abbrev main_call8_v2 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_call9_v0 : Ref sig .tc := ⟨.hbm, 202, rfl⟩
abbrev main_call9_v1 : Ref sig .tc := ⟨.hbm, 203, rfl⟩
abbrev main_call9_cst : Ref sig .tc := ⟨.hbm, 204, rfl⟩
abbrev main_call9_v2 : Ref sig .tc := ⟨.hbm, 205, rfl⟩
abbrev main_call9_v3 : Ref sig .tc := ⟨.hbm, 206, rfl⟩
abbrev main_call9_cst_0 : Ref sig .tc := ⟨.hbm, 207, rfl⟩
abbrev main_call9_v4 : Ref sig .tc := ⟨.hbm, 208, rfl⟩
abbrev main_call9_v5 : Ref sig .tc := ⟨.hbm, 209, rfl⟩
abbrev main_v112 : Ref sig .tc := ⟨.hbm, 210, rfl⟩
abbrev main_v113 : Ref sig .tc := ⟨.hbm, 211, rfl⟩
abbrev main_v114 : Ref sig .tc := ⟨.hbm, 212, rfl⟩
abbrev main_v115 : Ref sig .tc := ⟨.hbm, 213, rfl⟩
abbrev main_v116 : Ref sig .tc := ⟨.hbm, 214, rfl⟩
abbrev main_v117 : Ref sig .tc := ⟨.hbm, 215, rfl⟩
abbrev main_v118 : Ref sig .tc := ⟨.hbm, 216, rfl⟩
abbrev main_v119 : Ref sig .tc := ⟨.hbm, 217, rfl⟩
abbrev main_v120 : Ref sig .tc := ⟨.hbm, 218, rfl⟩
abbrev main_v121 : Ref sig .tc := ⟨.hbm, 219, rfl⟩
abbrev main_v122 : Ref sig .tc := ⟨.hbm, 220, rfl⟩
abbrev main_cst_13 : Ref sig .tc := ⟨.hbm, 221, rfl⟩
abbrev main_v123 : Ref sig .tc := ⟨.hbm, 222, rfl⟩
abbrev main_v124 : Ref sig .tc := ⟨.hbm, 223, rfl⟩
abbrev main_cst_14 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_v129 : Ref sig .tc := ⟨.hbm, 229, rfl⟩
abbrev main_v130 : Ref sig .tc := ⟨.hbm, 230, rfl⟩
abbrev main_v131 : Ref sig .tc := ⟨.hbm, 231, rfl⟩
abbrev main_v132 : Ref sig .tc := ⟨.hbm, 232, rfl⟩
abbrev main_v133 : Ref sig .tc := ⟨.hbm, 233, rfl⟩
abbrev main_v134 : Ref sig .tc := ⟨.hbm, 234, rfl⟩
abbrev main_v135 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_v139 : Ref sig .tc := ⟨.hbm, 239, rfl⟩
abbrev main_v140 : Ref sig .tc := ⟨.hbm, 240, rfl⟩
abbrev main_v141 : Ref sig .tc := ⟨.hbm, 241, rfl⟩
abbrev main_cst_15 : Ref sig .tc := ⟨.hbm, 242, rfl⟩
abbrev main_v142 : Ref sig .tc := ⟨.hbm, 243, rfl⟩
abbrev main_v143 : Ref sig .tc := ⟨.hbm, 244, rfl⟩
abbrev main_cst_16 : Ref sig .tc := ⟨.hbm, 245, rfl⟩
abbrev main_v144 : Ref sig .tc := ⟨.hbm, 246, rfl⟩
abbrev main_v145 : Ref sig .tc := ⟨.hbm, 247, rfl⟩
abbrev main_cst_17 : Ref sig .tc := ⟨.hbm, 248, rfl⟩
abbrev main_v146 : Ref sig .tc := ⟨.hbm, 249, rfl⟩
abbrev main_v147 : Ref sig .tc := ⟨.hbm, 250, rfl⟩
abbrev main_v148 : Ref sig .tc := ⟨.hbm, 251, rfl⟩
abbrev main_v149 : Ref sig .tc := ⟨.hbm, 252, rfl⟩
abbrev main_v150 : Ref sig .tc := ⟨.hbm, 253, rfl⟩
abbrev main_v151 : Ref sig .tc := ⟨.hbm, 254, rfl⟩
abbrev main_v152 : Ref sig .tc := ⟨.hbm, 255, rfl⟩
abbrev main_v153 : Ref sig .tc := ⟨.hbm, 256, rfl⟩

abbrev nD : Nat := 1
abbrev τ : Topo := Topo.v7x

variable {F : FTy → Type} [FloatOps F]
-- ==== Kernel2.lean ====
abbrev S16x1024 : Shape := ⟨2, ![16, 1024]⟩
abbrev S1x1024x3072 : Shape := ⟨3, ![1, 1024, 3072]⟩
abbrev S1x3072 : Shape := ⟨2, ![1, 3072]⟩
abbrev S1024x3072 : Shape := ⟨2, ![1024, 3072]⟩
abbrev S3072 : Shape := ⟨1, ![3072]⟩
abbrev S3x16x1024 : Shape := ⟨3, ![3, 16, 1024]⟩
abbrev S1024x1024 : Shape := ⟨2, ![1024, 1024]⟩
abbrev S1x1024 : Shape := ⟨2, ![1, 1024]⟩
abbrev S1x16x1024 : Shape := ⟨3, ![1, 16, 1024]⟩
abbrev S16x3x1024 : Shape := ⟨3, ![16, 3, 1024]⟩
abbrev S16x3072 : Shape := ⟨2, ![16, 3072]⟩

abbrev nBuf : Space → Nat
  | .hbm => 9
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1x1024x3072, .f32⟩
  | .hbm, ⟨2, _⟩ => ⟨S1x3072, .f32⟩
  | .hbm, ⟨3, _⟩ => ⟨S1024x3072, .f32⟩
  | .hbm, ⟨4, _⟩ => ⟨S3072, .f32⟩
  | .hbm, ⟨5, _⟩ => ⟨S1x3072, .f32⟩
  | .hbm, ⟨6, _⟩ => ⟨S3x16x1024, .f32⟩
  | .hbm, ⟨7, _⟩ => ⟨S16x3x1024, .f32⟩
  | .hbm, ⟨8, _⟩ => ⟨S16x3072, .f32⟩
  | .local _ .vmem, ⟨0, _⟩ => ⟨S16x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S1x16x1024, .f32⟩
  | .local _ .vmem, ⟨6, _⟩ => ⟨S1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S16x1024 : Shape := ⟨2, ![16, 1024]⟩
abbrev S1x1024x3072 : Shape := ⟨3, ![1, 1024, 3072]⟩
abbrev S1x3072 : Shape := ⟨2, ![1, 3072]⟩
abbrev S1024x3072 : Shape := ⟨2, ![1024, 3072]⟩
abbrev S16x3072 : Shape := ⟨2, ![16, 3072]⟩
abbrev S3072 : Shape := ⟨1, ![3072]⟩

abbrev nBuf : Space → Nat
  | .hbm => 9
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1x1024x3072, .f32⟩
  | .hbm, ⟨2, _⟩ => ⟨S1x3072, .f32⟩
  | .hbm, ⟨3, _⟩ => ⟨S1024x3072, .f32⟩
  | .hbm, ⟨4, _⟩ => ⟨S16x3072, .f32⟩
  | .hbm, ⟨5, _⟩ => ⟨S3072, .f32⟩
  | .hbm, ⟨6, _⟩ => ⟨S1x3072, .f32⟩
  | .hbm, ⟨7, _⟩ => ⟨S16x3072, .f32⟩
  | .hbm, ⟨8, _⟩ => ⟨S16x3072, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Frames.lean ====
/-
  The frames of the three programs, the kernel's value run, and the ledger of named constants.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof

/-- The kernel as printed runs, keeps its arguments and leaves every counter at zero. -/
theorem frame_p : Cert.quiescent_Kernel := fun m ρ _ => Cert.Kernel.Gen.frame m ρ

/-- The idealized kernel runs, keeps its arguments and leaves every counter at zero. -/
theorem frame_pi : Cert.quiescent_KernelIdeal := fun m ρ _ => Cert.KernelIdeal.Gen.frame m ρ

/-- The reference runs, keeps its arguments and leaves every counter at zero. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each constant named in the kernel is, at `Ideal`, the value its name was given. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl⟩

end Cert.Proof

end
-- ==== Proof.Frames2.lean ====
/-
  The frames of the programs of the modulation vectors.
-/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import Idealize.ShloMosaic.Lib.Quiescent

@[expose] public section

noncomputable section

open Idealize.ShloMosaic Idealize.ShloMosaic.TcCoe Idealize.SL.Sem

namespace Cert.Proof

/-- The modulation kernel as printed runs, keeps its arguments and leaves every counter at zero. -/
theorem frame_p2 : Cert.quiescent_Kernel2 := fun m ρ _ => Cert.Kernel2.Gen.frame m ρ

/-- The idealized modulation kernel runs, keeps its arguments and leaves every counter at zero. -/
theorem frame_pi2 : Cert.quiescent_Kernel2Ideal := fun m ρ _ => Cert.Kernel2Ideal.Gen.frame m ρ

/-- The modulation reference runs, keeps its arguments and leaves every counter at zero. -/
theorem frame_ri2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The modulation kernel names no constant. -/
theorem preserves2 : Cert.preserves_Kernel2_Kernel2Ideal := trivial

end Cert.Proof

end
-- ==== Proof.Tiles.lean ====
/-
  Blocks of one matrix. `At v G r c` says that the vector `v` is the block of the matrix `G` whose first entry is `G r c`;
  `At1` says it of a vector with a leading axis of length one. Here is how each operation of the attention kernel acts on
  such blocks, at any extents.
-/
module

public import Idealize.ShloMosaic.Lib.MatmulPlain
public import Idealize.ShloMosaic.Lib.ValueIdx
public import Idealize.ShloMosaic.Lib.Pipeline.Value
public import Idealize.ShloMosaic.Lib.Pipeline.ReadBack
public import Idealize.ShloMosaic.Lib.Pipeline.ValueKit.Tiles
public import Idealize.ShloMosaic.Lib.IdealHost
public import Idealize.ShloMosaic.Lib.ValueLayout
public import Idealize.ShloMosaic.Lib.ValueLayoutCasts

@[expose] public section

set_option maxRecDepth 16384

noncomputable section

open Idealize.ShloMosaic Idealize.ShloMosaic.ValueIdx
open scoped BigOperators

namespace Cert.Tiles

/-- `v` is the block of `G` that begins at row `r` and column `c`. -/
def At {a b : ℕ} (v : (⟨2, ![a, b]⟩ : Shape).Idx → EReal) (G : ℕ → ℕ → EReal) (r c : ℕ) : Prop :=
  ∀ j, v j = G (r + (j 0).val) (c + (j 1).val)

/-- The same of a vector whose first axis has length one. -/
def At1 {a b : ℕ} (v : (⟨3, ![1, a, b]⟩ : Shape).Idx → EReal) (G : ℕ → ℕ → EReal) (r c : ℕ) : Prop :=
  ∀ j, v j = G (r + (j 1).val) (c + (j 2).val)

variable {a b m n K : ℕ} {G H : ℕ → ℕ → EReal} {r c k : ℕ}

/-- Every index of a matrix is a pair of coordinates. -/
theorem ex2 {a b : ℕ} (j : (⟨2, ![a, b]⟩ : Shape).Idx) : ∃ (p : Fin a) (q : Fin b), j = ix2 p q := ⟨_, _, eq_ix2 j⟩

/-- Every index of a three-axis array is a triple of coordinates. -/
theorem ex3 {a b d : ℕ} (j : (⟨3, ![a, b, d]⟩ : Shape).Idx) : ∃ (p : Fin a) (q : Fin b) (o : Fin d), j = ix3 p q o := ⟨_, _, _, eq_ix3 j⟩

/-- A block of `G` is a block of any matrix that agrees with `G` on it. -/
theorem At.congr {v : (⟨2, ![a, b]⟩ : Shape).Idx → EReal} (h : At v G r c)
    (e : ∀ i < a, ∀ l < b, G (r + i) (c + l) = H (r + i) (c + l)) : At v H r c :=
  fun j => (h j).trans (e _ (j 0).isLt _ (j 1).isLt)

/-- A slice is a block that begins later. -/
theorem at_slice {a' b' p q : ℕ} {x : (⟨2, ![a, b]⟩ : Shape).Idx → EReal}
    {h : (⟨2, ![a, b]⟩ : Shape).Slices ![p, q] ⟨2, ![a', b']⟩} (hx : At x G r c) :
    At (extractStridedSlice (⟨2, ![a', b']⟩ : Shape) ![p, q] x h) G (r + p) (c + q) := fun j => by
  refine (hx _).trans ?_
  show G (r + (p + (j 0).val)) (c + (q + (j 1).val)) = _
  rw [← Nat.add_assoc, ← Nat.add_assoc]

/-- A slice is a block that begins later, its place given. -/
theorem at_cut {a' b' p q r' c' : ℕ} {x : (⟨2, ![a, b]⟩ : Shape).Idx → EReal}
    {h : (⟨2, ![a, b]⟩ : Shape).Slices ![p, q] ⟨2, ![a', b']⟩} (hx : At x G r c)
    (er : r' = r + p := by rfl) (ec : c' = c + q := by rfl) :
    At (extractStridedSlice (⟨2, ![a', b']⟩ : Shape) ![p, q] x h) G r' c' := by
  subst er ec; exact at_slice hx

/-- A transposed block is a block of the transposed matrix. -/
theorem at_transpose {x : (⟨2, ![a, b]⟩ : Shape).Idx → EReal} {h : (⟨2, ![a, b]⟩ : Shape).Transposes [1, 0] ⟨2, ![b, a]⟩}
    (hx : At x G r c) : At (transpose (⟨2, ![b, a]⟩ : Shape) [1, 0] x h) (fun t l => G l t) c r := fun j => hx _

/-- Lanes that do not satisfy `p` replaced. -/
theorem at_lanesel {p : ℕ → Prop} [DecidablePred p] {w : EReal} {x y : (⟨2, ![a, b]⟩ : Shape).Idx → EReal} {q : IVec ⟨2, ![a, b]⟩ 1}
    (hq : ∀ j, q j = if p (j 1).val then 1#1 else 0#1) (hy : ∀ j, y j = w) (hx : At x G r 0) :
    At (select q x y) (fun t l => if p l then G t l else w) r 0 := fun j => by
  rw [select_apply, hq, hy, hx j]
  show Scalar.select _ _ _ = if p (0 + (j 1).val) then _ else _
  rw [Nat.zero_add]
  by_cases hp : p (j 1).val
  · rw [if_pos hp, if_pos hp]; rfl
  · rw [if_neg hp, if_neg hp]; rfl

/-- Dropping the leading axis of length one keeps the entries. -/
theorem at_drop {x : (⟨3, ![1, a, b]⟩ : Shape).Idx → EReal} {h : (⟨3, ![1, a, b]⟩ : Shape).ShapeCasts ⟨2, ![a, b]⟩}
    (hx : At1 x G r c) : At (shapeCast (⟨2, ![a, b]⟩ : Shape) x h) G r c := fun j => by
  obtain ⟨p, q, rfl⟩ := ex2 j
  exact (shapeCast_1ab_ab_apply x h p q).trans (hx _)

/-- Adding a leading axis of length one keeps the entries. -/
theorem at_lead {x : (⟨2, ![a, b]⟩ : Shape).Idx → EReal} {h : (⟨2, ![a, b]⟩ : Shape).ShapeCasts ⟨3, ![1, a, b]⟩}
    (hx : At x G r c) : At1 (shapeCast (⟨3, ![1, a, b]⟩ : Shape) x h) G r c := fun j => by
  obtain ⟨u, p, q, rfl⟩ := ex3 j
  exact (shapeCast_ab_1ab_apply x h u p q).trans (hx _)

/-- A change of float format keeps the entries. -/
theorem at_truncf {φ ψ : FTy} {x : FVec Ideal ⟨2, ![a, b]⟩ φ} {h : ψ.bits < φ.bits} (hx : At x G r c) :
    At (truncf ψ x h) G r c := hx

/-- A change of float format keeps the entries. -/
theorem at_extf {φ ψ : FTy} {x : FVec Ideal ⟨2, ![a, b]⟩ φ} {h : φ.bits < ψ.bits} (hx : At x G r c) :
    At (extf ψ x h) G r c := hx

/-- The sum of two blocks at the same place is a block of the sum. -/
theorem at_add {φ : FTy} {x y : FVec Ideal ⟨2, ![a, b]⟩ φ} (hx : At x G r c) (hy : At y H r c) :
    At (addf x y) (fun t l => G t l + H t l) r c := fun j => congr (congrArg _ (hx j)) (hy j)

/-- The quotient of two blocks at the same place is a block of the quotient. -/
theorem at_div {φ : FTy} {x y : FVec Ideal ⟨2, ![a, b]⟩ φ} (hx : At x G r c) (hy : At y H r c) :
    At (divf x y) (fun t l => Ideal.div (G t l) (H t l)) r c := fun j => congr (congrArg Ideal.div (hx j)) (hy j)

/-- A vector of zeros is a block of the zero matrix. -/
theorem at_zero {φ : FTy} (h : Ideal.ofBits φ 0 = 0) :
    At (broadcast (⟨2, ![a, b]⟩ : Shape) (Scalar.ofBits (F := Ideal) φ 0)) (fun _ _ => 0) r c := fun _ => h

/-- Two vectors side by side are the block whose left and right parts they are. -/
theorem at_beside {b' n : ℕ} {x : (⟨2, ![a, b]⟩ : Shape).Idx → EReal} {y : (⟨2, ![a, b']⟩ : Shape).Idx → EReal}
    {h : Shape.Concatenates [⟨2, ![a, b]⟩, ⟨2, ![a, b']⟩] ⟨2, ![a, n]⟩ 1} (hx : At x G r c) (hy : At y G r (c + b)) :
    At (concatenate (⟨2, ![a, n]⟩ : Shape) 1 [⟨⟨2, ![a, b]⟩, x⟩, ⟨⟨2, ![a, b']⟩, y⟩] h) G r c := fun j => by
  have hs : b + (b' + 0) = n := h.2.2
  have hj : (j 1).val < n := (j 1).isLt
  by_cases hlt : (j 1).val < b
  · rw [concatenate_pair_apply_left 1 x y h j rfl (ix2 (j 0) ⟨(j 1).val, hlt⟩)
      (fun d => by match d with | ⟨0, _⟩ => rfl | ⟨1, _⟩ => rfl)]
    exact hx _
  · rw [concatenate_pair_apply_right 1 x y h j rfl rfl (ix2 (j 0) ⟨(j 1).val - b, by omega⟩)
      (fun d hd => by match d with | ⟨0, _⟩ => rfl | ⟨1, _⟩ => exact absurd rfl hd)
      (show (j 1).val - b + b = (j 1).val by omega)]
    refine (hy _).trans ?_
    show G (r + (j 0).val) (c + b + ((j 1).val - b)) = _
    congr 1; omega

/-- Two vectors one above the other are the block whose upper and lower parts they are. -/
theorem at_above {a' n : ℕ} {x : (⟨2, ![a, b]⟩ : Shape).Idx → EReal} {y : (⟨2, ![a', b]⟩ : Shape).Idx → EReal}
    {h : Shape.Concatenates [⟨2, ![a, b]⟩, ⟨2, ![a', b]⟩] ⟨2, ![n, b]⟩ 0} (hx : At x G r c) (hy : At y G (r + a) c) :
    At (concatenate (⟨2, ![n, b]⟩ : Shape) 0 [⟨⟨2, ![a, b]⟩, x⟩, ⟨⟨2, ![a', b]⟩, y⟩] h) G r c := fun j => by
  have hs : a + (a' + 0) = n := h.2.2
  have hj : (j 0).val < n := (j 0).isLt
  by_cases hlt : (j 0).val < a
  · rw [concatenate_pair_apply_left 0 x y h j rfl (ix2 ⟨(j 0).val, hlt⟩ (j 1))
      (fun d => by match d with | ⟨0, _⟩ => rfl | ⟨1, _⟩ => rfl)]
    exact hx _
  · rw [concatenate_pair_apply_right 0 x y h j rfl rfl (ix2 ⟨(j 0).val - a, by omega⟩ (j 1))
      (fun d hd => by match d with | ⟨1, _⟩ => rfl | ⟨0, _⟩ => exact absurd rfl hd)
      (show (j 0).val - a + a = (j 0).val by omega)]
    refine (hy _).trans ?_
    show G (r + a + ((j 0).val - a)) (c + (j 1).val) = _
    congr 1; omega

/-- Two blocks of different matrices side by side. -/
theorem at_pair {b' n : ℕ} {X Y : ℕ → ℕ → EReal} {x : (⟨2, ![a, b]⟩ : Shape).Idx → EReal} {y : (⟨2, ![a, b']⟩ : Shape).Idx → EReal}
    {h : Shape.Concatenates [⟨2, ![a, b]⟩, ⟨2, ![a, b']⟩] ⟨2, ![a, n]⟩ 1} (hx : At x X r 0) (hy : At y Y r 0) :
    At (concatenate (⟨2, ![a, n]⟩ : Shape) 1 [⟨⟨2, ![a, b]⟩, x⟩, ⟨⟨2, ![a, b']⟩, y⟩] h) (fun t l => if l < b then X t l else Y t (l - b)) r 0 :=
  at_beside (hx.congr fun i _ l hl => by rw [Nat.zero_add, if_pos hl]) fun j => (hy j).trans (by
    rw [Nat.zero_add, Nat.zero_add, if_neg (by omega), Nat.add_sub_cancel_left])

/-- Two blocks of different matrices one above the other. -/
theorem at_stack2 {a' n : ℕ} {X Y : ℕ → ℕ → EReal} {x : (⟨2, ![a, b]⟩ : Shape).Idx → EReal} {y : (⟨2, ![a', b]⟩ : Shape).Idx → EReal}
    {h : Shape.Concatenates [⟨2, ![a, b]⟩, ⟨2, ![a', b]⟩] ⟨2, ![n, b]⟩ 0} (hx : At x X 0 c) (hy : At y Y 0 c) :
    At (concatenate (⟨2, ![n, b]⟩ : Shape) 0 [⟨⟨2, ![a, b]⟩, x⟩, ⟨⟨2, ![a', b]⟩, y⟩] h) (fun t l => if t < a then X t l else Y (t - a) l) 0 c :=
  at_above (hx.congr fun i hi l _ => by rw [Nat.zero_add, if_pos hi]) fun j => (hy j).trans (by
    rw [Nat.zero_add, Nat.zero_add, if_neg (by omega), Nat.add_sub_cancel_left])

/-- A list of vectors of 256 rows, each the block of `G` that begins 256 rows below the one before. -/
inductive Pieces (G : ℕ → ℕ → EReal) : List ((s : Shape) × (s.Idx → EReal)) → ℕ → Prop
  | nil {r : ℕ} : Pieces G [] r
  | cons {r : ℕ} {v : (⟨2, ![256, 128]⟩ : Shape).Idx → EReal} {xs : List ((s : Shape) × (s.Idx → EReal))}
      (hv : At v G r 0) (h : Pieces G xs (r + 256)) : Pieces G (⟨⟨2, ![256, 128]⟩, v⟩ :: xs) r

/-- Piece `k` of such a list begins at row `256 k`, and the pieces before it have `256 k` rows. -/
theorem Pieces.get {xs : List ((s : Shape) × (s.Idx → EReal))} (h : Pieces G xs r) (k : ℕ) (hk : k < xs.length) :
    (∃ v, xs[k] = ⟨⟨2, ![256, 128]⟩, v⟩ ∧ At v G (r + 256 * k) 0)
      ∧ (((xs.take k).map (·.1)).map fun s => if h : s.rank = 2 then s.size ((0 : Fin 2).cast h.symm) else 0).sum = 256 * k := by
  induction h generalizing k with
  | nil => exact absurd hk (Nat.not_lt_zero _)
  | @cons r v xs hv _ ih =>
    cases k with
    | zero => exact ⟨⟨v, rfl, hv⟩, rfl⟩
    | succ k =>
      obtain ⟨⟨w, e, hw⟩, hs⟩ := ih k (Nat.lt_of_succ_lt_succ hk)
      refine ⟨⟨w, e, ?_⟩, ?_⟩
      · rwa [show r + 256 * (k + 1) = r + 256 + 256 * k by omega]
      · rw [List.take_succ_cons, List.map_cons, List.map_cons, List.sum_cons, hs]
        show 256 + 256 * k = _
        omega

/-- The rows of such a list, all together. -/
theorem Pieces.rows {xs : List ((s : Shape) × (s.Idx → EReal))} (h : Pieces G xs r) :
    ((xs.map (·.1)).map fun s => if h : s.rank = 2 then s.size ((0 : Fin 2).cast h.symm) else 0).sum = 256 * xs.length := by
  induction h with
  | nil => rfl
  | cons _ _ ih =>
    rw [List.map_cons, List.map_cons, List.sum_cons, ih, List.length_cons]
    show 256 + _ = _
    omega

/-- Vectors of 256 rows one above the other are one block. -/
theorem at_stack {xs : List ((s : Shape) × (s.Idx → EReal))} {h : Shape.Concatenates (xs.map (·.1)) ⟨2, ![n, 128]⟩ 0}
    (hx : Pieces G xs r) : At (concatenate (⟨2, ![n, 128]⟩ : Shape) 0 xs h) G r 0 := fun j => by
  have hn : 256 * xs.length = n := hx.rows.symm.trans h.2.2
  have hj : (j 0).val < n := (j 0).isLt
  have hk : (j 0).val / 256 < xs.length := by omega
  obtain ⟨⟨v, e, hv⟩, hs⟩ := hx.get _ hk
  rw [concatenate_apply_piece 0 xs h j _ hk _ v e rfl _ hs (ix2 ⟨(j 0).val % 256, Nat.mod_lt _ (by norm_num)⟩ (j 1))
    (fun d hd => by match d with | ⟨1, _⟩ => rfl | ⟨0, _⟩ => exact absurd rfl hd)
    (show 256 * ((j 0).val / 256) + (j 0).val % 256 = _ by omega)]
  refine (hv _).trans ?_
  show G (r + 256 * ((j 0).val / 256) + (j 0).val % 256) (0 + (j 1).val) = _
  congr 1; omega

/-- The product of a block and a block that begins at the row where the first begins its columns. -/
theorem at_matmul {φ₁ φ₂ : FTy} {prec : Option ContractPrecision} {d : DotDims ⟨2, ![m, K]⟩ ⟨2, ![K, n]⟩ ⟨2, ![m, n]⟩}
    {x : FVec Ideal ⟨2, ![m, K]⟩ φ₁} {y : FVec Ideal ⟨2, ![K, n]⟩ φ₂} (hd : d = DotDims.plain m K n)
    (hx : At x G r k) (hy : At y H k c) :
    At (matmul d prec x y (constant (F := Ideal) ⟨2, ![m, n]⟩ .f32 0))
      (fun t s => ∑ j : Fin K, G t (k + j.val) * H (k + j.val) s) r c := fun j => by
  rw [hd, eq_ix2 j]
  refine (Ideal.matmul_plain_apply prec x y _ (j 0) (j 1)).trans ?_
  rw [show constant (F := Ideal) (⟨2, ![m, n]⟩ : Shape) .f32 0 (ix2 (j 0) (j 1)) = 0 from Ideal.ofBits_zero_f32, zero_add]
  exact Finset.sum_congr rfl fun l _ => congr (congrArg _ (hx _)) (hy _)

/-- The matrix with the entries above the diagonal masked out. -/
def masked (Z : ℕ → ℕ → EReal) (t s : ℕ) : EReal := if s ≤ t then Z t s else ⊥

/-- The square tile on the diagonal, its entries above the diagonal replaced. -/
theorem at_mask {n' : ℕ} {z : (⟨2, ![n', 256]⟩ : Shape).Idx → EReal} {q : IVec ⟨2, ![256, 256]⟩ 1}
    {w : (⟨2, ![256, 256]⟩ : Shape).Idx → EReal} (hq : ∀ j, q j = if (j 1).val ≤ (j 0).val then 1#1 else 0#1) (hw : ∀ j, w j = ⊥)
    {h : (⟨2, ![n', 256]⟩ : Shape).Slices ![0, 0] ⟨2, ![256, 256]⟩} (hz : At z G c c) :
    At (select q (extractStridedSlice (⟨2, ![256, 256]⟩ : Shape) ![0, 0] z h) w) (masked G) c c := fun j => by
  rw [select_apply, hq, hw, (at_slice (h := h) hz) j]
  unfold masked
  by_cases hj : (j 1).val ≤ (j 0).val
  · rw [if_pos hj, if_pos (show c + (j 1).val ≤ c + (j 0).val by omega)]; rfl
  · rw [if_neg hj, if_neg (show ¬ c + (j 1).val ≤ c + (j 0).val by omega)]; rfl

/-- A column tile that begins on the diagonal: its first 256 rows masked, the rows below whole. -/
theorem at_tile {n' m' : ℕ} {z : (⟨2, ![n', 256]⟩ : Shape).Idx → EReal} {q : IVec ⟨2, ![256, 256]⟩ 1}
    {w : (⟨2, ![256, 256]⟩ : Shape).Idx → EReal} (hq : ∀ j, q j = if (j 1).val ≤ (j 0).val then 1#1 else 0#1) (hw : ∀ j, w j = ⊥)
    {h : (⟨2, ![n', 256]⟩ : Shape).Slices ![0, 0] ⟨2, ![256, 256]⟩} {h' : (⟨2, ![n', 256]⟩ : Shape).Slices ![256, 0] ⟨2, ![m', 256]⟩}
    {h'' : Shape.Concatenates [⟨2, ![256, 256]⟩, ⟨2, ![m', 256]⟩] ⟨2, ![n', 256]⟩ 0} (hz : At z G c c) :
    At (concatenate (⟨2, ![n', 256]⟩ : Shape) 0
      [⟨⟨2, ![256, 256]⟩, select q (extractStridedSlice (⟨2, ![256, 256]⟩ : Shape) ![0, 0] z h) w⟩,
       ⟨⟨2, ![m', 256]⟩, extractStridedSlice (⟨2, ![m', 256]⟩ : Shape) ![256, 0] z h'⟩] h'') (masked G) c c :=
  at_above (at_mask hq hw hz) ((at_slice hz).congr fun i _ l hl => by
    unfold masked
    rw [if_pos (show c + 0 + l ≤ c + 256 + i by omega)])

/-- The larger of the two halves of the columns that begin at `c`. -/
def pairMax (G : ℕ → ℕ → EReal) (c t l : ℕ) : EReal := max (G t (c + l)) (G t (c + 128 + l))

/-- Over column tiles `0 … c`, the larger of the entries whose column has the remainder `l` modulo 128. -/
def runMax (G : ℕ → ℕ → EReal) : ℕ → ℕ → ℕ → EReal
  | 0 => pairMax G 0
  | c + 1 => fun t l => max (runMax G c t l) (pairMax G (256 * (c + 1)) t l)

/-- The larger of the two halves of a tile. -/
theorem at_pairMax {φ : FTy} {z : FVec Ideal ⟨2, ![a, 256]⟩ φ} {h : (⟨2, ![a, 256]⟩ : Shape).Slices ![0, 0] ⟨2, ![a, 128]⟩}
    {h' : (⟨2, ![a, 256]⟩ : Shape).Slices ![0, 128] ⟨2, ![a, 128]⟩} (hz : At z G r c) :
    At (maximumf (extractStridedSlice (⟨2, ![a, 128]⟩ : Shape) ![0, 0] z h : FVec Ideal ⟨2, ![a, 128]⟩ φ)
      (extractStridedSlice (⟨2, ![a, 128]⟩ : Shape) ![0, 128] z h')) (pairMax G c) r 0 := fun j => by
  rw [maximumf_apply, (at_slice (h := h) hz) j, (at_slice (h := h') hz) j, pairMax, Nat.add_zero, Nat.add_zero, Nat.zero_add]

/-- The first running maximum, of one block of rows. -/
theorem at_max0 {φ : FTy} {o : ℕ} {y : FVec Ideal ⟨2, ![n, 128]⟩ φ} {h : (⟨2, ![n, 128]⟩ : Shape).Slices ![o, 0] ⟨2, ![256, 128]⟩}
    (hy : At y (pairMax G 0) 0 0) :
    At (extractStridedSlice (⟨2, ![256, 128]⟩ : Shape) ![o, 0] y h) (runMax G 0) o 0 := at_cut hy (Nat.zero_add o).symm

/-- The next running maximum, of one block of rows. -/
theorem at_max {φ : FTy} {o : ℕ} (c : ℕ) {x : FVec Ideal ⟨2, ![256, 128]⟩ φ} {y : FVec Ideal ⟨2, ![n, 128]⟩ φ}
    {h : (⟨2, ![n, 128]⟩ : Shape).Slices ![o, 0] ⟨2, ![256, 128]⟩} (hx : At x (runMax G c) k 0)
    (hy : At y (pairMax G (256 * (c + 1))) r 0) (e : k = r + o := by rfl) :
    At (maximumf x (extractStridedSlice (⟨2, ![256, 128]⟩ : Shape) ![o, 0] y h)) (runMax G (c + 1)) k 0 := fun j => by
  subst e
  rw [maximumf_apply, hx j, (at_slice (h := h) hy) j]; rfl

/-- The maximum of a row whose entries right of column tile `t / 256` do not count. -/
def rowMax (G : ℕ → ℕ → EReal) (t : ℕ) : EReal := Finset.univ.sup fun l : Fin 128 => runMax G (t / 256) t l.val

/-- The maxima along the lanes. -/
theorem lane_max {x : FVec Ideal ⟨2, ![256, 128]⟩ .f32} {h : (⟨2, ![256, 128]⟩ : Shape).Reduces [1] ⟨1, ![256]⟩}
    {hφ : FKind.Formats .f32} {ha} (i : Fin 256) :
    multiReduction .maximumf [1] (⟨1, ![256]⟩ : Shape) x 0xFF800000#32 h hφ ha (ix1 i)
      = Finset.univ.sup fun l : Fin 128 => x (ix2 i l) := by
  rw [Ideal.multiReduction_maximumf_single,
    show (FloatOps.ofBits .f32 0xFF800000#32 : Ideal .f32) = ⊥ from by simp [Ideal.ofBits, Ideal.ieee]]
  refine congrArg (Finset.fold max ⊥ · _) (funext fun l => congrArg x ?_)
  funext d; apply Fin.ext
  rw [h.lift_val]
  match d with
  | ⟨0, _⟩ => rfl
  | ⟨1, _⟩ => rfl

/-- The maximum of each row, as one column of a block of 256 rows. -/
theorem at_rowMax1 {x : FVec Ideal ⟨2, ![256, 128]⟩ .f32} {h : (⟨2, ![256, 128]⟩ : Shape).Reduces [1] ⟨1, ![256]⟩}
    {hφ : FKind.Formats .f32} {ha} {h₁ : (⟨1, ![256]⟩ : Shape).ShapeCasts ⟨2, ![256, 1]⟩}
    {h₂ : (⟨2, ![256, 1]⟩ : Shape).ShapeCasts ⟨2, ![256, 1]⟩} (c : ℕ) (hx : At x (runMax G c) (256 * c) 0) :
    At (shapeCast (⟨2, ![256, 1]⟩ : Shape) (shapeCast (⟨2, ![256, 1]⟩ : Shape)
      (multiReduction .maximumf [1] (⟨1, ![256]⟩ : Shape) x 0xFF800000#32 h hφ ha) h₁) h₂) (fun t _ => rowMax G t) (256 * c) 0 := fun j => by
  obtain ⟨p, u, rfl⟩ := ex2 j
  rw [shapeCast_self, shapeCast_a_a1_apply, lane_max]
  refine congrArg (Finset.sup Finset.univ) (funext fun l => (hx _).trans ?_)
  show runMax G c (256 * c + p.val) (0 + l.val) = runMax G ((256 * c + p.val) / 256) (256 * c + p.val) l.val
  rw [Nat.zero_add, show (256 * c + p.val) / 256 = c by omega]

/-- One column repeated along the lanes. -/
theorem at_lanes {M : ℕ → EReal} {x : (⟨2, ![256, 1]⟩ : Shape).Idx → EReal}
    {h : (⟨2, ![256, 1]⟩ : Shape).Broadcasts ⟨2, ![256, 128]⟩} (hx : At x (fun t _ => M t) r 0) :
    At (broadcastTo (⟨2, ![256, 128]⟩ : Shape) x h) (fun t _ => M t) r 0 := fun j => hx _

/-- The exponentials of a tile less its rows' maxima. -/
def expo (G : ℕ → ℕ → EReal) (M : ℕ → EReal) (t s : ℕ) : EReal := Ideal.exp2 (G t s - M t)

/-- The exponentials of a tile less its rows' maxima, taken in its two halves, the left difference `u` formed before. -/
theorem at_expo' {M : ℕ → EReal} {z : FVec Ideal ⟨2, ![a, 256]⟩ .f32} {u w : FVec Ideal ⟨2, ![a, 128]⟩ .f32}
    {h' : (⟨2, ![a, 256]⟩ : Shape).Slices ![0, 128] ⟨2, ![a, 128]⟩}
    {h'' : Shape.Concatenates [⟨2, ![a, 128]⟩, ⟨2, ![a, 128]⟩] ⟨2, ![a, 256]⟩ 1} {hb : FTy.bits .bf16 < FTy.bits .f32}
    (hu : At u (fun t s => G t s - M t) r c) (hz : At z G r c) (hw : At w (fun t _ => M t) r 0) :
    At (truncf .bf16 (exp2 (F := Ideal) (φ := .f32) (concatenate (⟨2, ![a, 256]⟩ : Shape) 1
      [⟨⟨2, ![a, 128]⟩, u⟩,
       ⟨⟨2, ![a, 128]⟩, subf (extractStridedSlice (⟨2, ![a, 128]⟩ : Shape) ![0, 128] z h' : FVec Ideal ⟨2, ![a, 128]⟩ .f32) w⟩] h'')) hb)
      (expo G M) r c := by
  have hc := at_beside (h := h'') hu (y := subf (extractStridedSlice (⟨2, ![a, 128]⟩ : Shape) ![0, 128] z h' : FVec Ideal ⟨2, ![a, 128]⟩ .f32) w)
    fun j => by rw [subf_apply, (at_slice (h := h') hz) j, hw j, Nat.add_zero]
  exact fun j => congrArg Ideal.exp2 (hc j)

/-- The left half of a tile less its rows' maxima. -/
theorem at_left {M : ℕ → EReal} {z : FVec Ideal ⟨2, ![a, 256]⟩ .f32} {w : FVec Ideal ⟨2, ![a, 128]⟩ .f32}
    {h : (⟨2, ![a, 256]⟩ : Shape).Slices ![0, 0] ⟨2, ![a, 128]⟩} (hz : At z G r c) (hw : At w (fun t _ => M t) r 0) :
    At (subf (extractStridedSlice (⟨2, ![a, 128]⟩ : Shape) ![0, 0] z h : FVec Ideal ⟨2, ![a, 128]⟩ .f32) w)
      (fun t s => G t s - M t) r c := fun j => by
  rw [subf_apply, (at_slice (h := h) hz) j, hw j, Nat.add_zero, Nat.add_zero]

/-- The exponentials of a tile less its rows' maxima, taken in its two halves. -/
theorem at_expo {M : ℕ → EReal} {z : FVec Ideal ⟨2, ![a, 256]⟩ .f32} {w : FVec Ideal ⟨2, ![a, 128]⟩ .f32}
    {h : (⟨2, ![a, 256]⟩ : Shape).Slices ![0, 0] ⟨2, ![a, 128]⟩} {h' : (⟨2, ![a, 256]⟩ : Shape).Slices ![0, 128] ⟨2, ![a, 128]⟩}
    {h'' : Shape.Concatenates [⟨2, ![a, 128]⟩, ⟨2, ![a, 128]⟩] ⟨2, ![a, 256]⟩ 1} {hb : FTy.bits .bf16 < FTy.bits .f32}
    (hz : At z G r c) (hw : At w (fun t _ => M t) r 0) :
    At (truncf .bf16 (exp2 (F := Ideal) (φ := .f32) (concatenate (⟨2, ![a, 256]⟩ : Shape) 1
      [⟨⟨2, ![a, 128]⟩, subf (extractStridedSlice (⟨2, ![a, 128]⟩ : Shape) ![0, 0] z h : FVec Ideal ⟨2, ![a, 128]⟩ .f32) w⟩,
       ⟨⟨2, ![a, 128]⟩, subf (extractStridedSlice (⟨2, ![a, 128]⟩ : Shape) ![0, 128] z h' : FVec Ideal ⟨2, ![a, 128]⟩ .f32) w⟩] h'')) hb)
      (expo G M) r c := at_expo' (at_left hz hw) hz hw

/-- The product of the weights `P` in the columns that begin at `c` with the rows of `W` that begin there. -/
def part (P W : ℕ → ℕ → EReal) (c t l : ℕ) : EReal := ∑ j : Fin 256, P t (c + j.val) * W (c + j.val) l

/-- The sum of these products over column tiles `0 … c`. -/
def acc (P W : ℕ → ℕ → EReal) : ℕ → ℕ → ℕ → EReal
  | 0 => fun t l => 0 + part P W 0 t l
  | c + 1 => fun t l => acc P W c t l + part P W (256 * (c + 1)) t l

/-- One tile's product with its block of `W`. -/
theorem at_part {P W : ℕ → ℕ → EReal} {φ₁ φ₂ : FTy} {d : DotDims ⟨2, ![m, 256]⟩ ⟨2, ![256, 128]⟩ ⟨2, ![m, 128]⟩}
    {x : FVec Ideal ⟨2, ![m, 256]⟩ φ₁} {y : FVec Ideal ⟨3, ![1, 256, 128]⟩ φ₂}
    {h : (⟨3, ![1, 256, 128]⟩ : Shape).ShapeCasts ⟨2, ![256, 128]⟩} (hd : d = DotDims.plain m 256 128)
    (hx : At x P r c) (hy : At1 y W c 0) :
    At (matmul d none x (shapeCast (⟨2, ![256, 128]⟩ : Shape) y h : FVec Ideal ⟨2, ![256, 128]⟩ φ₂)
      (constant (F := Ideal) ⟨2, ![m, 128]⟩ .f32 0)) (part P W c) r 0 := at_matmul hd hx (at_drop hy)

/-- The first sum, of one block of rows. -/
theorem at_acc0 {P W : ℕ → ℕ → EReal} {o : ℕ} {x : FVec Ideal ⟨2, ![256, 128]⟩ .f32} {y : FVec Ideal ⟨2, ![n, 128]⟩ .f32}
    {h : (⟨2, ![n, 128]⟩ : Shape).Slices ![o, 0] ⟨2, ![256, 128]⟩} (hx : ∀ j, x j = 0) (hy : At y (part P W 0) 0 0) :
    At (addf x (extractStridedSlice (⟨2, ![256, 128]⟩ : Shape) ![o, 0] y h)) (acc P W 0) o 0 := fun j => by
  rw [addf_apply, hx j, (at_slice (h := h) hy) j, Nat.zero_add]; rfl

/-- The next sum, of one block of rows. -/
theorem at_acc {P W : ℕ → ℕ → EReal} {o : ℕ} (c : ℕ) {x : FVec Ideal ⟨2, ![256, 128]⟩ .f32} {y : FVec Ideal ⟨2, ![n, 128]⟩ .f32}
    {h : (⟨2, ![n, 128]⟩ : Shape).Slices ![o, 0] ⟨2, ![256, 128]⟩} (hx : At x (acc P W c) k 0)
    (hy : At y (part P W (256 * (c + 1))) r 0) (e : k = r + o := by rfl) :
    At (addf x (extractStridedSlice (⟨2, ![256, 128]⟩ : Shape) ![o, 0] y h)) (acc P W (c + 1)) k 0 := fun j => by
  subst e
  rw [addf_apply, hx j, (at_slice (h := h) hy) j]; rfl

/-- The last sum, of the last block of rows. -/
theorem at_accL {P W : ℕ → ℕ → EReal} (c : ℕ) {x y : FVec Ideal ⟨2, ![256, 128]⟩ .f32} (hx : At x (acc P W c) r 0)
    (hy : At y (part P W (256 * (c + 1))) r 0) : At (addf x y) (acc P W (c + 1)) r 0 := fun j => by
  rw [addf_apply, hx j, hy j]; rfl

/-- A block of rows of the whole sum: the sum that ends at the rows' own column tile. -/
theorem at_own {P W : ℕ → ℕ → EReal} (c : ℕ) {x : (⟨2, ![256, 128]⟩ : Shape).Idx → EReal} (hx : At x (acc P W c) (256 * c) 0) :
    At x (fun t l => acc P W (t / 256) t l) (256 * c) 0 :=
  hx.congr fun i hi l _ => by rw [show (256 * c + i) / 256 = c by omega]

/-- The quotient of a block of 128 columns by itself rotated by 64 lanes. -/
theorem at_rotDiv {x : FVec Ideal ⟨2, ![a, 128]⟩ .f32} {h : (⟨2, ![a, 128]⟩ : Shape).Rotates 1 none} (hx : At x G r 0) :
    At (divf x (dynamicRotate 1 64#32 none x h)) (fun t l => Ideal.div (G t l) (G t ((l + 64) % 128))) r 0 := fun j => by
  rw [divf_apply, hx j]
  refine congrArg (Ideal.div _) ((hx _).trans ?_)
  show G (r + (j 0).val) (0 + ((j 1).val + 128 - 64 % 128) % 128) = _
  congr 1
  omega

/-- A load from the store made last, at rows that begin at `p` and columns that begin at `q` of that store's slab `u`. -/
theorem load_last {sig : RefSig} {κ : Kind} {sp : Space} {N u p q a' b' : ℕ} {inb inb'}
    {v : View sig κ sp ⟨3, ![N, a, b]⟩ .bf16} {w : (⟨3, ![1, a, b]⟩ : Shape).Idx → EReal} {L : List (View.Piece (Elt Ideal) ⟨3, ![N, a, b]⟩ .bf16)}
    (hw : At1 w G 0 0) :
    At1 (a := a') (b := b') (v.readCov (Val := Elt Ideal) (⟨Rect.unit (s := ⟨3, ![N, a, b]⟩) ![u, 0, 0] ![1, a, b] inb, w⟩ :: L)
      (Rect.unit (s := ⟨3, ![N, a, b]⟩) ![u, p, q] ![1, a', b'] inb').toLoadRect) G p q := fun j => by
  have h1 : p + a' ≤ a := inb' 1
  have h2 : q + b' ≤ b := inb' 2
  have j0 : (j 0).val < 1 := (j 0).isLt
  have j1 : (j 1).val < a' := (j 1).isLt
  have j2 : (j 2).val < b' := (j 2).isLt
  rw [View.readCov_eq_canon']
  have e : (Rect.unit (s := ⟨3, ![N, a, b]⟩) ![u, p, q] ![1, a', b'] inb').toLoadRect.idx j
      = (Rect.unit (s := ⟨3, ![N, a, b]⟩) ![u, 0, 0] ![1, a, b] inb).emb
        (ix3 (0 : Fin 1) (⟨p + (j 1).val, by omega⟩ : Fin a) (⟨q + (j 2).val, by omega⟩ : Fin b)) := by
    funext d; apply Fin.ext
    match d with
    | ⟨0, _⟩ => show u + 1 * (j 0).val = u + 1 * 0; omega
    | ⟨1, _⟩ => show p + 1 * (j 1).val = 0 + 1 * (p + (j 1).val); omega
    | ⟨2, _⟩ => show q + 1 * (j 2).val = 0 + 1 * (q + (j 2).val); omega
  show View.canon _ _ = _
  rw [e, View.canon_cons_emb]
  refine (hw _).trans ?_
  show G (0 + (p + (j 1).val)) (0 + (q + (j 2).val)) = _
  rw [Nat.zero_add, Nat.zero_add]

/-- A load from the store made before the last one, which the last one does not touch. -/
theorem load_prev {sig : RefSig} {κ : Kind} {sp : Space} {N u p q a' b' : ℕ} {inb inb'}
    {v : View sig κ sp ⟨3, ![N, a, b]⟩ .bf16} {w : (⟨3, ![1, a, b]⟩ : Shape).Idx → EReal} {P : View.Piece (Elt Ideal) ⟨3, ![N, a, b]⟩ .bf16}
    {L : List (View.Piece (Elt Ideal) ⟨3, ![N, a, b]⟩ .bf16)}
    (hd : LoadRect.disj P.1 (Rect.unit (s := ⟨3, ![N, a, b]⟩) ![u, p, q] ![1, a', b'] inb').toLoadRect = true)
    (hw : At1 w G 0 0) :
    At1 (a := a') (b := b') (v.readCov (Val := Elt Ideal) (P :: ⟨Rect.unit (s := ⟨3, ![N, a, b]⟩) ![u, 0, 0] ![1, a, b] inb, w⟩ :: L)
      (Rect.unit (s := ⟨3, ![N, a, b]⟩) ![u, p, q] ![1, a', b'] inb').toLoadRect) G p q := by
  obtain ⟨r₁, w₁⟩ := P
  rw [View.readCov_skip v r₁ w₁ _ _ hd]
  exact load_last hw

end Cert.Tiles

end
-- ==== Proof.FoxSpec.lean ====
/-
  The attention kernel's blocks as functions of row and column: the queries and keys of one head with the decay's
  features beside them, the scores, the values with a column of ones, and the stores that hold them.
-/
module

public import proofs.«01_k».proof.Proof.Gen.KernelIdeal.Frame
public import proofs.«01_k».proof.Proof.Tiles

@[expose] public section

set_option maxRecDepth 16384

noncomputable section

open Idealize.ShloMosaic Idealize.ShloMosaic.ValueIdx Cert.KernelIdeal Cert.KernelIdeal.Gen Cert.Tiles
open scoped BigOperators

namespace Cert.Fox

/-- A block of 2048 rows and 128 lanes, as a function of row and lane. -/
def rd (x : Vec Ideal S1x2048x128 .bf16) (t l : ℕ) : EReal :=
  if h : t < 2048 ∧ l < 128 then x (ix3 (0 : Fin 1) ⟨t, h.1⟩ ⟨l, h.2⟩) else 0

/-- The block is the block of that function. -/
theorem at_rd (x : Vec Ideal S1x2048x128 .bf16) : At1 (a := 2048) (b := 128) x (rd x) 0 0 := fun j => by
  obtain ⟨u, p, q, rfl⟩ := ex3 j
  obtain rfl : u = 0 := Subsingleton.elim _ _
  show x _ = rd x (0 + p.val) (0 + q.val)
  rw [Nat.zero_add, Nat.zero_add, rd, dif_pos ⟨p.isLt, q.isLt⟩]

/-- The queries of two heads, then the decay's features of the query rows. -/
def QX (x0 x4 : Vec Ideal S1x2048x128 .bf16) (t k : ℕ) : EReal := if k < 128 then rd x0 t k else rd x4 t (k - 128)

/-- The keys of head `h` of pair `p`, the other head's lanes zero, then the decay's features of that head's key rows. -/
def KX (x1 x5 : Vec Ideal S1x2048x128 .bf16) (p h k s : ℕ) : EReal :=
  if k < 128 then (if k / 64 = h then rd x1 s k else 0) else (if (k - 128) / 16 = 2 * p + h then rd x5 s (k - 128) else 0)

/-- The values of head `h`, ones in the other head's lanes. -/
def VX (x2 : Vec Ideal S1x2048x128 .bf16) (h s l : ℕ) : EReal := if l / 64 = h then rd x2 s l else 1

/-- The scores of head `h` of pair `p`. -/
def Z (x0 x1 x4 x5 : Vec Ideal S1x2048x128 .bf16) (p h t s : ℕ) : EReal :=
  ∑ j : Fin 256, QX x0 x4 t (0 + j.val) * KX x1 x5 p h (0 + j.val) s

/-- The scores with the keys after the query's row masked out. -/
def ZM (x0 x1 x4 x5 : Vec Ideal S1x2048x128 .bf16) (p h : ℕ) : ℕ → ℕ → EReal := masked (Z x0 x1 x4 x5 p h)

/-- The exponentials of the scores less their row's maximum. -/
def PX (x0 x1 x4 x5 : Vec Ideal S1x2048x128 .bf16) (p h : ℕ) : ℕ → ℕ → EReal :=
  expo (ZM x0 x1 x4 x5 p h) (rowMax (ZM x0 x1 x4 x5 p h))

/-- The weighted sums of the values over column tiles `0 … c`. -/
def AX (x0 x1 x2 x4 x5 : Vec Ideal S1x2048x128 .bf16) (p h c : ℕ) : ℕ → ℕ → EReal :=
  acc (PX x0 x1 x4 x5 p h) (VX x2 h) c

/-- What a store of the kernel's operand block reads: the block. -/
theorem at_in {m : Memref sig .tc .vmem S1x2048x128 .bf16} {hm : m.IsWhole} {x : Vec Ideal S1x2048x128 .bf16} {inb} :
    At1 (a := 2048) (b := 128) (View.readAt (Elt Ideal) m.view (Rect.unit (s := S1x2048x128) ![0, 0, 0] S1x2048x128.size inb).toLoadRect (hm.unread x)) (rd x) 0 0 := by
  rw [View.readAt_eq_ld, hm.read_unread, View.ld_unit_lit' inb x (by decide)]
  exact at_rd x

/-- The comparison of a column index with a row index. -/
theorem below (j : S256x256.Idx) : k2_pay18 j = if (j 1).val ≤ (j 0).val then 1#1 else 0#1 := by
  obtain ⟨p, q, rfl⟩ := ex2 j
  show IntOp.cmpi .sle (BitVec.ofNat 32 (0 * 256 + q.val)) (BitVec.ofNat 32 (0 * 256 + p.val)) = if q.val ≤ p.val then 1#1 else 0#1
  have hs : ((BitVec.ofNat 32 (0 * 256 + q.val)).sle (BitVec.ofNat 32 (0 * 256 + p.val))) = decide (q.val ≤ p.val) := by
    rw [BitVec.sle_eq_decide, BitVec.toInt_eq_toNat_of_lt (by simp; omega), BitVec.toInt_eq_toNat_of_lt (by simp; omega)]
    simp
    omega
  simp only [IntOp.cmpi, hs]
  by_cases h : q.val ≤ p.val <;> simp [h]

/-- The mask's value. -/
theorem mask_bot (j : S256x256.Idx) :
    broadcast S256x256 (Named.named (F := Ideal) κ "mask" (φ := .f32) 0xF149F2CA#32) j = ⊥ :=
  IdealRules.named_const.ideal_named_scalar _ _ _ _ rfl

/-- A mask that asks only for the lane, told lane by lane. -/
theorem lanes {p : ℕ → Prop} [DecidablePred p] {q : IVec S2048x128 1} (h0 : ∀ (t : Fin 2048) (l : Fin 128), q (ix2 t l) = q (ix2 0 l))
    (hd : ∀ l : Fin 128, q (ix2 0 l) = if p l.val then 1#1 else 0#1) (j : S2048x128.Idx) :
    q j = if p (j 1).val then 1#1 else 0#1 := by
  obtain ⟨t, l, rfl⟩ := ex2 j
  exact (h0 t l).trans (hd l)

/-- The zero word. -/
theorem zero_all (j : S2048x128.Idx) : broadcast S2048x128 (Scalar.ofBits (F := Ideal) .f32 0x00000000#32) j = 0 := Ideal.ofBits_zero_f32

/-- The word of one. -/
theorem one_all (j : S2048x128.Idx) : broadcast S2048x128 (Scalar.ofBits (F := Ideal) .f32 0x3F800000#32) j = 1 := Ideal.ofBits_one_f32

/-- The lanes of one group of 16, for each pair of heads. -/
theorem group0 : ∀ (p : Fin 4) (l : Fin 128),
    cmpi .eq k2_pay5 (broadcast S2048x128 (Scalar.addi (Scalar.muli (BitVec.ofNat 32 p.val) 2#32) 0#32)) (ix2 0 l)
      = if l.val / 16 = 2 * p.val + 0 then 1#1 else 0#1 := by decide +kernel

/-- The lanes of the next group of 16. -/
theorem group1 : ∀ (p : Fin 4) (l : Fin 128),
    cmpi .eq k2_pay5 (broadcast S2048x128 (Scalar.addi (Scalar.muli (BitVec.ofNat 32 p.val) 2#32) 1#32)) (ix2 0 l)
      = if l.val / 16 = 2 * p.val + 1 then 1#1 else 0#1 := by decide +kernel

variable {x1 x2 x5 : Vec Ideal S1x2048x128 .bf16}

/-- The first head's keys beside the decay's features. -/
theorem at_keys0 (p : Fin 4) {k kf : FVec Ideal S2048x128 .f32} (hk : At (a := 2048) (b := 128) k (rd x1) 0 0)
    (hf : At (a := 2048) (b := 128) kf (rd x5) 0 0) :
    At1 (a := 256) (b := 2048) (k2_pay8 (F := Ideal) (BitVec.ofNat 32 p.val) k kf k2_pay5 kernelRun2_A.sl.v37 64#32 k2_pay6 k2_pay7 1#32) (KX x1 x5 p.val 0) 0 0 := by
  unfold k2_pay8
  refine at_lead (at_truncf (at_stack2
    (at_transpose (at_lanesel (p := fun l => l / 64 = 0) (lanes (p := fun l => l / 64 = 0) (fun _ _ => rfl) ?_) zero_all hk))
    (at_transpose (at_lanesel (p := fun l => l / 16 = 2 * p.val + 0) (lanes (p := fun l => l / 16 = 2 * p.val + 0) (fun _ _ => rfl) (group0 p)) zero_all hf))))
  decide +kernel

/-- The second head's keys beside the decay's features. -/
theorem at_keys1 (p : Fin 4) {k kf : FVec Ideal S2048x128 .f32} (hk : At (a := 2048) (b := 128) k (rd x1) 0 0)
    (hf : At (a := 2048) (b := 128) kf (rd x5) 0 0) :
    At1 (a := 256) (b := 2048) (k2_pay11 (F := Ideal) (BitVec.ofNat 32 p.val) k kf k2_pay5 kernelRun2_A.sl.v37 64#32 k2_pay9 k2_pay10 1#32 0#1) (KX x1 x5 p.val 1) 0 0 := by
  unfold k2_pay11
  refine at_lead (at_truncf (at_stack2
    (at_transpose (at_lanesel (p := fun l => l / 64 = 1) (lanes (p := fun l => l / 64 = 1) (fun _ _ => rfl) ?_) zero_all hk))
    (at_transpose (at_lanesel (p := fun l => l / 16 = 2 * p.val + 1) (lanes (p := fun l => l / 16 = 2 * p.val + 1) (fun _ _ => rfl) (group1 p)) zero_all hf))))
  decide +kernel

/-- The first head's values with ones beside them. -/
theorem at_vals0 {v : FVec Ideal S2048x128 .f32} (hv : At (a := 2048) (b := 128) v (rd x2) 0 0) :
    At1 (a := 2048) (b := 128) (k2_pay15 (F := Ideal) v kernelRun2_A.sl.v37 64#32 k2_pay13 k2_pay14 0#32) (VX x2 0) 0 0 := by
  unfold k2_pay15
  refine at_lead (at_truncf (at_lanesel (p := fun l => l / 64 = 0) (lanes (p := fun l => l / 64 = 0) (fun _ _ => rfl) ?_) one_all hv))
  decide +kernel

/-- The second head's values with ones beside them. -/
theorem at_vals1 {v : FVec Ideal S2048x128 .f32} (hv : At (a := 2048) (b := 128) v (rd x2) 0 0) :
    At1 (a := 2048) (b := 128) (k2_pay1 (F := Ideal) v k2_pay16 k2_pay17) (VX x2 1) 0 0 := by
  unfold k2_pay1
  refine at_lead (at_truncf (at_lanesel (p := fun l => l / 64 = 1) (lanes (p := fun l => l / 64 = 1) (fun _ _ => rfl) ?_) one_all hv))
  decide +kernel

/-- A block read as single-precision numbers. -/
theorem at_read {x : Vec Ideal S1x2048x128 .bf16} {y} (hy : At1 (a := 2048) (b := 128) y (rd x) 0 0) :
    At (a := 2048) (b := 128) (k2_pay3 (F := Ideal) y) (rd x) 0 0 := at_extf (at_drop hy)

/-- The queries beside the decay's features. -/
theorem at_queries {x0 x4 : Vec Ideal S1x2048x128 .bf16} {y0 y4} (h0 : At1 (a := 2048) (b := 128) y0 (rd x0) 0 0)
    (h4 : At1 (a := 2048) (b := 128) y4 (rd x4) 0 0) :
    At (a := 2048) (b := 256) (k2_pay19 (F := Ideal) y0 y4) (QX x0 x4) 0 0 := by
  unfold k2_pay19
  exact at_pair (at_drop h0) (at_drop h4)

/-- The weighted sums of a row over the columns up to the row's own tile, over the sum of the weights. -/
def OX (x0 x1 x2 x4 x5 : Vec Ideal S1x2048x128 .bf16) (p h t l : ℕ) : EReal :=
  Ideal.div (AX x0 x1 x2 x4 x5 p h (t / 256) t l) (AX x0 x1 x2 x4 x5 p h (t / 256) t ((l + 64) % 128))

/-- A tile of scores. -/
theorem at_z {m p h r c : ℕ} {x0 x4 : Vec Ideal S1x2048x128 .bf16} {φ₁ φ₂ : FTy} {d : DotDims ⟨2, ![m, 256]⟩ ⟨2, ![256, 256]⟩ ⟨2, ![m, 256]⟩}
    {x : FVec Ideal ⟨2, ![m, 256]⟩ φ₁} {y : FVec Ideal ⟨2, ![256, 256]⟩ φ₂} (hd : d = DotDims.plain m 256 256)
    (hx : At x (QX x0 x4) r 0) (hy : At y (KX x1 x5 p h) 0 c) :
    At (matmul d none x y (constant (F := Ideal) ⟨2, ![m, 256]⟩ .f32 0)) (Z x0 x1 x4 x5 p h) r c := at_matmul hd hx hy

/-- A tile of weights times its block of values. -/
theorem at_sum {m r c : ℕ} {P W : ℕ → ℕ → EReal} {φ₁ φ₂ : FTy} {d : DotDims ⟨2, ![m, 256]⟩ ⟨2, ![256, 128]⟩ ⟨2, ![m, 128]⟩}
    {x : FVec Ideal ⟨2, ![m, 256]⟩ φ₁} {y : FVec Ideal ⟨2, ![256, 128]⟩ φ₂} (hd : d = DotDims.plain m 256 128)
    (hx : At x P r c) (hy : At y W c 0) :
    At (matmul d none x y (constant (F := Ideal) ⟨2, ![m, 128]⟩ .f32 0)) (part P W c) r 0 := at_matmul hd hx hy

variable {a b c r : ℕ} {G H : ℕ → ℕ → EReal}

/-- The square on the diagonal, its entries above the diagonal replaced. -/
theorem at_keep {z w : (⟨2, ![256, 256]⟩ : Shape).Idx → EReal} {q : IVec ⟨2, ![256, 256]⟩ 1}
    (hq : ∀ j, q j = if (j 1).val ≤ (j 0).val then 1#1 else 0#1) (hw : ∀ j, w j = ⊥) (hz : At z G c c) :
    At (select q z w) (masked G) c c := fun j => by
  rw [select_apply, hq, hw, hz j]
  show Scalar.select _ _ _ = if c + (j 1).val ≤ c + (j 0).val then _ else _
  by_cases h : (j 1).val ≤ (j 0).val
  · rw [if_pos h, if_pos (by omega)]; rfl
  · rw [if_neg h, if_neg (by omega)]; rfl

/-- The masked square above the rows below it, which the mask leaves alone. -/
theorem at_under {n n' : ℕ} {x : (⟨2, ![256, 256]⟩ : Shape).Idx → EReal} {y : (⟨2, ![n', 256]⟩ : Shape).Idx → EReal}
    {h : Shape.Concatenates [⟨2, ![256, 256]⟩, ⟨2, ![n', 256]⟩] ⟨2, ![n, 256]⟩ 0} (hx : At x (masked G) c c) (hy : At y G (c + 256) c) :
    At (concatenate (⟨2, ![n, 256]⟩ : Shape) 0 [⟨⟨2, ![256, 256]⟩, x⟩, ⟨⟨2, ![n', 256]⟩, y⟩] h) (masked G) c c :=
  at_above hx (hy.congr fun i _ l hl => by rw [masked, if_pos (by omega)])

/-- The larger of the two halves of a tile. -/
theorem at_pairMax1 {φ : FTy} {x y : FVec Ideal ⟨2, ![a, 128]⟩ φ} (hx : At x G r c) (hy : At y G r (c + 128)) :
    At (maximumf x y) (pairMax G c) r 0 := fun j => by
  rw [maximumf_apply, hx j, hy j, pairMax, Nat.zero_add]

/-- The next running maximum. -/
theorem at_max1 {φ : FTy} (c : ℕ) {x y : FVec Ideal ⟨2, ![a, 128]⟩ φ} (hx : At x (runMax G c) r 0)
    (hy : At y (pairMax G (256 * (c + 1))) r 0) : At (maximumf x y) (runMax G (c + 1)) r 0 := fun j => by
  rw [maximumf_apply, hx j, hy j]; rfl

/-- Entries less a number of their row. -/
theorem at_sub {M : ℕ → EReal} {φ : FTy} {x y : FVec Ideal ⟨2, ![a, b]⟩ φ} (hx : At x G r c) (hy : At y (fun t _ => M t) r 0) :
    At (subf x y) (fun t s => G t s - M t) r c := fun j => by
  rw [subf_apply, hx j, hy j]

/-- The exponentials. -/
theorem at_exp2 {M : ℕ → EReal} {φ : FTy} {x : FVec Ideal ⟨2, ![a, b]⟩ φ} (hx : At x (fun t s => G t s - M t) r c) :
    At (exp2 (F := Ideal) (φ := φ) x) (expo G M) r c := fun j => congrArg Ideal.exp2 (hx j)

/-- The first sum. -/
theorem at_accZ {P W : ℕ → ℕ → EReal} {φ : FTy} {x y : FVec Ideal ⟨2, ![a, b]⟩ φ} (hx : ∀ j, x j = 0) (hy : At y (part P W 0) r 0) :
    At (addf x y) (acc P W 0) r 0 := fun j => by
  rw [addf_apply, hx j, hy j]; rfl

/-- The zero block the sums begin with. -/
theorem none_all (j : S256x128.Idx) : broadcast S256x128 (Scalar.ofBits (F := Ideal) .f32 0x00000000#32) j = 0 := Ideal.ofBits_zero_f32

end Cert.Fox

end
-- ==== Proof.FoxWords.lean ====
/-
  The attention kernel's intermediate values, each as a block of a function of row and column: the scores of both
  heads, their running row maxima, the exponentials and the weighted sums, one theorem per value that the kernel names.
-/
module

public import proofs.«01_k».proof.Proof.FoxSpec

@[expose] public section

set_option maxRecDepth 16384

noncomputable section

open Idealize.ShloMosaic Idealize.ShloMosaic.ValueIdx Cert.KernelIdeal Cert.KernelIdeal.Gen Cert.Tiles

namespace Cert.Fox

variable {c : Dev nD} {i : grid2.Coords}
  {arg3 : Memref sig .tc .vmem S1x2048x128 .bf16} {harg3 : arg3.IsWhole}
  {arg4 : Memref sig .tc .vmem S1x2048x128 .bf16} {harg4 : arg4.IsWhole}
  {arg5 : Memref sig .tc .vmem S1x2048x128 .bf16} {harg5 : arg5.IsWhole}
  {arg7 : Memref sig .tc .vmem S1x2048x128 .bf16} {harg7 : arg7.IsWhole}
  {arg8 : Memref sig .tc .vmem S1x2048x128 .bf16} {harg8 : arg8.IsWhole}
  {arg10 : Memref sig .tc .vmem S2x256x2048 .bf16} {arg11 : Memref sig .tc .vmem S2x2048x128 .bf16}
  {arg12 : Memref sig .tc .vmem S2x2048x2048 .f32}
  {x0 x1 x2 x4 x5 : Vec Ideal S1x2048x128 .bf16}

/-- Rows of the queries. -/
theorem r_3_at : At (kernelRun2_A.sl.r_3 (F := Ideal) c arg3 harg3 arg7 harg7 x0 x4) (QX x0 x4) 0 0 := (at_queries at_in at_in)

/-- A tile of the first head's keys. -/
theorem v14_at : At1 (kernelRun2_A.sl.v14 (F := Ideal) c i arg4 harg4 arg8 harg8 arg10 x1 x5) (KX x1 x5 (i 1).val 0) 0 0 := load_prev (by dsimp only; decide) (at_keys0 (i 1) (at_read at_in) (at_read at_in))

/-- The first head: the larger of the halves of a tile, some rows. -/
theorem r_11_at : At (kernelRun2_A.sl.r_11 (F := Ideal) c i arg3 harg3 arg4 harg4 arg7 harg7 arg8 harg8 arg10 x0 x1 x4 x5) (pairMax (ZM x0 x1 x4 x5 (i 1).val 0) 0) 1792 0 := by
  unfold kernelRun2_A.sl.r_11 k2_pay30 k2_pay22 k2_pay20
  exact (at_cut (r' := 1792) (c' := 0) (at_pairMax1 (at_cut (r' := 0) (c' := 0) (at_under (at_keep below mask_bot (at_cut (r' := 0) (c' := 0) (at_z rfl (at_queries at_in at_in) (at_drop v14_at)))) (at_cut (r' := 256) (c' := 0) (at_z rfl (at_queries at_in at_in) (at_drop v14_at))))) (at_cut (r' := 0) (c' := 128) (at_under (at_keep below mask_bot (at_cut (r' := 0) (c' := 0) (at_z rfl (at_queries at_in at_in) (at_drop v14_at)))) (at_cut (r' := 256) (c' := 0) (at_z rfl (at_queries at_in at_in) (at_drop v14_at)))))))

/-- A tile of the first head's keys. -/
theorem v59_at : At1 (kernelRun2_A.sl.v59 (F := Ideal) c i arg4 harg4 arg8 harg8 arg10 x1 x5) (KX x1 x5 (i 1).val 0) 0 256 := load_prev (by dsimp only; decide) (at_keys0 (i 1) (at_read at_in) (at_read at_in))

/-- The first head: a running maximum over columns of equal lane. -/
theorem r_27_at : At (kernelRun2_A.sl.r_27 (F := Ideal) c i arg3 harg3 arg4 harg4 arg7 harg7 arg8 harg8 arg10 x0 x1 x4 x5) (runMax (ZM x0 x1 x4 x5 (i 1).val 0) 1) 1792 0 := by
  unfold kernelRun2_A.sl.r_27 k2_pay51 k2_pay44 k2_pay42
  exact (at_max1 0 r_11_at (at_cut (r' := 1792) (c' := 0) (at_pairMax1 (at_cut (r' := 256) (c' := 256) (at_under (at_keep below mask_bot (at_cut (r' := 256) (c' := 256) (at_z rfl (at_cut (r' := 256) (c' := 0) r_3_at) (at_drop v59_at)))) (at_cut (r' := 512) (c' := 256) (at_z rfl (at_cut (r' := 256) (c' := 0) r_3_at) (at_drop v59_at))))) (at_cut (r' := 256) (c' := 384) (at_under (at_keep below mask_bot (at_cut (r' := 256) (c' := 256) (at_z rfl (at_cut (r' := 256) (c' := 0) r_3_at) (at_drop v59_at)))) (at_cut (r' := 512) (c' := 256) (at_z rfl (at_cut (r' := 256) (c' := 0) r_3_at) (at_drop v59_at))))))))

/-- A tile of the first head's keys. -/
theorem v117_at : At1 (kernelRun2_A.sl.v117 (F := Ideal) c i arg4 harg4 arg8 harg8 arg10 x1 x5) (KX x1 x5 (i 1).val 0) 0 512 := load_prev (by dsimp only; decide) (at_keys0 (i 1) (at_read at_in) (at_read at_in))

/-- The first head: the larger of the halves of a tile, some rows. -/
theorem r_37_at : At (kernelRun2_A.sl.r_37 (F := Ideal) c i arg3 harg3 arg4 harg4 arg7 harg7 arg8 harg8 arg10 x0 x1 x4 x5) (pairMax (ZM x0 x1 x4 x5 (i 1).val 0) 512) 512 0 := by
  unfold kernelRun2_A.sl.r_37 k2_pay66 k2_pay64
  exact (at_pairMax1 (at_cut (r' := 512) (c' := 512) (at_under (at_keep below mask_bot (at_cut (r' := 512) (c' := 512) (at_z rfl (at_cut (r' := 512) (c' := 0) r_3_at) (at_drop v117_at)))) (at_cut (r' := 768) (c' := 512) (at_z rfl (at_cut (r' := 512) (c' := 0) r_3_at) (at_drop v117_at))))) (at_cut (r' := 512) (c' := 640) (at_under (at_keep below mask_bot (at_cut (r' := 512) (c' := 512) (at_z rfl (at_cut (r' := 512) (c' := 0) r_3_at) (at_drop v117_at)))) (at_cut (r' := 768) (c' := 512) (at_z rfl (at_cut (r' := 512) (c' := 0) r_3_at) (at_drop v117_at))))))

/-- The first head: a running maximum over columns of equal lane. -/
theorem r_43_at : At (kernelRun2_A.sl.r_43 (F := Ideal) c i arg3 harg3 arg4 harg4 arg7 harg7 arg8 harg8 arg10 x0 x1 x4 x5) (runMax (ZM x0 x1 x4 x5 (i 1).val 0) 2) 1792 0 := by
  unfold kernelRun2_A.sl.r_43 k2_pay72
  exact (at_max1 1 r_27_at (at_cut (r' := 1792) (c' := 0) r_37_at))

/-- A tile of the first head's keys. -/
theorem v171_at : At1 (kernelRun2_A.sl.v171 (F := Ideal) c i arg4 harg4 arg8 harg8 arg10 x1 x5) (KX x1 x5 (i 1).val 0) 0 768 := load_prev (by dsimp only; decide) (at_keys0 (i 1) (at_read at_in) (at_read at_in))

/-- Masked scores of the first head. -/
theorem r_50_at : At (kernelRun2_A.sl.r_50 (F := Ideal) c i arg3 harg3 arg4 harg4 arg7 harg7 arg8 harg8 arg10 x0 x1 x4 x5) (ZM x0 x1 x4 x5 (i 1).val 0) 768 768 := by
  unfold kernelRun2_A.sl.r_50 k2_pay82
  exact (at_under (at_keep below mask_bot (at_cut (r' := 768) (c' := 768) (at_z rfl (at_cut (r' := 768) (c' := 0) r_3_at) (at_drop v171_at)))) (at_cut (r' := 1024) (c' := 768) (at_z rfl (at_cut (r' := 768) (c' := 0) r_3_at) (at_drop v171_at))))

/-- The first head: a running maximum over columns of equal lane. -/
theorem r_55_at : At (kernelRun2_A.sl.r_55 (F := Ideal) c i arg3 harg3 arg4 harg4 arg7 harg7 arg8 harg8 arg10 x0 x1 x4 x5) (runMax (ZM x0 x1 x4 x5 (i 1).val 0) 3) 1792 0 := by
  unfold kernelRun2_A.sl.r_55 k2_pay89 k2_pay84
  exact (at_max1 2 r_43_at (at_cut (r' := 1792) (c' := 0) (at_pairMax1 (at_cut (r' := 768) (c' := 768) r_50_at) (at_cut (r' := 768) (c' := 896) r_50_at))))

/-- A tile of the first head's keys. -/
theorem v221_at : At1 (kernelRun2_A.sl.v221 (F := Ideal) c i arg4 harg4 arg8 harg8 arg10 x1 x5) (KX x1 x5 (i 1).val 0) 0 1024 := load_prev (by dsimp only; decide) (at_keys0 (i 1) (at_read at_in) (at_read at_in))

/-- Scores of the first head. -/
theorem r_61_at : At (kernelRun2_A.sl.r_61 (F := Ideal) c i arg3 harg3 arg4 harg4 arg7 harg7 arg8 harg8 arg10 x0 x1 x4 x5) (Z x0 x1 x4 x5 (i 1).val 0) 1024 1024 := by
  unfold kernelRun2_A.sl.r_61 k2_pay98
  exact (at_z rfl (at_cut (r' := 1024) (c' := 0) r_3_at) (at_drop v221_at))

/-- The first head: a running maximum over columns of equal lane. -/
theorem r_65_at : At (kernelRun2_A.sl.r_65 (F := Ideal) c i arg3 harg3 arg4 harg4 arg7 harg7 arg8 harg8 arg10 x0 x1 x4 x5) (runMax (ZM x0 x1 x4 x5 (i 1).val 0) 4) 1792 0 := by
  unfold kernelRun2_A.sl.r_65 k2_pay105 k2_pay101 k2_pay99
  exact (at_max1 3 r_55_at (at_cut (r' := 1792) (c' := 0) (at_pairMax1 (at_cut (r' := 1024) (c' := 1024) (at_under (at_keep below mask_bot (at_cut (r' := 1024) (c' := 1024) r_61_at)) (at_cut (r' := 1280) (c' := 1024) r_61_at))) (at_cut (r' := 1024) (c' := 1152) (at_under (at_keep below mask_bot (at_cut (r' := 1024) (c' := 1024) r_61_at)) (at_cut (r' := 1280) (c' := 1024) r_61_at))))))

/-- Rows of the queries. -/
theorem r_70_at : At (kernelRun2_A.sl.r_70 (F := Ideal) c arg3 harg3 arg7 harg7 x0 x4) (QX x0 x4) 1280 0 := by
  unfold kernelRun2_A.sl.r_70 k2_pay113
  exact (at_cut (r' := 1280) (c' := 0) r_3_at)

/-- A tile of the first head's keys. -/
theorem v267_at : At1 (kernelRun2_A.sl.v267 (F := Ideal) c i arg4 harg4 arg8 harg8 arg10 x1 x5) (KX x1 x5 (i 1).val 0) 0 1280 := load_prev (by dsimp only; decide) (at_keys0 (i 1) (at_read at_in) (at_read at_in))

/-- The first head: a running maximum over columns of equal lane. -/
theorem r_73_at : At (kernelRun2_A.sl.r_73 (F := Ideal) c i arg3 harg3 arg4 harg4 arg7 harg7 arg8 harg8 arg10 x0 x1 x4 x5) (runMax (ZM x0 x1 x4 x5 (i 1).val 0) 5) 1792 0 := by
  unfold kernelRun2_A.sl.r_73 k2_pay119 k2_pay116 k2_pay114
  exact (at_max1 4 r_65_at (at_cut (r' := 1792) (c' := 0) (at_pairMax1 (at_cut (r' := 1280) (c' := 1280) (at_under (at_keep below mask_bot (at_cut (r' := 1280) (c' := 1280) (at_z rfl r_70_at (at_drop v267_at)))) (at_cut (r' := 1536) (c' := 1280) (at_z rfl r_70_at (at_drop v267_at))))) (at_cut (r' := 1280) (c' := 1408) (at_under (at_keep below mask_bot (at_cut (r' := 1280) (c' := 1280) (at_z rfl r_70_at (at_drop v267_at)))) (at_cut (r' := 1536) (c' := 1280) (at_z rfl r_70_at (at_drop v267_at))))))))

/-- Rows of the queries. -/
theorem r_77_at : At (kernelRun2_A.sl.r_77 (F := Ideal) c arg3 harg3 arg7 harg7 x0 x4) (QX x0 x4) 1536 0 := by
  unfold kernelRun2_A.sl.r_77 k2_pay126
  exact (at_cut (r' := 1536) (c' := 0) r_3_at)

/-- A tile of the first head's keys. -/
theorem v309_at : At1 (kernelRun2_A.sl.v309 (F := Ideal) c i arg4 harg4 arg8 harg8 arg10 x1 x5) (KX x1 x5 (i 1).val 0) 0 1536 := load_prev (by dsimp only; decide) (at_keys0 (i 1) (at_read at_in) (at_read at_in))

/-- The first head: a running maximum over columns of equal lane. -/
theorem r_79_at : At (kernelRun2_A.sl.r_79 (F := Ideal) c i arg3 harg3 arg4 harg4 arg7 harg7 arg8 harg8 arg10 x0 x1 x4 x5) (runMax (ZM x0 x1 x4 x5 (i 1).val 0) 6) 1792 0 := by
  unfold kernelRun2_A.sl.r_79 k2_pay131 k2_pay129 k2_pay127
  exact (at_max1 5 r_73_at (at_cut (r' := 1792) (c' := 0) (at_pairMax1 (at_cut (r' := 1536) (c' := 1536) (at_under (at_keep below mask_bot (at_cut (r' := 1536) (c' := 1536) (at_z rfl r_77_at (at_drop v309_at)))) (at_cut (r' := 1792) (c' := 1536) (at_z rfl r_77_at (at_drop v309_at))))) (at_cut (r' := 1536) (c' := 1664) (at_under (at_keep below mask_bot (at_cut (r' := 1536) (c' := 1536) (at_z rfl r_77_at (at_drop v309_at)))) (at_cut (r' := 1792) (c' := 1536) (at_z rfl r_77_at (at_drop v309_at))))))))

/-- A tile of the first head's keys. -/
theorem v347_at : At1 (kernelRun2_A.sl.v347 (F := Ideal) c i arg4 harg4 arg8 harg8 arg10 x1 x5) (KX x1 x5 (i 1).val 0) 0 1792 := load_prev (by dsimp only; decide) (at_keys0 (i 1) (at_read at_in) (at_read at_in))

/-- Scores of the first head. -/
theorem r_82_at : At (kernelRun2_A.sl.r_82 (F := Ideal) c i arg3 harg3 arg4 harg4 arg7 harg7 arg8 harg8 arg10 x0 x1 x4 x5) (Z x0 x1 x4 x5 (i 1).val 0) 1792 1792 := by
  unfold kernelRun2_A.sl.r_82 k2_pay137
  exact (at_z rfl (at_cut (r' := 1792) (c' := 0) r_3_at) (at_drop v347_at))

/-- The first head: a running maximum over columns of equal lane. -/
theorem r_83_at : At (kernelRun2_A.sl.r_83 (F := Ideal) c i arg3 harg3 arg4 harg4 arg7 harg7 arg8 harg8 arg10 x0 x1 x4 x5) (runMax (ZM x0 x1 x4 x5 (i 1).val 0) 7) 1792 0 := by
  unfold kernelRun2_A.sl.r_83 k2_pay140 k2_pay138
  exact (at_max1 6 r_79_at (at_pairMax1 (at_cut (r' := 1792) (c' := 1792) (at_keep below mask_bot r_82_at)) (at_cut (r' := 1792) (c' := 1920) (at_keep below mask_bot r_82_at))))

/-- The first head: row maxima along the lanes. -/
theorem r_93_at : At (kernelRun2_A.sl.r_93 (F := Ideal) c i arg3 harg3 arg4 harg4 arg7 harg7 arg8 harg8 arg10 x0 x1 x4 x5) (fun t _ => rowMax (ZM x0 x1 x4 x5 (i 1).val 0) t) 1792 0 := by
  unfold kernelRun2_A.sl.r_93 k2_pay152
  exact (at_lanes (at_rowMax1 7 r_83_at))

/-- The first head: the larger of the halves of a tile, some rows. -/
theorem r_4_at : At (kernelRun2_A.sl.r_4 (F := Ideal) c i arg3 harg3 arg4 harg4 arg7 harg7 arg8 harg8 arg10 x0 x1 x4 x5) (pairMax (ZM x0 x1 x4 x5 (i 1).val 0) 0) 0 0 := by
  unfold kernelRun2_A.sl.r_4 k2_pay23 k2_pay22 k2_pay20
  exact (at_cut (r' := 0) (c' := 0) (at_pairMax1 (at_cut (r' := 0) (c' := 0) (at_under (at_keep below mask_bot (at_cut (r' := 0) (c' := 0) (at_z rfl (at_queries at_in at_in) (at_drop v14_at)))) (at_cut (r' := 256) (c' := 0) (at_z rfl (at_queries at_in at_in) (at_drop v14_at))))) (at_cut (r' := 0) (c' := 128) (at_under (at_keep below mask_bot (at_cut (r' := 0) (c' := 0) (at_z rfl (at_queries at_in at_in) (at_drop v14_at)))) (at_cut (r' := 256) (c' := 0) (at_z rfl (at_queries at_in at_in) (at_drop v14_at)))))))

/-- The first head: row maxima along the lanes. -/
theorem r_85_at : At (kernelRun2_A.sl.r_85 (F := Ideal) c i arg3 harg3 arg4 harg4 arg7 harg7 arg8 harg8 arg10 x0 x1 x4 x5) (fun t _ => rowMax (ZM x0 x1 x4 x5 (i 1).val 0) t) 0 0 := by
  unfold kernelRun2_A.sl.r_85 k2_pay144
  exact (at_lanes (at_rowMax1 0 r_4_at))

/-- The first head: the larger of the halves of a tile, some rows. -/
theorem r_5_at : At (kernelRun2_A.sl.r_5 (F := Ideal) c i arg3 harg3 arg4 harg4 arg7 harg7 arg8 harg8 arg10 x0 x1 x4 x5) (pairMax (ZM x0 x1 x4 x5 (i 1).val 0) 0) 256 0 := by
  unfold kernelRun2_A.sl.r_5 k2_pay24 k2_pay22 k2_pay20
  exact (at_cut (r' := 256) (c' := 0) (at_pairMax1 (at_cut (r' := 0) (c' := 0) (at_under (at_keep below mask_bot (at_cut (r' := 0) (c' := 0) (at_z rfl (at_queries at_in at_in) (at_drop v14_at)))) (at_cut (r' := 256) (c' := 0) (at_z rfl (at_queries at_in at_in) (at_drop v14_at))))) (at_cut (r' := 0) (c' := 128) (at_under (at_keep below mask_bot (at_cut (r' := 0) (c' := 0) (at_z rfl (at_queries at_in at_in) (at_drop v14_at)))) (at_cut (r' := 256) (c' := 0) (at_z rfl (at_queries at_in at_in) (at_drop v14_at)))))))

/-- The first head: a running maximum over columns of equal lane. -/
theorem r_21_at : At (kernelRun2_A.sl.r_21 (F := Ideal) c i arg3 harg3 arg4 harg4 arg7 harg7 arg8 harg8 arg10 x0 x1 x4 x5) (runMax (ZM x0 x1 x4 x5 (i 1).val 0) 1) 256 0 := by
  unfold kernelRun2_A.sl.r_21 k2_pay45 k2_pay44 k2_pay42
  exact (at_max1 0 r_5_at (at_cut (r' := 256) (c' := 0) (at_pairMax1 (at_cut (r' := 256) (c' := 256) (at_under (at_keep below mask_bot (at_cut (r' := 256) (c' := 256) (at_z rfl (at_cut (r' := 256) (c' := 0) r_3_at) (at_drop v59_at)))) (at_cut (r' := 512) (c' := 256) (at_z rfl (at_cut (r' := 256) (c' := 0) r_3_at) (at_drop v59_at))))) (at_cut (r' := 256) (c' := 384) (at_under (at_keep below mask_bot (at_cut (r' := 256) (c' := 256) (at_z rfl (at_cut (r' := 256) (c' := 0) r_3_at) (at_drop v59_at)))) (at_cut (r' := 512) (c' := 256) (at_z rfl (at_cut (r' := 256) (c' := 0) r_3_at) (at_drop v59_at))))))))

/-- The first head: row maxima along the lanes. -/
theorem r_86_at : At (kernelRun2_A.sl.r_86 (F := Ideal) c i arg3 harg3 arg4 harg4 arg7 harg7 arg8 harg8 arg10 x0 x1 x4 x5) (fun t _ => rowMax (ZM x0 x1 x4 x5 (i 1).val 0) t) 256 0 := by
  unfold kernelRun2_A.sl.r_86 k2_pay145
  exact (at_lanes (at_rowMax1 1 r_21_at))

/-- The first head: the larger of the halves of a tile, some rows. -/
theorem r_6_at : At (kernelRun2_A.sl.r_6 (F := Ideal) c i arg3 harg3 arg4 harg4 arg7 harg7 arg8 harg8 arg10 x0 x1 x4 x5) (pairMax (ZM x0 x1 x4 x5 (i 1).val 0) 0) 512 0 := by
  unfold kernelRun2_A.sl.r_6 k2_pay25 k2_pay22 k2_pay20
  exact (at_cut (r' := 512) (c' := 0) (at_pairMax1 (at_cut (r' := 0) (c' := 0) (at_under (at_keep below mask_bot (at_cut (r' := 0) (c' := 0) (at_z rfl (at_queries at_in at_in) (at_drop v14_at)))) (at_cut (r' := 256) (c' := 0) (at_z rfl (at_queries at_in at_in) (at_drop v14_at))))) (at_cut (r' := 0) (c' := 128) (at_under (at_keep below mask_bot (at_cut (r' := 0) (c' := 0) (at_z rfl (at_queries at_in at_in) (at_drop v14_at)))) (at_cut (r' := 256) (c' := 0) (at_z rfl (at_queries at_in at_in) (at_drop v14_at)))))))

/-- The first head: a running maximum over columns of equal lane. -/
theorem r_22_at : At (kernelRun2_A.sl.r_22 (F := Ideal) c i arg3 harg3 arg4 harg4 arg7 harg7 arg8 harg8 arg10 x0 x1 x4 x5) (runMax (ZM x0 x1 x4 x5 (i 1).val 0) 1) 512 0 := by
  unfold kernelRun2_A.sl.r_22 k2_pay46 k2_pay44 k2_pay42
  exact (at_max1 0 r_6_at (at_cut (r' := 512) (c' := 0) (at_pairMax1 (at_cut (r' := 256) (c' := 256) (at_under (at_keep below mask_bot (at_cut (r' := 256) (c' := 256) (at_z rfl (at_cut (r' := 256) (c' := 0) r_3_at) (at_drop v59_at)))) (at_cut (r' := 512) (c' := 256) (at_z rfl (at_cut (r' := 256) (c' := 0) r_3_at) (at_drop v59_at))))) (at_cut (r' := 256) (c' := 384) (at_under (at_keep below mask_bot (at_cut (r' := 256) (c' := 256) (at_z rfl (at_cut (r' := 256) (c' := 0) r_3_at) (at_drop v59_at)))) (at_cut (r' := 512) (c' := 256) (at_z rfl (at_cut (r' := 256) (c' := 0) r_3_at) (at_drop v59_at))))))))

/-- The first head: a running maximum over columns of equal lane. -/
theorem r_38_at : At (kernelRun2_A.sl.r_38 (F := Ideal) c i arg3 harg3 arg4 harg4 arg7 harg7 arg8 harg8 arg10 x0 x1 x4 x5) (runMax (ZM x0 x1 x4 x5 (i 1).val 0) 2) 512 0 := by
  unfold kernelRun2_A.sl.r_38 k2_pay67 k2_pay66 k2_pay64
  exact (at_max1 1 r_22_at (at_cut (r' := 512) (c' := 0) (at_pairMax1 (at_cut (r' := 512) (c' := 512) (at_under (at_keep below mask_bot (at_cut (r' := 512) (c' := 512) (at_z rfl (at_cut (r' := 512) (c' := 0) r_3_at) (at_drop v117_at)))) (at_cut (r' := 768) (c' := 512) (at_z rfl (at_cut (r' := 512) (c' := 0) r_3_at) (at_drop v117_at))))) (at_cut (r' := 512) (c' := 640) (at_under (at_keep below mask_bot (at_cut (r' := 512) (c' := 512) (at_z rfl (at_cut (r' := 512) (c' := 0) r_3_at) (at_drop v117_at)))) (at_cut (r' := 768) (c' := 512) (at_z rfl (at_cut (r' := 512) (c' := 0) r_3_at) (at_drop v117_at))))))))

/-- The first head: row maxima along the lanes. -/
theorem r_87_at : At (kernelRun2_A.sl.r_87 (F := Ideal) c i arg3 harg3 arg4 harg4 arg7 harg7 arg8 harg8 arg10 x0 x1 x4 x5) (fun t _ => rowMax (ZM x0 x1 x4 x5 (i 1).val 0) t) 512 0 := by
  unfold kernelRun2_A.sl.r_87 k2_pay146
  exact (at_lanes (at_rowMax1 2 r_38_at))

/-- The first head: the larger of the halves of a tile, some rows. -/
theorem r_7_at : At (kernelRun2_A.sl.r_7 (F := Ideal) c i arg3 harg3 arg4 harg4 arg7 harg7 arg8 harg8 arg10 x0 x1 x4 x5) (pairMax (ZM x0 x1 x4 x5 (i 1).val 0) 0) 768 0 := by
  unfold kernelRun2_A.sl.r_7 k2_pay26 k2_pay22 k2_pay20
  exact (at_cut (r' := 768) (c' := 0) (at_pairMax1 (at_cut (r' := 0) (c' := 0) (at_under (at_keep below mask_bot (at_cut (r' := 0) (c' := 0) (at_z rfl (at_queries at_in at_in) (at_drop v14_at)))) (at_cut (r' := 256) (c' := 0) (at_z rfl (at_queries at_in at_in) (at_drop v14_at))))) (at_cut (r' := 0) (c' := 128) (at_under (at_keep below mask_bot (at_cut (r' := 0) (c' := 0) (at_z rfl (at_queries at_in at_in) (at_drop v14_at)))) (at_cut (r' := 256) (c' := 0) (at_z rfl (at_queries at_in at_in) (at_drop v14_at)))))))

/-- The first head: a running maximum over columns of equal lane. -/
theorem r_23_at : At (kernelRun2_A.sl.r_23 (F := Ideal) c i arg3 harg3 arg4 harg4 arg7 harg7 arg8 harg8 arg10 x0 x1 x4 x5) (runMax (ZM x0 x1 x4 x5 (i 1).val 0) 1) 768 0 := by
  unfold kernelRun2_A.sl.r_23 k2_pay47 k2_pay44 k2_pay42
  exact (at_max1 0 r_7_at (at_cut (r' := 768) (c' := 0) (at_pairMax1 (at_cut (r' := 256) (c' := 256) (at_under (at_keep below mask_bot (at_cut (r' := 256) (c' := 256) (at_z rfl (at_cut (r' := 256) (c' := 0) r_3_at) (at_drop v59_at)))) (at_cut (r' := 512) (c' := 256) (at_z rfl (at_cut (r' := 256) (c' := 0) r_3_at) (at_drop v59_at))))) (at_cut (r' := 256) (c' := 384) (at_under (at_keep below mask_bot (at_cut (r' := 256) (c' := 256) (at_z rfl (at_cut (r' := 256) (c' := 0) r_3_at) (at_drop v59_at)))) (at_cut (r' := 512) (c' := 256) (at_z rfl (at_cut (r' := 256) (c' := 0) r_3_at) (at_drop v59_at))))))))

/-- The first head: a running maximum over columns of equal lane. -/
theorem r_39_at : At (kernelRun2_A.sl.r_39 (F := Ideal) c i arg3 harg3 arg4 harg4 arg7 harg7 arg8 harg8 arg10 x0 x1 x4 x5) (runMax (ZM x0 x1 x4 x5 (i 1).val 0) 2) 768 0 := by
  unfold kernelRun2_A.sl.r_39 k2_pay68 k2_pay66 k2_pay64
  exact (at_max1 1 r_23_at (at_cut (r' := 768) (c' := 0) (at_pairMax1 (at_cut (r' := 512) (c' := 512) (at_under (at_keep below mask_bot (at_cut (r' := 512) (c' := 512) (at_z rfl (at_cut (r' := 512) (c' := 0) r_3_at) (at_drop v117_at)))) (at_cut (r' := 768) (c' := 512) (at_z rfl (at_cut (r' := 512) (c' := 0) r_3_at) (at_drop v117_at))))) (at_cut (r' := 512) (c' := 640) (at_under (at_keep below mask_bot (at_cut (r' := 512) (c' := 512) (at_z rfl (at_cut (r' := 512) (c' := 0) r_3_at) (at_drop v117_at)))) (at_cut (r' := 768) (c' := 512) (at_z rfl (at_cut (r' := 512) (c' := 0) r_3_at) (at_drop v117_at))))))))

/-- The first head: a running maximum over columns of equal lane. -/
theorem r_51_at : At (kernelRun2_A.sl.r_51 (F := Ideal) c i arg3 harg3 arg4 harg4 arg7 harg7 arg8 harg8 arg10 x0 x1 x4 x5) (runMax (ZM x0 x1 x4 x5 (i 1).val 0) 3) 768 0 := by
  unfold kernelRun2_A.sl.r_51 k2_pay85 k2_pay84
  exact (at_max1 2 r_39_at (at_cut (r' := 768) (c' := 0) (at_pairMax1 (at_cut (r' := 768) (c' := 768) r_50_at) (at_cut (r' := 768) (c' := 896) r_50_at))))

/-- The first head: row maxima along the lanes. -/
theorem r_88_at : At (kernelRun2_A.sl.r_88 (F := Ideal) c i arg3 harg3 arg4 harg4 arg7 harg7 arg8 harg8 arg10 x0 x1 x4 x5) (fun t _ => rowMax (ZM x0 x1 x4 x5 (i 1).val 0) t) 768 0 := by
  unfold kernelRun2_A.sl.r_88 k2_pay147
  exact (at_lanes (at_rowMax1 3 r_51_at))

/-- The first head: the larger of the halves of a tile, some rows. -/
theorem r_8_at : At (kernelRun2_A.sl.r_8 (F := Ideal) c i arg3 harg3 arg4 harg4 arg7 harg7 arg8 harg8 arg10 x0 x1 x4 x5) (pairMax (ZM x0 x1 x4 x5 (i 1).val 0) 0) 1024 0 := by
  unfold kernelRun2_A.sl.r_8 k2_pay27 k2_pay22 k2_pay20
  exact (at_cut (r' := 1024) (c' := 0) (at_pairMax1 (at_cut (r' := 0) (c' := 0) (at_under (at_keep below mask_bot (at_cut (r' := 0) (c' := 0) (at_z rfl (at_queries at_in at_in) (at_drop v14_at)))) (at_cut (r' := 256) (c' := 0) (at_z rfl (at_queries at_in at_in) (at_drop v14_at))))) (at_cut (r' := 0) (c' := 128) (at_under (at_keep below mask_bot (at_cut (r' := 0) (c' := 0) (at_z rfl (at_queries at_in at_in) (at_drop v14_at)))) (at_cut (r' := 256) (c' := 0) (at_z rfl (at_queries at_in at_in) (at_drop v14_at)))))))

/-- The first head: a running maximum over columns of equal lane. -/
theorem r_24_at : At (kernelRun2_A.sl.r_24 (F := Ideal) c i arg3 harg3 arg4 harg4 arg7 harg7 arg8 harg8 arg10 x0 x1 x4 x5) (runMax (ZM x0 x1 x4 x5 (i 1).val 0) 1) 1024 0 := by
  unfold kernelRun2_A.sl.r_24 k2_pay48 k2_pay44 k2_pay42
  exact (at_max1 0 r_8_at (at_cut (r' := 1024) (c' := 0) (at_pairMax1 (at_cut (r' := 256) (c' := 256) (at_under (at_keep below mask_bot (at_cut (r' := 256) (c' := 256) (at_z rfl (at_cut (r' := 256) (c' := 0) r_3_at) (at_drop v59_at)))) (at_cut (r' := 512) (c' := 256) (at_z rfl (at_cut (r' := 256) (c' := 0) r_3_at) (at_drop v59_at))))) (at_cut (r' := 256) (c' := 384) (at_under (at_keep below mask_bot (at_cut (r' := 256) (c' := 256) (at_z rfl (at_cut (r' := 256) (c' := 0) r_3_at) (at_drop v59_at)))) (at_cut (r' := 512) (c' := 256) (at_z rfl (at_cut (r' := 256) (c' := 0) r_3_at) (at_drop v59_at))))))))

/-- The first head: a running maximum over columns of equal lane. -/
theorem r_40_at : At (kernelRun2_A.sl.r_40 (F := Ideal) c i arg3 harg3 arg4 harg4 arg7 harg7 arg8 harg8 arg10 x0 x1 x4 x5) (runMax (ZM x0 x1 x4 x5 (i 1).val 0) 2) 1024 0 := by
  unfold kernelRun2_A.sl.r_40 k2_pay69
  exact (at_max1 1 r_24_at (at_cut (r' := 1024) (c' := 0) r_37_at))

/-- The first head: a running maximum over columns of equal lane. -/
theorem r_52_at : At (kernelRun2_A.sl.r_52 (F := Ideal) c i arg3 harg3 arg4 harg4 arg7 harg7 arg8 harg8 arg10 x0 x1 x4 x5) (runMax (ZM x0 x1 x4 x5 (i 1).val 0) 3) 1024 0 := by
  unfold kernelRun2_A.sl.r_52 k2_pay86 k2_pay84
  exact (at_max1 2 r_40_at (at_cut (r' := 1024) (c' := 0) (at_pairMax1 (at_cut (r' := 768) (c' := 768) r_50_at) (at_cut (r' := 768) (c' := 896) r_50_at))))

/-- The first head: a running maximum over columns of equal lane. -/
theorem r_62_at : At (kernelRun2_A.sl.r_62 (F := Ideal) c i arg3 harg3 arg4 harg4 arg7 harg7 arg8 harg8 arg10 x0 x1 x4 x5) (runMax (ZM x0 x1 x4 x5 (i 1).val 0) 4) 1024 0 := by
  unfold kernelRun2_A.sl.r_62 k2_pay102 k2_pay101 k2_pay99
  exact (at_max1 3 r_52_at (at_cut (r' := 1024) (c' := 0) (at_pairMax1 (at_cut (r' := 1024) (c' := 1024) (at_under (at_keep below mask_bot (at_cut (r' := 1024) (c' := 1024) r_61_at)) (at_cut (r' := 1280) (c' := 1024) r_61_at))) (at_cut (r' := 1024) (c' := 1152) (at_under (at_keep below mask_bot (at_cut (r' := 1024) (c' := 1024) r_61_at)) (at_cut (r' := 1280) (c' := 1024) r_61_at))))))

/-- The first head: row maxima along the lanes. -/
theorem r_89_at : At (kernelRun2_A.sl.r_89 (F := Ideal) c i arg3 harg3 arg4 harg4 arg7 harg7 arg8 harg8 arg10 x0 x1 x4 x5) (fun t _ => rowMax (ZM x0 x1 x4 x5 (i 1).val 0) t) 1024 0 := by
  unfold kernelRun2_A.sl.r_89 k2_pay148
  exact (at_rowMax1 4 r_62_at)

/-- The first head: row maxima along the lanes. -/
theorem r_90_at : At (kernelRun2_A.sl.r_90 (F := Ideal) c i arg3 harg3 arg4 harg4 arg7 harg7 arg8 harg8 arg10 x0 x1 x4 x5) (fun t _ => rowMax (ZM x0 x1 x4 x5 (i 1).val 0) t) 1024 0 := by
  unfold kernelRun2_A.sl.r_90 k2_pay149
  exact (at_lanes r_89_at)

/-- The first head: the larger of the halves of a tile, some rows. -/
theorem r_9_at : At (kernelRun2_A.sl.r_9 (F := Ideal) c i arg3 harg3 arg4 harg4 arg7 harg7 arg8 harg8 arg10 x0 x1 x4 x5) (pairMax (ZM x0 x1 x4 x5 (i 1).val 0) 0) 1280 0 := by
  unfold kernelRun2_A.sl.r_9 k2_pay28 k2_pay22 k2_pay20
  exact (at_cut (r' := 1280) (c' := 0) (at_pairMax1 (at_cut (r' := 0) (c' := 0) (at_under (at_keep below mask_bot (at_cut (r' := 0) (c' := 0) (at_z rfl (at_queries at_in at_in) (at_drop v14_at)))) (at_cut (r' := 256) (c' := 0) (at_z rfl (at_queries at_in at_in) (at_drop v14_at))))) (at_cut (r' := 0) (c' := 128) (at_under (at_keep below mask_bot (at_cut (r' := 0) (c' := 0) (at_z rfl (at_queries at_in at_in) (at_drop v14_at)))) (at_cut (r' := 256) (c' := 0) (at_z rfl (at_queries at_in at_in) (at_drop v14_at)))))))

/-- The first head: a running maximum over columns of equal lane. -/
theorem r_25_at : At (kernelRun2_A.sl.r_25 (F := Ideal) c i arg3 harg3 arg4 harg4 arg7 harg7 arg8 harg8 arg10 x0 x1 x4 x5) (runMax (ZM x0 x1 x4 x5 (i 1).val 0) 1) 1280 0 := by
  unfold kernelRun2_A.sl.r_25 k2_pay49 k2_pay44 k2_pay42
  exact (at_max1 0 r_9_at (at_cut (r' := 1280) (c' := 0) (at_pairMax1 (at_cut (r' := 256) (c' := 256) (at_under (at_keep below mask_bot (at_cut (r' := 256) (c' := 256) (at_z rfl (at_cut (r' := 256) (c' := 0) r_3_at) (at_drop v59_at)))) (at_cut (r' := 512) (c' := 256) (at_z rfl (at_cut (r' := 256) (c' := 0) r_3_at) (at_drop v59_at))))) (at_cut (r' := 256) (c' := 384) (at_under (at_keep below mask_bot (at_cut (r' := 256) (c' := 256) (at_z rfl (at_cut (r' := 256) (c' := 0) r_3_at) (at_drop v59_at)))) (at_cut (r' := 512) (c' := 256) (at_z rfl (at_cut (r' := 256) (c' := 0) r_3_at) (at_drop v59_at))))))))

/-- The first head: a running maximum over columns of equal lane. -/
theorem r_41_at : At (kernelRun2_A.sl.r_41 (F := Ideal) c i arg3 harg3 arg4 harg4 arg7 harg7 arg8 harg8 arg10 x0 x1 x4 x5) (runMax (ZM x0 x1 x4 x5 (i 1).val 0) 2) 1280 0 := by
  unfold kernelRun2_A.sl.r_41 k2_pay70
  exact (at_max1 1 r_25_at (at_cut (r' := 1280) (c' := 0) r_37_at))

/-- The first head: a running maximum over columns of equal lane. -/
theorem r_53_at : At (kernelRun2_A.sl.r_53 (F := Ideal) c i arg3 harg3 arg4 harg4 arg7 harg7 arg8 harg8 arg10 x0 x1 x4 x5) (runMax (ZM x0 x1 x4 x5 (i 1).val 0) 3) 1280 0 := by
  unfold kernelRun2_A.sl.r_53 k2_pay87 k2_pay84
  exact (at_max1 2 r_41_at (at_cut (r' := 1280) (c' := 0) (at_pairMax1 (at_cut (r' := 768) (c' := 768) r_50_at) (at_cut (r' := 768) (c' := 896) r_50_at))))

/-- The first head: a running maximum over columns of equal lane. -/
theorem r_63_at : At (kernelRun2_A.sl.r_63 (F := Ideal) c i arg3 harg3 arg4 harg4 arg7 harg7 arg8 harg8 arg10 x0 x1 x4 x5) (runMax (ZM x0 x1 x4 x5 (i 1).val 0) 4) 1280 0 := by
  unfold kernelRun2_A.sl.r_63 k2_pay103 k2_pay101 k2_pay99
  exact (at_max1 3 r_53_at (at_cut (r' := 1280) (c' := 0) (at_pairMax1 (at_cut (r' := 1024) (c' := 1024) (at_under (at_keep below mask_bot (at_cut (r' := 1024) (c' := 1024) r_61_at)) (at_cut (r' := 1280) (c' := 1024) r_61_at))) (at_cut (r' := 1024) (c' := 1152) (at_under (at_keep below mask_bot (at_cut (r' := 1024) (c' := 1024) r_61_at)) (at_cut (r' := 1280) (c' := 1024) r_61_at))))))

/-- The first head: a running maximum over columns of equal lane. -/
theorem r_71_at : At (kernelRun2_A.sl.r_71 (F := Ideal) c i arg3 harg3 arg4 harg4 arg7 harg7 arg8 harg8 arg10 x0 x1 x4 x5) (runMax (ZM x0 x1 x4 x5 (i 1).val 0) 5) 1280 0 := by
  unfold kernelRun2_A.sl.r_71 k2_pay117 k2_pay116 k2_pay114
  exact (at_max1 4 r_63_at (at_cut (r' := 1280) (c' := 0) (at_pairMax1 (at_cut (r' := 1280) (c' := 1280) (at_under (at_keep below mask_bot (at_cut (r' := 1280) (c' := 1280) (at_z rfl r_70_at (at_drop v267_at)))) (at_cut (r' := 1536) (c' := 1280) (at_z rfl r_70_at (at_drop v267_at))))) (at_cut (r' := 1280) (c' := 1408) (at_under (at_keep below mask_bot (at_cut (r' := 1280) (c' := 1280) (at_z rfl r_70_at (at_drop v267_at)))) (at_cut (r' := 1536) (c' := 1280) (at_z rfl r_70_at (at_drop v267_at))))))))

/-- The first head: row maxima along the lanes. -/
theorem r_91_at : At (kernelRun2_A.sl.r_91 (F := Ideal) c i arg3 harg3 arg4 harg4 arg7 harg7 arg8 harg8 arg10 x0 x1 x4 x5) (fun t _ => rowMax (ZM x0 x1 x4 x5 (i 1).val 0) t) 1280 0 := by
  unfold kernelRun2_A.sl.r_91 k2_pay150
  exact (at_lanes (at_rowMax1 5 r_71_at))

/-- The first head: the larger of the halves of a tile, some rows. -/
theorem r_10_at : At (kernelRun2_A.sl.r_10 (F := Ideal) c i arg3 harg3 arg4 harg4 arg7 harg7 arg8 harg8 arg10 x0 x1 x4 x5) (pairMax (ZM x0 x1 x4 x5 (i 1).val 0) 0) 1536 0 := by
  unfold kernelRun2_A.sl.r_10 k2_pay29 k2_pay22 k2_pay20
  exact (at_cut (r' := 1536) (c' := 0) (at_pairMax1 (at_cut (r' := 0) (c' := 0) (at_under (at_keep below mask_bot (at_cut (r' := 0) (c' := 0) (at_z rfl (at_queries at_in at_in) (at_drop v14_at)))) (at_cut (r' := 256) (c' := 0) (at_z rfl (at_queries at_in at_in) (at_drop v14_at))))) (at_cut (r' := 0) (c' := 128) (at_under (at_keep below mask_bot (at_cut (r' := 0) (c' := 0) (at_z rfl (at_queries at_in at_in) (at_drop v14_at)))) (at_cut (r' := 256) (c' := 0) (at_z rfl (at_queries at_in at_in) (at_drop v14_at)))))))

/-- The first head: a running maximum over columns of equal lane. -/
theorem r_26_at : At (kernelRun2_A.sl.r_26 (F := Ideal) c i arg3 harg3 arg4 harg4 arg7 harg7 arg8 harg8 arg10 x0 x1 x4 x5) (runMax (ZM x0 x1 x4 x5 (i 1).val 0) 1) 1536 0 := by
  unfold kernelRun2_A.sl.r_26 k2_pay50 k2_pay44 k2_pay42
  exact (at_max1 0 r_10_at (at_cut (r' := 1536) (c' := 0) (at_pairMax1 (at_cut (r' := 256) (c' := 256) (at_under (at_keep below mask_bot (at_cut (r' := 256) (c' := 256) (at_z rfl (at_cut (r' := 256) (c' := 0) r_3_at) (at_drop v59_at)))) (at_cut (r' := 512) (c' := 256) (at_z rfl (at_cut (r' := 256) (c' := 0) r_3_at) (at_drop v59_at))))) (at_cut (r' := 256) (c' := 384) (at_under (at_keep below mask_bot (at_cut (r' := 256) (c' := 256) (at_z rfl (at_cut (r' := 256) (c' := 0) r_3_at) (at_drop v59_at)))) (at_cut (r' := 512) (c' := 256) (at_z rfl (at_cut (r' := 256) (c' := 0) r_3_at) (at_drop v59_at))))))))

/-- The first head: a running maximum over columns of equal lane. -/
theorem r_42_at : At (kernelRun2_A.sl.r_42 (F := Ideal) c i arg3 harg3 arg4 harg4 arg7 harg7 arg8 harg8 arg10 x0 x1 x4 x5) (runMax (ZM x0 x1 x4 x5 (i 1).val 0) 2) 1536 0 := by
  unfold kernelRun2_A.sl.r_42 k2_pay71
  exact (at_max1 1 r_26_at (at_cut (r' := 1536) (c' := 0) r_37_at))

/-- The first head: a running maximum over columns of equal lane. -/
theorem r_54_at : At (kernelRun2_A.sl.r_54 (F := Ideal) c i arg3 harg3 arg4 harg4 arg7 harg7 arg8 harg8 arg10 x0 x1 x4 x5) (runMax (ZM x0 x1 x4 x5 (i 1).val 0) 3) 1536 0 := by
  unfold kernelRun2_A.sl.r_54 k2_pay88 k2_pay84
  exact (at_max1 2 r_42_at (at_cut (r' := 1536) (c' := 0) (at_pairMax1 (at_cut (r' := 768) (c' := 768) r_50_at) (at_cut (r' := 768) (c' := 896) r_50_at))))

/-- The first head: a running maximum over columns of equal lane. -/
theorem r_64_at : At (kernelRun2_A.sl.r_64 (F := Ideal) c i arg3 harg3 arg4 harg4 arg7 harg7 arg8 harg8 arg10 x0 x1 x4 x5) (runMax (ZM x0 x1 x4 x5 (i 1).val 0) 4) 1536 0 := by
  unfold kernelRun2_A.sl.r_64 k2_pay104 k2_pay101 k2_pay99
  exact (at_max1 3 r_54_at (at_cut (r' := 1536) (c' := 0) (at_pairMax1 (at_cut (r' := 1024) (c' := 1024) (at_under (at_keep below mask_bot (at_cut (r' := 1024) (c' := 1024) r_61_at)) (at_cut (r' := 1280) (c' := 1024) r_61_at))) (at_cut (r' := 1024) (c' := 1152) (at_under (at_keep below mask_bot (at_cut (r' := 1024) (c' := 1024) r_61_at)) (at_cut (r' := 1280) (c' := 1024) r_61_at))))))

/-- The first head: a running maximum over columns of equal lane. -/
theorem r_72_at : At (kernelRun2_A.sl.r_72 (F := Ideal) c i arg3 harg3 arg4 harg4 arg7 harg7 arg8 harg8 arg10 x0 x1 x4 x5) (runMax (ZM x0 x1 x4 x5 (i 1).val 0) 5) 1536 0 := by
  unfold kernelRun2_A.sl.r_72 k2_pay118 k2_pay116 k2_pay114
  exact (at_max1 4 r_64_at (at_cut (r' := 1536) (c' := 0) (at_pairMax1 (at_cut (r' := 1280) (c' := 1280) (at_under (at_keep below mask_bot (at_cut (r' := 1280) (c' := 1280) (at_z rfl r_70_at (at_drop v267_at)))) (at_cut (r' := 1536) (c' := 1280) (at_z rfl r_70_at (at_drop v267_at))))) (at_cut (r' := 1280) (c' := 1408) (at_under (at_keep below mask_bot (at_cut (r' := 1280) (c' := 1280) (at_z rfl r_70_at (at_drop v267_at)))) (at_cut (r' := 1536) (c' := 1280) (at_z rfl r_70_at (at_drop v267_at))))))))

/-- The first head: a running maximum over columns of equal lane. -/
theorem r_78_at : At (kernelRun2_A.sl.r_78 (F := Ideal) c i arg3 harg3 arg4 harg4 arg7 harg7 arg8 harg8 arg10 x0 x1 x4 x5) (runMax (ZM x0 x1 x4 x5 (i 1).val 0) 6) 1536 0 := by
  unfold kernelRun2_A.sl.r_78 k2_pay130 k2_pay129 k2_pay127
  exact (at_max1 5 r_72_at (at_cut (r' := 1536) (c' := 0) (at_pairMax1 (at_cut (r' := 1536) (c' := 1536) (at_under (at_keep below mask_bot (at_cut (r' := 1536) (c' := 1536) (at_z rfl r_77_at (at_drop v309_at)))) (at_cut (r' := 1792) (c' := 1536) (at_z rfl r_77_at (at_drop v309_at))))) (at_cut (r' := 1536) (c' := 1664) (at_under (at_keep below mask_bot (at_cut (r' := 1536) (c' := 1536) (at_z rfl r_77_at (at_drop v309_at)))) (at_cut (r' := 1792) (c' := 1536) (at_z rfl r_77_at (at_drop v309_at))))))))

/-- The first head: row maxima along the lanes. -/
theorem r_92_at : At (kernelRun2_A.sl.r_92 (F := Ideal) c i arg3 harg3 arg4 harg4 arg7 harg7 arg8 harg8 arg10 x0 x1 x4 x5) (fun t _ => rowMax (ZM x0 x1 x4 x5 (i 1).val 0) t) 1536 0 := by
  unfold kernelRun2_A.sl.r_92 k2_pay151
  exact (at_lanes (at_rowMax1 6 r_78_at))

/-- Masked scores of the first head. -/
theorem v438_at : At1 (a := 2048) (b := 256) (kernelRun2_A.sl.v438 (F := Ideal) c i arg3 harg3 arg4 harg4 arg7 harg7 arg8 harg8 arg10 arg12 x0 x1 x4 x5) (ZM x0 x1 x4 x5 (i 1).val 0) 0 0 := by
  unfold kernelRun2_A.sl.v438 kernelRun2_A.sl.HS2_16
  simp (disch := decide) only [↓ View.readCov_skip, ↓ View.readCov_cons_toLoadRect]
  unfold k2_pay21 k2_pay20
  exact (at_lead (at_under (at_keep below mask_bot (at_cut (r' := 0) (c' := 0) (at_z rfl (at_queries at_in at_in) (at_drop v14_at)))) (at_cut (r' := 256) (c' := 0) (at_z rfl (at_queries at_in at_in) (at_drop v14_at)))))

/-- A tile of the first head's values. -/
theorem v448_at : At1 (kernelRun2_A.sl.v448 (F := Ideal) c arg5 harg5 arg11 x2) (VX x2 0) 0 0 := load_prev (by dsimp only; decide) (at_vals0 (at_read at_in))

/-- The first head: weighted sums so far, a block of rows. -/
theorem r_102_at : At (kernelRun2_A.sl.r_102 (F := Ideal) c i arg3 harg3 arg4 harg4 arg5 harg5 arg7 harg7 arg8 harg8 arg10 arg11 arg12 x0 x1 x2 x4 x5) (AX x0 x1 x2 x4 x5 (i 1).val 0 0) 0 0 := by
  unfold kernelRun2_A.sl.r_102 k2_pay161 k2_pay164 k2_pay163
  exact (at_accZ none_all (at_cut (r' := 0) (c' := 0) (at_sum rfl (at_truncf (at_exp2 (at_beside (at_sub (at_cut (r' := 0) (c' := 0) (at_drop v438_at)) (at_stack (.cons r_85_at (.cons r_86_at (.cons r_87_at (.cons r_88_at (.cons r_90_at (.cons r_91_at (.cons r_92_at (.cons r_93_at .nil)))))))))) (at_sub (at_cut (r' := 0) (c' := 128) (at_drop v438_at)) (at_stack (.cons r_85_at (.cons r_86_at (.cons r_87_at (.cons r_88_at (.cons r_90_at (.cons r_91_at (.cons r_92_at (.cons r_93_at .nil))))))))))))) (at_drop v448_at))))

/-- The first head: weighted sums so far, a block of rows. -/
theorem r_103_at : At (kernelRun2_A.sl.r_103 (F := Ideal) c i arg3 harg3 arg4 harg4 arg5 harg5 arg7 harg7 arg8 harg8 arg10 arg11 arg12 x0 x1 x2 x4 x5) (AX x0 x1 x2 x4 x5 (i 1).val 0 0) 256 0 := by
  unfold kernelRun2_A.sl.r_103 k2_pay161 k2_pay165 k2_pay163
  exact (at_accZ none_all (at_cut (r' := 256) (c' := 0) (at_sum rfl (at_truncf (at_exp2 (at_beside (at_sub (at_cut (r' := 0) (c' := 0) (at_drop v438_at)) (at_stack (.cons r_85_at (.cons r_86_at (.cons r_87_at (.cons r_88_at (.cons r_90_at (.cons r_91_at (.cons r_92_at (.cons r_93_at .nil)))))))))) (at_sub (at_cut (r' := 0) (c' := 128) (at_drop v438_at)) (at_stack (.cons r_85_at (.cons r_86_at (.cons r_87_at (.cons r_88_at (.cons r_90_at (.cons r_91_at (.cons r_92_at (.cons r_93_at .nil))))))))))))) (at_drop v448_at))))

/-- Masked scores of the first head. -/
theorem v496_at : At1 (a := 1792) (b := 256) (kernelRun2_A.sl.v496 (F := Ideal) c i arg3 harg3 arg4 harg4 arg7 harg7 arg8 harg8 arg10 arg12 x0 x1 x4 x5) (ZM x0 x1 x4 x5 (i 1).val 0) 256 256 := by
  unfold kernelRun2_A.sl.v496 kernelRun2_A.sl.HS2_16
  simp (disch := decide) only [↓ View.readCov_skip, ↓ View.readCov_cons_toLoadRect]
  unfold k2_pay43 k2_pay42
  exact (at_lead (at_under (at_keep below mask_bot (at_cut (r' := 256) (c' := 256) (at_z rfl (at_cut (r' := 256) (c' := 0) r_3_at) (at_drop v59_at)))) (at_cut (r' := 512) (c' := 256) (at_z rfl (at_cut (r' := 256) (c' := 0) r_3_at) (at_drop v59_at)))))

/-- A tile of the first head's values. -/
theorem v506_at : At1 (kernelRun2_A.sl.v506 (F := Ideal) c arg5 harg5 arg11 x2) (VX x2 0) 256 0 := load_prev (by dsimp only; decide) (at_vals0 (at_read at_in))

/-- The first head: weighted sums so far, a block of rows. -/
theorem r_119_at : At (kernelRun2_A.sl.r_119 (F := Ideal) c i arg3 harg3 arg4 harg4 arg5 harg5 arg7 harg7 arg8 harg8 arg10 arg11 arg12 x0 x1 x2 x4 x5) (AX x0 x1 x2 x4 x5 (i 1).val 0 1) 256 0 := by
  unfold kernelRun2_A.sl.r_119 k2_pay182 k2_pay181
  exact (at_accL 0 r_103_at (at_cut (r' := 256) (c' := 0) (at_sum rfl (at_truncf (at_exp2 (at_beside (at_sub (at_cut (r' := 256) (c' := 256) (at_drop v496_at)) (at_stack (.cons r_86_at (.cons r_87_at (.cons r_88_at (.cons r_90_at (.cons r_91_at (.cons r_92_at (.cons r_93_at .nil))))))))) (at_sub (at_cut (r' := 256) (c' := 384) (at_drop v496_at)) (at_stack (.cons r_86_at (.cons r_87_at (.cons r_88_at (.cons r_90_at (.cons r_91_at (.cons r_92_at (.cons r_93_at .nil)))))))))))) (at_drop v506_at))))

/-- The first head: weighted sums so far, a block of rows. -/
theorem r_104_at : At (kernelRun2_A.sl.r_104 (F := Ideal) c i arg3 harg3 arg4 harg4 arg5 harg5 arg7 harg7 arg8 harg8 arg10 arg11 arg12 x0 x1 x2 x4 x5) (AX x0 x1 x2 x4 x5 (i 1).val 0 0) 512 0 := by
  unfold kernelRun2_A.sl.r_104 k2_pay161 k2_pay166 k2_pay163
  exact (at_accZ none_all (at_cut (r' := 512) (c' := 0) (at_sum rfl (at_truncf (at_exp2 (at_beside (at_sub (at_cut (r' := 0) (c' := 0) (at_drop v438_at)) (at_stack (.cons r_85_at (.cons r_86_at (.cons r_87_at (.cons r_88_at (.cons r_90_at (.cons r_91_at (.cons r_92_at (.cons r_93_at .nil)))))))))) (at_sub (at_cut (r' := 0) (c' := 128) (at_drop v438_at)) (at_stack (.cons r_85_at (.cons r_86_at (.cons r_87_at (.cons r_88_at (.cons r_90_at (.cons r_91_at (.cons r_92_at (.cons r_93_at .nil))))))))))))) (at_drop v448_at))))

/-- The first head: weighted sums so far, a block of rows. -/
theorem r_120_at : At (kernelRun2_A.sl.r_120 (F := Ideal) c i arg3 harg3 arg4 harg4 arg5 harg5 arg7 harg7 arg8 harg8 arg10 arg11 arg12 x0 x1 x2 x4 x5) (AX x0 x1 x2 x4 x5 (i 1).val 0 1) 512 0 := by
  unfold kernelRun2_A.sl.r_120 k2_pay183 k2_pay181
  exact (at_accL 0 r_104_at (at_cut (r' := 512) (c' := 0) (at_sum rfl (at_truncf (at_exp2 (at_beside (at_sub (at_cut (r' := 256) (c' := 256) (at_drop v496_at)) (at_stack (.cons r_86_at (.cons r_87_at (.cons r_88_at (.cons r_90_at (.cons r_91_at (.cons r_92_at (.cons r_93_at .nil))))))))) (at_sub (at_cut (r' := 256) (c' := 384) (at_drop v496_at)) (at_stack (.cons r_86_at (.cons r_87_at (.cons r_88_at (.cons r_90_at (.cons r_91_at (.cons r_92_at (.cons r_93_at .nil)))))))))))) (at_drop v506_at))))

/-- Masked scores of the first head. -/
theorem v550_at : At1 (a := 1536) (b := 256) (kernelRun2_A.sl.v550 (F := Ideal) c i arg3 harg3 arg4 harg4 arg7 harg7 arg8 harg8 arg10 arg12 x0 x1 x4 x5) (ZM x0 x1 x4 x5 (i 1).val 0) 512 512 := by
  unfold kernelRun2_A.sl.v550 kernelRun2_A.sl.HS2_16
  simp (disch := decide) only [↓ View.readCov_skip, ↓ View.readCov_cons_toLoadRect]
  unfold k2_pay65 k2_pay64
  exact (at_lead (at_under (at_keep below mask_bot (at_cut (r' := 512) (c' := 512) (at_z rfl (at_cut (r' := 512) (c' := 0) r_3_at) (at_drop v117_at)))) (at_cut (r' := 768) (c' := 512) (at_z rfl (at_cut (r' := 512) (c' := 0) r_3_at) (at_drop v117_at)))))

/-- A tile of the first head's values. -/
theorem v560_at : At1 (kernelRun2_A.sl.v560 (F := Ideal) c arg5 harg5 arg11 x2) (VX x2 0) 512 0 := load_prev (by dsimp only; decide) (at_vals0 (at_read at_in))

/-- The first head: weighted sums so far, a block of rows. -/
theorem r_134_at : At (kernelRun2_A.sl.r_134 (F := Ideal) c i arg3 harg3 arg4 harg4 arg5 harg5 arg7 harg7 arg8 harg8 arg10 arg11 arg12 x0 x1 x2 x4 x5) (AX x0 x1 x2 x4 x5 (i 1).val 0 2) 512 0 := by
  unfold kernelRun2_A.sl.r_134 k2_pay199 k2_pay198
  exact (at_accL 1 r_120_at (at_cut (r' := 512) (c' := 0) (at_sum rfl (at_truncf (at_exp2 (at_beside (at_sub (at_cut (r' := 512) (c' := 512) (at_drop v550_at)) (at_stack (.cons r_87_at (.cons r_88_at (.cons r_90_at (.cons r_91_at (.cons r_92_at (.cons r_93_at .nil)))))))) (at_sub (at_cut (r' := 512) (c' := 640) (at_drop v550_at)) (at_stack (.cons r_87_at (.cons r_88_at (.cons r_90_at (.cons r_91_at (.cons r_92_at (.cons r_93_at .nil))))))))))) (at_drop v560_at))))

/-- The first head: weighted sums so far, a block of rows. -/
theorem r_105_at : At (kernelRun2_A.sl.r_105 (F := Ideal) c i arg3 harg3 arg4 harg4 arg5 harg5 arg7 harg7 arg8 harg8 arg10 arg11 arg12 x0 x1 x2 x4 x5) (AX x0 x1 x2 x4 x5 (i 1).val 0 0) 768 0 := by
  unfold kernelRun2_A.sl.r_105 k2_pay161 k2_pay167 k2_pay163
  exact (at_accZ none_all (at_cut (r' := 768) (c' := 0) (at_sum rfl (at_truncf (at_exp2 (at_beside (at_sub (at_cut (r' := 0) (c' := 0) (at_drop v438_at)) (at_stack (.cons r_85_at (.cons r_86_at (.cons r_87_at (.cons r_88_at (.cons r_90_at (.cons r_91_at (.cons r_92_at (.cons r_93_at .nil)))))))))) (at_sub (at_cut (r' := 0) (c' := 128) (at_drop v438_at)) (at_stack (.cons r_85_at (.cons r_86_at (.cons r_87_at (.cons r_88_at (.cons r_90_at (.cons r_91_at (.cons r_92_at (.cons r_93_at .nil))))))))))))) (at_drop v448_at))))

/-- The first head: weighted sums so far, a block of rows. -/
theorem r_121_at : At (kernelRun2_A.sl.r_121 (F := Ideal) c i arg3 harg3 arg4 harg4 arg5 harg5 arg7 harg7 arg8 harg8 arg10 arg11 arg12 x0 x1 x2 x4 x5) (AX x0 x1 x2 x4 x5 (i 1).val 0 1) 768 0 := by
  unfold kernelRun2_A.sl.r_121 k2_pay184 k2_pay181
  exact (at_accL 0 r_105_at (at_cut (r' := 768) (c' := 0) (at_sum rfl (at_truncf (at_exp2 (at_beside (at_sub (at_cut (r' := 256) (c' := 256) (at_drop v496_at)) (at_stack (.cons r_86_at (.cons r_87_at (.cons r_88_at (.cons r_90_at (.cons r_91_at (.cons r_92_at (.cons r_93_at .nil))))))))) (at_sub (at_cut (r' := 256) (c' := 384) (at_drop v496_at)) (at_stack (.cons r_86_at (.cons r_87_at (.cons r_88_at (.cons r_90_at (.cons r_91_at (.cons r_92_at (.cons r_93_at .nil)))))))))))) (at_drop v506_at))))

/-- The first head: weighted sums so far, a block of rows. -/
theorem r_135_at : At (kernelRun2_A.sl.r_135 (F := Ideal) c i arg3 harg3 arg4 harg4 arg5 harg5 arg7 harg7 arg8 harg8 arg10 arg11 arg12 x0 x1 x2 x4 x5) (AX x0 x1 x2 x4 x5 (i 1).val 0 2) 768 0 := by
  unfold kernelRun2_A.sl.r_135 k2_pay200 k2_pay198
  exact (at_accL 1 r_121_at (at_cut (r' := 768) (c' := 0) (at_sum rfl (at_truncf (at_exp2 (at_beside (at_sub (at_cut (r' := 512) (c' := 512) (at_drop v550_at)) (at_stack (.cons r_87_at (.cons r_88_at (.cons r_90_at (.cons r_91_at (.cons r_92_at (.cons r_93_at .nil)))))))) (at_sub (at_cut (r' := 512) (c' := 640) (at_drop v550_at)) (at_stack (.cons r_87_at (.cons r_88_at (.cons r_90_at (.cons r_91_at (.cons r_92_at (.cons r_93_at .nil))))))))))) (at_drop v560_at))))

/-- Masked scores of the first head. -/
theorem v600_at : At1 (a := 1280) (b := 256) (kernelRun2_A.sl.v600 (F := Ideal) c i arg3 harg3 arg4 harg4 arg7 harg7 arg8 harg8 arg10 arg12 x0 x1 x4 x5) (ZM x0 x1 x4 x5 (i 1).val 0) 768 768 := by
  unfold kernelRun2_A.sl.v600 kernelRun2_A.sl.HS2_16
  simp (disch := decide) only [↓ View.readCov_skip, ↓ View.readCov_cons_toLoadRect]
  unfold k2_pay83
  exact (at_lead r_50_at)

/-- A tile of the first head's values. -/
theorem v610_at : At1 (kernelRun2_A.sl.v610 (F := Ideal) c arg5 harg5 arg11 x2) (VX x2 0) 768 0 := load_prev (by dsimp only; decide) (at_vals0 (at_read at_in))

/-- The first head: weighted sums so far, a block of rows. -/
theorem r_149_at : At (kernelRun2_A.sl.r_149 (F := Ideal) c i arg3 harg3 arg4 harg4 arg5 harg5 arg7 harg7 arg8 harg8 arg10 arg11 arg12 x0 x1 x2 x4 x5) (AX x0 x1 x2 x4 x5 (i 1).val 0 3) 768 0 := by
  unfold kernelRun2_A.sl.r_149 k2_pay216 k2_pay215
  exact (at_accL 2 r_135_at (at_cut (r' := 768) (c' := 0) (at_sum rfl (at_truncf (at_exp2 (at_beside (at_sub (at_cut (r' := 768) (c' := 768) (at_drop v600_at)) (at_stack (.cons r_88_at (.cons r_90_at (.cons r_91_at (.cons r_92_at (.cons r_93_at .nil))))))) (at_sub (at_cut (r' := 768) (c' := 896) (at_drop v600_at)) (at_stack (.cons r_88_at (.cons r_90_at (.cons r_91_at (.cons r_92_at (.cons r_93_at .nil)))))))))) (at_drop v610_at))))

/-- The first head: weighted sums so far, a block of rows. -/
theorem r_106_at : At (kernelRun2_A.sl.r_106 (F := Ideal) c i arg3 harg3 arg4 harg4 arg5 harg5 arg7 harg7 arg8 harg8 arg10 arg11 arg12 x0 x1 x2 x4 x5) (AX x0 x1 x2 x4 x5 (i 1).val 0 0) 1024 0 := by
  unfold kernelRun2_A.sl.r_106 k2_pay161 k2_pay168 k2_pay163
  exact (at_accZ none_all (at_cut (r' := 1024) (c' := 0) (at_sum rfl (at_truncf (at_exp2 (at_beside (at_sub (at_cut (r' := 0) (c' := 0) (at_drop v438_at)) (at_stack (.cons r_85_at (.cons r_86_at (.cons r_87_at (.cons r_88_at (.cons r_90_at (.cons r_91_at (.cons r_92_at (.cons r_93_at .nil)))))))))) (at_sub (at_cut (r' := 0) (c' := 128) (at_drop v438_at)) (at_stack (.cons r_85_at (.cons r_86_at (.cons r_87_at (.cons r_88_at (.cons r_90_at (.cons r_91_at (.cons r_92_at (.cons r_93_at .nil))))))))))))) (at_drop v448_at))))

/-- The first head: weighted sums so far, a block of rows. -/
theorem r_122_at : At (kernelRun2_A.sl.r_122 (F := Ideal) c i arg3 harg3 arg4 harg4 arg5 harg5 arg7 harg7 arg8 harg8 arg10 arg11 arg12 x0 x1 x2 x4 x5) (AX x0 x1 x2 x4 x5 (i 1).val 0 1) 1024 0 := by
  unfold kernelRun2_A.sl.r_122 k2_pay185 k2_pay181
  exact (at_accL 0 r_106_at (at_cut (r' := 1024) (c' := 0) (at_sum rfl (at_truncf (at_exp2 (at_beside (at_sub (at_cut (r' := 256) (c' := 256) (at_drop v496_at)) (at_stack (.cons r_86_at (.cons r_87_at (.cons r_88_at (.cons r_90_at (.cons r_91_at (.cons r_92_at (.cons r_93_at .nil))))))))) (at_sub (at_cut (r' := 256) (c' := 384) (at_drop v496_at)) (at_stack (.cons r_86_at (.cons r_87_at (.cons r_88_at (.cons r_90_at (.cons r_91_at (.cons r_92_at (.cons r_93_at .nil)))))))))))) (at_drop v506_at))))

/-- The first head: weighted sums so far, a block of rows. -/
theorem r_136_at : At (kernelRun2_A.sl.r_136 (F := Ideal) c i arg3 harg3 arg4 harg4 arg5 harg5 arg7 harg7 arg8 harg8 arg10 arg11 arg12 x0 x1 x2 x4 x5) (AX x0 x1 x2 x4 x5 (i 1).val 0 2) 1024 0 := by
  unfold kernelRun2_A.sl.r_136 k2_pay201 k2_pay198
  exact (at_accL 1 r_122_at (at_cut (r' := 1024) (c' := 0) (at_sum rfl (at_truncf (at_exp2 (at_beside (at_sub (at_cut (r' := 512) (c' := 512) (at_drop v550_at)) (at_stack (.cons r_87_at (.cons r_88_at (.cons r_90_at (.cons r_91_at (.cons r_92_at (.cons r_93_at .nil)))))))) (at_sub (at_cut (r' := 512) (c' := 640) (at_drop v550_at)) (at_stack (.cons r_87_at (.cons r_88_at (.cons r_90_at (.cons r_91_at (.cons r_92_at (.cons r_93_at .nil))))))))))) (at_drop v560_at))))

/-- The first head: weighted sums so far, a block of rows. -/
theorem r_150_at : At (kernelRun2_A.sl.r_150 (F := Ideal) c i arg3 harg3 arg4 harg4 arg5 harg5 arg7 harg7 arg8 harg8 arg10 arg11 arg12 x0 x1 x2 x4 x5) (AX x0 x1 x2 x4 x5 (i 1).val 0 3) 1024 0 := by
  unfold kernelRun2_A.sl.r_150 k2_pay217 k2_pay215
  exact (at_accL 2 r_136_at (at_cut (r' := 1024) (c' := 0) (at_sum rfl (at_truncf (at_exp2 (at_beside (at_sub (at_cut (r' := 768) (c' := 768) (at_drop v600_at)) (at_stack (.cons r_88_at (.cons r_90_at (.cons r_91_at (.cons r_92_at (.cons r_93_at .nil))))))) (at_sub (at_cut (r' := 768) (c' := 896) (at_drop v600_at)) (at_stack (.cons r_88_at (.cons r_90_at (.cons r_91_at (.cons r_92_at (.cons r_93_at .nil)))))))))) (at_drop v610_at))))

/-- Masked scores of the first head. -/
theorem v646_at : At1 (a := 1024) (b := 256) (kernelRun2_A.sl.v646 (F := Ideal) c i arg3 harg3 arg4 harg4 arg7 harg7 arg8 harg8 arg10 arg12 x0 x1 x4 x5) (ZM x0 x1 x4 x5 (i 1).val 0) 1024 1024 := by
  unfold kernelRun2_A.sl.v646 kernelRun2_A.sl.HS2_16
  simp (disch := decide) only [↓ View.readCov_skip, ↓ View.readCov_cons_toLoadRect]
  unfold k2_pay100 k2_pay99
  exact (at_lead (at_under (at_keep below mask_bot (at_cut (r' := 1024) (c' := 1024) r_61_at)) (at_cut (r' := 1280) (c' := 1024) r_61_at)))

/-- A tile of the first head's values. -/
theorem v656_at : At1 (kernelRun2_A.sl.v656 (F := Ideal) c arg5 harg5 arg11 x2) (VX x2 0) 1024 0 := load_prev (by dsimp only; decide) (at_vals0 (at_read at_in))

/-- The first head: weighted sums so far, a block of rows. -/
theorem r_161_at : At (kernelRun2_A.sl.r_161 (F := Ideal) c i arg3 harg3 arg4 harg4 arg5 harg5 arg7 harg7 arg8 harg8 arg10 arg11 arg12 x0 x1 x2 x4 x5) (AX x0 x1 x2 x4 x5 (i 1).val 0 4) 1024 0 := by
  unfold kernelRun2_A.sl.r_161 k2_pay230 k2_pay229
  exact (at_accL 3 r_150_at (at_cut (r' := 1024) (c' := 0) (at_sum rfl (at_truncf (at_exp2 (at_beside (at_sub (at_cut (r' := 1024) (c' := 1024) (at_drop v646_at)) (at_stack (.cons r_90_at (.cons r_91_at (.cons r_92_at (.cons r_93_at .nil)))))) (at_sub (at_cut (r' := 1024) (c' := 1152) (at_drop v646_at)) (at_stack (.cons r_90_at (.cons r_91_at (.cons r_92_at (.cons r_93_at .nil))))))))) (at_drop v656_at))))

/-- The first head: weighted sums so far, a block of rows. -/
theorem r_107_at : At (kernelRun2_A.sl.r_107 (F := Ideal) c i arg3 harg3 arg4 harg4 arg5 harg5 arg7 harg7 arg8 harg8 arg10 arg11 arg12 x0 x1 x2 x4 x5) (AX x0 x1 x2 x4 x5 (i 1).val 0 0) 1280 0 := by
  unfold kernelRun2_A.sl.r_107 k2_pay161 k2_pay169 k2_pay163
  exact (at_accZ none_all (at_cut (r' := 1280) (c' := 0) (at_sum rfl (at_truncf (at_exp2 (at_beside (at_sub (at_cut (r' := 0) (c' := 0) (at_drop v438_at)) (at_stack (.cons r_85_at (.cons r_86_at (.cons r_87_at (.cons r_88_at (.cons r_90_at (.cons r_91_at (.cons r_92_at (.cons r_93_at .nil)))))))))) (at_sub (at_cut (r' := 0) (c' := 128) (at_drop v438_at)) (at_stack (.cons r_85_at (.cons r_86_at (.cons r_87_at (.cons r_88_at (.cons r_90_at (.cons r_91_at (.cons r_92_at (.cons r_93_at .nil))))))))))))) (at_drop v448_at))))

/-- The first head: weighted sums so far, a block of rows. -/
theorem r_123_at : At (kernelRun2_A.sl.r_123 (F := Ideal) c i arg3 harg3 arg4 harg4 arg5 harg5 arg7 harg7 arg8 harg8 arg10 arg11 arg12 x0 x1 x2 x4 x5) (AX x0 x1 x2 x4 x5 (i 1).val 0 1) 1280 0 := by
  unfold kernelRun2_A.sl.r_123 k2_pay186 k2_pay181
  exact (at_accL 0 r_107_at (at_cut (r' := 1280) (c' := 0) (at_sum rfl (at_truncf (at_exp2 (at_beside (at_sub (at_cut (r' := 256) (c' := 256) (at_drop v496_at)) (at_stack (.cons r_86_at (.cons r_87_at (.cons r_88_at (.cons r_90_at (.cons r_91_at (.cons r_92_at (.cons r_93_at .nil))))))))) (at_sub (at_cut (r' := 256) (c' := 384) (at_drop v496_at)) (at_stack (.cons r_86_at (.cons r_87_at (.cons r_88_at (.cons r_90_at (.cons r_91_at (.cons r_92_at (.cons r_93_at .nil)))))))))))) (at_drop v506_at))))

/-- The first head: weighted sums so far, a block of rows. -/
theorem r_137_at : At (kernelRun2_A.sl.r_137 (F := Ideal) c i arg3 harg3 arg4 harg4 arg5 harg5 arg7 harg7 arg8 harg8 arg10 arg11 arg12 x0 x1 x2 x4 x5) (AX x0 x1 x2 x4 x5 (i 1).val 0 2) 1280 0 := by
  unfold kernelRun2_A.sl.r_137 k2_pay202 k2_pay198
  exact (at_accL 1 r_123_at (at_cut (r' := 1280) (c' := 0) (at_sum rfl (at_truncf (at_exp2 (at_beside (at_sub (at_cut (r' := 512) (c' := 512) (at_drop v550_at)) (at_stack (.cons r_87_at (.cons r_88_at (.cons r_90_at (.cons r_91_at (.cons r_92_at (.cons r_93_at .nil)))))))) (at_sub (at_cut (r' := 512) (c' := 640) (at_drop v550_at)) (at_stack (.cons r_87_at (.cons r_88_at (.cons r_90_at (.cons r_91_at (.cons r_92_at (.cons r_93_at .nil))))))))))) (at_drop v560_at))))

/-- The first head: weighted sums so far, a block of rows. -/
theorem r_151_at : At (kernelRun2_A.sl.r_151 (F := Ideal) c i arg3 harg3 arg4 harg4 arg5 harg5 arg7 harg7 arg8 harg8 arg10 arg11 arg12 x0 x1 x2 x4 x5) (AX x0 x1 x2 x4 x5 (i 1).val 0 3) 1280 0 := by
  unfold kernelRun2_A.sl.r_151 k2_pay218 k2_pay215
  exact (at_accL 2 r_137_at (at_cut (r' := 1280) (c' := 0) (at_sum rfl (at_truncf (at_exp2 (at_beside (at_sub (at_cut (r' := 768) (c' := 768) (at_drop v600_at)) (at_stack (.cons r_88_at (.cons r_90_at (.cons r_91_at (.cons r_92_at (.cons r_93_at .nil))))))) (at_sub (at_cut (r' := 768) (c' := 896) (at_drop v600_at)) (at_stack (.cons r_88_at (.cons r_90_at (.cons r_91_at (.cons r_92_at (.cons r_93_at .nil)))))))))) (at_drop v610_at))))

/-- The first head: weighted sums so far, a block of rows. -/
theorem r_162_at : At (kernelRun2_A.sl.r_162 (F := Ideal) c i arg3 harg3 arg4 harg4 arg5 harg5 arg7 harg7 arg8 harg8 arg10 arg11 arg12 x0 x1 x2 x4 x5) (AX x0 x1 x2 x4 x5 (i 1).val 0 4) 1280 0 := by
  unfold kernelRun2_A.sl.r_162 k2_pay231 k2_pay229
  exact (at_accL 3 r_151_at (at_cut (r' := 1280) (c' := 0) (at_sum rfl (at_truncf (at_exp2 (at_beside (at_sub (at_cut (r' := 1024) (c' := 1024) (at_drop v646_at)) (at_stack (.cons r_90_at (.cons r_91_at (.cons r_92_at (.cons r_93_at .nil)))))) (at_sub (at_cut (r' := 1024) (c' := 1152) (at_drop v646_at)) (at_stack (.cons r_90_at (.cons r_91_at (.cons r_92_at (.cons r_93_at .nil))))))))) (at_drop v656_at))))

/-- Masked scores of the first head. -/
theorem v688_at : At1 (a := 768) (b := 256) (kernelRun2_A.sl.v688 (F := Ideal) c i arg3 harg3 arg4 harg4 arg7 harg7 arg8 harg8 arg10 arg12 x0 x1 x4 x5) (ZM x0 x1 x4 x5 (i 1).val 0) 1280 1280 := by
  unfold kernelRun2_A.sl.v688 kernelRun2_A.sl.HS2_16
  simp (disch := decide) only [↓ View.readCov_skip, ↓ View.readCov_cons_toLoadRect]
  unfold k2_pay115 k2_pay114
  exact (at_lead (at_under (at_keep below mask_bot (at_cut (r' := 1280) (c' := 1280) (at_z rfl r_70_at (at_drop v267_at)))) (at_cut (r' := 1536) (c' := 1280) (at_z rfl r_70_at (at_drop v267_at)))))

/-- A tile of the first head's values. -/
theorem v698_at : At1 (kernelRun2_A.sl.v698 (F := Ideal) c arg5 harg5 arg11 x2) (VX x2 0) 1280 0 := load_prev (by dsimp only; decide) (at_vals0 (at_read at_in))

/-- The first head: weighted sums so far, a block of rows. -/
theorem r_172_at : At (kernelRun2_A.sl.r_172 (F := Ideal) c i arg3 harg3 arg4 harg4 arg5 harg5 arg7 harg7 arg8 harg8 arg10 arg11 arg12 x0 x1 x2 x4 x5) (AX x0 x1 x2 x4 x5 (i 1).val 0 5) 1280 0 := by
  unfold kernelRun2_A.sl.r_172 k2_pay243 k2_pay242
  exact (at_accL 4 r_162_at (at_cut (r' := 1280) (c' := 0) (at_sum rfl (at_truncf (at_exp2 (at_beside (at_sub (at_cut (r' := 1280) (c' := 1280) (at_drop v688_at)) (at_stack (.cons r_91_at (.cons r_92_at (.cons r_93_at .nil))))) (at_sub (at_cut (r' := 1280) (c' := 1408) (at_drop v688_at)) (at_stack (.cons r_91_at (.cons r_92_at (.cons r_93_at .nil)))))))) (at_drop v698_at))))

/-- The first head: weighted sums so far, a block of rows. -/
theorem r_108_at : At (kernelRun2_A.sl.r_108 (F := Ideal) c i arg3 harg3 arg4 harg4 arg5 harg5 arg7 harg7 arg8 harg8 arg10 arg11 arg12 x0 x1 x2 x4 x5) (AX x0 x1 x2 x4 x5 (i 1).val 0 0) 1536 0 := by
  unfold kernelRun2_A.sl.r_108 k2_pay161 k2_pay170 k2_pay163
  exact (at_accZ none_all (at_cut (r' := 1536) (c' := 0) (at_sum rfl (at_truncf (at_exp2 (at_beside (at_sub (at_cut (r' := 0) (c' := 0) (at_drop v438_at)) (at_stack (.cons r_85_at (.cons r_86_at (.cons r_87_at (.cons r_88_at (.cons r_90_at (.cons r_91_at (.cons r_92_at (.cons r_93_at .nil)))))))))) (at_sub (at_cut (r' := 0) (c' := 128) (at_drop v438_at)) (at_stack (.cons r_85_at (.cons r_86_at (.cons r_87_at (.cons r_88_at (.cons r_90_at (.cons r_91_at (.cons r_92_at (.cons r_93_at .nil))))))))))))) (at_drop v448_at))))

/-- The first head: weighted sums so far, a block of rows. -/
theorem r_124_at : At (kernelRun2_A.sl.r_124 (F := Ideal) c i arg3 harg3 arg4 harg4 arg5 harg5 arg7 harg7 arg8 harg8 arg10 arg11 arg12 x0 x1 x2 x4 x5) (AX x0 x1 x2 x4 x5 (i 1).val 0 1) 1536 0 := by
  unfold kernelRun2_A.sl.r_124 k2_pay187 k2_pay181
  exact (at_accL 0 r_108_at (at_cut (r' := 1536) (c' := 0) (at_sum rfl (at_truncf (at_exp2 (at_beside (at_sub (at_cut (r' := 256) (c' := 256) (at_drop v496_at)) (at_stack (.cons r_86_at (.cons r_87_at (.cons r_88_at (.cons r_90_at (.cons r_91_at (.cons r_92_at (.cons r_93_at .nil))))))))) (at_sub (at_cut (r' := 256) (c' := 384) (at_drop v496_at)) (at_stack (.cons r_86_at (.cons r_87_at (.cons r_88_at (.cons r_90_at (.cons r_91_at (.cons r_92_at (.cons r_93_at .nil)))))))))))) (at_drop v506_at))))

/-- The first head: weighted sums so far, a block of rows. -/
theorem r_138_at : At (kernelRun2_A.sl.r_138 (F := Ideal) c i arg3 harg3 arg4 harg4 arg5 harg5 arg7 harg7 arg8 harg8 arg10 arg11 arg12 x0 x1 x2 x4 x5) (AX x0 x1 x2 x4 x5 (i 1).val 0 2) 1536 0 := by
  unfold kernelRun2_A.sl.r_138 k2_pay203 k2_pay198
  exact (at_accL 1 r_124_at (at_cut (r' := 1536) (c' := 0) (at_sum rfl (at_truncf (at_exp2 (at_beside (at_sub (at_cut (r' := 512) (c' := 512) (at_drop v550_at)) (at_stack (.cons r_87_at (.cons r_88_at (.cons r_90_at (.cons r_91_at (.cons r_92_at (.cons r_93_at .nil)))))))) (at_sub (at_cut (r' := 512) (c' := 640) (at_drop v550_at)) (at_stack (.cons r_87_at (.cons r_88_at (.cons r_90_at (.cons r_91_at (.cons r_92_at (.cons r_93_at .nil))))))))))) (at_drop v560_at))))

/-- The first head: weighted sums so far, a block of rows. -/
theorem r_152_at : At (kernelRun2_A.sl.r_152 (F := Ideal) c i arg3 harg3 arg4 harg4 arg5 harg5 arg7 harg7 arg8 harg8 arg10 arg11 arg12 x0 x1 x2 x4 x5) (AX x0 x1 x2 x4 x5 (i 1).val 0 3) 1536 0 := by
  unfold kernelRun2_A.sl.r_152 k2_pay219 k2_pay215
  exact (at_accL 2 r_138_at (at_cut (r' := 1536) (c' := 0) (at_sum rfl (at_truncf (at_exp2 (at_beside (at_sub (at_cut (r' := 768) (c' := 768) (at_drop v600_at)) (at_stack (.cons r_88_at (.cons r_90_at (.cons r_91_at (.cons r_92_at (.cons r_93_at .nil))))))) (at_sub (at_cut (r' := 768) (c' := 896) (at_drop v600_at)) (at_stack (.cons r_88_at (.cons r_90_at (.cons r_91_at (.cons r_92_at (.cons r_93_at .nil)))))))))) (at_drop v610_at))))

/-- The first head: weighted sums so far, a block of rows. -/
theorem r_163_at : At (kernelRun2_A.sl.r_163 (F := Ideal) c i arg3 harg3 arg4 harg4 arg5 harg5 arg7 harg7 arg8 harg8 arg10 arg11 arg12 x0 x1 x2 x4 x5) (AX x0 x1 x2 x4 x5 (i 1).val 0 4) 1536 0 := by
  unfold kernelRun2_A.sl.r_163 k2_pay232 k2_pay229
  exact (at_accL 3 r_152_at (at_cut (r' := 1536) (c' := 0) (at_sum rfl (at_truncf (at_exp2 (at_beside (at_sub (at_cut (r' := 1024) (c' := 1024) (at_drop v646_at)) (at_stack (.cons r_90_at (.cons r_91_at (.cons r_92_at (.cons r_93_at .nil)))))) (at_sub (at_cut (r' := 1024) (c' := 1152) (at_drop v646_at)) (at_stack (.cons r_90_at (.cons r_91_at (.cons r_92_at (.cons r_93_at .nil))))))))) (at_drop v656_at))))

/-- The first head: weighted sums so far, a block of rows. -/
theorem r_173_at : At (kernelRun2_A.sl.r_173 (F := Ideal) c i arg3 harg3 arg4 harg4 arg5 harg5 arg7 harg7 arg8 harg8 arg10 arg11 arg12 x0 x1 x2 x4 x5) (AX x0 x1 x2 x4 x5 (i 1).val 0 5) 1536 0 := by
  unfold kernelRun2_A.sl.r_173 k2_pay244 k2_pay242
  exact (at_accL 4 r_163_at (at_cut (r' := 1536) (c' := 0) (at_sum rfl (at_truncf (at_exp2 (at_beside (at_sub (at_cut (r' := 1280) (c' := 1280) (at_drop v688_at)) (at_stack (.cons r_91_at (.cons r_92_at (.cons r_93_at .nil))))) (at_sub (at_cut (r' := 1280) (c' := 1408) (at_drop v688_at)) (at_stack (.cons r_91_at (.cons r_92_at (.cons r_93_at .nil)))))))) (at_drop v698_at))))

/-- Masked scores of the first head. -/
theorem v726_at : At1 (a := 512) (b := 256) (kernelRun2_A.sl.v726 (F := Ideal) c i arg3 harg3 arg4 harg4 arg7 harg7 arg8 harg8 arg10 arg12 x0 x1 x4 x5) (ZM x0 x1 x4 x5 (i 1).val 0) 1536 1536 := by
  unfold kernelRun2_A.sl.v726 kernelRun2_A.sl.HS2_16
  simp (disch := decide) only [↓ View.readCov_skip, ↓ View.readCov_cons_toLoadRect]
  unfold k2_pay128 k2_pay127
  exact (at_lead (at_under (at_keep below mask_bot (at_cut (r' := 1536) (c' := 1536) (at_z rfl r_77_at (at_drop v309_at)))) (at_cut (r' := 1792) (c' := 1536) (at_z rfl r_77_at (at_drop v309_at)))))

/-- A tile of the first head's values. -/
theorem v736_at : At1 (kernelRun2_A.sl.v736 (F := Ideal) c arg5 harg5 arg11 x2) (VX x2 0) 1536 0 := load_prev (by dsimp only; decide) (at_vals0 (at_read at_in))

/-- The first head: weighted sums so far, a block of rows. -/
theorem r_177_at : At (kernelRun2_A.sl.r_177 (F := Ideal) c i arg3 harg3 arg4 harg4 arg5 harg5 arg7 harg7 arg8 harg8 arg10 arg11 arg12 x0 x1 x2 x4 x5) (AX x0 x1 x2 x4 x5 (i 1).val 0 6) 1536 0 := by
  unfold kernelRun2_A.sl.r_177 k2_pay250 k2_pay249
  exact (at_accL 5 r_173_at (at_cut (r' := 1536) (c' := 0) (at_sum rfl (at_truncf (at_exp2 (at_beside (at_sub (at_cut (r' := 1536) (c' := 1536) (at_drop v726_at)) (at_stack (.cons r_92_at (.cons r_93_at .nil)))) (at_sub (at_cut (r' := 1536) (c' := 1664) (at_drop v726_at)) (at_stack (.cons r_92_at (.cons r_93_at .nil))))))) (at_drop v736_at))))

/-- The first head: weighted sums so far, a block of rows. -/
theorem r_109_at : At (kernelRun2_A.sl.r_109 (F := Ideal) c i arg3 harg3 arg4 harg4 arg5 harg5 arg7 harg7 arg8 harg8 arg10 arg11 arg12 x0 x1 x2 x4 x5) (AX x0 x1 x2 x4 x5 (i 1).val 0 0) 1792 0 := by
  unfold kernelRun2_A.sl.r_109 k2_pay161 k2_pay171 k2_pay163
  exact (at_accZ none_all (at_cut (r' := 1792) (c' := 0) (at_sum rfl (at_truncf (at_exp2 (at_beside (at_sub (at_cut (r' := 0) (c' := 0) (at_drop v438_at)) (at_stack (.cons r_85_at (.cons r_86_at (.cons r_87_at (.cons r_88_at (.cons r_90_at (.cons r_91_at (.cons r_92_at (.cons r_93_at .nil)))))))))) (at_sub (at_cut (r' := 0) (c' := 128) (at_drop v438_at)) (at_stack (.cons r_85_at (.cons r_86_at (.cons r_87_at (.cons r_88_at (.cons r_90_at (.cons r_91_at (.cons r_92_at (.cons r_93_at .nil))))))))))))) (at_drop v448_at))))

/-- The first head: weighted sums so far, a block of rows. -/
theorem r_125_at : At (kernelRun2_A.sl.r_125 (F := Ideal) c i arg3 harg3 arg4 harg4 arg5 harg5 arg7 harg7 arg8 harg8 arg10 arg11 arg12 x0 x1 x2 x4 x5) (AX x0 x1 x2 x4 x5 (i 1).val 0 1) 1792 0 := by
  unfold kernelRun2_A.sl.r_125 k2_pay188 k2_pay181
  exact (at_accL 0 r_109_at (at_cut (r' := 1792) (c' := 0) (at_sum rfl (at_truncf (at_exp2 (at_beside (at_sub (at_cut (r' := 256) (c' := 256) (at_drop v496_at)) (at_stack (.cons r_86_at (.cons r_87_at (.cons r_88_at (.cons r_90_at (.cons r_91_at (.cons r_92_at (.cons r_93_at .nil))))))))) (at_sub (at_cut (r' := 256) (c' := 384) (at_drop v496_at)) (at_stack (.cons r_86_at (.cons r_87_at (.cons r_88_at (.cons r_90_at (.cons r_91_at (.cons r_92_at (.cons r_93_at .nil)))))))))))) (at_drop v506_at))))

/-- The first head: weighted sums so far, a block of rows. -/
theorem r_139_at : At (kernelRun2_A.sl.r_139 (F := Ideal) c i arg3 harg3 arg4 harg4 arg5 harg5 arg7 harg7 arg8 harg8 arg10 arg11 arg12 x0 x1 x2 x4 x5) (AX x0 x1 x2 x4 x5 (i 1).val 0 2) 1792 0 := by
  unfold kernelRun2_A.sl.r_139 k2_pay204 k2_pay198
  exact (at_accL 1 r_125_at (at_cut (r' := 1792) (c' := 0) (at_sum rfl (at_truncf (at_exp2 (at_beside (at_sub (at_cut (r' := 512) (c' := 512) (at_drop v550_at)) (at_stack (.cons r_87_at (.cons r_88_at (.cons r_90_at (.cons r_91_at (.cons r_92_at (.cons r_93_at .nil)))))))) (at_sub (at_cut (r' := 512) (c' := 640) (at_drop v550_at)) (at_stack (.cons r_87_at (.cons r_88_at (.cons r_90_at (.cons r_91_at (.cons r_92_at (.cons r_93_at .nil))))))))))) (at_drop v560_at))))

/-- The first head: weighted sums so far, a block of rows. -/
theorem r_153_at : At (kernelRun2_A.sl.r_153 (F := Ideal) c i arg3 harg3 arg4 harg4 arg5 harg5 arg7 harg7 arg8 harg8 arg10 arg11 arg12 x0 x1 x2 x4 x5) (AX x0 x1 x2 x4 x5 (i 1).val 0 3) 1792 0 := by
  unfold kernelRun2_A.sl.r_153 k2_pay220 k2_pay215
  exact (at_accL 2 r_139_at (at_cut (r' := 1792) (c' := 0) (at_sum rfl (at_truncf (at_exp2 (at_beside (at_sub (at_cut (r' := 768) (c' := 768) (at_drop v600_at)) (at_stack (.cons r_88_at (.cons r_90_at (.cons r_91_at (.cons r_92_at (.cons r_93_at .nil))))))) (at_sub (at_cut (r' := 768) (c' := 896) (at_drop v600_at)) (at_stack (.cons r_88_at (.cons r_90_at (.cons r_91_at (.cons r_92_at (.cons r_93_at .nil)))))))))) (at_drop v610_at))))

/-- The first head: weighted sums so far, a block of rows. -/
theorem r_164_at : At (kernelRun2_A.sl.r_164 (F := Ideal) c i arg3 harg3 arg4 harg4 arg5 harg5 arg7 harg7 arg8 harg8 arg10 arg11 arg12 x0 x1 x2 x4 x5) (AX x0 x1 x2 x4 x5 (i 1).val 0 4) 1792 0 := by
  unfold kernelRun2_A.sl.r_164 k2_pay233 k2_pay229
  exact (at_accL 3 r_153_at (at_cut (r' := 1792) (c' := 0) (at_sum rfl (at_truncf (at_exp2 (at_beside (at_sub (at_cut (r' := 1024) (c' := 1024) (at_drop v646_at)) (at_stack (.cons r_90_at (.cons r_91_at (.cons r_92_at (.cons r_93_at .nil)))))) (at_sub (at_cut (r' := 1024) (c' := 1152) (at_drop v646_at)) (at_stack (.cons r_90_at (.cons r_91_at (.cons r_92_at (.cons r_93_at .nil))))))))) (at_drop v656_at))))

/-- The first head: weighted sums so far, a block of rows. -/
theorem r_174_at : At (kernelRun2_A.sl.r_174 (F := Ideal) c i arg3 harg3 arg4 harg4 arg5 harg5 arg7 harg7 arg8 harg8 arg10 arg11 arg12 x0 x1 x2 x4 x5) (AX x0 x1 x2 x4 x5 (i 1).val 0 5) 1792 0 := by
  unfold kernelRun2_A.sl.r_174 k2_pay245 k2_pay242
  exact (at_accL 4 r_164_at (at_cut (r' := 1792) (c' := 0) (at_sum rfl (at_truncf (at_exp2 (at_beside (at_sub (at_cut (r' := 1280) (c' := 1280) (at_drop v688_at)) (at_stack (.cons r_91_at (.cons r_92_at (.cons r_93_at .nil))))) (at_sub (at_cut (r' := 1280) (c' := 1408) (at_drop v688_at)) (at_stack (.cons r_91_at (.cons r_92_at (.cons r_93_at .nil)))))))) (at_drop v698_at))))

/-- The first head: weighted sums so far, a block of rows. -/
theorem r_178_at : At (kernelRun2_A.sl.r_178 (F := Ideal) c i arg3 harg3 arg4 harg4 arg5 harg5 arg7 harg7 arg8 harg8 arg10 arg11 arg12 x0 x1 x2 x4 x5) (AX x0 x1 x2 x4 x5 (i 1).val 0 6) 1792 0 := by
  unfold kernelRun2_A.sl.r_178 k2_pay251 k2_pay249
  exact (at_accL 5 r_174_at (at_cut (r' := 1792) (c' := 0) (at_sum rfl (at_truncf (at_exp2 (at_beside (at_sub (at_cut (r' := 1536) (c' := 1536) (at_drop v726_at)) (at_stack (.cons r_92_at (.cons r_93_at .nil)))) (at_sub (at_cut (r' := 1536) (c' := 1664) (at_drop v726_at)) (at_stack (.cons r_92_at (.cons r_93_at .nil))))))) (at_drop v736_at))))

/-- Masked scores of the first head. -/
theorem v760_at : At1 (a := 256) (b := 256) (kernelRun2_A.sl.v760 (F := Ideal) c i arg3 harg3 arg4 harg4 arg7 harg7 arg8 harg8 arg10 arg12 x0 x1 x4 x5) (ZM x0 x1 x4 x5 (i 1).val 0) 1792 1792 := by
  unfold kernelRun2_A.sl.v760 kernelRun2_A.sl.HS2_16
  simp (disch := decide) only [↓ View.readCov_skip, ↓ View.readCov_cons_toLoadRect]
  unfold k2_pay139 k2_pay138
  exact (at_lead (at_keep below mask_bot r_82_at))

/-- A tile of the first head's values. -/
theorem v769_at : At1 (kernelRun2_A.sl.v769 (F := Ideal) c arg5 harg5 arg11 x2) (VX x2 0) 1792 0 := load_prev (by dsimp only; decide) (at_vals0 (at_read at_in))

/-- The first head's weighted sums, each over the sum held in the other half of the lanes. -/
theorem r_181_at : At (kernelRun2_A.sl.r_181 (F := Ideal) c i arg3 harg3 arg4 harg4 arg5 harg5 arg7 harg7 arg8 harg8 arg10 arg11 arg12 x0 x1 x2 x4 x5) (OX x0 x1 x2 x4 x5 (i 1).val 0) 0 0 := by
  unfold kernelRun2_A.sl.r_181 k2_pay255
  exact (at_rotDiv (at_stack (.cons (at_own 0 r_102_at) (.cons (at_own 1 r_119_at) (.cons (at_own 2 r_134_at) (.cons (at_own 3 r_149_at) (.cons (at_own 4 r_161_at) (.cons (at_own 5 r_172_at) (.cons (at_own 6 r_177_at) (.cons (at_own 7 (at_accL 6 r_178_at (at_sum rfl (at_truncf (at_exp2 (at_beside (at_sub (at_cut (r' := 1792) (c' := 1792) (at_drop v760_at)) r_93_at) (at_sub (at_cut (r' := 1792) (c' := 1920) (at_drop v760_at)) r_93_at)))) (at_drop v769_at)))) .nil))))))))))

/-- A tile of the second head's keys. -/
theorem v36_at : At1 (kernelRun2_A.sl.v36 (F := Ideal) c i arg4 harg4 arg8 harg8 arg10 x1 x5) (KX x1 x5 (i 1).val 1) 0 0 := load_last (at_keys1 (i 1) (at_read at_in) (at_read at_in))

/-- Masked scores of the second head. -/
theorem r_12_at : At (kernelRun2_A.sl.r_12 (F := Ideal) c i arg3 harg3 arg4 harg4 arg7 harg7 arg8 harg8 arg10 x0 x1 x4 x5) (ZM x0 x1 x4 x5 (i 1).val 1) 0 0 := by
  unfold kernelRun2_A.sl.r_12 k2_pay31
  exact (at_under (at_keep below mask_bot (at_cut (r' := 0) (c' := 0) (at_z rfl (at_queries at_in at_in) (at_drop v36_at)))) (at_cut (r' := 256) (c' := 0) (at_z rfl (at_queries at_in at_in) (at_drop v36_at))))

/-- The second head: the larger of the halves of a tile, some rows. -/
theorem r_20_at : At (kernelRun2_A.sl.r_20 (F := Ideal) c i arg3 harg3 arg4 harg4 arg7 harg7 arg8 harg8 arg10 x0 x1 x4 x5) (pairMax (ZM x0 x1 x4 x5 (i 1).val 1) 0) 1792 0 := by
  unfold kernelRun2_A.sl.r_20 k2_pay41 k2_pay33
  exact (at_cut (r' := 1792) (c' := 0) (at_pairMax1 (at_cut (r' := 0) (c' := 0) r_12_at) (at_cut (r' := 0) (c' := 128) r_12_at)))

/-- Rows of the queries. -/
theorem r_28_at : At (kernelRun2_A.sl.r_28 (F := Ideal) c arg3 harg3 arg7 harg7 x0 x4) (QX x0 x4) 256 0 := by
  unfold kernelRun2_A.sl.r_28 k2_pay52
  exact (at_cut (r' := 256) (c' := 0) r_3_at)

/-- A tile of the second head's keys. -/
theorem v88_at : At1 (kernelRun2_A.sl.v88 (F := Ideal) c i arg4 harg4 arg8 harg8 arg10 x1 x5) (KX x1 x5 (i 1).val 1) 0 256 := load_last (at_keys1 (i 1) (at_read at_in) (at_read at_in))

/-- A tile of the second head's keys. -/
theorem r_29_at : At (kernelRun2_A.sl.r_29 (F := Ideal) c i arg4 harg4 arg8 harg8 arg10 x1 x5) (KX x1 x5 (i 1).val 1) 0 256 := by
  unfold kernelRun2_A.sl.r_29 k2_pay53
  exact (at_drop v88_at)

/-- The second head: a running maximum over columns of equal lane. -/
theorem r_36_at : At (kernelRun2_A.sl.r_36 (F := Ideal) c i arg3 harg3 arg4 harg4 arg7 harg7 arg8 harg8 arg10 x0 x1 x4 x5) (runMax (ZM x0 x1 x4 x5 (i 1).val 1) 1) 1792 0 := by
  unfold kernelRun2_A.sl.r_36 k2_pay63 k2_pay56 k2_pay54
  exact (at_max1 0 r_20_at (at_cut (r' := 1792) (c' := 0) (at_pairMax1 (at_cut (r' := 256) (c' := 256) (at_under (at_keep below mask_bot (at_cut (r' := 256) (c' := 256) (at_z rfl r_28_at r_29_at))) (at_cut (r' := 512) (c' := 256) (at_z rfl r_28_at r_29_at)))) (at_cut (r' := 256) (c' := 384) (at_under (at_keep below mask_bot (at_cut (r' := 256) (c' := 256) (at_z rfl r_28_at r_29_at))) (at_cut (r' := 512) (c' := 256) (at_z rfl r_28_at r_29_at)))))))

/-- A tile of the second head's keys. -/
theorem v144_at : At1 (kernelRun2_A.sl.v144 (F := Ideal) c i arg4 harg4 arg8 harg8 arg10 x1 x5) (KX x1 x5 (i 1).val 1) 0 512 := load_last (at_keys1 (i 1) (at_read at_in) (at_read at_in))

/-- The second head: a running maximum over columns of equal lane. -/
theorem r_49_at : At (kernelRun2_A.sl.r_49 (F := Ideal) c i arg3 harg3 arg4 harg4 arg7 harg7 arg8 harg8 arg10 x0 x1 x4 x5) (runMax (ZM x0 x1 x4 x5 (i 1).val 1) 2) 1792 0 := by
  unfold kernelRun2_A.sl.r_49 k2_pay81 k2_pay75 k2_pay73
  exact (at_max1 1 r_36_at (at_cut (r' := 1792) (c' := 0) (at_pairMax1 (at_cut (r' := 512) (c' := 512) (at_under (at_keep below mask_bot (at_cut (r' := 512) (c' := 512) (at_z rfl (at_cut (r' := 512) (c' := 0) r_3_at) (at_drop v144_at)))) (at_cut (r' := 768) (c' := 512) (at_z rfl (at_cut (r' := 512) (c' := 0) r_3_at) (at_drop v144_at))))) (at_cut (r' := 512) (c' := 640) (at_under (at_keep below mask_bot (at_cut (r' := 512) (c' := 512) (at_z rfl (at_cut (r' := 512) (c' := 0) r_3_at) (at_drop v144_at)))) (at_cut (r' := 768) (c' := 512) (at_z rfl (at_cut (r' := 512) (c' := 0) r_3_at) (at_drop v144_at))))))))

/-- A tile of the second head's keys. -/
theorem v196_at : At1 (kernelRun2_A.sl.v196 (F := Ideal) c i arg4 harg4 arg8 harg8 arg10 x1 x5) (KX x1 x5 (i 1).val 1) 0 768 := load_last (at_keys1 (i 1) (at_read at_in) (at_read at_in))

/-- The second head: a running maximum over columns of equal lane. -/
theorem r_60_at : At (kernelRun2_A.sl.r_60 (F := Ideal) c i arg3 harg3 arg4 harg4 arg7 harg7 arg8 harg8 arg10 x0 x1 x4 x5) (runMax (ZM x0 x1 x4 x5 (i 1).val 1) 3) 1792 0 := by
  unfold kernelRun2_A.sl.r_60 k2_pay97 k2_pay92 k2_pay90
  exact (at_max1 2 r_49_at (at_cut (r' := 1792) (c' := 0) (at_pairMax1 (at_cut (r' := 768) (c' := 768) (at_under (at_keep below mask_bot (at_cut (r' := 768) (c' := 768) (at_z rfl (at_cut (r' := 768) (c' := 0) r_3_at) (at_drop v196_at)))) (at_cut (r' := 1024) (c' := 768) (at_z rfl (at_cut (r' := 768) (c' := 0) r_3_at) (at_drop v196_at))))) (at_cut (r' := 768) (c' := 896) (at_under (at_keep below mask_bot (at_cut (r' := 768) (c' := 768) (at_z rfl (at_cut (r' := 768) (c' := 0) r_3_at) (at_drop v196_at)))) (at_cut (r' := 1024) (c' := 768) (at_z rfl (at_cut (r' := 768) (c' := 0) r_3_at) (at_drop v196_at))))))))

/-- A tile of the second head's keys. -/
theorem v244_at : At1 (kernelRun2_A.sl.v244 (F := Ideal) c i arg4 harg4 arg8 harg8 arg10 x1 x5) (KX x1 x5 (i 1).val 1) 0 1024 := load_last (at_keys1 (i 1) (at_read at_in) (at_read at_in))

/-- The second head: a running maximum over columns of equal lane. -/
theorem r_69_at : At (kernelRun2_A.sl.r_69 (F := Ideal) c i arg3 harg3 arg4 harg4 arg7 harg7 arg8 harg8 arg10 x0 x1 x4 x5) (runMax (ZM x0 x1 x4 x5 (i 1).val 1) 4) 1792 0 := by
  unfold kernelRun2_A.sl.r_69 k2_pay112 k2_pay108 k2_pay106
  exact (at_max1 3 r_60_at (at_cut (r' := 1792) (c' := 0) (at_pairMax1 (at_cut (r' := 1024) (c' := 1024) (at_under (at_keep below mask_bot (at_cut (r' := 1024) (c' := 1024) (at_z rfl (at_cut (r' := 1024) (c' := 0) r_3_at) (at_drop v244_at)))) (at_cut (r' := 1280) (c' := 1024) (at_z rfl (at_cut (r' := 1024) (c' := 0) r_3_at) (at_drop v244_at))))) (at_cut (r' := 1024) (c' := 1152) (at_under (at_keep below mask_bot (at_cut (r' := 1024) (c' := 1024) (at_z rfl (at_cut (r' := 1024) (c' := 0) r_3_at) (at_drop v244_at)))) (at_cut (r' := 1280) (c' := 1024) (at_z rfl (at_cut (r' := 1024) (c' := 0) r_3_at) (at_drop v244_at))))))))

/-- A tile of the second head's keys. -/
theorem v288_at : At1 (kernelRun2_A.sl.v288 (F := Ideal) c i arg4 harg4 arg8 harg8 arg10 x1 x5) (KX x1 x5 (i 1).val 1) 0 1280 := load_last (at_keys1 (i 1) (at_read at_in) (at_read at_in))

/-- The second head: a running maximum over columns of equal lane. -/
theorem r_76_at : At (kernelRun2_A.sl.r_76 (F := Ideal) c i arg3 harg3 arg4 harg4 arg7 harg7 arg8 harg8 arg10 x0 x1 x4 x5) (runMax (ZM x0 x1 x4 x5 (i 1).val 1) 5) 1792 0 := by
  unfold kernelRun2_A.sl.r_76 k2_pay125 k2_pay122 k2_pay120
  exact (at_max1 4 r_69_at (at_cut (r' := 1792) (c' := 0) (at_pairMax1 (at_cut (r' := 1280) (c' := 1280) (at_under (at_keep below mask_bot (at_cut (r' := 1280) (c' := 1280) (at_z rfl (at_cut (r' := 1280) (c' := 0) r_3_at) (at_drop v288_at)))) (at_cut (r' := 1536) (c' := 1280) (at_z rfl (at_cut (r' := 1280) (c' := 0) r_3_at) (at_drop v288_at))))) (at_cut (r' := 1280) (c' := 1408) (at_under (at_keep below mask_bot (at_cut (r' := 1280) (c' := 1280) (at_z rfl (at_cut (r' := 1280) (c' := 0) r_3_at) (at_drop v288_at)))) (at_cut (r' := 1536) (c' := 1280) (at_z rfl (at_cut (r' := 1280) (c' := 0) r_3_at) (at_drop v288_at))))))))

/-- A tile of the second head's keys. -/
theorem v328_at : At1 (kernelRun2_A.sl.v328 (F := Ideal) c i arg4 harg4 arg8 harg8 arg10 x1 x5) (KX x1 x5 (i 1).val 1) 0 1536 := load_last (at_keys1 (i 1) (at_read at_in) (at_read at_in))

/-- The second head: a running maximum over columns of equal lane. -/
theorem r_81_at : At (kernelRun2_A.sl.r_81 (F := Ideal) c i arg3 harg3 arg4 harg4 arg7 harg7 arg8 harg8 arg10 x0 x1 x4 x5) (runMax (ZM x0 x1 x4 x5 (i 1).val 1) 6) 1792 0 := by
  unfold kernelRun2_A.sl.r_81 k2_pay136 k2_pay134 k2_pay132
  exact (at_max1 5 r_76_at (at_cut (r' := 1792) (c' := 0) (at_pairMax1 (at_cut (r' := 1536) (c' := 1536) (at_under (at_keep below mask_bot (at_cut (r' := 1536) (c' := 1536) (at_z rfl (at_cut (r' := 1536) (c' := 0) r_3_at) (at_drop v328_at)))) (at_cut (r' := 1792) (c' := 1536) (at_z rfl (at_cut (r' := 1536) (c' := 0) r_3_at) (at_drop v328_at))))) (at_cut (r' := 1536) (c' := 1664) (at_under (at_keep below mask_bot (at_cut (r' := 1536) (c' := 1536) (at_z rfl (at_cut (r' := 1536) (c' := 0) r_3_at) (at_drop v328_at)))) (at_cut (r' := 1792) (c' := 1536) (at_z rfl (at_cut (r' := 1536) (c' := 0) r_3_at) (at_drop v328_at))))))))

/-- A tile of the second head's keys. -/
theorem v360_at : At1 (kernelRun2_A.sl.v360 (F := Ideal) c i arg4 harg4 arg8 harg8 arg10 x1 x5) (KX x1 x5 (i 1).val 1) 0 1792 := load_last (at_keys1 (i 1) (at_read at_in) (at_read at_in))

/-- The second head: a running maximum over columns of equal lane. -/
theorem r_84_at : At (kernelRun2_A.sl.r_84 (F := Ideal) c i arg3 harg3 arg4 harg4 arg7 harg7 arg8 harg8 arg10 x0 x1 x4 x5) (runMax (ZM x0 x1 x4 x5 (i 1).val 1) 7) 1792 0 := by
  unfold kernelRun2_A.sl.r_84 k2_pay143 k2_pay141
  exact (at_max1 6 r_81_at (at_pairMax1 (at_cut (r' := 1792) (c' := 1792) (at_keep below mask_bot (at_z rfl (at_cut (r' := 1792) (c' := 0) r_3_at) (at_drop v360_at)))) (at_cut (r' := 1792) (c' := 1920) (at_keep below mask_bot (at_z rfl (at_cut (r' := 1792) (c' := 0) r_3_at) (at_drop v360_at))))))

/-- The second head: row maxima along the lanes. -/
theorem r_101_at : At (kernelRun2_A.sl.r_101 (F := Ideal) c i arg3 harg3 arg4 harg4 arg7 harg7 arg8 harg8 arg10 x0 x1 x4 x5) (fun t _ => rowMax (ZM x0 x1 x4 x5 (i 1).val 1) t) 1792 0 := by
  unfold kernelRun2_A.sl.r_101 k2_pay160
  exact (at_lanes (at_rowMax1 7 r_84_at))

/-- The second head: the larger of the halves of a tile, some rows. -/
theorem r_13_at : At (kernelRun2_A.sl.r_13 (F := Ideal) c i arg3 harg3 arg4 harg4 arg7 harg7 arg8 harg8 arg10 x0 x1 x4 x5) (pairMax (ZM x0 x1 x4 x5 (i 1).val 1) 0) 0 0 := by
  unfold kernelRun2_A.sl.r_13 k2_pay34 k2_pay33
  exact (at_cut (r' := 0) (c' := 0) (at_pairMax1 (at_cut (r' := 0) (c' := 0) r_12_at) (at_cut (r' := 0) (c' := 128) r_12_at)))

/-- The second head: row maxima along the lanes. -/
theorem r_94_at : At (kernelRun2_A.sl.r_94 (F := Ideal) c i arg3 harg3 arg4 harg4 arg7 harg7 arg8 harg8 arg10 x0 x1 x4 x5) (fun t _ => rowMax (ZM x0 x1 x4 x5 (i 1).val 1) t) 0 0 := by
  unfold kernelRun2_A.sl.r_94 k2_pay153
  exact (at_lanes (at_rowMax1 0 r_13_at))

/-- The second head: the larger of the halves of a tile, some rows. -/
theorem r_14_at : At (kernelRun2_A.sl.r_14 (F := Ideal) c i arg3 harg3 arg4 harg4 arg7 harg7 arg8 harg8 arg10 x0 x1 x4 x5) (pairMax (ZM x0 x1 x4 x5 (i 1).val 1) 0) 256 0 := by
  unfold kernelRun2_A.sl.r_14 k2_pay35 k2_pay33
  exact (at_cut (r' := 256) (c' := 0) (at_pairMax1 (at_cut (r' := 0) (c' := 0) r_12_at) (at_cut (r' := 0) (c' := 128) r_12_at)))

/-- The second head: a running maximum over columns of equal lane. -/
theorem r_30_at : At (kernelRun2_A.sl.r_30 (F := Ideal) c i arg3 harg3 arg4 harg4 arg7 harg7 arg8 harg8 arg10 x0 x1 x4 x5) (runMax (ZM x0 x1 x4 x5 (i 1).val 1) 1) 256 0 := by
  unfold kernelRun2_A.sl.r_30 k2_pay57 k2_pay56 k2_pay54
  exact (at_max1 0 r_14_at (at_cut (r' := 256) (c' := 0) (at_pairMax1 (at_cut (r' := 256) (c' := 256) (at_under (at_keep below mask_bot (at_cut (r' := 256) (c' := 256) (at_z rfl r_28_at r_29_at))) (at_cut (r' := 512) (c' := 256) (at_z rfl r_28_at r_29_at)))) (at_cut (r' := 256) (c' := 384) (at_under (at_keep below mask_bot (at_cut (r' := 256) (c' := 256) (at_z rfl r_28_at r_29_at))) (at_cut (r' := 512) (c' := 256) (at_z rfl r_28_at r_29_at)))))))

/-- The second head: row maxima along the lanes. -/
theorem r_95_at : At (kernelRun2_A.sl.r_95 (F := Ideal) c i arg3 harg3 arg4 harg4 arg7 harg7 arg8 harg8 arg10 x0 x1 x4 x5) (fun t _ => rowMax (ZM x0 x1 x4 x5 (i 1).val 1) t) 256 0 := by
  unfold kernelRun2_A.sl.r_95 k2_pay154
  exact (at_lanes (at_rowMax1 1 r_30_at))

/-- The second head: the larger of the halves of a tile, some rows. -/
theorem r_15_at : At (kernelRun2_A.sl.r_15 (F := Ideal) c i arg3 harg3 arg4 harg4 arg7 harg7 arg8 harg8 arg10 x0 x1 x4 x5) (pairMax (ZM x0 x1 x4 x5 (i 1).val 1) 0) 512 0 := by
  unfold kernelRun2_A.sl.r_15 k2_pay36 k2_pay33
  exact (at_cut (r' := 512) (c' := 0) (at_pairMax1 (at_cut (r' := 0) (c' := 0) r_12_at) (at_cut (r' := 0) (c' := 128) r_12_at)))

/-- The second head: a running maximum over columns of equal lane. -/
theorem r_31_at : At (kernelRun2_A.sl.r_31 (F := Ideal) c i arg3 harg3 arg4 harg4 arg7 harg7 arg8 harg8 arg10 x0 x1 x4 x5) (runMax (ZM x0 x1 x4 x5 (i 1).val 1) 1) 512 0 := by
  unfold kernelRun2_A.sl.r_31 k2_pay58 k2_pay56 k2_pay54
  exact (at_max1 0 r_15_at (at_cut (r' := 512) (c' := 0) (at_pairMax1 (at_cut (r' := 256) (c' := 256) (at_under (at_keep below mask_bot (at_cut (r' := 256) (c' := 256) (at_z rfl r_28_at r_29_at))) (at_cut (r' := 512) (c' := 256) (at_z rfl r_28_at r_29_at)))) (at_cut (r' := 256) (c' := 384) (at_under (at_keep below mask_bot (at_cut (r' := 256) (c' := 256) (at_z rfl r_28_at r_29_at))) (at_cut (r' := 512) (c' := 256) (at_z rfl r_28_at r_29_at)))))))

/-- The second head: a running maximum over columns of equal lane. -/
theorem r_44_at : At (kernelRun2_A.sl.r_44 (F := Ideal) c i arg3 harg3 arg4 harg4 arg7 harg7 arg8 harg8 arg10 x0 x1 x4 x5) (runMax (ZM x0 x1 x4 x5 (i 1).val 1) 2) 512 0 := by
  unfold kernelRun2_A.sl.r_44 k2_pay76 k2_pay75 k2_pay73
  exact (at_max1 1 r_31_at (at_cut (r' := 512) (c' := 0) (at_pairMax1 (at_cut (r' := 512) (c' := 512) (at_under (at_keep below mask_bot (at_cut (r' := 512) (c' := 512) (at_z rfl (at_cut (r' := 512) (c' := 0) r_3_at) (at_drop v144_at)))) (at_cut (r' := 768) (c' := 512) (at_z rfl (at_cut (r' := 512) (c' := 0) r_3_at) (at_drop v144_at))))) (at_cut (r' := 512) (c' := 640) (at_under (at_keep below mask_bot (at_cut (r' := 512) (c' := 512) (at_z rfl (at_cut (r' := 512) (c' := 0) r_3_at) (at_drop v144_at)))) (at_cut (r' := 768) (c' := 512) (at_z rfl (at_cut (r' := 512) (c' := 0) r_3_at) (at_drop v144_at))))))))

/-- The second head: row maxima along the lanes. -/
theorem r_96_at : At (kernelRun2_A.sl.r_96 (F := Ideal) c i arg3 harg3 arg4 harg4 arg7 harg7 arg8 harg8 arg10 x0 x1 x4 x5) (fun t _ => rowMax (ZM x0 x1 x4 x5 (i 1).val 1) t) 512 0 := by
  unfold kernelRun2_A.sl.r_96 k2_pay155
  exact (at_lanes (at_rowMax1 2 r_44_at))

/-- The second head: the larger of the halves of a tile, some rows. -/
theorem r_16_at : At (kernelRun2_A.sl.r_16 (F := Ideal) c i arg3 harg3 arg4 harg4 arg7 harg7 arg8 harg8 arg10 x0 x1 x4 x5) (pairMax (ZM x0 x1 x4 x5 (i 1).val 1) 0) 768 0 := by
  unfold kernelRun2_A.sl.r_16 k2_pay37 k2_pay33
  exact (at_cut (r' := 768) (c' := 0) (at_pairMax1 (at_cut (r' := 0) (c' := 0) r_12_at) (at_cut (r' := 0) (c' := 128) r_12_at)))

/-- The second head: a running maximum over columns of equal lane. -/
theorem r_32_at : At (kernelRun2_A.sl.r_32 (F := Ideal) c i arg3 harg3 arg4 harg4 arg7 harg7 arg8 harg8 arg10 x0 x1 x4 x5) (runMax (ZM x0 x1 x4 x5 (i 1).val 1) 1) 768 0 := by
  unfold kernelRun2_A.sl.r_32 k2_pay59 k2_pay56 k2_pay54
  exact (at_max1 0 r_16_at (at_cut (r' := 768) (c' := 0) (at_pairMax1 (at_cut (r' := 256) (c' := 256) (at_under (at_keep below mask_bot (at_cut (r' := 256) (c' := 256) (at_z rfl r_28_at r_29_at))) (at_cut (r' := 512) (c' := 256) (at_z rfl r_28_at r_29_at)))) (at_cut (r' := 256) (c' := 384) (at_under (at_keep below mask_bot (at_cut (r' := 256) (c' := 256) (at_z rfl r_28_at r_29_at))) (at_cut (r' := 512) (c' := 256) (at_z rfl r_28_at r_29_at)))))))

/-- The second head: a running maximum over columns of equal lane. -/
theorem r_45_at : At (kernelRun2_A.sl.r_45 (F := Ideal) c i arg3 harg3 arg4 harg4 arg7 harg7 arg8 harg8 arg10 x0 x1 x4 x5) (runMax (ZM x0 x1 x4 x5 (i 1).val 1) 2) 768 0 := by
  unfold kernelRun2_A.sl.r_45 k2_pay77 k2_pay75 k2_pay73
  exact (at_max1 1 r_32_at (at_cut (r' := 768) (c' := 0) (at_pairMax1 (at_cut (r' := 512) (c' := 512) (at_under (at_keep below mask_bot (at_cut (r' := 512) (c' := 512) (at_z rfl (at_cut (r' := 512) (c' := 0) r_3_at) (at_drop v144_at)))) (at_cut (r' := 768) (c' := 512) (at_z rfl (at_cut (r' := 512) (c' := 0) r_3_at) (at_drop v144_at))))) (at_cut (r' := 512) (c' := 640) (at_under (at_keep below mask_bot (at_cut (r' := 512) (c' := 512) (at_z rfl (at_cut (r' := 512) (c' := 0) r_3_at) (at_drop v144_at)))) (at_cut (r' := 768) (c' := 512) (at_z rfl (at_cut (r' := 512) (c' := 0) r_3_at) (at_drop v144_at))))))))

/-- The second head: a running maximum over columns of equal lane. -/
theorem r_56_at : At (kernelRun2_A.sl.r_56 (F := Ideal) c i arg3 harg3 arg4 harg4 arg7 harg7 arg8 harg8 arg10 x0 x1 x4 x5) (runMax (ZM x0 x1 x4 x5 (i 1).val 1) 3) 768 0 := by
  unfold kernelRun2_A.sl.r_56 k2_pay93 k2_pay92 k2_pay90
  exact (at_max1 2 r_45_at (at_cut (r' := 768) (c' := 0) (at_pairMax1 (at_cut (r' := 768) (c' := 768) (at_under (at_keep below mask_bot (at_cut (r' := 768) (c' := 768) (at_z rfl (at_cut (r' := 768) (c' := 0) r_3_at) (at_drop v196_at)))) (at_cut (r' := 1024) (c' := 768) (at_z rfl (at_cut (r' := 768) (c' := 0) r_3_at) (at_drop v196_at))))) (at_cut (r' := 768) (c' := 896) (at_under (at_keep below mask_bot (at_cut (r' := 768) (c' := 768) (at_z rfl (at_cut (r' := 768) (c' := 0) r_3_at) (at_drop v196_at)))) (at_cut (r' := 1024) (c' := 768) (at_z rfl (at_cut (r' := 768) (c' := 0) r_3_at) (at_drop v196_at))))))))

/-- The second head: row maxima along the lanes. -/
theorem r_97_at : At (kernelRun2_A.sl.r_97 (F := Ideal) c i arg3 harg3 arg4 harg4 arg7 harg7 arg8 harg8 arg10 x0 x1 x4 x5) (fun t _ => rowMax (ZM x0 x1 x4 x5 (i 1).val 1) t) 768 0 := by
  unfold kernelRun2_A.sl.r_97 k2_pay156
  exact (at_lanes (at_rowMax1 3 r_56_at))

/-- The second head: the larger of the halves of a tile, some rows. -/
theorem r_17_at : At (kernelRun2_A.sl.r_17 (F := Ideal) c i arg3 harg3 arg4 harg4 arg7 harg7 arg8 harg8 arg10 x0 x1 x4 x5) (pairMax (ZM x0 x1 x4 x5 (i 1).val 1) 0) 1024 0 := by
  unfold kernelRun2_A.sl.r_17 k2_pay38 k2_pay33
  exact (at_cut (r' := 1024) (c' := 0) (at_pairMax1 (at_cut (r' := 0) (c' := 0) r_12_at) (at_cut (r' := 0) (c' := 128) r_12_at)))

/-- The second head: a running maximum over columns of equal lane. -/
theorem r_33_at : At (kernelRun2_A.sl.r_33 (F := Ideal) c i arg3 harg3 arg4 harg4 arg7 harg7 arg8 harg8 arg10 x0 x1 x4 x5) (runMax (ZM x0 x1 x4 x5 (i 1).val 1) 1) 1024 0 := by
  unfold kernelRun2_A.sl.r_33 k2_pay60 k2_pay56 k2_pay54
  exact (at_max1 0 r_17_at (at_cut (r' := 1024) (c' := 0) (at_pairMax1 (at_cut (r' := 256) (c' := 256) (at_under (at_keep below mask_bot (at_cut (r' := 256) (c' := 256) (at_z rfl r_28_at r_29_at))) (at_cut (r' := 512) (c' := 256) (at_z rfl r_28_at r_29_at)))) (at_cut (r' := 256) (c' := 384) (at_under (at_keep below mask_bot (at_cut (r' := 256) (c' := 256) (at_z rfl r_28_at r_29_at))) (at_cut (r' := 512) (c' := 256) (at_z rfl r_28_at r_29_at)))))))

/-- The second head: a running maximum over columns of equal lane. -/
theorem r_46_at : At (kernelRun2_A.sl.r_46 (F := Ideal) c i arg3 harg3 arg4 harg4 arg7 harg7 arg8 harg8 arg10 x0 x1 x4 x5) (runMax (ZM x0 x1 x4 x5 (i 1).val 1) 2) 1024 0 := by
  unfold kernelRun2_A.sl.r_46 k2_pay78 k2_pay75 k2_pay73
  exact (at_max1 1 r_33_at (at_cut (r' := 1024) (c' := 0) (at_pairMax1 (at_cut (r' := 512) (c' := 512) (at_under (at_keep below mask_bot (at_cut (r' := 512) (c' := 512) (at_z rfl (at_cut (r' := 512) (c' := 0) r_3_at) (at_drop v144_at)))) (at_cut (r' := 768) (c' := 512) (at_z rfl (at_cut (r' := 512) (c' := 0) r_3_at) (at_drop v144_at))))) (at_cut (r' := 512) (c' := 640) (at_under (at_keep below mask_bot (at_cut (r' := 512) (c' := 512) (at_z rfl (at_cut (r' := 512) (c' := 0) r_3_at) (at_drop v144_at)))) (at_cut (r' := 768) (c' := 512) (at_z rfl (at_cut (r' := 512) (c' := 0) r_3_at) (at_drop v144_at))))))))

/-- The second head: a running maximum over columns of equal lane. -/
theorem r_57_at : At (kernelRun2_A.sl.r_57 (F := Ideal) c i arg3 harg3 arg4 harg4 arg7 harg7 arg8 harg8 arg10 x0 x1 x4 x5) (runMax (ZM x0 x1 x4 x5 (i 1).val 1) 3) 1024 0 := by
  unfold kernelRun2_A.sl.r_57 k2_pay94 k2_pay92 k2_pay90
  exact (at_max1 2 r_46_at (at_cut (r' := 1024) (c' := 0) (at_pairMax1 (at_cut (r' := 768) (c' := 768) (at_under (at_keep below mask_bot (at_cut (r' := 768) (c' := 768) (at_z rfl (at_cut (r' := 768) (c' := 0) r_3_at) (at_drop v196_at)))) (at_cut (r' := 1024) (c' := 768) (at_z rfl (at_cut (r' := 768) (c' := 0) r_3_at) (at_drop v196_at))))) (at_cut (r' := 768) (c' := 896) (at_under (at_keep below mask_bot (at_cut (r' := 768) (c' := 768) (at_z rfl (at_cut (r' := 768) (c' := 0) r_3_at) (at_drop v196_at)))) (at_cut (r' := 1024) (c' := 768) (at_z rfl (at_cut (r' := 768) (c' := 0) r_3_at) (at_drop v196_at))))))))

/-- The second head: a running maximum over columns of equal lane. -/
theorem r_66_at : At (kernelRun2_A.sl.r_66 (F := Ideal) c i arg3 harg3 arg4 harg4 arg7 harg7 arg8 harg8 arg10 x0 x1 x4 x5) (runMax (ZM x0 x1 x4 x5 (i 1).val 1) 4) 1024 0 := by
  unfold kernelRun2_A.sl.r_66 k2_pay109 k2_pay108 k2_pay106
  exact (at_max1 3 r_57_at (at_cut (r' := 1024) (c' := 0) (at_pairMax1 (at_cut (r' := 1024) (c' := 1024) (at_under (at_keep below mask_bot (at_cut (r' := 1024) (c' := 1024) (at_z rfl (at_cut (r' := 1024) (c' := 0) r_3_at) (at_drop v244_at)))) (at_cut (r' := 1280) (c' := 1024) (at_z rfl (at_cut (r' := 1024) (c' := 0) r_3_at) (at_drop v244_at))))) (at_cut (r' := 1024) (c' := 1152) (at_under (at_keep below mask_bot (at_cut (r' := 1024) (c' := 1024) (at_z rfl (at_cut (r' := 1024) (c' := 0) r_3_at) (at_drop v244_at)))) (at_cut (r' := 1280) (c' := 1024) (at_z rfl (at_cut (r' := 1024) (c' := 0) r_3_at) (at_drop v244_at))))))))

/-- The second head: row maxima along the lanes. -/
theorem r_98_at : At (kernelRun2_A.sl.r_98 (F := Ideal) c i arg3 harg3 arg4 harg4 arg7 harg7 arg8 harg8 arg10 x0 x1 x4 x5) (fun t _ => rowMax (ZM x0 x1 x4 x5 (i 1).val 1) t) 1024 0 := by
  unfold kernelRun2_A.sl.r_98 k2_pay157
  exact (at_lanes (at_rowMax1 4 r_66_at))

/-- The second head: the larger of the halves of a tile, some rows. -/
theorem r_18_at : At (kernelRun2_A.sl.r_18 (F := Ideal) c i arg3 harg3 arg4 harg4 arg7 harg7 arg8 harg8 arg10 x0 x1 x4 x5) (pairMax (ZM x0 x1 x4 x5 (i 1).val 1) 0) 1280 0 := by
  unfold kernelRun2_A.sl.r_18 k2_pay39 k2_pay33
  exact (at_cut (r' := 1280) (c' := 0) (at_pairMax1 (at_cut (r' := 0) (c' := 0) r_12_at) (at_cut (r' := 0) (c' := 128) r_12_at)))

/-- The second head: a running maximum over columns of equal lane. -/
theorem r_34_at : At (kernelRun2_A.sl.r_34 (F := Ideal) c i arg3 harg3 arg4 harg4 arg7 harg7 arg8 harg8 arg10 x0 x1 x4 x5) (runMax (ZM x0 x1 x4 x5 (i 1).val 1) 1) 1280 0 := by
  unfold kernelRun2_A.sl.r_34 k2_pay61 k2_pay56 k2_pay54
  exact (at_max1 0 r_18_at (at_cut (r' := 1280) (c' := 0) (at_pairMax1 (at_cut (r' := 256) (c' := 256) (at_under (at_keep below mask_bot (at_cut (r' := 256) (c' := 256) (at_z rfl r_28_at r_29_at))) (at_cut (r' := 512) (c' := 256) (at_z rfl r_28_at r_29_at)))) (at_cut (r' := 256) (c' := 384) (at_under (at_keep below mask_bot (at_cut (r' := 256) (c' := 256) (at_z rfl r_28_at r_29_at))) (at_cut (r' := 512) (c' := 256) (at_z rfl r_28_at r_29_at)))))))

/-- The second head: a running maximum over columns of equal lane. -/
theorem r_47_at : At (kernelRun2_A.sl.r_47 (F := Ideal) c i arg3 harg3 arg4 harg4 arg7 harg7 arg8 harg8 arg10 x0 x1 x4 x5) (runMax (ZM x0 x1 x4 x5 (i 1).val 1) 2) 1280 0 := by
  unfold kernelRun2_A.sl.r_47 k2_pay79 k2_pay75 k2_pay73
  exact (at_max1 1 r_34_at (at_cut (r' := 1280) (c' := 0) (at_pairMax1 (at_cut (r' := 512) (c' := 512) (at_under (at_keep below mask_bot (at_cut (r' := 512) (c' := 512) (at_z rfl (at_cut (r' := 512) (c' := 0) r_3_at) (at_drop v144_at)))) (at_cut (r' := 768) (c' := 512) (at_z rfl (at_cut (r' := 512) (c' := 0) r_3_at) (at_drop v144_at))))) (at_cut (r' := 512) (c' := 640) (at_under (at_keep below mask_bot (at_cut (r' := 512) (c' := 512) (at_z rfl (at_cut (r' := 512) (c' := 0) r_3_at) (at_drop v144_at)))) (at_cut (r' := 768) (c' := 512) (at_z rfl (at_cut (r' := 512) (c' := 0) r_3_at) (at_drop v144_at))))))))

/-- The second head: a running maximum over columns of equal lane. -/
theorem r_58_at : At (kernelRun2_A.sl.r_58 (F := Ideal) c i arg3 harg3 arg4 harg4 arg7 harg7 arg8 harg8 arg10 x0 x1 x4 x5) (runMax (ZM x0 x1 x4 x5 (i 1).val 1) 3) 1280 0 := by
  unfold kernelRun2_A.sl.r_58 k2_pay95 k2_pay92 k2_pay90
  exact (at_max1 2 r_47_at (at_cut (r' := 1280) (c' := 0) (at_pairMax1 (at_cut (r' := 768) (c' := 768) (at_under (at_keep below mask_bot (at_cut (r' := 768) (c' := 768) (at_z rfl (at_cut (r' := 768) (c' := 0) r_3_at) (at_drop v196_at)))) (at_cut (r' := 1024) (c' := 768) (at_z rfl (at_cut (r' := 768) (c' := 0) r_3_at) (at_drop v196_at))))) (at_cut (r' := 768) (c' := 896) (at_under (at_keep below mask_bot (at_cut (r' := 768) (c' := 768) (at_z rfl (at_cut (r' := 768) (c' := 0) r_3_at) (at_drop v196_at)))) (at_cut (r' := 1024) (c' := 768) (at_z rfl (at_cut (r' := 768) (c' := 0) r_3_at) (at_drop v196_at))))))))

/-- The second head: a running maximum over columns of equal lane. -/
theorem r_67_at : At (kernelRun2_A.sl.r_67 (F := Ideal) c i arg3 harg3 arg4 harg4 arg7 harg7 arg8 harg8 arg10 x0 x1 x4 x5) (runMax (ZM x0 x1 x4 x5 (i 1).val 1) 4) 1280 0 := by
  unfold kernelRun2_A.sl.r_67 k2_pay110 k2_pay108 k2_pay106
  exact (at_max1 3 r_58_at (at_cut (r' := 1280) (c' := 0) (at_pairMax1 (at_cut (r' := 1024) (c' := 1024) (at_under (at_keep below mask_bot (at_cut (r' := 1024) (c' := 1024) (at_z rfl (at_cut (r' := 1024) (c' := 0) r_3_at) (at_drop v244_at)))) (at_cut (r' := 1280) (c' := 1024) (at_z rfl (at_cut (r' := 1024) (c' := 0) r_3_at) (at_drop v244_at))))) (at_cut (r' := 1024) (c' := 1152) (at_under (at_keep below mask_bot (at_cut (r' := 1024) (c' := 1024) (at_z rfl (at_cut (r' := 1024) (c' := 0) r_3_at) (at_drop v244_at)))) (at_cut (r' := 1280) (c' := 1024) (at_z rfl (at_cut (r' := 1024) (c' := 0) r_3_at) (at_drop v244_at))))))))

/-- The second head: a running maximum over columns of equal lane. -/
theorem r_74_at : At (kernelRun2_A.sl.r_74 (F := Ideal) c i arg3 harg3 arg4 harg4 arg7 harg7 arg8 harg8 arg10 x0 x1 x4 x5) (runMax (ZM x0 x1 x4 x5 (i 1).val 1) 5) 1280 0 := by
  unfold kernelRun2_A.sl.r_74 k2_pay123 k2_pay122 k2_pay120
  exact (at_max1 4 r_67_at (at_cut (r' := 1280) (c' := 0) (at_pairMax1 (at_cut (r' := 1280) (c' := 1280) (at_under (at_keep below mask_bot (at_cut (r' := 1280) (c' := 1280) (at_z rfl (at_cut (r' := 1280) (c' := 0) r_3_at) (at_drop v288_at)))) (at_cut (r' := 1536) (c' := 1280) (at_z rfl (at_cut (r' := 1280) (c' := 0) r_3_at) (at_drop v288_at))))) (at_cut (r' := 1280) (c' := 1408) (at_under (at_keep below mask_bot (at_cut (r' := 1280) (c' := 1280) (at_z rfl (at_cut (r' := 1280) (c' := 0) r_3_at) (at_drop v288_at)))) (at_cut (r' := 1536) (c' := 1280) (at_z rfl (at_cut (r' := 1280) (c' := 0) r_3_at) (at_drop v288_at))))))))

/-- The second head: row maxima along the lanes. -/
theorem r_99_at : At (kernelRun2_A.sl.r_99 (F := Ideal) c i arg3 harg3 arg4 harg4 arg7 harg7 arg8 harg8 arg10 x0 x1 x4 x5) (fun t _ => rowMax (ZM x0 x1 x4 x5 (i 1).val 1) t) 1280 0 := by
  unfold kernelRun2_A.sl.r_99 k2_pay158
  exact (at_lanes (at_rowMax1 5 r_74_at))

/-- The second head: the larger of the halves of a tile, some rows. -/
theorem r_19_at : At (kernelRun2_A.sl.r_19 (F := Ideal) c i arg3 harg3 arg4 harg4 arg7 harg7 arg8 harg8 arg10 x0 x1 x4 x5) (pairMax (ZM x0 x1 x4 x5 (i 1).val 1) 0) 1536 0 := by
  unfold kernelRun2_A.sl.r_19 k2_pay40 k2_pay33
  exact (at_cut (r' := 1536) (c' := 0) (at_pairMax1 (at_cut (r' := 0) (c' := 0) r_12_at) (at_cut (r' := 0) (c' := 128) r_12_at)))

/-- The second head: a running maximum over columns of equal lane. -/
theorem r_35_at : At (kernelRun2_A.sl.r_35 (F := Ideal) c i arg3 harg3 arg4 harg4 arg7 harg7 arg8 harg8 arg10 x0 x1 x4 x5) (runMax (ZM x0 x1 x4 x5 (i 1).val 1) 1) 1536 0 := by
  unfold kernelRun2_A.sl.r_35 k2_pay62 k2_pay56 k2_pay54
  exact (at_max1 0 r_19_at (at_cut (r' := 1536) (c' := 0) (at_pairMax1 (at_cut (r' := 256) (c' := 256) (at_under (at_keep below mask_bot (at_cut (r' := 256) (c' := 256) (at_z rfl r_28_at r_29_at))) (at_cut (r' := 512) (c' := 256) (at_z rfl r_28_at r_29_at)))) (at_cut (r' := 256) (c' := 384) (at_under (at_keep below mask_bot (at_cut (r' := 256) (c' := 256) (at_z rfl r_28_at r_29_at))) (at_cut (r' := 512) (c' := 256) (at_z rfl r_28_at r_29_at)))))))

/-- The second head: a running maximum over columns of equal lane. -/
theorem r_48_at : At (kernelRun2_A.sl.r_48 (F := Ideal) c i arg3 harg3 arg4 harg4 arg7 harg7 arg8 harg8 arg10 x0 x1 x4 x5) (runMax (ZM x0 x1 x4 x5 (i 1).val 1) 2) 1536 0 := by
  unfold kernelRun2_A.sl.r_48 k2_pay80 k2_pay75 k2_pay73
  exact (at_max1 1 r_35_at (at_cut (r' := 1536) (c' := 0) (at_pairMax1 (at_cut (r' := 512) (c' := 512) (at_under (at_keep below mask_bot (at_cut (r' := 512) (c' := 512) (at_z rfl (at_cut (r' := 512) (c' := 0) r_3_at) (at_drop v144_at)))) (at_cut (r' := 768) (c' := 512) (at_z rfl (at_cut (r' := 512) (c' := 0) r_3_at) (at_drop v144_at))))) (at_cut (r' := 512) (c' := 640) (at_under (at_keep below mask_bot (at_cut (r' := 512) (c' := 512) (at_z rfl (at_cut (r' := 512) (c' := 0) r_3_at) (at_drop v144_at)))) (at_cut (r' := 768) (c' := 512) (at_z rfl (at_cut (r' := 512) (c' := 0) r_3_at) (at_drop v144_at))))))))

/-- The second head: a running maximum over columns of equal lane. -/
theorem r_59_at : At (kernelRun2_A.sl.r_59 (F := Ideal) c i arg3 harg3 arg4 harg4 arg7 harg7 arg8 harg8 arg10 x0 x1 x4 x5) (runMax (ZM x0 x1 x4 x5 (i 1).val 1) 3) 1536 0 := by
  unfold kernelRun2_A.sl.r_59 k2_pay96 k2_pay92 k2_pay90
  exact (at_max1 2 r_48_at (at_cut (r' := 1536) (c' := 0) (at_pairMax1 (at_cut (r' := 768) (c' := 768) (at_under (at_keep below mask_bot (at_cut (r' := 768) (c' := 768) (at_z rfl (at_cut (r' := 768) (c' := 0) r_3_at) (at_drop v196_at)))) (at_cut (r' := 1024) (c' := 768) (at_z rfl (at_cut (r' := 768) (c' := 0) r_3_at) (at_drop v196_at))))) (at_cut (r' := 768) (c' := 896) (at_under (at_keep below mask_bot (at_cut (r' := 768) (c' := 768) (at_z rfl (at_cut (r' := 768) (c' := 0) r_3_at) (at_drop v196_at)))) (at_cut (r' := 1024) (c' := 768) (at_z rfl (at_cut (r' := 768) (c' := 0) r_3_at) (at_drop v196_at))))))))

/-- The second head: a running maximum over columns of equal lane. -/
theorem r_68_at : At (kernelRun2_A.sl.r_68 (F := Ideal) c i arg3 harg3 arg4 harg4 arg7 harg7 arg8 harg8 arg10 x0 x1 x4 x5) (runMax (ZM x0 x1 x4 x5 (i 1).val 1) 4) 1536 0 := by
  unfold kernelRun2_A.sl.r_68 k2_pay111 k2_pay108 k2_pay106
  exact (at_max1 3 r_59_at (at_cut (r' := 1536) (c' := 0) (at_pairMax1 (at_cut (r' := 1024) (c' := 1024) (at_under (at_keep below mask_bot (at_cut (r' := 1024) (c' := 1024) (at_z rfl (at_cut (r' := 1024) (c' := 0) r_3_at) (at_drop v244_at)))) (at_cut (r' := 1280) (c' := 1024) (at_z rfl (at_cut (r' := 1024) (c' := 0) r_3_at) (at_drop v244_at))))) (at_cut (r' := 1024) (c' := 1152) (at_under (at_keep below mask_bot (at_cut (r' := 1024) (c' := 1024) (at_z rfl (at_cut (r' := 1024) (c' := 0) r_3_at) (at_drop v244_at)))) (at_cut (r' := 1280) (c' := 1024) (at_z rfl (at_cut (r' := 1024) (c' := 0) r_3_at) (at_drop v244_at))))))))

/-- The second head: a running maximum over columns of equal lane. -/
theorem r_75_at : At (kernelRun2_A.sl.r_75 (F := Ideal) c i arg3 harg3 arg4 harg4 arg7 harg7 arg8 harg8 arg10 x0 x1 x4 x5) (runMax (ZM x0 x1 x4 x5 (i 1).val 1) 5) 1536 0 := by
  unfold kernelRun2_A.sl.r_75 k2_pay124 k2_pay122 k2_pay120
  exact (at_max1 4 r_68_at (at_cut (r' := 1536) (c' := 0) (at_pairMax1 (at_cut (r' := 1280) (c' := 1280) (at_under (at_keep below mask_bot (at_cut (r' := 1280) (c' := 1280) (at_z rfl (at_cut (r' := 1280) (c' := 0) r_3_at) (at_drop v288_at)))) (at_cut (r' := 1536) (c' := 1280) (at_z rfl (at_cut (r' := 1280) (c' := 0) r_3_at) (at_drop v288_at))))) (at_cut (r' := 1280) (c' := 1408) (at_under (at_keep below mask_bot (at_cut (r' := 1280) (c' := 1280) (at_z rfl (at_cut (r' := 1280) (c' := 0) r_3_at) (at_drop v288_at)))) (at_cut (r' := 1536) (c' := 1280) (at_z rfl (at_cut (r' := 1280) (c' := 0) r_3_at) (at_drop v288_at))))))))

/-- The second head: a running maximum over columns of equal lane. -/
theorem r_80_at : At (kernelRun2_A.sl.r_80 (F := Ideal) c i arg3 harg3 arg4 harg4 arg7 harg7 arg8 harg8 arg10 x0 x1 x4 x5) (runMax (ZM x0 x1 x4 x5 (i 1).val 1) 6) 1536 0 := by
  unfold kernelRun2_A.sl.r_80 k2_pay135 k2_pay134 k2_pay132
  exact (at_max1 5 r_75_at (at_cut (r' := 1536) (c' := 0) (at_pairMax1 (at_cut (r' := 1536) (c' := 1536) (at_under (at_keep below mask_bot (at_cut (r' := 1536) (c' := 1536) (at_z rfl (at_cut (r' := 1536) (c' := 0) r_3_at) (at_drop v328_at)))) (at_cut (r' := 1792) (c' := 1536) (at_z rfl (at_cut (r' := 1536) (c' := 0) r_3_at) (at_drop v328_at))))) (at_cut (r' := 1536) (c' := 1664) (at_under (at_keep below mask_bot (at_cut (r' := 1536) (c' := 1536) (at_z rfl (at_cut (r' := 1536) (c' := 0) r_3_at) (at_drop v328_at)))) (at_cut (r' := 1792) (c' := 1536) (at_z rfl (at_cut (r' := 1536) (c' := 0) r_3_at) (at_drop v328_at))))))))

/-- The second head: row maxima along the lanes. -/
theorem r_100_at : At (kernelRun2_A.sl.r_100 (F := Ideal) c i arg3 harg3 arg4 harg4 arg7 harg7 arg8 harg8 arg10 x0 x1 x4 x5) (fun t _ => rowMax (ZM x0 x1 x4 x5 (i 1).val 1) t) 1536 0 := by
  unfold kernelRun2_A.sl.r_100 k2_pay159
  exact (at_lanes (at_rowMax1 6 r_80_at))

/-- Masked scores of the second head. -/
theorem v467_at : At1 (a := 2048) (b := 256) (kernelRun2_A.sl.v467 (F := Ideal) c i arg3 harg3 arg4 harg4 arg7 harg7 arg8 harg8 arg10 arg12 x0 x1 x4 x5) (ZM x0 x1 x4 x5 (i 1).val 1) 0 0 := by
  unfold kernelRun2_A.sl.v467 kernelRun2_A.sl.HS2_16
  simp (disch := decide) only [↓ View.readCov_skip, ↓ View.readCov_cons_toLoadRect]
  unfold k2_pay32
  exact (at_lead r_12_at)

/-- A tile of the second head's values. -/
theorem v477_at : At1 (kernelRun2_A.sl.v477 (F := Ideal) c arg5 harg5 arg11 x2) (VX x2 1) 0 0 := load_last (at_vals1 (at_read at_in))

/-- The second head: weighted sums so far, a block of rows. -/
theorem r_111_at : At (kernelRun2_A.sl.r_111 (F := Ideal) c i arg3 harg3 arg4 harg4 arg5 harg5 arg7 harg7 arg8 harg8 arg10 arg11 arg12 x0 x1 x2 x4 x5) (AX x0 x1 x2 x4 x5 (i 1).val 1 0) 0 0 := by
  unfold kernelRun2_A.sl.r_111 k2_pay162 k2_pay173 k2_pay172
  exact (at_accZ none_all (at_cut (r' := 0) (c' := 0) (at_sum rfl (at_truncf (at_exp2 (at_beside (at_sub (at_cut (r' := 0) (c' := 0) (at_drop v467_at)) (at_stack (.cons r_94_at (.cons r_95_at (.cons r_96_at (.cons r_97_at (.cons r_98_at (.cons r_99_at (.cons r_100_at (.cons r_101_at .nil)))))))))) (at_sub (at_cut (r' := 0) (c' := 128) (at_drop v467_at)) (at_stack (.cons r_94_at (.cons r_95_at (.cons r_96_at (.cons r_97_at (.cons r_98_at (.cons r_99_at (.cons r_100_at (.cons r_101_at .nil))))))))))))) (at_drop v477_at))))

/-- The second head: weighted sums so far, a block of rows. -/
theorem r_112_at : At (kernelRun2_A.sl.r_112 (F := Ideal) c i arg3 harg3 arg4 harg4 arg5 harg5 arg7 harg7 arg8 harg8 arg10 arg11 arg12 x0 x1 x2 x4 x5) (AX x0 x1 x2 x4 x5 (i 1).val 1 0) 256 0 := by
  unfold kernelRun2_A.sl.r_112 k2_pay162 k2_pay174 k2_pay172
  exact (at_accZ none_all (at_cut (r' := 256) (c' := 0) (at_sum rfl (at_truncf (at_exp2 (at_beside (at_sub (at_cut (r' := 0) (c' := 0) (at_drop v467_at)) (at_stack (.cons r_94_at (.cons r_95_at (.cons r_96_at (.cons r_97_at (.cons r_98_at (.cons r_99_at (.cons r_100_at (.cons r_101_at .nil)))))))))) (at_sub (at_cut (r' := 0) (c' := 128) (at_drop v467_at)) (at_stack (.cons r_94_at (.cons r_95_at (.cons r_96_at (.cons r_97_at (.cons r_98_at (.cons r_99_at (.cons r_100_at (.cons r_101_at .nil))))))))))))) (at_drop v477_at))))

/-- Masked scores of the second head. -/
theorem v523_at : At1 (a := 1792) (b := 256) (kernelRun2_A.sl.v523 (F := Ideal) c i arg3 harg3 arg4 harg4 arg7 harg7 arg8 harg8 arg10 arg12 x0 x1 x4 x5) (ZM x0 x1 x4 x5 (i 1).val 1) 256 256 := by
  unfold kernelRun2_A.sl.v523 kernelRun2_A.sl.HS2_16
  simp (disch := decide) only [↓ View.readCov_skip, ↓ View.readCov_cons_toLoadRect]
  unfold k2_pay55 k2_pay54
  exact (at_lead (at_under (at_keep below mask_bot (at_cut (r' := 256) (c' := 256) (at_z rfl r_28_at r_29_at))) (at_cut (r' := 512) (c' := 256) (at_z rfl r_28_at r_29_at))))

/-- The second head: exponentials of a tile. -/
theorem r_126_at : At (kernelRun2_A.sl.r_126 (F := Ideal) c i arg3 harg3 arg4 harg4 arg7 harg7 arg8 harg8 arg10 arg12 x0 x1 x4 x5) (PX x0 x1 x4 x5 (i 1).val 1) 256 256 := by
  unfold kernelRun2_A.sl.r_126 k2_pay189
  exact (at_truncf (at_exp2 (at_beside (at_sub (at_cut (r' := 256) (c' := 256) (at_drop v523_at)) (at_stack (.cons r_95_at (.cons r_96_at (.cons r_97_at (.cons r_98_at (.cons r_99_at (.cons r_100_at (.cons r_101_at .nil))))))))) (at_sub (at_cut (r' := 256) (c' := 384) (at_drop v523_at)) (at_stack (.cons r_95_at (.cons r_96_at (.cons r_97_at (.cons r_98_at (.cons r_99_at (.cons r_100_at (.cons r_101_at .nil))))))))))))

/-- A tile of the second head's values. -/
theorem v533_at : At1 (kernelRun2_A.sl.v533 (F := Ideal) c arg5 harg5 arg11 x2) (VX x2 1) 256 0 := load_last (at_vals1 (at_read at_in))

/-- The second head: weighted sums so far, a block of rows. -/
theorem r_127_at : At (kernelRun2_A.sl.r_127 (F := Ideal) c i arg3 harg3 arg4 harg4 arg5 harg5 arg7 harg7 arg8 harg8 arg10 arg11 arg12 x0 x1 x2 x4 x5) (AX x0 x1 x2 x4 x5 (i 1).val 1 1) 256 0 := by
  unfold kernelRun2_A.sl.r_127 k2_pay191 k2_pay190
  exact (at_accL 0 r_112_at (at_cut (r' := 256) (c' := 0) (at_sum rfl r_126_at (at_drop v533_at))))

/-- The second head: one tile's share of the weighted sums. -/
theorem r_110_at : At (kernelRun2_A.sl.r_110 (F := Ideal) c i arg3 harg3 arg4 harg4 arg5 harg5 arg7 harg7 arg8 harg8 arg10 arg11 arg12 x0 x1 x2 x4 x5) (part (PX x0 x1 x4 x5 (i 1).val 1) (VX x2 1) 0) 0 0 := by
  unfold kernelRun2_A.sl.r_110 k2_pay172
  exact (at_sum rfl (at_truncf (at_exp2 (at_beside (at_sub (at_cut (r' := 0) (c' := 0) (at_drop v467_at)) (at_stack (.cons r_94_at (.cons r_95_at (.cons r_96_at (.cons r_97_at (.cons r_98_at (.cons r_99_at (.cons r_100_at (.cons r_101_at .nil)))))))))) (at_sub (at_cut (r' := 0) (c' := 128) (at_drop v467_at)) (at_stack (.cons r_94_at (.cons r_95_at (.cons r_96_at (.cons r_97_at (.cons r_98_at (.cons r_99_at (.cons r_100_at (.cons r_101_at .nil))))))))))))) (at_drop v477_at))

/-- The second head: weighted sums so far, a block of rows. -/
theorem r_113_at : At (kernelRun2_A.sl.r_113 (F := Ideal) c i arg3 harg3 arg4 harg4 arg5 harg5 arg7 harg7 arg8 harg8 arg10 arg11 arg12 x0 x1 x2 x4 x5) (AX x0 x1 x2 x4 x5 (i 1).val 1 0) 512 0 := by
  unfold kernelRun2_A.sl.r_113 k2_pay162 k2_pay175
  exact (at_accZ none_all (at_cut (r' := 512) (c' := 0) r_110_at))

/-- The second head: weighted sums so far, a block of rows. -/
theorem r_128_at : At (kernelRun2_A.sl.r_128 (F := Ideal) c i arg3 harg3 arg4 harg4 arg5 harg5 arg7 harg7 arg8 harg8 arg10 arg11 arg12 x0 x1 x2 x4 x5) (AX x0 x1 x2 x4 x5 (i 1).val 1 1) 512 0 := by
  unfold kernelRun2_A.sl.r_128 k2_pay192 k2_pay190
  exact (at_accL 0 r_113_at (at_cut (r' := 512) (c' := 0) (at_sum rfl r_126_at (at_drop v533_at))))

/-- Masked scores of the second head. -/
theorem v575_at : At1 (a := 1536) (b := 256) (kernelRun2_A.sl.v575 (F := Ideal) c i arg3 harg3 arg4 harg4 arg7 harg7 arg8 harg8 arg10 arg12 x0 x1 x4 x5) (ZM x0 x1 x4 x5 (i 1).val 1) 512 512 := by
  unfold kernelRun2_A.sl.v575 kernelRun2_A.sl.HS2_16
  simp (disch := decide) only [↓ View.readCov_skip, ↓ View.readCov_cons_toLoadRect]
  unfold k2_pay74 k2_pay73
  exact (at_lead (at_under (at_keep below mask_bot (at_cut (r' := 512) (c' := 512) (at_z rfl (at_cut (r' := 512) (c' := 0) r_3_at) (at_drop v144_at)))) (at_cut (r' := 768) (c' := 512) (at_z rfl (at_cut (r' := 512) (c' := 0) r_3_at) (at_drop v144_at)))))

/-- Masked scores of the second head. -/
theorem r_140_at : At (kernelRun2_A.sl.r_140 (F := Ideal) c i arg3 harg3 arg4 harg4 arg7 harg7 arg8 harg8 arg10 arg12 x0 x1 x4 x5) (ZM x0 x1 x4 x5 (i 1).val 1) 512 512 := by
  unfold kernelRun2_A.sl.r_140 k2_pay205
  exact (at_drop v575_at)

/-- The second head: row maxima along the lanes. -/
theorem r_141_at : At (kernelRun2_A.sl.r_141 (F := Ideal) c i arg3 harg3 arg4 harg4 arg7 harg7 arg8 harg8 arg10 x0 x1 x4 x5) (fun t _ => rowMax (ZM x0 x1 x4 x5 (i 1).val 1) t) 512 0 := by
  unfold kernelRun2_A.sl.r_141 k2_pay206
  exact (at_stack (.cons r_96_at (.cons r_97_at (.cons r_98_at (.cons r_99_at (.cons r_100_at (.cons r_101_at .nil)))))))

/-- The second head: masked scores less the row maxima. -/
theorem r_142_at : At (kernelRun2_A.sl.r_142 (F := Ideal) c i arg3 harg3 arg4 harg4 arg7 harg7 arg8 harg8 arg10 arg12 x0 x1 x4 x5) (fun t s => ZM x0 x1 x4 x5 (i 1).val 1 t s - rowMax (ZM x0 x1 x4 x5 (i 1).val 1) t) 512 512 := by
  unfold kernelRun2_A.sl.r_142 k2_pay207 k2_pay205 k2_pay206
  exact (at_sub (at_cut (r' := 512) (c' := 512) (at_drop v575_at)) (at_stack (.cons r_96_at (.cons r_97_at (.cons r_98_at (.cons r_99_at (.cons r_100_at (.cons r_101_at .nil))))))))

/-- A tile of the second head's values. -/
theorem v585_at : At1 (kernelRun2_A.sl.v585 (F := Ideal) c arg5 harg5 arg11 x2) (VX x2 1) 512 0 := load_last (at_vals1 (at_read at_in))

/-- The second head: weighted sums so far, a block of rows. -/
theorem r_143_at : At (kernelRun2_A.sl.r_143 (F := Ideal) c i arg3 harg3 arg4 harg4 arg5 harg5 arg7 harg7 arg8 harg8 arg10 arg11 arg12 x0 x1 x2 x4 x5) (AX x0 x1 x2 x4 x5 (i 1).val 1 2) 512 0 := by
  unfold kernelRun2_A.sl.r_143 k2_pay209 k2_pay208
  exact (at_accL 1 r_128_at (at_cut (r' := 512) (c' := 0) (at_sum rfl (at_truncf (at_exp2 (at_beside r_142_at (at_sub (at_cut (r' := 512) (c' := 640) r_140_at) r_141_at)))) (at_drop v585_at))))

/-- The second head: weighted sums so far, a block of rows. -/
theorem r_114_at : At (kernelRun2_A.sl.r_114 (F := Ideal) c i arg3 harg3 arg4 harg4 arg5 harg5 arg7 harg7 arg8 harg8 arg10 arg11 arg12 x0 x1 x2 x4 x5) (AX x0 x1 x2 x4 x5 (i 1).val 1 0) 768 0 := by
  unfold kernelRun2_A.sl.r_114 k2_pay162 k2_pay176
  exact (at_accZ none_all (at_cut (r' := 768) (c' := 0) r_110_at))

/-- The second head: weighted sums so far, a block of rows. -/
theorem r_129_at : At (kernelRun2_A.sl.r_129 (F := Ideal) c i arg3 harg3 arg4 harg4 arg5 harg5 arg7 harg7 arg8 harg8 arg10 arg11 arg12 x0 x1 x2 x4 x5) (AX x0 x1 x2 x4 x5 (i 1).val 1 1) 768 0 := by
  unfold kernelRun2_A.sl.r_129 k2_pay193 k2_pay190
  exact (at_accL 0 r_114_at (at_cut (r' := 768) (c' := 0) (at_sum rfl r_126_at (at_drop v533_at))))

/-- The second head: weighted sums so far, a block of rows. -/
theorem r_144_at : At (kernelRun2_A.sl.r_144 (F := Ideal) c i arg3 harg3 arg4 harg4 arg5 harg5 arg7 harg7 arg8 harg8 arg10 arg11 arg12 x0 x1 x2 x4 x5) (AX x0 x1 x2 x4 x5 (i 1).val 1 2) 768 0 := by
  unfold kernelRun2_A.sl.r_144 k2_pay210 k2_pay208
  exact (at_accL 1 r_129_at (at_cut (r' := 768) (c' := 0) (at_sum rfl (at_truncf (at_exp2 (at_beside r_142_at (at_sub (at_cut (r' := 512) (c' := 640) r_140_at) r_141_at)))) (at_drop v585_at))))

/-- Masked scores of the second head. -/
theorem v623_at : At1 (a := 1280) (b := 256) (kernelRun2_A.sl.v623 (F := Ideal) c i arg3 harg3 arg4 harg4 arg7 harg7 arg8 harg8 arg10 arg12 x0 x1 x4 x5) (ZM x0 x1 x4 x5 (i 1).val 1) 768 768 := by
  unfold kernelRun2_A.sl.v623 kernelRun2_A.sl.HS2_16
  simp (disch := decide) only [↓ View.readCov_skip, ↓ View.readCov_cons_toLoadRect]
  unfold k2_pay91 k2_pay90
  exact (at_lead (at_under (at_keep below mask_bot (at_cut (r' := 768) (c' := 768) (at_z rfl (at_cut (r' := 768) (c' := 0) r_3_at) (at_drop v196_at)))) (at_cut (r' := 1024) (c' := 768) (at_z rfl (at_cut (r' := 768) (c' := 0) r_3_at) (at_drop v196_at)))))

/-- Masked scores of the second head. -/
theorem r_154_at : At (kernelRun2_A.sl.r_154 (F := Ideal) c i arg3 harg3 arg4 harg4 arg7 harg7 arg8 harg8 arg10 arg12 x0 x1 x4 x5) (ZM x0 x1 x4 x5 (i 1).val 1) 768 768 := by
  unfold kernelRun2_A.sl.r_154 k2_pay221
  exact (at_drop v623_at)

/-- The second head: row maxima along the lanes. -/
theorem r_155_at : At (kernelRun2_A.sl.r_155 (F := Ideal) c i arg3 harg3 arg4 harg4 arg7 harg7 arg8 harg8 arg10 x0 x1 x4 x5) (fun t _ => rowMax (ZM x0 x1 x4 x5 (i 1).val 1) t) 768 0 := by
  unfold kernelRun2_A.sl.r_155 k2_pay222
  exact (at_stack (.cons r_97_at (.cons r_98_at (.cons r_99_at (.cons r_100_at (.cons r_101_at .nil))))))

/-- A tile of the second head's values. -/
theorem v633_at : At1 (kernelRun2_A.sl.v633 (F := Ideal) c arg5 harg5 arg11 x2) (VX x2 1) 768 0 := load_last (at_vals1 (at_read at_in))

/-- The second head: weighted sums so far, a block of rows. -/
theorem r_156_at : At (kernelRun2_A.sl.r_156 (F := Ideal) c i arg3 harg3 arg4 harg4 arg5 harg5 arg7 harg7 arg8 harg8 arg10 arg11 arg12 x0 x1 x2 x4 x5) (AX x0 x1 x2 x4 x5 (i 1).val 1 3) 768 0 := by
  unfold kernelRun2_A.sl.r_156 k2_pay224 k2_pay223
  exact (at_accL 2 r_144_at (at_cut (r' := 768) (c' := 0) (at_sum rfl (at_truncf (at_exp2 (at_beside (at_sub (at_cut (r' := 768) (c' := 768) r_154_at) r_155_at) (at_sub (at_cut (r' := 768) (c' := 896) r_154_at) r_155_at)))) (at_drop v633_at))))

/-- The second head: weighted sums so far, a block of rows. -/
theorem r_115_at : At (kernelRun2_A.sl.r_115 (F := Ideal) c i arg3 harg3 arg4 harg4 arg5 harg5 arg7 harg7 arg8 harg8 arg10 arg11 arg12 x0 x1 x2 x4 x5) (AX x0 x1 x2 x4 x5 (i 1).val 1 0) 1024 0 := by
  unfold kernelRun2_A.sl.r_115 k2_pay162 k2_pay177
  exact (at_accZ none_all (at_cut (r' := 1024) (c' := 0) r_110_at))

/-- The second head: weighted sums so far, a block of rows. -/
theorem r_130_at : At (kernelRun2_A.sl.r_130 (F := Ideal) c i arg3 harg3 arg4 harg4 arg5 harg5 arg7 harg7 arg8 harg8 arg10 arg11 arg12 x0 x1 x2 x4 x5) (AX x0 x1 x2 x4 x5 (i 1).val 1 1) 1024 0 := by
  unfold kernelRun2_A.sl.r_130 k2_pay194 k2_pay190
  exact (at_accL 0 r_115_at (at_cut (r' := 1024) (c' := 0) (at_sum rfl r_126_at (at_drop v533_at))))

/-- The second head: weighted sums so far, a block of rows. -/
theorem r_145_at : At (kernelRun2_A.sl.r_145 (F := Ideal) c i arg3 harg3 arg4 harg4 arg5 harg5 arg7 harg7 arg8 harg8 arg10 arg11 arg12 x0 x1 x2 x4 x5) (AX x0 x1 x2 x4 x5 (i 1).val 1 2) 1024 0 := by
  unfold kernelRun2_A.sl.r_145 k2_pay211 k2_pay208
  exact (at_accL 1 r_130_at (at_cut (r' := 1024) (c' := 0) (at_sum rfl (at_truncf (at_exp2 (at_beside r_142_at (at_sub (at_cut (r' := 512) (c' := 640) r_140_at) r_141_at)))) (at_drop v585_at))))

/-- The second head: weighted sums so far, a block of rows. -/
theorem r_157_at : At (kernelRun2_A.sl.r_157 (F := Ideal) c i arg3 harg3 arg4 harg4 arg5 harg5 arg7 harg7 arg8 harg8 arg10 arg11 arg12 x0 x1 x2 x4 x5) (AX x0 x1 x2 x4 x5 (i 1).val 1 3) 1024 0 := by
  unfold kernelRun2_A.sl.r_157 k2_pay225 k2_pay223
  exact (at_accL 2 r_145_at (at_cut (r' := 1024) (c' := 0) (at_sum rfl (at_truncf (at_exp2 (at_beside (at_sub (at_cut (r' := 768) (c' := 768) r_154_at) r_155_at) (at_sub (at_cut (r' := 768) (c' := 896) r_154_at) r_155_at)))) (at_drop v633_at))))

/-- Masked scores of the second head. -/
theorem v667_at : At1 (a := 1024) (b := 256) (kernelRun2_A.sl.v667 (F := Ideal) c i arg3 harg3 arg4 harg4 arg7 harg7 arg8 harg8 arg10 arg12 x0 x1 x4 x5) (ZM x0 x1 x4 x5 (i 1).val 1) 1024 1024 := by
  unfold kernelRun2_A.sl.v667 kernelRun2_A.sl.HS2_16
  simp (disch := decide) only [↓ View.readCov_skip, ↓ View.readCov_cons_toLoadRect]
  unfold k2_pay107 k2_pay106
  exact (at_lead (at_under (at_keep below mask_bot (at_cut (r' := 1024) (c' := 1024) (at_z rfl (at_cut (r' := 1024) (c' := 0) r_3_at) (at_drop v244_at)))) (at_cut (r' := 1280) (c' := 1024) (at_z rfl (at_cut (r' := 1024) (c' := 0) r_3_at) (at_drop v244_at)))))

/-- Masked scores of the second head. -/
theorem r_165_at : At (kernelRun2_A.sl.r_165 (F := Ideal) c i arg3 harg3 arg4 harg4 arg7 harg7 arg8 harg8 arg10 arg12 x0 x1 x4 x5) (ZM x0 x1 x4 x5 (i 1).val 1) 1024 1024 := by
  unfold kernelRun2_A.sl.r_165 k2_pay234
  exact (at_drop v667_at)

/-- The second head: row maxima along the lanes. -/
theorem r_166_at : At (kernelRun2_A.sl.r_166 (F := Ideal) c i arg3 harg3 arg4 harg4 arg7 harg7 arg8 harg8 arg10 x0 x1 x4 x5) (fun t _ => rowMax (ZM x0 x1 x4 x5 (i 1).val 1) t) 1024 0 := by
  unfold kernelRun2_A.sl.r_166 k2_pay235
  exact (at_stack (.cons r_98_at (.cons r_99_at (.cons r_100_at (.cons r_101_at .nil)))))

/-- The second head: masked scores less the row maxima. -/
theorem r_167_at : At (kernelRun2_A.sl.r_167 (F := Ideal) c i arg3 harg3 arg4 harg4 arg7 harg7 arg8 harg8 arg10 arg12 x0 x1 x4 x5) (fun t s => ZM x0 x1 x4 x5 (i 1).val 1 t s - rowMax (ZM x0 x1 x4 x5 (i 1).val 1) t) 1024 1024 := by
  unfold kernelRun2_A.sl.r_167 k2_pay236 k2_pay234 k2_pay235
  exact (at_sub (at_cut (r' := 1024) (c' := 1024) (at_drop v667_at)) (at_stack (.cons r_98_at (.cons r_99_at (.cons r_100_at (.cons r_101_at .nil))))))

/-- A tile of the second head's values. -/
theorem v677_at : At1 (kernelRun2_A.sl.v677 (F := Ideal) c arg5 harg5 arg11 x2) (VX x2 1) 1024 0 := load_last (at_vals1 (at_read at_in))

/-- The second head: weighted sums so far, a block of rows. -/
theorem r_168_at : At (kernelRun2_A.sl.r_168 (F := Ideal) c i arg3 harg3 arg4 harg4 arg5 harg5 arg7 harg7 arg8 harg8 arg10 arg11 arg12 x0 x1 x2 x4 x5) (AX x0 x1 x2 x4 x5 (i 1).val 1 4) 1024 0 := by
  unfold kernelRun2_A.sl.r_168 k2_pay238 k2_pay237
  exact (at_accL 3 r_157_at (at_cut (r' := 1024) (c' := 0) (at_sum rfl (at_truncf (at_exp2 (at_beside r_167_at (at_sub (at_cut (r' := 1024) (c' := 1152) r_165_at) r_166_at)))) (at_drop v677_at))))

/-- The second head: weighted sums so far, a block of rows. -/
theorem r_116_at : At (kernelRun2_A.sl.r_116 (F := Ideal) c i arg3 harg3 arg4 harg4 arg5 harg5 arg7 harg7 arg8 harg8 arg10 arg11 arg12 x0 x1 x2 x4 x5) (AX x0 x1 x2 x4 x5 (i 1).val 1 0) 1280 0 := by
  unfold kernelRun2_A.sl.r_116 k2_pay162 k2_pay178
  exact (at_accZ none_all (at_cut (r' := 1280) (c' := 0) r_110_at))

/-- The second head: weighted sums so far, a block of rows. -/
theorem r_131_at : At (kernelRun2_A.sl.r_131 (F := Ideal) c i arg3 harg3 arg4 harg4 arg5 harg5 arg7 harg7 arg8 harg8 arg10 arg11 arg12 x0 x1 x2 x4 x5) (AX x0 x1 x2 x4 x5 (i 1).val 1 1) 1280 0 := by
  unfold kernelRun2_A.sl.r_131 k2_pay195 k2_pay190
  exact (at_accL 0 r_116_at (at_cut (r' := 1280) (c' := 0) (at_sum rfl r_126_at (at_drop v533_at))))

/-- The second head: weighted sums so far, a block of rows. -/
theorem r_146_at : At (kernelRun2_A.sl.r_146 (F := Ideal) c i arg3 harg3 arg4 harg4 arg5 harg5 arg7 harg7 arg8 harg8 arg10 arg11 arg12 x0 x1 x2 x4 x5) (AX x0 x1 x2 x4 x5 (i 1).val 1 2) 1280 0 := by
  unfold kernelRun2_A.sl.r_146 k2_pay212 k2_pay208
  exact (at_accL 1 r_131_at (at_cut (r' := 1280) (c' := 0) (at_sum rfl (at_truncf (at_exp2 (at_beside r_142_at (at_sub (at_cut (r' := 512) (c' := 640) r_140_at) r_141_at)))) (at_drop v585_at))))

/-- The second head: weighted sums so far, a block of rows. -/
theorem r_158_at : At (kernelRun2_A.sl.r_158 (F := Ideal) c i arg3 harg3 arg4 harg4 arg5 harg5 arg7 harg7 arg8 harg8 arg10 arg11 arg12 x0 x1 x2 x4 x5) (AX x0 x1 x2 x4 x5 (i 1).val 1 3) 1280 0 := by
  unfold kernelRun2_A.sl.r_158 k2_pay226 k2_pay223
  exact (at_accL 2 r_146_at (at_cut (r' := 1280) (c' := 0) (at_sum rfl (at_truncf (at_exp2 (at_beside (at_sub (at_cut (r' := 768) (c' := 768) r_154_at) r_155_at) (at_sub (at_cut (r' := 768) (c' := 896) r_154_at) r_155_at)))) (at_drop v633_at))))

/-- The second head: weighted sums so far, a block of rows. -/
theorem r_169_at : At (kernelRun2_A.sl.r_169 (F := Ideal) c i arg3 harg3 arg4 harg4 arg5 harg5 arg7 harg7 arg8 harg8 arg10 arg11 arg12 x0 x1 x2 x4 x5) (AX x0 x1 x2 x4 x5 (i 1).val 1 4) 1280 0 := by
  unfold kernelRun2_A.sl.r_169 k2_pay239 k2_pay237
  exact (at_accL 3 r_158_at (at_cut (r' := 1280) (c' := 0) (at_sum rfl (at_truncf (at_exp2 (at_beside r_167_at (at_sub (at_cut (r' := 1024) (c' := 1152) r_165_at) r_166_at)))) (at_drop v677_at))))

/-- Masked scores of the second head. -/
theorem v707_at : At1 (a := 768) (b := 256) (kernelRun2_A.sl.v707 (F := Ideal) c i arg3 harg3 arg4 harg4 arg7 harg7 arg8 harg8 arg10 arg12 x0 x1 x4 x5) (ZM x0 x1 x4 x5 (i 1).val 1) 1280 1280 := by
  unfold kernelRun2_A.sl.v707 kernelRun2_A.sl.HS2_16
  simp (disch := decide) only [↓ View.readCov_skip, ↓ View.readCov_cons_toLoadRect]
  unfold k2_pay121 k2_pay120
  exact (at_lead (at_under (at_keep below mask_bot (at_cut (r' := 1280) (c' := 1280) (at_z rfl (at_cut (r' := 1280) (c' := 0) r_3_at) (at_drop v288_at)))) (at_cut (r' := 1536) (c' := 1280) (at_z rfl (at_cut (r' := 1280) (c' := 0) r_3_at) (at_drop v288_at)))))

/-- The second head: exponentials of a tile. -/
theorem r_175_at : At (kernelRun2_A.sl.r_175 (F := Ideal) c i arg3 harg3 arg4 harg4 arg7 harg7 arg8 harg8 arg10 arg12 x0 x1 x4 x5) (PX x0 x1 x4 x5 (i 1).val 1) 1280 1280 := by
  unfold kernelRun2_A.sl.r_175 k2_pay246
  exact (at_truncf (at_exp2 (at_beside (at_sub (at_cut (r' := 1280) (c' := 1280) (at_drop v707_at)) (at_stack (.cons r_99_at (.cons r_100_at (.cons r_101_at .nil))))) (at_sub (at_cut (r' := 1280) (c' := 1408) (at_drop v707_at)) (at_stack (.cons r_99_at (.cons r_100_at (.cons r_101_at .nil))))))))

/-- A tile of the second head's values. -/
theorem v717_at : At1 (kernelRun2_A.sl.v717 (F := Ideal) c arg5 harg5 arg11 x2) (VX x2 1) 1280 0 := load_last (at_vals1 (at_read at_in))

/-- The second head: weighted sums so far, a block of rows. -/
theorem r_176_at : At (kernelRun2_A.sl.r_176 (F := Ideal) c i arg3 harg3 arg4 harg4 arg5 harg5 arg7 harg7 arg8 harg8 arg10 arg11 arg12 x0 x1 x2 x4 x5) (AX x0 x1 x2 x4 x5 (i 1).val 1 5) 1280 0 := by
  unfold kernelRun2_A.sl.r_176 k2_pay248 k2_pay247
  exact (at_accL 4 r_169_at (at_cut (r' := 1280) (c' := 0) (at_sum rfl r_175_at (at_drop v717_at))))

/-- The second head: weighted sums so far, a block of rows. -/
theorem r_117_at : At (kernelRun2_A.sl.r_117 (F := Ideal) c i arg3 harg3 arg4 harg4 arg5 harg5 arg7 harg7 arg8 harg8 arg10 arg11 arg12 x0 x1 x2 x4 x5) (AX x0 x1 x2 x4 x5 (i 1).val 1 0) 1536 0 := by
  unfold kernelRun2_A.sl.r_117 k2_pay162 k2_pay179
  exact (at_accZ none_all (at_cut (r' := 1536) (c' := 0) r_110_at))

/-- The second head: weighted sums so far, a block of rows. -/
theorem r_132_at : At (kernelRun2_A.sl.r_132 (F := Ideal) c i arg3 harg3 arg4 harg4 arg5 harg5 arg7 harg7 arg8 harg8 arg10 arg11 arg12 x0 x1 x2 x4 x5) (AX x0 x1 x2 x4 x5 (i 1).val 1 1) 1536 0 := by
  unfold kernelRun2_A.sl.r_132 k2_pay196 k2_pay190
  exact (at_accL 0 r_117_at (at_cut (r' := 1536) (c' := 0) (at_sum rfl r_126_at (at_drop v533_at))))

/-- The second head: weighted sums so far, a block of rows. -/
theorem r_147_at : At (kernelRun2_A.sl.r_147 (F := Ideal) c i arg3 harg3 arg4 harg4 arg5 harg5 arg7 harg7 arg8 harg8 arg10 arg11 arg12 x0 x1 x2 x4 x5) (AX x0 x1 x2 x4 x5 (i 1).val 1 2) 1536 0 := by
  unfold kernelRun2_A.sl.r_147 k2_pay213 k2_pay208
  exact (at_accL 1 r_132_at (at_cut (r' := 1536) (c' := 0) (at_sum rfl (at_truncf (at_exp2 (at_beside r_142_at (at_sub (at_cut (r' := 512) (c' := 640) r_140_at) r_141_at)))) (at_drop v585_at))))

/-- The second head: weighted sums so far, a block of rows. -/
theorem r_159_at : At (kernelRun2_A.sl.r_159 (F := Ideal) c i arg3 harg3 arg4 harg4 arg5 harg5 arg7 harg7 arg8 harg8 arg10 arg11 arg12 x0 x1 x2 x4 x5) (AX x0 x1 x2 x4 x5 (i 1).val 1 3) 1536 0 := by
  unfold kernelRun2_A.sl.r_159 k2_pay227 k2_pay223
  exact (at_accL 2 r_147_at (at_cut (r' := 1536) (c' := 0) (at_sum rfl (at_truncf (at_exp2 (at_beside (at_sub (at_cut (r' := 768) (c' := 768) r_154_at) r_155_at) (at_sub (at_cut (r' := 768) (c' := 896) r_154_at) r_155_at)))) (at_drop v633_at))))

/-- The second head: weighted sums so far, a block of rows. -/
theorem r_170_at : At (kernelRun2_A.sl.r_170 (F := Ideal) c i arg3 harg3 arg4 harg4 arg5 harg5 arg7 harg7 arg8 harg8 arg10 arg11 arg12 x0 x1 x2 x4 x5) (AX x0 x1 x2 x4 x5 (i 1).val 1 4) 1536 0 := by
  unfold kernelRun2_A.sl.r_170 k2_pay240 k2_pay237
  exact (at_accL 3 r_159_at (at_cut (r' := 1536) (c' := 0) (at_sum rfl (at_truncf (at_exp2 (at_beside r_167_at (at_sub (at_cut (r' := 1024) (c' := 1152) r_165_at) r_166_at)))) (at_drop v677_at))))

/-- Masked scores of the second head. -/
theorem v743_at : At1 (a := 512) (b := 256) (kernelRun2_A.sl.v743 (F := Ideal) c i arg3 harg3 arg4 harg4 arg7 harg7 arg8 harg8 arg10 arg12 x0 x1 x4 x5) (ZM x0 x1 x4 x5 (i 1).val 1) 1536 1536 := by
  unfold kernelRun2_A.sl.v743 kernelRun2_A.sl.HS2_16
  simp (disch := decide) only [↓ View.readCov_skip, ↓ View.readCov_cons_toLoadRect]
  unfold k2_pay133 k2_pay132
  exact (at_lead (at_under (at_keep below mask_bot (at_cut (r' := 1536) (c' := 1536) (at_z rfl (at_cut (r' := 1536) (c' := 0) r_3_at) (at_drop v328_at)))) (at_cut (r' := 1792) (c' := 1536) (at_z rfl (at_cut (r' := 1536) (c' := 0) r_3_at) (at_drop v328_at)))))

/-- A tile of the second head's values. -/
theorem v753_at : At1 (kernelRun2_A.sl.v753 (F := Ideal) c arg5 harg5 arg11 x2) (VX x2 1) 1536 0 := load_last (at_vals1 (at_read at_in))

/-- The second head: weighted sums so far, a block of rows. -/
theorem r_179_at : At (kernelRun2_A.sl.r_179 (F := Ideal) c i arg3 harg3 arg4 harg4 arg5 harg5 arg7 harg7 arg8 harg8 arg10 arg11 arg12 x0 x1 x2 x4 x5) (AX x0 x1 x2 x4 x5 (i 1).val 1 6) 1536 0 := by
  unfold kernelRun2_A.sl.r_179 k2_pay253 k2_pay247 k2_pay252
  exact (at_accL 5 (at_accL 4 r_170_at (at_cut (r' := 1536) (c' := 0) (at_sum rfl r_175_at (at_drop v717_at)))) (at_cut (r' := 1536) (c' := 0) (at_sum rfl (at_truncf (at_exp2 (at_beside (at_sub (at_cut (r' := 1536) (c' := 1536) (at_drop v743_at)) (at_stack (.cons r_100_at (.cons r_101_at .nil)))) (at_sub (at_cut (r' := 1536) (c' := 1664) (at_drop v743_at)) (at_stack (.cons r_100_at (.cons r_101_at .nil))))))) (at_drop v753_at))))

/-- The second head: weighted sums so far, a block of rows. -/
theorem r_118_at : At (kernelRun2_A.sl.r_118 (F := Ideal) c i arg3 harg3 arg4 harg4 arg5 harg5 arg7 harg7 arg8 harg8 arg10 arg11 arg12 x0 x1 x2 x4 x5) (AX x0 x1 x2 x4 x5 (i 1).val 1 0) 1792 0 := by
  unfold kernelRun2_A.sl.r_118 k2_pay162 k2_pay180
  exact (at_accZ none_all (at_cut (r' := 1792) (c' := 0) r_110_at))

/-- The second head: weighted sums so far, a block of rows. -/
theorem r_133_at : At (kernelRun2_A.sl.r_133 (F := Ideal) c i arg3 harg3 arg4 harg4 arg5 harg5 arg7 harg7 arg8 harg8 arg10 arg11 arg12 x0 x1 x2 x4 x5) (AX x0 x1 x2 x4 x5 (i 1).val 1 1) 1792 0 := by
  unfold kernelRun2_A.sl.r_133 k2_pay197 k2_pay190
  exact (at_accL 0 r_118_at (at_cut (r' := 1792) (c' := 0) (at_sum rfl r_126_at (at_drop v533_at))))

/-- The second head: weighted sums so far, a block of rows. -/
theorem r_148_at : At (kernelRun2_A.sl.r_148 (F := Ideal) c i arg3 harg3 arg4 harg4 arg5 harg5 arg7 harg7 arg8 harg8 arg10 arg11 arg12 x0 x1 x2 x4 x5) (AX x0 x1 x2 x4 x5 (i 1).val 1 2) 1792 0 := by
  unfold kernelRun2_A.sl.r_148 k2_pay214 k2_pay208
  exact (at_accL 1 r_133_at (at_cut (r' := 1792) (c' := 0) (at_sum rfl (at_truncf (at_exp2 (at_beside r_142_at (at_sub (at_cut (r' := 512) (c' := 640) r_140_at) r_141_at)))) (at_drop v585_at))))

/-- The second head: weighted sums so far, a block of rows. -/
theorem r_160_at : At (kernelRun2_A.sl.r_160 (F := Ideal) c i arg3 harg3 arg4 harg4 arg5 harg5 arg7 harg7 arg8 harg8 arg10 arg11 arg12 x0 x1 x2 x4 x5) (AX x0 x1 x2 x4 x5 (i 1).val 1 3) 1792 0 := by
  unfold kernelRun2_A.sl.r_160 k2_pay228 k2_pay223
  exact (at_accL 2 r_148_at (at_cut (r' := 1792) (c' := 0) (at_sum rfl (at_truncf (at_exp2 (at_beside (at_sub (at_cut (r' := 768) (c' := 768) r_154_at) r_155_at) (at_sub (at_cut (r' := 768) (c' := 896) r_154_at) r_155_at)))) (at_drop v633_at))))

/-- The second head: weighted sums so far, a block of rows. -/
theorem r_171_at : At (kernelRun2_A.sl.r_171 (F := Ideal) c i arg3 harg3 arg4 harg4 arg5 harg5 arg7 harg7 arg8 harg8 arg10 arg11 arg12 x0 x1 x2 x4 x5) (AX x0 x1 x2 x4 x5 (i 1).val 1 4) 1792 0 := by
  unfold kernelRun2_A.sl.r_171 k2_pay241 k2_pay237
  exact (at_accL 3 r_160_at (at_cut (r' := 1792) (c' := 0) (at_sum rfl (at_truncf (at_exp2 (at_beside r_167_at (at_sub (at_cut (r' := 1024) (c' := 1152) r_165_at) r_166_at)))) (at_drop v677_at))))

/-- The second head: weighted sums so far, a block of rows. -/
theorem r_180_at : At (kernelRun2_A.sl.r_180 (F := Ideal) c i arg3 harg3 arg4 harg4 arg5 harg5 arg7 harg7 arg8 harg8 arg10 arg11 arg12 x0 x1 x2 x4 x5) (AX x0 x1 x2 x4 x5 (i 1).val 1 6) 1792 0 := by
  unfold kernelRun2_A.sl.r_180 k2_pay254 k2_pay247 k2_pay252
  exact (at_accL 5 (at_accL 4 r_171_at (at_cut (r' := 1792) (c' := 0) (at_sum rfl r_175_at (at_drop v717_at)))) (at_cut (r' := 1792) (c' := 0) (at_sum rfl (at_truncf (at_exp2 (at_beside (at_sub (at_cut (r' := 1536) (c' := 1536) (at_drop v743_at)) (at_stack (.cons r_100_at (.cons r_101_at .nil)))) (at_sub (at_cut (r' := 1536) (c' := 1664) (at_drop v743_at)) (at_stack (.cons r_100_at (.cons r_101_at .nil))))))) (at_drop v753_at))))

/-- Masked scores of the second head. -/
theorem v773_at : At1 (a := 256) (b := 256) (kernelRun2_A.sl.v773 (F := Ideal) c i arg3 harg3 arg4 harg4 arg7 harg7 arg8 harg8 arg10 arg12 x0 x1 x4 x5) (ZM x0 x1 x4 x5 (i 1).val 1) 1792 1792 := by
  unfold kernelRun2_A.sl.v773 kernelRun2_A.sl.HS2_16
  simp (disch := decide) only [↓ View.readCov_skip, ↓ View.readCov_cons_toLoadRect]
  unfold k2_pay142 k2_pay141
  exact (at_lead (at_keep below mask_bot (at_z rfl (at_cut (r' := 1792) (c' := 0) r_3_at) (at_drop v360_at))))

/-- A tile of the second head's values. -/
theorem v782_at : At1 (kernelRun2_A.sl.v782 (F := Ideal) c arg5 harg5 arg11 x2) (VX x2 1) 1792 0 := load_last (at_vals1 (at_read at_in))

/-- The second head's weighted sums, each over the sum held in the other half of the lanes. -/
theorem r_182_at : At (kernelRun2_A.sl.r_182 (F := Ideal) c i arg3 harg3 arg4 harg4 arg5 harg5 arg7 harg7 arg8 harg8 arg10 arg11 arg12 x0 x1 x2 x4 x5) (OX x0 x1 x2 x4 x5 (i 1).val 1) 0 0 := by
  unfold kernelRun2_A.sl.r_182 k2_pay256
  exact (at_rotDiv (at_stack (.cons (at_own 0 r_111_at) (.cons (at_own 1 r_127_at) (.cons (at_own 2 r_143_at) (.cons (at_own 3 r_156_at) (.cons (at_own 4 r_168_at) (.cons (at_own 5 r_176_at) (.cons (at_own 6 r_179_at) (.cons (at_own 7 (at_accL 6 r_180_at (at_sum rfl (at_truncf (at_exp2 (at_beside (at_sub (at_cut (r' := 1792) (c' := 1792) (at_drop v773_at)) r_101_at) (at_sub (at_cut (r' := 1792) (c' := 1920) (at_drop v773_at)) r_101_at)))) (at_drop v782_at)))) .nil))))))))))

end Cert.Fox

end
-- ==== Proof.FoxOut.lean ====
/-
  What the attention kernel leaves: at each pair of heads the quotients of the weighted sums, times the gate.
-/
module

public import proofs.«01_k».proof.Proof.FoxWords
public import Idealize.ShloMosaic.Lib.Pipeline.ValueKit

@[expose] public section

set_option maxRecDepth 16384

noncomputable section

open Idealize.ShloMosaic Idealize.ShloMosaic.ValueIdx Cert.KernelIdeal Cert.KernelIdeal.Gen Cert.Tiles

namespace Cert.Fox

/-- One block of the kernel's output: the lane's own head's quotient, times the gate. -/
def FX (x0 x1 x2 x3 x4 x5 : Vec Ideal S1x2048x128 .bf16) (p t l : ℕ) : EReal :=
  (if l / 64 = 0 then OX x0 x1 x2 x4 x5 p 0 t l else OX x0 x1 x2 x4 x5 p 1 t l) * (rd x3 t l * Ideal.logistic (rd x3 t l))

/-- The product of two blocks at the same place. -/
theorem at_mul {a b r c : ℕ} {G H : ℕ → ℕ → EReal} {φ : FTy} {x y : FVec Ideal ⟨2, ![a, b]⟩ φ} (hx : At x G r c) (hy : At y H r c) :
    At (mulf x y) (fun t l => G t l * H t l) r c := fun j => by rw [mulf_apply, hx j, hy j]

/-- The logistic function of a block. -/
theorem at_logistic {a b r c : ℕ} {G : ℕ → ℕ → EReal} {φ : FTy} {x : FVec Ideal ⟨2, ![a, b]⟩ φ} (hx : At x G r c) :
    At (logistic (F := Ideal) x) (fun t l => Ideal.logistic (G t l)) r c := fun j => congrArg Ideal.logistic (hx j)

/-- Two blocks, the first where the lane satisfies `p`. -/
theorem at_either {a b r : ℕ} {G H : ℕ → ℕ → EReal} {p : ℕ → Prop} [DecidablePred p] {x y : (⟨2, ![a, b]⟩ : Shape).Idx → EReal}
    {q : IVec ⟨2, ![a, b]⟩ 1} (hq : ∀ j, q j = if p (j 1).val then 1#1 else 0#1) (hx : At x G r 0) (hy : At y H r 0) :
    At (select q x y) (fun t l => if p l then G t l else H t l) r 0 := fun j => by
  rw [select_apply, hq, hx j, hy j]
  show Scalar.select _ _ _ = if p (0 + (j 1).val) then _ else _
  rw [Nat.zero_add (j 1).val]
  by_cases hp : p (j 1).val
  · rw [if_pos hp, if_pos hp]; rfl
  · rw [if_neg hp, if_neg hp]; rfl

/-- The final step, from the two heads' quotients and the gate's block. -/
theorem at_gate {u v : FVec Ideal S2048x128 .f32} {y : Vec Ideal S1x2048x128 .bf16} {U V G : ℕ → ℕ → EReal}
    (hu : At (a := 2048) (b := 128) u U 0 0) (hv : At (a := 2048) (b := 128) v V 0 0) (hy : At1 (a := 2048) (b := 128) y G 0 0) :
    At1 (a := 2048) (b := 128) (k2_pay2 (F := Ideal) u v kernelRun2_A.sl.v37 64#32 k2_pay257 k2_pay258 k2_pay259 y)
      (fun t l => (if l / 64 = 0 then U t l else V t l) * (G t l * Ideal.logistic (G t l))) 0 0 := by
  unfold k2_pay2
  refine at_lead (at_truncf (at_mul (at_either (p := fun l => l / 64 = 0) (lanes (p := fun l => l / 64 = 0) (fun _ _ => rfl) ?_) hu hv)
    (at_mul (at_extf (at_drop hy)) (at_logistic (at_extf (at_drop hy))))))
  decide +kernel

variable (V : (c : Dev nD) → (b : Ref sig .tc) → Buf (Elt Ideal) (c.tc.loc b))

/-- What the kernel's body leaves at a point, from the blocks it read. -/
theorem at_outs (c : Dev nD) (t : Fin cfg2.N) : At1 (a := 2048) (b := 128) (outsAt2 (F := Ideal) V c t)
    (FX (iblk2 V c 0 t) (iblk2 V c 1 t) (iblk2 V c 2 t) (iblk2 V c 3 t) (iblk2 V c 4 t) (iblk2 V c 5 t) (grid2.coords t 1).val) 0 0 := by
  unfold outsAt2 out2_A_6
  simp (disch := decide) only [View.read_writes_junk_eq_canon]
  unfold kernelRun2_A
  dsimp only
  simp (disch := decide) only [View.canon_cons_unit_lit']
  exact at_gate r_181_at r_182_at at_in

/-- An array of 16 sequences of 2048 rows, as a function of sequence, row and column. -/
def cell {N : ℕ} (A : (⟨3, ![16, 2048, N]⟩ : Shape).Idx → EReal) (b t n : ℕ) : EReal :=
  if h : b < 16 ∧ t < 2048 ∧ n < N then A (ValueIdx.ix3 ⟨b, h.1⟩ ⟨t, h.2.1⟩ ⟨n, h.2.2⟩) else 0

/-- At an index of the array it is the entry. -/
theorem cell_at {N : ℕ} (A : (⟨3, ![16, 2048, N]⟩ : Shape).Idx → EReal) (j : (⟨3, ![16, 2048, N]⟩ : Shape).Idx) {b t n : ℕ}
    (h0 : (j 0).val = b) (h1 : (j 1).val = t) (h2 : (j 2).val = n) : A j = cell A b t n := by
  subst h0 h1 h2
  obtain ⟨p, q, r, rfl⟩ := ex3 j
  have h : ((ValueIdx.ix3 p q r : (⟨3, ![16, 2048, N]⟩ : Shape).Idx) 0).val < 16
      ∧ ((ValueIdx.ix3 p q r : (⟨3, ![16, 2048, N]⟩ : Shape).Idx) 1).val < 2048
      ∧ ((ValueIdx.ix3 p q r : (⟨3, ![16, 2048, N]⟩ : Shape).Idx) 2).val < N := ⟨p.isLt, q.isLt, r.isLt⟩
  rw [cell, dif_pos h]; rfl

/-- Block `n` of 128 columns of sequence `b`. -/
def slab {N : ℕ} (A : (⟨3, ![16, 2048, N]⟩ : Shape).Idx → EReal) (b n : ℕ) : Vec Ideal S1x2048x128 .bf16 :=
  fun j => cell A b (j 1).val (128 * n + (j 2).val)

/-- The places of the windows' blocks at a grid point. -/
theorem place2 : ∀ t : Fin grid2.N,
    win2_0.index t = ![(grid2.coords t 0).val, (grid2.coords t 2).val, 16 + (grid2.coords t 1).val]
    ∧ win2_1.index t = ![(grid2.coords t 0).val, 0, 20 + (grid2.coords t 1).val]
    ∧ win2_2.index t = ![(grid2.coords t 0).val, 0, 24 + (grid2.coords t 1).val]
    ∧ win2_3.index t = ![(grid2.coords t 0).val, (grid2.coords t 2).val, 28 + (grid2.coords t 1).val]
    ∧ win2_4.index t = ![(grid2.coords t 0).val, (grid2.coords t 2).val, 0]
    ∧ win2_5.index t = ![(grid2.coords t 0).val, 0, 0]
    ∧ win2_6.index t = ![(grid2.coords t 0).val, (grid2.coords t 2).val, (grid2.coords t 1).val]
    ∧ (grid2.coords t 2).val = 0 := by decide +kernel

/-- The kernel's result array, from the arrays it reads. -/
def foxArr (A : S16x2048x6144.Idx → EReal) (Q K : S16x2048x128.Idx → EReal) (b t n : ℕ) : EReal :=
  FX (slab A b (16 + n / 128)) (slab A b (20 + n / 128)) (slab A b (24 + n / 128)) (slab A b (28 + n / 128)) (slab Q b 0) (slab K b 0)
    (n / 128) t (n % 128)

/-- What the kernel's write-backs leave in its result array. -/
theorem fox_arr (c : Dev nD) : (dat2 V c).arrAt 6 cfg2.N
    = fun y : S16x2048x512.Idx => foxArr (V c main_v18) (V c main_v20_0) (V c main_v20_1) (y 0).val (y 1).val (y 2).val := by
  refine (dat2 V c).arrAt_eq_of_covers 6 _ (by decide +kernel) fun t hf y => ?_
  blk_simp
  rw [after2_6]
  obtain ⟨i0, i1, i2, i3, i4, i5, i6, hz⟩ := place2 t
  have e0 : iblk2 V c 0 t = slab (V c main_v18) (grid2.coords t 0).val (16 + (grid2.coords t 1).val) := by
    funext y; blk_simp [iblk2]
    refine cell_at _ _ ?_ ?_ ?_ <;> blk_simp [i0, hz] <;> idx_bounds y <;> omega
  have e1 : iblk2 V c 1 t = slab (V c main_v18) (grid2.coords t 0).val (20 + (grid2.coords t 1).val) := by
    funext y; blk_simp [iblk2]
    refine cell_at _ _ ?_ ?_ ?_ <;> blk_simp [i1, hz] <;> idx_bounds y <;> omega
  have e2 : iblk2 V c 2 t = slab (V c main_v18) (grid2.coords t 0).val (24 + (grid2.coords t 1).val) := by
    funext y; blk_simp [iblk2]
    refine cell_at _ _ ?_ ?_ ?_ <;> blk_simp [i2, hz] <;> idx_bounds y <;> omega
  have e3 : iblk2 V c 3 t = slab (V c main_v18) (grid2.coords t 0).val (28 + (grid2.coords t 1).val) := by
    funext y; blk_simp [iblk2]
    refine cell_at _ _ ?_ ?_ ?_ <;> blk_simp [i3, hz] <;> idx_bounds y <;> omega
  have e4 : iblk2 V c 4 t = slab (V c main_v20_0) (grid2.coords t 0).val 0 := by
    funext y; blk_simp [iblk2]
    refine cell_at _ _ ?_ ?_ ?_ <;> blk_simp [i4, hz] <;> idx_bounds y <;> omega
  have e5 : iblk2 V c 5 t = slab (V c main_v20_1) (grid2.coords t 0).val 0 := by
    funext y; blk_simp [iblk2]
    refine cell_at _ _ ?_ ?_ ?_ <;> blk_simp [i5, hz] <;> idx_bounds y <;> omega
  have hp := (grid2.coords t 1).isLt
  refine (at_outs V c t y).trans ?_
  rw [e0, e1, e2, e3, e4, e5, foxArr]
  have g0 : win2_6.index t 0 = (grid2.coords t 0).val := by rw [i6]; rfl
  have g1 : win2_6.index t 1 = 0 := by rw [i6]; exact hz
  have g2 : win2_6.index t 2 = (grid2.coords t 1).val := by rw [i6]; rfl
  have hy : (y 2).val < 128 := (y 2).isLt
  rw [g0, g1, g2, show ((grid2.coords t 1).val * 128 + (y 2).val) / 128 = (grid2.coords t 1).val by omega,
    show ((grid2.coords t 1).val * 128 + (y 2).val) % 128 = (y 2).val by omega, Nat.zero_mul]
  exact congrArg _ (Nat.zero_add _)

end Cert.Fox

end
-- ==== Proof.Proj.lean ====
/-
  What the projection kernel leaves: the normalised and modulated rows times the weights, the query columns scaled.
-/
module

public import proofs.«01_k».proof.Proof.FoxOut

@[expose] public section

set_option maxRecDepth 16384

noncomputable section

open Idealize.ShloMosaic hiding ix1 ix2 ix3
open Idealize.ShloMosaic.ValueIdx Cert.KernelIdeal Cert.KernelIdeal.Gen Cert.Tiles
open scoped BigOperators

namespace Cert.Proj

variable {a b r c : ℕ} {G H : ℕ → ℕ → EReal}

/-- A matrix as a function of row and column. -/
def mat (x : (⟨2, ![a, b]⟩ : Shape).Idx → EReal) (t l : ℕ) : EReal :=
  if h : t < a ∧ l < b then x (ix2 ⟨t, h.1⟩ ⟨l, h.2⟩) else 0

/-- The matrix is the block of that function. -/
theorem at_mat (x : (⟨2, ![a, b]⟩ : Shape).Idx → EReal) : At x (mat x) 0 0 := fun j => by
  obtain ⟨p, q, rfl⟩ := ex2 j
  show x _ = mat x (0 + p.val) (0 + q.val)
  rw [Nat.zero_add, Nat.zero_add, mat, dif_pos ⟨p.isLt, q.isLt⟩]

/-- A load of part of a matrix. -/
theorem at_ld {e : EltTy} {p q a' b' : ℕ} {inb} {x : Vec Ideal ⟨2, ![a, b]⟩ .f32} (hx : At x G 0 0) :
    At (a := a') (b := b') (View.ld (Val := Elt Ideal) x (Rect.unit (s := ⟨2, ![a, b]⟩) ![p, q] ![a', b'] inb)) G p q := fun j => by
  refine (hx _).trans ?_
  show G (0 + (p + 1 * (j 0).val)) (0 + (q + 1 * (j 1).val)) = _
  rw [Nat.zero_add, Nat.zero_add, Nat.one_mul, Nat.one_mul]

/-- The same of a matrix in half precision. -/
theorem at_ldh {p q a' b' : ℕ} {inb} {x : Vec Ideal ⟨2, ![a, b]⟩ .bf16} (hx : At x G 0 0) :
    At (a := a') (b := b') (View.ld (Val := Elt Ideal) x (Rect.unit (s := ⟨2, ![a, b]⟩) ![p, q] ![a', b'] inb)) G p q := fun j => by
  refine (hx _).trans ?_
  show G (0 + (p + 1 * (j 0).val)) (0 + (q + 1 * (j 1).val)) = _
  rw [Nat.zero_add, Nat.zero_add, Nat.one_mul, Nat.one_mul]

/-- At an index of the matrix it is the entry. -/
theorem mat_at (x : (⟨2, ![a, b]⟩ : Shape).Idx → EReal) (j : (⟨2, ![a, b]⟩ : Shape).Idx) {t l : ℕ}
    (h0 : (j 0).val = t) (h1 : (j 1).val = l) : x j = mat x t l := by
  subst h0 h1
  exact (at_mat x j).trans (by rw [Nat.zero_add, Nat.zero_add])

/-- An array of three axes as a function of the three places. -/
def vox {n₀ n₁ n₂ : ℕ} (A : (⟨3, ![n₀, n₁, n₂]⟩ : Shape).Idx → EReal) (p q s : ℕ) : EReal :=
  if h : p < n₀ ∧ q < n₁ ∧ s < n₂ then A (ix3 ⟨p, h.1⟩ ⟨q, h.2.1⟩ ⟨s, h.2.2⟩) else 0

/-- At an index of the array it is the entry. -/
theorem vox_at {n₀ n₁ n₂ : ℕ} (A : (⟨3, ![n₀, n₁, n₂]⟩ : Shape).Idx → EReal) (j : (⟨3, ![n₀, n₁, n₂]⟩ : Shape).Idx) {p q s : ℕ}
    (h0 : (j 0).val = p) (h1 : (j 1).val = q) (h2 : (j 2).val = s) : A j = vox A p q s := by
  subst h0 h1 h2
  obtain ⟨p, q, r, rfl⟩ := ex3 j
  have h : ((ix3 p q r : (⟨3, ![n₀, n₁, n₂]⟩ : Shape).Idx) 0).val < n₀
      ∧ ((ix3 p q r : (⟨3, ![n₀, n₁, n₂]⟩ : Shape).Idx) 1).val < n₁
      ∧ ((ix3 p q r : (⟨3, ![n₀, n₁, n₂]⟩ : Shape).Idx) 2).val < n₂ := ⟨p.isLt, q.isLt, r.isLt⟩
  rw [vox, dif_pos h]; rfl

/-- The two ways of writing an index of a matrix agree. -/
theorem ix2_eq (p : Fin a) (q : Fin b) : Idealize.ShloMosaic.ix2 p q = ix2 p q := by
  funext d
  match d with
  | ⟨0, _⟩ => rfl
  | ⟨1, _⟩ => rfl

/-- The two ways of writing an index of three axes agree. -/
theorem ix3_eq {n₀ n₁ n₂ : ℕ} (p : Fin n₀) (q : Fin n₁) (s : Fin n₂) : Idealize.ShloMosaic.ix3 p q s = ix3 p q s := by
  funext d
  match d with
  | ⟨0, _⟩ => rfl
  | ⟨1, _⟩ => rfl
  | ⟨2, _⟩ => rfl

/-- The reciprocal root of a row's mean square. -/
def rho (X : ℕ → ℕ → EReal) (t : ℕ) : EReal :=
  Ideal.rsqrt (Ideal.div (∑ l : Fin 1024, X t l.val * X t l.val) (Ideal.ofBits .f32 0x44800000#32) + Ideal.ofBits .f32 0x358637BD#32)

/-- The normalised and modulated rows, as the kernel forms them. -/
def hid (X : ℕ → ℕ → EReal) (g sc sh : ℕ → EReal) (t k : ℕ) : EReal :=
  X t k * rho X t * (g k * (1 + sc k)) + sh k

/-- The kernel's normalised and modulated rows. -/
theorem at_hid {x : Vec Ideal S512x1024 .f32} {sh : Vec Ideal S1x1x1024 .f32} {g : Vec Ideal S1x1024 .f32} {sc : Vec Ideal S1x1x1024 .f32}
    {X : ℕ → ℕ → EReal} {g' sc' sh' : ℕ → EReal}
    (hx : At (a := 512) (b := 1024) x X r 0) (hg : ∀ k : Fin 1024, g (ix2 0 k) = g' k.val)
    (hsc : ∀ k : Fin 1024, sc (ix3 0 0 k) = sc' k.val) (hsh : ∀ k : Fin 1024, sh (ix3 0 0 k) = sh' k.val) :
    At (a := 512) (b := 1024) (k0_pay2 (F := Ideal) x sh g sc) (hid X g' sc' sh') r 0 := fun j => by
  obtain ⟨p, q, rfl⟩ := ex2 j
  unfold k0_pay2
  have hX : ∀ l : Fin 1024, x (ix2 p l) = X (r + p.val) l.val := fun l => (hx _).trans (by
    show X (r + p.val) (0 + l.val) = _; rw [Nat.zero_add])
  pointwise
  simp only [ix2_eq, ix3_eq]
  show x (ix2 p q) * Ideal.rsqrt (Ideal.div (∑ l : Fin 1024, x (ix2 p l) * x (ix2 p l)) (Ideal.ofBits .f32 0x44800000#32) + Ideal.ofBits .f32 0x358637BD#32)
    * (g (ix2 0 q) * (1 + sc (ix3 0 0 q))) + sh (ix3 0 0 q) = hid X g' sc' sh' (r + p.val) q.val
  simp only [hX, hg, hsc, hsh, hid, rho]

/-- The query scale that the kernel holds under a name. -/
def qk : EReal := ((8⁻¹ * (Real.log 2)⁻¹ : ℝ) : EReal)

/-- The scales of the columns of the first half of a chunk that holds queries. -/
theorem at_scale : At (a := 1) (b := 1024) (k0_pay4 (F := Ideal)) (fun _ l => if l < 512 then qk else 1) 0 0 := fun j => by
  obtain ⟨p, q, rfl⟩ := ex2 j
  unfold k0_pay4
  pointwise
  have hk : (Named.named κ "qk_scale" 0x3E38AA3B#32 : Ideal .f32) = qk :=
    IdealRules.named_const.ideal_named_scalar _ _ _ _ rfl
  show Scalar.select (IntOp.cmpi CmpIPredicate.slt (BitVec.ofNat 32 q.val) 512#32) _ (1 : EReal) = if q.val < 512 then qk else 1
  rw [hk]
  have hm : ∀ q : Fin 1024, IntOp.cmpi CmpIPredicate.slt (BitVec.ofNat 32 q.val) 512#32 = if q.val < 512 then 1#1 else 0#1 := by
    decide +kernel
  rw [hm]
  split_ifs <;> rfl

/-- The sum over the inner axis of a row and a column. -/
def dotRow (H W : ℕ → ℕ → EReal) (t n : ℕ) : EReal := ∑ j : Fin 1024, H t (0 + j.val) * W (0 + j.val) n

/-- A chunk of 1024 columns. -/
theorem at_chunk {h : FVec Ideal S512x1024 .bf16} {w : Vec Ideal S1024x1024 .bf16} {q : ℕ} (hh : At (a := 512) (b := 1024) h G r 0)
    (hw : At (a := 1024) (b := 1024) w H 0 q) : At (a := 512) (b := 1024) (k0_pay1 h w) (dotRow G H) r q := by
  unfold k0_pay1; dsimp only
  rw [shapeCast_self]
  exact at_truncf (at_matmul rfl hh hw)

/-- A chunk of 1024 columns, the first 512 of them scaled. -/
theorem at_chunkq {h : FVec Ideal S512x1024 .bf16} {w : Vec Ideal S1024x1024 .bf16} {q : ℕ} (hh : At (a := 512) (b := 1024) h G r 0)
    (hw : At (a := 1024) (b := 1024) w H 0 q) :
    At (a := 512) (b := 1024) (k0_pay5 h (k0_pay4 (F := Ideal)) w) (fun t n => dotRow G H t n * (if n - q < 512 then qk else 1)) r q := by
  have e : At (a := 512) (b := 1024) (broadcastTo S512x1024 (k0_pay4 (F := Ideal)) broadcasts_S1x1024_S512x1024)
      (fun _ n => if n - q < 512 then qk else 1) r q := fun j => (at_scale _).trans (by
    show (if 0 + (j 1).val < 512 then qk else 1) = if q + (j 1).val - q < 512 then qk else 1
    rw [Nat.zero_add, Nat.add_sub_cancel_left])
  unfold k0_pay5; dsimp only
  rw [shapeCast_self]
  exact at_truncf (Fox.at_mul (at_matmul rfl hh hw) e)

/-- A row of the kernel's projection against its weights, the queries' columns scaled. -/
def proj (H WQ WG : ℕ → ℕ → EReal) (t n : ℕ) : EReal :=
  if n < 4096 then (if n % 2048 < 512 then dotRow H WQ t n * qk else dotRow H WQ t n) else dotRow H WG t (n - 4096)

/-- A column of the last third comes from the second weights. -/
theorem proj_gate {A WQ WG : ℕ → ℕ → EReal} {t t' n n' : ℕ} (ht : t' = t) (hn : n' = n + 4096) :
    dotRow A WG t n = proj A WQ WG t' n' := by
  rw [proj, if_neg (by omega), ht, hn, Nat.add_sub_cancel]

/-- A column that holds no query comes from the first weights alone. -/
theorem proj_plain {A WQ WG : ℕ → ℕ → EReal} {t t' n n' : ℕ} (ht : t' = t) (hn : n' = n) (h : n < 4096) (h' : 512 ≤ n % 2048) :
    dotRow A WQ t n = proj A WQ WG t' n' := by
  rw [proj, hn, ht, if_pos h, if_neg (by omega)]

/-- A column of a chunk that holds queries. -/
theorem proj_query {A WQ WG : ℕ → ℕ → EReal} {t t' n n' q : ℕ} (ht : t' = t) (hn : n' = n) (h : n < 4096) (h' : n % 2048 = n - q)
    (hq : q ≤ n) : dotRow A WQ t n * (if n - q < 512 then qk else 1) = proj A WQ WG t' n' := by
  rw [proj, hn, ht, if_pos h, h']
  split_ifs
  · rfl
  · rw [mul_one]

section blocks
variable {x0 : Vec Ideal S512x1024 .f32} {x1 : Vec Ideal S1x3x1024 .f32} {x2 : Vec Ideal S1x1024 .f32} {x3 : Vec Ideal S1024x4096 .bf16}
  {x4 : Vec Ideal S1024x2048 .bf16} {x5 : Vec Ideal S1024x128 .bf16} {X WQ WG WF : ℕ → ℕ → EReal} {g' sc' sh' : ℕ → EReal}

/-- The kernel's hidden rows from its blocks. -/
theorem at_pay10 (h0 : At (a := 512) (b := 1024) x0 X r 0) (hg : ∀ k : Fin 1024, x2 (ix2 0 k) = g' k.val)
    (hsc : ∀ k : Fin 1024, x1 (ix3 0 1 k) = sc' k.val) (hsh : ∀ k : Fin 1024, x1 (ix3 0 0 k) = sh' k.val) :
    At (a := 512) (b := 1024) (k0_pay10 (F := Ideal) x0 x1 x2 x3 x4 x5) (hid X g' sc' sh') r 0 := by
  unfold k0_pay10
  refine at_hid ?_ ?_ ?_ ?_
  · intro j
    refine Eq.trans (congrArg x0 ?_) (h0 j)
    funext d; apply Fin.ext
    match d with
    | ⟨0, _⟩ => show 0 + 1 * (j 0).val = (j 0).val; omega
    | ⟨1, _⟩ => show 0 + 1 * (j 1).val = (j 1).val; omega
  · intro k
    refine Eq.trans (congrArg x2 ?_) (hg k)
    funext d; apply Fin.ext
    match d with
    | ⟨0, _⟩ => rfl
    | ⟨1, _⟩ => show 0 + 1 * k.val = k.val; omega
  · intro k
    refine Eq.trans (congrArg x1 ?_) (hsc k)
    funext d; apply Fin.ext
    match d with
    | ⟨0, _⟩ => rfl
    | ⟨1, _⟩ => rfl
    | ⟨2, _⟩ => show 0 + 1 * k.val = k.val; omega
  · intro k
    refine Eq.trans (congrArg x1 ?_) (hsh k)
    funext d; apply Fin.ext
    match d with
    | ⟨0, _⟩ => rfl
    | ⟨1, _⟩ => rfl
    | ⟨2, _⟩ => show 0 + 1 * k.val = k.val; omega

/-- The six chunks that the kernel stores of a block of rows. -/
theorem at_out6 (h0 : At (a := 512) (b := 1024) x0 X r 0) (hg : ∀ k : Fin 1024, x2 (ix2 0 k) = g' k.val)
    (hsc : ∀ k : Fin 1024, x1 (ix3 0 1 k) = sc' k.val) (hsh : ∀ k : Fin 1024, x1 (ix3 0 0 k) = sh' k.val)
    (h3 : At (a := 1024) (b := 4096) x3 WQ 0 0) (h4 : At (a := 1024) (b := 2048) x4 WG 0 0) :
    At (a := 512) (b := 6144) (out0_6 x0 x1 x2 x3 x4 x5) (proj (hid X g' sc' sh') WQ WG) r 0 := fun y => by
  have hh := at_pay10 (x3 := x3) (x4 := x4) (x5 := x5) h0 hg hsc hsh
  have hy : (y 1).val < 6144 := (y 1).isLt
  rw [Nat.zero_add]
  canon_tiles x h
  · exact ((at_chunk hh (at_ldh h4) x).trans (proj_gate (by omega) (by omega)))
  · exact ((at_chunk hh (at_ldh h4) x).trans (proj_gate (by omega) (by omega)))
  · exact ((at_chunk hh (at_ldh h3) x).trans (proj_plain (by omega) (by omega) (by omega) (by omega)))
  · exact ((at_chunkq hh (at_ldh h3) x).trans (proj_query (by omega) (by omega) (by omega) (by omega) (by omega)))
  · exact ((at_chunk hh (at_ldh h3) x).trans (proj_plain (by omega) (by omega) (by omega) (by omega)))
  · exact ((at_chunkq hh (at_ldh h3) x).trans (proj_query (by omega) (by omega) (by omega) (by omega) (by omega)))

/-- The lanes that the kernel leaves for the forget gates. -/
theorem at_out7 (h0 : At (a := 512) (b := 1024) x0 X r 0) (hg : ∀ k : Fin 1024, x2 (ix2 0 k) = g' k.val)
    (hsc : ∀ k : Fin 1024, x1 (ix3 0 1 k) = sc' k.val) (hsh : ∀ k : Fin 1024, x1 (ix3 0 0 k) = sh' k.val)
    (h5 : At (a := 1024) (b := 128) x5 WF 0 0) :
    At (a := 512) (b := 128) (out0_7 x0 x1 x2 x3 x4 x5) (dotRow (hid X g' sc' sh') WF) r 0 := fun y => by
  have hh := at_pay10 (x3 := x3) (x4 := x4) (x5 := x5) h0 hg hsc hsh
  canon_tiles x h'
  unfold k0_pay3; dsimp only
  rw [shapeCast_self]
  refine ((at_matmul (G := hid X g' sc' sh') (H := WF) (r := r) (k := 0) (c := 0) rfl hh ?_) x).trans ?_
  · intro j
    refine Eq.trans (congrArg x5 ?_) (h5 j)
    funext d; apply Fin.ext
    match d with
    | ⟨0, _⟩ => show 0 + 1 * (j 0).val = (j 0).val; omega
    | ⟨1, _⟩ => show 0 + 1 * (j 1).val = (j 1).val; omega
  · show dotRow (hid X g' sc' sh') WF (r + (x 0).val) (0 + (x 1).val) = dotRow (hid X g' sc' sh') WF (r + (y 0).val) (0 + (y 1).val)
    rw [h'0, h'1]

end blocks

variable (V : (c : Dev nD) → (b : Ref sig .tc) → Buf (Elt Ideal) (c.tc.loc b))

/-- The places of the windows' blocks at a grid point. -/
theorem place0 : ∀ t : Fin grid0.N,
    win0_0.index t = ![t.val, 0] ∧ win0_1.index t = ![t.val / 4, 0, 0] ∧ win0_2.index t = ![0, 0] ∧ win0_3.index t = ![0, 0]
    ∧ win0_4.index t = ![0, 0] ∧ win0_5.index t = ![0, 0] ∧ win0_6.index t = ![t.val, 0] ∧ win0_7.index t = ![t.val, 0] := by decide +kernel

/-- The hidden rows from the arrays, each row modulated by its own sequence's shift and scale. -/
def hidden (X : S32768x1024.Idx → EReal) (M : S16x3x1024.Idx → EReal) (g : S1x1024.Idx → EReal) (R k : ℕ) : EReal :=
  hid (mat X) (mat g 0) (vox M (R / 2048) 1) (vox M (R / 2048) 0) R k

section arrays
variable (c : Dev nD) (t : Fin grid0.N)

/-- The block of rows. -/
theorem at_w0 : At (a := 512) (b := 1024) (iblk0 V c 0 t) (mat (V c main_v13)) (512 * t.val) 0 := fun y => by
  obtain ⟨i0, i1, i2, i3, i4, i5, i6, i7⟩ := place0 t
  blk_simp [iblk0]
  refine mat_at _ _ ?_ ?_ <;> blk_simp [i0] <;> idx_bounds y <;> omega

/-- The block of one sequence's modulation. -/
theorem at_w1 (p : Fin 3) (k : Fin 1024) : (iblk0 V c 1 t : S1x3x1024.Idx → EReal) (ix3 0 p k) = vox (V c main_v14) (t.val / 4) p.val k.val := by
  obtain ⟨i0, i1, i2, i3, i4, i5, i6, i7⟩ := place0 t
  blk_simp [iblk0]
  refine vox_at _ _ ?_ ?_ ?_ <;> blk_simp [i1]

/-- The gains. -/
theorem at_w2 (k : Fin 1024) : (iblk0 V c 2 t : S1x1024.Idx → EReal) (ix2 0 k) = mat (V c main_v16) 0 k.val := by
  obtain ⟨i0, i1, i2, i3, i4, i5, i6, i7⟩ := place0 t
  blk_simp [iblk0]
  refine mat_at _ _ ?_ ?_ <;> blk_simp [i2]

/-- The first weights. -/
theorem at_w3 : At (a := 1024) (b := 4096) (iblk0 V c 3 t) (mat (V c main_v2)) 0 0 := fun y => by
  obtain ⟨i0, i1, i2, i3, i4, i5, i6, i7⟩ := place0 t
  blk_simp [iblk0]
  refine mat_at _ _ ?_ ?_ <;> blk_simp [i3] <;> idx_bounds y <;> omega

/-- The second weights. -/
theorem at_w4 : At (a := 1024) (b := 2048) (iblk0 V c 4 t) (mat (V c main_v4)) 0 0 := fun y => by
  obtain ⟨i0, i1, i2, i3, i4, i5, i6, i7⟩ := place0 t
  blk_simp [iblk0]
  refine mat_at _ _ ?_ ?_ <;> blk_simp [i4] <;> idx_bounds y <;> omega

/-- The forget gates' weights. -/
theorem at_w5 : At (a := 1024) (b := 128) (iblk0 V c 5 t) (mat (V c main_v8)) 0 0 := fun y => by
  obtain ⟨i0, i1, i2, i3, i4, i5, i6, i7⟩ := place0 t
  blk_simp [iblk0]
  refine mat_at _ _ ?_ ?_ <;> blk_simp [i5] <;> idx_bounds y <;> omega

end arrays

/-- A row's product asks the matrix for that row only. -/
theorem dotRow_congr {A B W : ℕ → ℕ → EReal} {t n : ℕ} (h : ∀ k, A t k = B t k) : dotRow A W t n = dotRow B W t n :=
  Finset.sum_congr rfl fun j _ => by rw [h]

/-- The same of the projection. -/
theorem proj_congr {A B WQ WG : ℕ → ℕ → EReal} {t n : ℕ} (h : ∀ k, A t k = B t k) : proj A WQ WG t n = proj B WQ WG t n := by
  rw [proj, proj, dotRow_congr h, dotRow_congr h]

/-- What the projection's write-backs leave in the array of the projections. -/
theorem proj_arr (c : Dev nD) : (dat0 V c).arrAt 6 cfg0.N = fun y : S32768x6144.Idx =>
    proj (hidden (V c main_v13) (V c main_v14) (V c main_v16)) (mat (V c main_v2)) (mat (V c main_v4)) (y 0).val (y 1).val := by
  refine (dat0 V c).arrAt_eq_of_covers 6 _ (by decide +kernel) fun t hf y => ?_
  blk_simp
  rw [after0_6]
  obtain ⟨i0, i1, i2, i3, i4, i5, i6, i7⟩ := place0 t
  refine (at_out6 (at_w0 V c t) (at_w2 V c t) (at_w1 V c t 1) (at_w1 V c t 0) (at_w3 V c t) (at_w4 V c t) y).trans ?_
  have g0 : win0_6.index t 0 = t.val := by rw [i6]; rfl
  have g1 : win0_6.index t 1 = 0 := by rw [i6]; rfl
  have hy : (y 0).val < 512 := (y 0).isLt
  rw [g0, g1, Nat.zero_mul, Nat.mul_comm t.val 512]
  refine proj_congr fun k => ?_
  rw [hidden, show (512 * t.val + (y 0).val) / 2048 = t.val / 4 by omega]
  rfl

/-- What the projection's write-backs leave in the forget gates' array. -/
theorem gate_arr (c : Dev nD) : (dat0 V c).arrAt 7 cfg0.N = fun y : S32768x128.Idx =>
    dotRow (hidden (V c main_v13) (V c main_v14) (V c main_v16)) (mat (V c main_v8)) (y 0).val (y 1).val := by
  refine (dat0 V c).arrAt_eq_of_covers 7 _ (by decide +kernel) fun t hf y => ?_
  blk_simp
  rw [after0_7]
  obtain ⟨i0, i1, i2, i3, i4, i5, i6, i7⟩ := place0 t
  refine (at_out7 (at_w0 V c t) (at_w2 V c t) (at_w1 V c t 1) (at_w1 V c t 0) (at_w5 V c t) y).trans ?_
  have g0 : win0_7.index t 0 = t.val := by rw [i7]; rfl
  have g1 : win0_7.index t 1 = 0 := by rw [i7]; rfl
  have hy : (y 0).val < 512 := (y 0).isLt
  rw [g0, g1, Nat.zero_mul, Nat.mul_comm t.val 512]
  refine dotRow_congr fun k => ?_
  rw [hidden, show (512 * t.val + (y 0).val) / 2048 = t.val / 4 by omega]
  rfl

end Cert.Proj

end
-- ==== Proof.Fprep.lean ====
/-
  What the second kernel leaves: the running sums of the forget gates' logarithms, laid out as features of queries and keys.
-/
module

public import proofs.«01_k».proof.Proof.Proj

@[expose] public section

set_option maxRecDepth 16384

noncomputable section

open Idealize.ShloMosaic hiding ix1 ix2 ix3
open Idealize.ShloMosaic.ValueIdx Cert.KernelIdeal Cert.KernelIdeal.Gen Cert.Tiles
open scoped BigOperators

namespace Cert.Fprep

variable {a b r c : ℕ} {G H : ℕ → ℕ → EReal}

/-- The logarithm of the logistic function as the kernel forms it. -/
def ls (y : EReal) : EReal := min y 0 - Ideal.log (1 + Ideal.exp (0 - max y (-y)))

/-- The logarithm of each forget gate. -/
def LF (f : ℕ → ℕ → EReal) (B : ℕ → EReal) (t l : ℕ) : EReal := ls (f t l + B l)

/-- What the first rounding leaves. -/
def rest (x : EReal) : EReal := x - x

/-- The entries on and below the diagonal. -/
def tri (t s : ℕ) : EReal := if s ≤ t then 1 else 0

/-- The sum of a block's rows down to each row, of one part. -/
def down (W : ℕ → ℕ → EReal) (c t l : ℕ) : EReal := ∑ j : Fin 256, tri t (256 * c + j.val) * W (256 * c + j.val) l

/-- The sum of a block's rows down to each row. -/
def loc (W : ℕ → ℕ → EReal) (c t l : ℕ) : EReal :=
  down W c t l + down (fun s l => rest (W s l)) c t l + down (fun s l => rest (W s l) - rest (W s l)) c t l

/-- What the blocks before have added up to. -/
def off (W : ℕ → ℕ → EReal) : ℕ → ℕ → EReal
  | 0, _ => 0
  | c + 1, l => off W c l + loc W c (256 * c + 255) l

/-- The running sum down to each row. -/
def cum (W : ℕ → ℕ → EReal) (t l : ℕ) : EReal := loc W (t / 256) t l + off W (t / 256) l

/-- The logarithm's change of base, as the kernel holds it under a name. -/
def lg : EReal := (((Real.log 2)⁻¹ : ℝ) : EReal)

/-- The three parts into which the kernel cuts a number. -/
def split (m : ℕ) (v : EReal) : EReal := if m = 0 then v else if m = 1 then rest v else rest v - rest v

/-- The features of a query. -/
def qfeat (W : ℕ → ℕ → EReal) (t l : ℕ) : EReal :=
  if l % 16 < 3 then split (l % 16 % 3) (cum W t l * lg) else if 3 ≤ l % 16 ∧ l % 16 < 6 then 1 else 0

/-- The features of a key. -/
def kfeat (W : ℕ → ℕ → EReal) (t l : ℕ) : EReal :=
  if 3 ≤ l % 16 ∧ l % 16 < 6 then 0 - split (l % 16 % 3) (cum W t l * lg) else if l % 16 < 3 then 1 else 0

/-- A mask that asks only for the lane, told lane by lane. -/
theorem lanes {n : ℕ} {p : ℕ → Prop} [DecidablePred p] {q : IVec ⟨2, ![n + 1, 128]⟩ 1}
    (h0 : ∀ (t : Fin (n + 1)) (l : Fin 128), q (ix2 t l) = q (ix2 0 l))
    (hd : ∀ l : Fin 128, q (ix2 0 l) = if p l.val then 1#1 else 0#1) (j : (⟨2, ![n + 1, 128]⟩ : Shape).Idx) :
    q j = if p (j 1).val then 1#1 else 0#1 := by
  obtain ⟨t, l, rfl⟩ := ex2 j
  exact (h0 t l).trans (hd l)

/-- The lanes of the query's own parts. -/
theorem mask_q (j : S256x128.Idx) : k1_pay7 j = if (j 1).val % 16 < 3 then 1#1 else 0#1 :=
  lanes (n := 255) (p := fun l => l % 16 < 3) (fun _ _ => rfl) (by decide +kernel) j

/-- The lanes of the key's own parts. -/
theorem mask_k (j : S256x128.Idx) : k1_pay9 k1_pay5 k1_pay8 j = if 3 ≤ (j 1).val % 16 ∧ (j 1).val % 16 < 6 then 1#1 else 0#1 :=
  lanes (n := 255) (p := fun l => 3 ≤ l % 16 ∧ l % 16 < 6) (fun _ _ => rfl) (by decide +kernel) j

/-- The lanes of the first part. -/
theorem mask_0 (j : S256x128.Idx) : cmpi .eq k1_pay6 (broadcast S256x128 0#32) j = if (j 1).val % 16 % 3 = 0 then 1#1 else 0#1 :=
  lanes (n := 255) (p := fun l => l % 16 % 3 = 0) (fun _ _ => rfl) (by decide +kernel) j

/-- The lanes of the second part. -/
theorem mask_1 (j : S256x128.Idx) : cmpi .eq k1_pay6 (broadcast S256x128 1#32) j = if (j 1).val % 16 % 3 = 1 then 1#1 else 0#1 :=
  lanes (n := 255) (p := fun l => l % 16 % 3 = 1) (fun _ _ => rfl) (by decide +kernel) j

/-- The difference of two blocks at the same place. -/
theorem at_less {φ : FTy} {x y : FVec Ideal ⟨2, ![a, b]⟩ φ} (hx : At x G r c) (hy : At y H r c) :
    At (subf x y) (fun t l => G t l - H t l) r c := fun j => by rw [subf_apply, hx j, hy j]

/-- A constant block. -/
theorem at_const {φ : FTy} {w : Ideal φ} {v : EReal} (h : w = v) : At (broadcast (⟨2, ![a, b]⟩ : Shape) w) (fun _ _ => v) r c := fun _ => h

/-- One row repeated down a block. -/
theorem at_rows {B : ℕ → EReal} {x : FVec Ideal S1x128 .f32} {h : S1x128.Broadcasts S256x128} (hx : At (a := 1) (b := 128) x (fun _ l => B l) 0 0) :
    At (a := 256) (b := 128) (broadcastTo S256x128 x h) (fun _ l => B l) r 0 := fun j => hx _

/-- A choice between two blocks by the lane. -/
theorem at_choose {p : ℕ → Prop} [DecidablePred p] {x y : (⟨2, ![a, b]⟩ : Shape).Idx → EReal} {q : IVec ⟨2, ![a, b]⟩ 1}
    (hq : ∀ j, q j = if p (j 1).val then 1#1 else 0#1) (hx : At x G r 0) (hy : At y H r 0) :
    At (select q x y) (fun t l => if p l then G t l else H t l) r 0 := fun j => by
  rw [select_apply, hq, hx j, hy j]
  show Scalar.select _ _ _ = if p (0 + (j 1).val) then _ else _
  rw [Nat.zero_add]
  by_cases hp : p (j 1).val
  · rw [if_pos hp, if_pos hp]; rfl
  · rw [if_neg hp, if_neg hp]; rfl

/-- The kernel's triangle of ones. -/
theorem at_tri (c : ℕ) : At (a := 256) (b := 256) (k1_pay4 (F := Ideal)) tri (256 * c) (256 * c) := fun j => by
  unfold k1_pay4
  show Scalar.select (k2_pay18 j) (Ideal.ofBits .f32 0x3F800000#32) (Ideal.ofBits .f32 0x00000000#32)
    = if 256 * c + (j 1).val ≤ 256 * c + (j 0).val then 1 else 0
  rw [Fox.below, Ideal.ofBits_one_f32, Ideal.ofBits_zero_f32]
  by_cases h : (j 1).val ≤ (j 0).val
  · rw [if_pos h, if_pos (by omega)]; rfl
  · rw [if_neg h, if_neg (by omega)]; rfl

/-- A block of the gates' logarithms. -/
theorem at_lf {x : Vec Ideal S1x256x128 .f32} {y : Vec Ideal S1x128 .f32} {f : ℕ → ℕ → EReal} {B : ℕ → EReal}
    (hx : At1 (a := 256) (b := 128) x f r 0) (hy : At (a := 1) (b := 128) y (fun _ l => B l) 0 0) :
    At (a := 256) (b := 128) (k1_pay15 (F := Ideal) x y) (LF f B) r 0 := fun j => by
  have hs := at_add (φ := .f32) (at_drop (h := shapeCasts_S1x256x128_S256x128) hx) (at_rows (h := broadcasts_S1x128_S256x128) (r := r) hy) j
  unfold k1_pay15; dsimp only
  rw [shapeCast_self]
  show min _ (Ideal.ofBits .f32 0x00000000#32) - Ideal.log (Ideal.ofBits .f32 0x3F800000#32 + Ideal.exp (Ideal.ofBits .f32 0x00000000#32 - max _ (-_))) = _
  rw [hs, Ideal.ofBits_one_f32, Ideal.ofBits_zero_f32]
  rfl

/-- The sums down a block of the gates' logarithms. -/
theorem at_loc {x : Vec Ideal S1x256x128 .f32} {y : Vec Ideal S1x128 .f32} {f : ℕ → ℕ → EReal} {B : ℕ → EReal} (c : ℕ)
    (hx : At1 (a := 256) (b := 128) x f (256 * c) 0) (hy : At (a := 1) (b := 128) y (fun _ l => B l) 0 0) :
    At (a := 256) (b := 128) (k1_pay18 (F := Ideal) k1_pay4 (k1_pay16 x y) (k1_pay17 x y)) (loc (LF f B) c) (256 * c) 0 := by
  have hl := at_lf hx hy
  have hh : At (a := 256) (b := 128) (k1_pay16 (F := Ideal) x y) (LF f B) (256 * c) 0 := hl
  have hm : At (a := 256) (b := 128) (k1_pay17 (F := Ideal) x y) (fun t l => rest (LF f B t l)) (256 * c) 0 := at_less (φ := .f32) hl (at_extf (h := bitsLt_bf16_f32) hh)
  have hm' : At (a := 256) (b := 128) (truncf .bf16 (k1_pay17 (F := Ideal) x y) bitsLt_bf16_f32) (fun t l => rest (LF f B t l)) (256 * c) 0 := hm
  unfold k1_pay18; dsimp only
  exact at_add (φ := .f32) (at_add (φ := .f32) (at_matmul rfl (at_tri c) hh) (at_matmul rfl (at_tri c) hm'))
    (at_matmul rfl (at_tri c) (at_truncf (at_less (φ := .f32) hm (at_extf hm'))))

/-- The last row of a block added to what the blocks before have added up to. -/
theorem at_off {W : ℕ → ℕ → EReal} {x : FVec Ideal S256x128 .f32} {o : FVec Ideal S1x128 .f32} (c : ℕ)
    (hx : At (a := 256) (b := 128) x (loc W c) (256 * c) 0) (ho : At (a := 1) (b := 128) o (fun _ l => off W c l) 0 0) :
    At (a := 1) (b := 128) (k1_pay38 x o) (fun _ l => off W (c + 1) l) 0 0 := fun j => by
  unfold k1_pay38; dsimp only
  have e := at_slice (p := 255) (q := 0) (a' := 1) (b' := 128) (h := slices_S256x128_o255_0_S1x128) hx
  refine (congr (congrArg HAdd.hAdd (ho j)) (e j)).trans ?_
  show off W c (0 + (j 1).val) + loc W c (256 * c + 255 + (j 0).val) (0 + 0 + (j 1).val) = off W c (0 + (j 1).val) + loc W c (256 * c + 255) (0 + (j 1).val)
  have h0 : (j 0).val = 0 := by have : (j 0).val < 1 := (j 0).isLt; omega
  rw [h0]

/-- The parts of a block's running sums, one part on each lane. -/
theorem at_parts {W : ℕ → ℕ → EReal} {x : FVec Ideal S256x128 .f32} {o : FVec Ideal S1x128 .f32} (c : ℕ)
    (hx : At (a := 256) (b := 128) x (loc W c) (256 * c) 0) (ho : At (a := 1) (b := 128) o (fun _ l => off W c l) 0 0) :
    At (a := 256) (b := 128) (k1_pay39 k1_pay6 x o) (fun t l => split (l % 16 % 3) ((loc W c t l + off W c l) * lg)) (256 * c) 0 := by
  have hk : (Named.named κ "log2e" 0x3FB8AA3B#32 : Ideal .f32) = lg :=
    IdealRules.named_const.ideal_named_scalar _ _ _ _ rfl
  have hv := Fox.at_mul (at_add hx (at_rows (h := broadcasts_S1x128_S256x128) (r := 256 * c) ho)) (at_const hk)
  have hm := at_less hv hv
  unfold k1_pay39; dsimp only
  exact at_choose (p := fun l => l % 16 % 3 = 0) mask_0 hv (at_choose (p := fun l => l % 16 % 3 = 1) mask_1 hm (at_less hm hm))

/-- A block of the queries' features. -/
theorem at_q {W : ℕ → ℕ → EReal} {x : FVec Ideal S256x128 .f32} {o : FVec Ideal S1x128 .f32} (c : ℕ)
    (hx : At (a := 256) (b := 128) x (loc W c) (256 * c) 0) (ho : At (a := 1) (b := 128) o (fun _ l => off W c l) 0 0) :
    At1 (a := 256) (b := 128) (k1_pay40 k1_pay6 k1_pay7 (k1_pay10 k1_pay5 k1_pay8) x o) (qfeat W) (256 * c) 0 := by
  unfold k1_pay40; dsimp only
  refine at_lead fun j => ?_
  have h1 : At (a := 256) (b := 128) (k1_pay10 (F := Ideal) k1_pay5 k1_pay8) (fun _ l => if 3 ≤ l % 16 ∧ l % 16 < 6 then 1 else 0) (256 * c) 0 :=
    at_choose (p := fun l => 3 ≤ l % 16 ∧ l % 16 < 6) mask_k (at_const Ideal.ofBits_one_f32) (at_const Ideal.ofBits_zero_f32)
  refine (at_choose (p := fun l => l % 16 < 3) mask_q (at_parts c hx ho) h1 j).trans ?_
  have h0 : (j 0).val < 256 := (j 0).isLt
  dsimp only
  rw [qfeat, cum, show (256 * c + (j 0).val) / 256 = c by omega]

/-- A block of the keys' features. -/
theorem at_k {W : ℕ → ℕ → EReal} {x : FVec Ideal S256x128 .f32} {o : FVec Ideal S1x128 .f32} (c : ℕ)
    (hx : At (a := 256) (b := 128) x (loc W c) (256 * c) 0) (ho : At (a := 1) (b := 128) o (fun _ l => off W c l) 0 0) :
    At1 (a := 256) (b := 128) (k1_pay41 k1_pay6 (k1_pay9 k1_pay5 k1_pay8) (k1_pay11 k1_pay7) x o) (kfeat W) (256 * c) 0 := by
  unfold k1_pay41; dsimp only
  refine at_lead fun j => ?_
  have h1 : At (a := 256) (b := 128) (k1_pay11 (F := Ideal) k1_pay7) (fun _ l => if l % 16 < 3 then 1 else 0) (256 * c) 0 :=
    at_choose (p := fun l => l % 16 < 3) mask_q (at_const Ideal.ofBits_one_f32) (at_const Ideal.ofBits_zero_f32)
  refine (at_choose (p := fun l => 3 ≤ l % 16 ∧ l % 16 < 6) mask_k (at_less (at_const Ideal.ofBits_zero_f32) (at_parts c hx ho)) h1 j).trans ?_
  have h0 : (j 0).val < 256 := (j 0).isLt
  dsimp only
  rw [kfeat, cum, show (256 * c + (j 0).val) / 256 = c by omega]

section blocks
variable {x0 : Vec Ideal S1x2048x128 .f32} {x1 : Vec Ideal S1x128 .f32} {f : ℕ → ℕ → EReal} {B : ℕ → EReal}

/-- A load of 256 rows. -/
theorem at_rows256 {q : ℕ} {inb} (h0 : At1 (a := 2048) (b := 128) x0 f 0 0) :
    At1 (a := 256) (b := 128) (View.ld (Val := Elt Ideal) x0 (Rect.unit (s := S1x2048x128) ![0, q, 0] S1x256x128.size inb)) f q 0 := fun j => by
  refine (h0 _).trans ?_
  show f (0 + (q + 1 * (j 1).val)) (0 + (0 + 1 * (j 2).val)) = f (q + (j 1).val) (0 + (j 2).val)
  congr 1 <;> omega

/-- A load of the whole row of biases. -/
theorem at_bias (h1 : At (a := 1) (b := 128) x1 (fun _ l => B l) 0 0) :
    At (a := 1) (b := 128) (View.ld (Val := Elt Ideal) x1 r1_1) (fun _ l => B l) 0 0 := fun j => by
  refine (h1 _).trans ?_
  show B (0 + (0 + 1 * (j 1).val)) = B (0 + (j 1).val)
  congr 1; omega

/-- The blocks' sums. -/
theorem at_chain (h0 : At1 (a := 2048) (b := 128) x0 f 0 0) (h1 : At (a := 1) (b := 128) x1 (fun _ l => B l) 0 0) :
    At (a := 256) (b := 128) (k1_pay80 x0 x1) (loc (LF f B) 0) (256 * 0) 0 ∧ At (a := 256) (b := 128) (k1_pay81 x0 x1) (loc (LF f B) 1) (256 * 1) 0
    ∧ At (a := 256) (b := 128) (k1_pay82 x0 x1) (loc (LF f B) 2) (256 * 2) 0 ∧ At (a := 256) (b := 128) (k1_pay83 x0 x1) (loc (LF f B) 3) (256 * 3) 0
    ∧ At (a := 256) (b := 128) (k1_pay84 x0 x1) (loc (LF f B) 4) (256 * 4) 0 ∧ At (a := 256) (b := 128) (k1_pay85 x0 x1) (loc (LF f B) 5) (256 * 5) 0
    ∧ At (a := 256) (b := 128) (k1_pay86 x0 x1) (loc (LF f B) 6) (256 * 6) 0 ∧ At (a := 256) (b := 128) (k1_pay87 x0 x1) (loc (LF f B) 7) (256 * 7) 0 :=
  ⟨at_loc 0 (at_rows256 (q := 0) h0) (at_bias h1), at_loc 1 (at_rows256 (q := 256) h0) (at_bias h1), at_loc 2 (at_rows256 (q := 512) h0) (at_bias h1),
   at_loc 3 (at_rows256 (q := 768) h0) (at_bias h1), at_loc 4 (at_rows256 (q := 1024) h0) (at_bias h1), at_loc 5 (at_rows256 (q := 1280) h0) (at_bias h1),
   at_loc 6 (at_rows256 (q := 1536) h0) (at_bias h1), at_loc 7 (at_rows256 (q := 1792) h0) (at_bias h1)⟩

/-- What the blocks before each block have added up to. -/
theorem at_offs (h0 : At1 (a := 2048) (b := 128) x0 f 0 0) (h1 : At (a := 1) (b := 128) x1 (fun _ l => B l) 0 0) :
    At (a := 1) (b := 128) (k1_pay32 (F := Ideal)) (fun _ l => off (LF f B) 0 l) 0 0
    ∧ At (a := 1) (b := 128) (k1_pay88 x0 x1) (fun _ l => off (LF f B) 1 l) 0 0 ∧ At (a := 1) (b := 128) (k1_pay89 x0 x1) (fun _ l => off (LF f B) 2 l) 0 0
    ∧ At (a := 1) (b := 128) (k1_pay42 (k1_pay82 x0 x1) (k1_pay89 x0 x1)) (fun _ l => off (LF f B) 3 l) 0 0
    ∧ At (a := 1) (b := 128) (k1_pay90 x0 x1) (fun _ l => off (LF f B) 4 l) 0 0 ∧ At (a := 1) (b := 128) (k1_pay94 x0 x1) (fun _ l => off (LF f B) 5 l) 0 0
    ∧ At (a := 1) (b := 128) (k1_pay95 x0 x1) (fun _ l => off (LF f B) 6 l) 0 0
    ∧ At (a := 1) (b := 128) (k1_pay38 (k1_pay86 x0 x1) (k1_pay95 x0 x1)) (fun _ l => off (LF f B) 7 l) 0 0 := by
  obtain ⟨l0, l1, l2, l3, l4, l5, l6, l7⟩ := at_chain h0 h1
  have o0 : At (a := 1) (b := 128) (k1_pay32 (F := Ideal)) (fun _ l => off (LF f B) 0 l) 0 0 := at_const Ideal.ofBits_zero_f32
  have o1 : At (a := 1) (b := 128) (k1_pay88 x0 x1) (fun _ l => off (LF f B) 1 l) 0 0 := at_off 0 l0 o0
  have o2 : At (a := 1) (b := 128) (k1_pay89 x0 x1) (fun _ l => off (LF f B) 2 l) 0 0 := at_off 1 l1 o1
  have o3 : At (a := 1) (b := 128) (k1_pay42 (k1_pay82 x0 x1) (k1_pay89 x0 x1)) (fun _ l => off (LF f B) 3 l) 0 0 := at_off 2 l2 o2
  have o4 : At (a := 1) (b := 128) (k1_pay90 x0 x1) (fun _ l => off (LF f B) 4 l) 0 0 := at_off 3 l3 o3
  have o5 : At (a := 1) (b := 128) (k1_pay94 x0 x1) (fun _ l => off (LF f B) 5 l) 0 0 := at_off 4 l4 o4
  have o6 : At (a := 1) (b := 128) (k1_pay95 x0 x1) (fun _ l => off (LF f B) 6 l) 0 0 := at_off 5 l5 o5
  exact ⟨o0, o1, o2, o3, o4, o5, o6, at_off 6 l6 o6⟩

/-- A piece that holds its block of the features. -/
theorem piece {G : ℕ → ℕ → EReal} {v : S1x256x128.Idx → EReal} {q p0 p1 : ℕ} (hv : At1 (a := 256) (b := 128) v G q 0) (x : S1x256x128.Idx)
    (h0 : p0 = q + (x 1).val) (h1 : p1 = (x 2).val) : v x = G (0 + p0) (0 + p1) := by
  rw [hv x, h0, h1, Nat.zero_add, Nat.zero_add]

/-- The queries' features of a sequence. -/
theorem at_out2 (h0 : At1 (a := 2048) (b := 128) x0 f 0 0) (h1 : At (a := 1) (b := 128) x1 (fun _ l => B l) 0 0) :
    At1 (a := 2048) (b := 128) (out1_2 x0 x1) (qfeat (LF f B)) 0 0 := fun y => by
  obtain ⟨l0, l1, l2, l3, l4, l5, l6, l7⟩ := at_chain h0 h1
  obtain ⟨o0, o1, o2, o3, o4, o5, o6, o7⟩ := at_offs h0 h1
  canon_tiles x h
  · exact piece (q := 256 * 7) (at_q 7 l7 o7) x (by omega) (by omega)
  · exact piece (q := 256 * 6) (at_q 6 l6 o6) x (by omega) (by omega)
  · exact piece (q := 256 * 5) (at_q 5 l5 o5) x (by omega) (by omega)
  · exact piece (q := 256 * 4) (at_q 4 l4 o4) x (by omega) (by omega)
  · exact piece (q := 256 * 3) (at_q 3 l3 o3) x (by omega) (by omega)
  · exact piece (q := 256 * 2) (at_q 2 l2 o2) x (by omega) (by omega)
  · exact piece (q := 256 * 1) (at_q 1 l1 o1) x (by omega) (by omega)
  · exact piece (q := 256 * 0) (at_q 0 l0 o0) x (by omega) (by omega)

/-- The keys' features of a sequence. -/
theorem at_out3 (h0 : At1 (a := 2048) (b := 128) x0 f 0 0) (h1 : At (a := 1) (b := 128) x1 (fun _ l => B l) 0 0) :
    At1 (a := 2048) (b := 128) (out1_3 x0 x1) (kfeat (LF f B)) 0 0 := fun y => by
  obtain ⟨l0, l1, l2, l3, l4, l5, l6, l7⟩ := at_chain h0 h1
  obtain ⟨o0, o1, o2, o3, o4, o5, o6, o7⟩ := at_offs h0 h1
  canon_tiles x h
  · exact piece (q := 256 * 7) (at_k 7 l7 o7) x (by omega) (by omega)
  · exact piece (q := 256 * 6) (at_k 6 l6 o6) x (by omega) (by omega)
  · exact piece (q := 256 * 5) (at_k 5 l5 o5) x (by omega) (by omega)
  · exact piece (q := 256 * 4) (at_k 4 l4 o4) x (by omega) (by omega)
  · exact piece (q := 256 * 3) (at_k 3 l3 o3) x (by omega) (by omega)
  · exact piece (q := 256 * 2) (at_k 2 l2 o2) x (by omega) (by omega)
  · exact piece (q := 256 * 1) (at_k 1 l1 o1) x (by omega) (by omega)
  · exact piece (q := 256 * 0) (at_k 0 l0 o0) x (by omega) (by omega)

end blocks

variable (V : (c : Dev nD) → (b : Ref sig .tc) → Buf (Elt Ideal) (c.tc.loc b))

/-- The places of the windows' blocks at a grid point. -/
theorem place1 : ∀ t : Fin grid1.N,
    win1_0.index t = ![t.val, 0, 0] ∧ win1_1.index t = ![0, 0] ∧ win1_2.index t = ![t.val, 0, 0] ∧ win1_3.index t = ![t.val, 0, 0] := by decide +kernel

/-- The gates' logarithms of a sequence, from the arrays. -/
def gates (A : S16x2048x128.Idx → EReal) (B : S1x128.Idx → EReal) (b : ℕ) : ℕ → ℕ → EReal := LF (Fox.cell A b) (Proj.mat B 0)

section arrays
variable (c : Dev nD) (t : Fin grid1.N)

/-- The sequence's block. -/
theorem at_w0 : At1 (a := 2048) (b := 128) (iblk1 V c 0 t) (Fox.cell (V c main_v19) t.val) 0 0 := fun y => by
  obtain ⟨i0, i1, i2, i3⟩ := place1 t
  blk_simp [iblk1]
  refine Fox.cell_at _ _ ?_ ?_ ?_ <;> blk_simp [i0] <;> idx_bounds y <;> omega

/-- The biases. -/
theorem at_w1 : At (a := 1) (b := 128) (iblk1 V c 1 t) (fun _ l => Proj.mat (V c main_v12) 0 l) 0 0 := fun y => by
  obtain ⟨i0, i1, i2, i3⟩ := place1 t
  blk_simp [iblk1]
  refine Proj.mat_at _ _ ?_ ?_ <;> blk_simp [i1] <;> idx_bounds y <;> omega

end arrays

/-- What the write-backs leave in the array of the queries' features. -/
theorem q_arr (c : Dev nD) : (dat1 V c).arrAt 2 cfg1.N
    = fun y : S16x2048x128.Idx => qfeat (gates (V c main_v19) (V c main_v12) (y 0).val) (y 1).val (y 2).val := by
  refine (dat1 V c).arrAt_eq_of_covers 2 _ (by decide +kernel) fun t hf y => ?_
  blk_simp
  rw [after1_2]
  obtain ⟨i0, i1, i2, i3⟩ := place1 t
  refine (at_out2 (at_w0 V c t) (at_w1 V c t) y).trans ?_
  have g0 : win1_2.index t 0 = t.val := by rw [i2]; rfl
  have g1 : win1_2.index t 1 = 0 := by rw [i2]; rfl
  have g2 : win1_2.index t 2 = 0 := by rw [i2]; rfl
  rw [g0, g1, g2, Nat.zero_mul]
  rfl

/-- What the write-backs leave in the array of the keys' features. -/
theorem k_arr (c : Dev nD) : (dat1 V c).arrAt 3 cfg1.N
    = fun y : S16x2048x128.Idx => kfeat (gates (V c main_v19) (V c main_v12) (y 0).val) (y 1).val (y 2).val := by
  refine (dat1 V c).arrAt_eq_of_covers 3 _ (by decide +kernel) fun t hf y => ?_
  blk_simp
  rw [after1_3]
  obtain ⟨i0, i1, i2, i3⟩ := place1 t
  refine (at_out3 (at_w0 V c t) (at_w1 V c t) y).trans ?_
  have g0 : win1_3.index t 0 = t.val := by rw [i3]; rfl
  have g1 : win1_3.index t 1 = 0 := by rw [i3]; rfl
  have g2 : win1_3.index t 2 = 0 := by rw [i3]; rfl
  rw [g0, g1, g2, Nat.zero_mul]
  rfl

end Cert.Fprep

end
-- ==== Proof.RealFox.lean ====
module

public import proofs.«01_k».proof.Proof.Fprep

@[expose] public section
set_option maxRecDepth 16384

/-! The attention's sums over real scores. -/

noncomputable section
namespace Cert.RealFox
open Finset Cert.Fox Cert.Tiles Cert.KernelIdeal Idealize.ShloMosaic

/-- A finite sum of reals is the real sum. -/
theorem sum_real {ι : Type} (s : Finset ι) (f : ι → ℝ) : ∑ i ∈ s, ((f i : ℝ) : EReal) = ((∑ i ∈ s, f i : ℝ) : EReal) := by
  induction s using Finset.cons_induction with
  | empty => simp
  | cons a s ha ih => rw [sum_cons, sum_cons, ih, EReal.coe_add]

/-- A part of a weighted sum over real columns. -/
theorem part_real {P W : ℕ → ℕ → EReal} {a w : ℕ → ℝ} {t l c : ℕ}
    (ha : ∀ s, s < c + 256 → P t s = ((a s : ℝ) : EReal)) (hw : ∀ s, s < c + 256 → W s l = ((w s : ℝ) : EReal)) :
    part P W c t l = ((∑ j ∈ range 256, a (c + j) * w (c + j) : ℝ) : EReal) := by
  rw [part, ← Fin.sum_univ_eq_sum_range (fun j => a (c + j) * w (c + j)) 256, ← sum_real]
  refine sum_congr rfl fun j _ => ?_
  rw [ha _ (by omega), hw _ (by omega), EReal.coe_mul]

/-- The accumulated weighted sum over the column tiles `0 … c`. -/
theorem acc_real {P W : ℕ → ℕ → EReal} {a w : ℕ → ℝ} {t l : ℕ} : ∀ c : ℕ,
    (∀ s, s < 256 * (c + 1) → P t s = ((a s : ℝ) : EReal)) → (∀ s, s < 256 * (c + 1) → W s l = ((w s : ℝ) : EReal)) →
    acc P W c t l = ((∑ s ∈ range (256 * (c + 1)), a s * w s : ℝ) : EReal)
  | 0, ha, hw => by
    show 0 + part P W 0 t l = _
    rw [part_real (fun s h => ha s (by omega)) (fun s h => hw s (by omega)), zero_add]
    simp only [Nat.zero_add, Nat.mul_one]
  | c + 1, ha, hw => by
    show acc P W c t l + part P W (256 * (c + 1)) t l = _
    rw [acc_real c (fun s h => ha s (by omega)) (fun s h => hw s (by omega)),
      part_real (fun s h => ha s (by omega)) (fun s h => hw s (by omega)), ← EReal.coe_add,
      show 256 * (c + 1 + 1) = 256 * (c + 1) + 256 by omega, sum_range_add]

/-- The running maximum is below plus infinity. -/
theorem runMax_lt {G : ℕ → ℕ → EReal} {t l : ℕ} (hl : l < 128) : ∀ c : ℕ, (∀ s, s < 256 * (c + 1) → G t s < ⊤) → runMax G c t l < ⊤
  | 0, h => max_lt (h _ (by omega)) (h _ (by omega))
  | c + 1, h => max_lt (runMax_lt hl c fun s hs => h s (by omega)) (max_lt (h _ (by omega)) (h _ (by omega)))

/-- The running maximum is at least the first column's score. -/
theorem le_runMax {G : ℕ → ℕ → EReal} {t : ℕ} : ∀ c : ℕ, G t 0 ≤ runMax G c t 0
  | 0 => le_max_left _ _
  | c + 1 => (le_runMax c).trans (le_max_left _ _)

/-- The row's maximum is a real number. -/
theorem rowMax_real {G : ℕ → ℕ → EReal} {t : ℕ} (h : ∀ s, G t s < ⊤) (h0 : ⊥ < G t 0) :
    ∃ r : ℝ, rowMax G t = (r : EReal) := by
  have hb : ⊥ < rowMax G t := h0.trans_le ((le_runMax (t / 256)).trans
    (le_sup (f := fun l : Fin 128 => runMax G (t / 256) t l.val) (mem_univ (0 : Fin 128))))
  have ht : rowMax G t < ⊤ := (Finset.sup_lt_iff bot_lt_top).2 fun l _ => runMax_lt l.isLt _ fun s _ => h s
  exact ⟨(rowMax G t).toReal, (EReal.coe_toReal ht.ne hb.ne').symm⟩

/-- The power of two of a scaled score. -/
theorem exp2_score (x m : ℝ) : Ideal.exp2 ((((Real.log 2)⁻¹ * x : ℝ) : EReal) - (m : EReal)) = ((Real.exp (-(Real.log 2 * m)) * Real.exp x : ℝ) : EReal) := by
  have h2 : Real.log 2 ≠ 0 := (Real.log_pos one_lt_two).ne'
  rw [← EReal.coe_sub, Ideal.exp2_coe, ← Real.exp_add]
  congr 1
  show (2 : ℝ) ^ ((Real.log 2)⁻¹ * x - m) = _
  rw [Real.rpow_def_of_pos two_pos]
  congr 1
  field_simp
  ring

/-- The weights of a row with real scores. -/
def wt (S : ℕ → ℝ) (t s : ℕ) : ℝ := if s ≤ t then Real.exp (S s) else 0

/-- The exponentials of the masked scores are a positive multiple of the weights. -/
theorem expo_real {Z : ℕ → ℕ → EReal} {S : ℕ → ℝ} {t : ℕ}
    (h : ∀ s, s ≤ t → Z t s = (((Real.log 2)⁻¹ * S s : ℝ) : EReal)) :
    ∃ k : ℝ, 0 < k ∧ ∀ s, expo (masked Z) (rowMax (masked Z)) t s = ((k * wt S t s : ℝ) : EReal) := by
  have hm : ∀ s, masked Z t s = if s ≤ t then (((Real.log 2)⁻¹ * S s : ℝ) : EReal) else ⊥ := fun s => by
    rw [masked]; split_ifs with hs
    · exact h s hs
    · rfl
  obtain ⟨m, hr⟩ := rowMax_real (G := masked Z) (t := t)
    (fun s => by rw [hm]; split_ifs; exacts [EReal.coe_lt_top _, bot_lt_top]) (by rw [hm, if_pos (Nat.zero_le t)]; exact EReal.bot_lt_coe _)
  refine ⟨Real.exp (-(Real.log 2 * m)), Real.exp_pos _, fun s => ?_⟩
  rw [expo, hr, hm, wt]
  split_ifs with hs
  · exact exp2_score _ _
  · rw [EReal.bot_sub, Ideal.exp2_bot, mul_zero, EReal.coe_zero]

/-- The quotient of two reals. -/
theorem div_real (x : ℝ) {y : ℝ} (h : y ≠ 0) : Ideal.div (x : EReal) (y : EReal) = ((x / y : ℝ) : EReal) := by
  rw [Ideal.div_coe h, ← EReal.coe_mul, mul_one_div]

/-- The sum of a row's weights is positive. -/
theorem wt_pos (S : ℕ → ℝ) (t : ℕ) {n : ℕ} (hn : 0 < n) : 0 < ∑ s ∈ range n, wt S t s := by
  refine sum_pos' (fun s _ => ?_) ⟨0, mem_range.2 hn, ?_⟩
  · rw [wt]; split_ifs; exacts [(Real.exp_pos _).le, le_rfl]
  · rw [wt, if_pos (Nat.zero_le t)]; exact Real.exp_pos _

/-- Columns past the row's own add nothing. -/
theorem wt_sum (S v : ℕ → ℝ) {t n : ℕ} (hn : t < n) : ∑ s ∈ range n, wt S t s * v s = ∑ s ∈ range (t + 1), wt S t s * v s := by
  refine (sum_subset (range_subset_range.2 hn) fun s _ h => ?_).symm
  rw [wt, if_neg (by simpa using h), zero_mul]

/-- The attention's result of a row with real scores and values. -/
def att (S v : ℕ → ℝ) (t : ℕ) : ℝ := (∑ s ∈ range (t + 1), wt S t s * v s) / ∑ s ∈ range (t + 1), wt S t s

variable (x0 x1 x2 x4 x5 : Vec Ideal S1x2048x128 .bf16)

/-- The kernel's quotient is the attention's result. -/
theorem OX_real {p h t l : ℕ} {S v : ℕ → ℝ} (ht : t < 2048) (hl : l < 128) (hh : l / 64 = h)
    (hz : ∀ s, s ≤ t → Z x0 x1 x4 x5 p h t s = (((Real.log 2)⁻¹ * S s : ℝ) : EReal))
    (hv : ∀ s, s < 2048 → rd x2 s l = ((v s : ℝ) : EReal)) :
    OX x0 x1 x2 x4 x5 p h t l = ((att S v t : ℝ) : EReal) := by
  obtain ⟨k, hk, hp⟩ := expo_real hz
  have hn : 256 * (t / 256 + 1) ≤ 2048 := by omega
  have ht' : t < 256 * (t / 256 + 1) := by omega
  unfold OX AX PX ZM
  rw [acc_real (a := fun s => k * wt S t s) (w := v) _ (fun s _ => hp s)
      (fun s hs => by rw [VX, if_pos hh, hv s (by omega)]),
    acc_real (a := fun s => k * wt S t s) (w := fun _ => 1) _ (fun s _ => hp s)
      (fun s hs => by rw [VX, if_neg (by omega), EReal.coe_one])]
  simp only [mul_assoc]
  rw [← mul_sum, ← mul_sum, wt_sum S v ht', wt_sum S (fun _ => 1) ht']
  simp only [mul_one]
  rw [div_real _ (mul_pos hk (wt_pos S t t.succ_pos)).ne', att, mul_div_mul_left _ _ hk.ne']

end Cert.RealFox
end
-- ==== Proof.RealPrep.lean ====
/-
  Over real inputs: the forget gates' logarithms, their running sums, the features that hold them, the normalised rows,
  the projections, and the kernel's scores.
-/
module

public import proofs.«01_k».proof.Proof.RealFox

@[expose] public section

set_option maxRecDepth 16384

noncomputable section

open Finset Cert.Fox Cert.Tiles Cert.KernelIdeal Idealize.ShloMosaic
open scoped BigOperators

namespace Cert.RealFox

/-- The larger of two reals. -/
theorem max_real (x y : ℝ) : max (x : EReal) (y : EReal) = ((max x y : ℝ) : EReal) := (EReal.coe_strictMono.monotone.map_max).symm

/-- The smaller of two reals. -/
theorem min_real (x y : ℝ) : min (x : EReal) (y : EReal) = ((min x y : ℝ) : EReal) := (EReal.coe_strictMono.monotone.map_min).symm

/-- The logarithm of one more than a power of e. -/
theorem log_exp_real (x : ℝ) : Ideal.log (1 + Ideal.exp (x : EReal)) = ((Real.log (1 + Real.exp x) : ℝ) : EReal) := by
  rw [Ideal.exp_coe, ← EReal.coe_one, ← EReal.coe_add, Ideal.log_coe, if_neg (by have := Real.exp_pos x; linarith)]

/-- The logarithm of the logistic function of a real. -/
def lsr (y : ℝ) : ℝ := min y 0 - Real.log (1 + Real.exp (-max y (-y)))

/-- The kernel's logarithm of a forget gate. -/
theorem ls_real (y : ℝ) : Fprep.ls (y : EReal) = ((lsr y : ℝ) : EReal) := by
  rw [Fprep.ls, ← EReal.coe_neg, max_real, ← EReal.coe_zero, ← EReal.coe_sub, min_real, log_exp_real, ← EReal.coe_sub, lsr, zero_sub]

section cumulative
variable {W : ℕ → ℕ → EReal} {w : ℕ → ℝ} {l : ℕ}

/-- The sum of a block's rows down to row `t`. -/
def dn (w : ℕ → ℝ) (c t : ℕ) : ℝ := ∑ j ∈ range 256, if 256 * c + j ≤ t then w (256 * c + j) else 0

/-- A block's sum in one part. -/
theorem down_real {c t : ℕ} (h : ∀ s, s < 256 * c + 256 → W s l = ((w s : ℝ) : EReal)) : Fprep.down W c t l = ((dn w c t : ℝ) : EReal) := by
  rw [Fprep.down, dn, ← Fin.sum_univ_eq_sum_range (fun j => if 256 * c + j ≤ t then w (256 * c + j) else 0) 256, ← sum_real]
  refine sum_congr rfl fun j _ => ?_
  rw [h _ (by omega), Fprep.tri]
  split_ifs <;> simp

/-- Nothing is left of a real. -/
theorem rest_real (x : ℝ) : Fprep.rest (x : EReal) = 0 := by rw [Fprep.rest, ← EReal.coe_sub, sub_self, EReal.coe_zero]

/-- Nothing is left of zero. -/
theorem rest_zero : Fprep.rest 0 = 0 := rest_real 0

/-- A block's sum in three parts. -/
theorem loc_real {c t : ℕ} (h : ∀ s, s < 256 * c + 256 → W s l = ((w s : ℝ) : EReal)) : Fprep.loc W c t l = ((dn w c t : ℝ) : EReal) := by
  have z : dn (fun _ => 0) c t = 0 := by simp [dn]
  rw [Fprep.loc, down_real h, down_real (w := fun _ => 0) (fun s hs => by rw [h s hs, rest_real, EReal.coe_zero]),
    down_real (w := fun _ => 0) (fun s hs => by rw [h s hs, rest_real, sub_zero, EReal.coe_zero]), z, EReal.coe_zero, add_zero, add_zero]

/-- The blocks before. -/
theorem off_real : ∀ c : ℕ, (∀ s, s < 256 * c → W s l = ((w s : ℝ) : EReal)) → Fprep.off W c l = ((∑ s ∈ range (256 * c), w s : ℝ) : EReal)
  | 0, _ => by rw [Fprep.off, Nat.mul_zero, sum_range_zero, EReal.coe_zero]
  | c + 1, h => by
    rw [Fprep.off, off_real c (fun s hs => h s (by omega)), loc_real (fun s hs => h s (by omega)), ← EReal.coe_add,
      show 256 * (c + 1) = 256 * c + 256 by omega, sum_range_add, dn]
    congr 2
    exact sum_congr rfl fun j hj => if_pos (by have := mem_range.1 hj; omega)

/-- The running sum. -/
theorem cum_real {t : ℕ} (ht : t < 2048) (h : ∀ s, s < 2048 → W s l = ((w s : ℝ) : EReal)) :
    Fprep.cum W t l = ((∑ s ∈ range (t + 1), w s : ℝ) : EReal) := by
  rw [Fprep.cum, loc_real (fun s hs => h s (by omega)), off_real _ (fun s hs => h s (by omega)), ← EReal.coe_add]
  congr 1
  have e : ∑ s ∈ range (256 * (t / 256)), w s = ∑ s ∈ range (256 * (t / 256)), if s ≤ t then w s else 0 :=
    sum_congr rfl fun s hs => (if_pos (by have := mem_range.1 hs; omega)).symm
  rw [dn, e, add_comm, ← sum_range_add (fun s => if s ≤ t then w s else 0), ← sum_filter]
  congr 1
  ext s
  simp only [mem_filter, mem_range]
  omega

end cumulative

/-- A query's features of the scaled running sum `x`. -/
def qf (x : ℝ) (r : ℕ) : ℝ := if r < 3 then (if r = 0 then x else 0) else if r < 6 then 1 else 0

/-- A key's features of the scaled running sum `x`. -/
def kf (x : ℝ) (r : ℕ) : ℝ := if 3 ≤ r ∧ r < 6 then (if r = 3 then -x else 0) else if r < 3 then 1 else 0

/-- The parts of a real: the first is all of it. -/
theorem split_real (m : ℕ) (x : ℝ) : Fprep.split m (x : EReal) = ((if m = 0 then x else 0 : ℝ) : EReal) := by
  rw [Fprep.split, rest_real, sub_zero, ite_self]
  split_ifs <;> simp

/-- The query's features. -/
theorem qfeat_real {W : ℕ → ℕ → EReal} {t l : ℕ} {x : ℝ} (h : Fprep.cum W t l = (x : EReal)) :
    Fprep.qfeat W t l = ((qf ((Real.log 2)⁻¹ * x) (l % 16) : ℝ) : EReal) := by
  rw [Fprep.qfeat, h, Fprep.lg, ← EReal.coe_mul, split_real, mul_comm x, qf]
  by_cases h3 : l % 16 < 3
  · simp only [h3, if_true, show l % 16 % 3 = l % 16 by omega]
  · by_cases h6 : l % 16 < 6
    · simp only [h3, h6, if_true, if_false, show 3 ≤ l % 16 by omega, and_self, EReal.coe_one]
    · simp only [h3, h6, if_false, and_false, EReal.coe_zero]

/-- The key's features. -/
theorem kfeat_real {W : ℕ → ℕ → EReal} {t l : ℕ} {x : ℝ} (h : Fprep.cum W t l = (x : EReal)) :
    Fprep.kfeat W t l = ((kf ((Real.log 2)⁻¹ * x) (l % 16) : ℝ) : EReal) := by
  rw [Fprep.kfeat, h, Fprep.lg, ← EReal.coe_mul, split_real, mul_comm x, kf, ← EReal.coe_zero, ← EReal.coe_one, ← EReal.coe_sub]
  by_cases h3 : 3 ≤ l % 16 ∧ l % 16 < 6
  · rw [if_pos h3, if_pos h3]
    congr 1
    by_cases e : l % 16 = 3
    · simp [e]
    · rw [if_neg e, if_neg (by omega), sub_zero]
  · rw [if_neg h3, if_neg h3]
    split_ifs <;> rfl

/-- A sum over groups that takes one group. -/
theorem sum_group {m : ℕ} (hm : 0 < m) (f : ℕ → ℝ) (h : ℕ) : ∀ n : ℕ,
    (∑ k ∈ range (m * n), if k / m = h then f k else 0) = if h < n then ∑ d ∈ range m, f (m * h + d) else 0
  | 0 => by simp
  | n + 1 => by
    have e : ∀ d ∈ range m, (if (m * n + d) / m = h then f (m * n + d) else 0) = if n = h then f (m * n + d) else 0 := fun d hd => by
      rw [Nat.mul_add_div hm, Nat.div_eq_of_lt (mem_range.1 hd), Nat.add_zero]
    rw [Nat.mul_succ, sum_range_add, sum_group hm f h n, sum_congr rfl e]
    by_cases h1 : n = h
    · subst h1; simp
    · simp only [h1, if_false, sum_const_zero, add_zero, show h < n + 1 ↔ h < n by omega]

/-- The kernel's score of a query and a key. -/
theorem Z_real {x0 x1 x4 x5 : Vec Ideal S1x2048x128 .bf16} {p h t s : ℕ} {q k : ℕ → ℝ} {a b : ℝ} (hh : h < 2) (hp : p < 4)
    (hq : ∀ l, l < 128 → rd x0 t l = ((q l : ℝ) : EReal)) (hk : ∀ l, l < 128 → rd x1 s l = ((k l : ℝ) : EReal))
    (ha : ∀ l, l < 128 → l / 16 = 2 * p + h → rd x4 t l = ((qf a (l % 16) : ℝ) : EReal))
    (hb : ∀ l, l < 128 → l / 16 = 2 * p + h → rd x5 s l = ((kf b (l % 16) : ℝ) : EReal)) :
    Z x0 x1 x4 x5 p h t s = ((∑ d ∈ range 64, q (64 * h + d) * k (64 * h + d) + (a - b) : ℝ) : EReal) := by
  have e : ∀ i : ℕ, i < 256 → QX x0 x4 t (0 + i) * KX x1 x5 p h (0 + i) s
      = ((if i < 128 then (if i / 64 = h then q i * k i else 0)
          else (if (i - 128) / 16 = 2 * p + h then qf a ((i - 128) % 16) * kf b ((i - 128) % 16) else 0) : ℝ) : EReal) := fun i hi => by
    rw [Nat.zero_add, QX, KX]
    split_ifs with h1 h2 h2
    · rw [hq i h1, hk i h1, EReal.coe_mul]
    · rw [mul_zero, EReal.coe_zero]
    · rw [ha _ (by omega) h2, hb _ (by omega) h2, EReal.coe_mul]
    · rw [mul_zero, EReal.coe_zero]
  have hf : ∀ d, qf a ((16 * (2 * p + h) + d) % 16) * kf b ((16 * (2 * p + h) + d) % 16) = qf a (d % 16) * kf b (d % 16) := fun d => by
    rw [Nat.mul_add_mod]
  have h6 : ∑ d ∈ range 16, qf a (d % 16) * kf b (d % 16) = a - b := by
    simp only [sum_range_succ, sum_range_zero, qf, kf]
    norm_num
    ring
  rw [Z, sum_congr rfl fun j _ => e j.val j.isLt, sum_real, Fin.sum_univ_eq_sum_range (fun i => if i < 128 then (if i / 64 = h then q i * k i else 0)
          else (if (i - 128) / 16 = 2 * p + h then qf a ((i - 128) % 16) * kf b ((i - 128) % 16) else 0)) 256,
    show 256 = 128 + 128 from rfl, sum_range_add]
  congr 2
  · rw [sum_congr rfl fun i hi => if_pos (mem_range.1 hi), show 128 = 64 * 2 from rfl, sum_group (by omega) (fun i => q i * k i), if_pos hh]
  · have e' : ∀ i ∈ range 128, (if 128 + i < 128 then (if (128 + i) / 64 = h then q (128 + i) * k (128 + i) else 0)
          else (if (128 + i - 128) / 16 = 2 * p + h then qf a ((128 + i - 128) % 16) * kf b ((128 + i - 128) % 16) else 0))
        = if i / 16 = 2 * p + h then qf a (i % 16) * kf b (i % 16) else 0 := fun i _ => by
      rw [if_neg (by omega), Nat.add_sub_cancel_left]
    rw [sum_congr rfl e', show 128 = 16 * 8 from rfl, sum_group (by omega) (fun i => qf a (i % 16) * kf b (i % 16)), if_pos (by omega),
      sum_congr rfl fun d _ => hf d, h6]

/-- The divisor of the mean. -/
theorem word_1024 : Ideal.ofBits .f32 0x44800000#32 = ((1024 : ℝ) : EReal) := by
  simp [Ideal.ofBits, Ideal.ieee]
  rw [← EReal.coe_mul]
  norm_num

/-- The normalisation's small number is positive. -/
theorem word_eps : ∃ e : ℝ, 0 < e ∧ Ideal.ofBits .f32 0x358637BD#32 = (e : EReal) := by
  refine ⟨_, ?_, by simp [Ideal.ofBits, Ideal.ieee]; rfl⟩
  norm_num

/-- A square is not negative. -/
theorem sq_nonneg' (x : EReal) : 0 ≤ x * x := by
  induction x using EReal.rec with
  | bot => simp
  | top => simp
  | coe r => rw [← EReal.coe_mul, ← EReal.coe_zero, EReal.coe_le_coe_iff]; exact mul_self_nonneg r

/-- A normalised entry is a real number, whatever the row holds. -/
theorem norm_real (X : ℕ → ℕ → EReal) (t k : ℕ) (hk : k < 1024) : ∃ r : ℝ, X t k * Proj.rho X t = (r : EReal) := by
  obtain ⟨e, he, hw⟩ := word_eps
  by_cases h : ∃ l : Fin 1024, X t l.val * X t l.val = ⊤
  · obtain ⟨l, hl⟩ := h
    have hs : ∑ l : Fin 1024, X t l.val * X t l.val = ⊤ := top_le_iff.1
      (hl ▸ single_le_sum (f := fun l : Fin 1024 => X t l.val * X t l.val) (fun i _ => sq_nonneg' _) (mem_univ l))
    refine ⟨0, ?_⟩
    rw [Proj.rho, hs, hw, word_1024, Ideal.div_coe (by norm_num), EReal.top_mul_coe_of_pos (by norm_num), EReal.top_add_coe, Ideal.rsqrt_top,
      mul_zero, EReal.coe_zero]
  · have hr : ∀ l, l < 1024 → X t l = (((X t l).toReal : ℝ) : EReal) := fun l hl => by
      refine (EReal.coe_toReal ?_ ?_).symm
      · intro e; exact h ⟨⟨l, hl⟩, by simp [e]⟩
      · intro e; exact h ⟨⟨l, hl⟩, by simp [e]⟩
    have hs : ∑ l : Fin 1024, X t l.val * X t l.val = ((∑ l : Fin 1024, (X t l.val).toReal * (X t l.val).toReal : ℝ) : EReal) := by
      rw [← sum_real]
      exact sum_congr rfl fun l _ => by rw [EReal.coe_mul, ← hr l.val l.isLt]
    have hp : 0 ≤ ∑ l : Fin 1024, (X t l.val).toReal * (X t l.val).toReal := sum_nonneg fun l _ => mul_self_nonneg _
    have hx : 0 < (∑ l : Fin 1024, (X t l.val).toReal * (X t l.val).toReal) / 1024 + e := by positivity
    rw [Proj.rho, hs, hw, word_1024, div_real _ (by norm_num), ← EReal.coe_add, Ideal.rsqrt_coe, if_neg hx.le.not_gt, if_neg hx.ne', hr k hk]
    exact ⟨_, (EReal.coe_mul _ _).symm⟩

/-- The normalised rows. -/
def nrm (X : ℕ → ℕ → EReal) (t k : ℕ) : ℝ := (X t k * Proj.rho X t).toReal

/-- They are what the kernel forms. -/
theorem nrm_eq (X : ℕ → ℕ → EReal) (t k : ℕ) (hk : k < 1024) : X t k * Proj.rho X t = ((nrm X t k : ℝ) : EReal) := by
  obtain ⟨r, hr⟩ := norm_real X t k hk
  rw [nrm, hr, EReal.toReal_coe]

/-- A row of a product over real entries. -/
theorem dotRow_real {H W : ℕ → ℕ → EReal} {t n : ℕ} {a w : ℕ → ℝ} (ha : ∀ k, k < 1024 → H t k = ((a k : ℝ) : EReal))
    (hw : ∀ k, k < 1024 → W k n = ((w k : ℝ) : EReal)) : Proj.dotRow H W t n = ((∑ k ∈ range 1024, a k * w k : ℝ) : EReal) := by
  rw [Proj.dotRow, ← Fin.sum_univ_eq_sum_range (fun k => a k * w k) 1024, ← sum_real]
  refine sum_congr rfl fun k _ => ?_
  rw [Nat.zero_add, ha _ k.isLt, hw _ k.isLt, EReal.coe_mul]

section layer
variable (X : ℕ → ℕ → ℕ → EReal) (M : ℕ → ℕ → ℝ) (g : ℕ → ℝ) (W : ℕ → ℕ → ℝ) (B : ℕ → ℝ)

/-- The normalised and modulated rows. -/
def hr (b t k : ℕ) : ℝ := nrm (X b) t k * (g k * (1 + M b (1024 + k))) + M b k

/-- The projections. -/
def pr (b t n : ℕ) : ℝ := ∑ k ∈ range 1024, hr X M g b t k * W k n

/-- The forget gates' logarithms. -/
def lf (b t h : ℕ) : ℝ := lsr (pr X M g W b t (4096 + h) + B h)

/-- Their running sums. -/
def cumF (b h t : ℕ) : ℝ := ∑ s ∈ range (t + 1), lf X M g W B b s h

/-- The scores of a head. -/
def score (b h t s : ℕ) : ℝ :=
  (∑ d ∈ range 64, pr X M g W b t (2048 + (64 * h + d)) * pr X M g W b s (2560 + (64 * h + d))) * 8⁻¹ + (cumF X M g W B b h t - cumF X M g W B b h s)

/-- The gated attention. -/
def out (b t n : ℕ) : ℝ :=
  att (score X M g W B b (n / 64) t) (fun s => pr X M g W b s (3072 + n)) t
    * (pr X M g W b t (3584 + n) * (1 + Real.exp (-pr X M g W b t (3584 + n)))⁻¹)

end layer

end Cert.RealFox

end
-- ==== Proof.Host.lean ====
/-
  What the kernel's program holds between its calls, as functions of the arguments.
-/
module

public import proofs.«01_k».proof.Proof.RealPrep
public import Idealize.ShloMosaic.Lib.StableHlo.ReadAt

@[expose] public section

set_option maxRecDepth 16384

noncomputable section

open Idealize.ShloMosaic Cert.KernelIdeal Cert.KernelIdeal.Gen
open scoped BigOperators

namespace Cert.Host

variable (m : (ℓ : Loc nD τ sig) → Buf (Elt Ideal) ℓ) (ρ : Dev nD → PrngReg) (c : Dev nD)

/-- The layer's input. -/
def A0 : S16x2048x1024.Idx → EReal := m ((c.tc : Thread nD τ).loc main_arg0)
/-- The modulation. -/
def A1 : S16x3072.Idx → EReal := m ((c.tc : Thread nD τ).loc main_arg1)
/-- The normalisation's gains. -/
def A2 : S1x1024.Idx → EReal := m ((c.tc : Thread nD τ).loc main_arg2)
/-- The weights. -/
def A3 : S1x1024x6152.Idx → EReal := m ((c.tc : Thread nD τ).loc main_arg3)
/-- The forget gates' offsets. -/
def A4 : S1x8.Idx → EReal := m ((c.tc : Thread nD τ).loc main_arg4)

/-- The first weights. -/
theorem v2_read {k n : ℕ} (hk : k < 1024) (hn : n < 4096) : Proj.mat (V1 m ρ c main_v2) k n = Proj.vox (A3 m c) 0 k n := by
  rw [Proj.mat, dif_pos ⟨hk, hn⟩]
  refine Eq.trans ?_ (Proj.vox_at (A3 m c) (ix3 0 ⟨k, hk⟩ ⟨n, by omega⟩) rfl rfl rfl)
  show (W1 m ρ c (Proc.devRef .tc main_v2) : S1024x4096.Idx → EReal) (ix2 ⟨k, hk⟩ ⟨n, hn⟩) = W0 m ρ c (Proc.devRef .tc main_arg3) _
  unfold W1; after_reads_at

/-- The second weights. -/
theorem v4_read {k n : ℕ} (hk : k < 1024) (hn : n < 2048) : Proj.mat (V1 m ρ c main_v4) k n = Proj.vox (A3 m c) 0 k (4104 + n) := by
  rw [Proj.mat, dif_pos ⟨hk, hn⟩]
  refine Eq.trans ?_ (Proj.vox_at (A3 m c) (ix3 0 ⟨k, hk⟩ ⟨4104 + n, by omega⟩) rfl rfl rfl)
  show (W1 m ρ c (Proc.devRef .tc main_v4) : S1024x2048.Idx → EReal) (ix2 ⟨k, hk⟩ ⟨n, hn⟩) = W0 m ρ c (Proc.devRef .tc main_arg3) _
  unfold W1; after_reads_at

/-- The forget gates' weights, each column sixteen times. -/
theorem v8_read {k l : ℕ} (hk : k < 1024) (hl : l < 128) : Proj.mat (V1 m ρ c main_v8) k l = Proj.vox (A3 m c) 0 k (4096 + l / 16) := by
  rw [Proj.mat, dif_pos ⟨hk, hl⟩]
  refine Eq.trans ?_ (Proj.vox_at (A3 m c) (ix3 0 ⟨k, hk⟩ ⟨4096 + l / 16, by omega⟩) rfl rfl rfl)
  show (W1 m ρ c (Proc.devRef .tc main_v8) : S1024x128.Idx → EReal) (ix2 ⟨k, hk⟩ ⟨l, hl⟩) = W0 m ρ c (Proc.devRef .tc main_arg3) _
  unfold W1; after_reads_at

/-- The forget gates' offsets, each sixteen times. -/
theorem v12_read {l : ℕ} (hl : l < 128) : Proj.mat (V1 m ρ c main_v12) 0 l = Proj.mat (A4 m c) 0 (l / 16) := by
  rw [Proj.mat, dif_pos ⟨by omega, hl⟩]
  refine Eq.trans ?_ (Proj.mat_at (A4 m c) (ix2 0 ⟨l / 16, by omega⟩) rfl rfl)
  show (W1 m ρ c (Proc.devRef .tc main_v12) : S1x128.Idx → EReal) (ix2 0 ⟨l, hl⟩) = W0 m ρ c (Proc.devRef .tc main_arg4) _
  unfold W1; after_reads_at

/-- The input's rows. -/
theorem v13_read {b t k : ℕ} (hb : b < 16) (ht : t < 2048) (hk : k < 1024) :
    Proj.mat (V1 m ρ c main_v13) (2048 * b + t) k = Proj.vox (A0 m c) b t k := by
  rw [Proj.mat, dif_pos ⟨by omega, hk⟩]
  refine Eq.trans ?_ (Proj.vox_at (A0 m c) (ix3 ⟨(2048 * b + t) / 2048, by omega⟩ ⟨(2048 * b + t) % 2048, by omega⟩ ⟨k, hk⟩)
    (show (2048 * b + t) / 2048 = b by omega) (show (2048 * b + t) % 2048 = t by omega) rfl)
  show (W1 m ρ c (Proc.devRef .tc main_v13) : S32768x1024.Idx → EReal) (ix2 ⟨2048 * b + t, by omega⟩ ⟨k, hk⟩) = W0 m ρ c (Proc.devRef .tc main_arg0) _
  unfold W1; after_reads_at

/-- The modulation's rows. -/
theorem v14_read {b i k : ℕ} (hb : b < 16) (hi : i < 3) (hk : k < 1024) :
    Proj.vox (V1 m ρ c main_v14) b i k = Proj.mat (A1 m c) b (i * 1024 + k) := by
  rw [Proj.vox, dif_pos ⟨hb, hi, hk⟩]
  refine Eq.trans ?_ (Proj.mat_at (A1 m c) (ix2 ⟨b, hb⟩ ⟨i * 1024 + k, by omega⟩) rfl rfl)
  show (W1 m ρ c (Proc.devRef .tc main_v14) : S16x3x1024.Idx → EReal) (ix3 ⟨b, hb⟩ ⟨i, hi⟩ ⟨k, hk⟩) = W0 m ρ c (Proc.devRef .tc main_arg1) _
  unfold W1; after_reads_at

/-- The gains. -/
theorem v16_read {k : ℕ} (hk : k < 1024) : Proj.mat (V1 m ρ c main_v16) 0 k = Proj.mat (A2 m c) 0 k := by
  rw [Proj.mat, dif_pos ⟨by omega, hk⟩]
  refine Eq.trans ?_ (Proj.mat_at (A2 m c) (ix2 0 ⟨k, hk⟩) rfl rfl)
  show (W1 m ρ c (Proc.devRef .tc main_v16) : S1x1024.Idx → EReal) (ix2 0 ⟨k, hk⟩) = W0 m ρ c (Proc.devRef .tc main_arg2) _
  unfold W1; after_reads_at

/-- The normalised and modulated rows. -/
abbrev hidn : ℕ → ℕ → EReal := Proj.hidden (V1 m ρ c main_v13) (V1 m ρ c main_v14) (V1 m ρ c main_v16)

/-- The projections by sequence. -/
theorem v18_read {b t n : ℕ} (hb : b < 16) (ht : t < 2048) (hn : n < 6144) : Fox.cell (V3 m ρ c main_v18) b t n
    = Proj.proj (hidn m ρ c) (Proj.mat (V1 m ρ c main_v2)) (Proj.mat (V1 m ρ c main_v4)) (2048 * b + t) n := by
  rw [Fox.cell, dif_pos ⟨hb, ht, hn⟩]
  refine Eq.trans ?_ (((congrFun (W2_arr m ρ c 6) (ix2 ⟨b * 2048 + t, by omega⟩ ⟨n, hn⟩)).trans
    (congrFun (Proj.proj_arr (V1 m ρ) c) (ix2 ⟨b * 2048 + t, by omega⟩ ⟨n, hn⟩))).trans ?_)
  · show (W3 m ρ c (Proc.devRef .tc main_v18) : S16x2048x6144.Idx → EReal) (ix3 ⟨b, hb⟩ ⟨t, ht⟩ ⟨n, hn⟩)
      = (W2 m ρ c (Proc.devRef .tc main_v17_0) : S32768x6144.Idx → EReal) _
    unfold W3; after_reads_at
  · show Proj.proj _ _ _ (b * 2048 + t) n = _
    rw [Nat.mul_comm b]

/-- The gates' products by sequence. -/
theorem v19_read {b t l : ℕ} (hb : b < 16) (ht : t < 2048) (hl : l < 128) : Fox.cell (V3 m ρ c main_v19) b t l
    = Proj.dotRow (hidn m ρ c) (Proj.mat (V1 m ρ c main_v8)) (2048 * b + t) l := by
  rw [Fox.cell, dif_pos ⟨hb, ht, hl⟩]
  refine Eq.trans ?_ (((congrFun (W2_arr m ρ c 7) (ix2 ⟨b * 2048 + t, by omega⟩ ⟨l, hl⟩)).trans
    (congrFun (Proj.gate_arr (V1 m ρ) c) (ix2 ⟨b * 2048 + t, by omega⟩ ⟨l, hl⟩))).trans ?_)
  · show (W3 m ρ c (Proc.devRef .tc main_v19) : S16x2048x128.Idx → EReal) (ix3 ⟨b, hb⟩ ⟨t, ht⟩ ⟨l, hl⟩)
      = (W2 m ρ c (Proc.devRef .tc main_v17_1) : S32768x128.Idx → EReal) _
    unfold W3; after_reads_at
  · show Proj.dotRow _ _ (b * 2048 + t) l = _
    rw [Nat.mul_comm b]

/-- The offsets are kept. -/
theorem v12_keep : V3 m ρ c main_v12 = V1 m ρ c main_v12 :=
  (W3_of m ρ c main_v12 (by decide)).trans (W2_of m ρ c main_v12 (by decide))

/-- The projections are kept. -/
theorem v18_keep : V4 m ρ c main_v18 = V3 m ρ c main_v18 := W4_of m ρ c main_v18 (by decide)

/-- The queries' features. -/
theorem v20_0_read {b t l : ℕ} (hb : b < 16) (ht : t < 2048) (hl : l < 128) : Fox.cell (V4 m ρ c main_v20_0) b t l
    = Fprep.qfeat (Fprep.gates (V3 m ρ c main_v19) (V3 m ρ c main_v12) b) t l := by
  rw [Fox.cell, dif_pos ⟨hb, ht, hl⟩]
  exact (congrFun (W4_arr m ρ c 2) _).trans (congrFun (Fprep.q_arr (V3 m ρ) c) _)

/-- The keys' features. -/
theorem v20_1_read {b t l : ℕ} (hb : b < 16) (ht : t < 2048) (hl : l < 128) : Fox.cell (V4 m ρ c main_v20_1) b t l
    = Fprep.kfeat (Fprep.gates (V3 m ρ c main_v19) (V3 m ρ c main_v12) b) t l := by
  rw [Fox.cell, dif_pos ⟨hb, ht, hl⟩]
  exact (congrFun (W4_arr m ρ c 3) _).trans (congrFun (Fprep.k_arr (V3 m ρ) c) _)

/-- The kernel's result. -/
theorem v21_read : W5 m ρ c (Proc.devRef .tc main_v21) = fun y : S16x2048x512.Idx =>
    Fox.foxArr (V4 m ρ c main_v18) (V4 m ρ c main_v20_0) (V4 m ρ c main_v20_1) (y 0).val (y 1).val (y 2).val :=
  (W5_arr m ρ c 6).trans (Fox.fox_arr (V4 m ρ) c)

end Cert.Host

end
-- ==== Proof.KernelReal.lean ====
/-
  The kernel's result over real parameters: the gated attention over reals.
-/
module

public import proofs.«01_k».proof.Proof.Host

@[expose] public section

set_option maxRecDepth 16384

noncomputable section

open Idealize.ShloMosaic Cert.KernelIdeal Cert.KernelIdeal.Gen Cert.RealFox Finset
open scoped BigOperators

namespace Cert.Host

variable (m : (ℓ : Loc nD τ sig) → Buf (Elt Ideal) ℓ) (ρ : Dev nD → PrngReg) (c : Dev nD)
variable (M : ℕ → ℕ → ℝ) (g : ℕ → ℝ) (W : ℕ → ℕ → ℝ) (B : ℕ → ℝ)

/-- The parameters are these reals. -/
structure RealParams : Prop where
  mod : ∀ b n, b < 16 → n < 3072 → Proj.mat (A1 m c) b n = ((M b n : ℝ) : EReal)
  gain : ∀ k, k < 1024 → Proj.mat (A2 m c) 0 k = ((g k : ℝ) : EReal)
  weight : ∀ k n, k < 1024 → n < 6152 → Proj.vox (A3 m c) 0 k n = ((W k n : ℝ) : EReal)
  offset : ∀ h, h < 8 → Proj.mat (A4 m c) 0 h = ((B h : ℝ) : EReal)

variable {m c M g W B} (H : RealParams m c M g W B)
include H

/-- The normalised and modulated rows. -/
theorem hidn_real {b t k : ℕ} (hb : b < 16) (ht : t < 2048) (hk : k < 1024) :
    hidn m ρ c (2048 * b + t) k = ((hr (Proj.vox (A0 m c)) M g b t k : ℝ) : EReal) := by
  have hx : ∀ l, l < 1024 → Proj.mat (V1 m ρ c main_v13) (2048 * b + t) l = Proj.vox (A0 m c) b t l := fun l hl => v13_read m ρ c hb ht hl
  have er : Proj.rho (Proj.mat (V1 m ρ c main_v13)) (2048 * b + t) = Proj.rho (Proj.vox (A0 m c) b) t := by
    unfold Proj.rho
    rw [sum_congr rfl fun l _ => by rw [hx l.val l.isLt]]
  have eb : (2048 * b + t) / 2048 = b := by omega
  show Proj.mat _ (2048 * b + t) k * Proj.rho _ (2048 * b + t) * (Proj.mat _ 0 k * (1 + Proj.vox _ ((2048 * b + t) / 2048) 1 k))
    + Proj.vox _ ((2048 * b + t) / 2048) 0 k = _
  rw [eb, er, hx k hk, nrm_eq _ _ _ hk, v16_read m ρ c hk, H.gain k hk, v14_read m ρ c hb (by omega) hk, v14_read m ρ c hb (by omega) hk,
    H.mod b _ hb (by omega), H.mod b _ hb (by omega), ← EReal.coe_one, ← EReal.coe_add, ← EReal.coe_mul, ← EReal.coe_mul, ← EReal.coe_add, hr]
  simp only [Nat.one_mul, Nat.zero_mul, Nat.zero_add]

/-- The first projections' columns. -/
theorem dot_real {b t n : ℕ} (hb : b < 16) (ht : t < 2048) (hn : n < 4096) :
    Proj.dotRow (hidn m ρ c) (Proj.mat (V1 m ρ c main_v2)) (2048 * b + t) n = ((pr (Proj.vox (A0 m c)) M g W b t n : ℝ) : EReal) :=
  dotRow_real (a := fun k => hr (Proj.vox (A0 m c)) M g b t k) (fun _ hk => hidn_real ρ H hb ht hk)
    fun k hk => (v2_read m ρ c hk hn).trans (H.weight k n hk (by omega))

/-- The queries' columns hold the scaled projections. -/
theorem query_real {b t n : ℕ} (hb : b < 16) (ht : t < 2048) (hn : n < 512) :
    Fox.cell (V4 m ρ c main_v18) b t (2048 + n) = ((pr (Proj.vox (A0 m c)) M g W b t (2048 + n) * (8⁻¹ * (Real.log 2)⁻¹) : ℝ) : EReal) := by
  rw [v18_keep, v18_read m ρ c hb ht (by omega), Proj.proj, if_pos (by omega), if_pos (by omega), dot_real ρ H hb ht (by omega), Proj.qk, ← EReal.coe_mul]

/-- The other columns hold the projections. -/
theorem plain_real {b t n : ℕ} (hb : b < 16) (ht : t < 2048) (hn : n < 1536) :
    Fox.cell (V4 m ρ c main_v18) b t (2560 + n) = ((pr (Proj.vox (A0 m c)) M g W b t (2560 + n) : ℝ) : EReal) := by
  rw [v18_keep, v18_read m ρ c hb ht (by omega), Proj.proj, if_pos (by omega), if_neg (by omega), dot_real ρ H hb ht (by omega)]

/-- The forget gates' logarithms. -/
theorem gates_real {b t l : ℕ} (hb : b < 16) (ht : t < 2048) (hl : l < 128) :
    Fprep.gates (V3 m ρ c main_v19) (V3 m ρ c main_v12) b t l = ((lf (Proj.vox (A0 m c)) M g W B b t (l / 16) : ℝ) : EReal) := by
  rw [Fprep.gates, Fprep.LF, v19_read m ρ c hb ht hl, v12_keep, v12_read m ρ c hl, H.offset _ (by omega),
    dotRow_real (a := fun k => hr (Proj.vox (A0 m c)) M g b t k) (w := fun k => W k (4096 + l / 16)) (fun _ hk => hidn_real ρ H hb ht hk)
      (fun k hk => (v8_read m ρ c hk hl).trans (H.weight k _ hk (by omega))),
    ← EReal.coe_add, ls_real, lf, pr]

/-- Their running sums. -/
theorem cum_gates {b t l : ℕ} (hb : b < 16) (ht : t < 2048) (hl : l < 128) :
    Fprep.cum (Fprep.gates (V3 m ρ c main_v19) (V3 m ρ c main_v12) b) t l = ((cumF (Proj.vox (A0 m c)) M g W B b (l / 16) t : ℝ) : EReal) :=
  cum_real (w := fun s => lf (Proj.vox (A0 m c)) M g W B b s (l / 16)) ht fun _ hs => gates_real ρ H hb hs hl

omit H in
/-- A slab's entry. -/
theorem rd_slab {N : ℕ} (A : (⟨3, ![16, 2048, N]⟩ : Shape).Idx → EReal) (b n : ℕ) {t l : ℕ} (ht : t < 2048) (hl : l < 128) :
    Fox.rd (Fox.slab A b n) t l = Fox.cell A b t (128 * n + l) := by
  rw [Fox.rd, dif_pos ⟨ht, hl⟩]
  rfl

/-- The scores. -/
theorem score_real {b p h t s : ℕ} (hb : b < 16) (hp : p < 4) (hh : h < 2) (ht : t < 2048) (hs : s < 2048) :
    Fox.Z (Fox.slab (V4 m ρ c main_v18) b (16 + p)) (Fox.slab (V4 m ρ c main_v18) b (20 + p)) (Fox.slab (V4 m ρ c main_v20_0) b 0)
      (Fox.slab (V4 m ρ c main_v20_1) b 0) p h t s
      = (((Real.log 2)⁻¹ * score (Proj.vox (A0 m c)) M g W B b (2 * p + h) t s : ℝ) : EReal) := by
  rw [Z_real (q := fun l => pr (Proj.vox (A0 m c)) M g W b t (2048 + (128 * p + l)) * (8⁻¹ * (Real.log 2)⁻¹)) (k := fun l => pr (Proj.vox (A0 m c)) M g W b s (2560 + (128 * p + l)))
    (a := (Real.log 2)⁻¹ * cumF (Proj.vox (A0 m c)) M g W B b (2 * p + h) t) (b := (Real.log 2)⁻¹ * cumF (Proj.vox (A0 m c)) M g W B b (2 * p + h) s) hh hp
    (fun l hl => by rw [rd_slab _ _ _ ht hl, show 128 * (16 + p) + l = 2048 + (128 * p + l) by omega, query_real ρ H hb ht (by omega)])
    (fun l hl => by rw [rd_slab _ _ _ hs hl, show 128 * (20 + p) + l = 2560 + (128 * p + l) by omega, plain_real ρ H hb hs (by omega)])
    (fun l hl e => by rw [rd_slab _ _ _ ht hl, Nat.mul_zero, Nat.zero_add, v20_0_read m ρ c hb ht hl, qfeat_real (cum_gates ρ H hb ht hl), e])
    (fun l hl e => by rw [rd_slab _ _ _ hs hl, Nat.mul_zero, Nat.zero_add, v20_1_read m ρ c hb hs hl, kfeat_real (cum_gates ρ H hb hs hl), e])]
  congr 1
  rw [score, mul_add, mul_sub, ← mul_assoc, mul_sum, sum_mul]
  congr 1
  refine sum_congr rfl fun d _ => ?_
  rw [show 128 * p + (64 * h + d) = 64 * (2 * p + h) + d by omega]
  ring

/-- One head's result. -/
theorem head_real {b p h t l : ℕ} (hb : b < 16) (hp : p < 4) (hl : l < 128) (hh : l / 64 = h) (ht : t < 2048) :
    Fox.OX (Fox.slab (V4 m ρ c main_v18) b (16 + p)) (Fox.slab (V4 m ρ c main_v18) b (20 + p)) (Fox.slab (V4 m ρ c main_v18) b (24 + p))
      (Fox.slab (V4 m ρ c main_v20_0) b 0) (Fox.slab (V4 m ρ c main_v20_1) b 0) p h t l
      = ((att (score (Proj.vox (A0 m c)) M g W B b (2 * p + h) t) (fun s => pr (Proj.vox (A0 m c)) M g W b s (3072 + (128 * p + l))) t : ℝ) : EReal) :=
  OX_real _ _ _ _ _ ht hl hh (fun s hs => score_real ρ H hb hp (by omega) ht (by omega))
    fun s hs => by rw [rd_slab _ _ _ hs hl, show 128 * (24 + p) + l = 2560 + (512 + (128 * p + l)) by omega, plain_real ρ H hb hs (by omega),
      show 2560 + (512 + (128 * p + l)) = 3072 + (128 * p + l) by omega]

/-- The kernel's result. -/
theorem kernel_real (y : S16x2048x512.Idx) : (W5 m ρ c (Proc.devRef .tc main_v21) : S16x2048x512.Idx → EReal) y
    = ((out (Proj.vox (A0 m c)) M g W B (y 0).val (y 1).val (y 2).val : ℝ) : EReal) := by
  rw [v21_read]
  show Fox.foxArr _ _ _ (y 0).val (y 1).val (y 2).val = _
  have hb : (y 0).val < 16 := (y 0).isLt
  have ht : (y 1).val < 2048 := (y 1).isLt
  have hn : (y 2).val < 512 := (y 2).isLt
  generalize (y 0).val = b at *
  generalize (y 1).val = t at *
  generalize (y 2).val = n at *
  have hl : n % 128 < 128 := by omega
  rw [Fox.foxArr, Fox.FX, rd_slab _ _ _ ht hl, show 128 * (28 + n / 128) + n % 128 = 2560 + (1024 + n) by omega, plain_real ρ H hb ht (by omega),
    Ideal.logistic_coe, show 2560 + (1024 + n) = 3584 + n by omega, out]
  have e : ∀ h, n % 128 / 64 = h → 2 * (n / 128) + h = n / 64 := fun h hh => by omega
  split_ifs with h0
  · rw [head_real ρ H hb (by omega) hl h0 ht, e 0 h0, show 128 * (n / 128) + n % 128 = n by omega, ← EReal.coe_mul, ← EReal.coe_mul]
  · rw [head_real ρ H hb (by omega) hl (by omega : n % 128 / 64 = 1) ht, e 1 (by omega), show 128 * (n / 128) + n % 128 = n by omega, ← EReal.coe_mul, ← EReal.coe_mul]

end Cert.Host

end
-- ==== Proof.RefRead.lean ====
/-
  The reference's named intermediates over real parameters.
-/
module

public import proofs.«01_k».proof.Proof.RealPrep
public import proofs.«01_k».proof.Proof.Gen.ReferenceIdeal.Run

@[expose] public section

set_option maxRecDepth 16384

noncomputable section

open Idealize.ShloMosaic Idealize.ShloMosaic.StableHlo Cert.ReferenceIdeal Cert.ReferenceIdeal.Gen Cert.ReferenceIdeal.Value Cert.RealFox Finset
open scoped BigOperators

namespace Cert.Ref

/-- A fold of sums is the sum. -/
theorem foldl_sum {ι : Type} (g : ι → EReal) : ∀ (l : List ι) (v : EReal), l.foldl (fun r n => r + g n) v = v + (l.map g).sum
  | [], v => by simp
  | a :: l, v => by rw [List.foldl_cons, foldl_sum g l, List.map_cons, List.sum_cons, add_assoc]

/-- The running sum along the middle axis. -/
theorem cumsum {x : (⟨3, ![16, 2048, 8]⟩ : Shape).Idx → EReal}
    (h : (⟨3, ![16, 2048, 8]⟩ : Shape).ReduceWindows ![1, 2048, 1] ![1, 1, 1] ![0, 2047, 0] ![0, 0, 0] ⟨3, ![16, 2048, 8]⟩)
    (b : Fin 16) (t : Fin 2048) (l : Fin 8) :
    Ideal.hostReduceWindowAdd ![1, 2048, 1] ![1, 1, 1] ![0, 2047, 0] ![0, 0, 0] h x 0 (ix3 b t l)
      = ∑ s ∈ range (t.val + 1), Proj.vox x b.val s l.val := by
  let e : Fin 2048 ≃ (⟨3, ![1, 2048, 1]⟩ : Shape).Idx :=
    ⟨fun n => ix3 0 n 0, fun j => j 1, fun n => rfl, fun j => by
      obtain ⟨p, q, r, rfl⟩ := Tiles.ex3 j
      obtain rfl : p = 0 := Subsingleton.elim _ _
      obtain rfl : r = 0 := Subsingleton.elim _ _
      exact (Proj.ix3_eq _ _ _)⟩
  unfold Ideal.hostReduceWindowAdd Host.reduceWindow
  dsimp only
  rw [foldl_sum, zero_add, ← Fin.sum_univ_def]
  let G : (⟨3, ![1, 2048, 1]⟩ : Shape).Idx → EReal := fun n =>
    if 2047 ≤ t.val + (n 1).val then Proj.vox x b.val (t.val + (n 1).val - 2047) l.val else 0
  refine Eq.trans (b := ∑ i, G ((⟨3, ![1, 2048, 1]⟩ : Shape).rowMajor.symm i)) (sum_congr rfl fun i _ => ?_) ?_
  · have n0 : (((⟨3, ![1, 2048, 1]⟩ : Shape).rowMajor.symm i) 0).val = 0 := Nat.lt_one_iff.1 (((⟨3, ![1, 2048, 1]⟩ : Shape).rowMajor.symm i) 0).isLt
    have n2 : (((⟨3, ![1, 2048, 1]⟩ : Shape).rowMajor.symm i) 2).val = 0 := Nat.lt_one_iff.1 (((⟨3, ![1, 2048, 1]⟩ : Shape).rowMajor.symm i) 2).isLt
    have n1 : (((⟨3, ![1, 2048, 1]⟩ : Shape).rowMajor.symm i) 1).val < 2048 := (((⟨3, ![1, 2048, 1]⟩ : Shape).rowMajor.symm i) 1).isLt
    have hb := b.isLt
    have ht := t.isLt
    have hl := l.isLt
    show _ = if 2047 ≤ t.val + (((⟨3, ![1, 2048, 1]⟩ : Shape).rowMajor.symm i) 1).val then Proj.vox x b.val (t.val + (((⟨3, ![1, 2048, 1]⟩ : Shape).rowMajor.symm i) 1).val - 2047) l.val else 0
    by_cases hc : 2047 ≤ t.val + (((⟨3, ![1, 2048, 1]⟩ : Shape).rowMajor.symm i) 1).val
    · rw [if_pos hc, dif_pos]
      · refine Proj.vox_at x _ ?_ ?_ ?_
        · show b.val * 1 + (((⟨3, ![1, 2048, 1]⟩ : Shape).rowMajor.symm i) 0).val - 0 = b.val; omega
        · show t.val * 1 + (((⟨3, ![1, 2048, 1]⟩ : Shape).rowMajor.symm i) 1).val - 2047 = t.val + (((⟨3, ![1, 2048, 1]⟩ : Shape).rowMajor.symm i) 1).val - 2047; omega
        · show l.val * 1 + (((⟨3, ![1, 2048, 1]⟩ : Shape).rowMajor.symm i) 2).val - 0 = l.val; omega
      · intro a
        match a with
        | 0 => show 0 ≤ b.val * 1 + (((⟨3, ![1, 2048, 1]⟩ : Shape).rowMajor.symm i) 0).val ∧ b.val * 1 + (((⟨3, ![1, 2048, 1]⟩ : Shape).rowMajor.symm i) 0).val - 0 < 16; omega
        | 1 => show 2047 ≤ t.val * 1 + (((⟨3, ![1, 2048, 1]⟩ : Shape).rowMajor.symm i) 1).val ∧ t.val * 1 + (((⟨3, ![1, 2048, 1]⟩ : Shape).rowMajor.symm i) 1).val - 2047 < 2048; omega
        | 2 => show 0 ≤ l.val * 1 + (((⟨3, ![1, 2048, 1]⟩ : Shape).rowMajor.symm i) 2).val ∧ l.val * 1 + (((⟨3, ![1, 2048, 1]⟩ : Shape).rowMajor.symm i) 2).val - 0 < 8; omega
    · rw [if_neg hc, dif_neg]
      intro hin
      have h1 : 2047 ≤ t.val * 1 + (((⟨3, ![1, 2048, 1]⟩ : Shape).rowMajor.symm i) 1).val := (hin 1).1
      omega
  refine (Equiv.sum_comp (⟨3, ![1, 2048, 1]⟩ : Shape).rowMajor.symm G).trans ?_
  rw [← Equiv.sum_comp e]
  refine (Fin.sum_univ_eq_sum_range (fun n => if 2047 ≤ t.val + n then Proj.vox x b.val (t.val + n - 2047) l.val else 0) 2048).trans ?_
  have ht := t.isLt
  have e2 : range 2048 = range ((2047 - t.val) + (t.val + 1)) := by congr 1; omega
  rw [e2, sum_range_add, sum_eq_zero, zero_add]
  · refine sum_congr rfl fun s _ => ?_
    rw [if_pos (by omega), show t.val + (2047 - t.val + s) - 2047 = s by omega]
  · intro s hs
    rw [if_neg (by have := mem_range.1 hs; omega)]

variable (V0 : Valuation τ sig (Elt Ideal))

/-- The layer's input. -/
def R0 : S16x2048x1024.Idx → EReal := V0 (Proc.devRef .tc main_arg0)
/-- The modulation. -/
def R1 : S16x3072.Idx → EReal := V0 (Proc.devRef .tc main_arg1)
/-- The normalisation's gains. -/
def R2 : S1x1024.Idx → EReal := V0 (Proc.devRef .tc main_arg2)
/-- The weights. -/
def R3 : S1x1024x6152.Idx → EReal := V0 (Proc.devRef .tc main_arg3)
/-- The forget gates' offsets. -/
def R4 : S1x8.Idx → EReal := V0 (Proc.devRef .tc main_arg4)

/-- The projections, as an array. -/
def V26 : S16x2048x6152.Idx → EReal := res_main_v26 V0
/-- The gates, as an array. -/
def V36 : S16x2048x512.Idx → EReal := res_main_v36 V0
/-- The running sums, as an array. -/
def V44 : S16x8x2048.Idx → EReal := res_main_v44 V0
/-- The masked scores, as an array. -/
def V61 : S16x8x2048x2048.Idx → EReal := res_main_v61 V0
/-- The exponentials, as an array. -/
def V68 : S16x8x2048x2048.Idx → EReal := res_main_v68 V0
/-- The forget gates' arguments, negated, as an array. -/
def VN : S16x2048x8.Idx → EReal := res_main_call0_v0 V0
/-- The same with zero taken away, as an array. -/
def VN' : S16x2048x8.Idx → EReal := res_main_call0_call0_v3 V0
/-- The zero of the forget gates' logarithms, as an array. -/
def VC : S_.Idx → EReal := res_main_call0_call0_cst V0

/-- The logarithms of the forget gates as the reference forms them. -/
def lfr : S16x2048x8.Idx → EReal :=
  Host.negf (select (cmpf .une (res_main_call0_call0_v3 V0) (res_main_call0_call0_v3 V0)) (addf (res_main_call0_v0 V0) (broadcastInDim S16x2048x8 ![] bcast_S_S16x2048x8 (res_main_call0_call0_cst V0))) (addf (maximumf (res_main_call0_v0 V0) (broadcastInDim S16x2048x8 ![] bcast_S_S16x2048x8 (res_main_call0_call0_cst V0))) (Host.log1p (Host.exp (Host.negf (Host.absf (res_main_call0_call0_v3 V0)))))))

/-- The host's window sum is the exact sum. -/
theorem window_sum {s t u : Shape} {φ : FTy} (w st lo hi : Fin s.rank → ℕ) (x : FVec Ideal s φ) (i : u.Idx → Ideal φ) (h : s.ReduceWindows w st lo hi t)
    (hu : 0 < u.numel) {v : EReal} (hv : ∀ j, i j = v) : Host.reduceWindowAdd w st lo hi x i h hu = Ideal.hostReduceWindowAdd w st lo hi h x v :=
  congrArg (Ideal.hostReduceWindowAdd w st lo hi h x) (hv _)

/-- The host's running sum along the middle axis. -/
theorem window_cum (x : FVec Ideal S16x2048x8 .f32) (b : Fin 16) (t : Fin 2048) (l : Fin 8) :
    Host.reduceWindowAdd ![1, 2048, 1] ![1, 1, 1] ![0, 2047, 0] ![0, 0, 0] x (broadcastInDim S_ ![] bcast_S_S_ (constant S_ .f32 0x00000000#32))
      reduceWindows_S16x2048x8_S16x2048x8_w1s1p0_0_w2048s1p2047_0_w1s1p0_0 h_S_ (ix3 b t l) = ∑ s ∈ range (t.val + 1), Proj.vox x b.val s l.val := by
  rw [window_sum (v := 0) _ _ _ _ x _ _ _ fun j => (show broadcastInDim S_ ![] bcast_S_S_ (constant (F := Ideal) S_ .f32 0x00000000#32) j = 0 from Ideal.ofBits_zero_f32)]
  exact cumsum _ b t l

/-- The running sum read off the window sum. -/
theorem v44_read (b : Fin 16) (h : Fin 8) (t : Fin 2048) : V44 V0 (ix3 b h t)
    = ∑ s ∈ range (t.val + 1), Proj.vox (lfr V0) b.val s h.val := by
  unfold V44 res_main_v44
  pointwise
  unfold lfr
  exact window_cum _ b t h

variable (M : ℕ → ℕ → ℝ) (g : ℕ → ℝ) (W : ℕ → ℕ → ℝ) (B : ℕ → ℝ)

/-- The parameters are these reals. -/
structure RealParams : Prop where
  mod : ∀ b n, b < 16 → n < 3072 → Proj.mat (R1 V0) b n = ((M b n : ℝ) : EReal)
  gain : ∀ k, k < 1024 → Proj.mat (R2 V0) 0 k = ((g k : ℝ) : EReal)
  weight : ∀ k n, k < 1024 → n < 6152 → Proj.vox (R3 V0) 0 k n = ((W k n : ℝ) : EReal)
  offset : ∀ h, h < 8 → Proj.mat (R4 V0) 0 h = ((B h : ℝ) : EReal)

variable {V0 M g W B} (H : RealParams V0 M g W B)
include H

/-- The projections. -/
theorem v26_real (b : Fin 16) (t : Fin 2048) (n : Fin 6152) : V26 V0 (ix3 b t n)
    = ((pr (Proj.vox (R0 V0)) M g W b.val t.val n.val : ℝ) : EReal) := by
  unfold V26 res_main_v26
  pointwise
  change @Eq EReal _ _
  rw [pr, ← Fin.sum_univ_eq_sum_range (fun k => hr (Proj.vox (R0 V0)) M g b.val t.val k * W k n.val) 1024, ← sum_real]
  refine sum_congr rfl fun k _ => ?_
  have hx : ∀ k : Fin 1024, V0 (Proc.devRef .tc main_arg0) (ix3 b t k) = Proj.vox (R0 V0) b.val t.val k.val := fun k => Proj.vox_at (R0 V0) _ rfl rfl rfl
  have hg : V0 (Proc.devRef .tc main_arg2) (ix2 0 k) = ((g k.val : ℝ) : EReal) := (Proj.mat_at (R2 V0) _ rfl rfl).trans (H.gain _ k.isLt)
  have hw : V0 (Proc.devRef .tc main_arg3) (ix3 0 k n) = ((W k.val n.val : ℝ) : EReal) :=
    (Proj.vox_at (R3 V0) _ rfl rfl rfl).trans (H.weight _ _ k.isLt n.isLt)
  have hs : V0 (Proc.devRef .tc main_arg1) (ix2 b ⟨1024 + k.val, by omega⟩) = ((M b.val (1024 + k.val) : ℝ) : EReal) :=
    (Proj.mat_at (R1 V0) _ rfl rfl).trans (H.mod _ (1024 + k.val) b.isLt (by omega))
  have hh : V0 (Proc.devRef .tc main_arg1) (ix2 b ⟨k.val, by omega⟩) = ((M b.val k.val : ℝ) : EReal) :=
    (Proj.mat_at (R1 V0) _ rfl rfl).trans (H.mod _ k.val b.isLt (by omega))
  have hn := nrm_eq (Proj.vox (R0 V0) b.val) t.val k.val k.isLt
  rw [Proj.rho] at hn
  rw [hg, hw, hs, hh, sum_congr rfl fun l _ => by rw [hx l], hx k, hn, ← EReal.coe_one, ← EReal.coe_add, ← EReal.coe_mul, ← EReal.coe_mul,
    ← EReal.coe_add, ← EReal.coe_mul, hr]
  congr 2
  ring

/-- The forget gates' arguments, negated. -/
theorem neg_real (b : Fin 16) (t : Fin 2048) (h : Fin 8) : VN V0 (ix3 b t h)
    = ((-(pr (Proj.vox (R0 V0)) M g W b.val t.val (4096 + h.val) + B h.val) : ℝ) : EReal) := by
  unfold VN res_main_call0_v0
  pointwise
  show -(V26 V0 (ix3 b t ⟨4096 + h.val, by omega⟩) + V0 (Proc.devRef .tc main_arg4) (ix2 0 h)) = _
  have hb : V0 (Proc.devRef .tc main_arg4) (ix2 0 h) = ((B h.val : ℝ) : EReal) := (Proj.mat_at (R4 V0) _ rfl rfl).trans (H.offset _ h.isLt)
  rw [hb, v26_real H, ← EReal.coe_add, ← EReal.coe_neg]

omit H in
/-- The zero of the forget gates' logarithms. -/
theorem cst_real : VC V0 ix0 = 0 := by
  unfold VC res_main_call0_call0_cst
  exact Ideal.ofBits_zero_f32

/-- Zero taken away. -/
theorem neg_real' (b : Fin 16) (t : Fin 2048) (h : Fin 8) : VN' V0 (ix3 b t h)
    = ((-(pr (Proj.vox (R0 V0)) M g W b.val t.val (4096 + h.val) + B h.val) : ℝ) : EReal) := by
  unfold VN' res_main_call0_call0_v3
  pointwise
  show VN V0 (ix3 b t h) - VC V0 ix0 = _
  rw [neg_real H, cst_real, sub_zero]

omit H in
/-- The logarithm of the logistic function of a real, as the reference forms it. -/
theorem lsr_real (y : ℝ) : -(max ((-y : ℝ) : EReal) 0 + Ideal.log1p (Ideal.exp (-(max ((-y : ℝ) : EReal) (-((-y : ℝ) : EReal)))))) = ((lsr y : ℝ) : EReal) := by
  rw [Ideal.log1p, ← EReal.coe_neg, max_real, ← EReal.coe_neg, log_exp_real, ← EReal.coe_zero, max_real, ← EReal.coe_add, ← EReal.coe_neg, lsr, neg_neg, max_comm (-y) y]
  congr 1
  have : min y 0 = -max (-y) 0 := by rw [← neg_zero, ← neg_neg y, min_neg_neg, neg_neg, neg_zero]
  rw [this]
  ring

/-- The running sums of the forget gates' logarithms. -/
theorem v44_real (b : Fin 16) (h : Fin 8) (t : Fin 2048) : V44 V0 (ix3 b h t)
    = ((cumF (Proj.vox (R0 V0)) M g W B b.val h.val t.val : ℝ) : EReal) := by
  rw [v44_read, cumF, ← sum_real]
  refine sum_congr rfl fun s hs => ?_
  have hs' : s < 2048 := by have := mem_range.1 hs; omega
  rw [Proj.vox, dif_pos ⟨b.isLt, hs', h.isLt⟩]
  unfold lfr
  show (Host.negf (F := Ideal) (φ := .f32) (select (cmpf .une _ _) _ _) : S16x2048x8.Idx → EReal) (ix3 b ⟨s, hs'⟩ h) = _
  pointwise
  show -(if VN' V0 (ix3 b ⟨s, hs'⟩ h) ≠ VN' V0 (ix3 b ⟨s, hs'⟩ h) then VN V0 (ix3 b ⟨s, hs'⟩ h) + VC V0 ix0
    else max (VN V0 (ix3 b ⟨s, hs'⟩ h)) (VC V0 ix0) + Ideal.log1p (Ideal.exp (-max (VN' V0 (ix3 b ⟨s, hs'⟩ h)) (-VN' V0 (ix3 b ⟨s, hs'⟩ h))))) = _
  rw [neg_real H, neg_real' H, cst_real, if_neg (not_not.2 rfl), lf, ← lsr_real]

end Cert.Ref

end
-- ==== Proof.RefScore.lean ====
/-
  The reference's masked scores over real parameters.
-/
module

public import proofs.«01_k».proof.Proof.RefRead

@[expose] public section

set_option maxRecDepth 16384

noncomputable section

open Idealize.ShloMosaic Idealize.ShloMosaic.StableHlo Cert.ReferenceIdeal Cert.ReferenceIdeal.Gen Cert.ReferenceIdeal.Value Cert.RealFox Finset
open scoped BigOperators

namespace Cert.Ref

variable {V0 : Valuation τ sig (Elt Ideal)}
variable {M : ℕ → ℕ → ℝ} {g : ℕ → ℝ} {W : ℕ → ℕ → ℝ} {B : ℕ → ℝ} (H : RealParams V0 M g W B)
include H

omit H in
/-- The comparison of a column index with a row index. -/
theorem sle_word {a b : ℕ} (ha : a < 2048) (hb : b < 2048) : IntOp.cmpi .sle (BitVec.ofNat 32 a) (BitVec.ofNat 32 b) = if a ≤ b then 1#1 else 0#1 := by
  have hs : (BitVec.ofNat 32 a).sle (BitVec.ofNat 32 b) = decide (a ≤ b) := by
    rw [BitVec.sle_eq_decide, BitVec.toInt_eq_toNat_of_lt (by simp; omega), BitVec.toInt_eq_toNat_of_lt (by simp; omega)]
    simp
    omega
  simp only [IntOp.cmpi, hs]
  by_cases h : a ≤ b <;> simp [h]

omit H in
/-- The mask's word. -/
theorem word_bot : Ideal.ofBits .f32 0xFF800000#32 = ⊥ := by simp [Ideal.ofBits, Ideal.ieee]

omit H in
/-- The scale's word. -/
theorem word_eighth : Ideal.ofBits .f32 0x3E000000#32 = ((8⁻¹ : ℝ) : EReal) := by
  simp [Ideal.ofBits, Ideal.ieee]
  rw [← EReal.coe_mul]
  norm_num

/-- The masked scores. -/
theorem v61_real (b : Fin 16) (h : Fin 8) (t s : Fin 2048) : V61 V0 (ix4 b h t s)
    = if s.val ≤ t.val then ((score (Proj.vox (R0 V0)) M g W B b.val h.val t.val s.val : ℝ) : EReal) else ⊥ := by
  unfold V61 res_main_v61
  pointwise
  show Scalar.select (IntOp.cmpi .sle (BitVec.ofNat 32 s.val) (BitVec.ofNat 32 t.val))
    ((∑ x : Fin 64, V26 V0 (ix3 b t ⟨2048 + (h.val * 64 + x.val), by omega⟩) * V26 V0 (ix3 b s ⟨2560 + (h.val * 64 + x.val), by omega⟩))
      * Ideal.ofBits .f32 0x3E000000#32 + V44 V0 (ix3 b h t) - V44 V0 (ix3 b h s)) (Ideal.ofBits .f32 0xFF800000#32) = _
  rw [sle_word s.isLt t.isLt]
  by_cases hc : s.val ≤ t.val
  · rw [if_pos hc, if_pos hc]
    show (_ : EReal) - _ = _
    rw [v44_real H, v44_real H, word_eighth, sum_congr rfl fun d _ => by rw [v26_real H, v26_real H, ← EReal.coe_mul], sum_real, ← EReal.coe_mul, ← EReal.coe_add, ← EReal.coe_sub,
      score, ← Fin.sum_univ_eq_sum_range (fun d => pr (Proj.vox (R0 V0)) M g W b.val t.val (2048 + (64 * h.val + d)) * pr (Proj.vox (R0 V0)) M g W b.val s.val (2560 + (64 * h.val + d))) 64,
      add_sub_assoc]
    simp only [Nat.mul_comm h.val]
  · rw [if_neg hc, if_neg hc]
    exact word_bot

end Cert.Ref

end
-- ==== Proof.RefOut.lean ====
/-
  The reference's exponentials and second branch over real parameters.
-/
module

public import proofs.«01_k».proof.Proof.RefScore

@[expose] public section

set_option maxRecDepth 16384

noncomputable section

open Idealize.ShloMosaic Idealize.ShloMosaic.StableHlo Cert.ReferenceIdeal Cert.ReferenceIdeal.Gen Cert.ReferenceIdeal.Value Cert.RealFox Finset
open scoped BigOperators

namespace Cert.Ref

variable {V0 : Valuation τ sig (Elt Ideal)}
variable {M : ℕ → ℕ → ℝ} {g : ℕ → ℝ} {W : ℕ → ℕ → ℝ} {B : ℕ → ℝ} (H : RealParams V0 M g W B)
include H

omit H in
/-- The largest entry of a row is a real number. -/
theorem sup_real (f : S16x8x2048x2048.Idx → EReal) (i₀ : S16x8x2048x2048.Idx) (S : Finset S16x8x2048x2048.Idx) (hi : i₀ ∈ S) (ht : ∀ i, f i < ⊤) (hb : ⊥ < f i₀) :
    ∃ r : ℝ, max (Ideal.ofBits .f32 0xFF800000#32) (fold max (Ideal.ofBits .f32 0xFF800000#32) f S) = (r : EReal) := by
  rw [word_bot, max_eq_right bot_le]
  change ∃ r : ℝ, Finset.sup S f = (r : EReal)
  have h1 : Finset.sup S f < ⊤ := (Finset.sup_lt_iff bot_lt_top).2 fun i _ => ht i
  exact ⟨_, (EReal.coe_toReal h1.ne (hb.trans_le (Finset.le_sup hi)).ne').symm⟩

variable (V0) in
omit H in
/-- The rows' largest scores, as an array. -/
def VM : S16x8x2048.Idx → EReal :=
  Host.reduce (α := EReal) max (V61 V0) (fun _ => Ideal.ofBits .f32 0xFF800000#32) reducesTo_S16x8x2048x2048_S16x8x2048_d3 h_S_

omit H in
/-- The exponentials read at an index, from the scores and the rows' largest ones. -/
theorem soft_read (A : FVec Ideal S16x8x2048x2048 .f32) (R : FVec Ideal S16x8x2048 .f32) (b : Fin 16) (h : Fin 8) (t s : Fin 2048) :
    (Host.exp (subf A (broadcastInDim S16x8x2048x2048 ![0, 1, 2, 3] bcast_S16x8x2048x1_S16x8x2048x2048_0_1_2_3 (broadcastInDim S16x8x2048x1 ![0, 1, 2] bcast_S16x8x2048_S16x8x2048x1_0_1_2 (maximumf (broadcastInDim S16x8x2048 ![] bcast_S_S16x8x2048 (constant S_ .f32 0xFF800000#32)) R)))) : S16x8x2048x2048.Idx → EReal) (ix4 b h t s)
    = Ideal.exp (A (ix4 b h t s) - max (Ideal.ofBits .f32 0xFF800000#32) (R (ix3 b h t))) := by
  pointwise

omit H in
/-- The reference's exponentials read at an index. -/
theorem v68_read (b : Fin 16) (h : Fin 8) (t s : Fin 2048) : V68 V0 (ix4 b h t s)
    = Ideal.exp (V61 V0 (ix4 b h t s) - max (Ideal.ofBits .f32 0xFF800000#32) (VM V0 (ix3 b h t))) :=
  soft_read (V61 V0) (VM V0) b h t s

omit H in
/-- A row's sum. -/
theorem sum_read (x : FVec Ideal S16x8x2048x2048 .f32) (b : Fin 16) (h : Fin 8) (t : Fin 2048) :
    (Host.reduceAdd x (constant S_ .f32 0x00000000#32) reducesTo_S16x8x2048x2048_S16x8x2048_d3 h_S_ : S16x8x2048.Idx → EReal) (ix3 b h t)
      = ∑ s : Fin 2048, x (ix4 b h t s) := by
  have hr : S16x8x2048x2048.Reduces [3] S16x8x2048 := by decide
  refine (Ideal.hostReduceAdd_single reducesTo_S16x8x2048x2048_S16x8x2048_d3 hr x (Ideal.ofBits .f32 0x00000000#32) (ix3 b h t)).trans ?_
  rw [Ideal.ofBits_zero_f32, zero_add]
  refine sum_congr rfl fun k _ => congrArg x (funext fun a => ?_)
  match a with
  | 0 => rfl
  | 1 => rfl
  | 2 => rfl
  | 3 => rfl

omit H in
/-- The second branch from the exponentials, their rows' sums, the projections and the gates. -/
def tail (E : FVec Ideal S16x8x2048x2048 .f32) (L : FVec Ideal S16x8x2048 .f32) (P : FVec Ideal S16x2048x6152 .f32) (Z : FVec Ideal S16x2048x512 .f32) :
    FVec Ideal S16x2048x512 .f32 :=
  mulf (shapeCast _ (transpose S16x2048x8x64 [0, 2, 1, 3] (Host.dotGeneral dot_S16x8x2048x2048_S16x8x2048x64_S16x8x2048x64_3_2_2_3_01_01 none (Host.divf E (broadcastInDim S16x8x2048x2048 ![0, 1, 2, 3] bcast_S16x8x2048x1_S16x8x2048x2048_0_1_2_3 (broadcastInDim S16x8x2048x1 ![0, 1, 2] bcast_S16x8x2048_S16x8x2048x1_0_1_2 L))) (transpose S16x8x2048x64 [0, 2, 1, 3] (shapeCast _ (extractStridedSlice S16x2048x512 ![0, 0, 3072] P slices_S16x2048x6152_S16x2048x512_0_0_3072) shapeCasts_S16x2048x512_S16x2048x8x64) transposes_S16x2048x8x64_S16x8x2048x64_0_2_1_3)) transposes_S16x8x2048x64_S16x2048x8x64_0_2_1_3) shapeCasts_S16x2048x8x64_S16x2048x512) (mulf Z (Host.divf (broadcastInDim S16x2048x512 ![] bcast_S_S16x2048x512 (constant S_ .f32 0x3F800000#32)) (addf (broadcastInDim S16x2048x512 ![] bcast_S_S16x2048x512 (constant S_ .f32 0x3F800000#32)) (Host.exp (Host.negf Z)))))

omit H in
/-- A row's sums, as an array. -/
def sums (x : FVec Ideal S16x8x2048x2048 .f32) : FVec Ideal S16x8x2048 .f32 :=
  Host.reduceAdd x (constant S_ .f32 0x00000000#32) reducesTo_S16x8x2048x2048_S16x8x2048_d3 h_S_

omit H in
/-- The second branch read at an index, from the exponentials, their rows' sums, the projections and the gates. -/
theorem tail_read (E : FVec Ideal S16x8x2048x2048 .f32) (L : FVec Ideal S16x8x2048 .f32) (P : FVec Ideal S16x2048x6152 .f32) (Z : FVec Ideal S16x2048x512 .f32)
    (b : Fin 16) (t : Fin 2048) (n : Fin 512) :
    (tail E L P Z : S16x2048x512.Idx → EReal) (ix3 b t n)
    = (∑ x : Fin 2048, Ideal.div (E (ix4 b ⟨n.val / 64, by omega⟩ t x)) (L (ix3 b ⟨n.val / 64, by omega⟩ t)) * P (ix3 b x ⟨3072 + n.val, by omega⟩))
      * (Z (ix3 b t n) * Ideal.logistic (Z (ix3 b t n))) := by
  unfold tail Ideal.logistic
  pointwise

omit H in
/-- A row's first place lies in the row. -/
theorem drop_first (b : Fin 16) (h : Fin 8) (t s : Fin 2048) : reducesTo_S16x8x2048x2048_S16x8x2048_d3.drop (ix4 b h t s) = ix3 b h t := by
  funext a
  match a with
  | 0 => rfl
  | 1 => rfl
  | 2 => rfl

/-- A row's exponentials are a positive multiple of the weights. -/
theorem v68_real (b : Fin 16) (h : Fin 8) (t : Fin 2048) : ∃ k : ℝ, 0 < k ∧ ∀ s : Fin 2048, V68 V0 (ix4 b h t s)
    = ((k * wt (score (Proj.vox (R0 V0)) M g W B b.val h.val t.val) t.val s.val : ℝ) : EReal) := by
  have hi : ∀ i, V61 V0 i < ⊤ := fun i => by
    obtain ⟨p, q, u, v, rfl⟩ : ∃ (p : Fin 16) (q : Fin 8) (u v : Fin 2048), i = ix4 p q u v := ⟨_, _, _, _, eq_ix4 i⟩
    rw [v61_real H]
    split_ifs
    exacts [EReal.coe_lt_top _, bot_lt_top]
  have h0 : ⊥ < V61 V0 (ix4 b h t t) := by
    rw [v61_real H, if_pos le_rfl]
    exact EReal.bot_lt_coe _
  obtain ⟨r, hr⟩ : ∃ r : ℝ, max (Ideal.ofBits .f32 0xFF800000#32) (VM V0 (ix3 b h t)) = (r : EReal) := by
    rw [VM, Host.reduce_eq_fold]
    exact sup_real (V61 V0) (ix4 b h t t) _ (mem_filter.2 ⟨mem_univ _, drop_first b h t t⟩) hi h0
  refine ⟨Real.exp (-r), Real.exp_pos _, fun s => ?_⟩
  rw [v68_read, hr, v61_real H, wt]
  split_ifs with hc
  · rw [← EReal.coe_sub, Ideal.exp_coe, ← Real.exp_add, neg_add_eq_sub]
  · rw [EReal.bot_sub, Ideal.exp_bot, mul_zero, EReal.coe_zero]

variable (V0) in
omit H in
/-- The second branch, as an array. -/
def VY : S16x2048x512.Idx → EReal := tail (V68 V0) (sums (V68 V0)) (V26 V0) (V36 V0)

omit H in
/-- The second branch read at an index. -/
theorem vy_read (b : Fin 16) (t : Fin 2048) (n : Fin 512) : VY V0 (ix3 b t n)
    = (∑ x : Fin 2048, Ideal.div (V68 V0 (ix4 b ⟨n.val / 64, by omega⟩ t x)) (∑ y : Fin 2048, V68 V0 (ix4 b ⟨n.val / 64, by omega⟩ t y))
      * V26 V0 (ix3 b x ⟨3072 + n.val, by omega⟩)) * (V36 V0 (ix3 b t n) * Ideal.logistic (V36 V0 (ix3 b t n))) := by
  rw [← sum_read (V68 V0)]
  exact tail_read (V68 V0) (sums (V68 V0)) (V26 V0) (V36 V0) b t n

/-- The second branch over real parameters. -/
theorem vy_real (b : Fin 16) (t : Fin 2048) (n : Fin 512) : VY V0 (ix3 b t n)
    = ((out (Proj.vox (R0 V0)) M g W B b.val t.val n.val : ℝ) : EReal) := by
  rw [vy_read]
  obtain ⟨k, hk, hp⟩ := v68_real H b ⟨n.val / 64, by omega⟩ t
  have hz : V36 V0 (ix3 b t n) = ((pr (Proj.vox (R0 V0)) M g W b.val t.val (3584 + n.val) : ℝ) : EReal) := by
    unfold V36 res_main_v36
    pointwise
    exact v26_real H b t _
  have hl : 0 < ∑ s : Fin 2048, wt (score (Proj.vox (R0 V0)) M g W B b.val (n.val / 64) t.val) t.val s.val := by
    rw [Fin.sum_univ_eq_sum_range (wt (score (Proj.vox (R0 V0)) M g W B b.val (n.val / 64) t.val) t.val) 2048]
    exact wt_pos _ _ (by omega)
  have he : ∀ s : Fin 2048, Ideal.div (V68 V0 (ix4 b ⟨n.val / 64, by omega⟩ t s)) (∑ y : Fin 2048, V68 V0 (ix4 b ⟨n.val / 64, by omega⟩ t y))
      * V26 V0 (ix3 b s ⟨3072 + n.val, by omega⟩)
      = ((wt (score (Proj.vox (R0 V0)) M g W B b.val (n.val / 64) t.val) t.val s.val * pr (Proj.vox (R0 V0)) M g W b.val s.val (3072 + n.val)
        / ∑ s : Fin 2048, wt (score (Proj.vox (R0 V0)) M g W B b.val (n.val / 64) t.val) t.val s.val : ℝ) : EReal) := fun s => by
    rw [hp s, sum_congr rfl fun s' _ => hp s', sum_real, ← mul_sum, div_real _ (mul_pos hk hl).ne', v26_real H, ← EReal.coe_mul,
      mul_div_mul_left _ _ hk.ne', div_mul_eq_mul_div]
  rw [sum_congr rfl fun s _ => he s, sum_real, hz, Ideal.logistic_coe, ← EReal.coe_mul, ← EReal.coe_mul, out, ← sum_div, att]
  have ht := t.isLt
  have e1 := wt_sum (score (Proj.vox (R0 V0)) M g W B b.val (n.val / 64) t.val) (fun s => pr (Proj.vox (R0 V0)) M g W b.val s (3072 + n.val)) ht
  have e2 := wt_sum (score (Proj.vox (R0 V0)) M g W B b.val (n.val / 64) t.val) (fun _ => 1) ht
  simp only [mul_one] at e2
  rw [← e1, ← e2, ← Fin.sum_univ_eq_sum_range (wt (score (Proj.vox (R0 V0)) M g W B b.val (n.val / 64) t.val) t.val) 2048,
    ← Fin.sum_univ_eq_sum_range (fun s => wt (score (Proj.vox (R0 V0)) M g W B b.val (n.val / 64) t.val) t.val s * pr (Proj.vox (R0 V0)) M g W b.val s (3072 + n.val)) 2048]

end Cert.Ref

end
-- ==== Proof.Params.lean ====
/-
  The precondition makes the parameters reals, for the kernel and for the reference.
-/
module

public import proofs.«01_k».proof.Defs
public import proofs.«01_k».proof.Proof.KernelReal
public import proofs.«01_k».proof.Proof.RefOut

@[expose] public section

set_option maxRecDepth 16384

noncomputable section

open Idealize.ShloMosaic

namespace Cert.Params

/-- A number whose absolute value lies below infinity is a real. -/
theorem real_of_word (x : EReal) (h : Ideal.cmp .olt (max x (-x)) (Ideal.ofBits .f32 0x7F800000#32) = 1#1) : x = ((x.toReal : ℝ) : EReal) := by
  have ht : Ideal.ofBits .f32 0x7F800000#32 = ⊤ := by simp [Ideal.ofBits, Ideal.ieee]
  rw [ht, Ideal.cmp] at h
  have hx : max x (-x) < ⊤ := by
    by_contra hc
    rw [decide_eq_false hc] at h
    exact absurd h (by decide)
  refine (EReal.coe_toReal ?_ ?_).symm
  · rintro rfl
    exact absurd (le_max_left _ _) (not_le.2 hx)
  · rintro rfl
    exact absurd (le_max_right _ _) (not_le.2 hx)

/-- Every place of a matrix of reals is a real. -/
theorem mat_real {a b : ℕ} (A : (⟨2, ![a, b]⟩ : Shape).Idx → EReal) (h : ∀ i, A i = (((A i).toReal : ℝ) : EReal)) (t l : ℕ) :
    Proj.mat A t l = (((Proj.mat A t l).toReal : ℝ) : EReal) := by
  unfold Proj.mat
  split_ifs
  · exact h _
  · rw [EReal.toReal_zero, EReal.coe_zero]

/-- Every place of an array of reals is a real. -/
theorem vox_real {a b d : ℕ} (A : (⟨3, ![a, b, d]⟩ : Shape).Idx → EReal) (h : ∀ i, A i = (((A i).toReal : ℝ) : EReal)) (p q s : ℕ) :
    Proj.vox A p q s = (((Proj.vox A p q s).toReal : ℝ) : EReal) := by
  unfold Proj.vox
  split_ifs
  · exact h _
  · rw [EReal.toReal_zero, EReal.coe_zero]

/-- The precondition's side conditions. -/
theorem pre_facts : Cert.Pre_finite_params.Facts where
  bcast_S_S16x3072 := by decide
  bcast_S_S1x1024 := by decide
  bcast_S_S1x1024x6152 := by decide
  bcast_S_S1x8 := by decide

variable (m : (ℓ : Loc Cert.KernelIdeal.nD Cert.KernelIdeal.τ Cert.KernelIdeal.sig) → Buf (Elt Ideal) ℓ) (c : Dev Cert.KernelIdeal.nD)

/-- Under the precondition the kernel's parameters are their real parts. -/
theorem kernel_params (hp : Cert.Pre_KernelIdeal_finite_params (hPre_finite_params := pre_facts) m) :
    Host.RealParams m c (fun b n => (Proj.mat (Host.A1 m c) b n).toReal) (fun k => (Proj.mat (Host.A2 m c) 0 k).toReal)
      (fun k n => (Proj.vox (Host.A3 m c) 0 k n).toReal) (fun h => (Proj.mat (Host.A4 m c) 0 h).toReal) := by
  obtain ⟨h1, h2, h3, h4⟩ := hp c
  exact ⟨fun b n _ _ => mat_real (Host.A1 m c) (fun i => real_of_word _ (congrFun h1 i)) b n,
    fun k _ => mat_real (Host.A2 m c) (fun i => real_of_word _ (congrFun h2 i)) 0 k,
    fun k n _ _ => vox_real (Host.A3 m c) (fun i => real_of_word _ (congrFun h3 i)) 0 k n,
    fun h _ => mat_real (Host.A4 m c) (fun i => real_of_word _ (congrFun h4 i)) 0 h⟩

end Cert.Params

end
-- ==== Proof.Merge.lean ====
/-
  What the merge kernel leaves: the two branches projected, gated, added and projected, the layer's update and the last normalisation.
-/
module

public import proofs.«01_k».proof.Proof.Proj

@[expose] public section

set_option maxRecDepth 16384

noncomputable section

open Idealize.ShloMosaic hiding ix1 ix2 ix3
open Idealize.ShloMosaic.ValueIdx Cert.KernelIdeal Cert.KernelIdeal.Gen Cert.Tiles
open scoped BigOperators

namespace Cert.Merge

variable {a b r c K : ℕ} {G H : ℕ → ℕ → EReal}

/-- The two branches' products, each times its gate. -/
def mixed (YA YB LG WA WB : ℕ → ℕ → EReal) (bg : ℕ → EReal) (t k : ℕ) : EReal :=
  Ideal.logistic (LG t k + bg k) * (∑ j : Fin 512, YA t j.val * WA j.val k)
    + Ideal.logistic (LG t (1024 + k) + bg (1024 + k)) * ∑ j : Fin 512, YB t j.val * WB j.val k

/-- The rows moved by the gated product. -/
def moved (X g MX WO : ℕ → ℕ → EReal) (t n : ℕ) : EReal := X t n + g t n * ∑ k : Fin 1024, MX t k.val * WO k.val n

/-- The normalised rows. -/
def normed (X : ℕ → ℕ → EReal) (f : ℕ → EReal) (t n : ℕ) : EReal := X t n * Proj.rho X t * f n

/-- A vector's entries by number. -/
def vec (F : (⟨1, ![1024]⟩ : Shape).Idx → EReal) (k : ℕ) : EReal := if h : k < 1024 then F (ix1 ⟨k, h⟩) else 0

/-- The layer's result from its input, its modulation, the two branches, the gates' arguments and the weights. -/
def layer (X : ℕ → ℕ → ℕ → EReal) (N : ℕ → ℕ → EReal) (YA YB LG : ℕ → ℕ → ℕ → EReal) (WA WB : ℕ → ℕ → EReal) (bg : ℕ → EReal) (WO : ℕ → ℕ → EReal)
    (f : ℕ → EReal) (b t n : ℕ) : EReal :=
  normed (moved (X b) (fun _ k => N b (2048 + k)) (mixed (YA b) (YB b) (LG b) WA WB bg) WO) f t n

/-- A load of a whole matrix. -/
theorem at_whole {a' b' : ℕ} {inb} {x : Vec Ideal ⟨2, ![a, b]⟩ .f32} (hx : At x G r c) :
    At (a := a') (b := b') (View.ld (Val := Elt Ideal) x (Rect.unit (s := ⟨2, ![a, b]⟩) ![0, 0] ![a', b'] inb)) G r c := fun j => by
  refine (hx _).trans ?_
  show G (r + (0 + 1 * (j 0).val)) (c + (0 + 1 * (j 1).val)) = _
  rw [Nat.zero_add, Nat.zero_add, Nat.one_mul, Nat.one_mul]

/-- The same of a matrix in half precision. -/
theorem at_wholeh {a' b' : ℕ} {inb} {x : Vec Ideal ⟨2, ![a, b]⟩ .bf16} (hx : At x G r c) :
    At (a := a') (b := b') (View.ld (Val := Elt Ideal) x (Rect.unit (s := ⟨2, ![a, b]⟩) ![0, 0] ![a', b'] inb)) G r c := fun j => by
  refine (hx _).trans ?_
  show G (r + (0 + 1 * (j 0).val)) (c + (0 + 1 * (j 1).val)) = _
  rw [Nat.zero_add, Nat.zero_add, Nat.one_mul, Nat.one_mul]

/-- A product of two matrices. -/
theorem at_prod {m n : ℕ} {φ₁ φ₂ : FTy} {d : DotDims ⟨2, ![m, K]⟩ ⟨2, ![K, n]⟩ ⟨2, ![m, n]⟩} {x : FVec Ideal ⟨2, ![m, K]⟩ φ₁} {y : FVec Ideal ⟨2, ![K, n]⟩ φ₂}
    (hd : d = DotDims.plain m K n) (hx : At x G r 0) (hy : At y H 0 c) :
    At (matmul d none x y (constant (F := Ideal) ⟨2, ![m, n]⟩ .f32 0)) (fun t l => ∑ j : Fin K, G t j.val * H j.val l) r c := by
  have h := at_matmul (prec := none) hd hx hy
  simp only [Nat.zero_add] at h
  exact h

/-- Columns counted from a later one. -/
theorem at_shift {x : (⟨2, ![a, b]⟩ : Shape).Idx → EReal} (hx : At x G r c) : At x (fun t l => G t (c + l)) r 0 := fun j =>
  (hx j).trans (by rw [Nat.zero_add])

/-- The gates. -/
theorem at_gate {x : Vec Ideal S512x2048 .bf16} {y : Vec Ideal S1x2048 .f32} {LG : ℕ → ℕ → EReal} {bg : ℕ → EReal}
    (hx : At (a := 512) (b := 2048) x LG r 0) (hy : ∀ k : Fin 2048, y (ix2 0 k) = bg k.val) :
    At (a := 512) (b := 2048) (logistic (addf (extf .f32 x bitsLt_bf16_f32) (broadcastTo S512x2048 y broadcasts_S1x2048_S512x2048) : FVec Ideal S512x2048 .f32))
      (fun t k => Ideal.logistic (LG t k + bg k)) r 0 := fun j => by
  obtain ⟨p, q, rfl⟩ := ex2 j
  have h := hx (ix2 p q)
  pointwise
  simp only [Proj.ix2_eq]
  rw [hy q]
  show Ideal.logistic (x (ix2 p q) + bg q.val) = Ideal.logistic (LG (r + p.val) q.val + bg q.val)
  rw [h, Nat.zero_add]

/-- A row of gains times a matrix. -/
theorem at_gain {x : Vec Ideal S1x1x1024 .f32} {y : FVec Ideal S512x1024 .f32} {g : ℕ → EReal}
    (hx : ∀ k : Fin 1024, x (ix3 0 0 k) = g k.val) (hy : At (a := 512) (b := 1024) y H r 0) :
    At (a := 512) (b := 1024) (mulf (broadcastTo S512x1024 (shapeCast S1x1024 x shapeCasts_S1x1x1024_S1x1024) broadcasts_S1x1024_S512x1024) y)
      (fun t n => g n * H t n) r 0 := fun j => by
  obtain ⟨p, q, rfl⟩ := ex2 j
  have h := hy (ix2 p q)
  pointwise
  simp only [Proj.ix2_eq, Proj.ix3_eq]
  rw [hx q]
  show g q.val * y (ix2 p q) = g q.val * H (r + p.val) q.val
  rw [h, Nat.zero_add]

section blocks
variable {x0 x1 : Vec Ideal S512x512 .bf16} {x2 : Vec Ideal S512x2048 .bf16} {x3 : Vec Ideal S512x1024 .f32} {x4 : Vec Ideal S1x1x1024 .f32}
  {x5 : Vec Ideal S1x2048 .f32} {x6 x7 : Vec Ideal S512x1024 .bf16} {x8 : Vec Ideal S1024x1024 .bf16} {x9 : Vec Ideal S1x1024 .f32}
  {YA YB LG X WA WB WO : ℕ → ℕ → EReal} {g bg f : ℕ → EReal}

/-- The updated rows from the kernel's blocks. -/
theorem at_moved (h0 : At (a := 512) (b := 512) x0 YA r 0) (h1 : At (a := 512) (b := 512) x1 YB r 0) (h2 : At (a := 512) (b := 2048) x2 LG r 0)
    (h3 : At (a := 512) (b := 1024) x3 X r 0) (h4 : ∀ k : Fin 1024, x4 (ix3 0 0 k) = g k.val) (h5 : ∀ k : Fin 2048, x5 (ix2 0 k) = bg k.val)
    (h6 : At (a := 512) (b := 1024) x6 WA 0 0) (h7 : At (a := 512) (b := 1024) x7 WB 0 0) (h8 : At (a := 1024) (b := 1024) x8 WO 0 0) :
    At (a := 512) (b := 1024) (k4_pay2 (F := Ideal) x0 x6 x1 x7 x2 x5 x8 x3 x4) (moved X (fun _ => g) (mixed YA YB LG WA WB bg) WO) r 0 := by
  unfold k4_pay2; dsimp only
  simp only [shapeCast_self]
  have hg := at_gate h2 h5
  exact at_add h3 (at_gain h4 (at_prod rfl (at_truncf (at_add
    (Fox.at_mul (at_cut hg) (at_prod rfl h0 h6))
    (Fox.at_mul (at_shift (at_cut (c' := 1024) hg)) (at_prod rfl h1 h7)))) h8))

/-- The normalised rows from the updated ones. -/
theorem at_normed {v : FVec Ideal S512x1024 .f32} (hv : At (a := 512) (b := 1024) v X r 0) (h9 : ∀ k : Fin 1024, x9 (ix2 0 k) = f k.val) :
    At (a := 512) (b := 1024) (k4_pay1 (F := Ideal) v (multiReduction .add [1] S512 (mulf v v) 0x00000000#32 reduces_S512x1024_S512 (.inl rfl) rfl) x9) (normed X f) r 0 := fun j => by
  obtain ⟨p, q, rfl⟩ := ex2 j
  unfold k4_pay1
  have hX : ∀ l : Fin 1024, v (ix2 p l) = X (r + p.val) l.val := fun l => (hv _).trans (by
    show X (r + p.val) (0 + l.val) = _; rw [Nat.zero_add])
  pointwise
  simp only [Proj.ix2_eq]
  show v (ix2 p q) * Ideal.rsqrt (Ideal.div (∑ l : Fin 1024, v (ix2 p l) * v (ix2 p l)) (Ideal.ofBits .f32 0x44800000#32) + Ideal.ofBits .f32 0x358637BD#32)
    * x9 (ix2 0 q) = normed X f (r + p.val) q.val
  simp only [hX, h9, normed, Proj.rho, Nat.zero_add]

end blocks

/-- The place of a vector's entry. -/
theorem at_row {n : ℕ} {inb} {x : Vec Ideal ⟨2, ![1, n]⟩ .f32} {f : ℕ → EReal} (hx : ∀ k : Fin n, x (ix2 0 k) = f k.val) (k : Fin n) :
    View.ld (Val := Elt Ideal) x (Rect.unit (s := ⟨2, ![1, n]⟩) ![0, 0] ![1, n] inb) (ix2 0 k) = f k.val := by
  refine Eq.trans (congrArg x ?_) (hx k)
  funext d; apply Fin.ext
  match d with
  | ⟨0, _⟩ => rfl
  | ⟨1, _⟩ => show 0 + 1 * k.val = k.val; omega

section output
variable {x0 x1 : Vec Ideal S512x512 .bf16} {x2 : Vec Ideal S512x2048 .bf16} {x3 : Vec Ideal S512x1024 .f32} {x4 : Vec Ideal S1x3x1024 .f32}
  {x5 : Vec Ideal S1x2048 .f32} {x6 x7 : Vec Ideal S512x1024 .bf16} {x8 : Vec Ideal S1024x1024 .bf16} {x9 : Vec Ideal S1x1024 .f32}
  {YA YB LG X WA WB WO : ℕ → ℕ → EReal} {g bg f : ℕ → EReal}

/-- What the kernel stores of a block of rows. -/
theorem at_out (h0 : At (a := 512) (b := 512) x0 YA r 0) (h1 : At (a := 512) (b := 512) x1 YB r 0) (h2 : At (a := 512) (b := 2048) x2 LG r 0)
    (h3 : At (a := 512) (b := 1024) x3 X r 0) (h4 : ∀ k : Fin 1024, x4 (ix3 0 2 k) = g k.val) (h5 : ∀ k : Fin 2048, x5 (ix2 0 k) = bg k.val)
    (h6 : At (a := 512) (b := 1024) x6 WA 0 0) (h7 : At (a := 512) (b := 1024) x7 WB 0 0) (h8 : At (a := 1024) (b := 1024) x8 WO 0 0)
    (h9 : ∀ k : Fin 1024, x9 (ix2 0 k) = f k.val) :
    At (a := 512) (b := 1024) (out4_10 x0 x1 x2 x3 x4 x5 x6 x7 x8 x9) (normed (moved X (fun _ => g) (mixed YA YB LG WA WB bg) WO) f) r 0 := fun y => by
  canon_tiles x h'
  unfold k4_pay3; dsimp only
  have h4' : ∀ k : Fin 1024, View.ld (Val := Elt Ideal) x4 r4_5 (ix3 0 0 k) = g k.val := fun k => by
    refine Eq.trans (congrArg x4 ?_) (h4 k)
    funext d; apply Fin.ext
    match d with
    | ⟨0, _⟩ => rfl
    | ⟨1, _⟩ => rfl
    | ⟨2, _⟩ => show 0 + 1 * k.val = k.val; omega
  refine (at_normed (at_moved (at_wholeh h0) (at_wholeh h1) (at_wholeh h2) (at_whole h3) h4' (at_row h5) (at_wholeh h6) (at_wholeh h7) (at_wholeh h8)) (at_row h9) x).trans ?_
  rw [h'0, h'1]

end output

/-- A row of the result asks its arrays for their places in range only. -/
theorem row_congr {YA YA' YB YB' LG LG' X X' G' WA WA' WB WB' WO WO' : ℕ → ℕ → EReal} {bg bg' f f' : ℕ → EReal} {R t n : ℕ}
    (hX : ∀ l, l < 1024 → X R l = X' t l) (hg : ∀ l, l < 1024 → G R l = G' t l) (hYA : ∀ j, j < 512 → YA R j = YA' t j)
    (hYB : ∀ j, j < 512 → YB R j = YB' t j) (hGL : ∀ k, k < 2048 → LG R k = LG' t k)
    (hWA : ∀ j k, j < 512 → k < 1024 → WA j k = WA' j k) (hWB : ∀ j k, j < 512 → k < 1024 → WB j k = WB' j k)
    (hWO : ∀ j k, j < 1024 → k < 1024 → WO j k = WO' j k) (hbg : ∀ k, k < 2048 → bg k = bg' k) (hf : ∀ k, k < 1024 → f k = f' k) (hn : n < 1024) :
    normed (moved X G (mixed YA YB LG WA WB bg) WO) f R n = normed (moved X' G' (mixed YA' YB' LG' WA' WB' bg') WO') f' t n := by
  have hm : ∀ k, k < 1024 → mixed YA YB LG WA WB bg R k = mixed YA' YB' LG' WA' WB' bg' t k := fun k hk => by
    rw [mixed, mixed, hGL k (by omega), hGL (1024 + k) (by omega), hbg k (by omega), hbg (1024 + k) (by omega),
      Finset.sum_congr rfl fun j _ => by rw [hYA j.val j.isLt, hWA j.val k j.isLt hk],
      Finset.sum_congr (s₁ := Finset.univ (α := Fin 512)) (f := fun j => YB R j.val * WB j.val k) rfl fun j _ => by rw [hYB j.val j.isLt, hWB j.val k j.isLt hk]]
  have hv : ∀ l, l < 1024 → moved X G (mixed YA YB LG WA WB bg) WO R l = moved X' G' (mixed YA' YB' LG' WA' WB' bg') WO' t l := fun l hl => by
    rw [moved, moved, hX l hl, hg l hl, Finset.sum_congr rfl fun k _ => by rw [hm k.val k.isLt, hWO k.val l k.isLt hl]]
  rw [normed, normed, Proj.rho, Proj.rho, hv n hn, hf n hn, Finset.sum_congr rfl fun l _ => by rw [hv l.val l.isLt]]

variable (V : (c : Dev nD) → (b : Ref sig .tc) → Buf (Elt Ideal) (c.tc.loc b))

/-- The places of the windows' blocks at a grid point. -/
theorem place4 : ∀ t : Fin grid4.N,
    win4_0.index t = ![t.val, 0] ∧ win4_1.index t = ![t.val, 0] ∧ win4_2.index t = ![t.val, 2] ∧ win4_3.index t = ![t.val, 0]
    ∧ win4_4.index t = ![t.val / 4, 0, 0] ∧ win4_5.index t = ![0, 0] ∧ win4_6.index t = ![0, 0] ∧ win4_7.index t = ![0, 0]
    ∧ win4_8.index t = ![0, 0] ∧ win4_9.index t = ![0, 0] ∧ win4_10.index t = ![t.val, 0] := by decide +kernel

section arrays
variable (c : Dev nD) (t : Fin grid4.N)

/-- The block of the first branch's rows. -/
theorem at_w0 : At (a := 512) (b := 512) (iblk4 V c 0 t) (Proj.mat (V c main_v23)) (512 * t.val) 0 := fun y => by
  obtain ⟨i0, i1, i2, i3, i4, i5, i6, i7, i8, i9, i10⟩ := place4 t
  blk_simp [iblk4]
  refine Proj.mat_at _ _ ?_ ?_ <;> blk_simp [i0] <;> idx_bounds y <;> omega

/-- The block of the second branch's rows. -/
theorem at_w1 : At (a := 512) (b := 512) (iblk4 V c 1 t) (Proj.mat (V c main_v24)) (512 * t.val) 0 := fun y => by
  obtain ⟨i0, i1, i2, i3, i4, i5, i6, i7, i8, i9, i10⟩ := place4 t
  blk_simp [iblk4]
  refine Proj.mat_at _ _ ?_ ?_ <;> blk_simp [i1] <;> idx_bounds y <;> omega

/-- The block of the gates' rows. -/
theorem at_w2 : At (a := 512) (b := 2048) (iblk4 V c 2 t) (fun R k => Proj.mat (V c main_v17_0) R (4096 + k)) (512 * t.val) 0 := fun y => by
  obtain ⟨i0, i1, i2, i3, i4, i5, i6, i7, i8, i9, i10⟩ := place4 t
  blk_simp [iblk4]
  refine Proj.mat_at _ _ ?_ ?_ <;> blk_simp [i2] <;> idx_bounds y <;> omega

/-- The block of the layer's rows. -/
theorem at_w3 : At (a := 512) (b := 1024) (iblk4 V c 3 t) (Proj.mat (V c main_v13)) (512 * t.val) 0 := fun y => by
  obtain ⟨i0, i1, i2, i3, i4, i5, i6, i7, i8, i9, i10⟩ := place4 t
  blk_simp [iblk4]
  refine Proj.mat_at _ _ ?_ ?_ <;> blk_simp [i3] <;> idx_bounds y <;> omega

/-- The block of one sequence's modulation. -/
theorem at_w4 (p : Fin 3) (k : Fin 1024) : (iblk4 V c 4 t : S1x3x1024.Idx → EReal) (ix3 0 p k) = Proj.vox (V c main_v14) (t.val / 4) p.val k.val := by
  obtain ⟨i0, i1, i2, i3, i4, i5, i6, i7, i8, i9, i10⟩ := place4 t
  blk_simp [iblk4]
  refine Proj.vox_at _ _ ?_ ?_ ?_ <;> blk_simp [i4]

/-- The gates' offsets. -/
theorem at_w5 (k : Fin 2048) : (iblk4 V c 5 t : S1x2048.Idx → EReal) (ix2 0 k) = Proj.mat (V c main_v26) 0 k.val := by
  obtain ⟨i0, i1, i2, i3, i4, i5, i6, i7, i8, i9, i10⟩ := place4 t
  blk_simp [iblk4]
  refine Proj.mat_at _ _ ?_ ?_ <;> blk_simp [i5]

/-- The first branch's weights. -/
theorem at_w6 : At (a := 512) (b := 1024) (iblk4 V c 6 t) (Proj.mat (V c main_v28)) 0 0 := fun y => by
  obtain ⟨i0, i1, i2, i3, i4, i5, i6, i7, i8, i9, i10⟩ := place4 t
  blk_simp [iblk4]
  refine Proj.mat_at _ _ ?_ ?_ <;> blk_simp [i6] <;> idx_bounds y <;> omega

/-- The second branch's weights. -/
theorem at_w7 : At (a := 512) (b := 1024) (iblk4 V c 7 t) (Proj.mat (V c main_v30)) 0 0 := fun y => by
  obtain ⟨i0, i1, i2, i3, i4, i5, i6, i7, i8, i9, i10⟩ := place4 t
  blk_simp [iblk4]
  refine Proj.mat_at _ _ ?_ ?_ <;> blk_simp [i7] <;> idx_bounds y <;> omega

/-- The output weights. -/
theorem at_w8 : At (a := 1024) (b := 1024) (iblk4 V c 8 t) (Proj.mat (V c main_v32)) 0 0 := fun y => by
  obtain ⟨i0, i1, i2, i3, i4, i5, i6, i7, i8, i9, i10⟩ := place4 t
  blk_simp [iblk4]
  refine Proj.mat_at _ _ ?_ ?_ <;> blk_simp [i8] <;> idx_bounds y <;> omega

/-- The last gains. -/
theorem at_w9 (k : Fin 1024) : (iblk4 V c 9 t : S1x1024.Idx → EReal) (ix2 0 k) = Proj.mat (V c main_v33) 0 k.val := by
  obtain ⟨i0, i1, i2, i3, i4, i5, i6, i7, i8, i9, i10⟩ := place4 t
  blk_simp [iblk4]
  refine Proj.mat_at _ _ ?_ ?_ <;> blk_simp [i9]

end arrays

/-- What the write-backs leave in the result. -/
theorem merge_arr (c : Dev nD) : (dat4 V c).arrAt 10 cfg4.N = fun y : S32768x1024.Idx =>
    normed (moved (Proj.mat (V c main_v13)) (fun R n => Proj.vox (V c main_v14) (R / 2048) 2 n)
      (mixed (Proj.mat (V c main_v23)) (Proj.mat (V c main_v24)) (fun R k => Proj.mat (V c main_v17_0) R (4096 + k))
        (Proj.mat (V c main_v28)) (Proj.mat (V c main_v30)) (Proj.mat (V c main_v26) 0)) (Proj.mat (V c main_v32)))
      (Proj.mat (V c main_v33) 0) (y 0).val (y 1).val := by
  refine (dat4 V c).arrAt_eq_of_covers 10 _ (by decide +kernel) fun t hf y => ?_
  blk_simp
  rw [after4_10]
  obtain ⟨i0, i1, i2, i3, i4, i5, i6, i7, i8, i9, i10⟩ := place4 t
  refine (at_out (at_w0 V c t) (at_w1 V c t) (at_w2 V c t) (at_w3 V c t) (at_w4 V c t 2) (at_w5 V c t) (at_w6 V c t) (at_w7 V c t) (at_w8 V c t) (at_w9 V c t) y).trans ?_
  have g0 : win4_10.index t 0 = t.val := by rw [i10]; rfl
  have g1 : win4_10.index t 1 = 0 := by rw [i10]; rfl
  have hy : (y 0).val < 512 := (y 0).isLt
  have hy1 : (y 1).val < 1024 := (y 1).isLt
  rw [g0, g1, Nat.zero_mul, Nat.mul_comm t.val 512]
  refine row_congr (fun _ _ => rfl) (fun l _ => ?_) (fun _ _ => rfl) (fun _ _ => rfl) (fun _ _ => rfl) (fun _ _ _ _ => rfl) (fun _ _ _ _ => rfl)
    (fun _ _ _ _ => rfl) (fun _ _ => rfl) (fun _ _ => rfl) (by omega)
  show Proj.vox (V c main_v14) (t.val / 4) 2 l = Proj.vox (V c main_v14) ((512 * t.val + (y 0).val) / 2048) 2 l
  rw [show (512 * t.val + (y 0).val) / 2048 = t.val / 4 by omega]

end Cert.Merge

end
-- ==== Proof.StickSpec.lean ====
/-
  The stick-breaking kernel's blocks as functions of row and column: the scores of one head, the softplus of a score
  in base 2, what the later columns have broken off, the weights and their weighted sums, and how each operation of the
  kernel acts on such blocks.
-/
module

public import proofs.«01_k».proof.Proof.Gen.KernelIdeal.Frame
public import proofs.«01_k».proof.Proof.Tiles

@[expose] public section

set_option maxRecDepth 16384

noncomputable section

open Idealize.ShloMosaic Idealize.ShloMosaic.ValueIdx Cert.KernelIdeal Cert.KernelIdeal.Gen Cert.Tiles
open scoped BigOperators

namespace Cert.Stick

/-- A block of 2048 rows and 128 lanes, as a function of row and lane. -/
def rd (x : Vec Ideal S1x2048x128 .bf16) (t l : ℕ) : EReal :=
  if h : t < 2048 ∧ l < 128 then x (ix3 (0 : Fin 1) ⟨t, h.1⟩ ⟨l, h.2⟩) else 0

/-- The block is the block of that function. -/
theorem at_rd (x : Vec Ideal S1x2048x128 .bf16) : At1 (a := 2048) (b := 128) x (rd x) 0 0 := fun j => by
  obtain ⟨u, p, q, rfl⟩ := ex3 j
  obtain rfl : u = 0 := Subsingleton.elim _ _
  show x _ = rd x (0 + p.val) (0 + q.val)
  rw [Nat.zero_add, Nat.zero_add, rd, dif_pos ⟨p.isLt, q.isLt⟩]

/-- What a load of 256 rows from an operand's block reads. -/
theorem at_in {a q : ℕ} {m : Memref sig .tc .vmem S1x2048x128 .bf16} {hm : m.IsWhole} {x : Vec Ideal S1x2048x128 .bf16} {inb} :
    At1 (a := a) (b := 128) (View.readAt (Elt Ideal) m.view (Rect.unit (s := S1x2048x128) ![0, q, 0] ![1, a, 128] inb).toLoadRect (hm.unread x)) (rd x) q 0 := fun j => by
  rw [View.readAt_eq_ld, hm.read_unread]
  refine (at_rd x _).trans ?_
  show rd x (0 + (q + 1 * (j 1).val)) (0 + (0 + 1 * (j 2).val)) = rd x (q + (j 1).val) (0 + (j 2).val)
  rw [Nat.zero_add, Nat.zero_add, Nat.one_mul, Nat.one_mul]

/-- The keys of head `h`, the other head's lanes zero, one key per column. -/
def KX (x1 : Vec Ideal S1x2048x128 .bf16) (h k s : ℕ) : EReal := if k / 64 = h then rd x1 s k else 0

/-- The scores of head `h`. -/
def Z (x0 x1 : Vec Ideal S1x2048x128 .bf16) (h t s : ℕ) : EReal := ∑ j : Fin 128, rd x0 t (0 + j.val) * KX x1 h (0 + j.val) s

/-- The logarithm's change of base, as the kernel holds it under a name. -/
def lg : EReal := (((Real.log 2)⁻¹ : ℝ) : EReal)

/-- The softplus of a number, in base 2. -/
def soft (z : EReal) : EReal := max (Ideal.log (1 + Ideal.exp2 (min z ⊤)) * lg) z

/-- A function of row and column, zero on and above the diagonal. -/
def low (G : ℕ → ℕ → EReal) (t s : ℕ) : EReal := if s < t then G t s else 0

/-- The softplus of the scores. -/
def SP (x0 x1 : Vec Ideal S1x2048x128 .bf16) (h t s : ℕ) : EReal := soft (Z x0 x1 h t s)

/-- The softplus of the scores below the diagonal. -/
def SM (x0 x1 : Vec Ideal S1x2048x128 .bf16) (h : ℕ) : ℕ → ℕ → EReal := low (SP x0 x1 h)

/-- One where the row lies below the column. -/
def TX (j c : ℕ) : EReal := if c < j then 1 else 0

/-- What the `n` column tiles that end with row tile `q` break off in row `t`. -/
def car (S : ℕ → ℕ → EReal) (q : ℕ) : ℕ → ℕ → EReal
  | 0, _ => 0
  | n + 1, t => ((∑ j : Fin 256, S t (256 * (q - n) + j.val) * TX (256 * (q - n) + j.val) (256 * (q - n))) + car S q n t)
      + S t (256 * (q - n))

/-- What the column tiles from `k` to the row's own break off. -/
def CA (x0 x1 : Vec Ideal S1x2048x128 .bf16) (h k t : ℕ) : EReal := car (SM x0 x1 h) (t / 256) (t / 256 + 1 - k) t

/-- What the columns after `s` break off, `s` in column tile `k`. -/
def AF (x0 x1 : Vec Ideal S1x2048x128 .bf16) (h k t s : ℕ) : EReal :=
  (∑ j : Fin 256, SM x0 x1 h t (256 * k + j.val) * TX (256 * k + j.val) s) + CA x0 x1 h (k + 1) t

/-- The weight of column `s` of column tile `k`, wherever it lies. -/
def WX (x0 x1 : Vec Ideal S1x2048x128 .bf16) (h k t s : ℕ) : EReal :=
  Ideal.exp2 ((Z x0 x1 h t s - SP x0 x1 h t s) - AF x0 x1 h k t s)

/-- The weights of column tile `k` below the diagonal. -/
def WM (x0 x1 : Vec Ideal S1x2048x128 .bf16) (h k : ℕ) : ℕ → ℕ → EReal := low (WX x0 x1 h k)

/-- The sum that the `n` column tiles ending with row tile `q` add up to. -/
def acn (W : ℕ → ℕ → ℕ → EReal) (V : ℕ → ℕ → EReal) (q : ℕ) : ℕ → ℕ → ℕ → EReal
  | 0, _, _ => 0
  | n + 1, t, l => acn W V q n t l + ∑ j : Fin 256, W (q - n) t (256 * (q - n) + j.val) * V (256 * (q - n) + j.val) l

/-- The weighted sums over the column tiles from `k` to the row's own. -/
def AC (x0 x1 x2 : Vec Ideal S1x2048x128 .bf16) (h k t l : ℕ) : EReal :=
  acn (WM x0 x1 h) (rd x2) (t / 256) (t / 256 + 1 - k) t l

section ops
variable {a b c r n : ℕ} {G H : ℕ → ℕ → EReal}

/-- The product of two blocks at the same place. -/
theorem at_mul {φ : FTy} {x y : FVec Ideal ⟨2, ![a, b]⟩ φ} (hx : At x G r c) (hy : At y H r c) :
    At (mulf x y) (fun t l => G t l * H t l) r c := fun j => by rw [mulf_apply, hx j, hy j]

/-- The logistic function of a block. -/
theorem at_logistic {φ : FTy} {x : FVec Ideal ⟨2, ![a, b]⟩ φ} (hx : At x G r c) :
    At (logistic (F := Ideal) x) (fun t l => Ideal.logistic (G t l)) r c := fun j => congrArg Ideal.logistic (hx j)

/-- Two blocks, the first where the lane satisfies `p`. -/
theorem at_either {p : ℕ → Prop} [DecidablePred p] {x y : (⟨2, ![a, b]⟩ : Shape).Idx → EReal}
    {q : IVec ⟨2, ![a, b]⟩ 1} (hq : ∀ j, q j = if p (j 1).val then 1#1 else 0#1) (hx : At x G r 0) (hy : At y H r 0) :
    At (select q x y) (fun t l => if p l then G t l else H t l) r 0 := fun j => by
  rw [select_apply, hq, hx j, hy j]
  show Scalar.select _ _ _ = if p (0 + (j 1).val) then _ else _
  rw [Nat.zero_add (j 1).val]
  by_cases hp : p (j 1).val
  · rw [if_pos hp, if_pos hp]; rfl
  · rw [if_neg hp, if_neg hp]; rfl

/-- A mask that asks only for the lane, told lane by lane. -/
theorem lanes {p : ℕ → Prop} [DecidablePred p] {q : IVec S2048x128 1} (h0 : ∀ (t : Fin 2048) (l : Fin 128), q (ix2 t l) = q (ix2 0 l))
    (hd : ∀ l : Fin 128, q (ix2 0 l) = if p l.val then 1#1 else 0#1) (j : S2048x128.Idx) :
    q j = if p (j 1).val then 1#1 else 0#1 := by
  obtain ⟨t, l, rfl⟩ := ex2 j
  exact (h0 t l).trans (hd l)

/-- The comparison of a column index with a row index. -/
theorem below (j : S256x256.Idx) : k3_pay4 j = if (j 1).val < (j 0).val then 1#1 else 0#1 := by
  obtain ⟨p, q, rfl⟩ := ex2 j
  show IntOp.cmpi .slt (BitVec.ofNat 32 (0 * 256 + q.val)) (BitVec.ofNat 32 (0 * 256 + p.val)) = if q.val < p.val then 1#1 else 0#1
  have hs : ((BitVec.ofNat 32 (0 * 256 + q.val)).slt (BitVec.ofNat 32 (0 * 256 + p.val))) = decide (q.val < p.val) := by
    rw [BitVec.slt_eq_decide, BitVec.toInt_eq_toNat_of_lt (by simp; omega), BitVec.toInt_eq_toNat_of_lt (by simp; omega)]
    simp
    omega
  simp only [IntOp.cmpi, hs]
  by_cases h : q.val < p.val <;> simp [h]

/-- A block of zeros. -/
theorem zeros {s : Shape} (j : s.Idx) : broadcast s (Scalar.ofBits (F := Ideal) .f32 0x00000000#32) j = 0 := Ideal.ofBits_zero_f32

/-- The square on the diagonal, zero on and above the diagonal. -/
theorem at_keep {z w : (⟨2, ![256, 256]⟩ : Shape).Idx → EReal} {q : IVec ⟨2, ![256, 256]⟩ 1}
    (hq : ∀ j, q j = if (j 1).val < (j 0).val then 1#1 else 0#1) (hw : ∀ j, w j = 0) (hz : At z G c c) :
    At (select q z w) (low G) c c := fun j => by
  rw [select_apply, hq, hw, hz j]
  show Scalar.select _ _ _ = if c + (j 1).val < c + (j 0).val then _ else _
  by_cases h : (j 1).val < (j 0).val
  · rw [if_pos h, if_pos (by omega)]; rfl
  · rw [if_neg h, if_neg (by omega)]; rfl

/-- A block that lies below the diagonal. -/
theorem at_low {x : (⟨2, ![a, b]⟩ : Shape).Idx → EReal} (h : c + b ≤ r) (hx : At x G r c) : At x (low G) r c :=
  hx.congr fun i _ l hl => by rw [low, if_pos (by omega)]

/-- The square on the diagonal above the rows below it, which the mask leaves alone. -/
theorem at_under {n' : ℕ} {x : (⟨2, ![256, 256]⟩ : Shape).Idx → EReal} {y : (⟨2, ![n', 256]⟩ : Shape).Idx → EReal}
    {h : Shape.Concatenates [⟨2, ![256, 256]⟩, ⟨2, ![n', 256]⟩] ⟨2, ![n, 256]⟩ 0} (hx : At x (low G) c c) (hy : At y G (c + 256) c) :
    At (concatenate (⟨2, ![n, 256]⟩ : Shape) 0 [⟨⟨2, ![256, 256]⟩, x⟩, ⟨⟨2, ![n', 256]⟩, y⟩] h) (low G) c c :=
  at_above hx (at_low (le_refl _) hy)

/-- The value named for the clamp. -/
theorem clamp_top : (Named.named κ "clamp" 0x42FC0000#32 : Ideal .f32) = (⊤ : EReal) :=
  IdealRules.named_const.ideal_named_scalar _ _ _ _ rfl

/-- The value named for the cut. -/
theorem cut_top : (Named.named κ "cut" 0x43180000#32 : Ideal .f32) = (⊤ : EReal) :=
  IdealRules.named_const.ideal_named_scalar _ _ _ _ rfl

/-- The value named for the change of base. -/
theorem lg_val : (Named.named κ "log2e" 0x3FB8AA3B#32 : Ideal .f32) = lg :=
  IdealRules.named_const.ideal_named_scalar _ _ _ _ rfl

/-- One plus the power of two of a block, clamped. -/
theorem at_one {x : FVec Ideal ⟨2, ![a, b]⟩ .f32} (hx : At x G r c) :
    At (addf (broadcast (⟨2, ![a, b]⟩ : Shape) (Scalar.ofBits (F := Ideal) .f32 0x3F800000#32))
      (exp2 (F := Ideal) (φ := .f32) (minimumf x (broadcast (⟨2, ![a, b]⟩ : Shape) (Named.named κ "clamp" 0x42FC0000#32 : Ideal .f32)))))
      (fun t s => 1 + Ideal.exp2 (min (G t s) ⊤)) r c := fun j => by
  show (Ideal.ofBits .f32 0x3F800000#32 : EReal) + Ideal.exp2 (min (x j) (Named.named κ "clamp" 0x42FC0000#32 : Ideal .f32)) = _
  rw [Ideal.ofBits_one_f32, clamp_top, hx j]

/-- A block clamped. -/
theorem at_clamp {x : FVec Ideal ⟨2, ![a, b]⟩ .f32} (hx : At x G r c) :
    At (minimumf x (broadcast (⟨2, ![a, b]⟩ : Shape) (Named.named κ "clamp" 0x42FC0000#32 : Ideal .f32)))
      (fun t s => min (G t s) ⊤) r c := fun j => by
  show min (x j) (Named.named κ "clamp" 0x42FC0000#32 : Ideal .f32) = _
  rw [clamp_top, hx j]

/-- The power of two of a block. -/
theorem at_exp2 {φ : FTy} {x : FVec Ideal ⟨2, ![a, b]⟩ φ} (hx : At x G r c) :
    At (exp2 (F := Ideal) (φ := φ) x) (fun t s => Ideal.exp2 (G t s)) r c := fun j => congrArg Ideal.exp2 (hx j)

/-- One plus a block. -/
theorem at_inc {x : FVec Ideal ⟨2, ![a, b]⟩ .f32} (hx : At x G r c) :
    At (addf (broadcast (⟨2, ![a, b]⟩ : Shape) (Scalar.ofBits (F := Ideal) .f32 0x3F800000#32)) x) (fun t s => 1 + G t s) r c := fun j => by
  show (Ideal.ofBits .f32 0x3F800000#32 : EReal) + x j = _
  rw [Ideal.ofBits_one_f32, hx j]

/-- The logarithm of a block. -/
theorem at_log {φ : FTy} {x : FVec Ideal ⟨2, ![a, b]⟩ φ} (hx : At x G r c) :
    At (log (F := Ideal) (φ := φ) x) (fun t s => Ideal.log (G t s)) r c := fun j => congrArg Ideal.log (hx j)

/-- A block in the other base. -/
theorem at_base {x : FVec Ideal ⟨2, ![a, b]⟩ .f32} (hx : At x G r c) :
    At (mulf x (broadcast (⟨2, ![a, b]⟩ : Shape) (Named.named κ "log2e" 0x3FB8AA3B#32 : Ideal .f32))) (fun t s => G t s * lg) r c := fun j => by
  show x j * (Named.named κ "log2e" 0x3FB8AA3B#32 : Ideal .f32) = _
  rw [lg_val, hx j]

/-- The larger of two blocks. -/
theorem at_max {φ : FTy} {x y : FVec Ideal ⟨2, ![a, b]⟩ φ} (hx : At x G r c) (hy : At y H r c) :
    At (maximumf x y) (fun t s => max (G t s) (H t s)) r c := fun j => by rw [maximumf_apply, hx j, hy j]

/-- The difference of two blocks. -/
theorem at_sub {φ : FTy} {x y : FVec Ideal ⟨2, ![a, b]⟩ φ} (hx : At x G r c) (hy : At y H r c) :
    At (subf x y) (fun t s => G t s - H t s) r c := fun j => by rw [subf_apply, hx j, hy j]

/-- One column repeated. -/
theorem at_wide {M : ℕ → EReal} {x : (⟨2, ![a, 1]⟩ : Shape).Idx → EReal}
    {h : (⟨2, ![a, 1]⟩ : Shape).Broadcasts ⟨2, ![a, 256]⟩} (hx : At x (fun t _ => M t) r 0) (c : ℕ) :
    At (broadcastTo (⟨2, ![a, 256]⟩ : Shape) x h) (fun t _ => M t) r c := fun j => by
  obtain ⟨p, q, rfl⟩ := ex2 j
  rw [broadcastTo_apply x h (ix2 p q) (ix2 p (0 : Fin 1)) fun d => ?_]
  · exact hx _
  · match d with
    | ⟨0, _⟩ =>
      show p.val = if a = 1 then 0 else p.val
      split
      · have := p.isLt; omega
      · rfl
    | ⟨1, _⟩ => rfl

/-- The kernel's triangle of ones, at any tile of the diagonal. -/
theorem at_tri (c : ℕ) : At (a := 256) (b := 256) (k3_pay2 (F := Ideal)) TX c c := fun j => by
  obtain ⟨p, q, rfl⟩ := ex2 j
  unfold k3_pay2
  have hs : ((BitVec.ofNat 32 (0 * 256 + q.val)).slt (BitVec.ofNat 32 (0 * 256 + p.val))) = decide (q.val < p.val) := by
    rw [BitVec.slt_eq_decide, BitVec.toInt_eq_toNat_of_lt (by simp; omega), BitVec.toInt_eq_toNat_of_lt (by simp; omega)]
    simp
    omega
  rw [shapeCast_self]
  show Scalar.select (IntOp.cmpi .sgt (BitVec.ofNat 32 (0 * 256 + p.val)) (BitVec.ofNat 32 (0 * 256 + q.val)))
    (Ideal.ofBits .f32 0x3F800000#32 : EReal) (Ideal.ofBits .f32 0x00000000#32) = if c + q.val < c + p.val then 1 else 0
  simp only [IntOp.cmpi, hs, Ideal.ofBits_one_f32, Ideal.ofBits_zero_f32]
  by_cases h : q.val < p.val
  · rw [if_pos (by omega)]; simp [h, Scalar.select]
  · rw [if_neg (by omega)]; simp [h, Scalar.select]

end ops

/-- A list of vectors of 256 rows and `w` columns, each the block of `G` that begins 256 rows below the one before. -/
inductive Rows (w : ℕ) (G : ℕ → ℕ → EReal) : List ((s : Shape) × (s.Idx → EReal)) → ℕ → Prop
  | nil {r : ℕ} : Rows w G [] r
  | cons {r : ℕ} {v : (⟨2, ![256, w]⟩ : Shape).Idx → EReal} {xs : List ((s : Shape) × (s.Idx → EReal))}
      (hv : At v G r 0) (h : Rows w G xs (r + 256)) : Rows w G (⟨⟨2, ![256, w]⟩, v⟩ :: xs) r

/-- Piece `k` of such a list begins `256 k` rows down, and the pieces before it have `256 k` rows. -/
theorem Rows.get {w r : ℕ} {G : ℕ → ℕ → EReal} {xs : List ((s : Shape) × (s.Idx → EReal))} (h : Rows w G xs r) (k : ℕ) (hk : k < xs.length) :
    (∃ v, xs[k] = ⟨⟨2, ![256, w]⟩, v⟩ ∧ At v G (r + 256 * k) 0)
      ∧ (((xs.take k).map (·.1)).map fun s => if h : s.rank = 2 then s.size ((0 : Fin 2).cast h.symm) else 0).sum = 256 * k := by
  induction h generalizing k with
  | nil => exact absurd hk (Nat.not_lt_zero _)
  | @cons r v xs hv _ ih =>
    cases k with
    | zero => exact ⟨⟨v, rfl, hv⟩, rfl⟩
    | succ k =>
      obtain ⟨⟨w, e, hw⟩, hs⟩ := ih k (Nat.lt_of_succ_lt_succ hk)
      refine ⟨⟨w, e, ?_⟩, ?_⟩
      · rwa [show r + 256 * (k + 1) = r + 256 + 256 * k by omega]
      · rw [List.take_succ_cons, List.map_cons, List.map_cons, List.sum_cons, hs]
        show 256 + 256 * k = _
        omega

/-- The rows of such a list, all together. -/
theorem Rows.rows {w r : ℕ} {G : ℕ → ℕ → EReal} {xs : List ((s : Shape) × (s.Idx → EReal))} (h : Rows w G xs r) :
    ((xs.map (·.1)).map fun s => if h : s.rank = 2 then s.size ((0 : Fin 2).cast h.symm) else 0).sum = 256 * xs.length := by
  induction h with
  | nil => rfl
  | cons _ _ ih =>
    rw [List.map_cons, List.map_cons, List.sum_cons, ih, List.length_cons]
    show 256 + _ = _
    omega

/-- Vectors of 256 rows one above the other are one block. -/
theorem at_pile {w n r : ℕ} {G : ℕ → ℕ → EReal} {xs : List ((s : Shape) × (s.Idx → EReal))}
    {h : Shape.Concatenates (xs.map (·.1)) ⟨2, ![n, w]⟩ 0}
    (hx : Rows w G xs r) : At (concatenate (⟨2, ![n, w]⟩ : Shape) 0 xs h) G r 0 := fun j => by
  have hn : 256 * xs.length = n := hx.rows.symm.trans h.2.2
  have hj : (j 0).val < n := (j 0).isLt
  have hk : (j 0).val / 256 < xs.length := by omega
  obtain ⟨⟨v, e, hv⟩, hs⟩ := hx.get _ hk
  rw [concatenate_apply_piece 0 xs h j _ hk _ v e rfl _ hs (ix2 ⟨(j 0).val % 256, Nat.mod_lt _ (by norm_num)⟩ (j 1))
    (fun d hd => by match d with | ⟨1, _⟩ => rfl | ⟨0, _⟩ => exact absurd rfl hd)
    (show 256 * ((j 0).val / 256) + (j 0).val % 256 = _ by omega)]
  refine (hv _).trans ?_
  show G (r + 256 * ((j 0).val / 256) + (j 0).val % 256) (0 + (j 1).val) = _
  congr 1; omega

variable {x0 x1 x2 : Vec Ideal S1x2048x128 .bf16} {h m r c k : ℕ}

/-- A tile of scores. -/
theorem at_z {φ₁ φ₂ : FTy} {d : DotDims ⟨2, ![m, 128]⟩ ⟨2, ![128, 256]⟩ ⟨2, ![m, 256]⟩}
    {x : FVec Ideal ⟨2, ![m, 128]⟩ φ₁} {y : FVec Ideal ⟨2, ![128, 256]⟩ φ₂} (hd : d = DotDims.plain m 128 256)
    (hx : At x (rd x0) r 0) (hy : At y (KX x1 h) 0 c) :
    At (matmul d none x y (constant (F := Ideal) ⟨2, ![m, 256]⟩ .f32 0)) (Z x0 x1 h) r c := at_matmul hd hx hy

/-- The number broken off by the tiles from `k` on, from what tile `k` and the later ones break off. -/
theorem CA_step {t : ℕ} (ht : k ≤ t / 256) : CA x0 x1 h k t = AF x0 x1 h k t (256 * k) + SM x0 x1 h t (256 * k) := by
  obtain ⟨n, hn⟩ : ∃ n, t / 256 = k + n := ⟨t / 256 - k, by omega⟩
  rw [CA, AF, CA, show t / 256 + 1 - k = n + 1 by omega, show t / 256 + 1 - (k + 1) = n by omega, car, show t / 256 - n = k by omega]

/-- Before the row's own tile nothing is broken off. -/
theorem CA_zero {t : ℕ} (ht : t / 256 < k) : CA x0 x1 h k t = 0 := by
  rw [CA, show t / 256 + 1 - k = 0 by omega]; rfl

/-- The weighted sums from tile `k` on, from those of the later tiles. -/
theorem AC_step {t l : ℕ} (ht : k ≤ t / 256) : AC x0 x1 x2 h k t l
    = AC x0 x1 x2 h (k + 1) t l + ∑ j : Fin 256, WM x0 x1 h k t (256 * k + j.val) * rd x2 (256 * k + j.val) l := by
  obtain ⟨n, hn⟩ : ∃ n, t / 256 = k + n := ⟨t / 256 - k, by omega⟩
  rw [AC, AC, show t / 256 + 1 - k = n + 1 by omega, show t / 256 + 1 - (k + 1) = n by omega, acn, show t / 256 - n = k by omega]

/-- Before the row's own tile the sums are zero. -/
theorem AC_zero {t l : ℕ} (ht : t / 256 < k) : AC x0 x1 x2 h k t l = 0 := by
  rw [AC, show t / 256 + 1 - k = 0 by omega]; rfl

/-- Zeros are what is broken off before the row's own tile. -/
theorem at_car0 {a : ℕ} {x : (⟨2, ![a, 1]⟩ : Shape).Idx → EReal} (hx : ∀ j, x j = 0) (hr : r + a ≤ 256 * k) :
    At x (fun t _ => CA x0 x1 h k t) r 0 := fun j => by
  have hj : (j 0).val < a := (j 0).isLt
  rw [hx j]; exact (CA_zero (by omega)).symm

/-- Zeros are the sums before the row's own tile. -/
theorem at_acc0 {a : ℕ} {x : (⟨2, ![a, 128]⟩ : Shape).Idx → EReal} (hx : ∀ j, x j = 0) (hr : r + a ≤ 256 * k) :
    At x (AC x0 x1 x2 h k) r 0 := fun j => by
  have hj : (j 0).val < a := (j 0).isLt
  rw [hx j]; exact (AC_zero (by omega)).symm

/-- What the later columns of its own tile `k` break off after column `s`. -/
def PS (x0 x1 : Vec Ideal S1x2048x128 .bf16) (h k t s : ℕ) : EReal := ∑ j : Fin 256, SM x0 x1 h t (256 * k + j.val) * TX (256 * k + j.val) s

/-- A tile times the triangle of ones. -/
theorem at_ps {φ₁ φ₂ : FTy} {d : DotDims ⟨2, ![m, 256]⟩ ⟨2, ![256, 256]⟩ ⟨2, ![m, 256]⟩}
    {x : FVec Ideal ⟨2, ![m, 256]⟩ φ₁} {y : FVec Ideal ⟨2, ![256, 256]⟩ φ₂} (k : ℕ) (hd : d = DotDims.plain m 256 256)
    (hx : At x (SM x0 x1 h) r (256 * k)) (hy : At y TX (256 * k) (256 * k)) :
    At (matmul d none x y (constant (F := Ideal) ⟨2, ![m, 256]⟩ .f32 0)) (PS x0 x1 h k) r (256 * k) := at_matmul hd hx hy

/-- What the columns after each one break off. -/
theorem at_after {x u : FVec Ideal ⟨2, ![m, 256]⟩ .f32} (k : ℕ)
    (hx : At x (PS x0 x1 h k) r (256 * k)) (hu : At u (fun t _ => CA x0 x1 h (k + 1) t) r (256 * k)) :
    At (addf x u) (AF x0 x1 h k) r (256 * k) := at_add hx hu

/-- What is broken off from tile `k` on. -/
theorem at_carry {a : ℕ} {x y : FVec Ideal ⟨2, ![a, 1]⟩ .f32} (k : ℕ) (hr : 256 * k ≤ r) (hx : At x (AF x0 x1 h k) r (256 * k))
    (hy : At y (SM x0 x1 h) r (256 * k)) : At (addf x y) (fun t _ => CA x0 x1 h k t) r 0 := fun j => by
  have h1 : (j 1).val = 0 := by have : (j 1).val < 1 := (j 1).isLt; omega
  refine (at_add hx hy j).trans ?_
  dsimp only
  rw [h1, Nat.add_zero]
  exact (CA_step (by omega)).symm

/-- A tile of weights. -/
theorem at_w {a b : ℕ} {φ : FTy} {x : FVec Ideal ⟨2, ![a, b]⟩ φ} (k : ℕ)
    (hx : At x (fun t s => (Z x0 x1 h t s - SP x0 x1 h t s) - AF x0 x1 h k t s) r c) :
    At (exp2 (F := Ideal) (φ := φ) x) (WX x0 x1 h k) r c := at_exp2 hx

/-- A tile's part of the weighted sums. -/
def part (x0 x1 x2 : Vec Ideal S1x2048x128 .bf16) (h k t l : ℕ) : EReal :=
  ∑ j : Fin 256, WM x0 x1 h k t (256 * k + j.val) * rd x2 (256 * k + j.val) l

/-- A tile of weights times its block of values. -/
theorem at_sum {φ₁ φ₂ : FTy} {d : DotDims ⟨2, ![m, 256]⟩ ⟨2, ![256, 128]⟩ ⟨2, ![m, 128]⟩}
    {x : FVec Ideal ⟨2, ![m, 256]⟩ φ₁} {y : FVec Ideal ⟨2, ![256, 128]⟩ φ₂} (k : ℕ) (hd : d = DotDims.plain m 256 128)
    (hx : At x (WM x0 x1 h k) r (256 * k)) (hy : At y (rd x2) (256 * k) 0) :
    At (matmul d none x y (constant (F := Ideal) ⟨2, ![m, 128]⟩ .f32 0)) (part x0 x1 x2 h k) r 0 := at_matmul hd hx hy

/-- The weighted sums from tile `k` on. -/
theorem at_acc {a : ℕ} {x y : FVec Ideal ⟨2, ![a, 128]⟩ .f32} (k : ℕ) (hr : 256 * k ≤ r) (hx : At x (AC x0 x1 x2 h (k + 1)) r 0)
    (hy : At y (part x0 x1 x2 h k) r 0) : At (addf x y) (AC x0 x1 x2 h k) r 0 := fun j => by
  refine (at_add hx hy j).trans ?_
  dsimp only
  exact (AC_step (by omega)).symm

/-! ### The sums are numbers -/

/-- An extended number that is a number. -/
def IsR (x : EReal) : Prop := ∃ r : ℝ, x = (r : EReal)

/-- Sums of numbers. -/
theorem IsR.add {x y : EReal} : IsR x → IsR y → IsR (x + y) := by
  rintro ⟨a, rfl⟩ ⟨b, rfl⟩; exact ⟨a + b, (EReal.coe_add a b).symm⟩

/-- Products of numbers. -/
theorem IsR.mul {x y : EReal} : IsR x → IsR y → IsR (x * y) := by
  rintro ⟨a, rfl⟩ ⟨b, rfl⟩; exact ⟨a * b, (EReal.coe_mul a b).symm⟩

/-- The larger of two numbers. -/
theorem IsR.max {x y : EReal} (hx : IsR x) (hy : IsR y) : IsR (max x y) := by
  rcases max_choice x y with h | h <;> rw [h] <;> assumption

/-- Zero is a number. -/
theorem isR_zero : IsR 0 := ⟨0, EReal.coe_zero.symm⟩

/-- One is a number. -/
theorem isR_one : IsR 1 := ⟨1, EReal.coe_one.symm⟩

/-- One of two numbers. -/
theorem IsR.ite {p : Prop} [Decidable p] {x y : EReal} (hx : IsR x) (hy : IsR y) : IsR (if p then x else y) := by split <;> assumption

/-- Sums of families of numbers. -/
theorem IsR.sum {ι : Type} (s : Finset ι) {f : ι → EReal} (hf : ∀ i, IsR (f i)) : IsR (∑ i ∈ s, f i) := by
  classical
  induction s using Finset.induction with
  | empty => rw [Finset.sum_empty]; exact isR_zero
  | insert a s ha ih => rw [Finset.sum_insert ha]; exact (hf a).add ih

/-- The softplus of a number, spelled out. -/
theorem soft_real (z : ℝ) : soft (z : EReal) = ((max (Real.log (1 + (2 : ℝ) ^ z) * (Real.log 2)⁻¹) z : ℝ) : EReal) := by
  have hp : (0 : ℝ) < (2 : ℝ) ^ z := Real.rpow_pos_of_pos two_pos z
  rw [soft, min_eq_left le_top, Ideal.exp2_coe, ← EReal.coe_one, ← EReal.coe_add, Ideal.log_coe, if_neg, lg, ← EReal.coe_mul]
  · exact (EReal.coe_strictMono.monotone.map_max).symm
  · show ¬ 1 + (2 : ℝ) ^ z ≤ 0
    linarith

/-- A block of numbers. -/
class Finite (x : Vec Ideal S1x2048x128 .bf16) : Prop where
  /-- Each entry is a number. -/
  real : ∀ j, IsR (x j)

/-- Its entries as a function of row and lane are numbers. -/
theorem rd_real (x : Vec Ideal S1x2048x128 .bf16) [Finite x] (t l : ℕ) : IsR (rd x t l) := by
  rw [rd]; split
  · exact Finite.real _
  · exact isR_zero

/-- The scores are numbers. -/
theorem Z_isR [Finite x0] [Finite x1] (t s : ℕ) : IsR (Z x0 x1 h t s) :=
  .sum _ fun _ => (rd_real x0 _ _).mul (.ite (rd_real x1 _ _) isR_zero)

/-- The larger of the two, which is the softplus. -/
theorem at_sp {a b : ℕ} {x y : FVec Ideal ⟨2, ![a, b]⟩ .f32} (hx : At x (fun t s => Ideal.log (1 + Ideal.exp2 (min (Z x0 x1 h t s) ⊤)) * lg) r c)
    (hy : At y (Z x0 x1 h) r c) : At (maximumf x y) (SP x0 x1 h) r c := at_max hx hy

/-- What the tiles break off is a number. -/
theorem car_isR {S : ℕ → ℕ → EReal} (hS : ∀ t s, IsR (S t s)) (q : ℕ) : ∀ n t, IsR (car S q n t)
  | 0, _ => isR_zero
  | n + 1, t => (IsR.add (.sum _ fun _ => (hS _ _).mul (.ite isR_one isR_zero)) (car_isR hS q n t)).add (hS _ _)

/-- The softplus of the scores, where the mask leaves it, is a number. -/
theorem SM_isR [Finite x0] [Finite x1] (t s : ℕ) : IsR (SM x0 x1 h t s) := by
  obtain ⟨z, hz⟩ := Z_isR (x0 := x0) (x1 := x1) (h := h) t s
  exact .ite ⟨_, (congrArg soft hz).trans (soft_real z)⟩ isR_zero

/-- So nothing broken off is infinite. -/
theorem CA_lt [Finite x0] [Finite x1] (t : ℕ) : CA x0 x1 h k t < ⊤ := by
  obtain ⟨r, hr⟩ := car_isR (S := SM x0 x1 h) (fun t s => SM_isR t s) (t / 256) (t / 256 + 1 - k) t
  rw [CA, hr]; exact EReal.coe_lt_top r

/-- So no entry of the column is infinite. -/
theorem fin_col [Finite x0] [Finite x1] {x : FVec Ideal S256x1 .f32} (hx : At (a := 256) (b := 1) x (fun t _ => CA x0 x1 h k t) r 0) (j : S256x1.Idx) :
    x j < (⊤ : EReal) := by rw [hx j]; exact CA_lt _

/-- The smaller of two columns is not infinite where the first is not. -/
theorem fin_min {x y : FVec Ideal S256x1 .f32} (hx : ∀ j, x j < (⊤ : EReal)) (j : S256x1.Idx) : minimumf x y j < (⊤ : EReal) :=
  lt_of_le_of_lt (min_le_left _ _) (hx j)

/-- The least entry of a column with no infinite entry lies below the cut. -/
theorem go_on {x : FVec Ideal S256x1 .f32} {h1 : (⟨2, ![256, 1]⟩ : Shape).ShapeCasts S1x256x1} {hr : S1x256x1.Reduces [1, 2] S1} {hφ ha}
    {h3 : S1.ShapeCasts S1x1x1} {hp : ∀ a, ![0, 0, 0] a < S1x1x1.size a} (hx : ∀ j, x j < (⊤ : EReal)) :
    Scalar.cmpf .olt (extractAt ![0, 0, 0] (shapeCast S1x1x1 (multiReduction .minimumf [1, 2] S1 (shapeCast S1x256x1 x h1) 0x7F800000#32 hr hφ ha) h3) hp)
      (Named.named κ "cut" 0x43180000#32 : Ideal .f32) = 1#1 := by
  have hlt : ∀ j : S1.Idx, multiReduction .minimumf [1, 2] S1 (shapeCast S1x256x1 x h1) 0x7F800000#32 hr hφ ha j < (⊤ : EReal) := fun j => by
    rw [multiReduction_minimumf_eq_fold]
    refine (Finset.fold_min_lt _).2 (.inr ⟨fun d => ⟨0, ?_⟩, ?_, ?_⟩)
    · match d with
      | ⟨0, _⟩ => exact Nat.zero_lt_one
      | ⟨1, _⟩ => exact (by decide : 0 < 256)
      | ⟨2, _⟩ => exact Nat.zero_lt_one
    · rw [Finset.mem_filter]
      refine ⟨Finset.mem_univ _, funext fun d => ?_⟩
      match d with
      | ⟨0, _⟩ => exact Subsingleton.elim (α := Fin 1) _ _
    · exact hx _
  have hc : ∀ y : EReal, y < ⊤ → Scalar.cmpf (F := Ideal) (φ := .f32) .olt y (⊤ : EReal) = 1#1 := fun y hy => by
    rw [Ideal.scalar_cmpf_def, Ideal.cmp]
    simp [hy]
  rw [cut_top]
  exact hc _ (hlt _)

/-- Where the comparison holds, the first of two vectors is the one taken. -/
theorem at_go {a b : ℕ} {G : ℕ → ℕ → EReal} {q : BitVec 1} {x y : (⟨2, ![a, b]⟩ : Shape).Idx → EReal} (hq : q = 1#1) (hx : At x G r c) :
    At (Scalar.select q x y) G r c := by rw [hq]; exact hx

/-- A load of the whole of what was stored. -/
theorem load_all {v : View sig .tc .vmem S256x256 .bf16} {w : S256x256.Idx → EReal} {G : ℕ → ℕ → EReal} {r c : ℕ} {inb inb'}
    (hw : At (a := 256) (b := 256) w G r c) :
    At (a := 256) (b := 256) (v.readCov (Val := Elt Ideal) [⟨Rect.unit (s := S256x256) ![0, 0] ![256, 256] inb, w⟩]
      (Rect.unit (s := S256x256) ![0, 0] ![256, 256] inb').toLoadRect) G r c := fun j => by
  rw [View.readCov_eq_canon', View.canon_cons_unit_lit']
  · refine (congrArg w (funext fun d => Fin.ext ?_)).trans (hw j)
    match d with
    | ⟨0, _⟩ => show 0 + 1 * (j 0).val = (j 0).val; omega
    | ⟨1, _⟩ => show 0 + 1 * (j 1).val = (j 1).val; omega
  all_goals decide

/-! ### The keys and the gate -/

/-- The first head's keys. -/
theorem at_keys0 {y : Vec Ideal S1x2048x128 .bf16} (hy : At1 (a := 2048) (b := 128) y (rd x1) 0 0) :
    At1 (a := 128) (b := 2048) (k3_pay7 (F := Ideal) y) (KX x1 0) 0 0 := by
  unfold k3_pay7 k3_pay6
  refine at_lead (at_truncf (at_transpose (at_lanesel (p := fun l => l / 64 = 0) (lanes (p := fun l => l / 64 = 0) (fun _ _ => rfl) ?_) zeros (at_extf (at_drop hy)))))
  decide +kernel

/-- The second head's keys. -/
theorem at_keys1 {y : Vec Ideal S1x2048x128 .bf16} (hy : At1 (a := 2048) (b := 128) y (rd x1) 0 0) :
    At1 (a := 128) (b := 2048) (k3_pay1 (F := Ideal) (k3_pay6 y) kernelRun3_A.sl.v48 64#32 k3_pay8 k3_pay9) (KX x1 1) 0 0 := by
  unfold k3_pay1 k3_pay6
  refine at_lead (at_truncf (at_transpose (at_lanesel (p := fun l => l / 64 = 1) (lanes (p := fun l => l / 64 = 1) (fun _ _ => rfl) ?_) zeros (at_extf (at_drop hy)))))
  decide +kernel

/-- The queries. -/
theorem at_queries {y : Vec Ideal S1x2048x128 .bf16} (hy : At1 (a := 2048) (b := 128) y (rd x0) 0 0) :
    At (a := 2048) (b := 128) (k3_pay3 (F := Ideal) y) (rd x0) 0 0 := by
  unfold k3_pay3
  exact at_drop hy

/-- The final step, from the two heads' sums and the gate's block. -/
theorem at_gate {u v : FVec Ideal S2048x128 .f32} {y : Vec Ideal S1x2048x128 .bf16} {U V G : ℕ → ℕ → EReal}
    (hu : At (a := 2048) (b := 128) u U 0 0) (hv : At (a := 2048) (b := 128) v V 0 0) (hy : At1 (a := 2048) (b := 128) y G 0 0) :
    At1 (a := 2048) (b := 128) (k3_pay5 (F := Ideal) u v (iota .tc S2048x128 32 [1] iota_S2048x128_d1_w32) k3_pay378 k3_pay379 k3_pay380 y)
      (fun t l => (if l / 64 = 0 then U t l else V t l) * (G t l * Ideal.logistic (G t l))) 0 0 := by
  unfold k3_pay5
  refine at_lead (at_truncf (at_mul (at_either (p := fun l => l / 64 = 0) (lanes (p := fun l => l / 64 = 0) (fun _ _ => rfl) ?_) hu hv)
    (at_mul (at_extf (at_drop hy)) (at_logistic (at_extf (at_drop hy))))))
  decide +kernel

end Cert.Stick

end
-- ==== Proof.StickWords.lean ====
/-
  The stick-breaking kernel's intermediate values, each as a block of a function of row and column, first part.
-/
module

public import proofs.«01_k».proof.Proof.StickSpec

@[expose] public section

set_option maxRecDepth 16384

noncomputable section

open Idealize.ShloMosaic Idealize.ShloMosaic.ValueIdx Cert.KernelIdeal Cert.KernelIdeal.Gen Cert.Tiles

namespace Cert.Stick

variable {c : Dev nD} {i : grid3.Coords}
  {arg3 : Memref sig .tc .vmem S1x2048x128 .bf16} {harg3 : arg3.IsWhole}
  {arg4 : Memref sig .tc .vmem S1x2048x128 .bf16} {harg4 : arg4.IsWhole}
  {arg5 : Memref sig .tc .vmem S1x2048x128 .bf16} {harg5 : arg5.IsWhole}
  {arg8 : Memref sig .tc .vmem S2x128x2048 .bf16} {arg9 : Memref sig .tc .vmem S256x256 .bf16}
  {x0 x1 x2 : Vec Ideal S1x2048x128 .bf16}

/-- The triangle of ones, as it is loaded back. -/
theorem v32_at (k : ℕ) : At (a := 256) (b := 256) (kernelRun3_A.sl.v32 (F := Ideal) c arg9) TX k k := load_all (at_tri k)

/-- A tile of the first head's keys. -/
theorem v562_at : At1 (kernelRun3_A.sl.v562 (F := Ideal) c arg4 harg4 arg8 x1) (KX x1 0) 0 256 := load_prev (by dsimp only; decide) (at_keys0 at_in)

/-- Softplus of the first head's scores below the diagonal. -/
theorem r_101_at : At (kernelRun3_A.sl.r_101 (F := Ideal) c arg3 harg3 arg4 harg4 arg8 x0 x1) (SM x0 x1 0) 256 256 := by
  unfold kernelRun3_A.sl.r_101 k3_pay173 k3_pay171 k3_pay170
  exact (at_truncf (at_under (at_keep below zeros (at_cut (r' := 256) (c' := 256) (at_sp (at_base (at_log (at_inc (at_exp2 (at_clamp (at_z rfl (at_cut (r' := 256) (c' := 0) (at_queries at_in)) (at_drop v562_at))))))) (at_z rfl (at_cut (r' := 256) (c' := 0) (at_queries at_in)) (at_drop v562_at))))) (at_cut (r' := 512) (c' := 256) (at_sp (at_base (at_log (at_inc (at_exp2 (at_clamp (at_z rfl (at_cut (r' := 256) (c' := 0) (at_queries at_in)) (at_drop v562_at))))))) (at_z rfl (at_cut (r' := 256) (c' := 0) (at_queries at_in)) (at_drop v562_at))))))

/-- The first head: what the later columns of a tile break off. -/
theorem r_102_at : At (kernelRun3_A.sl.r_102 (F := Ideal) c arg3 harg3 arg4 harg4 arg8 arg9 x0 x1) (PS x0 x1 0 1) 256 256 := by
  unfold kernelRun3_A.sl.r_102 k3_pay174 k3_pay173 k3_pay171 k3_pay170
  exact (at_ps 1 rfl (at_truncf (at_under (at_keep below zeros (at_cut (r' := 256) (c' := 256) (at_sp (at_base (at_log (at_inc (at_exp2 (at_clamp (at_z rfl (at_cut (r' := 256) (c' := 0) (at_queries at_in)) (at_drop v562_at))))))) (at_z rfl (at_cut (r' := 256) (c' := 0) (at_queries at_in)) (at_drop v562_at))))) (at_cut (r' := 512) (c' := 256) (at_sp (at_base (at_log (at_inc (at_exp2 (at_clamp (at_z rfl (at_cut (r' := 256) (c' := 0) (at_queries at_in)) (at_drop v562_at))))))) (at_z rfl (at_cut (r' := 256) (c' := 0) (at_queries at_in)) (at_drop v562_at)))))) (v32_at 256))

/-- A tile of the first head's keys. -/
theorem v466_at : At1 (kernelRun3_A.sl.v466 (F := Ideal) c arg4 harg4 arg8 x1) (KX x1 0) 0 512 := load_prev (by dsimp only; decide) (at_keys0 at_in)

/-- Softplus of the first head's scores below the diagonal. -/
theorem r_78_at : At (kernelRun3_A.sl.r_78 (F := Ideal) c arg3 harg3 arg4 harg4 arg8 x0 x1) (SM x0 x1 0) 512 512 := by
  unfold kernelRun3_A.sl.r_78 k3_pay141 k3_pay140 k3_pay139
  exact (at_truncf (at_under (at_keep below zeros (at_cut (r' := 512) (c' := 512) (at_sp (at_base (at_log (at_inc (at_exp2 (at_clamp (at_z rfl (at_cut (r' := 512) (c' := 0) (at_queries at_in)) (at_drop v466_at))))))) (at_z rfl (at_cut (r' := 512) (c' := 0) (at_queries at_in)) (at_drop v466_at))))) (at_cut (r' := 768) (c' := 512) (at_sp (at_base (at_log (at_inc (at_exp2 (at_clamp (at_z rfl (at_cut (r' := 512) (c' := 0) (at_queries at_in)) (at_drop v466_at))))))) (at_z rfl (at_cut (r' := 512) (c' := 0) (at_queries at_in)) (at_drop v466_at))))))

/-- A tile of the first head's keys. -/
theorem v370_at : At1 (kernelRun3_A.sl.v370 (F := Ideal) c arg4 harg4 arg8 x1) (KX x1 0) 0 768 := load_prev (by dsimp only; decide) (at_keys0 at_in)

/-- Softplus of the first head's scores below the diagonal. -/
theorem r_57_at : At (kernelRun3_A.sl.r_57 (F := Ideal) c arg3 harg3 arg4 harg4 arg8 x0 x1) (SM x0 x1 0) 768 768 := by
  unfold kernelRun3_A.sl.r_57 k3_pay112 k3_pay111 k3_pay110
  exact (at_truncf (at_under (at_keep below zeros (at_cut (r' := 768) (c' := 768) (at_sp (at_base (at_log (at_inc (at_exp2 (at_clamp (at_z rfl (at_cut (r' := 768) (c' := 0) (at_queries at_in)) (at_drop v370_at))))))) (at_z rfl (at_cut (r' := 768) (c' := 0) (at_queries at_in)) (at_drop v370_at))))) (at_cut (r' := 1024) (c' := 768) (at_sp (at_base (at_log (at_inc (at_exp2 (at_clamp (at_z rfl (at_cut (r' := 768) (c' := 0) (at_queries at_in)) (at_drop v370_at))))))) (at_z rfl (at_cut (r' := 768) (c' := 0) (at_queries at_in)) (at_drop v370_at))))))

/-- Rows of the queries. -/
theorem r_20_at : At (kernelRun3_A.sl.r_20 (F := Ideal) c arg3 harg3 x0) (rd x0) 1280 0 := by
  unfold kernelRun3_A.sl.r_20 k3_pay52
  exact (at_cut (r' := 1280) (c' := 0) (at_queries at_in))

/-- A tile of the first head's keys. -/
theorem v16_at : At1 (kernelRun3_A.sl.v16 (F := Ideal) c arg4 harg4 arg8 x1) (KX x1 0) 0 1792 := load_prev (by dsimp only; decide) (at_keys0 at_in)

/-- The first head: what the tiles from 7 on break off. -/
theorem r_2_at : At (kernelRun3_A.sl.r_2 (F := Ideal) c arg3 harg3 arg4 harg4 arg8 arg9 x0 x1) (fun t _ => CA x0 x1 0 7 t) 1792 0 := by
  unfold kernelRun3_A.sl.r_2 k3_pay19 k3_pay17 k3_pay16 k3_pay15 k3_pay14 k3_pay10
  exact (at_carry 7 (by norm_num) (at_cut (r' := 1792) (c' := 1792) (at_after 7 (at_ps 7 rfl (at_truncf (at_keep below zeros (at_sp (at_base (at_log (at_inc (at_exp2 (at_clamp (at_z rfl (at_cut (r' := 1792) (c' := 0) (at_queries at_in)) (at_drop v16_at))))))) (at_z rfl (at_cut (r' := 1792) (c' := 0) (at_queries at_in)) (at_drop v16_at))))) (v32_at 1792)) (at_wide (at_car0 (k := 8) zeros (by norm_num)) _))) (at_extf (at_cut (r' := 1792) (c' := 1792) (at_truncf (at_keep below zeros (at_sp (at_base (at_log (at_inc (at_exp2 (at_clamp (at_z rfl (at_cut (r' := 1792) (c' := 0) (at_queries at_in)) (at_drop v16_at))))))) (at_z rfl (at_cut (r' := 1792) (c' := 0) (at_queries at_in)) (at_drop v16_at))))))))

/-- The first head: what the tiles from 7 on break off. -/
theorem r_6_at : At (kernelRun3_A.sl.r_6 (F := Ideal) c arg3 harg3 arg4 harg4 arg8 arg9 x0 x1) (fun t _ => CA x0 x1 0 7 t) 1536 0 := by
  unfold kernelRun3_A.sl.r_6 k3_pay10 k3_pay27
  exact (at_pile (r := 1536) (.cons (at_car0 zeros (by norm_num)) (.cons r_2_at .nil)))

/-- A tile of the first head's keys. -/
theorem v86_at : At1 (kernelRun3_A.sl.v86 (F := Ideal) c arg4 harg4 arg8 x1) (KX x1 0) 0 1536 := load_prev (by dsimp only; decide) (at_keys0 at_in)

/-- Scores of the first head. -/
theorem r_8_at : At (kernelRun3_A.sl.r_8 (F := Ideal) c arg3 harg3 arg4 harg4 arg8 x0 x1) (Z x0 x1 0) 1536 1536 := by
  unfold kernelRun3_A.sl.r_8 k3_pay29
  exact (at_z rfl (at_cut (r' := 1536) (c' := 0) (at_queries at_in)) (at_drop v86_at))

/-- The first head: what the tiles from 6 on break off. -/
theorem r_9_at : At (kernelRun3_A.sl.r_9 (F := Ideal) c arg3 harg3 arg4 harg4 arg8 arg9 x0 x1) (fun t _ => CA x0 x1 0 6 t) 1536 0 := by
  unfold kernelRun3_A.sl.r_9 k3_pay30 k3_pay36 k3_pay35 k3_pay33 k3_pay32 k3_pay31
  exact (at_cut (r' := 1536) (c' := 0) (at_carry 6 (by norm_num) (at_cut (r' := 1536) (c' := 1536) (at_after 6 (at_ps 6 rfl (at_truncf (at_under (at_keep below zeros (at_cut (r' := 1536) (c' := 1536) (at_sp (at_base (at_log (at_inc (at_exp2 (at_clamp r_8_at))))) r_8_at))) (at_cut (r' := 1792) (c' := 1536) (at_sp (at_base (at_log (at_inc (at_exp2 (at_clamp r_8_at))))) r_8_at)))) (v32_at 1536)) (at_wide r_6_at _))) (at_extf (at_cut (r' := 1536) (c' := 1536) (at_truncf (at_under (at_keep below zeros (at_cut (r' := 1536) (c' := 1536) (at_sp (at_base (at_log (at_inc (at_exp2 (at_clamp r_8_at))))) r_8_at))) (at_cut (r' := 1792) (c' := 1536) (at_sp (at_base (at_log (at_inc (at_exp2 (at_clamp r_8_at))))) r_8_at))))))))

/-- The first head: what the tiles from 6 on break off. -/
theorem r_11_at : At (kernelRun3_A.sl.r_11 (F := Ideal) c arg3 harg3 arg4 harg4 arg8 arg9 x0 x1) (fun t _ => CA x0 x1 0 6 t) 1792 0 := by
  unfold kernelRun3_A.sl.r_11 k3_pay30 k3_pay38 k3_pay35 k3_pay33 k3_pay32 k3_pay31
  exact (at_cut (r' := 1792) (c' := 0) (at_carry 6 (by norm_num) (at_cut (r' := 1536) (c' := 1536) (at_after 6 (at_ps 6 rfl (at_truncf (at_under (at_keep below zeros (at_cut (r' := 1536) (c' := 1536) (at_sp (at_base (at_log (at_inc (at_exp2 (at_clamp r_8_at))))) r_8_at))) (at_cut (r' := 1792) (c' := 1536) (at_sp (at_base (at_log (at_inc (at_exp2 (at_clamp r_8_at))))) r_8_at)))) (v32_at 1536)) (at_wide r_6_at _))) (at_extf (at_cut (r' := 1536) (c' := 1536) (at_truncf (at_under (at_keep below zeros (at_cut (r' := 1536) (c' := 1536) (at_sp (at_base (at_log (at_inc (at_exp2 (at_clamp r_8_at))))) r_8_at))) (at_cut (r' := 1792) (c' := 1536) (at_sp (at_base (at_log (at_inc (at_exp2 (at_clamp r_8_at))))) r_8_at))))))))

/-- The first head: what the tiles from 6 on break off. -/
theorem r_21_at : At (kernelRun3_A.sl.r_21 (F := Ideal) c arg3 harg3 arg4 harg4 arg8 arg9 x0 x1) (fun t _ => CA x0 x1 0 6 t) 1280 0 := by
  unfold kernelRun3_A.sl.r_21 k3_pay10 k3_pay53
  exact (at_pile (r := 1280) (.cons (at_car0 zeros (by norm_num)) (.cons r_9_at (.cons r_11_at .nil))))

/-- A tile of the first head's keys. -/
theorem v178_at : At1 (kernelRun3_A.sl.v178 (F := Ideal) c arg4 harg4 arg8 x1) (KX x1 0) 0 1280 := load_prev (by dsimp only; decide) (at_keys0 at_in)

/-- A tile of the first head's keys. -/
theorem r_23_at : At (kernelRun3_A.sl.r_23 (F := Ideal) c arg4 harg4 arg8 x1) (KX x1 0) 0 1280 := by
  unfold kernelRun3_A.sl.r_23 k3_pay55
  exact (at_drop v178_at)

/-- The first head: what the tiles from 5 on break off. -/
theorem r_24_at : At (kernelRun3_A.sl.r_24 (F := Ideal) c arg3 harg3 arg4 harg4 arg8 arg9 x0 x1) (fun t _ => CA x0 x1 0 5 t) 1280 0 := by
  unfold kernelRun3_A.sl.r_24 k3_pay62 k3_pay61 k3_pay59 k3_pay58 k3_pay57 k3_pay56
  exact (at_cut (r' := 1280) (c' := 0) (at_carry 5 (by norm_num) (at_cut (r' := 1280) (c' := 1280) (at_after 5 (at_ps 5 rfl (at_truncf (at_under (at_keep below zeros (at_cut (r' := 1280) (c' := 1280) (at_sp (at_base (at_log (at_inc (at_exp2 (at_clamp (at_z rfl r_20_at r_23_at)))))) (at_z rfl r_20_at r_23_at)))) (at_cut (r' := 1536) (c' := 1280) (at_sp (at_base (at_log (at_inc (at_exp2 (at_clamp (at_z rfl r_20_at r_23_at)))))) (at_z rfl r_20_at r_23_at))))) (v32_at 1280)) (at_wide r_21_at _))) (at_extf (at_cut (r' := 1280) (c' := 1280) (at_truncf (at_under (at_keep below zeros (at_cut (r' := 1280) (c' := 1280) (at_sp (at_base (at_log (at_inc (at_exp2 (at_clamp (at_z rfl r_20_at r_23_at)))))) (at_z rfl r_20_at r_23_at)))) (at_cut (r' := 1536) (c' := 1280) (at_sp (at_base (at_log (at_inc (at_exp2 (at_clamp (at_z rfl r_20_at r_23_at)))))) (at_z rfl r_20_at r_23_at)))))))))

/-- The first head: what the tiles from 5 on break off. -/
theorem r_26_at : At (kernelRun3_A.sl.r_26 (F := Ideal) c arg3 harg3 arg4 harg4 arg8 arg9 x0 x1) (fun t _ => CA x0 x1 0 5 t) 1536 0 := by
  unfold kernelRun3_A.sl.r_26 k3_pay64 k3_pay61 k3_pay59 k3_pay58 k3_pay57 k3_pay56
  exact (at_cut (r' := 1536) (c' := 0) (at_carry 5 (by norm_num) (at_cut (r' := 1280) (c' := 1280) (at_after 5 (at_ps 5 rfl (at_truncf (at_under (at_keep below zeros (at_cut (r' := 1280) (c' := 1280) (at_sp (at_base (at_log (at_inc (at_exp2 (at_clamp (at_z rfl r_20_at r_23_at)))))) (at_z rfl r_20_at r_23_at)))) (at_cut (r' := 1536) (c' := 1280) (at_sp (at_base (at_log (at_inc (at_exp2 (at_clamp (at_z rfl r_20_at r_23_at)))))) (at_z rfl r_20_at r_23_at))))) (v32_at 1280)) (at_wide r_21_at _))) (at_extf (at_cut (r' := 1280) (c' := 1280) (at_truncf (at_under (at_keep below zeros (at_cut (r' := 1280) (c' := 1280) (at_sp (at_base (at_log (at_inc (at_exp2 (at_clamp (at_z rfl r_20_at r_23_at)))))) (at_z rfl r_20_at r_23_at)))) (at_cut (r' := 1536) (c' := 1280) (at_sp (at_base (at_log (at_inc (at_exp2 (at_clamp (at_z rfl r_20_at r_23_at)))))) (at_z rfl r_20_at r_23_at)))))))))

/-- A tile of the first head's keys. -/
theorem v274_at : At1 (kernelRun3_A.sl.v274 (F := Ideal) c arg4 harg4 arg8 x1) (KX x1 0) 0 1024 := load_prev (by dsimp only; decide) (at_keys0 at_in)

/-- The first head: what the tiles from 4 on break off. -/
theorem r_41_at : At (kernelRun3_A.sl.r_41 (F := Ideal) c arg3 harg3 arg4 harg4 arg8 arg9 x0 x1) (fun t _ => CA x0 x1 0 4 t) 1024 0 := by
  unfold kernelRun3_A.sl.r_41 k3_pay10 k3_pay89 k3_pay88 k3_pay86 k3_pay85 k3_pay84 k3_pay83
  exact (at_cut (r' := 1024) (c' := 0) (at_carry 4 (by norm_num) (at_cut (r' := 1024) (c' := 1024) (at_after 4 (at_ps 4 rfl (at_truncf (at_under (at_keep below zeros (at_cut (r' := 1024) (c' := 1024) (at_sp (at_base (at_log (at_inc (at_exp2 (at_clamp (at_z rfl (at_cut (r' := 1024) (c' := 0) (at_queries at_in)) (at_drop v274_at))))))) (at_z rfl (at_cut (r' := 1024) (c' := 0) (at_queries at_in)) (at_drop v274_at))))) (at_cut (r' := 1280) (c' := 1024) (at_sp (at_base (at_log (at_inc (at_exp2 (at_clamp (at_z rfl (at_cut (r' := 1024) (c' := 0) (at_queries at_in)) (at_drop v274_at))))))) (at_z rfl (at_cut (r' := 1024) (c' := 0) (at_queries at_in)) (at_drop v274_at)))))) (v32_at 1024)) (at_wide (at_pile (r := 1024) (.cons (at_car0 zeros (by norm_num)) (.cons r_24_at (.cons r_26_at .nil)))) _))) (at_extf (at_cut (r' := 1024) (c' := 1024) (at_truncf (at_under (at_keep below zeros (at_cut (r' := 1024) (c' := 1024) (at_sp (at_base (at_log (at_inc (at_exp2 (at_clamp (at_z rfl (at_cut (r' := 1024) (c' := 0) (at_queries at_in)) (at_drop v274_at))))))) (at_z rfl (at_cut (r' := 1024) (c' := 0) (at_queries at_in)) (at_drop v274_at))))) (at_cut (r' := 1280) (c' := 1024) (at_sp (at_base (at_log (at_inc (at_exp2 (at_clamp (at_z rfl (at_cut (r' := 1024) (c' := 0) (at_queries at_in)) (at_drop v274_at))))))) (at_z rfl (at_cut (r' := 1024) (c' := 0) (at_queries at_in)) (at_drop v274_at))))))))))

/-- The first head: what the tiles from 4 on break off. -/
theorem r_40_at : At (kernelRun3_A.sl.r_40 (F := Ideal) c arg3 harg3 arg4 harg4 arg8 arg9 x0 x1) (fun t _ => CA x0 x1 0 4 t) 1024 0 := by
  unfold kernelRun3_A.sl.r_40 k3_pay10 k3_pay88 k3_pay86 k3_pay85 k3_pay84 k3_pay83
  exact (at_carry 4 (by norm_num) (at_cut (r' := 1024) (c' := 1024) (at_after 4 (at_ps 4 rfl (at_truncf (at_under (at_keep below zeros (at_cut (r' := 1024) (c' := 1024) (at_sp (at_base (at_log (at_inc (at_exp2 (at_clamp (at_z rfl (at_cut (r' := 1024) (c' := 0) (at_queries at_in)) (at_drop v274_at))))))) (at_z rfl (at_cut (r' := 1024) (c' := 0) (at_queries at_in)) (at_drop v274_at))))) (at_cut (r' := 1280) (c' := 1024) (at_sp (at_base (at_log (at_inc (at_exp2 (at_clamp (at_z rfl (at_cut (r' := 1024) (c' := 0) (at_queries at_in)) (at_drop v274_at))))))) (at_z rfl (at_cut (r' := 1024) (c' := 0) (at_queries at_in)) (at_drop v274_at)))))) (v32_at 1024)) (at_wide (at_pile (r := 1024) (.cons (at_car0 zeros (by norm_num)) (.cons r_24_at (.cons r_26_at .nil)))) _))) (at_extf (at_cut (r' := 1024) (c' := 1024) (at_truncf (at_under (at_keep below zeros (at_cut (r' := 1024) (c' := 1024) (at_sp (at_base (at_log (at_inc (at_exp2 (at_clamp (at_z rfl (at_cut (r' := 1024) (c' := 0) (at_queries at_in)) (at_drop v274_at))))))) (at_z rfl (at_cut (r' := 1024) (c' := 0) (at_queries at_in)) (at_drop v274_at))))) (at_cut (r' := 1280) (c' := 1024) (at_sp (at_base (at_log (at_inc (at_exp2 (at_clamp (at_z rfl (at_cut (r' := 1024) (c' := 0) (at_queries at_in)) (at_drop v274_at))))))) (at_z rfl (at_cut (r' := 1024) (c' := 0) (at_queries at_in)) (at_drop v274_at)))))))))

/-- The first head: what the tiles from 4 on break off. -/
theorem r_43_at : At (kernelRun3_A.sl.r_43 (F := Ideal) c arg3 harg3 arg4 harg4 arg8 arg9 x0 x1) (fun t _ => CA x0 x1 0 4 t) 1280 0 := by
  unfold kernelRun3_A.sl.r_43 k3_pay91
  exact (at_cut (r' := 1280) (c' := 0) r_40_at)

/-- The first head: what all later columns break off, in tile 3. -/
theorem r_58_at : At (kernelRun3_A.sl.r_58 (F := Ideal) c arg3 harg3 arg4 harg4 arg8 arg9 x0 x1) (AF x0 x1 0 3) 768 768 := by
  unfold kernelRun3_A.sl.r_58 k3_pay10 k3_pay113 k3_pay112 k3_pay111 k3_pay110
  exact (at_after 3 (at_ps 3 rfl (at_truncf (at_under (at_keep below zeros (at_cut (r' := 768) (c' := 768) (at_sp (at_base (at_log (at_inc (at_exp2 (at_clamp (at_z rfl (at_cut (r' := 768) (c' := 0) (at_queries at_in)) (at_drop v370_at))))))) (at_z rfl (at_cut (r' := 768) (c' := 0) (at_queries at_in)) (at_drop v370_at))))) (at_cut (r' := 1024) (c' := 768) (at_sp (at_base (at_log (at_inc (at_exp2 (at_clamp (at_z rfl (at_cut (r' := 768) (c' := 0) (at_queries at_in)) (at_drop v370_at))))))) (at_z rfl (at_cut (r' := 768) (c' := 0) (at_queries at_in)) (at_drop v370_at)))))) (v32_at 768)) (at_wide (at_pile (r := 768) (.cons (at_car0 zeros (by norm_num)) (.cons r_41_at (.cons r_43_at .nil)))) _))

/-- The first head: what the tiles from 3 on break off. -/
theorem r_61_at : At (kernelRun3_A.sl.r_61 (F := Ideal) c arg3 harg3 arg4 harg4 arg8 arg9 x0 x1) (fun t _ => CA x0 x1 0 3 t) 768 0 := by
  unfold kernelRun3_A.sl.r_61 k3_pay118 k3_pay117
  exact (at_cut (r' := 768) (c' := 0) (at_carry 3 (by norm_num) (at_cut (r' := 768) (c' := 768) r_58_at) (at_extf (at_cut (r' := 768) (c' := 768) r_57_at))))

/-- The first head: what the tiles from 3 on break off. -/
theorem r_63_at : At (kernelRun3_A.sl.r_63 (F := Ideal) c arg3 harg3 arg4 harg4 arg8 arg9 x0 x1) (fun t _ => CA x0 x1 0 3 t) 1024 0 := by
  unfold kernelRun3_A.sl.r_63 k3_pay120 k3_pay117
  exact (at_cut (r' := 1024) (c' := 0) (at_carry 3 (by norm_num) (at_cut (r' := 768) (c' := 768) r_58_at) (at_extf (at_cut (r' := 768) (c' := 768) r_57_at))))

/-- The first head: what all later columns break off, in tile 2. -/
theorem r_79_at : At (kernelRun3_A.sl.r_79 (F := Ideal) c arg3 harg3 arg4 harg4 arg8 arg9 x0 x1) (AF x0 x1 0 2) 512 512 := by
  unfold kernelRun3_A.sl.r_79 k3_pay10 k3_pay142 k3_pay141 k3_pay140 k3_pay139
  exact (at_after 2 (at_ps 2 rfl (at_truncf (at_under (at_keep below zeros (at_cut (r' := 512) (c' := 512) (at_sp (at_base (at_log (at_inc (at_exp2 (at_clamp (at_z rfl (at_cut (r' := 512) (c' := 0) (at_queries at_in)) (at_drop v466_at))))))) (at_z rfl (at_cut (r' := 512) (c' := 0) (at_queries at_in)) (at_drop v466_at))))) (at_cut (r' := 768) (c' := 512) (at_sp (at_base (at_log (at_inc (at_exp2 (at_clamp (at_z rfl (at_cut (r' := 512) (c' := 0) (at_queries at_in)) (at_drop v466_at))))))) (at_z rfl (at_cut (r' := 512) (c' := 0) (at_queries at_in)) (at_drop v466_at)))))) (v32_at 512)) (at_wide (at_pile (r := 512) (.cons (at_car0 zeros (by norm_num)) (.cons r_61_at (.cons r_63_at .nil)))) _))

/-- The first head: what the tiles from 2 on break off. -/
theorem r_82_at : At (kernelRun3_A.sl.r_82 (F := Ideal) c arg3 harg3 arg4 harg4 arg8 arg9 x0 x1) (fun t _ => CA x0 x1 0 2 t) 512 0 := by
  unfold kernelRun3_A.sl.r_82 k3_pay148 k3_pay147
  exact (at_cut (r' := 512) (c' := 0) (at_carry 2 (by norm_num) (at_cut (r' := 512) (c' := 512) r_79_at) (at_extf (at_cut (r' := 512) (c' := 512) r_78_at))))

/-- The first head: what the tiles from 2 on break off. -/
theorem r_84_at : At (kernelRun3_A.sl.r_84 (F := Ideal) c arg3 harg3 arg4 harg4 arg8 arg9 x0 x1) (fun t _ => CA x0 x1 0 2 t) 768 0 := by
  unfold kernelRun3_A.sl.r_84 k3_pay150 k3_pay147
  exact (at_cut (r' := 768) (c' := 0) (at_carry 2 (by norm_num) (at_cut (r' := 512) (c' := 512) r_79_at) (at_extf (at_cut (r' := 512) (c' := 512) r_78_at))))

/-- The first head: what the tiles from 2 on break off, along the columns. -/
theorem r_103_at : At (kernelRun3_A.sl.r_103 (F := Ideal) c arg3 harg3 arg4 harg4 arg8 arg9 x0 x1) (fun t _ => CA x0 x1 0 2 t) 256 256 := by
  unfold kernelRun3_A.sl.r_103 k3_pay10 k3_pay175
  exact (at_wide (at_pile (r := 256) (.cons (at_car0 zeros (by norm_num)) (.cons r_82_at (.cons r_84_at .nil)))) 256)

/-- The first head: what the tiles from 1 on break off. -/
theorem r_104_at : At (kernelRun3_A.sl.r_104 (F := Ideal) c arg3 harg3 arg4 harg4 arg8 arg9 x0 x1) (fun t _ => CA x0 x1 0 1 t) 256 0 := by
  unfold kernelRun3_A.sl.r_104 k3_pay179 k3_pay178 k3_pay176
  exact (at_cut (r' := 256) (c' := 0) (at_carry 1 (by norm_num) (at_cut (r' := 256) (c' := 256) (at_after 1 r_102_at r_103_at)) (at_extf (at_cut (r' := 256) (c' := 256) r_101_at))))

/-- The first head: what the tiles from 1 on break off. -/
theorem r_106_at : At (kernelRun3_A.sl.r_106 (F := Ideal) c arg3 harg3 arg4 harg4 arg8 arg9 x0 x1) (fun t _ => CA x0 x1 0 1 t) 512 0 := by
  unfold kernelRun3_A.sl.r_106 k3_pay181 k3_pay178 k3_pay176
  exact (at_cut (r' := 512) (c' := 0) (at_carry 1 (by norm_num) (at_cut (r' := 256) (c' := 256) (at_after 1 r_102_at r_103_at)) (at_extf (at_cut (r' := 256) (c' := 256) r_101_at))))

/-- The first head: what the tiles from 1 on break off. -/
theorem r_120_at : At (kernelRun3_A.sl.r_120 (F := Ideal) c arg3 harg3 arg4 harg4 arg8 arg9 x0 x1) (fun t _ => CA x0 x1 0 1 t) 0 0 := by
  unfold kernelRun3_A.sl.r_120 k3_pay10 k3_pay200
  exact (at_pile (r := 0) (.cons (at_car0 zeros (by norm_num)) (.cons r_104_at (.cons r_106_at .nil))))

/-- The first head: weighted sums of the tiles from 7 on. -/
theorem r_1_at : At (kernelRun3_A.sl.r_1 (F := Ideal) c arg3 harg3 arg4 harg4 arg5 harg5 arg8 arg9 x0 x1 x2) (AC x0 x1 x2 0 7) 1792 0 := by
  unfold kernelRun3_A.sl.r_1 k3_pay18 k3_pay12 k3_pay14 k3_pay15 k3_pay17 k3_pay16 k3_pay10
  exact (at_acc 7 (by norm_num) (at_acc0 zeros (by norm_num)) (at_sum 7 rfl (at_truncf (at_keep below zeros (at_w 7 (at_sub (at_sub (at_z rfl (at_cut (r' := 1792) (c' := 0) (at_queries at_in)) (at_drop v16_at)) (at_sp (at_base (at_log (at_inc (at_exp2 (at_clamp (at_z rfl (at_cut (r' := 1792) (c' := 0) (at_queries at_in)) (at_drop v16_at))))))) (at_z rfl (at_cut (r' := 1792) (c' := 0) (at_queries at_in)) (at_drop v16_at)))) (at_after 7 (at_ps 7 rfl (at_truncf (at_keep below zeros (at_sp (at_base (at_log (at_inc (at_exp2 (at_clamp (at_z rfl (at_cut (r' := 1792) (c' := 0) (at_queries at_in)) (at_drop v16_at))))))) (at_z rfl (at_cut (r' := 1792) (c' := 0) (at_queries at_in)) (at_drop v16_at))))) (v32_at 1792)) (at_wide (at_car0 (k := 8) zeros (by norm_num)) _)))))) (at_drop at_in)))

/-- The first head: weighted sums of the tiles from 7 on. -/
theorem r_7_at : At (kernelRun3_A.sl.r_7 (F := Ideal) c arg3 harg3 arg4 harg4 arg5 harg5 arg8 arg9 x0 x1 x2) (AC x0 x1 x2 0 7) 1536 0 := by
  unfold kernelRun3_A.sl.r_7 k3_pay12 k3_pay28
  exact (at_pile (r := 1536) (.cons (at_acc0 zeros (by norm_num)) (.cons r_1_at .nil)))

/-- The first head: weighted sums of the tiles from 6 on. -/
theorem r_10_at : At (kernelRun3_A.sl.r_10 (F := Ideal) c arg3 harg3 arg4 harg4 arg5 harg5 arg8 arg9 x0 x1 x2) (AC x0 x1 x2 0 6) 1536 0 := by
  unfold kernelRun3_A.sl.r_10 k3_pay30 k3_pay37 k3_pay34 k3_pay31 k3_pay33 k3_pay32
  exact (at_cut (r' := 1536) (c' := 0) (at_acc 6 (by norm_num) r_7_at (at_sum 6 rfl (at_truncf (at_under (at_keep below zeros (at_cut (r' := 1536) (c' := 1536) (at_w 6 (at_sub (at_sub r_8_at (at_sp (at_base (at_log (at_inc (at_exp2 (at_clamp r_8_at))))) r_8_at)) (at_after 6 (at_ps 6 rfl (at_truncf (at_under (at_keep below zeros (at_cut (r' := 1536) (c' := 1536) (at_sp (at_base (at_log (at_inc (at_exp2 (at_clamp r_8_at))))) r_8_at))) (at_cut (r' := 1792) (c' := 1536) (at_sp (at_base (at_log (at_inc (at_exp2 (at_clamp r_8_at))))) r_8_at)))) (v32_at 1536)) (at_wide r_6_at _)))))) (at_cut (r' := 1792) (c' := 1536) (at_w 6 (at_sub (at_sub r_8_at (at_sp (at_base (at_log (at_inc (at_exp2 (at_clamp r_8_at))))) r_8_at)) (at_after 6 (at_ps 6 rfl (at_truncf (at_under (at_keep below zeros (at_cut (r' := 1536) (c' := 1536) (at_sp (at_base (at_log (at_inc (at_exp2 (at_clamp r_8_at))))) r_8_at))) (at_cut (r' := 1792) (c' := 1536) (at_sp (at_base (at_log (at_inc (at_exp2 (at_clamp r_8_at))))) r_8_at)))) (v32_at 1536)) (at_wide r_6_at _))))))) (at_drop at_in))))

/-- The first head: weighted sums of the tiles from 6 on. -/
theorem r_12_at : At (kernelRun3_A.sl.r_12 (F := Ideal) c arg3 harg3 arg4 harg4 arg5 harg5 arg8 arg9 x0 x1 x2) (AC x0 x1 x2 0 6) 1792 0 := by
  unfold kernelRun3_A.sl.r_12 k3_pay30 k3_pay39 k3_pay34 k3_pay31 k3_pay33 k3_pay32
  exact (at_cut (r' := 1792) (c' := 0) (at_acc 6 (by norm_num) r_7_at (at_sum 6 rfl (at_truncf (at_under (at_keep below zeros (at_cut (r' := 1536) (c' := 1536) (at_w 6 (at_sub (at_sub r_8_at (at_sp (at_base (at_log (at_inc (at_exp2 (at_clamp r_8_at))))) r_8_at)) (at_after 6 (at_ps 6 rfl (at_truncf (at_under (at_keep below zeros (at_cut (r' := 1536) (c' := 1536) (at_sp (at_base (at_log (at_inc (at_exp2 (at_clamp r_8_at))))) r_8_at))) (at_cut (r' := 1792) (c' := 1536) (at_sp (at_base (at_log (at_inc (at_exp2 (at_clamp r_8_at))))) r_8_at)))) (v32_at 1536)) (at_wide r_6_at _)))))) (at_cut (r' := 1792) (c' := 1536) (at_w 6 (at_sub (at_sub r_8_at (at_sp (at_base (at_log (at_inc (at_exp2 (at_clamp r_8_at))))) r_8_at)) (at_after 6 (at_ps 6 rfl (at_truncf (at_under (at_keep below zeros (at_cut (r' := 1536) (c' := 1536) (at_sp (at_base (at_log (at_inc (at_exp2 (at_clamp r_8_at))))) r_8_at))) (at_cut (r' := 1792) (c' := 1536) (at_sp (at_base (at_log (at_inc (at_exp2 (at_clamp r_8_at))))) r_8_at)))) (v32_at 1536)) (at_wide r_6_at _))))))) (at_drop at_in))))

/-- The first head: weighted sums of the tiles from 6 on. -/
theorem r_22_at : At (kernelRun3_A.sl.r_22 (F := Ideal) c arg3 harg3 arg4 harg4 arg5 harg5 arg8 arg9 x0 x1 x2) (AC x0 x1 x2 0 6) 1280 0 := by
  unfold kernelRun3_A.sl.r_22 k3_pay12 k3_pay54
  exact (at_pile (r := 1280) (.cons (at_acc0 zeros (by norm_num)) (.cons r_10_at (.cons r_12_at .nil))))

/-- The first head: weighted sums of the tiles from 5 on. -/
theorem r_25_at : At (kernelRun3_A.sl.r_25 (F := Ideal) c arg3 harg3 arg4 harg4 arg5 harg5 arg8 arg9 x0 x1 x2) (AC x0 x1 x2 0 5) 1280 0 := by
  unfold kernelRun3_A.sl.r_25 k3_pay63 k3_pay60 k3_pay56 k3_pay57 k3_pay59 k3_pay58
  exact (at_cut (r' := 1280) (c' := 0) (at_acc 5 (by norm_num) r_22_at (at_sum 5 rfl (at_truncf (at_under (at_keep below zeros (at_cut (r' := 1280) (c' := 1280) (at_w 5 (at_sub (at_sub (at_z rfl r_20_at r_23_at) (at_sp (at_base (at_log (at_inc (at_exp2 (at_clamp (at_z rfl r_20_at r_23_at)))))) (at_z rfl r_20_at r_23_at))) (at_after 5 (at_ps 5 rfl (at_truncf (at_under (at_keep below zeros (at_cut (r' := 1280) (c' := 1280) (at_sp (at_base (at_log (at_inc (at_exp2 (at_clamp (at_z rfl r_20_at r_23_at)))))) (at_z rfl r_20_at r_23_at)))) (at_cut (r' := 1536) (c' := 1280) (at_sp (at_base (at_log (at_inc (at_exp2 (at_clamp (at_z rfl r_20_at r_23_at)))))) (at_z rfl r_20_at r_23_at))))) (v32_at 1280)) (at_wide r_21_at _)))))) (at_cut (r' := 1536) (c' := 1280) (at_w 5 (at_sub (at_sub (at_z rfl r_20_at r_23_at) (at_sp (at_base (at_log (at_inc (at_exp2 (at_clamp (at_z rfl r_20_at r_23_at)))))) (at_z rfl r_20_at r_23_at))) (at_after 5 (at_ps 5 rfl (at_truncf (at_under (at_keep below zeros (at_cut (r' := 1280) (c' := 1280) (at_sp (at_base (at_log (at_inc (at_exp2 (at_clamp (at_z rfl r_20_at r_23_at)))))) (at_z rfl r_20_at r_23_at)))) (at_cut (r' := 1536) (c' := 1280) (at_sp (at_base (at_log (at_inc (at_exp2 (at_clamp (at_z rfl r_20_at r_23_at)))))) (at_z rfl r_20_at r_23_at))))) (v32_at 1280)) (at_wide r_21_at _))))))) (at_drop at_in))))

/-- The first head: weighted sums of the tiles from 5 on. -/
theorem r_27_at : At (kernelRun3_A.sl.r_27 (F := Ideal) c arg3 harg3 arg4 harg4 arg5 harg5 arg8 arg9 x0 x1 x2) (AC x0 x1 x2 0 5) 1536 0 := by
  unfold kernelRun3_A.sl.r_27 k3_pay65 k3_pay60 k3_pay56 k3_pay57 k3_pay59 k3_pay58
  exact (at_cut (r' := 1536) (c' := 0) (at_acc 5 (by norm_num) r_22_at (at_sum 5 rfl (at_truncf (at_under (at_keep below zeros (at_cut (r' := 1280) (c' := 1280) (at_w 5 (at_sub (at_sub (at_z rfl r_20_at r_23_at) (at_sp (at_base (at_log (at_inc (at_exp2 (at_clamp (at_z rfl r_20_at r_23_at)))))) (at_z rfl r_20_at r_23_at))) (at_after 5 (at_ps 5 rfl (at_truncf (at_under (at_keep below zeros (at_cut (r' := 1280) (c' := 1280) (at_sp (at_base (at_log (at_inc (at_exp2 (at_clamp (at_z rfl r_20_at r_23_at)))))) (at_z rfl r_20_at r_23_at)))) (at_cut (r' := 1536) (c' := 1280) (at_sp (at_base (at_log (at_inc (at_exp2 (at_clamp (at_z rfl r_20_at r_23_at)))))) (at_z rfl r_20_at r_23_at))))) (v32_at 1280)) (at_wide r_21_at _)))))) (at_cut (r' := 1536) (c' := 1280) (at_w 5 (at_sub (at_sub (at_z rfl r_20_at r_23_at) (at_sp (at_base (at_log (at_inc (at_exp2 (at_clamp (at_z rfl r_20_at r_23_at)))))) (at_z rfl r_20_at r_23_at))) (at_after 5 (at_ps 5 rfl (at_truncf (at_under (at_keep below zeros (at_cut (r' := 1280) (c' := 1280) (at_sp (at_base (at_log (at_inc (at_exp2 (at_clamp (at_z rfl r_20_at r_23_at)))))) (at_z rfl r_20_at r_23_at)))) (at_cut (r' := 1536) (c' := 1280) (at_sp (at_base (at_log (at_inc (at_exp2 (at_clamp (at_z rfl r_20_at r_23_at)))))) (at_z rfl r_20_at r_23_at))))) (v32_at 1280)) (at_wide r_21_at _))))))) (at_drop at_in))))

/-- The first head: weighted sums of the tiles from 4 on. -/
theorem r_42_at : At (kernelRun3_A.sl.r_42 (F := Ideal) c arg3 harg3 arg4 harg4 arg5 harg5 arg8 arg9 x0 x1 x2) (AC x0 x1 x2 0 4) 1024 0 := by
  unfold kernelRun3_A.sl.r_42 k3_pay10 k3_pay12 k3_pay90 k3_pay87 k3_pay83 k3_pay84 k3_pay86 k3_pay85
  exact (at_cut (r' := 1024) (c' := 0) (at_acc 4 (by norm_num) (at_pile (r := 1024) (.cons (at_acc0 zeros (by norm_num)) (.cons r_25_at (.cons r_27_at .nil)))) (at_sum 4 rfl (at_truncf (at_under (at_keep below zeros (at_cut (r' := 1024) (c' := 1024) (at_w 4 (at_sub (at_sub (at_z rfl (at_cut (r' := 1024) (c' := 0) (at_queries at_in)) (at_drop v274_at)) (at_sp (at_base (at_log (at_inc (at_exp2 (at_clamp (at_z rfl (at_cut (r' := 1024) (c' := 0) (at_queries at_in)) (at_drop v274_at))))))) (at_z rfl (at_cut (r' := 1024) (c' := 0) (at_queries at_in)) (at_drop v274_at)))) (at_after 4 (at_ps 4 rfl (at_truncf (at_under (at_keep below zeros (at_cut (r' := 1024) (c' := 1024) (at_sp (at_base (at_log (at_inc (at_exp2 (at_clamp (at_z rfl (at_cut (r' := 1024) (c' := 0) (at_queries at_in)) (at_drop v274_at))))))) (at_z rfl (at_cut (r' := 1024) (c' := 0) (at_queries at_in)) (at_drop v274_at))))) (at_cut (r' := 1280) (c' := 1024) (at_sp (at_base (at_log (at_inc (at_exp2 (at_clamp (at_z rfl (at_cut (r' := 1024) (c' := 0) (at_queries at_in)) (at_drop v274_at))))))) (at_z rfl (at_cut (r' := 1024) (c' := 0) (at_queries at_in)) (at_drop v274_at)))))) (v32_at 1024)) (at_wide (at_pile (r := 1024) (.cons (at_car0 zeros (by norm_num)) (.cons r_24_at (.cons r_26_at .nil)))) _)))))) (at_cut (r' := 1280) (c' := 1024) (at_w 4 (at_sub (at_sub (at_z rfl (at_cut (r' := 1024) (c' := 0) (at_queries at_in)) (at_drop v274_at)) (at_sp (at_base (at_log (at_inc (at_exp2 (at_clamp (at_z rfl (at_cut (r' := 1024) (c' := 0) (at_queries at_in)) (at_drop v274_at))))))) (at_z rfl (at_cut (r' := 1024) (c' := 0) (at_queries at_in)) (at_drop v274_at)))) (at_after 4 (at_ps 4 rfl (at_truncf (at_under (at_keep below zeros (at_cut (r' := 1024) (c' := 1024) (at_sp (at_base (at_log (at_inc (at_exp2 (at_clamp (at_z rfl (at_cut (r' := 1024) (c' := 0) (at_queries at_in)) (at_drop v274_at))))))) (at_z rfl (at_cut (r' := 1024) (c' := 0) (at_queries at_in)) (at_drop v274_at))))) (at_cut (r' := 1280) (c' := 1024) (at_sp (at_base (at_log (at_inc (at_exp2 (at_clamp (at_z rfl (at_cut (r' := 1024) (c' := 0) (at_queries at_in)) (at_drop v274_at))))))) (at_z rfl (at_cut (r' := 1024) (c' := 0) (at_queries at_in)) (at_drop v274_at)))))) (v32_at 1024)) (at_wide (at_pile (r := 1024) (.cons (at_car0 zeros (by norm_num)) (.cons r_24_at (.cons r_26_at .nil)))) _))))))) (at_drop at_in))))

/-- The first head: weighted sums of the tiles from 4 on. -/
theorem r_39_at : At (kernelRun3_A.sl.r_39 (F := Ideal) c arg3 harg3 arg4 harg4 arg5 harg5 arg8 arg9 x0 x1 x2) (AC x0 x1 x2 0 4) 1024 0 := by
  unfold kernelRun3_A.sl.r_39 k3_pay10 k3_pay12 k3_pay87 k3_pay83 k3_pay84 k3_pay86 k3_pay85
  exact (at_acc 4 (by norm_num) (at_pile (r := 1024) (.cons (at_acc0 zeros (by norm_num)) (.cons r_25_at (.cons r_27_at .nil)))) (at_sum 4 rfl (at_truncf (at_under (at_keep below zeros (at_cut (r' := 1024) (c' := 1024) (at_w 4 (at_sub (at_sub (at_z rfl (at_cut (r' := 1024) (c' := 0) (at_queries at_in)) (at_drop v274_at)) (at_sp (at_base (at_log (at_inc (at_exp2 (at_clamp (at_z rfl (at_cut (r' := 1024) (c' := 0) (at_queries at_in)) (at_drop v274_at))))))) (at_z rfl (at_cut (r' := 1024) (c' := 0) (at_queries at_in)) (at_drop v274_at)))) (at_after 4 (at_ps 4 rfl (at_truncf (at_under (at_keep below zeros (at_cut (r' := 1024) (c' := 1024) (at_sp (at_base (at_log (at_inc (at_exp2 (at_clamp (at_z rfl (at_cut (r' := 1024) (c' := 0) (at_queries at_in)) (at_drop v274_at))))))) (at_z rfl (at_cut (r' := 1024) (c' := 0) (at_queries at_in)) (at_drop v274_at))))) (at_cut (r' := 1280) (c' := 1024) (at_sp (at_base (at_log (at_inc (at_exp2 (at_clamp (at_z rfl (at_cut (r' := 1024) (c' := 0) (at_queries at_in)) (at_drop v274_at))))))) (at_z rfl (at_cut (r' := 1024) (c' := 0) (at_queries at_in)) (at_drop v274_at)))))) (v32_at 1024)) (at_wide (at_pile (r := 1024) (.cons (at_car0 zeros (by norm_num)) (.cons r_24_at (.cons r_26_at .nil)))) _)))))) (at_cut (r' := 1280) (c' := 1024) (at_w 4 (at_sub (at_sub (at_z rfl (at_cut (r' := 1024) (c' := 0) (at_queries at_in)) (at_drop v274_at)) (at_sp (at_base (at_log (at_inc (at_exp2 (at_clamp (at_z rfl (at_cut (r' := 1024) (c' := 0) (at_queries at_in)) (at_drop v274_at))))))) (at_z rfl (at_cut (r' := 1024) (c' := 0) (at_queries at_in)) (at_drop v274_at)))) (at_after 4 (at_ps 4 rfl (at_truncf (at_under (at_keep below zeros (at_cut (r' := 1024) (c' := 1024) (at_sp (at_base (at_log (at_inc (at_exp2 (at_clamp (at_z rfl (at_cut (r' := 1024) (c' := 0) (at_queries at_in)) (at_drop v274_at))))))) (at_z rfl (at_cut (r' := 1024) (c' := 0) (at_queries at_in)) (at_drop v274_at))))) (at_cut (r' := 1280) (c' := 1024) (at_sp (at_base (at_log (at_inc (at_exp2 (at_clamp (at_z rfl (at_cut (r' := 1024) (c' := 0) (at_queries at_in)) (at_drop v274_at))))))) (at_z rfl (at_cut (r' := 1024) (c' := 0) (at_queries at_in)) (at_drop v274_at)))))) (v32_at 1024)) (at_wide (at_pile (r := 1024) (.cons (at_car0 zeros (by norm_num)) (.cons r_24_at (.cons r_26_at .nil)))) _))))))) (at_drop at_in)))

/-- The first head: weighted sums of the tiles from 4 on. -/
theorem r_44_at : At (kernelRun3_A.sl.r_44 (F := Ideal) c arg3 harg3 arg4 harg4 arg5 harg5 arg8 arg9 x0 x1 x2) (AC x0 x1 x2 0 4) 1280 0 := by
  unfold kernelRun3_A.sl.r_44 k3_pay92
  exact (at_cut (r' := 1280) (c' := 0) r_39_at)

/-- The first head: weighted sums of the tiles from 4 on. -/
theorem r_56_at : At (kernelRun3_A.sl.r_56 (F := Ideal) c arg3 harg3 arg4 harg4 arg5 harg5 arg8 arg9 x0 x1 x2) (AC x0 x1 x2 0 4) 768 0 := by
  unfold kernelRun3_A.sl.r_56 k3_pay12 k3_pay109
  exact (at_pile (r := 768) (.cons (at_acc0 zeros (by norm_num)) (.cons r_42_at (.cons r_44_at .nil))))

/-- The first head: weights of tile 3. -/
theorem r_59_at : At (kernelRun3_A.sl.r_59 (F := Ideal) c arg3 harg3 arg4 harg4 arg8 arg9 x0 x1) (WM x0 x1 0 3) 768 768 := by
  unfold kernelRun3_A.sl.r_59 k3_pay10 k3_pay114 k3_pay110 k3_pay111 k3_pay113 k3_pay112
  exact (at_truncf (at_under (at_keep below zeros (at_cut (r' := 768) (c' := 768) (at_w 3 (at_sub (at_sub (at_z rfl (at_cut (r' := 768) (c' := 0) (at_queries at_in)) (at_drop v370_at)) (at_sp (at_base (at_log (at_inc (at_exp2 (at_clamp (at_z rfl (at_cut (r' := 768) (c' := 0) (at_queries at_in)) (at_drop v370_at))))))) (at_z rfl (at_cut (r' := 768) (c' := 0) (at_queries at_in)) (at_drop v370_at)))) (at_after 3 (at_ps 3 rfl (at_truncf (at_under (at_keep below zeros (at_cut (r' := 768) (c' := 768) (at_sp (at_base (at_log (at_inc (at_exp2 (at_clamp (at_z rfl (at_cut (r' := 768) (c' := 0) (at_queries at_in)) (at_drop v370_at))))))) (at_z rfl (at_cut (r' := 768) (c' := 0) (at_queries at_in)) (at_drop v370_at))))) (at_cut (r' := 1024) (c' := 768) (at_sp (at_base (at_log (at_inc (at_exp2 (at_clamp (at_z rfl (at_cut (r' := 768) (c' := 0) (at_queries at_in)) (at_drop v370_at))))))) (at_z rfl (at_cut (r' := 768) (c' := 0) (at_queries at_in)) (at_drop v370_at)))))) (v32_at 768)) (at_wide (at_pile (r := 768) (.cons (at_car0 zeros (by norm_num)) (.cons r_41_at (.cons r_43_at .nil)))) _)))))) (at_cut (r' := 1024) (c' := 768) (at_w 3 (at_sub (at_sub (at_z rfl (at_cut (r' := 768) (c' := 0) (at_queries at_in)) (at_drop v370_at)) (at_sp (at_base (at_log (at_inc (at_exp2 (at_clamp (at_z rfl (at_cut (r' := 768) (c' := 0) (at_queries at_in)) (at_drop v370_at))))))) (at_z rfl (at_cut (r' := 768) (c' := 0) (at_queries at_in)) (at_drop v370_at)))) (at_after 3 (at_ps 3 rfl (at_truncf (at_under (at_keep below zeros (at_cut (r' := 768) (c' := 768) (at_sp (at_base (at_log (at_inc (at_exp2 (at_clamp (at_z rfl (at_cut (r' := 768) (c' := 0) (at_queries at_in)) (at_drop v370_at))))))) (at_z rfl (at_cut (r' := 768) (c' := 0) (at_queries at_in)) (at_drop v370_at))))) (at_cut (r' := 1024) (c' := 768) (at_sp (at_base (at_log (at_inc (at_exp2 (at_clamp (at_z rfl (at_cut (r' := 768) (c' := 0) (at_queries at_in)) (at_drop v370_at))))))) (at_z rfl (at_cut (r' := 768) (c' := 0) (at_queries at_in)) (at_drop v370_at)))))) (v32_at 768)) (at_wide (at_pile (r := 768) (.cons (at_car0 zeros (by norm_num)) (.cons r_41_at (.cons r_43_at .nil)))) _)))))))

/-- Rows of the values. -/
theorem r_60_at : At (kernelRun3_A.sl.r_60 (F := Ideal) c arg5 harg5 x2) (rd x2) 768 0 := by
  unfold kernelRun3_A.sl.r_60 k3_pay115
  exact (at_drop at_in)

/-- The first head: weighted sums of the tiles from 3 on. -/
theorem r_62_at : At (kernelRun3_A.sl.r_62 (F := Ideal) c arg3 harg3 arg4 harg4 arg5 harg5 arg8 arg9 x0 x1 x2) (AC x0 x1 x2 0 3) 768 0 := by
  unfold kernelRun3_A.sl.r_62 k3_pay119 k3_pay116
  exact (at_cut (r' := 768) (c' := 0) (at_acc 3 (by norm_num) r_56_at (at_sum 3 rfl r_59_at r_60_at)))

/-- The first head: weighted sums of the tiles from 3 on. -/
theorem r_64_at : At (kernelRun3_A.sl.r_64 (F := Ideal) c arg3 harg3 arg4 harg4 arg5 harg5 arg8 arg9 x0 x1 x2) (AC x0 x1 x2 0 3) 1024 0 := by
  unfold kernelRun3_A.sl.r_64 k3_pay121 k3_pay116
  exact (at_cut (r' := 1024) (c' := 0) (at_acc 3 (by norm_num) r_56_at (at_sum 3 rfl r_59_at r_60_at)))

/-- The first head: weighted sums of the tiles from 3 on. -/
theorem r_77_at : At (kernelRun3_A.sl.r_77 (F := Ideal) c arg3 harg3 arg4 harg4 arg5 harg5 arg8 arg9 x0 x1 x2) (AC x0 x1 x2 0 3) 512 0 := by
  unfold kernelRun3_A.sl.r_77 k3_pay12 k3_pay138
  exact (at_pile (r := 512) (.cons (at_acc0 zeros (by norm_num)) (.cons r_62_at (.cons r_64_at .nil))))

/-- The first head: weights of tile 2. -/
theorem r_80_at : At (kernelRun3_A.sl.r_80 (F := Ideal) c arg3 harg3 arg4 harg4 arg8 arg9 x0 x1) (WM x0 x1 0 2) 512 512 := by
  unfold kernelRun3_A.sl.r_80 k3_pay10 k3_pay144 k3_pay143 k3_pay139 k3_pay140 k3_pay142 k3_pay141
  exact (at_keep below zeros (at_cut (r' := 512) (c' := 512) (at_w 2 (at_sub (at_sub (at_z rfl (at_cut (r' := 512) (c' := 0) (at_queries at_in)) (at_drop v466_at)) (at_sp (at_base (at_log (at_inc (at_exp2 (at_clamp (at_z rfl (at_cut (r' := 512) (c' := 0) (at_queries at_in)) (at_drop v466_at))))))) (at_z rfl (at_cut (r' := 512) (c' := 0) (at_queries at_in)) (at_drop v466_at)))) (at_after 2 (at_ps 2 rfl (at_truncf (at_under (at_keep below zeros (at_cut (r' := 512) (c' := 512) (at_sp (at_base (at_log (at_inc (at_exp2 (at_clamp (at_z rfl (at_cut (r' := 512) (c' := 0) (at_queries at_in)) (at_drop v466_at))))))) (at_z rfl (at_cut (r' := 512) (c' := 0) (at_queries at_in)) (at_drop v466_at))))) (at_cut (r' := 768) (c' := 512) (at_sp (at_base (at_log (at_inc (at_exp2 (at_clamp (at_z rfl (at_cut (r' := 512) (c' := 0) (at_queries at_in)) (at_drop v466_at))))))) (at_z rfl (at_cut (r' := 512) (c' := 0) (at_queries at_in)) (at_drop v466_at)))))) (v32_at 512)) (at_wide (at_pile (r := 512) (.cons (at_car0 zeros (by norm_num)) (.cons r_61_at (.cons r_63_at .nil)))) _))))))

/-- The first head: weights of tile 2 before the mask. -/
theorem r_81_at : At (kernelRun3_A.sl.r_81 (F := Ideal) c arg3 harg3 arg4 harg4 arg8 arg9 x0 x1) (WX x0 x1 0 2) 768 512 := by
  unfold kernelRun3_A.sl.r_81 k3_pay10 k3_pay145 k3_pay143 k3_pay139 k3_pay140 k3_pay142 k3_pay141
  exact (at_cut (r' := 768) (c' := 512) (at_w 2 (at_sub (at_sub (at_z rfl (at_cut (r' := 512) (c' := 0) (at_queries at_in)) (at_drop v466_at)) (at_sp (at_base (at_log (at_inc (at_exp2 (at_clamp (at_z rfl (at_cut (r' := 512) (c' := 0) (at_queries at_in)) (at_drop v466_at))))))) (at_z rfl (at_cut (r' := 512) (c' := 0) (at_queries at_in)) (at_drop v466_at)))) (at_after 2 (at_ps 2 rfl (at_truncf (at_under (at_keep below zeros (at_cut (r' := 512) (c' := 512) (at_sp (at_base (at_log (at_inc (at_exp2 (at_clamp (at_z rfl (at_cut (r' := 512) (c' := 0) (at_queries at_in)) (at_drop v466_at))))))) (at_z rfl (at_cut (r' := 512) (c' := 0) (at_queries at_in)) (at_drop v466_at))))) (at_cut (r' := 768) (c' := 512) (at_sp (at_base (at_log (at_inc (at_exp2 (at_clamp (at_z rfl (at_cut (r' := 512) (c' := 0) (at_queries at_in)) (at_drop v466_at))))))) (at_z rfl (at_cut (r' := 512) (c' := 0) (at_queries at_in)) (at_drop v466_at)))))) (v32_at 512)) (at_wide (at_pile (r := 512) (.cons (at_car0 zeros (by norm_num)) (.cons r_61_at (.cons r_63_at .nil)))) _)))))

/-- The first head: weighted sums of the tiles from 2 on. -/
theorem r_83_at : At (kernelRun3_A.sl.r_83 (F := Ideal) c arg3 harg3 arg4 harg4 arg5 harg5 arg8 arg9 x0 x1 x2) (AC x0 x1 x2 0 2) 512 0 := by
  unfold kernelRun3_A.sl.r_83 k3_pay149 k3_pay146
  exact (at_cut (r' := 512) (c' := 0) (at_acc 2 (by norm_num) r_77_at (at_sum 2 rfl (at_truncf (at_under r_80_at r_81_at)) (at_drop at_in))))

/-- The first head: weighted sums of the tiles from 2 on. -/
theorem r_85_at : At (kernelRun3_A.sl.r_85 (F := Ideal) c arg3 harg3 arg4 harg4 arg5 harg5 arg8 arg9 x0 x1 x2) (AC x0 x1 x2 0 2) 768 0 := by
  unfold kernelRun3_A.sl.r_85 k3_pay151 k3_pay146
  exact (at_cut (r' := 768) (c' := 0) (at_acc 2 (by norm_num) r_77_at (at_sum 2 rfl (at_truncf (at_under r_80_at r_81_at)) (at_drop at_in))))

/-- The first head: weighted sums of the tiles from 2 on. -/
theorem r_99_at : At (kernelRun3_A.sl.r_99 (F := Ideal) c arg3 harg3 arg4 harg4 arg5 harg5 arg8 arg9 x0 x1 x2) (AC x0 x1 x2 0 2) 256 0 := by
  unfold kernelRun3_A.sl.r_99 k3_pay12 k3_pay169
  exact (at_pile (r := 256) (.cons (at_acc0 zeros (by norm_num)) (.cons r_83_at (.cons r_85_at .nil))))

/-- Scores of the first head less their softplus. -/
theorem r_100_at : At (kernelRun3_A.sl.r_100 (F := Ideal) c arg3 harg3 arg4 harg4 arg8 x0 x1) (fun t s => Z x0 x1 0 t s - SP x0 x1 0 t s) 256 256 := by
  unfold kernelRun3_A.sl.r_100 k3_pay172 k3_pay170 k3_pay171
  exact (at_sub (at_z rfl (at_cut (r' := 256) (c' := 0) (at_queries at_in)) (at_drop v562_at)) (at_sp (at_base (at_log (at_inc (at_exp2 (at_clamp (at_z rfl (at_cut (r' := 256) (c' := 0) (at_queries at_in)) (at_drop v562_at))))))) (at_z rfl (at_cut (r' := 256) (c' := 0) (at_queries at_in)) (at_drop v562_at))))

/-- The first head: weighted sums of the tiles from 1 on. -/
theorem r_105_at : At (kernelRun3_A.sl.r_105 (F := Ideal) c arg3 harg3 arg4 harg4 arg5 harg5 arg8 arg9 x0 x1 x2) (AC x0 x1 x2 0 1) 256 0 := by
  unfold kernelRun3_A.sl.r_105 k3_pay180 k3_pay177 k3_pay176
  exact (at_cut (r' := 256) (c' := 0) (at_acc 1 (by norm_num) r_99_at (at_sum 1 rfl (at_truncf (at_under (at_keep below zeros (at_cut (r' := 256) (c' := 256) (at_w 1 (at_sub r_100_at (at_after 1 r_102_at r_103_at))))) (at_cut (r' := 512) (c' := 256) (at_w 1 (at_sub r_100_at (at_after 1 r_102_at r_103_at)))))) (at_drop at_in))))

/-- The first head: weighted sums of the tiles from 1 on. -/
theorem r_107_at : At (kernelRun3_A.sl.r_107 (F := Ideal) c arg3 harg3 arg4 harg4 arg5 harg5 arg8 arg9 x0 x1 x2) (AC x0 x1 x2 0 1) 512 0 := by
  unfold kernelRun3_A.sl.r_107 k3_pay182 k3_pay177 k3_pay176
  exact (at_cut (r' := 512) (c' := 0) (at_acc 1 (by norm_num) r_99_at (at_sum 1 rfl (at_truncf (at_under (at_keep below zeros (at_cut (r' := 256) (c' := 256) (at_w 1 (at_sub r_100_at (at_after 1 r_102_at r_103_at))))) (at_cut (r' := 512) (c' := 256) (at_w 1 (at_sub r_100_at (at_after 1 r_102_at r_103_at)))))) (at_drop at_in))))

/-- The first head: weighted sums of the tiles from 1 on. -/
theorem r_121_at : At (kernelRun3_A.sl.r_121 (F := Ideal) c arg3 harg3 arg4 harg4 arg5 harg5 arg8 arg9 x0 x1 x2) (AC x0 x1 x2 0 1) 0 0 := by
  unfold kernelRun3_A.sl.r_121 k3_pay12 k3_pay201
  exact (at_pile (r := 0) (.cons (at_acc0 zeros (by norm_num)) (.cons r_105_at (.cons r_107_at .nil))))

/-- A tile of the first head's keys. -/
theorem v658_at : At1 (kernelRun3_A.sl.v658 (F := Ideal) c arg4 harg4 arg8 x1) (KX x1 0) 0 0 := load_prev (by dsimp only; decide) (at_keys0 at_in)

/-- Scores of the first head less their softplus. -/
theorem r_122_at : At (kernelRun3_A.sl.r_122 (F := Ideal) c arg3 harg3 arg4 harg4 arg8 x0 x1) (fun t s => Z x0 x1 0 t s - SP x0 x1 0 t s) 0 0 := by
  unfold kernelRun3_A.sl.r_122 k3_pay204 k3_pay202 k3_pay203
  exact (at_sub (at_z rfl (at_cut (r' := 0) (c' := 0) (at_queries at_in)) (at_drop v658_at)) (at_sp (at_base (at_log (at_inc (at_exp2 (at_clamp (at_z rfl (at_cut (r' := 0) (c' := 0) (at_queries at_in)) (at_drop v658_at))))))) (at_z rfl (at_cut (r' := 0) (c' := 0) (at_queries at_in)) (at_drop v658_at))))

/-- Softplus of the first head's scores below the diagonal. -/
theorem r_123_at : At (kernelRun3_A.sl.r_123 (F := Ideal) c arg3 harg3 arg4 harg4 arg8 x0 x1) (SM x0 x1 0) 0 0 := by
  unfold kernelRun3_A.sl.r_123 k3_pay205 k3_pay203 k3_pay202
  exact (at_keep below zeros (at_cut (r' := 0) (c' := 0) (at_sp (at_base (at_log (at_inc (at_exp2 (at_clamp (at_z rfl (at_cut (r' := 0) (c' := 0) (at_queries at_in)) (at_drop v658_at))))))) (at_z rfl (at_cut (r' := 0) (c' := 0) (at_queries at_in)) (at_drop v658_at)))))

/-- Softplus of the first head's scores. -/
theorem r_124_at : At (kernelRun3_A.sl.r_124 (F := Ideal) c arg3 harg3 arg4 harg4 arg8 x0 x1) (SP x0 x1 0) 256 0 := by
  unfold kernelRun3_A.sl.r_124 k3_pay206 k3_pay203 k3_pay202
  exact (at_cut (r' := 256) (c' := 0) (at_sp (at_base (at_log (at_inc (at_exp2 (at_clamp (at_z rfl (at_cut (r' := 0) (c' := 0) (at_queries at_in)) (at_drop v658_at))))))) (at_z rfl (at_cut (r' := 0) (c' := 0) (at_queries at_in)) (at_drop v658_at))))

/-- The first head: weighted sums of the tiles from 0 on. -/
theorem r_125_at : At (kernelRun3_A.sl.r_125 (F := Ideal) c arg3 harg3 arg4 harg4 arg5 harg5 arg8 arg9 x0 x1 x2) (AC x0 x1 x2 0 0) 0 0 := by
  unfold kernelRun3_A.sl.r_125 k3_pay208 k3_pay207
  exact (at_cut (r' := 0) (c' := 0) (at_acc 0 (by norm_num) r_121_at (at_sum 0 rfl (at_truncf (at_under (at_keep below zeros (at_cut (r' := 0) (c' := 0) (at_w 0 (at_sub r_122_at (at_after 0 (at_ps 0 rfl (at_truncf (at_under r_123_at r_124_at)) (v32_at 0)) (at_wide r_120_at _)))))) (at_cut (r' := 256) (c' := 0) (at_w 0 (at_sub r_122_at (at_after 0 (at_ps 0 rfl (at_truncf (at_under r_123_at r_124_at)) (v32_at 0)) (at_wide r_120_at _))))))) (at_drop at_in))))

/-- The first head: what the tiles from 5 on break off. -/
theorem r_28_at : At (kernelRun3_A.sl.r_28 (F := Ideal) c arg3 harg3 arg4 harg4 arg8 arg9 x0 x1) (fun t _ => CA x0 x1 0 5 t) 1792 0 := by
  unfold kernelRun3_A.sl.r_28 k3_pay66 k3_pay61 k3_pay59 k3_pay58 k3_pay57 k3_pay56
  exact (at_cut (r' := 1792) (c' := 0) (at_carry 5 (by norm_num) (at_cut (r' := 1280) (c' := 1280) (at_after 5 (at_ps 5 rfl (at_truncf (at_under (at_keep below zeros (at_cut (r' := 1280) (c' := 1280) (at_sp (at_base (at_log (at_inc (at_exp2 (at_clamp (at_z rfl r_20_at r_23_at)))))) (at_z rfl r_20_at r_23_at)))) (at_cut (r' := 1536) (c' := 1280) (at_sp (at_base (at_log (at_inc (at_exp2 (at_clamp (at_z rfl r_20_at r_23_at)))))) (at_z rfl r_20_at r_23_at))))) (v32_at 1280)) (at_wide r_21_at _))) (at_extf (at_cut (r' := 1280) (c' := 1280) (at_truncf (at_under (at_keep below zeros (at_cut (r' := 1280) (c' := 1280) (at_sp (at_base (at_log (at_inc (at_exp2 (at_clamp (at_z rfl r_20_at r_23_at)))))) (at_z rfl r_20_at r_23_at)))) (at_cut (r' := 1536) (c' := 1280) (at_sp (at_base (at_log (at_inc (at_exp2 (at_clamp (at_z rfl r_20_at r_23_at)))))) (at_z rfl r_20_at r_23_at)))))))))

/-- Rows of the queries. -/
theorem r_30_at : At (kernelRun3_A.sl.r_30 (F := Ideal) c arg3 harg3 x0) (rd x0) 1280 0 := by
  unfold kernelRun3_A.sl.r_30 k3_pay68
  exact (at_cut (r' := 1280) (c' := 0) (at_queries at_in))

/-- Rows of the queries. -/
theorem r_3_at : At (kernelRun3_A.sl.r_3 (F := Ideal) c arg3 harg3 x0) (rd x0) 1792 0 := by
  unfold kernelRun3_A.sl.r_3 k3_pay20
  exact (at_cut (r' := 1792) (c' := 0) (at_queries at_in))

/-- A tile of the second head's keys. -/
theorem v50_at : At1 (kernelRun3_A.sl.v50 (F := Ideal) c arg4 harg4 arg8 x1) (KX x1 1) 0 1792 := load_last (at_keys1 at_in)

/-- The second head: what the tiles from 7 on break off. -/
theorem r_5_at : At (kernelRun3_A.sl.r_5 (F := Ideal) c arg3 harg3 arg4 harg4 arg8 arg9 x0 x1) (fun t _ => CA x0 x1 1 7 t) 1792 0 := by
  unfold kernelRun3_A.sl.r_5 k3_pay11 k3_pay26 k3_pay24 k3_pay23 k3_pay22 k3_pay21
  exact (at_carry 7 (by norm_num) (at_cut (r' := 1792) (c' := 1792) (at_after 7 (at_ps 7 rfl (at_truncf (at_keep below zeros (at_sp (at_base (at_log (at_inc (at_exp2 (at_clamp (at_z rfl r_3_at (at_drop v50_at))))))) (at_z rfl r_3_at (at_drop v50_at))))) (v32_at 1792)) (at_wide (at_car0 (k := 8) zeros (by norm_num)) _))) (at_extf (at_cut (r' := 1792) (c' := 1792) (at_truncf (at_keep below zeros (at_sp (at_base (at_log (at_inc (at_exp2 (at_clamp (at_z rfl r_3_at (at_drop v50_at))))))) (at_z rfl r_3_at (at_drop v50_at))))))))

/-- The second head: what the tiles from 7 on break off. -/
theorem r_13_at : At (kernelRun3_A.sl.r_13 (F := Ideal) c arg3 harg3 arg4 harg4 arg8 arg9 x0 x1) (fun t _ => CA x0 x1 1 7 t) 1536 0 := by
  unfold kernelRun3_A.sl.r_13 k3_pay11 k3_pay40
  exact (at_pile (r := 1536) (.cons (at_car0 zeros (by norm_num)) (.cons r_5_at .nil)))

/-- A tile of the second head's keys. -/
theorem v132_at : At1 (kernelRun3_A.sl.v132 (F := Ideal) c arg4 harg4 arg8 x1) (KX x1 1) 0 1536 := load_last (at_keys1 at_in)

/-- Scores of the second head. -/
theorem r_15_at : At (kernelRun3_A.sl.r_15 (F := Ideal) c arg3 harg3 arg4 harg4 arg8 x0 x1) (Z x0 x1 1) 1536 1536 := by
  unfold kernelRun3_A.sl.r_15 k3_pay42
  exact (at_z rfl (at_cut (r' := 1536) (c' := 0) (at_queries at_in)) (at_drop v132_at))

/-- The second head: what the tiles from 6 on break off. -/
theorem r_16_at : At (kernelRun3_A.sl.r_16 (F := Ideal) c arg3 harg3 arg4 harg4 arg8 arg9 x0 x1) (fun t _ => CA x0 x1 1 6 t) 1536 0 := by
  unfold kernelRun3_A.sl.r_16 k3_pay48 k3_pay47 k3_pay45 k3_pay44 k3_pay43
  exact (at_cut (r' := 1536) (c' := 0) (at_carry 6 (by norm_num) (at_cut (r' := 1536) (c' := 1536) (at_after 6 (at_ps 6 rfl (at_truncf (at_under (at_keep below zeros (at_cut (r' := 1536) (c' := 1536) (at_sp (at_base (at_log (at_inc (at_exp2 (at_clamp r_15_at))))) r_15_at))) (at_cut (r' := 1792) (c' := 1536) (at_sp (at_base (at_log (at_inc (at_exp2 (at_clamp r_15_at))))) r_15_at)))) (v32_at 1536)) (at_wide r_13_at _))) (at_extf (at_cut (r' := 1536) (c' := 1536) (at_truncf (at_under (at_keep below zeros (at_cut (r' := 1536) (c' := 1536) (at_sp (at_base (at_log (at_inc (at_exp2 (at_clamp r_15_at))))) r_15_at))) (at_cut (r' := 1792) (c' := 1536) (at_sp (at_base (at_log (at_inc (at_exp2 (at_clamp r_15_at))))) r_15_at))))))))

/-- The second head: what the tiles from 6 on break off. -/
theorem r_18_at : At (kernelRun3_A.sl.r_18 (F := Ideal) c arg3 harg3 arg4 harg4 arg8 arg9 x0 x1) (fun t _ => CA x0 x1 1 6 t) 1792 0 := by
  unfold kernelRun3_A.sl.r_18 k3_pay50 k3_pay47 k3_pay45 k3_pay44 k3_pay43
  exact (at_cut (r' := 1792) (c' := 0) (at_carry 6 (by norm_num) (at_cut (r' := 1536) (c' := 1536) (at_after 6 (at_ps 6 rfl (at_truncf (at_under (at_keep below zeros (at_cut (r' := 1536) (c' := 1536) (at_sp (at_base (at_log (at_inc (at_exp2 (at_clamp r_15_at))))) r_15_at))) (at_cut (r' := 1792) (c' := 1536) (at_sp (at_base (at_log (at_inc (at_exp2 (at_clamp r_15_at))))) r_15_at)))) (v32_at 1536)) (at_wide r_13_at _))) (at_extf (at_cut (r' := 1536) (c' := 1536) (at_truncf (at_under (at_keep below zeros (at_cut (r' := 1536) (c' := 1536) (at_sp (at_base (at_log (at_inc (at_exp2 (at_clamp r_15_at))))) r_15_at))) (at_cut (r' := 1792) (c' := 1536) (at_sp (at_base (at_log (at_inc (at_exp2 (at_clamp r_15_at))))) r_15_at))))))))

/-- The second head: what the tiles from 6 on break off. -/
theorem r_31_at : At (kernelRun3_A.sl.r_31 (F := Ideal) c arg3 harg3 arg4 harg4 arg8 arg9 x0 x1) (fun t _ => CA x0 x1 1 6 t) 1280 0 := by
  unfold kernelRun3_A.sl.r_31 k3_pay11 k3_pay69
  exact (at_pile (r := 1280) (.cons (at_car0 zeros (by norm_num)) (.cons r_16_at (.cons r_18_at .nil))))

/-- A tile of the second head's keys. -/
theorem v226_at : At1 (kernelRun3_A.sl.v226 (F := Ideal) c arg4 harg4 arg8 x1) (KX x1 1) 0 1280 := load_last (at_keys1 at_in)

/-- The second head: what the tiles from 5 on break off. -/
theorem r_37_at : At (kernelRun3_A.sl.r_37 (F := Ideal) c arg3 harg3 arg4 harg4 arg8 arg9 x0 x1) (fun t _ => CA x0 x1 1 5 t) 1792 0 := by
  unfold kernelRun3_A.sl.r_37 k3_pay81 k3_pay76 k3_pay74 k3_pay73 k3_pay72 k3_pay71
  exact (at_cut (r' := 1792) (c' := 0) (at_carry 5 (by norm_num) (at_cut (r' := 1280) (c' := 1280) (at_after 5 (at_ps 5 rfl (at_truncf (at_under (at_keep below zeros (at_cut (r' := 1280) (c' := 1280) (at_sp (at_base (at_log (at_inc (at_exp2 (at_clamp (at_z rfl r_30_at (at_drop v226_at))))))) (at_z rfl r_30_at (at_drop v226_at))))) (at_cut (r' := 1536) (c' := 1280) (at_sp (at_base (at_log (at_inc (at_exp2 (at_clamp (at_z rfl r_30_at (at_drop v226_at))))))) (at_z rfl r_30_at (at_drop v226_at)))))) (v32_at 1280)) (at_wide r_31_at _))) (at_extf (at_cut (r' := 1280) (c' := 1280) (at_truncf (at_under (at_keep below zeros (at_cut (r' := 1280) (c' := 1280) (at_sp (at_base (at_log (at_inc (at_exp2 (at_clamp (at_z rfl r_30_at (at_drop v226_at))))))) (at_z rfl r_30_at (at_drop v226_at))))) (at_cut (r' := 1536) (c' := 1280) (at_sp (at_base (at_log (at_inc (at_exp2 (at_clamp (at_z rfl r_30_at (at_drop v226_at))))))) (at_z rfl r_30_at (at_drop v226_at))))))))))

/-- The first head: what the tiles from 4 on break off. -/
theorem r_45_at : At (kernelRun3_A.sl.r_45 (F := Ideal) c arg3 harg3 arg4 harg4 arg8 arg9 x0 x1) (fun t _ => CA x0 x1 0 4 t) 1536 0 := by
  unfold kernelRun3_A.sl.r_45 k3_pay93
  exact (at_cut (r' := 1536) (c' := 0) r_40_at)

/-- The second head: what the tiles from 5 on break off. -/
theorem r_33_at : At (kernelRun3_A.sl.r_33 (F := Ideal) c arg3 harg3 arg4 harg4 arg8 arg9 x0 x1) (fun t _ => CA x0 x1 1 5 t) 1280 0 := by
  unfold kernelRun3_A.sl.r_33 k3_pay77 k3_pay76 k3_pay74 k3_pay73 k3_pay72 k3_pay71
  exact (at_cut (r' := 1280) (c' := 0) (at_carry 5 (by norm_num) (at_cut (r' := 1280) (c' := 1280) (at_after 5 (at_ps 5 rfl (at_truncf (at_under (at_keep below zeros (at_cut (r' := 1280) (c' := 1280) (at_sp (at_base (at_log (at_inc (at_exp2 (at_clamp (at_z rfl r_30_at (at_drop v226_at))))))) (at_z rfl r_30_at (at_drop v226_at))))) (at_cut (r' := 1536) (c' := 1280) (at_sp (at_base (at_log (at_inc (at_exp2 (at_clamp (at_z rfl r_30_at (at_drop v226_at))))))) (at_z rfl r_30_at (at_drop v226_at)))))) (v32_at 1280)) (at_wide r_31_at _))) (at_extf (at_cut (r' := 1280) (c' := 1280) (at_truncf (at_under (at_keep below zeros (at_cut (r' := 1280) (c' := 1280) (at_sp (at_base (at_log (at_inc (at_exp2 (at_clamp (at_z rfl r_30_at (at_drop v226_at))))))) (at_z rfl r_30_at (at_drop v226_at))))) (at_cut (r' := 1536) (c' := 1280) (at_sp (at_base (at_log (at_inc (at_exp2 (at_clamp (at_z rfl r_30_at (at_drop v226_at))))))) (at_z rfl r_30_at (at_drop v226_at))))))))))

/-- The second head: what the tiles from 5 on break off. -/
theorem r_35_at : At (kernelRun3_A.sl.r_35 (F := Ideal) c arg3 harg3 arg4 harg4 arg8 arg9 x0 x1) (fun t _ => CA x0 x1 1 5 t) 1536 0 := by
  unfold kernelRun3_A.sl.r_35 k3_pay79 k3_pay76 k3_pay74 k3_pay73 k3_pay72 k3_pay71
  exact (at_cut (r' := 1536) (c' := 0) (at_carry 5 (by norm_num) (at_cut (r' := 1280) (c' := 1280) (at_after 5 (at_ps 5 rfl (at_truncf (at_under (at_keep below zeros (at_cut (r' := 1280) (c' := 1280) (at_sp (at_base (at_log (at_inc (at_exp2 (at_clamp (at_z rfl r_30_at (at_drop v226_at))))))) (at_z rfl r_30_at (at_drop v226_at))))) (at_cut (r' := 1536) (c' := 1280) (at_sp (at_base (at_log (at_inc (at_exp2 (at_clamp (at_z rfl r_30_at (at_drop v226_at))))))) (at_z rfl r_30_at (at_drop v226_at)))))) (v32_at 1280)) (at_wide r_31_at _))) (at_extf (at_cut (r' := 1280) (c' := 1280) (at_truncf (at_under (at_keep below zeros (at_cut (r' := 1280) (c' := 1280) (at_sp (at_base (at_log (at_inc (at_exp2 (at_clamp (at_z rfl r_30_at (at_drop v226_at))))))) (at_z rfl r_30_at (at_drop v226_at))))) (at_cut (r' := 1536) (c' := 1280) (at_sp (at_base (at_log (at_inc (at_exp2 (at_clamp (at_z rfl r_30_at (at_drop v226_at))))))) (at_z rfl r_30_at (at_drop v226_at))))))))))

/-- A tile of the second head's keys. -/
theorem v322_at : At1 (kernelRun3_A.sl.v322 (F := Ideal) c arg4 harg4 arg8 x1) (KX x1 1) 0 1024 := load_last (at_keys1 at_in)

/-- The second head: what all later columns break off, in tile 4. -/
theorem r_48_at : At (kernelRun3_A.sl.r_48 (F := Ideal) c arg3 harg3 arg4 harg4 arg8 arg9 x0 x1) (AF x0 x1 1 4) 1024 1024 := by
  unfold kernelRun3_A.sl.r_48 k3_pay11 k3_pay100 k3_pay98 k3_pay97 k3_pay96 k3_pay95
  exact (at_cut (r' := 1024) (c' := 1024) (at_after 4 (at_ps 4 rfl (at_truncf (at_under (at_keep below zeros (at_cut (r' := 1024) (c' := 1024) (at_sp (at_base (at_log (at_inc (at_exp2 (at_clamp (at_z rfl (at_cut (r' := 1024) (c' := 0) (at_queries at_in)) (at_drop v322_at))))))) (at_z rfl (at_cut (r' := 1024) (c' := 0) (at_queries at_in)) (at_drop v322_at))))) (at_cut (r' := 1280) (c' := 1024) (at_sp (at_base (at_log (at_inc (at_exp2 (at_clamp (at_z rfl (at_cut (r' := 1024) (c' := 0) (at_queries at_in)) (at_drop v322_at))))))) (at_z rfl (at_cut (r' := 1024) (c' := 0) (at_queries at_in)) (at_drop v322_at)))))) (v32_at 1024)) (at_wide (at_pile (r := 1024) (.cons (at_car0 zeros (by norm_num)) (.cons r_33_at (.cons r_35_at .nil)))) _)))

/-- Softplus of the second head's scores below the diagonal. -/
theorem r_49_at : At (kernelRun3_A.sl.r_49 (F := Ideal) c arg3 harg3 arg4 harg4 arg8 x0 x1) (SM x0 x1 1) 1024 1024 := by
  unfold kernelRun3_A.sl.r_49 k3_pay101 k3_pay97 k3_pay96 k3_pay95
  exact (at_cut (r' := 1024) (c' := 1024) (at_truncf (at_under (at_keep below zeros (at_cut (r' := 1024) (c' := 1024) (at_sp (at_base (at_log (at_inc (at_exp2 (at_clamp (at_z rfl (at_cut (r' := 1024) (c' := 0) (at_queries at_in)) (at_drop v322_at))))))) (at_z rfl (at_cut (r' := 1024) (c' := 0) (at_queries at_in)) (at_drop v322_at))))) (at_cut (r' := 1280) (c' := 1024) (at_sp (at_base (at_log (at_inc (at_exp2 (at_clamp (at_z rfl (at_cut (r' := 1024) (c' := 0) (at_queries at_in)) (at_drop v322_at))))))) (at_z rfl (at_cut (r' := 1024) (c' := 0) (at_queries at_in)) (at_drop v322_at)))))))

/-- The second head: what the tiles from 4 on break off. -/
theorem r_54_at : At (kernelRun3_A.sl.r_54 (F := Ideal) c arg3 harg3 arg4 harg4 arg8 arg9 x0 x1) (fun t _ => CA x0 x1 1 4 t) 1536 0 := by
  unfold kernelRun3_A.sl.r_54 k3_pay107 k3_pay102
  exact (at_cut (r' := 1536) (c' := 0) (at_carry 4 (by norm_num) r_48_at (at_extf r_49_at)))

/-- The first head: what the tiles from 3 on break off. -/
theorem r_65_at : At (kernelRun3_A.sl.r_65 (F := Ideal) c arg3 harg3 arg4 harg4 arg8 arg9 x0 x1) (fun t _ => CA x0 x1 0 3 t) 1280 0 := by
  unfold kernelRun3_A.sl.r_65 k3_pay122 k3_pay117
  exact (at_cut (r' := 1280) (c' := 0) (at_carry 3 (by norm_num) (at_cut (r' := 768) (c' := 768) r_58_at) (at_extf (at_cut (r' := 768) (c' := 768) r_57_at))))

/-- A tile of the second head's keys. -/
theorem v418_at : At1 (kernelRun3_A.sl.v418 (F := Ideal) c arg4 harg4 arg8 x1) (KX x1 1) 0 768 := load_last (at_keys1 at_in)

/-- Softplus of the second head's scores below the diagonal. -/
theorem r_68_at : At (kernelRun3_A.sl.r_68 (F := Ideal) c arg3 harg3 arg4 harg4 arg8 x0 x1) (SM x0 x1 1) 768 768 := by
  unfold kernelRun3_A.sl.r_68 k3_pay127 k3_pay126 k3_pay125
  exact (at_truncf (at_under (at_keep below zeros (at_cut (r' := 768) (c' := 768) (at_sp (at_base (at_log (at_inc (at_exp2 (at_clamp (at_z rfl (at_cut (r' := 768) (c' := 0) (at_queries at_in)) (at_drop v418_at))))))) (at_z rfl (at_cut (r' := 768) (c' := 0) (at_queries at_in)) (at_drop v418_at))))) (at_cut (r' := 1024) (c' := 768) (at_sp (at_base (at_log (at_inc (at_exp2 (at_clamp (at_z rfl (at_cut (r' := 768) (c' := 0) (at_queries at_in)) (at_drop v418_at))))))) (at_z rfl (at_cut (r' := 768) (c' := 0) (at_queries at_in)) (at_drop v418_at))))))

/-- The second head: what the tiles from 4 on break off. -/
theorem r_50_at : At (kernelRun3_A.sl.r_50 (F := Ideal) c arg3 harg3 arg4 harg4 arg8 arg9 x0 x1) (fun t _ => CA x0 x1 1 4 t) 1024 0 := by
  unfold kernelRun3_A.sl.r_50 k3_pay103 k3_pay102
  exact (at_cut (r' := 1024) (c' := 0) (at_carry 4 (by norm_num) r_48_at (at_extf r_49_at)))

/-- The second head: what the tiles from 4 on break off. -/
theorem r_52_at : At (kernelRun3_A.sl.r_52 (F := Ideal) c arg3 harg3 arg4 harg4 arg8 arg9 x0 x1) (fun t _ => CA x0 x1 1 4 t) 1280 0 := by
  unfold kernelRun3_A.sl.r_52 k3_pay105 k3_pay102
  exact (at_cut (r' := 1280) (c' := 0) (at_carry 4 (by norm_num) r_48_at (at_extf r_49_at)))

/-- The second head: what all later columns break off, in tile 3. -/
theorem r_69_at : At (kernelRun3_A.sl.r_69 (F := Ideal) c arg3 harg3 arg4 harg4 arg8 arg9 x0 x1) (AF x0 x1 1 3) 768 768 := by
  unfold kernelRun3_A.sl.r_69 k3_pay11 k3_pay128 k3_pay127 k3_pay126 k3_pay125
  exact (at_after 3 (at_ps 3 rfl (at_truncf (at_under (at_keep below zeros (at_cut (r' := 768) (c' := 768) (at_sp (at_base (at_log (at_inc (at_exp2 (at_clamp (at_z rfl (at_cut (r' := 768) (c' := 0) (at_queries at_in)) (at_drop v418_at))))))) (at_z rfl (at_cut (r' := 768) (c' := 0) (at_queries at_in)) (at_drop v418_at))))) (at_cut (r' := 1024) (c' := 768) (at_sp (at_base (at_log (at_inc (at_exp2 (at_clamp (at_z rfl (at_cut (r' := 768) (c' := 0) (at_queries at_in)) (at_drop v418_at))))))) (at_z rfl (at_cut (r' := 768) (c' := 0) (at_queries at_in)) (at_drop v418_at)))))) (v32_at 768)) (at_wide (at_pile (r := 768) (.cons (at_car0 zeros (by norm_num)) (.cons r_50_at (.cons r_52_at .nil)))) _))

/-- The second head: what the tiles from 3 on break off. -/
theorem r_75_at : At (kernelRun3_A.sl.r_75 (F := Ideal) c arg3 harg3 arg4 harg4 arg8 arg9 x0 x1) (fun t _ => CA x0 x1 1 3 t) 1280 0 := by
  unfold kernelRun3_A.sl.r_75 k3_pay136 k3_pay131
  exact (at_cut (r' := 1280) (c' := 0) (at_carry 3 (by norm_num) (at_cut (r' := 768) (c' := 768) r_69_at) (at_extf (at_cut (r' := 768) (c' := 768) r_68_at))))

/-- The first head: what the tiles from 2 on break off. -/
theorem r_86_at : At (kernelRun3_A.sl.r_86 (F := Ideal) c arg3 harg3 arg4 harg4 arg8 arg9 x0 x1) (fun t _ => CA x0 x1 0 2 t) 1024 0 := by
  unfold kernelRun3_A.sl.r_86 k3_pay152 k3_pay147
  exact (at_cut (r' := 1024) (c' := 0) (at_carry 2 (by norm_num) (at_cut (r' := 512) (c' := 512) r_79_at) (at_extf (at_cut (r' := 512) (c' := 512) r_78_at))))

/-- A tile of the second head's keys. -/
theorem v514_at : At1 (kernelRun3_A.sl.v514 (F := Ideal) c arg4 harg4 arg8 x1) (KX x1 1) 0 512 := load_last (at_keys1 at_in)

/-- Softplus of the second head's scores below the diagonal. -/
theorem r_89_at : At (kernelRun3_A.sl.r_89 (F := Ideal) c arg3 harg3 arg4 harg4 arg8 x0 x1) (SM x0 x1 1) 512 512 := by
  unfold kernelRun3_A.sl.r_89 k3_pay157 k3_pay156 k3_pay155
  exact (at_truncf (at_under (at_keep below zeros (at_cut (r' := 512) (c' := 512) (at_sp (at_base (at_log (at_inc (at_exp2 (at_clamp (at_z rfl (at_cut (r' := 512) (c' := 0) (at_queries at_in)) (at_drop v514_at))))))) (at_z rfl (at_cut (r' := 512) (c' := 0) (at_queries at_in)) (at_drop v514_at))))) (at_cut (r' := 768) (c' := 512) (at_sp (at_base (at_log (at_inc (at_exp2 (at_clamp (at_z rfl (at_cut (r' := 512) (c' := 0) (at_queries at_in)) (at_drop v514_at))))))) (at_z rfl (at_cut (r' := 512) (c' := 0) (at_queries at_in)) (at_drop v514_at))))))

/-- The second head: what the tiles from 3 on break off. -/
theorem r_71_at : At (kernelRun3_A.sl.r_71 (F := Ideal) c arg3 harg3 arg4 harg4 arg8 arg9 x0 x1) (fun t _ => CA x0 x1 1 3 t) 768 0 := by
  unfold kernelRun3_A.sl.r_71 k3_pay132 k3_pay131
  exact (at_cut (r' := 768) (c' := 0) (at_carry 3 (by norm_num) (at_cut (r' := 768) (c' := 768) r_69_at) (at_extf (at_cut (r' := 768) (c' := 768) r_68_at))))

/-- The second head: what the tiles from 3 on break off. -/
theorem r_73_at : At (kernelRun3_A.sl.r_73 (F := Ideal) c arg3 harg3 arg4 harg4 arg8 arg9 x0 x1) (fun t _ => CA x0 x1 1 3 t) 1024 0 := by
  unfold kernelRun3_A.sl.r_73 k3_pay134 k3_pay131
  exact (at_cut (r' := 1024) (c' := 0) (at_carry 3 (by norm_num) (at_cut (r' := 768) (c' := 768) r_69_at) (at_extf (at_cut (r' := 768) (c' := 768) r_68_at))))

/-- The second head: what all later columns break off, in tile 2. -/
theorem r_90_at : At (kernelRun3_A.sl.r_90 (F := Ideal) c arg3 harg3 arg4 harg4 arg8 arg9 x0 x1) (AF x0 x1 1 2) 512 512 := by
  unfold kernelRun3_A.sl.r_90 k3_pay11 k3_pay158 k3_pay157 k3_pay156 k3_pay155
  exact (at_after 2 (at_ps 2 rfl (at_truncf (at_under (at_keep below zeros (at_cut (r' := 512) (c' := 512) (at_sp (at_base (at_log (at_inc (at_exp2 (at_clamp (at_z rfl (at_cut (r' := 512) (c' := 0) (at_queries at_in)) (at_drop v514_at))))))) (at_z rfl (at_cut (r' := 512) (c' := 0) (at_queries at_in)) (at_drop v514_at))))) (at_cut (r' := 768) (c' := 512) (at_sp (at_base (at_log (at_inc (at_exp2 (at_clamp (at_z rfl (at_cut (r' := 512) (c' := 0) (at_queries at_in)) (at_drop v514_at))))))) (at_z rfl (at_cut (r' := 512) (c' := 0) (at_queries at_in)) (at_drop v514_at)))))) (v32_at 512)) (at_wide (at_pile (r := 512) (.cons (at_car0 zeros (by norm_num)) (.cons r_71_at (.cons r_73_at .nil)))) _))

/-- The second head: what the tiles from 2 on break off. -/
theorem r_97_at : At (kernelRun3_A.sl.r_97 (F := Ideal) c arg3 harg3 arg4 harg4 arg8 arg9 x0 x1) (fun t _ => CA x0 x1 1 2 t) 1024 0 := by
  unfold kernelRun3_A.sl.r_97 k3_pay167 k3_pay162
  exact (at_cut (r' := 1024) (c' := 0) (at_carry 2 (by norm_num) (at_cut (r' := 512) (c' := 512) r_90_at) (at_extf (at_cut (r' := 512) (c' := 512) r_89_at))))

/-- The first head: what the tiles from 1 on break off. -/
theorem r_108_at : At (kernelRun3_A.sl.r_108 (F := Ideal) c arg3 harg3 arg4 harg4 arg8 arg9 x0 x1) (fun t _ => CA x0 x1 0 1 t) 768 0 := by
  unfold kernelRun3_A.sl.r_108 k3_pay183 k3_pay178 k3_pay176
  exact (at_cut (r' := 768) (c' := 0) (at_carry 1 (by norm_num) (at_cut (r' := 256) (c' := 256) (at_after 1 r_102_at r_103_at)) (at_extf (at_cut (r' := 256) (c' := 256) r_101_at))))

/-- The second head: what the tiles from 2 on break off. -/
theorem r_93_at : At (kernelRun3_A.sl.r_93 (F := Ideal) c arg3 harg3 arg4 harg4 arg8 arg9 x0 x1) (fun t _ => CA x0 x1 1 2 t) 512 0 := by
  unfold kernelRun3_A.sl.r_93 k3_pay163 k3_pay162
  exact (at_cut (r' := 512) (c' := 0) (at_carry 2 (by norm_num) (at_cut (r' := 512) (c' := 512) r_90_at) (at_extf (at_cut (r' := 512) (c' := 512) r_89_at))))

/-- The second head: what the tiles from 2 on break off. -/
theorem r_95_at : At (kernelRun3_A.sl.r_95 (F := Ideal) c arg3 harg3 arg4 harg4 arg8 arg9 x0 x1) (fun t _ => CA x0 x1 1 2 t) 768 0 := by
  unfold kernelRun3_A.sl.r_95 k3_pay165 k3_pay162
  exact (at_cut (r' := 768) (c' := 0) (at_carry 2 (by norm_num) (at_cut (r' := 512) (c' := 512) r_90_at) (at_extf (at_cut (r' := 512) (c' := 512) r_89_at))))

/-- The second head: what the tiles from 2 on break off. -/
theorem r_110_at : At (kernelRun3_A.sl.r_110 (F := Ideal) c arg3 harg3 arg4 harg4 arg8 arg9 x0 x1) (fun t _ => CA x0 x1 1 2 t) 256 0 := by
  unfold kernelRun3_A.sl.r_110 k3_pay11 k3_pay185
  exact (at_pile (r := 256) (.cons (at_car0 zeros (by norm_num)) (.cons r_93_at (.cons r_95_at .nil))))

/-- A tile of the second head's keys. -/
theorem v610_at : At1 (kernelRun3_A.sl.v610 (F := Ideal) c arg4 harg4 arg8 x1) (KX x1 1) 0 256 := load_last (at_keys1 at_in)

/-- Softplus of the second head's scores below the diagonal. -/
theorem r_113_at : At (kernelRun3_A.sl.r_113 (F := Ideal) c arg3 harg3 arg4 harg4 arg8 x0 x1) (SM x0 x1 1) 256 256 := by
  unfold kernelRun3_A.sl.r_113 k3_pay190 k3_pay188 k3_pay187
  exact (at_truncf (at_under (at_keep below zeros (at_cut (r' := 256) (c' := 256) (at_sp (at_base (at_log (at_inc (at_exp2 (at_clamp (at_z rfl (at_cut (r' := 256) (c' := 0) (at_queries at_in)) (at_drop v610_at))))))) (at_z rfl (at_cut (r' := 256) (c' := 0) (at_queries at_in)) (at_drop v610_at))))) (at_cut (r' := 512) (c' := 256) (at_sp (at_base (at_log (at_inc (at_exp2 (at_clamp (at_z rfl (at_cut (r' := 256) (c' := 0) (at_queries at_in)) (at_drop v610_at))))))) (at_z rfl (at_cut (r' := 256) (c' := 0) (at_queries at_in)) (at_drop v610_at))))))

/-- The second head: what the tiles from 1 on break off. -/
theorem r_118_at : At (kernelRun3_A.sl.r_118 (F := Ideal) c arg3 harg3 arg4 harg4 arg8 arg9 x0 x1) (fun t _ => CA x0 x1 1 1 t) 768 0 := by
  unfold kernelRun3_A.sl.r_118 k3_pay198 k3_pay193 k3_pay191
  exact (at_cut (r' := 768) (c' := 0) (at_carry 1 (by norm_num) (at_cut (r' := 256) (c' := 256) (at_after 1 (at_ps 1 rfl r_113_at (v32_at 256)) (at_wide r_110_at _))) (at_extf (at_cut (r' := 256) (c' := 256) r_113_at))))

/-- The comparison with the cut holds. -/
theorem v750_at [Finite x0] [Finite x1] : kernelRun3_A.sl.v750 (F := Ideal) c arg3 harg3 arg4 harg4 arg8 arg9 x0 x1 = 1#1 := by
  unfold kernelRun3_A.sl.v750 k3_pay221
  exact go_on (fin_min (fin_min (fin_min (fin_min (fin_min (fin_min (fin_min (fin_min (fin_min (fin_col r_108_at))))))))))

/-- Softplus of the second head's scores. -/
theorem r_139_at : At (kernelRun3_A.sl.r_139 (F := Ideal) c arg3 harg3 arg4 harg4 arg8 x0 x1) (SP x0 x1 1) 1792 1024 := by
  unfold kernelRun3_A.sl.r_139 k3_pay232 k3_pay231 k3_pay230
  exact (at_truncf (at_sp (at_base (at_log (at_inc (at_exp2 (at_clamp (at_z rfl (at_cut (r' := 1792) (c' := 0) (at_queries at_in)) (at_drop v322_at))))))) (at_z rfl (at_cut (r' := 1792) (c' := 0) (at_queries at_in)) (at_drop v322_at))))

/-- The second head: what all later columns break off, in tile 4. -/
theorem r_140_at : At (kernelRun3_A.sl.r_140 (F := Ideal) c arg3 harg3 arg4 harg4 arg8 arg9 x0 x1) (AF x0 x1 1 4) 1792 1024 := by
  unfold kernelRun3_A.sl.r_140 k3_pay233 k3_pay232 k3_pay231 k3_pay230
  exact (at_after 4 (at_ps 4 rfl (at_low (by norm_num) (at_truncf (at_sp (at_base (at_log (at_inc (at_exp2 (at_clamp (at_z rfl (at_cut (r' := 1792) (c' := 0) (at_queries at_in)) (at_drop v322_at))))))) (at_z rfl (at_cut (r' := 1792) (c' := 0) (at_queries at_in)) (at_drop v322_at))))) (v32_at 1024)) (at_wide r_37_at _))

/-- The second head: what the tiles from 4 on break off. -/
theorem r_143_at : At (kernelRun3_A.sl.r_143 (F := Ideal) c arg3 harg3 arg4 harg4 arg8 arg9 x0 x1) (fun t _ => CA x0 x1 1 4 t) 1792 0 := by
  unfold kernelRun3_A.sl.r_143 k3_pay236
  exact (at_carry 4 (by norm_num) (at_cut (r' := 1792) (c' := 1024) r_140_at) (at_low (by norm_num) (at_extf (at_cut (r' := 1792) (c' := 1024) r_139_at))))

/-- Scores of the first head. -/
theorem r_135_at : At (kernelRun3_A.sl.r_135 (F := Ideal) c arg3 harg3 arg4 harg4 arg8 x0 x1) (Z x0 x1 0) 1792 1024 := by
  unfold kernelRun3_A.sl.r_135 k3_pay222
  exact (at_z rfl (at_cut (r' := 1792) (c' := 0) (at_queries at_in)) (at_drop v274_at))

/-- Logarithms on the way to the first head's softplus. -/
theorem r_136_at : At (kernelRun3_A.sl.r_136 (F := Ideal) c arg3 harg3 arg4 harg4 arg8 x0 x1) (fun t s => Ideal.log (1 + Ideal.exp2 (min (Z x0 x1 0 t s) ⊤))) 1792 1024 := by
  unfold kernelRun3_A.sl.r_136 k3_pay223 k3_pay222
  exact (at_log (at_inc (at_exp2 (at_clamp (at_z rfl (at_cut (r' := 1792) (c' := 0) (at_queries at_in)) (at_drop v274_at))))))

/-- The first head: what the tiles from 4 on break off. -/
theorem r_138_at : At (kernelRun3_A.sl.r_138 (F := Ideal) c arg3 harg3 arg4 harg4 arg8 arg9 x0 x1) (fun t _ => CA x0 x1 0 4 t) 1792 0 := by
  unfold kernelRun3_A.sl.r_138 k3_pay224 k3_pay229 k3_pay227 k3_pay226 k3_pay225
  exact (at_carry 4 (by norm_num) (at_cut (r' := 1792) (c' := 1024) (at_after 4 (at_ps 4 rfl (at_low (by norm_num) (at_truncf (at_sp (at_base r_136_at) r_135_at))) (v32_at 1024)) (at_wide r_28_at _))) (at_low (by norm_num) (at_extf (at_cut (r' := 1792) (c' := 1024) (at_truncf (at_sp (at_base r_136_at) r_135_at))))))

/-- The first head: what the tiles from 3 on break off. -/
theorem r_145_at : At (kernelRun3_A.sl.r_145 (F := Ideal) c arg3 harg3 arg4 harg4 arg8 arg9 x0 x1) (fun t _ => CA x0 x1 0 3 t) 1536 0 := by
  unfold kernelRun3_A.sl.r_145 k3_pay242 k3_pay240 k3_pay239 k3_pay238 k3_pay237
  exact (at_carry 3 (by norm_num) (at_cut (r' := 1536) (c' := 768) (at_after 3 (at_ps 3 rfl (at_low (by norm_num) (at_truncf (at_sp (at_base (at_log (at_inc (at_exp2 (at_clamp (at_z rfl (at_cut (r' := 1536) (c' := 0) (at_queries at_in)) (at_drop v370_at))))))) (at_z rfl (at_cut (r' := 1536) (c' := 0) (at_queries at_in)) (at_drop v370_at))))) (v32_at 768)) (at_wide r_45_at _))) (at_low (by norm_num) (at_extf (at_cut (r' := 1536) (c' := 768) (at_truncf (at_sp (at_base (at_log (at_inc (at_exp2 (at_clamp (at_z rfl (at_cut (r' := 1536) (c' := 0) (at_queries at_in)) (at_drop v370_at))))))) (at_z rfl (at_cut (r' := 1536) (c' := 0) (at_queries at_in)) (at_drop v370_at))))))))

/-- Rows of the queries. -/
theorem r_146_at : At (kernelRun3_A.sl.r_146 (F := Ideal) c arg3 harg3 x0) (rd x0) 1536 0 := by
  unfold kernelRun3_A.sl.r_146 k3_pay243
  exact (at_cut (r' := 1536) (c' := 0) (at_queries at_in))

/-- A tile of the second head's keys. -/
theorem r_147_at : At (kernelRun3_A.sl.r_147 (F := Ideal) c arg4 harg4 arg8 x1) (KX x1 1) 0 768 := by
  unfold kernelRun3_A.sl.r_147 k3_pay244
  exact (at_drop v418_at)

/-- The second head: what the tiles from 3 on break off. -/
theorem r_149_at : At (kernelRun3_A.sl.r_149 (F := Ideal) c arg3 harg3 arg4 harg4 arg8 arg9 x0 x1) (fun t _ => CA x0 x1 1 3 t) 1536 0 := by
  unfold kernelRun3_A.sl.r_149 k3_pay250 k3_pay248 k3_pay247 k3_pay246 k3_pay245
  exact (at_carry 3 (by norm_num) (at_cut (r' := 1536) (c' := 768) (at_after 3 (at_ps 3 rfl (at_low (by norm_num) (at_truncf (at_sp (at_base (at_log (at_inc (at_exp2 (at_clamp (at_z rfl r_146_at r_147_at)))))) (at_z rfl r_146_at r_147_at)))) (v32_at 768)) (at_wide r_54_at _))) (at_low (by norm_num) (at_extf (at_cut (r' := 1536) (c' := 768) (at_truncf (at_sp (at_base (at_log (at_inc (at_exp2 (at_clamp (at_z rfl r_146_at r_147_at)))))) (at_z rfl r_146_at r_147_at)))))))

/-- Softplus of the first head's scores. -/
theorem r_151_at : At (kernelRun3_A.sl.r_151 (F := Ideal) c arg3 harg3 arg4 harg4 arg8 x0 x1) (SP x0 x1 0) 1280 512 := by
  unfold kernelRun3_A.sl.r_151 k3_pay254 k3_pay252 k3_pay251
  exact (at_truncf (at_sp (at_base (at_log (at_inc (at_exp2 (at_clamp (at_z rfl (at_cut (r' := 1280) (c' := 0) (at_queries at_in)) (at_drop v466_at))))))) (at_z rfl (at_cut (r' := 1280) (c' := 0) (at_queries at_in)) (at_drop v466_at))))

/-- The first head: what the tiles from 2 on break off. -/
theorem r_153_at : At (kernelRun3_A.sl.r_153 (F := Ideal) c arg3 harg3 arg4 harg4 arg8 arg9 x0 x1) (fun t _ => CA x0 x1 0 2 t) 1280 0 := by
  unfold kernelRun3_A.sl.r_153 k3_pay257 k3_pay255
  exact (at_carry 2 (by norm_num) (at_cut (r' := 1280) (c' := 512) (at_after 2 (at_ps 2 rfl (at_low (by norm_num) r_151_at) (v32_at 512)) (at_wide r_65_at _))) (at_low (by norm_num) (at_extf (at_cut (r' := 1280) (c' := 512) r_151_at))))

/-- Softplus of the second head's scores. -/
theorem r_154_at : At (kernelRun3_A.sl.r_154 (F := Ideal) c arg3 harg3 arg4 harg4 arg8 x0 x1) (SP x0 x1 1) 1280 512 := by
  unfold kernelRun3_A.sl.r_154 k3_pay260 k3_pay259 k3_pay258
  exact (at_truncf (at_sp (at_base (at_log (at_inc (at_exp2 (at_clamp (at_z rfl (at_cut (r' := 1280) (c' := 0) (at_queries at_in)) (at_drop v514_at))))))) (at_z rfl (at_cut (r' := 1280) (c' := 0) (at_queries at_in)) (at_drop v514_at))))

/-- The second head: what all later columns break off, in tile 2. -/
theorem r_155_at : At (kernelRun3_A.sl.r_155 (F := Ideal) c arg3 harg3 arg4 harg4 arg8 arg9 x0 x1) (AF x0 x1 1 2) 1280 512 := by
  unfold kernelRun3_A.sl.r_155 k3_pay261 k3_pay260 k3_pay259 k3_pay258
  exact (at_after 2 (at_ps 2 rfl (at_low (by norm_num) (at_truncf (at_sp (at_base (at_log (at_inc (at_exp2 (at_clamp (at_z rfl (at_cut (r' := 1280) (c' := 0) (at_queries at_in)) (at_drop v514_at))))))) (at_z rfl (at_cut (r' := 1280) (c' := 0) (at_queries at_in)) (at_drop v514_at))))) (v32_at 512)) (at_wide r_75_at _))

/-- The second head: what the tiles from 2 on break off. -/
theorem r_159_at : At (kernelRun3_A.sl.r_159 (F := Ideal) c arg3 harg3 arg4 harg4 arg8 arg9 x0 x1) (fun t _ => CA x0 x1 1 2 t) 1280 0 := by
  unfold kernelRun3_A.sl.r_159 k3_pay265
  exact (at_carry 2 (by norm_num) (at_cut (r' := 1280) (c' := 512) r_155_at) (at_low (by norm_num) (at_extf (at_cut (r' := 1280) (c' := 512) r_154_at))))

/-- The first head: what the tiles from 1 on break off. -/
theorem r_161_at : At (kernelRun3_A.sl.r_161 (F := Ideal) c arg3 harg3 arg4 harg4 arg8 arg9 x0 x1) (fun t _ => CA x0 x1 0 1 t) 1024 0 := by
  unfold kernelRun3_A.sl.r_161 k3_pay271 k3_pay269 k3_pay268 k3_pay267 k3_pay266
  exact (at_carry 1 (by norm_num) (at_cut (r' := 1024) (c' := 256) (at_after 1 (at_ps 1 rfl (at_low (by norm_num) (at_truncf (at_sp (at_base (at_log (at_inc (at_exp2 (at_clamp (at_z rfl (at_cut (r' := 1024) (c' := 0) (at_queries at_in)) (at_drop v562_at))))))) (at_z rfl (at_cut (r' := 1024) (c' := 0) (at_queries at_in)) (at_drop v562_at))))) (v32_at 256)) (at_wide r_86_at _))) (at_low (by norm_num) (at_extf (at_cut (r' := 1024) (c' := 256) (at_truncf (at_sp (at_base (at_log (at_inc (at_exp2 (at_clamp (at_z rfl (at_cut (r' := 1024) (c' := 0) (at_queries at_in)) (at_drop v562_at))))))) (at_z rfl (at_cut (r' := 1024) (c' := 0) (at_queries at_in)) (at_drop v562_at))))))))

/-- Scores of the second head. -/
theorem r_162_at : At (kernelRun3_A.sl.r_162 (F := Ideal) c arg3 harg3 arg4 harg4 arg8 x0 x1) (Z x0 x1 1) 1024 256 := by
  unfold kernelRun3_A.sl.r_162 k3_pay272
  exact (at_z rfl (at_cut (r' := 1024) (c' := 0) (at_queries at_in)) (at_drop v610_at))

/-- The second head: what the tiles from 1 on break off. -/
theorem r_164_at : At (kernelRun3_A.sl.r_164 (F := Ideal) c arg3 harg3 arg4 harg4 arg8 arg9 x0 x1) (fun t _ => CA x0 x1 1 1 t) 1024 0 := by
  unfold kernelRun3_A.sl.r_164 k3_pay273 k3_pay278 k3_pay276 k3_pay275 k3_pay274
  exact (at_carry 1 (by norm_num) (at_cut (r' := 1024) (c' := 256) (at_after 1 (at_ps 1 rfl (at_low (by norm_num) (at_truncf (at_sp (at_base (at_log (at_inc (at_exp2 (at_clamp r_162_at))))) r_162_at))) (v32_at 256)) (at_wide r_97_at _))) (at_low (by norm_num) (at_extf (at_cut (r' := 1024) (c' := 256) (at_truncf (at_sp (at_base (at_log (at_inc (at_exp2 (at_clamp r_162_at))))) r_162_at))))))

/-- No entry of this column of minima is infinite. -/
theorem r_169_at [Finite x0] [Finite x1] (j : S256x1.Idx) : kernelRun3_A.sl.r_169 (F := Ideal) c arg3 harg3 arg4 harg4 arg8 arg9 x0 x1 j < (⊤ : EReal) := by
  unfold kernelRun3_A.sl.r_169 k3_pay285
  exact (fin_min (fin_min (fin_min (fin_min (fin_min (fin_min (fin_col r_161_at))))))) j

/-- The comparison with the cut holds. -/
theorem v1054_at [Finite x0] [Finite x1] : kernelRun3_A.sl.v1054 (F := Ideal) c arg3 harg3 arg4 harg4 arg8 arg9 x0 x1 = 1#1 := by
  unfold kernelRun3_A.sl.v1054 k3_pay286
  exact go_on (fin_min r_169_at)

/-- The first head: weighted sums of the tiles from 0 on. -/
theorem r_218_at [Finite x0] [Finite x1] : At (kernelRun3_A.sl.r_218 (F := Ideal) c arg3 harg3 arg4 harg4 arg5 harg5 arg8 arg9 x0 x1 x2) (AC x0 x1 x2 0 0) 0 0 := by
  unfold kernelRun3_A.sl.r_218 k3_pay364
  exact (at_go v750_at (at_go v1054_at r_125_at))

/-- The first head: weighted sums of the tiles from 0 on. -/
theorem r_126_at : At (kernelRun3_A.sl.r_126 (F := Ideal) c arg3 harg3 arg4 harg4 arg5 harg5 arg8 arg9 x0 x1 x2) (AC x0 x1 x2 0 0) 256 0 := by
  unfold kernelRun3_A.sl.r_126 k3_pay209 k3_pay207
  exact (at_cut (r' := 256) (c' := 0) (at_acc 0 (by norm_num) r_121_at (at_sum 0 rfl (at_truncf (at_under (at_keep below zeros (at_cut (r' := 0) (c' := 0) (at_w 0 (at_sub r_122_at (at_after 0 (at_ps 0 rfl (at_truncf (at_under r_123_at r_124_at)) (v32_at 0)) (at_wide r_120_at _)))))) (at_cut (r' := 256) (c' := 0) (at_w 0 (at_sub r_122_at (at_after 0 (at_ps 0 rfl (at_truncf (at_under r_123_at r_124_at)) (v32_at 0)) (at_wide r_120_at _))))))) (at_drop at_in))))

/-- The first head: weighted sums of the tiles from 0 on. -/
theorem r_219_at [Finite x0] [Finite x1] : At (kernelRun3_A.sl.r_219 (F := Ideal) c arg3 harg3 arg4 harg4 arg5 harg5 arg8 arg9 x0 x1 x2) (AC x0 x1 x2 0 0) 256 0 := by
  unfold kernelRun3_A.sl.r_219 k3_pay365
  exact (at_go v750_at (at_go v1054_at r_126_at))

/-- The first head: weighted sums of the tiles from 0 on. -/
theorem r_127_at : At (kernelRun3_A.sl.r_127 (F := Ideal) c arg3 harg3 arg4 harg4 arg5 harg5 arg8 arg9 x0 x1 x2) (AC x0 x1 x2 0 0) 512 0 := by
  unfold kernelRun3_A.sl.r_127 k3_pay210 k3_pay207
  exact (at_cut (r' := 512) (c' := 0) (at_acc 0 (by norm_num) r_121_at (at_sum 0 rfl (at_truncf (at_under (at_keep below zeros (at_cut (r' := 0) (c' := 0) (at_w 0 (at_sub r_122_at (at_after 0 (at_ps 0 rfl (at_truncf (at_under r_123_at r_124_at)) (v32_at 0)) (at_wide r_120_at _)))))) (at_cut (r' := 256) (c' := 0) (at_w 0 (at_sub r_122_at (at_after 0 (at_ps 0 rfl (at_truncf (at_under r_123_at r_124_at)) (v32_at 0)) (at_wide r_120_at _))))))) (at_drop at_in))))

end Cert.Stick

end
-- ==== Proof.StickSums.lean ====
/-
  The stick-breaking kernel's intermediate values, each as a block of a function of row and column, second part.
-/
module

public import proofs.«01_k».proof.Proof.StickWords

@[expose] public section

set_option maxRecDepth 16384

noncomputable section

open Idealize.ShloMosaic Idealize.ShloMosaic.ValueIdx Cert.KernelIdeal Cert.KernelIdeal.Gen Cert.Tiles

namespace Cert.Stick

variable {c : Dev nD} {i : grid3.Coords}
  {arg3 : Memref sig .tc .vmem S1x2048x128 .bf16} {harg3 : arg3.IsWhole}
  {arg4 : Memref sig .tc .vmem S1x2048x128 .bf16} {harg4 : arg4.IsWhole}
  {arg5 : Memref sig .tc .vmem S1x2048x128 .bf16} {harg5 : arg5.IsWhole}
  {arg8 : Memref sig .tc .vmem S2x128x2048 .bf16} {arg9 : Memref sig .tc .vmem S256x256 .bf16}
  {x0 x1 x2 : Vec Ideal S1x2048x128 .bf16}

/-- The first head: weighted sums of the tiles from 0 on. -/
theorem r_220_at [Finite x0] [Finite x1] : At (kernelRun3_A.sl.r_220 (F := Ideal) c arg3 harg3 arg4 harg4 arg5 harg5 arg8 arg9 x0 x1 x2) (AC x0 x1 x2 0 0) 512 0 := by
  unfold kernelRun3_A.sl.r_220 k3_pay366
  exact (at_go v750_at (at_go v1054_at r_127_at))

/-- The first head: weighted sums of the tiles from 1 on. -/
theorem r_109_at : At (kernelRun3_A.sl.r_109 (F := Ideal) c arg3 harg3 arg4 harg4 arg5 harg5 arg8 arg9 x0 x1 x2) (AC x0 x1 x2 0 1) 768 0 := by
  unfold kernelRun3_A.sl.r_109 k3_pay184 k3_pay177 k3_pay176
  exact (at_cut (r' := 768) (c' := 0) (at_acc 1 (by norm_num) r_99_at (at_sum 1 rfl (at_truncf (at_under (at_keep below zeros (at_cut (r' := 256) (c' := 256) (at_w 1 (at_sub r_100_at (at_after 1 r_102_at r_103_at))))) (at_cut (r' := 512) (c' := 256) (at_w 1 (at_sub r_100_at (at_after 1 r_102_at r_103_at)))))) (at_drop at_in))))

/-- Scores of the first head less their softplus. -/
theorem r_165_at : At (kernelRun3_A.sl.r_165 (F := Ideal) c arg3 harg3 arg4 harg4 arg8 x0 x1) (fun t s => Z x0 x1 0 t s - SP x0 x1 0 t s) 768 0 := by
  unfold kernelRun3_A.sl.r_165 k3_pay281 k3_pay279 k3_pay280
  exact (at_sub (at_z rfl (at_cut (r' := 768) (c' := 0) (at_queries at_in)) (at_drop v658_at)) (at_sp (at_base (at_log (at_inc (at_exp2 (at_clamp (at_z rfl (at_cut (r' := 768) (c' := 0) (at_queries at_in)) (at_drop v658_at))))))) (at_z rfl (at_cut (r' := 768) (c' := 0) (at_queries at_in)) (at_drop v658_at))))

/-- Softplus of the first head's scores. -/
theorem r_166_at : At (kernelRun3_A.sl.r_166 (F := Ideal) c arg3 harg3 arg4 harg4 arg8 x0 x1) (SP x0 x1 0) 768 0 := by
  unfold kernelRun3_A.sl.r_166 k3_pay282 k3_pay280 k3_pay279
  exact (at_truncf (at_sp (at_base (at_log (at_inc (at_exp2 (at_clamp (at_z rfl (at_cut (r' := 768) (c' := 0) (at_queries at_in)) (at_drop v658_at))))))) (at_z rfl (at_cut (r' := 768) (c' := 0) (at_queries at_in)) (at_drop v658_at))))

/-- The first head: weighted sums of the tiles from 0 on. -/
theorem r_167_at : At (kernelRun3_A.sl.r_167 (F := Ideal) c arg3 harg3 arg4 harg4 arg5 harg5 arg8 arg9 x0 x1 x2) (AC x0 x1 x2 0 0) 768 0 := by
  unfold kernelRun3_A.sl.r_167 k3_pay283
  exact (at_acc 0 (by norm_num) r_109_at (at_sum 0 rfl (at_low (by norm_num) (at_truncf (at_w 0 (at_sub r_165_at (at_after 0 (at_ps 0 rfl (at_low (by norm_num) r_166_at) (v32_at 0)) (at_wide r_108_at _)))))) (at_drop at_in)))

/-- The first head: weighted sums of the tiles from 0 on. -/
theorem r_221_at [Finite x0] [Finite x1] : At (kernelRun3_A.sl.r_221 (F := Ideal) c arg3 harg3 arg4 harg4 arg5 harg5 arg8 arg9 x0 x1 x2) (AC x0 x1 x2 0 0) 768 0 := by
  unfold kernelRun3_A.sl.r_221 k3_pay367
  exact (at_go v750_at (at_go v1054_at r_167_at))

/-- The first head: weighted sums of the tiles from 2 on. -/
theorem r_87_at : At (kernelRun3_A.sl.r_87 (F := Ideal) c arg3 harg3 arg4 harg4 arg5 harg5 arg8 arg9 x0 x1 x2) (AC x0 x1 x2 0 2) 1024 0 := by
  unfold kernelRun3_A.sl.r_87 k3_pay153 k3_pay146
  exact (at_cut (r' := 1024) (c' := 0) (at_acc 2 (by norm_num) r_77_at (at_sum 2 rfl (at_truncf (at_under r_80_at r_81_at)) (at_drop at_in))))

/-- The first head: weighted sums of the tiles from 1 on. -/
theorem r_160_at : At (kernelRun3_A.sl.r_160 (F := Ideal) c arg3 harg3 arg4 harg4 arg5 harg5 arg8 arg9 x0 x1 x2) (AC x0 x1 x2 0 1) 1024 0 := by
  unfold kernelRun3_A.sl.r_160 k3_pay270 k3_pay266 k3_pay267 k3_pay269 k3_pay268
  exact (at_acc 1 (by norm_num) r_87_at (at_sum 1 rfl (at_low (by norm_num) (at_truncf (at_w 1 (at_sub (at_sub (at_z rfl (at_cut (r' := 1024) (c' := 0) (at_queries at_in)) (at_drop v562_at)) (at_sp (at_base (at_log (at_inc (at_exp2 (at_clamp (at_z rfl (at_cut (r' := 1024) (c' := 0) (at_queries at_in)) (at_drop v562_at))))))) (at_z rfl (at_cut (r' := 1024) (c' := 0) (at_queries at_in)) (at_drop v562_at)))) (at_after 1 (at_ps 1 rfl (at_low (by norm_num) (at_truncf (at_sp (at_base (at_log (at_inc (at_exp2 (at_clamp (at_z rfl (at_cut (r' := 1024) (c' := 0) (at_queries at_in)) (at_drop v562_at))))))) (at_z rfl (at_cut (r' := 1024) (c' := 0) (at_queries at_in)) (at_drop v562_at))))) (v32_at 256)) (at_wide r_86_at _)))))) (at_drop at_in)))

/-- The first head: what the tiles from 3 on break off. -/
theorem r_171_at : At (kernelRun3_A.sl.r_171 (F := Ideal) c arg3 harg3 arg4 harg4 arg8 arg9 x0 x1) (fun t _ => CA x0 x1 0 3 t) 1792 0 := by
  unfold kernelRun3_A.sl.r_171 k3_pay292 k3_pay290 k3_pay289 k3_pay288 k3_pay287
  exact (at_carry 3 (by norm_num) (at_cut (r' := 1792) (c' := 768) (at_after 3 (at_ps 3 rfl (at_low (by norm_num) (at_truncf (at_sp (at_base (at_log (at_inc (at_exp2 (at_clamp (at_z rfl (at_cut (r' := 1792) (c' := 0) (at_queries at_in)) (at_drop v370_at))))))) (at_z rfl (at_cut (r' := 1792) (c' := 0) (at_queries at_in)) (at_drop v370_at))))) (v32_at 768)) (at_wide r_138_at _))) (at_low (by norm_num) (at_extf (at_cut (r' := 1792) (c' := 768) (at_truncf (at_sp (at_base (at_log (at_inc (at_exp2 (at_clamp (at_z rfl (at_cut (r' := 1792) (c' := 0) (at_queries at_in)) (at_drop v370_at))))))) (at_z rfl (at_cut (r' := 1792) (c' := 0) (at_queries at_in)) (at_drop v370_at))))))))

/-- The first head: what the tiles from 3 on break off. -/
theorem r_175_at : At (kernelRun3_A.sl.r_175 (F := Ideal) c arg3 harg3 arg4 harg4 arg8 arg9 x0 x1) (fun t _ => CA x0 x1 0 3 t) 1536 0 := by
  unfold kernelRun3_A.sl.r_175 k3_pay299
  exact (at_pile (r := 1536) (.cons r_145_at (.cons r_171_at .nil)))

/-- Softplus of the first head's scores. -/
theorem r_178_at : At (kernelRun3_A.sl.r_178 (F := Ideal) c arg3 harg3 arg4 harg4 arg8 x0 x1) (SP x0 x1 0) 1536 512 := by
  unfold kernelRun3_A.sl.r_178 k3_pay304 k3_pay302 k3_pay301
  exact (at_truncf (at_sp (at_base (at_log (at_inc (at_exp2 (at_clamp (at_z rfl (at_cut (r' := 1536) (c' := 0) (at_queries at_in)) (at_drop v466_at))))))) (at_z rfl (at_cut (r' := 1536) (c' := 0) (at_queries at_in)) (at_drop v466_at))))

/-- The first head: what the tiles from 2 on break off. -/
theorem r_179_at : At (kernelRun3_A.sl.r_179 (F := Ideal) c arg3 harg3 arg4 harg4 arg8 arg9 x0 x1) (fun t _ => CA x0 x1 0 2 t) 1536 0 := by
  unfold kernelRun3_A.sl.r_179 k3_pay308 k3_pay307 k3_pay305
  exact (at_cut (r' := 1536) (c' := 0) (at_carry 2 (by norm_num) (at_cut (r' := 1536) (c' := 512) (at_after 2 (at_ps 2 rfl (at_low (by norm_num) r_178_at) (v32_at 512)) (at_wide r_175_at _))) (at_low (by norm_num) (at_extf (at_cut (r' := 1536) (c' := 512) r_178_at)))))

/-- The first head: what the tiles from 2 on break off. -/
theorem r_181_at : At (kernelRun3_A.sl.r_181 (F := Ideal) c arg3 harg3 arg4 harg4 arg8 arg9 x0 x1) (fun t _ => CA x0 x1 0 2 t) 1792 0 := by
  unfold kernelRun3_A.sl.r_181 k3_pay310 k3_pay307 k3_pay305
  exact (at_cut (r' := 1792) (c' := 0) (at_carry 2 (by norm_num) (at_cut (r' := 1536) (c' := 512) (at_after 2 (at_ps 2 rfl (at_low (by norm_num) r_178_at) (v32_at 512)) (at_wide r_175_at _))) (at_low (by norm_num) (at_extf (at_cut (r' := 1536) (c' := 512) r_178_at)))))

/-- The first head: what all later columns break off, in tile 1. -/
theorem r_192_at : At (kernelRun3_A.sl.r_192 (F := Ideal) c arg3 harg3 arg4 harg4 arg8 arg9 x0 x1) (AF x0 x1 0 1) 1280 256 := by
  unfold kernelRun3_A.sl.r_192 k3_pay329 k3_pay327 k3_pay326 k3_pay325 k3_pay324
  exact (at_cut (r' := 1280) (c' := 256) (at_after 1 (at_ps 1 rfl (at_low (by norm_num) (at_truncf (at_sp (at_base (at_log (at_inc (at_exp2 (at_clamp (at_z rfl (at_cut (r' := 1280) (c' := 0) (at_queries at_in)) (at_drop v562_at))))))) (at_z rfl (at_cut (r' := 1280) (c' := 0) (at_queries at_in)) (at_drop v562_at))))) (v32_at 256)) (at_wide (at_pile (r := 1280) (.cons r_153_at (.cons r_179_at (.cons r_181_at .nil)))) _)))

/-- Softplus of the first head's scores. -/
theorem r_193_at : At (kernelRun3_A.sl.r_193 (F := Ideal) c arg3 harg3 arg4 harg4 arg8 x0 x1) (SP x0 x1 0) 1280 256 := by
  unfold kernelRun3_A.sl.r_193 k3_pay330 k3_pay326 k3_pay325 k3_pay324
  exact (at_cut (r' := 1280) (c' := 256) (at_truncf (at_sp (at_base (at_log (at_inc (at_exp2 (at_clamp (at_z rfl (at_cut (r' := 1280) (c' := 0) (at_queries at_in)) (at_drop v562_at))))))) (at_z rfl (at_cut (r' := 1280) (c' := 0) (at_queries at_in)) (at_drop v562_at)))))

/-- The first head: what the tiles from 1 on break off. -/
theorem r_194_at : At (kernelRun3_A.sl.r_194 (F := Ideal) c arg3 harg3 arg4 harg4 arg8 arg9 x0 x1) (fun t _ => CA x0 x1 0 1 t) 1280 0 := by
  unfold kernelRun3_A.sl.r_194 k3_pay332 k3_pay331
  exact (at_cut (r' := 1280) (c' := 0) (at_carry 1 (by norm_num) r_192_at (at_low (by norm_num) (at_extf r_193_at))))

/-- The first head: weighted sums of the tiles from 3 on. -/
theorem r_66_at : At (kernelRun3_A.sl.r_66 (F := Ideal) c arg3 harg3 arg4 harg4 arg5 harg5 arg8 arg9 x0 x1 x2) (AC x0 x1 x2 0 3) 1280 0 := by
  unfold kernelRun3_A.sl.r_66 k3_pay123 k3_pay116
  exact (at_cut (r' := 1280) (c' := 0) (at_acc 3 (by norm_num) r_56_at (at_sum 3 rfl r_59_at r_60_at)))

/-- Scores of the first head less their softplus. -/
theorem r_150_at : At (kernelRun3_A.sl.r_150 (F := Ideal) c arg3 harg3 arg4 harg4 arg8 x0 x1) (fun t s => Z x0 x1 0 t s - SP x0 x1 0 t s) 1280 512 := by
  unfold kernelRun3_A.sl.r_150 k3_pay253 k3_pay251 k3_pay252
  exact (at_sub (at_z rfl (at_cut (r' := 1280) (c' := 0) (at_queries at_in)) (at_drop v466_at)) (at_sp (at_base (at_log (at_inc (at_exp2 (at_clamp (at_z rfl (at_cut (r' := 1280) (c' := 0) (at_queries at_in)) (at_drop v466_at))))))) (at_z rfl (at_cut (r' := 1280) (c' := 0) (at_queries at_in)) (at_drop v466_at))))

/-- The first head: weighted sums of the tiles from 2 on. -/
theorem r_152_at : At (kernelRun3_A.sl.r_152 (F := Ideal) c arg3 harg3 arg4 harg4 arg5 harg5 arg8 arg9 x0 x1 x2) (AC x0 x1 x2 0 2) 1280 0 := by
  unfold kernelRun3_A.sl.r_152 k3_pay256 k3_pay255
  exact (at_acc 2 (by norm_num) r_66_at (at_sum 2 rfl (at_low (by norm_num) (at_truncf (at_w 2 (at_sub r_150_at (at_after 2 (at_ps 2 rfl (at_low (by norm_num) r_151_at) (v32_at 512)) (at_wide r_65_at _)))))) (at_drop at_in)))

/-- The first head: weighted sums of the tiles from 4 on. -/
theorem r_46_at : At (kernelRun3_A.sl.r_46 (F := Ideal) c arg3 harg3 arg4 harg4 arg5 harg5 arg8 arg9 x0 x1 x2) (AC x0 x1 x2 0 4) 1536 0 := by
  unfold kernelRun3_A.sl.r_46 k3_pay94
  exact (at_cut (r' := 1536) (c' := 0) r_39_at)

/-- The first head: weighted sums of the tiles from 3 on. -/
theorem r_144_at : At (kernelRun3_A.sl.r_144 (F := Ideal) c arg3 harg3 arg4 harg4 arg5 harg5 arg8 arg9 x0 x1 x2) (AC x0 x1 x2 0 3) 1536 0 := by
  unfold kernelRun3_A.sl.r_144 k3_pay241 k3_pay237 k3_pay238 k3_pay240 k3_pay239
  exact (at_acc 3 (by norm_num) r_46_at (at_sum 3 rfl (at_low (by norm_num) (at_truncf (at_w 3 (at_sub (at_sub (at_z rfl (at_cut (r' := 1536) (c' := 0) (at_queries at_in)) (at_drop v370_at)) (at_sp (at_base (at_log (at_inc (at_exp2 (at_clamp (at_z rfl (at_cut (r' := 1536) (c' := 0) (at_queries at_in)) (at_drop v370_at))))))) (at_z rfl (at_cut (r' := 1536) (c' := 0) (at_queries at_in)) (at_drop v370_at)))) (at_after 3 (at_ps 3 rfl (at_low (by norm_num) (at_truncf (at_sp (at_base (at_log (at_inc (at_exp2 (at_clamp (at_z rfl (at_cut (r' := 1536) (c' := 0) (at_queries at_in)) (at_drop v370_at))))))) (at_z rfl (at_cut (r' := 1536) (c' := 0) (at_queries at_in)) (at_drop v370_at))))) (v32_at 768)) (at_wide r_45_at _)))))) (at_drop at_in)))

/-- The first head: weighted sums of the tiles from 5 on. -/
theorem r_29_at : At (kernelRun3_A.sl.r_29 (F := Ideal) c arg3 harg3 arg4 harg4 arg5 harg5 arg8 arg9 x0 x1 x2) (AC x0 x1 x2 0 5) 1792 0 := by
  unfold kernelRun3_A.sl.r_29 k3_pay67 k3_pay60 k3_pay56 k3_pay57 k3_pay59 k3_pay58
  exact (at_cut (r' := 1792) (c' := 0) (at_acc 5 (by norm_num) r_22_at (at_sum 5 rfl (at_truncf (at_under (at_keep below zeros (at_cut (r' := 1280) (c' := 1280) (at_w 5 (at_sub (at_sub (at_z rfl r_20_at r_23_at) (at_sp (at_base (at_log (at_inc (at_exp2 (at_clamp (at_z rfl r_20_at r_23_at)))))) (at_z rfl r_20_at r_23_at))) (at_after 5 (at_ps 5 rfl (at_truncf (at_under (at_keep below zeros (at_cut (r' := 1280) (c' := 1280) (at_sp (at_base (at_log (at_inc (at_exp2 (at_clamp (at_z rfl r_20_at r_23_at)))))) (at_z rfl r_20_at r_23_at)))) (at_cut (r' := 1536) (c' := 1280) (at_sp (at_base (at_log (at_inc (at_exp2 (at_clamp (at_z rfl r_20_at r_23_at)))))) (at_z rfl r_20_at r_23_at))))) (v32_at 1280)) (at_wide r_21_at _)))))) (at_cut (r' := 1536) (c' := 1280) (at_w 5 (at_sub (at_sub (at_z rfl r_20_at r_23_at) (at_sp (at_base (at_log (at_inc (at_exp2 (at_clamp (at_z rfl r_20_at r_23_at)))))) (at_z rfl r_20_at r_23_at))) (at_after 5 (at_ps 5 rfl (at_truncf (at_under (at_keep below zeros (at_cut (r' := 1280) (c' := 1280) (at_sp (at_base (at_log (at_inc (at_exp2 (at_clamp (at_z rfl r_20_at r_23_at)))))) (at_z rfl r_20_at r_23_at)))) (at_cut (r' := 1536) (c' := 1280) (at_sp (at_base (at_log (at_inc (at_exp2 (at_clamp (at_z rfl r_20_at r_23_at)))))) (at_z rfl r_20_at r_23_at))))) (v32_at 1280)) (at_wide r_21_at _))))))) (at_drop at_in))))

/-- The first head: weighted sums of the tiles from 4 on. -/
theorem r_137_at : At (kernelRun3_A.sl.r_137 (F := Ideal) c arg3 harg3 arg4 harg4 arg5 harg5 arg8 arg9 x0 x1 x2) (AC x0 x1 x2 0 4) 1792 0 := by
  unfold kernelRun3_A.sl.r_137 k3_pay224 k3_pay228 k3_pay225 k3_pay227 k3_pay226
  exact (at_acc 4 (by norm_num) r_29_at (at_sum 4 rfl (at_low (by norm_num) (at_truncf (at_w 4 (at_sub (at_sub r_135_at (at_sp (at_base r_136_at) r_135_at)) (at_after 4 (at_ps 4 rfl (at_low (by norm_num) (at_truncf (at_sp (at_base r_136_at) r_135_at))) (v32_at 1024)) (at_wide r_28_at _)))))) (at_drop at_in)))

/-- The first head: weighted sums of the tiles from 3 on. -/
theorem r_170_at : At (kernelRun3_A.sl.r_170 (F := Ideal) c arg3 harg3 arg4 harg4 arg5 harg5 arg8 arg9 x0 x1 x2) (AC x0 x1 x2 0 3) 1792 0 := by
  unfold kernelRun3_A.sl.r_170 k3_pay291 k3_pay287 k3_pay288 k3_pay290 k3_pay289
  exact (at_acc 3 (by norm_num) r_137_at (at_sum 3 rfl (at_low (by norm_num) (at_truncf (at_w 3 (at_sub (at_sub (at_z rfl (at_cut (r' := 1792) (c' := 0) (at_queries at_in)) (at_drop v370_at)) (at_sp (at_base (at_log (at_inc (at_exp2 (at_clamp (at_z rfl (at_cut (r' := 1792) (c' := 0) (at_queries at_in)) (at_drop v370_at))))))) (at_z rfl (at_cut (r' := 1792) (c' := 0) (at_queries at_in)) (at_drop v370_at)))) (at_after 3 (at_ps 3 rfl (at_low (by norm_num) (at_truncf (at_sp (at_base (at_log (at_inc (at_exp2 (at_clamp (at_z rfl (at_cut (r' := 1792) (c' := 0) (at_queries at_in)) (at_drop v370_at))))))) (at_z rfl (at_cut (r' := 1792) (c' := 0) (at_queries at_in)) (at_drop v370_at))))) (v32_at 768)) (at_wide r_138_at _)))))) (at_drop at_in)))

/-- The first head: weighted sums of the tiles from 3 on. -/
theorem r_176_at : At (kernelRun3_A.sl.r_176 (F := Ideal) c arg3 harg3 arg4 harg4 arg5 harg5 arg8 arg9 x0 x1 x2) (AC x0 x1 x2 0 3) 1536 0 := by
  unfold kernelRun3_A.sl.r_176 k3_pay300
  exact (at_pile (r := 1536) (.cons r_144_at (.cons r_170_at .nil)))

/-- Scores of the first head less their softplus. -/
theorem r_177_at : At (kernelRun3_A.sl.r_177 (F := Ideal) c arg3 harg3 arg4 harg4 arg8 x0 x1) (fun t s => Z x0 x1 0 t s - SP x0 x1 0 t s) 1536 512 := by
  unfold kernelRun3_A.sl.r_177 k3_pay303 k3_pay301 k3_pay302
  exact (at_sub (at_z rfl (at_cut (r' := 1536) (c' := 0) (at_queries at_in)) (at_drop v466_at)) (at_sp (at_base (at_log (at_inc (at_exp2 (at_clamp (at_z rfl (at_cut (r' := 1536) (c' := 0) (at_queries at_in)) (at_drop v466_at))))))) (at_z rfl (at_cut (r' := 1536) (c' := 0) (at_queries at_in)) (at_drop v466_at))))

/-- The first head: weighted sums of the tiles from 2 on. -/
theorem r_180_at : At (kernelRun3_A.sl.r_180 (F := Ideal) c arg3 harg3 arg4 harg4 arg5 harg5 arg8 arg9 x0 x1 x2) (AC x0 x1 x2 0 2) 1536 0 := by
  unfold kernelRun3_A.sl.r_180 k3_pay309 k3_pay306 k3_pay305
  exact (at_cut (r' := 1536) (c' := 0) (at_acc 2 (by norm_num) r_176_at (at_sum 2 rfl (at_low (by norm_num) (at_truncf (at_w 2 (at_sub r_177_at (at_after 2 (at_ps 2 rfl (at_low (by norm_num) r_178_at) (v32_at 512)) (at_wide r_175_at _)))))) (at_drop at_in))))

/-- The first head: weighted sums of the tiles from 2 on. -/
theorem r_182_at : At (kernelRun3_A.sl.r_182 (F := Ideal) c arg3 harg3 arg4 harg4 arg5 harg5 arg8 arg9 x0 x1 x2) (AC x0 x1 x2 0 2) 1792 0 := by
  unfold kernelRun3_A.sl.r_182 k3_pay311 k3_pay306 k3_pay305
  exact (at_cut (r' := 1792) (c' := 0) (at_acc 2 (by norm_num) r_176_at (at_sum 2 rfl (at_low (by norm_num) (at_truncf (at_w 2 (at_sub r_177_at (at_after 2 (at_ps 2 rfl (at_low (by norm_num) r_178_at) (v32_at 512)) (at_wide r_175_at _)))))) (at_drop at_in))))

/-- The first head: weighted sums of the tiles from 1 on. -/
theorem r_191_at : At (kernelRun3_A.sl.r_191 (F := Ideal) c arg3 harg3 arg4 harg4 arg5 harg5 arg8 arg9 x0 x1 x2) (AC x0 x1 x2 0 1) 1280 0 := by
  unfold kernelRun3_A.sl.r_191 k3_pay328 k3_pay324 k3_pay325 k3_pay327 k3_pay326
  exact (at_acc 1 (by norm_num) (at_pile (r := 1280) (.cons r_152_at (.cons r_180_at (.cons r_182_at .nil)))) (at_sum 1 rfl (at_low (by norm_num) (at_truncf (at_w 1 (at_sub (at_sub (at_z rfl (at_cut (r' := 1280) (c' := 0) (at_queries at_in)) (at_drop v562_at)) (at_sp (at_base (at_log (at_inc (at_exp2 (at_clamp (at_z rfl (at_cut (r' := 1280) (c' := 0) (at_queries at_in)) (at_drop v562_at))))))) (at_z rfl (at_cut (r' := 1280) (c' := 0) (at_queries at_in)) (at_drop v562_at)))) (at_after 1 (at_ps 1 rfl (at_low (by norm_num) (at_truncf (at_sp (at_base (at_log (at_inc (at_exp2 (at_clamp (at_z rfl (at_cut (r' := 1280) (c' := 0) (at_queries at_in)) (at_drop v562_at))))))) (at_z rfl (at_cut (r' := 1280) (c' := 0) (at_queries at_in)) (at_drop v562_at))))) (v32_at 256)) (at_wide (at_pile (r := 1280) (.cons r_153_at (.cons r_179_at (.cons r_181_at .nil)))) _)))))) (at_drop at_in)))

/-- The first head: weighted sums of the tiles from 1 on. -/
theorem r_195_at : At (kernelRun3_A.sl.r_195 (F := Ideal) c arg3 harg3 arg4 harg4 arg5 harg5 arg8 arg9 x0 x1 x2) (AC x0 x1 x2 0 1) 1280 0 := by
  unfold kernelRun3_A.sl.r_195 k3_pay333
  exact (at_cut (r' := 1280) (c' := 0) r_191_at)

/-- The first head: what the tiles from 1 on break off. -/
theorem r_196_at : At (kernelRun3_A.sl.r_196 (F := Ideal) c arg3 harg3 arg4 harg4 arg8 arg9 x0 x1) (fun t _ => CA x0 x1 0 1 t) 1536 0 := by
  unfold kernelRun3_A.sl.r_196 k3_pay334 k3_pay331
  exact (at_cut (r' := 1536) (c' := 0) (at_carry 1 (by norm_num) r_192_at (at_low (by norm_num) (at_extf r_193_at))))

/-- The first head: weighted sums of the tiles from 1 on. -/
theorem r_197_at : At (kernelRun3_A.sl.r_197 (F := Ideal) c arg3 harg3 arg4 harg4 arg5 harg5 arg8 arg9 x0 x1 x2) (AC x0 x1 x2 0 1) 1536 0 := by
  unfold kernelRun3_A.sl.r_197 k3_pay335
  exact (at_cut (r' := 1536) (c' := 0) r_191_at)

/-- The first head: what the tiles from 1 on break off. -/
theorem r_198_at : At (kernelRun3_A.sl.r_198 (F := Ideal) c arg3 harg3 arg4 harg4 arg8 arg9 x0 x1) (fun t _ => CA x0 x1 0 1 t) 1792 0 := by
  unfold kernelRun3_A.sl.r_198 k3_pay336 k3_pay331
  exact (at_cut (r' := 1792) (c' := 0) (at_carry 1 (by norm_num) r_192_at (at_low (by norm_num) (at_extf r_193_at))))

/-- The first head: weighted sums of the tiles from 1 on. -/
theorem r_199_at : At (kernelRun3_A.sl.r_199 (F := Ideal) c arg3 harg3 arg4 harg4 arg5 harg5 arg8 arg9 x0 x1 x2) (AC x0 x1 x2 0 1) 1792 0 := by
  unfold kernelRun3_A.sl.r_199 k3_pay337
  exact (at_cut (r' := 1792) (c' := 0) r_191_at)

/-- The first head: weighted sums of the tiles from 0 on. -/
theorem r_206_at : At (kernelRun3_A.sl.r_206 (F := Ideal) c arg3 harg3 arg4 harg4 arg5 harg5 arg8 arg9 x0 x1 x2) (AC x0 x1 x2 0 0) 1024 0 := by
  unfold kernelRun3_A.sl.r_206 k3_pay351 k3_pay350
  exact (at_cut (r' := 1024) (c' := 0) (at_acc 0 (by norm_num) (at_pile (r := 1024) (.cons r_160_at (.cons r_195_at (.cons r_197_at (.cons r_199_at .nil))))) (at_sum 0 rfl (at_low (by norm_num) (at_truncf (at_w 0 (at_sub (at_sub (at_z rfl (at_cut (r' := 1024) (c' := 0) (at_queries at_in)) (at_drop v658_at)) (at_sp (at_base (at_log (at_inc (at_exp2 (at_clamp (at_z rfl (at_cut (r' := 1024) (c' := 0) (at_queries at_in)) (at_drop v658_at))))))) (at_z rfl (at_cut (r' := 1024) (c' := 0) (at_queries at_in)) (at_drop v658_at)))) (at_after 0 (at_ps 0 rfl (at_low (by norm_num) (at_truncf (at_sp (at_base (at_log (at_inc (at_exp2 (at_clamp (at_z rfl (at_cut (r' := 1024) (c' := 0) (at_queries at_in)) (at_drop v658_at))))))) (at_z rfl (at_cut (r' := 1024) (c' := 0) (at_queries at_in)) (at_drop v658_at))))) (v32_at 0)) (at_wide (at_pile (r := 1024) (.cons r_161_at (.cons r_194_at (.cons r_196_at (.cons r_198_at .nil))))) _)))))) (at_drop at_in))))

/-- The first head: weighted sums of the tiles from 0 on. -/
theorem r_222_at [Finite x0] [Finite x1] : At (kernelRun3_A.sl.r_222 (F := Ideal) c arg3 harg3 arg4 harg4 arg5 harg5 arg8 arg9 x0 x1 x2) (AC x0 x1 x2 0 0) 1024 0 := by
  unfold kernelRun3_A.sl.r_222 k3_pay368
  exact (at_go v750_at (at_go v1054_at r_206_at))

/-- The first head: weighted sums of the tiles from 0 on. -/
theorem r_207_at : At (kernelRun3_A.sl.r_207 (F := Ideal) c arg3 harg3 arg4 harg4 arg5 harg5 arg8 arg9 x0 x1 x2) (AC x0 x1 x2 0 0) 1280 0 := by
  unfold kernelRun3_A.sl.r_207 k3_pay352 k3_pay350
  exact (at_cut (r' := 1280) (c' := 0) (at_acc 0 (by norm_num) (at_pile (r := 1024) (.cons r_160_at (.cons r_195_at (.cons r_197_at (.cons r_199_at .nil))))) (at_sum 0 rfl (at_low (by norm_num) (at_truncf (at_w 0 (at_sub (at_sub (at_z rfl (at_cut (r' := 1024) (c' := 0) (at_queries at_in)) (at_drop v658_at)) (at_sp (at_base (at_log (at_inc (at_exp2 (at_clamp (at_z rfl (at_cut (r' := 1024) (c' := 0) (at_queries at_in)) (at_drop v658_at))))))) (at_z rfl (at_cut (r' := 1024) (c' := 0) (at_queries at_in)) (at_drop v658_at)))) (at_after 0 (at_ps 0 rfl (at_low (by norm_num) (at_truncf (at_sp (at_base (at_log (at_inc (at_exp2 (at_clamp (at_z rfl (at_cut (r' := 1024) (c' := 0) (at_queries at_in)) (at_drop v658_at))))))) (at_z rfl (at_cut (r' := 1024) (c' := 0) (at_queries at_in)) (at_drop v658_at))))) (v32_at 0)) (at_wide (at_pile (r := 1024) (.cons r_161_at (.cons r_194_at (.cons r_196_at (.cons r_198_at .nil))))) _)))))) (at_drop at_in))))

/-- The first head: weighted sums of the tiles from 0 on. -/
theorem r_223_at [Finite x0] [Finite x1] : At (kernelRun3_A.sl.r_223 (F := Ideal) c arg3 harg3 arg4 harg4 arg5 harg5 arg8 arg9 x0 x1 x2) (AC x0 x1 x2 0 0) 1280 0 := by
  unfold kernelRun3_A.sl.r_223 k3_pay369
  exact (at_go v750_at (at_go v1054_at r_207_at))

/-- The first head: weighted sums of the tiles from 0 on. -/
theorem r_208_at : At (kernelRun3_A.sl.r_208 (F := Ideal) c arg3 harg3 arg4 harg4 arg5 harg5 arg8 arg9 x0 x1 x2) (AC x0 x1 x2 0 0) 1536 0 := by
  unfold kernelRun3_A.sl.r_208 k3_pay353 k3_pay350
  exact (at_cut (r' := 1536) (c' := 0) (at_acc 0 (by norm_num) (at_pile (r := 1024) (.cons r_160_at (.cons r_195_at (.cons r_197_at (.cons r_199_at .nil))))) (at_sum 0 rfl (at_low (by norm_num) (at_truncf (at_w 0 (at_sub (at_sub (at_z rfl (at_cut (r' := 1024) (c' := 0) (at_queries at_in)) (at_drop v658_at)) (at_sp (at_base (at_log (at_inc (at_exp2 (at_clamp (at_z rfl (at_cut (r' := 1024) (c' := 0) (at_queries at_in)) (at_drop v658_at))))))) (at_z rfl (at_cut (r' := 1024) (c' := 0) (at_queries at_in)) (at_drop v658_at)))) (at_after 0 (at_ps 0 rfl (at_low (by norm_num) (at_truncf (at_sp (at_base (at_log (at_inc (at_exp2 (at_clamp (at_z rfl (at_cut (r' := 1024) (c' := 0) (at_queries at_in)) (at_drop v658_at))))))) (at_z rfl (at_cut (r' := 1024) (c' := 0) (at_queries at_in)) (at_drop v658_at))))) (v32_at 0)) (at_wide (at_pile (r := 1024) (.cons r_161_at (.cons r_194_at (.cons r_196_at (.cons r_198_at .nil))))) _)))))) (at_drop at_in))))

/-- The first head: weighted sums of the tiles from 0 on. -/
theorem r_224_at [Finite x0] [Finite x1] : At (kernelRun3_A.sl.r_224 (F := Ideal) c arg3 harg3 arg4 harg4 arg5 harg5 arg8 arg9 x0 x1 x2) (AC x0 x1 x2 0 0) 1536 0 := by
  unfold kernelRun3_A.sl.r_224 k3_pay370
  exact (at_go v750_at (at_go v1054_at r_208_at))

/-- The first head: weighted sums of the tiles from 0 on. -/
theorem r_209_at : At (kernelRun3_A.sl.r_209 (F := Ideal) c arg3 harg3 arg4 harg4 arg5 harg5 arg8 arg9 x0 x1 x2) (AC x0 x1 x2 0 0) 1792 0 := by
  unfold kernelRun3_A.sl.r_209 k3_pay354 k3_pay350
  exact (at_cut (r' := 1792) (c' := 0) (at_acc 0 (by norm_num) (at_pile (r := 1024) (.cons r_160_at (.cons r_195_at (.cons r_197_at (.cons r_199_at .nil))))) (at_sum 0 rfl (at_low (by norm_num) (at_truncf (at_w 0 (at_sub (at_sub (at_z rfl (at_cut (r' := 1024) (c' := 0) (at_queries at_in)) (at_drop v658_at)) (at_sp (at_base (at_log (at_inc (at_exp2 (at_clamp (at_z rfl (at_cut (r' := 1024) (c' := 0) (at_queries at_in)) (at_drop v658_at))))))) (at_z rfl (at_cut (r' := 1024) (c' := 0) (at_queries at_in)) (at_drop v658_at)))) (at_after 0 (at_ps 0 rfl (at_low (by norm_num) (at_truncf (at_sp (at_base (at_log (at_inc (at_exp2 (at_clamp (at_z rfl (at_cut (r' := 1024) (c' := 0) (at_queries at_in)) (at_drop v658_at))))))) (at_z rfl (at_cut (r' := 1024) (c' := 0) (at_queries at_in)) (at_drop v658_at))))) (v32_at 0)) (at_wide (at_pile (r := 1024) (.cons r_161_at (.cons r_194_at (.cons r_196_at (.cons r_198_at .nil))))) _)))))) (at_drop at_in))))

/-- The first head: weighted sums of the tiles from 0 on. -/
theorem r_225_at [Finite x0] [Finite x1] : At (kernelRun3_A.sl.r_225 (F := Ideal) c arg3 harg3 arg4 harg4 arg5 harg5 arg8 arg9 x0 x1 x2) (AC x0 x1 x2 0 0) 1792 0 := by
  unfold kernelRun3_A.sl.r_225 k3_pay371
  exact (at_go v750_at (at_go v1054_at r_209_at))

/-- The first head: weighted sums of the tiles from 0 on. -/
theorem r_230_at [Finite x0] [Finite x1] : At (kernelRun3_A.sl.r_230 (F := Ideal) c arg3 harg3 arg4 harg4 arg5 harg5 arg8 arg9 x0 x1 x2) (AC x0 x1 x2 0 0) 0 0 := by
  unfold kernelRun3_A.sl.r_230 k3_pay376
  exact (at_pile (r := 0) (.cons r_218_at (.cons r_219_at (.cons r_220_at (.cons r_221_at (.cons r_222_at (.cons r_223_at (.cons r_224_at (.cons r_225_at .nil)))))))))

/-- The second head: weighted sums of the tiles from 7 on. -/
theorem r_4_at : At (kernelRun3_A.sl.r_4 (F := Ideal) c arg3 harg3 arg4 harg4 arg5 harg5 arg8 arg9 x0 x1 x2) (AC x0 x1 x2 1 7) 1792 0 := by
  unfold kernelRun3_A.sl.r_4 k3_pay11 k3_pay13 k3_pay25 k3_pay21 k3_pay22 k3_pay24 k3_pay23
  exact (at_acc 7 (by norm_num) (at_acc0 zeros (by norm_num)) (at_sum 7 rfl (at_truncf (at_keep below zeros (at_w 7 (at_sub (at_sub (at_z rfl r_3_at (at_drop v50_at)) (at_sp (at_base (at_log (at_inc (at_exp2 (at_clamp (at_z rfl r_3_at (at_drop v50_at))))))) (at_z rfl r_3_at (at_drop v50_at)))) (at_after 7 (at_ps 7 rfl (at_truncf (at_keep below zeros (at_sp (at_base (at_log (at_inc (at_exp2 (at_clamp (at_z rfl r_3_at (at_drop v50_at))))))) (at_z rfl r_3_at (at_drop v50_at))))) (v32_at 1792)) (at_wide (at_car0 (k := 8) zeros (by norm_num)) _)))))) (at_drop at_in)))

/-- The second head: weighted sums of the tiles from 7 on. -/
theorem r_14_at : At (kernelRun3_A.sl.r_14 (F := Ideal) c arg3 harg3 arg4 harg4 arg5 harg5 arg8 arg9 x0 x1 x2) (AC x0 x1 x2 1 7) 1536 0 := by
  unfold kernelRun3_A.sl.r_14 k3_pay13 k3_pay41
  exact (at_pile (r := 1536) (.cons (at_acc0 zeros (by norm_num)) (.cons r_4_at .nil)))

/-- The second head: weighted sums of the tiles from 6 on. -/
theorem r_17_at : At (kernelRun3_A.sl.r_17 (F := Ideal) c arg3 harg3 arg4 harg4 arg5 harg5 arg8 arg9 x0 x1 x2) (AC x0 x1 x2 1 6) 1536 0 := by
  unfold kernelRun3_A.sl.r_17 k3_pay49 k3_pay46 k3_pay43 k3_pay45 k3_pay44
  exact (at_cut (r' := 1536) (c' := 0) (at_acc 6 (by norm_num) r_14_at (at_sum 6 rfl (at_truncf (at_under (at_keep below zeros (at_cut (r' := 1536) (c' := 1536) (at_w 6 (at_sub (at_sub r_15_at (at_sp (at_base (at_log (at_inc (at_exp2 (at_clamp r_15_at))))) r_15_at)) (at_after 6 (at_ps 6 rfl (at_truncf (at_under (at_keep below zeros (at_cut (r' := 1536) (c' := 1536) (at_sp (at_base (at_log (at_inc (at_exp2 (at_clamp r_15_at))))) r_15_at))) (at_cut (r' := 1792) (c' := 1536) (at_sp (at_base (at_log (at_inc (at_exp2 (at_clamp r_15_at))))) r_15_at)))) (v32_at 1536)) (at_wide r_13_at _)))))) (at_cut (r' := 1792) (c' := 1536) (at_w 6 (at_sub (at_sub r_15_at (at_sp (at_base (at_log (at_inc (at_exp2 (at_clamp r_15_at))))) r_15_at)) (at_after 6 (at_ps 6 rfl (at_truncf (at_under (at_keep below zeros (at_cut (r' := 1536) (c' := 1536) (at_sp (at_base (at_log (at_inc (at_exp2 (at_clamp r_15_at))))) r_15_at))) (at_cut (r' := 1792) (c' := 1536) (at_sp (at_base (at_log (at_inc (at_exp2 (at_clamp r_15_at))))) r_15_at)))) (v32_at 1536)) (at_wide r_13_at _))))))) (at_drop at_in))))

/-- The second head: weighted sums of the tiles from 6 on. -/
theorem r_19_at : At (kernelRun3_A.sl.r_19 (F := Ideal) c arg3 harg3 arg4 harg4 arg5 harg5 arg8 arg9 x0 x1 x2) (AC x0 x1 x2 1 6) 1792 0 := by
  unfold kernelRun3_A.sl.r_19 k3_pay51 k3_pay46 k3_pay43 k3_pay45 k3_pay44
  exact (at_cut (r' := 1792) (c' := 0) (at_acc 6 (by norm_num) r_14_at (at_sum 6 rfl (at_truncf (at_under (at_keep below zeros (at_cut (r' := 1536) (c' := 1536) (at_w 6 (at_sub (at_sub r_15_at (at_sp (at_base (at_log (at_inc (at_exp2 (at_clamp r_15_at))))) r_15_at)) (at_after 6 (at_ps 6 rfl (at_truncf (at_under (at_keep below zeros (at_cut (r' := 1536) (c' := 1536) (at_sp (at_base (at_log (at_inc (at_exp2 (at_clamp r_15_at))))) r_15_at))) (at_cut (r' := 1792) (c' := 1536) (at_sp (at_base (at_log (at_inc (at_exp2 (at_clamp r_15_at))))) r_15_at)))) (v32_at 1536)) (at_wide r_13_at _)))))) (at_cut (r' := 1792) (c' := 1536) (at_w 6 (at_sub (at_sub r_15_at (at_sp (at_base (at_log (at_inc (at_exp2 (at_clamp r_15_at))))) r_15_at)) (at_after 6 (at_ps 6 rfl (at_truncf (at_under (at_keep below zeros (at_cut (r' := 1536) (c' := 1536) (at_sp (at_base (at_log (at_inc (at_exp2 (at_clamp r_15_at))))) r_15_at))) (at_cut (r' := 1792) (c' := 1536) (at_sp (at_base (at_log (at_inc (at_exp2 (at_clamp r_15_at))))) r_15_at)))) (v32_at 1536)) (at_wide r_13_at _))))))) (at_drop at_in))))

/-- The second head: weighted sums of the tiles from 6 on. -/
theorem r_32_at : At (kernelRun3_A.sl.r_32 (F := Ideal) c arg3 harg3 arg4 harg4 arg5 harg5 arg8 arg9 x0 x1 x2) (AC x0 x1 x2 1 6) 1280 0 := by
  unfold kernelRun3_A.sl.r_32 k3_pay13 k3_pay70
  exact (at_pile (r := 1280) (.cons (at_acc0 zeros (by norm_num)) (.cons r_17_at (.cons r_19_at .nil))))

/-- The second head: weighted sums of the tiles from 5 on. -/
theorem r_38_at : At (kernelRun3_A.sl.r_38 (F := Ideal) c arg3 harg3 arg4 harg4 arg5 harg5 arg8 arg9 x0 x1 x2) (AC x0 x1 x2 1 5) 1792 0 := by
  unfold kernelRun3_A.sl.r_38 k3_pay82 k3_pay75 k3_pay71 k3_pay72 k3_pay74 k3_pay73
  exact (at_cut (r' := 1792) (c' := 0) (at_acc 5 (by norm_num) r_32_at (at_sum 5 rfl (at_truncf (at_under (at_keep below zeros (at_cut (r' := 1280) (c' := 1280) (at_w 5 (at_sub (at_sub (at_z rfl r_30_at (at_drop v226_at)) (at_sp (at_base (at_log (at_inc (at_exp2 (at_clamp (at_z rfl r_30_at (at_drop v226_at))))))) (at_z rfl r_30_at (at_drop v226_at)))) (at_after 5 (at_ps 5 rfl (at_truncf (at_under (at_keep below zeros (at_cut (r' := 1280) (c' := 1280) (at_sp (at_base (at_log (at_inc (at_exp2 (at_clamp (at_z rfl r_30_at (at_drop v226_at))))))) (at_z rfl r_30_at (at_drop v226_at))))) (at_cut (r' := 1536) (c' := 1280) (at_sp (at_base (at_log (at_inc (at_exp2 (at_clamp (at_z rfl r_30_at (at_drop v226_at))))))) (at_z rfl r_30_at (at_drop v226_at)))))) (v32_at 1280)) (at_wide r_31_at _)))))) (at_cut (r' := 1536) (c' := 1280) (at_w 5 (at_sub (at_sub (at_z rfl r_30_at (at_drop v226_at)) (at_sp (at_base (at_log (at_inc (at_exp2 (at_clamp (at_z rfl r_30_at (at_drop v226_at))))))) (at_z rfl r_30_at (at_drop v226_at)))) (at_after 5 (at_ps 5 rfl (at_truncf (at_under (at_keep below zeros (at_cut (r' := 1280) (c' := 1280) (at_sp (at_base (at_log (at_inc (at_exp2 (at_clamp (at_z rfl r_30_at (at_drop v226_at))))))) (at_z rfl r_30_at (at_drop v226_at))))) (at_cut (r' := 1536) (c' := 1280) (at_sp (at_base (at_log (at_inc (at_exp2 (at_clamp (at_z rfl r_30_at (at_drop v226_at))))))) (at_z rfl r_30_at (at_drop v226_at)))))) (v32_at 1280)) (at_wide r_31_at _))))))) (at_drop at_in))))

/-- The second head: weighted sums of the tiles from 5 on. -/
theorem r_34_at : At (kernelRun3_A.sl.r_34 (F := Ideal) c arg3 harg3 arg4 harg4 arg5 harg5 arg8 arg9 x0 x1 x2) (AC x0 x1 x2 1 5) 1280 0 := by
  unfold kernelRun3_A.sl.r_34 k3_pay78 k3_pay75 k3_pay71 k3_pay72 k3_pay74 k3_pay73
  exact (at_cut (r' := 1280) (c' := 0) (at_acc 5 (by norm_num) r_32_at (at_sum 5 rfl (at_truncf (at_under (at_keep below zeros (at_cut (r' := 1280) (c' := 1280) (at_w 5 (at_sub (at_sub (at_z rfl r_30_at (at_drop v226_at)) (at_sp (at_base (at_log (at_inc (at_exp2 (at_clamp (at_z rfl r_30_at (at_drop v226_at))))))) (at_z rfl r_30_at (at_drop v226_at)))) (at_after 5 (at_ps 5 rfl (at_truncf (at_under (at_keep below zeros (at_cut (r' := 1280) (c' := 1280) (at_sp (at_base (at_log (at_inc (at_exp2 (at_clamp (at_z rfl r_30_at (at_drop v226_at))))))) (at_z rfl r_30_at (at_drop v226_at))))) (at_cut (r' := 1536) (c' := 1280) (at_sp (at_base (at_log (at_inc (at_exp2 (at_clamp (at_z rfl r_30_at (at_drop v226_at))))))) (at_z rfl r_30_at (at_drop v226_at)))))) (v32_at 1280)) (at_wide r_31_at _)))))) (at_cut (r' := 1536) (c' := 1280) (at_w 5 (at_sub (at_sub (at_z rfl r_30_at (at_drop v226_at)) (at_sp (at_base (at_log (at_inc (at_exp2 (at_clamp (at_z rfl r_30_at (at_drop v226_at))))))) (at_z rfl r_30_at (at_drop v226_at)))) (at_after 5 (at_ps 5 rfl (at_truncf (at_under (at_keep below zeros (at_cut (r' := 1280) (c' := 1280) (at_sp (at_base (at_log (at_inc (at_exp2 (at_clamp (at_z rfl r_30_at (at_drop v226_at))))))) (at_z rfl r_30_at (at_drop v226_at))))) (at_cut (r' := 1536) (c' := 1280) (at_sp (at_base (at_log (at_inc (at_exp2 (at_clamp (at_z rfl r_30_at (at_drop v226_at))))))) (at_z rfl r_30_at (at_drop v226_at)))))) (v32_at 1280)) (at_wide r_31_at _))))))) (at_drop at_in))))

/-- The second head: weighted sums of the tiles from 5 on. -/
theorem r_36_at : At (kernelRun3_A.sl.r_36 (F := Ideal) c arg3 harg3 arg4 harg4 arg5 harg5 arg8 arg9 x0 x1 x2) (AC x0 x1 x2 1 5) 1536 0 := by
  unfold kernelRun3_A.sl.r_36 k3_pay80 k3_pay75 k3_pay71 k3_pay72 k3_pay74 k3_pay73
  exact (at_cut (r' := 1536) (c' := 0) (at_acc 5 (by norm_num) r_32_at (at_sum 5 rfl (at_truncf (at_under (at_keep below zeros (at_cut (r' := 1280) (c' := 1280) (at_w 5 (at_sub (at_sub (at_z rfl r_30_at (at_drop v226_at)) (at_sp (at_base (at_log (at_inc (at_exp2 (at_clamp (at_z rfl r_30_at (at_drop v226_at))))))) (at_z rfl r_30_at (at_drop v226_at)))) (at_after 5 (at_ps 5 rfl (at_truncf (at_under (at_keep below zeros (at_cut (r' := 1280) (c' := 1280) (at_sp (at_base (at_log (at_inc (at_exp2 (at_clamp (at_z rfl r_30_at (at_drop v226_at))))))) (at_z rfl r_30_at (at_drop v226_at))))) (at_cut (r' := 1536) (c' := 1280) (at_sp (at_base (at_log (at_inc (at_exp2 (at_clamp (at_z rfl r_30_at (at_drop v226_at))))))) (at_z rfl r_30_at (at_drop v226_at)))))) (v32_at 1280)) (at_wide r_31_at _)))))) (at_cut (r' := 1536) (c' := 1280) (at_w 5 (at_sub (at_sub (at_z rfl r_30_at (at_drop v226_at)) (at_sp (at_base (at_log (at_inc (at_exp2 (at_clamp (at_z rfl r_30_at (at_drop v226_at))))))) (at_z rfl r_30_at (at_drop v226_at)))) (at_after 5 (at_ps 5 rfl (at_truncf (at_under (at_keep below zeros (at_cut (r' := 1280) (c' := 1280) (at_sp (at_base (at_log (at_inc (at_exp2 (at_clamp (at_z rfl r_30_at (at_drop v226_at))))))) (at_z rfl r_30_at (at_drop v226_at))))) (at_cut (r' := 1536) (c' := 1280) (at_sp (at_base (at_log (at_inc (at_exp2 (at_clamp (at_z rfl r_30_at (at_drop v226_at))))))) (at_z rfl r_30_at (at_drop v226_at)))))) (v32_at 1280)) (at_wide r_31_at _))))))) (at_drop at_in))))

/-- The second head: weighted sums of the tiles from 4 on. -/
theorem r_47_at : At (kernelRun3_A.sl.r_47 (F := Ideal) c arg3 harg3 arg4 harg4 arg5 harg5 arg8 arg9 x0 x1 x2) (AC x0 x1 x2 1 4) 1024 0 := by
  unfold kernelRun3_A.sl.r_47 k3_pay11 k3_pay13 k3_pay99 k3_pay95 k3_pay96 k3_pay98 k3_pay97
  exact (at_acc 4 (by norm_num) (at_pile (r := 1024) (.cons (at_acc0 zeros (by norm_num)) (.cons r_34_at (.cons r_36_at .nil)))) (at_sum 4 rfl (at_truncf (at_under (at_keep below zeros (at_cut (r' := 1024) (c' := 1024) (at_w 4 (at_sub (at_sub (at_z rfl (at_cut (r' := 1024) (c' := 0) (at_queries at_in)) (at_drop v322_at)) (at_sp (at_base (at_log (at_inc (at_exp2 (at_clamp (at_z rfl (at_cut (r' := 1024) (c' := 0) (at_queries at_in)) (at_drop v322_at))))))) (at_z rfl (at_cut (r' := 1024) (c' := 0) (at_queries at_in)) (at_drop v322_at)))) (at_after 4 (at_ps 4 rfl (at_truncf (at_under (at_keep below zeros (at_cut (r' := 1024) (c' := 1024) (at_sp (at_base (at_log (at_inc (at_exp2 (at_clamp (at_z rfl (at_cut (r' := 1024) (c' := 0) (at_queries at_in)) (at_drop v322_at))))))) (at_z rfl (at_cut (r' := 1024) (c' := 0) (at_queries at_in)) (at_drop v322_at))))) (at_cut (r' := 1280) (c' := 1024) (at_sp (at_base (at_log (at_inc (at_exp2 (at_clamp (at_z rfl (at_cut (r' := 1024) (c' := 0) (at_queries at_in)) (at_drop v322_at))))))) (at_z rfl (at_cut (r' := 1024) (c' := 0) (at_queries at_in)) (at_drop v322_at)))))) (v32_at 1024)) (at_wide (at_pile (r := 1024) (.cons (at_car0 zeros (by norm_num)) (.cons r_33_at (.cons r_35_at .nil)))) _)))))) (at_cut (r' := 1280) (c' := 1024) (at_w 4 (at_sub (at_sub (at_z rfl (at_cut (r' := 1024) (c' := 0) (at_queries at_in)) (at_drop v322_at)) (at_sp (at_base (at_log (at_inc (at_exp2 (at_clamp (at_z rfl (at_cut (r' := 1024) (c' := 0) (at_queries at_in)) (at_drop v322_at))))))) (at_z rfl (at_cut (r' := 1024) (c' := 0) (at_queries at_in)) (at_drop v322_at)))) (at_after 4 (at_ps 4 rfl (at_truncf (at_under (at_keep below zeros (at_cut (r' := 1024) (c' := 1024) (at_sp (at_base (at_log (at_inc (at_exp2 (at_clamp (at_z rfl (at_cut (r' := 1024) (c' := 0) (at_queries at_in)) (at_drop v322_at))))))) (at_z rfl (at_cut (r' := 1024) (c' := 0) (at_queries at_in)) (at_drop v322_at))))) (at_cut (r' := 1280) (c' := 1024) (at_sp (at_base (at_log (at_inc (at_exp2 (at_clamp (at_z rfl (at_cut (r' := 1024) (c' := 0) (at_queries at_in)) (at_drop v322_at))))))) (at_z rfl (at_cut (r' := 1024) (c' := 0) (at_queries at_in)) (at_drop v322_at)))))) (v32_at 1024)) (at_wide (at_pile (r := 1024) (.cons (at_car0 zeros (by norm_num)) (.cons r_33_at (.cons r_35_at .nil)))) _))))))) (at_drop at_in)))

/-- The second head: weighted sums of the tiles from 4 on. -/
theorem r_55_at : At (kernelRun3_A.sl.r_55 (F := Ideal) c arg3 harg3 arg4 harg4 arg5 harg5 arg8 arg9 x0 x1 x2) (AC x0 x1 x2 1 4) 1536 0 := by
  unfold kernelRun3_A.sl.r_55 k3_pay108
  exact (at_cut (r' := 1536) (c' := 0) r_47_at)

/-- The second head: weighted sums of the tiles from 4 on. -/
theorem r_51_at : At (kernelRun3_A.sl.r_51 (F := Ideal) c arg3 harg3 arg4 harg4 arg5 harg5 arg8 arg9 x0 x1 x2) (AC x0 x1 x2 1 4) 1024 0 := by
  unfold kernelRun3_A.sl.r_51 k3_pay104
  exact (at_cut (r' := 1024) (c' := 0) r_47_at)

/-- The second head: weighted sums of the tiles from 4 on. -/
theorem r_53_at : At (kernelRun3_A.sl.r_53 (F := Ideal) c arg3 harg3 arg4 harg4 arg5 harg5 arg8 arg9 x0 x1 x2) (AC x0 x1 x2 1 4) 1280 0 := by
  unfold kernelRun3_A.sl.r_53 k3_pay106
  exact (at_cut (r' := 1280) (c' := 0) r_47_at)

/-- The second head: weighted sums of the tiles from 4 on. -/
theorem r_67_at : At (kernelRun3_A.sl.r_67 (F := Ideal) c arg3 harg3 arg4 harg4 arg5 harg5 arg8 arg9 x0 x1 x2) (AC x0 x1 x2 1 4) 768 0 := by
  unfold kernelRun3_A.sl.r_67 k3_pay13 k3_pay124
  exact (at_pile (r := 768) (.cons (at_acc0 zeros (by norm_num)) (.cons r_51_at (.cons r_53_at .nil))))

/-- The second head: weights of tile 3. -/
theorem r_70_at : At (kernelRun3_A.sl.r_70 (F := Ideal) c arg3 harg3 arg4 harg4 arg8 arg9 x0 x1) (WM x0 x1 1 3) 768 768 := by
  unfold kernelRun3_A.sl.r_70 k3_pay11 k3_pay129 k3_pay125 k3_pay126 k3_pay128 k3_pay127
  exact (at_truncf (at_under (at_keep below zeros (at_cut (r' := 768) (c' := 768) (at_w 3 (at_sub (at_sub (at_z rfl (at_cut (r' := 768) (c' := 0) (at_queries at_in)) (at_drop v418_at)) (at_sp (at_base (at_log (at_inc (at_exp2 (at_clamp (at_z rfl (at_cut (r' := 768) (c' := 0) (at_queries at_in)) (at_drop v418_at))))))) (at_z rfl (at_cut (r' := 768) (c' := 0) (at_queries at_in)) (at_drop v418_at)))) (at_after 3 (at_ps 3 rfl (at_truncf (at_under (at_keep below zeros (at_cut (r' := 768) (c' := 768) (at_sp (at_base (at_log (at_inc (at_exp2 (at_clamp (at_z rfl (at_cut (r' := 768) (c' := 0) (at_queries at_in)) (at_drop v418_at))))))) (at_z rfl (at_cut (r' := 768) (c' := 0) (at_queries at_in)) (at_drop v418_at))))) (at_cut (r' := 1024) (c' := 768) (at_sp (at_base (at_log (at_inc (at_exp2 (at_clamp (at_z rfl (at_cut (r' := 768) (c' := 0) (at_queries at_in)) (at_drop v418_at))))))) (at_z rfl (at_cut (r' := 768) (c' := 0) (at_queries at_in)) (at_drop v418_at)))))) (v32_at 768)) (at_wide (at_pile (r := 768) (.cons (at_car0 zeros (by norm_num)) (.cons r_50_at (.cons r_52_at .nil)))) _)))))) (at_cut (r' := 1024) (c' := 768) (at_w 3 (at_sub (at_sub (at_z rfl (at_cut (r' := 768) (c' := 0) (at_queries at_in)) (at_drop v418_at)) (at_sp (at_base (at_log (at_inc (at_exp2 (at_clamp (at_z rfl (at_cut (r' := 768) (c' := 0) (at_queries at_in)) (at_drop v418_at))))))) (at_z rfl (at_cut (r' := 768) (c' := 0) (at_queries at_in)) (at_drop v418_at)))) (at_after 3 (at_ps 3 rfl (at_truncf (at_under (at_keep below zeros (at_cut (r' := 768) (c' := 768) (at_sp (at_base (at_log (at_inc (at_exp2 (at_clamp (at_z rfl (at_cut (r' := 768) (c' := 0) (at_queries at_in)) (at_drop v418_at))))))) (at_z rfl (at_cut (r' := 768) (c' := 0) (at_queries at_in)) (at_drop v418_at))))) (at_cut (r' := 1024) (c' := 768) (at_sp (at_base (at_log (at_inc (at_exp2 (at_clamp (at_z rfl (at_cut (r' := 768) (c' := 0) (at_queries at_in)) (at_drop v418_at))))))) (at_z rfl (at_cut (r' := 768) (c' := 0) (at_queries at_in)) (at_drop v418_at)))))) (v32_at 768)) (at_wide (at_pile (r := 768) (.cons (at_car0 zeros (by norm_num)) (.cons r_50_at (.cons r_52_at .nil)))) _)))))))

/-- The second head: weighted sums of the tiles from 3 on. -/
theorem r_76_at : At (kernelRun3_A.sl.r_76 (F := Ideal) c arg3 harg3 arg4 harg4 arg5 harg5 arg8 arg9 x0 x1 x2) (AC x0 x1 x2 1 3) 1280 0 := by
  unfold kernelRun3_A.sl.r_76 k3_pay137 k3_pay130
  exact (at_cut (r' := 1280) (c' := 0) (at_acc 3 (by norm_num) r_67_at (at_sum 3 rfl r_70_at (at_drop at_in))))

/-- The second head: weighted sums of the tiles from 3 on. -/
theorem r_72_at : At (kernelRun3_A.sl.r_72 (F := Ideal) c arg3 harg3 arg4 harg4 arg5 harg5 arg8 arg9 x0 x1 x2) (AC x0 x1 x2 1 3) 768 0 := by
  unfold kernelRun3_A.sl.r_72 k3_pay133 k3_pay130
  exact (at_cut (r' := 768) (c' := 0) (at_acc 3 (by norm_num) r_67_at (at_sum 3 rfl r_70_at (at_drop at_in))))

/-- The second head: weighted sums of the tiles from 3 on. -/
theorem r_74_at : At (kernelRun3_A.sl.r_74 (F := Ideal) c arg3 harg3 arg4 harg4 arg5 harg5 arg8 arg9 x0 x1 x2) (AC x0 x1 x2 1 3) 1024 0 := by
  unfold kernelRun3_A.sl.r_74 k3_pay135 k3_pay130
  exact (at_cut (r' := 1024) (c' := 0) (at_acc 3 (by norm_num) r_67_at (at_sum 3 rfl r_70_at (at_drop at_in))))

/-- The second head: weighted sums of the tiles from 3 on. -/
theorem r_88_at : At (kernelRun3_A.sl.r_88 (F := Ideal) c arg3 harg3 arg4 harg4 arg5 harg5 arg8 arg9 x0 x1 x2) (AC x0 x1 x2 1 3) 512 0 := by
  unfold kernelRun3_A.sl.r_88 k3_pay13 k3_pay154
  exact (at_pile (r := 512) (.cons (at_acc0 zeros (by norm_num)) (.cons r_72_at (.cons r_74_at .nil))))

/-- The second head: weights of tile 2 before the mask. -/
theorem r_91_at : At (kernelRun3_A.sl.r_91 (F := Ideal) c arg3 harg3 arg4 harg4 arg8 arg9 x0 x1) (WX x0 x1 1 2) 512 512 := by
  unfold kernelRun3_A.sl.r_91 k3_pay11 k3_pay159 k3_pay155 k3_pay156 k3_pay158 k3_pay157
  exact (at_w 2 (at_sub (at_sub (at_z rfl (at_cut (r' := 512) (c' := 0) (at_queries at_in)) (at_drop v514_at)) (at_sp (at_base (at_log (at_inc (at_exp2 (at_clamp (at_z rfl (at_cut (r' := 512) (c' := 0) (at_queries at_in)) (at_drop v514_at))))))) (at_z rfl (at_cut (r' := 512) (c' := 0) (at_queries at_in)) (at_drop v514_at)))) (at_after 2 (at_ps 2 rfl (at_truncf (at_under (at_keep below zeros (at_cut (r' := 512) (c' := 512) (at_sp (at_base (at_log (at_inc (at_exp2 (at_clamp (at_z rfl (at_cut (r' := 512) (c' := 0) (at_queries at_in)) (at_drop v514_at))))))) (at_z rfl (at_cut (r' := 512) (c' := 0) (at_queries at_in)) (at_drop v514_at))))) (at_cut (r' := 768) (c' := 512) (at_sp (at_base (at_log (at_inc (at_exp2 (at_clamp (at_z rfl (at_cut (r' := 512) (c' := 0) (at_queries at_in)) (at_drop v514_at))))))) (at_z rfl (at_cut (r' := 512) (c' := 0) (at_queries at_in)) (at_drop v514_at)))))) (v32_at 512)) (at_wide (at_pile (r := 512) (.cons (at_car0 zeros (by norm_num)) (.cons r_71_at (.cons r_73_at .nil)))) _))))

/-- The second head: weights of tile 2 before the mask. -/
theorem r_92_at : At (kernelRun3_A.sl.r_92 (F := Ideal) c arg3 harg3 arg4 harg4 arg8 arg9 x0 x1) (WX x0 x1 1 2) 512 512 := by
  unfold kernelRun3_A.sl.r_92 k3_pay11 k3_pay160 k3_pay159 k3_pay155 k3_pay156 k3_pay158 k3_pay157
  exact (at_cut (r' := 512) (c' := 512) (at_w 2 (at_sub (at_sub (at_z rfl (at_cut (r' := 512) (c' := 0) (at_queries at_in)) (at_drop v514_at)) (at_sp (at_base (at_log (at_inc (at_exp2 (at_clamp (at_z rfl (at_cut (r' := 512) (c' := 0) (at_queries at_in)) (at_drop v514_at))))))) (at_z rfl (at_cut (r' := 512) (c' := 0) (at_queries at_in)) (at_drop v514_at)))) (at_after 2 (at_ps 2 rfl (at_truncf (at_under (at_keep below zeros (at_cut (r' := 512) (c' := 512) (at_sp (at_base (at_log (at_inc (at_exp2 (at_clamp (at_z rfl (at_cut (r' := 512) (c' := 0) (at_queries at_in)) (at_drop v514_at))))))) (at_z rfl (at_cut (r' := 512) (c' := 0) (at_queries at_in)) (at_drop v514_at))))) (at_cut (r' := 768) (c' := 512) (at_sp (at_base (at_log (at_inc (at_exp2 (at_clamp (at_z rfl (at_cut (r' := 512) (c' := 0) (at_queries at_in)) (at_drop v514_at))))))) (at_z rfl (at_cut (r' := 512) (c' := 0) (at_queries at_in)) (at_drop v514_at)))))) (v32_at 512)) (at_wide (at_pile (r := 512) (.cons (at_car0 zeros (by norm_num)) (.cons r_71_at (.cons r_73_at .nil)))) _)))))

/-- The second head: weighted sums of the tiles from 2 on. -/
theorem r_98_at : At (kernelRun3_A.sl.r_98 (F := Ideal) c arg3 harg3 arg4 harg4 arg5 harg5 arg8 arg9 x0 x1 x2) (AC x0 x1 x2 1 2) 1024 0 := by
  unfold kernelRun3_A.sl.r_98 k3_pay168 k3_pay161
  exact (at_cut (r' := 1024) (c' := 0) (at_acc 2 (by norm_num) r_88_at (at_sum 2 rfl (at_truncf (at_under (at_keep below zeros r_92_at) (at_cut (r' := 768) (c' := 512) r_91_at))) (at_drop at_in))))

/-- The second head: weighted sums of the tiles from 1 on. -/
theorem r_163_at : At (kernelRun3_A.sl.r_163 (F := Ideal) c arg3 harg3 arg4 harg4 arg5 harg5 arg8 arg9 x0 x1 x2) (AC x0 x1 x2 1 1) 1024 0 := by
  unfold kernelRun3_A.sl.r_163 k3_pay273 k3_pay277 k3_pay274 k3_pay276 k3_pay275
  exact (at_acc 1 (by norm_num) r_98_at (at_sum 1 rfl (at_low (by norm_num) (at_truncf (at_w 1 (at_sub (at_sub r_162_at (at_sp (at_base (at_log (at_inc (at_exp2 (at_clamp r_162_at))))) r_162_at)) (at_after 1 (at_ps 1 rfl (at_low (by norm_num) (at_truncf (at_sp (at_base (at_log (at_inc (at_exp2 (at_clamp r_162_at))))) r_162_at))) (v32_at 256)) (at_wide r_97_at _)))))) (at_drop at_in)))

/-- Softplus of the second head's scores. -/
theorem r_184_at : At (kernelRun3_A.sl.r_184 (F := Ideal) c arg3 harg3 arg4 harg4 arg8 x0 x1) (SP x0 x1 1) 1536 512 := by
  unfold kernelRun3_A.sl.r_184 k3_pay315 k3_pay314 k3_pay313
  exact (at_truncf (at_sp (at_base (at_log (at_inc (at_exp2 (at_clamp (at_z rfl (at_cut (r' := 1536) (c' := 0) (at_queries at_in)) (at_drop v514_at))))))) (at_z rfl (at_cut (r' := 1536) (c' := 0) (at_queries at_in)) (at_drop v514_at))))

/-- Scores of the second head. -/
theorem r_172_at : At (kernelRun3_A.sl.r_172 (F := Ideal) c arg3 harg3 arg4 harg4 arg8 x0 x1) (Z x0 x1 1) 1792 768 := by
  unfold kernelRun3_A.sl.r_172 k3_pay293
  exact (at_z rfl (at_cut (r' := 1792) (c' := 0) (at_queries at_in)) (at_drop v418_at))

/-- The second head: what the tiles from 3 on break off. -/
theorem r_174_at : At (kernelRun3_A.sl.r_174 (F := Ideal) c arg3 harg3 arg4 harg4 arg8 arg9 x0 x1) (fun t _ => CA x0 x1 1 3 t) 1792 0 := by
  unfold kernelRun3_A.sl.r_174 k3_pay298 k3_pay296 k3_pay295 k3_pay294
  exact (at_carry 3 (by norm_num) (at_cut (r' := 1792) (c' := 768) (at_after 3 (at_ps 3 rfl (at_low (by norm_num) (at_truncf (at_sp (at_base (at_log (at_inc (at_exp2 (at_clamp r_172_at))))) r_172_at))) (v32_at 768)) (at_wide r_143_at _))) (at_low (by norm_num) (at_extf (at_cut (r' := 1792) (c' := 768) (at_truncf (at_sp (at_base (at_log (at_inc (at_exp2 (at_clamp r_172_at))))) r_172_at))))))

/-- The second head: what all later columns break off, in tile 2. -/
theorem r_185_at : At (kernelRun3_A.sl.r_185 (F := Ideal) c arg3 harg3 arg4 harg4 arg8 arg9 x0 x1) (AF x0 x1 1 2) 1536 512 := by
  unfold kernelRun3_A.sl.r_185 k3_pay316 k3_pay315 k3_pay314 k3_pay313
  exact (at_after 2 (at_ps 2 rfl (at_low (by norm_num) (at_truncf (at_sp (at_base (at_log (at_inc (at_exp2 (at_clamp (at_z rfl (at_cut (r' := 1536) (c' := 0) (at_queries at_in)) (at_drop v514_at))))))) (at_z rfl (at_cut (r' := 1536) (c' := 0) (at_queries at_in)) (at_drop v514_at))))) (v32_at 512)) (at_wide (at_pile (r := 1536) (.cons r_149_at (.cons r_174_at .nil))) _))

/-- The second head: what the tiles from 2 on break off. -/
theorem r_187_at : At (kernelRun3_A.sl.r_187 (F := Ideal) c arg3 harg3 arg4 harg4 arg8 arg9 x0 x1) (fun t _ => CA x0 x1 1 2 t) 1536 0 := by
  unfold kernelRun3_A.sl.r_187 k3_pay320 k3_pay319
  exact (at_cut (r' := 1536) (c' := 0) (at_carry 2 (by norm_num) (at_cut (r' := 1536) (c' := 512) r_185_at) (at_low (by norm_num) (at_extf (at_cut (r' := 1536) (c' := 512) r_184_at)))))

/-- The second head: what the tiles from 2 on break off. -/
theorem r_189_at : At (kernelRun3_A.sl.r_189 (F := Ideal) c arg3 harg3 arg4 harg4 arg8 arg9 x0 x1) (fun t _ => CA x0 x1 1 2 t) 1792 0 := by
  unfold kernelRun3_A.sl.r_189 k3_pay322 k3_pay319
  exact (at_cut (r' := 1792) (c' := 0) (at_carry 2 (by norm_num) (at_cut (r' := 1536) (c' := 512) r_185_at) (at_low (by norm_num) (at_extf (at_cut (r' := 1536) (c' := 512) r_184_at)))))

/-- The second head: what the tiles from 1 on break off. -/
theorem r_200_at : At (kernelRun3_A.sl.r_200 (F := Ideal) c arg3 harg3 arg4 harg4 arg8 arg9 x0 x1) (fun t _ => CA x0 x1 1 1 t) 1280 0 := by
  unfold kernelRun3_A.sl.r_200 k3_pay344 k3_pay343 k3_pay341 k3_pay340 k3_pay339 k3_pay338
  exact (at_cut (r' := 1280) (c' := 0) (at_carry 1 (by norm_num) (at_cut (r' := 1280) (c' := 256) (at_after 1 (at_ps 1 rfl (at_low (by norm_num) (at_truncf (at_sp (at_base (at_log (at_inc (at_exp2 (at_clamp (at_z rfl (at_cut (r' := 1280) (c' := 0) (at_queries at_in)) (at_drop v610_at))))))) (at_z rfl (at_cut (r' := 1280) (c' := 0) (at_queries at_in)) (at_drop v610_at))))) (v32_at 256)) (at_wide (at_pile (r := 1280) (.cons r_159_at (.cons r_187_at (.cons r_189_at .nil)))) _))) (at_low (by norm_num) (at_extf (at_cut (r' := 1280) (c' := 256) (at_truncf (at_sp (at_base (at_log (at_inc (at_exp2 (at_clamp (at_z rfl (at_cut (r' := 1280) (c' := 0) (at_queries at_in)) (at_drop v610_at))))))) (at_z rfl (at_cut (r' := 1280) (c' := 0) (at_queries at_in)) (at_drop v610_at)))))))))

/-- The second head: what the tiles from 1 on break off. -/
theorem r_202_at : At (kernelRun3_A.sl.r_202 (F := Ideal) c arg3 harg3 arg4 harg4 arg8 arg9 x0 x1) (fun t _ => CA x0 x1 1 1 t) 1536 0 := by
  unfold kernelRun3_A.sl.r_202 k3_pay346 k3_pay343 k3_pay341 k3_pay340 k3_pay339 k3_pay338
  exact (at_cut (r' := 1536) (c' := 0) (at_carry 1 (by norm_num) (at_cut (r' := 1280) (c' := 256) (at_after 1 (at_ps 1 rfl (at_low (by norm_num) (at_truncf (at_sp (at_base (at_log (at_inc (at_exp2 (at_clamp (at_z rfl (at_cut (r' := 1280) (c' := 0) (at_queries at_in)) (at_drop v610_at))))))) (at_z rfl (at_cut (r' := 1280) (c' := 0) (at_queries at_in)) (at_drop v610_at))))) (v32_at 256)) (at_wide (at_pile (r := 1280) (.cons r_159_at (.cons r_187_at (.cons r_189_at .nil)))) _))) (at_low (by norm_num) (at_extf (at_cut (r' := 1280) (c' := 256) (at_truncf (at_sp (at_base (at_log (at_inc (at_exp2 (at_clamp (at_z rfl (at_cut (r' := 1280) (c' := 0) (at_queries at_in)) (at_drop v610_at))))))) (at_z rfl (at_cut (r' := 1280) (c' := 0) (at_queries at_in)) (at_drop v610_at)))))))))

/-- The second head: what the tiles from 1 on break off. -/
theorem r_204_at : At (kernelRun3_A.sl.r_204 (F := Ideal) c arg3 harg3 arg4 harg4 arg8 arg9 x0 x1) (fun t _ => CA x0 x1 1 1 t) 1792 0 := by
  unfold kernelRun3_A.sl.r_204 k3_pay348 k3_pay343 k3_pay341 k3_pay340 k3_pay339 k3_pay338
  exact (at_cut (r' := 1792) (c' := 0) (at_carry 1 (by norm_num) (at_cut (r' := 1280) (c' := 256) (at_after 1 (at_ps 1 rfl (at_low (by norm_num) (at_truncf (at_sp (at_base (at_log (at_inc (at_exp2 (at_clamp (at_z rfl (at_cut (r' := 1280) (c' := 0) (at_queries at_in)) (at_drop v610_at))))))) (at_z rfl (at_cut (r' := 1280) (c' := 0) (at_queries at_in)) (at_drop v610_at))))) (v32_at 256)) (at_wide (at_pile (r := 1280) (.cons r_159_at (.cons r_187_at (.cons r_189_at .nil)))) _))) (at_low (by norm_num) (at_extf (at_cut (r' := 1280) (c' := 256) (at_truncf (at_sp (at_base (at_log (at_inc (at_exp2 (at_clamp (at_z rfl (at_cut (r' := 1280) (c' := 0) (at_queries at_in)) (at_drop v610_at))))))) (at_z rfl (at_cut (r' := 1280) (c' := 0) (at_queries at_in)) (at_drop v610_at)))))))))

/-- The second head: what the tiles from 1 on break off. -/
theorem r_210_at : At (kernelRun3_A.sl.r_210 (F := Ideal) c arg3 harg3 arg4 harg4 arg8 arg9 x0 x1) (fun t _ => CA x0 x1 1 1 t) 1024 0 := by
  unfold kernelRun3_A.sl.r_210 k3_pay355
  exact (at_pile (r := 1024) (.cons r_164_at (.cons r_200_at (.cons r_202_at (.cons r_204_at .nil)))))

/-- The second head: weights of tile 2 before the mask. -/
theorem r_156_at : At (kernelRun3_A.sl.r_156 (F := Ideal) c arg3 harg3 arg4 harg4 arg8 arg9 x0 x1) (WX x0 x1 1 2) 1280 512 := by
  unfold kernelRun3_A.sl.r_156 k3_pay262 k3_pay258 k3_pay259 k3_pay261 k3_pay260
  exact (at_truncf (at_w 2 (at_sub (at_sub (at_z rfl (at_cut (r' := 1280) (c' := 0) (at_queries at_in)) (at_drop v514_at)) (at_sp (at_base (at_log (at_inc (at_exp2 (at_clamp (at_z rfl (at_cut (r' := 1280) (c' := 0) (at_queries at_in)) (at_drop v514_at))))))) (at_z rfl (at_cut (r' := 1280) (c' := 0) (at_queries at_in)) (at_drop v514_at)))) (at_after 2 (at_ps 2 rfl (at_low (by norm_num) (at_truncf (at_sp (at_base (at_log (at_inc (at_exp2 (at_clamp (at_z rfl (at_cut (r' := 1280) (c' := 0) (at_queries at_in)) (at_drop v514_at))))))) (at_z rfl (at_cut (r' := 1280) (c' := 0) (at_queries at_in)) (at_drop v514_at))))) (v32_at 512)) (at_wide r_75_at _)))))

/-- Rows of the values. -/
theorem r_157_at : At (kernelRun3_A.sl.r_157 (F := Ideal) c arg5 harg5 x2) (rd x2) 512 0 := by
  unfold kernelRun3_A.sl.r_157 k3_pay263
  exact (at_drop at_in)

/-- The second head: weighted sums of the tiles from 2 on. -/
theorem r_158_at : At (kernelRun3_A.sl.r_158 (F := Ideal) c arg3 harg3 arg4 harg4 arg5 harg5 arg8 arg9 x0 x1 x2) (AC x0 x1 x2 1 2) 1280 0 := by
  unfold kernelRun3_A.sl.r_158 k3_pay264
  exact (at_acc 2 (by norm_num) r_76_at (at_sum 2 rfl (at_low (by norm_num) r_156_at) r_157_at))

/-- The second head: weighted sums of the tiles from 3 on. -/
theorem r_148_at : At (kernelRun3_A.sl.r_148 (F := Ideal) c arg3 harg3 arg4 harg4 arg5 harg5 arg8 arg9 x0 x1 x2) (AC x0 x1 x2 1 3) 1536 0 := by
  unfold kernelRun3_A.sl.r_148 k3_pay249 k3_pay245 k3_pay246 k3_pay248 k3_pay247
  exact (at_acc 3 (by norm_num) r_55_at (at_sum 3 rfl (at_low (by norm_num) (at_truncf (at_w 3 (at_sub (at_sub (at_z rfl r_146_at r_147_at) (at_sp (at_base (at_log (at_inc (at_exp2 (at_clamp (at_z rfl r_146_at r_147_at)))))) (at_z rfl r_146_at r_147_at))) (at_after 3 (at_ps 3 rfl (at_low (by norm_num) (at_truncf (at_sp (at_base (at_log (at_inc (at_exp2 (at_clamp (at_z rfl r_146_at r_147_at)))))) (at_z rfl r_146_at r_147_at)))) (v32_at 768)) (at_wide r_54_at _)))))) (at_drop at_in)))

/-- The second head: weights of tile 4 before the mask. -/
theorem r_141_at : At (kernelRun3_A.sl.r_141 (F := Ideal) c arg3 harg3 arg4 harg4 arg8 arg9 x0 x1) (WX x0 x1 1 4) 1792 1024 := by
  unfold kernelRun3_A.sl.r_141 k3_pay234 k3_pay230 k3_pay231 k3_pay233 k3_pay232
  exact (at_truncf (at_w 4 (at_sub (at_sub (at_z rfl (at_cut (r' := 1792) (c' := 0) (at_queries at_in)) (at_drop v322_at)) (at_sp (at_base (at_log (at_inc (at_exp2 (at_clamp (at_z rfl (at_cut (r' := 1792) (c' := 0) (at_queries at_in)) (at_drop v322_at))))))) (at_z rfl (at_cut (r' := 1792) (c' := 0) (at_queries at_in)) (at_drop v322_at)))) (at_after 4 (at_ps 4 rfl (at_low (by norm_num) (at_truncf (at_sp (at_base (at_log (at_inc (at_exp2 (at_clamp (at_z rfl (at_cut (r' := 1792) (c' := 0) (at_queries at_in)) (at_drop v322_at))))))) (at_z rfl (at_cut (r' := 1792) (c' := 0) (at_queries at_in)) (at_drop v322_at))))) (v32_at 1024)) (at_wide r_37_at _)))))

/-- The second head: weighted sums of the tiles from 4 on. -/
theorem r_142_at : At (kernelRun3_A.sl.r_142 (F := Ideal) c arg3 harg3 arg4 harg4 arg5 harg5 arg8 arg9 x0 x1 x2) (AC x0 x1 x2 1 4) 1792 0 := by
  unfold kernelRun3_A.sl.r_142 k3_pay235
  exact (at_acc 4 (by norm_num) r_38_at (at_sum 4 rfl (at_low (by norm_num) r_141_at) (at_drop at_in)))

/-- The second head: weighted sums of the tiles from 3 on. -/
theorem r_173_at : At (kernelRun3_A.sl.r_173 (F := Ideal) c arg3 harg3 arg4 harg4 arg5 harg5 arg8 arg9 x0 x1 x2) (AC x0 x1 x2 1 3) 1792 0 := by
  unfold kernelRun3_A.sl.r_173 k3_pay297 k3_pay294 k3_pay296 k3_pay295
  exact (at_acc 3 (by norm_num) r_142_at (at_sum 3 rfl (at_low (by norm_num) (at_truncf (at_w 3 (at_sub (at_sub r_172_at (at_sp (at_base (at_log (at_inc (at_exp2 (at_clamp r_172_at))))) r_172_at)) (at_after 3 (at_ps 3 rfl (at_low (by norm_num) (at_truncf (at_sp (at_base (at_log (at_inc (at_exp2 (at_clamp r_172_at))))) r_172_at))) (v32_at 768)) (at_wide r_143_at _)))))) (at_drop at_in)))

/-- The second head: weighted sums of the tiles from 3 on. -/
theorem r_183_at : At (kernelRun3_A.sl.r_183 (F := Ideal) c arg3 harg3 arg4 harg4 arg5 harg5 arg8 arg9 x0 x1 x2) (AC x0 x1 x2 1 3) 1536 0 := by
  unfold kernelRun3_A.sl.r_183 k3_pay312
  exact (at_pile (r := 1536) (.cons r_148_at (.cons r_173_at .nil)))

/-- The second head: weights of tile 2 before the mask. -/
theorem r_186_at : At (kernelRun3_A.sl.r_186 (F := Ideal) c arg3 harg3 arg4 harg4 arg8 arg9 x0 x1) (WX x0 x1 1 2) 1536 512 := by
  unfold kernelRun3_A.sl.r_186 k3_pay317 k3_pay313 k3_pay314 k3_pay316 k3_pay315
  exact (at_truncf (at_w 2 (at_sub (at_sub (at_z rfl (at_cut (r' := 1536) (c' := 0) (at_queries at_in)) (at_drop v514_at)) (at_sp (at_base (at_log (at_inc (at_exp2 (at_clamp (at_z rfl (at_cut (r' := 1536) (c' := 0) (at_queries at_in)) (at_drop v514_at))))))) (at_z rfl (at_cut (r' := 1536) (c' := 0) (at_queries at_in)) (at_drop v514_at)))) (at_after 2 (at_ps 2 rfl (at_low (by norm_num) (at_truncf (at_sp (at_base (at_log (at_inc (at_exp2 (at_clamp (at_z rfl (at_cut (r' := 1536) (c' := 0) (at_queries at_in)) (at_drop v514_at))))))) (at_z rfl (at_cut (r' := 1536) (c' := 0) (at_queries at_in)) (at_drop v514_at))))) (v32_at 512)) (at_wide (at_pile (r := 1536) (.cons r_149_at (.cons r_174_at .nil))) _)))))

/-- The second head: weighted sums of the tiles from 2 on. -/
theorem r_188_at : At (kernelRun3_A.sl.r_188 (F := Ideal) c arg3 harg3 arg4 harg4 arg5 harg5 arg8 arg9 x0 x1 x2) (AC x0 x1 x2 1 2) 1536 0 := by
  unfold kernelRun3_A.sl.r_188 k3_pay321 k3_pay318
  exact (at_cut (r' := 1536) (c' := 0) (at_acc 2 (by norm_num) r_183_at (at_sum 2 rfl (at_low (by norm_num) r_186_at) (at_drop at_in))))

/-- The second head: weighted sums of the tiles from 2 on. -/
theorem r_190_at : At (kernelRun3_A.sl.r_190 (F := Ideal) c arg3 harg3 arg4 harg4 arg5 harg5 arg8 arg9 x0 x1 x2) (AC x0 x1 x2 1 2) 1792 0 := by
  unfold kernelRun3_A.sl.r_190 k3_pay323 k3_pay318
  exact (at_cut (r' := 1792) (c' := 0) (at_acc 2 (by norm_num) r_183_at (at_sum 2 rfl (at_low (by norm_num) r_186_at) (at_drop at_in))))

/-- The second head: weighted sums of the tiles from 1 on. -/
theorem r_201_at : At (kernelRun3_A.sl.r_201 (F := Ideal) c arg3 harg3 arg4 harg4 arg5 harg5 arg8 arg9 x0 x1 x2) (AC x0 x1 x2 1 1) 1280 0 := by
  unfold kernelRun3_A.sl.r_201 k3_pay345 k3_pay342 k3_pay338 k3_pay339 k3_pay341 k3_pay340
  exact (at_cut (r' := 1280) (c' := 0) (at_acc 1 (by norm_num) (at_pile (r := 1280) (.cons r_158_at (.cons r_188_at (.cons r_190_at .nil)))) (at_sum 1 rfl (at_low (by norm_num) (at_truncf (at_w 1 (at_sub (at_sub (at_z rfl (at_cut (r' := 1280) (c' := 0) (at_queries at_in)) (at_drop v610_at)) (at_sp (at_base (at_log (at_inc (at_exp2 (at_clamp (at_z rfl (at_cut (r' := 1280) (c' := 0) (at_queries at_in)) (at_drop v610_at))))))) (at_z rfl (at_cut (r' := 1280) (c' := 0) (at_queries at_in)) (at_drop v610_at)))) (at_after 1 (at_ps 1 rfl (at_low (by norm_num) (at_truncf (at_sp (at_base (at_log (at_inc (at_exp2 (at_clamp (at_z rfl (at_cut (r' := 1280) (c' := 0) (at_queries at_in)) (at_drop v610_at))))))) (at_z rfl (at_cut (r' := 1280) (c' := 0) (at_queries at_in)) (at_drop v610_at))))) (v32_at 256)) (at_wide (at_pile (r := 1280) (.cons r_159_at (.cons r_187_at (.cons r_189_at .nil)))) _)))))) (at_drop at_in))))

/-- The second head: weighted sums of the tiles from 1 on. -/
theorem r_203_at : At (kernelRun3_A.sl.r_203 (F := Ideal) c arg3 harg3 arg4 harg4 arg5 harg5 arg8 arg9 x0 x1 x2) (AC x0 x1 x2 1 1) 1536 0 := by
  unfold kernelRun3_A.sl.r_203 k3_pay347 k3_pay342 k3_pay338 k3_pay339 k3_pay341 k3_pay340
  exact (at_cut (r' := 1536) (c' := 0) (at_acc 1 (by norm_num) (at_pile (r := 1280) (.cons r_158_at (.cons r_188_at (.cons r_190_at .nil)))) (at_sum 1 rfl (at_low (by norm_num) (at_truncf (at_w 1 (at_sub (at_sub (at_z rfl (at_cut (r' := 1280) (c' := 0) (at_queries at_in)) (at_drop v610_at)) (at_sp (at_base (at_log (at_inc (at_exp2 (at_clamp (at_z rfl (at_cut (r' := 1280) (c' := 0) (at_queries at_in)) (at_drop v610_at))))))) (at_z rfl (at_cut (r' := 1280) (c' := 0) (at_queries at_in)) (at_drop v610_at)))) (at_after 1 (at_ps 1 rfl (at_low (by norm_num) (at_truncf (at_sp (at_base (at_log (at_inc (at_exp2 (at_clamp (at_z rfl (at_cut (r' := 1280) (c' := 0) (at_queries at_in)) (at_drop v610_at))))))) (at_z rfl (at_cut (r' := 1280) (c' := 0) (at_queries at_in)) (at_drop v610_at))))) (v32_at 256)) (at_wide (at_pile (r := 1280) (.cons r_159_at (.cons r_187_at (.cons r_189_at .nil)))) _)))))) (at_drop at_in))))

/-- The second head: weighted sums of the tiles from 1 on. -/
theorem r_205_at : At (kernelRun3_A.sl.r_205 (F := Ideal) c arg3 harg3 arg4 harg4 arg5 harg5 arg8 arg9 x0 x1 x2) (AC x0 x1 x2 1 1) 1792 0 := by
  unfold kernelRun3_A.sl.r_205 k3_pay349 k3_pay342 k3_pay338 k3_pay339 k3_pay341 k3_pay340
  exact (at_cut (r' := 1792) (c' := 0) (at_acc 1 (by norm_num) (at_pile (r := 1280) (.cons r_158_at (.cons r_188_at (.cons r_190_at .nil)))) (at_sum 1 rfl (at_low (by norm_num) (at_truncf (at_w 1 (at_sub (at_sub (at_z rfl (at_cut (r' := 1280) (c' := 0) (at_queries at_in)) (at_drop v610_at)) (at_sp (at_base (at_log (at_inc (at_exp2 (at_clamp (at_z rfl (at_cut (r' := 1280) (c' := 0) (at_queries at_in)) (at_drop v610_at))))))) (at_z rfl (at_cut (r' := 1280) (c' := 0) (at_queries at_in)) (at_drop v610_at)))) (at_after 1 (at_ps 1 rfl (at_low (by norm_num) (at_truncf (at_sp (at_base (at_log (at_inc (at_exp2 (at_clamp (at_z rfl (at_cut (r' := 1280) (c' := 0) (at_queries at_in)) (at_drop v610_at))))))) (at_z rfl (at_cut (r' := 1280) (c' := 0) (at_queries at_in)) (at_drop v610_at))))) (v32_at 256)) (at_wide (at_pile (r := 1280) (.cons r_159_at (.cons r_187_at (.cons r_189_at .nil)))) _)))))) (at_drop at_in))))

/-- The second head: weighted sums of the tiles from 1 on. -/
theorem r_211_at : At (kernelRun3_A.sl.r_211 (F := Ideal) c arg3 harg3 arg4 harg4 arg5 harg5 arg8 arg9 x0 x1 x2) (AC x0 x1 x2 1 1) 1024 0 := by
  unfold kernelRun3_A.sl.r_211 k3_pay356
  exact (at_pile (r := 1024) (.cons r_163_at (.cons r_201_at (.cons r_203_at (.cons r_205_at .nil)))))

/-- A tile of the second head's keys. -/
theorem v699_at : At1 (kernelRun3_A.sl.v699 (F := Ideal) c arg4 harg4 arg8 x1) (KX x1 1) 0 0 := load_last (at_keys1 at_in)

/-- Scores of the second head. -/
theorem r_212_at : At (kernelRun3_A.sl.r_212 (F := Ideal) c arg3 harg3 arg4 harg4 arg8 x0 x1) (Z x0 x1 1) 1024 0 := by
  unfold kernelRun3_A.sl.r_212 k3_pay357
  exact (at_z rfl (at_cut (r' := 1024) (c' := 0) (at_queries at_in)) (at_drop v699_at))

/-- Powers of two of the second head's scores. -/
theorem r_213_at : At (kernelRun3_A.sl.r_213 (F := Ideal) c arg3 harg3 arg4 harg4 arg8 x0 x1) (fun t s => Ideal.exp2 (min (Z x0 x1 1 t s) ⊤)) 1024 0 := by
  unfold kernelRun3_A.sl.r_213 k3_pay358 k3_pay357
  exact (at_exp2 (at_clamp (at_z rfl (at_cut (r' := 1024) (c' := 0) (at_queries at_in)) (at_drop v699_at))))

/-- The second head: weighted sums of the tiles from 0 on. -/
theorem r_214_at [Finite x0] [Finite x1] : At (kernelRun3_A.sl.r_214 (F := Ideal) c arg3 harg3 arg4 harg4 arg5 harg5 arg8 arg9 x0 x1 x2) (AC x0 x1 x2 1 0) 1024 0 := by
  unfold kernelRun3_A.sl.r_214 k3_pay360 k3_pay359
  exact (at_go v1054_at (at_cut (r' := 1024) (c' := 0) (at_acc 0 (by norm_num) r_211_at (at_sum 0 rfl (at_low (by norm_num) (at_truncf (at_w 0 (at_sub (at_sub r_212_at (at_sp (at_base (at_log (at_inc r_213_at))) r_212_at)) (at_after 0 (at_ps 0 rfl (at_low (by norm_num) (at_truncf (at_sp (at_base (at_log (at_inc r_213_at))) r_212_at))) (v32_at 0)) (at_wide r_210_at _)))))) (at_drop at_in)))))

/-- The second head: weighted sums of the tiles from 0 on. -/
theorem r_215_at [Finite x0] [Finite x1] : At (kernelRun3_A.sl.r_215 (F := Ideal) c arg3 harg3 arg4 harg4 arg5 harg5 arg8 arg9 x0 x1 x2) (AC x0 x1 x2 1 0) 1280 0 := by
  unfold kernelRun3_A.sl.r_215 k3_pay361 k3_pay359
  exact (at_go v1054_at (at_cut (r' := 1280) (c' := 0) (at_acc 0 (by norm_num) r_211_at (at_sum 0 rfl (at_low (by norm_num) (at_truncf (at_w 0 (at_sub (at_sub r_212_at (at_sp (at_base (at_log (at_inc r_213_at))) r_212_at)) (at_after 0 (at_ps 0 rfl (at_low (by norm_num) (at_truncf (at_sp (at_base (at_log (at_inc r_213_at))) r_212_at))) (v32_at 0)) (at_wide r_210_at _)))))) (at_drop at_in)))))

/-- The second head: weighted sums of the tiles from 0 on. -/
theorem r_216_at [Finite x0] [Finite x1] : At (kernelRun3_A.sl.r_216 (F := Ideal) c arg3 harg3 arg4 harg4 arg5 harg5 arg8 arg9 x0 x1 x2) (AC x0 x1 x2 1 0) 1536 0 := by
  unfold kernelRun3_A.sl.r_216 k3_pay362 k3_pay359
  exact (at_go v1054_at (at_cut (r' := 1536) (c' := 0) (at_acc 0 (by norm_num) r_211_at (at_sum 0 rfl (at_low (by norm_num) (at_truncf (at_w 0 (at_sub (at_sub r_212_at (at_sp (at_base (at_log (at_inc r_213_at))) r_212_at)) (at_after 0 (at_ps 0 rfl (at_low (by norm_num) (at_truncf (at_sp (at_base (at_log (at_inc r_213_at))) r_212_at))) (v32_at 0)) (at_wide r_210_at _)))))) (at_drop at_in)))))

/-- The second head: weighted sums of the tiles from 0 on. -/
theorem r_217_at [Finite x0] [Finite x1] : At (kernelRun3_A.sl.r_217 (F := Ideal) c arg3 harg3 arg4 harg4 arg5 harg5 arg8 arg9 x0 x1 x2) (AC x0 x1 x2 1 0) 1792 0 := by
  unfold kernelRun3_A.sl.r_217 k3_pay363 k3_pay359
  exact (at_go v1054_at (at_cut (r' := 1792) (c' := 0) (at_acc 0 (by norm_num) r_211_at (at_sum 0 rfl (at_low (by norm_num) (at_truncf (at_w 0 (at_sub (at_sub r_212_at (at_sp (at_base (at_log (at_inc r_213_at))) r_212_at)) (at_after 0 (at_ps 0 rfl (at_low (by norm_num) (at_truncf (at_sp (at_base (at_log (at_inc r_213_at))) r_212_at))) (v32_at 0)) (at_wide r_210_at _)))))) (at_drop at_in)))))

/-- The second head: what the tiles from 1 on break off. -/
theorem r_114_at : At (kernelRun3_A.sl.r_114 (F := Ideal) c arg3 harg3 arg4 harg4 arg8 arg9 x0 x1) (fun t _ => CA x0 x1 1 1 t) 256 0 := by
  unfold kernelRun3_A.sl.r_114 k3_pay194 k3_pay193 k3_pay191
  exact (at_cut (r' := 256) (c' := 0) (at_carry 1 (by norm_num) (at_cut (r' := 256) (c' := 256) (at_after 1 (at_ps 1 rfl r_113_at (v32_at 256)) (at_wide r_110_at _))) (at_extf (at_cut (r' := 256) (c' := 256) r_113_at))))

/-- The second head: what the tiles from 1 on break off. -/
theorem r_116_at : At (kernelRun3_A.sl.r_116 (F := Ideal) c arg3 harg3 arg4 harg4 arg8 arg9 x0 x1) (fun t _ => CA x0 x1 1 1 t) 512 0 := by
  unfold kernelRun3_A.sl.r_116 k3_pay196 k3_pay193 k3_pay191
  exact (at_cut (r' := 512) (c' := 0) (at_carry 1 (by norm_num) (at_cut (r' := 256) (c' := 256) (at_after 1 (at_ps 1 rfl r_113_at (v32_at 256)) (at_wide r_110_at _))) (at_extf (at_cut (r' := 256) (c' := 256) r_113_at))))

/-- The second head: what the tiles from 1 on break off. -/
theorem r_128_at : At (kernelRun3_A.sl.r_128 (F := Ideal) c arg3 harg3 arg4 harg4 arg8 arg9 x0 x1) (fun t _ => CA x0 x1 1 1 t) 0 0 := by
  unfold kernelRun3_A.sl.r_128 k3_pay11 k3_pay211
  exact (at_pile (r := 0) (.cons (at_car0 zeros (by norm_num)) (.cons r_114_at (.cons r_116_at .nil))))

/-- The second head: weighted sums of the tiles from 2 on. -/
theorem r_94_at : At (kernelRun3_A.sl.r_94 (F := Ideal) c arg3 harg3 arg4 harg4 arg5 harg5 arg8 arg9 x0 x1 x2) (AC x0 x1 x2 1 2) 512 0 := by
  unfold kernelRun3_A.sl.r_94 k3_pay164 k3_pay161
  exact (at_cut (r' := 512) (c' := 0) (at_acc 2 (by norm_num) r_88_at (at_sum 2 rfl (at_truncf (at_under (at_keep below zeros r_92_at) (at_cut (r' := 768) (c' := 512) r_91_at))) (at_drop at_in))))

/-- The second head: weighted sums of the tiles from 2 on. -/
theorem r_96_at : At (kernelRun3_A.sl.r_96 (F := Ideal) c arg3 harg3 arg4 harg4 arg5 harg5 arg8 arg9 x0 x1 x2) (AC x0 x1 x2 1 2) 768 0 := by
  unfold kernelRun3_A.sl.r_96 k3_pay166 k3_pay161
  exact (at_cut (r' := 768) (c' := 0) (at_acc 2 (by norm_num) r_88_at (at_sum 2 rfl (at_truncf (at_under (at_keep below zeros r_92_at) (at_cut (r' := 768) (c' := 512) r_91_at))) (at_drop at_in))))

/-- The second head: weighted sums of the tiles from 2 on. -/
theorem r_111_at : At (kernelRun3_A.sl.r_111 (F := Ideal) c arg3 harg3 arg4 harg4 arg5 harg5 arg8 arg9 x0 x1 x2) (AC x0 x1 x2 1 2) 256 0 := by
  unfold kernelRun3_A.sl.r_111 k3_pay13 k3_pay186
  exact (at_pile (r := 256) (.cons (at_acc0 zeros (by norm_num)) (.cons r_94_at (.cons r_96_at .nil))))

/-- Scores of the second head less their softplus. -/
theorem r_112_at : At (kernelRun3_A.sl.r_112 (F := Ideal) c arg3 harg3 arg4 harg4 arg8 x0 x1) (fun t s => Z x0 x1 1 t s - SP x0 x1 1 t s) 256 256 := by
  unfold kernelRun3_A.sl.r_112 k3_pay189 k3_pay187 k3_pay188
  exact (at_sub (at_z rfl (at_cut (r' := 256) (c' := 0) (at_queries at_in)) (at_drop v610_at)) (at_sp (at_base (at_log (at_inc (at_exp2 (at_clamp (at_z rfl (at_cut (r' := 256) (c' := 0) (at_queries at_in)) (at_drop v610_at))))))) (at_z rfl (at_cut (r' := 256) (c' := 0) (at_queries at_in)) (at_drop v610_at))))

/-- The second head: weighted sums of the tiles from 1 on. -/
theorem r_115_at : At (kernelRun3_A.sl.r_115 (F := Ideal) c arg3 harg3 arg4 harg4 arg5 harg5 arg8 arg9 x0 x1 x2) (AC x0 x1 x2 1 1) 256 0 := by
  unfold kernelRun3_A.sl.r_115 k3_pay195 k3_pay192 k3_pay191
  exact (at_cut (r' := 256) (c' := 0) (at_acc 1 (by norm_num) r_111_at (at_sum 1 rfl (at_truncf (at_under (at_keep below zeros (at_cut (r' := 256) (c' := 256) (at_w 1 (at_sub r_112_at (at_after 1 (at_ps 1 rfl r_113_at (v32_at 256)) (at_wide r_110_at _)))))) (at_cut (r' := 512) (c' := 256) (at_w 1 (at_sub r_112_at (at_after 1 (at_ps 1 rfl r_113_at (v32_at 256)) (at_wide r_110_at _))))))) (at_drop at_in))))

/-- The second head: weighted sums of the tiles from 1 on. -/
theorem r_117_at : At (kernelRun3_A.sl.r_117 (F := Ideal) c arg3 harg3 arg4 harg4 arg5 harg5 arg8 arg9 x0 x1 x2) (AC x0 x1 x2 1 1) 512 0 := by
  unfold kernelRun3_A.sl.r_117 k3_pay197 k3_pay192 k3_pay191
  exact (at_cut (r' := 512) (c' := 0) (at_acc 1 (by norm_num) r_111_at (at_sum 1 rfl (at_truncf (at_under (at_keep below zeros (at_cut (r' := 256) (c' := 256) (at_w 1 (at_sub r_112_at (at_after 1 (at_ps 1 rfl r_113_at (v32_at 256)) (at_wide r_110_at _)))))) (at_cut (r' := 512) (c' := 256) (at_w 1 (at_sub r_112_at (at_after 1 (at_ps 1 rfl r_113_at (v32_at 256)) (at_wide r_110_at _))))))) (at_drop at_in))))

/-- The second head: weighted sums of the tiles from 1 on. -/
theorem r_129_at : At (kernelRun3_A.sl.r_129 (F := Ideal) c arg3 harg3 arg4 harg4 arg5 harg5 arg8 arg9 x0 x1 x2) (AC x0 x1 x2 1 1) 0 0 := by
  unfold kernelRun3_A.sl.r_129 k3_pay13 k3_pay212
  exact (at_pile (r := 0) (.cons (at_acc0 zeros (by norm_num)) (.cons r_115_at (.cons r_117_at .nil))))

/-- Scores of the second head less their softplus. -/
theorem r_130_at : At (kernelRun3_A.sl.r_130 (F := Ideal) c arg3 harg3 arg4 harg4 arg8 x0 x1) (fun t s => Z x0 x1 1 t s - SP x0 x1 1 t s) 0 0 := by
  unfold kernelRun3_A.sl.r_130 k3_pay215 k3_pay213 k3_pay214
  exact (at_sub (at_z rfl (at_cut (r' := 0) (c' := 0) (at_queries at_in)) (at_drop v699_at)) (at_sp (at_base (at_log (at_inc (at_exp2 (at_clamp (at_z rfl (at_cut (r' := 0) (c' := 0) (at_queries at_in)) (at_drop v699_at))))))) (at_z rfl (at_cut (r' := 0) (c' := 0) (at_queries at_in)) (at_drop v699_at))))

/-- Softplus of the second head's scores below the diagonal. -/
theorem r_131_at : At (kernelRun3_A.sl.r_131 (F := Ideal) c arg3 harg3 arg4 harg4 arg8 x0 x1) (SM x0 x1 1) 0 0 := by
  unfold kernelRun3_A.sl.r_131 k3_pay216 k3_pay214 k3_pay213
  exact (at_truncf (at_under (at_keep below zeros (at_cut (r' := 0) (c' := 0) (at_sp (at_base (at_log (at_inc (at_exp2 (at_clamp (at_z rfl (at_cut (r' := 0) (c' := 0) (at_queries at_in)) (at_drop v699_at))))))) (at_z rfl (at_cut (r' := 0) (c' := 0) (at_queries at_in)) (at_drop v699_at))))) (at_cut (r' := 256) (c' := 0) (at_sp (at_base (at_log (at_inc (at_exp2 (at_clamp (at_z rfl (at_cut (r' := 0) (c' := 0) (at_queries at_in)) (at_drop v699_at))))))) (at_z rfl (at_cut (r' := 0) (c' := 0) (at_queries at_in)) (at_drop v699_at))))))

/-- The second head: weighted sums of the tiles from 0 on. -/
theorem r_132_at : At (kernelRun3_A.sl.r_132 (F := Ideal) c arg3 harg3 arg4 harg4 arg5 harg5 arg8 arg9 x0 x1 x2) (AC x0 x1 x2 1 0) 0 0 := by
  unfold kernelRun3_A.sl.r_132 k3_pay218 k3_pay217
  exact (at_cut (r' := 0) (c' := 0) (at_acc 0 (by norm_num) r_129_at (at_sum 0 rfl (at_truncf (at_under (at_keep below zeros (at_cut (r' := 0) (c' := 0) (at_w 0 (at_sub r_130_at (at_after 0 (at_ps 0 rfl r_131_at (v32_at 0)) (at_wide r_128_at _)))))) (at_cut (r' := 256) (c' := 0) (at_w 0 (at_sub r_130_at (at_after 0 (at_ps 0 rfl r_131_at (v32_at 0)) (at_wide r_128_at _))))))) (at_drop at_in))))

/-- The second head: weighted sums of the tiles from 0 on. -/
theorem r_226_at [Finite x0] [Finite x1] : At (kernelRun3_A.sl.r_226 (F := Ideal) c arg3 harg3 arg4 harg4 arg5 harg5 arg8 arg9 x0 x1 x2) (AC x0 x1 x2 1 0) 0 0 := by
  unfold kernelRun3_A.sl.r_226 k3_pay372
  exact (at_go v750_at (at_go v1054_at r_132_at))

/-- The second head: weighted sums of the tiles from 0 on. -/
theorem r_133_at : At (kernelRun3_A.sl.r_133 (F := Ideal) c arg3 harg3 arg4 harg4 arg5 harg5 arg8 arg9 x0 x1 x2) (AC x0 x1 x2 1 0) 256 0 := by
  unfold kernelRun3_A.sl.r_133 k3_pay219 k3_pay217
  exact (at_cut (r' := 256) (c' := 0) (at_acc 0 (by norm_num) r_129_at (at_sum 0 rfl (at_truncf (at_under (at_keep below zeros (at_cut (r' := 0) (c' := 0) (at_w 0 (at_sub r_130_at (at_after 0 (at_ps 0 rfl r_131_at (v32_at 0)) (at_wide r_128_at _)))))) (at_cut (r' := 256) (c' := 0) (at_w 0 (at_sub r_130_at (at_after 0 (at_ps 0 rfl r_131_at (v32_at 0)) (at_wide r_128_at _))))))) (at_drop at_in))))

/-- The second head: weighted sums of the tiles from 0 on. -/
theorem r_227_at [Finite x0] [Finite x1] : At (kernelRun3_A.sl.r_227 (F := Ideal) c arg3 harg3 arg4 harg4 arg5 harg5 arg8 arg9 x0 x1 x2) (AC x0 x1 x2 1 0) 256 0 := by
  unfold kernelRun3_A.sl.r_227 k3_pay373
  exact (at_go v750_at (at_go v1054_at r_133_at))

/-- The second head: weighted sums of the tiles from 0 on. -/
theorem r_134_at : At (kernelRun3_A.sl.r_134 (F := Ideal) c arg3 harg3 arg4 harg4 arg5 harg5 arg8 arg9 x0 x1 x2) (AC x0 x1 x2 1 0) 512 0 := by
  unfold kernelRun3_A.sl.r_134 k3_pay220 k3_pay217
  exact (at_cut (r' := 512) (c' := 0) (at_acc 0 (by norm_num) r_129_at (at_sum 0 rfl (at_truncf (at_under (at_keep below zeros (at_cut (r' := 0) (c' := 0) (at_w 0 (at_sub r_130_at (at_after 0 (at_ps 0 rfl r_131_at (v32_at 0)) (at_wide r_128_at _)))))) (at_cut (r' := 256) (c' := 0) (at_w 0 (at_sub r_130_at (at_after 0 (at_ps 0 rfl r_131_at (v32_at 0)) (at_wide r_128_at _))))))) (at_drop at_in))))

/-- The second head: weighted sums of the tiles from 0 on. -/
theorem r_228_at [Finite x0] [Finite x1] : At (kernelRun3_A.sl.r_228 (F := Ideal) c arg3 harg3 arg4 harg4 arg5 harg5 arg8 arg9 x0 x1 x2) (AC x0 x1 x2 1 0) 512 0 := by
  unfold kernelRun3_A.sl.r_228 k3_pay374
  exact (at_go v750_at (at_go v1054_at r_134_at))

/-- The second head: weighted sums of the tiles from 1 on. -/
theorem r_119_at : At (kernelRun3_A.sl.r_119 (F := Ideal) c arg3 harg3 arg4 harg4 arg5 harg5 arg8 arg9 x0 x1 x2) (AC x0 x1 x2 1 1) 768 0 := by
  unfold kernelRun3_A.sl.r_119 k3_pay199 k3_pay192 k3_pay191
  exact (at_cut (r' := 768) (c' := 0) (at_acc 1 (by norm_num) r_111_at (at_sum 1 rfl (at_truncf (at_under (at_keep below zeros (at_cut (r' := 256) (c' := 256) (at_w 1 (at_sub r_112_at (at_after 1 (at_ps 1 rfl r_113_at (v32_at 256)) (at_wide r_110_at _)))))) (at_cut (r' := 512) (c' := 256) (at_w 1 (at_sub r_112_at (at_after 1 (at_ps 1 rfl r_113_at (v32_at 256)) (at_wide r_110_at _))))))) (at_drop at_in))))

/-- The second head: weighted sums of the tiles from 0 on. -/
theorem r_168_at : At (kernelRun3_A.sl.r_168 (F := Ideal) c arg3 harg3 arg4 harg4 arg5 harg5 arg8 arg9 x0 x1 x2) (AC x0 x1 x2 1 0) 768 0 := by
  unfold kernelRun3_A.sl.r_168 k3_pay284
  exact (at_acc 0 (by norm_num) r_119_at (at_sum 0 rfl (at_low (by norm_num) (at_truncf (at_w 0 (at_sub (at_sub (at_z rfl (at_cut (r' := 768) (c' := 0) (at_queries at_in)) (at_drop v699_at)) (at_sp (at_base (at_log (at_inc (at_exp2 (at_clamp (at_z rfl (at_cut (r' := 768) (c' := 0) (at_queries at_in)) (at_drop v699_at))))))) (at_z rfl (at_cut (r' := 768) (c' := 0) (at_queries at_in)) (at_drop v699_at)))) (at_after 0 (at_ps 0 rfl (at_low (by norm_num) (at_truncf (at_sp (at_base (at_log (at_inc (at_exp2 (at_clamp (at_z rfl (at_cut (r' := 768) (c' := 0) (at_queries at_in)) (at_drop v699_at))))))) (at_z rfl (at_cut (r' := 768) (c' := 0) (at_queries at_in)) (at_drop v699_at))))) (v32_at 0)) (at_wide r_118_at _)))))) (at_drop at_in)))

/-- The second head: weighted sums of the tiles from 0 on. -/
theorem r_229_at [Finite x0] [Finite x1] : At (kernelRun3_A.sl.r_229 (F := Ideal) c arg3 harg3 arg4 harg4 arg5 harg5 arg8 arg9 x0 x1 x2) (AC x0 x1 x2 1 0) 768 0 := by
  unfold kernelRun3_A.sl.r_229 k3_pay375
  exact (at_go v750_at (at_go v1054_at r_168_at))

/-- The second head: weighted sums of the tiles from 0 on. -/
theorem r_231_at [Finite x0] [Finite x1] : At (kernelRun3_A.sl.r_231 (F := Ideal) c arg3 harg3 arg4 harg4 arg5 harg5 arg8 arg9 x0 x1 x2) (AC x0 x1 x2 1 0) 0 0 := by
  unfold kernelRun3_A.sl.r_231 k3_pay377
  exact (at_pile (r := 0) (.cons r_226_at (.cons r_227_at (.cons r_228_at (.cons r_229_at (.cons (at_go v750_at r_214_at) (.cons (at_go v750_at r_215_at) (.cons (at_go v750_at r_216_at) (.cons (at_go v750_at r_217_at) .nil)))))))))

end Cert.Stick

end
-- ==== Proof.StickOut.lean ====
/-
  What the stick-breaking kernel leaves: at each pair of heads the weighted sums, times the gate.
-/
module

public import proofs.«01_k».proof.Proof.StickSums
public import Idealize.ShloMosaic.Lib.Pipeline.ValueKit

@[expose] public section

set_option maxRecDepth 16384

noncomputable section

open Idealize.ShloMosaic Idealize.ShloMosaic.ValueIdx Cert.KernelIdeal Cert.KernelIdeal.Gen Cert.Tiles

namespace Cert.Stick

/-- One block of the kernel's output: the lane's own head's sum, times the gate. -/
def GX (x0 x1 x2 x3 : Vec Ideal S1x2048x128 .bf16) (t l : ℕ) : EReal :=
  (if l / 64 = 0 then AC x0 x1 x2 0 0 t l else AC x0 x1 x2 1 0 t l) * (rd x3 t l * Ideal.logistic (rd x3 t l))

variable (V : (c : Dev nD) → (b : Ref sig .tc) → Buf (Elt Ideal) (c.tc.loc b))

/-- What the kernel's body leaves at a point, from the blocks it read. -/
theorem at_outs (c : Dev nD) (t : Fin cfg3.N) [Finite (iblk3 V c 0 t)] [Finite (iblk3 V c 1 t)] :
    At1 (a := 2048) (b := 128) (outsAt3 (F := Ideal) V c t) (GX (iblk3 V c 0 t) (iblk3 V c 1 t) (iblk3 V c 2 t) (iblk3 V c 3 t)) 0 0 := by
  unfold outsAt3 out3_A_4
  simp (disch := decide) only [View.read_writes_junk_eq_canon]
  unfold kernelRun3_A
  dsimp only
  simp (disch := decide) only [View.canon_cons_unit_lit']
  exact at_gate r_230_at r_231_at at_in

/-- An array of 16 sequences of 2048 rows, as a function of sequence, row and column. -/
def cell {N : ℕ} (A : (⟨3, ![16, 2048, N]⟩ : Shape).Idx → EReal) (b t n : ℕ) : EReal :=
  if h : b < 16 ∧ t < 2048 ∧ n < N then A (ValueIdx.ix3 ⟨b, h.1⟩ ⟨t, h.2.1⟩ ⟨n, h.2.2⟩) else 0

/-- At an index of the array it is the entry. -/
theorem cell_at {N : ℕ} (A : (⟨3, ![16, 2048, N]⟩ : Shape).Idx → EReal) (j : (⟨3, ![16, 2048, N]⟩ : Shape).Idx) {b t n : ℕ}
    (h0 : (j 0).val = b) (h1 : (j 1).val = t) (h2 : (j 2).val = n) : A j = cell A b t n := by
  subst h0 h1 h2
  obtain ⟨p, q, r, rfl⟩ := ex3 j
  have h : ((ValueIdx.ix3 p q r : (⟨3, ![16, 2048, N]⟩ : Shape).Idx) 0).val < 16
      ∧ ((ValueIdx.ix3 p q r : (⟨3, ![16, 2048, N]⟩ : Shape).Idx) 1).val < 2048
      ∧ ((ValueIdx.ix3 p q r : (⟨3, ![16, 2048, N]⟩ : Shape).Idx) 2).val < N := ⟨p.isLt, q.isLt, r.isLt⟩
  rw [cell, dif_pos h]; rfl

/-- Block `n` of 128 columns of sequence `b`. -/
def slab {N : ℕ} (A : (⟨3, ![16, 2048, N]⟩ : Shape).Idx → EReal) (b n : ℕ) : Vec Ideal S1x2048x128 .bf16 :=
  fun j => cell A b (j 1).val (128 * n + (j 2).val)

/-- The block read at a row and a lane. -/
theorem rd_slab {N : ℕ} (A : (⟨3, ![16, 2048, N]⟩ : Shape).Idx → EReal) (b n : ℕ) {t l : ℕ} (ht : t < 2048) (hl : l < 128) :
    rd (slab A b n) t l = cell A b t (128 * n + l) := by
  rw [rd, dif_pos ⟨ht, hl⟩]; rfl

/-- Blocks of an array of real numbers hold real numbers. -/
theorem finite_slab {N : ℕ} {A : (⟨3, ![16, 2048, N]⟩ : Shape).Idx → EReal} {b n : ℕ}
    (hA : ∀ t l, t < 2048 → l < 128 → IsR (cell A b t (128 * n + l))) : Finite (slab A b n) := ⟨fun j => hA _ _ (j 1).isLt (j 2).isLt⟩

/-- The places of the windows' blocks at a grid point. -/
theorem place0 : ∀ t : Fin grid3.N,
    win3_0.index t = ![(grid3.coords t 0).val, (grid3.coords t 2).val, (grid3.coords t 1).val]
    ∧ win3_1.index t = ![(grid3.coords t 0).val, 0, 4 + (grid3.coords t 1).val]
    ∧ win3_2.index t = ![(grid3.coords t 0).val, 0, 8 + (grid3.coords t 1).val]
    ∧ win3_3.index t = ![(grid3.coords t 0).val, (grid3.coords t 2).val, 12 + (grid3.coords t 1).val]
    ∧ win3_4.index t = ![(grid3.coords t 0).val, (grid3.coords t 2).val, (grid3.coords t 1).val]
    ∧ (grid3.coords t 2).val = 0 := by decide +kernel

/-- The kernel's result array, from the array it reads. -/
def stickArr (A : S16x2048x6144.Idx → EReal) (b t n : ℕ) : EReal :=
  GX (slab A b (n / 128)) (slab A b (4 + n / 128)) (slab A b (8 + n / 128)) (slab A b (12 + n / 128)) t (n % 128)

/-- What the kernel's write-backs leave in its result array. -/
theorem stick_arr (c : Dev nD) (A : S16x2048x6144.Idx → EReal) (hV : V c main_v18 = A) (hA : ∀ b t n, b < 16 → t < 2048 → n < 1024 → IsR (cell A b t n)) : (dat3 V c).arrAt 4 cfg3.N
    = fun y : S16x2048x512.Idx => stickArr A (y 0).val (y 1).val (y 2).val := by
  refine (dat3 V c).arrAt_eq_of_covers 4 _ (by decide +kernel) fun t hf y => ?_
  blk_simp
  rw [after3_4]
  obtain ⟨i0, i1, i2, i3, i4, hz⟩ := place0 t
  have e0 : iblk3 V c 0 t = slab A (grid3.coords t 0).val (grid3.coords t 1).val := by
    subst hV
    funext y; blk_simp [iblk3]
    refine cell_at _ _ ?_ ?_ ?_ <;> blk_simp [i0, hz] <;> idx_bounds y <;> omega
  have e1 : iblk3 V c 1 t = slab A (grid3.coords t 0).val (4 + (grid3.coords t 1).val) := by
    subst hV
    funext y; blk_simp [iblk3]
    refine cell_at _ _ ?_ ?_ ?_ <;> blk_simp [i1, hz] <;> idx_bounds y <;> omega
  have e2 : iblk3 V c 2 t = slab A (grid3.coords t 0).val (8 + (grid3.coords t 1).val) := by
    subst hV
    funext y; blk_simp [iblk3]
    refine cell_at _ _ ?_ ?_ ?_ <;> blk_simp [i2, hz] <;> idx_bounds y <;> omega
  have e3 : iblk3 V c 3 t = slab A (grid3.coords t 0).val (12 + (grid3.coords t 1).val) := by
    subst hV
    funext y; blk_simp [iblk3]
    refine cell_at _ _ ?_ ?_ ?_ <;> blk_simp [i3, hz] <;> idx_bounds y <;> omega
  have hb : (grid3.coords t 0).val < 16 := (grid3.coords t 0).isLt
  have hp : (grid3.coords t 1).val < 4 := (grid3.coords t 1).isLt
  have f0 : Finite (iblk3 V c 0 t) := by rw [e0]; exact finite_slab fun _ _ hr hl => hA _ _ _ hb hr (by omega)
  have f1 : Finite (iblk3 V c 1 t) := by rw [e1]; exact finite_slab fun _ _ hr hl => hA _ _ _ hb hr (by omega)
  refine (at_outs V c t y).trans ?_
  rw [e0, e1, e2, e3, stickArr]
  have g0 : win3_4.index t 0 = (grid3.coords t 0).val := by rw [i4]; rfl
  have g1 : win3_4.index t 1 = 0 := by rw [i4]; exact hz
  have g2 : win3_4.index t 2 = (grid3.coords t 1).val := by rw [i4]; rfl
  have hy : (y 2).val < 128 := (y 2).isLt
  rw [g0, g1, g2, show ((grid3.coords t 1).val * 128 + (y 2).val) / 128 = (grid3.coords t 1).val by omega,
    show ((grid3.coords t 1).val * 128 + (y 2).val) % 128 = (y 2).val by omega, Nat.zero_mul]
  exact congrArg _ (Nat.zero_add _)

end Cert.Stick

end
-- ==== Proof.StickReal.lean ====
/-
  The stick-breaking kernel's sums over real numbers.
-/
module

public import proofs.«01_k».proof.Proof.RealPrep
public import proofs.«01_k».proof.Proof.StickOut

@[expose] public section

set_option maxRecDepth 16384

noncomputable section

open Idealize.ShloMosaic Cert.KernelIdeal Cert.KernelIdeal.Gen Finset
open Cert.RealFox (sum_real sum_group)
open scoped BigOperators

namespace Cert.Stick

/-- The softplus of a real. -/
def sp (y : ℝ) : ℝ := Real.log (1 + Real.exp y)

/-- What column `s` breaks off in row `t`. -/
def su (z : ℕ → ℕ → ℝ) (t s : ℕ) : ℝ := if s < t then sp (z t s * Real.log 2) else 0

/-- What the columns after `s` break off in row `t`. -/
def sf (z : ℕ → ℕ → ℝ) (t s : ℕ) : ℝ := ∑ j ∈ range 2048, if s < j then su z t j else 0

/-- The weight of column `s` in row `t`. -/
def sw (z : ℕ → ℕ → ℝ) (t s : ℕ) : ℝ :=
  if s < t then Real.exp (z t s * Real.log 2 - sp (z t s * Real.log 2) - sf z t s) else 0

/-- The logarithm of two is positive. -/
theorem log2_pos : 0 < Real.log 2 := Real.log_pos one_lt_two

/-- The base-2 softplus is the softplus over the logarithm of two. -/
theorem soft_sp (z : ℝ) : soft (z : EReal) = ((sp (z * Real.log 2) * (Real.log 2)⁻¹ : ℝ) : EReal) := by
  have hp : (2 : ℝ) ^ z = Real.exp (z * Real.log 2) := by rw [Real.rpow_def_of_pos two_pos, mul_comm]
  rw [soft_real, max_eq_left, hp, sp]
  rw [← div_eq_mul_inv, le_div_iff₀ log2_pos, hp]
  calc z * Real.log 2 = Real.log (Real.exp (z * Real.log 2)) := (Real.log_exp _).symm
    _ ≤ _ := Real.log_le_log (Real.exp_pos _) (by linarith)

/-- A sum over a stretch of the columns, zero outside it, is the sum over all of them. -/
theorem sum_all (f : ℕ → ℝ) {a b : ℕ} (hb : b ≤ 2048) (h0 : ∀ s, s < a → f s = 0) (h1 : ∀ s, b ≤ s → f s = 0) :
    ∑ s ∈ Ico a b, f s = ∑ s ∈ range 2048, f s := by
  refine sum_subset (fun s hs => ?_) fun s _ hs => ?_
  · rw [mem_Ico] at hs; rw [mem_range]; omega
  · rw [mem_Ico] at hs
    by_cases h : s < a
    · exact h0 s h
    · exact h1 s (by omega)

/-- A sum over a tile of real numbers. -/
theorem sum_tile (f : ℕ → ℝ) (a : ℕ) : ∑ j : Fin 256, ((f (a + j.val) : ℝ) : EReal) = ((∑ s ∈ Ico a (a + 256), f s : ℝ) : EReal) := by
  rw [sum_real, Fin.sum_univ_eq_sum_range (fun j => f (a + j)) 256, sum_Ico_eq_sum_range, Nat.add_sub_cancel_left]

section
variable {x0 x1 x2 : Vec Ideal S1x2048x128 .bf16} [Finite x0] [Finite x1] {h : ℕ}

/-- The real number in a block of real numbers. -/
theorem rd_val (x : Vec Ideal S1x2048x128 .bf16) [Finite x] (t l : ℕ) : rd x t l = (((rd x t l).toReal : ℝ) : EReal) := by
  obtain ⟨r, hr⟩ := rd_real x t l
  rw [hr, EReal.toReal_coe]

/-- The real score. -/
def zr (x0 x1 : Vec Ideal S1x2048x128 .bf16) (h t s : ℕ) : ℝ :=
  ∑ d ∈ range 64, (rd x0 t (64 * h + d)).toReal * (rd x1 s (64 * h + d)).toReal

/-- The kernel's score is the real one. -/
theorem Z_val (hh : h < 2) (t s : ℕ) : Z x0 x1 h t s = ((zr x0 x1 h t s : ℝ) : EReal) := by
  have e : ∀ j : Fin 128, rd x0 t (0 + j.val) * KX x1 h (0 + j.val) s
      = ((if j.val / 64 = h then (rd x0 t j.val).toReal * (rd x1 s j.val).toReal else 0 : ℝ) : EReal) := fun j => by
    rw [Nat.zero_add, KX]
    split
    · rw [EReal.coe_mul, ← rd_val, ← rd_val]
    · rw [mul_zero, EReal.coe_zero]
  rw [Z, sum_congr rfl fun j _ => e j, sum_real,
    Fin.sum_univ_eq_sum_range (fun j => if j / 64 = h then (rd x0 t j).toReal * (rd x1 s j).toReal else 0) 128,
    show 128 = 64 * 2 from rfl, sum_group (by omega) (fun j => (rd x0 t j).toReal * (rd x1 s j).toReal), if_pos hh, zr]

/-- What a column breaks off, in base 2. -/
theorem SM_val (hh : h < 2) (t s : ℕ) : SM x0 x1 h t s = ((su (zr x0 x1 h) t s * (Real.log 2)⁻¹ : ℝ) : EReal) := by
  rw [SM, low, su]
  split
  · rw [SP, Z_val hh, soft_sp]
  · rw [zero_mul, EReal.coe_zero]

/-- A tile's sum over the columns after one. -/
theorem tile_val (hh : h < 2) (t a s : ℕ) : ∑ j : Fin 256, SM x0 x1 h t (a + j.val) * TX (a + j.val) s
    = ((∑ j ∈ Ico a (a + 256), (if s < j then su (zr x0 x1 h) t j * (Real.log 2)⁻¹ else 0) : ℝ) : EReal) := by
  rw [← sum_tile]
  refine sum_congr rfl fun j _ => ?_
  rw [SM_val hh, TX]
  split
  · rw [mul_one]
  · rw [mul_zero, EReal.coe_zero]

/-- The tiles' carried sums. -/
theorem car_val (hh : h < 2) (q t : ℕ) : ∀ n, n ≤ q + 1 → car (SM x0 x1 h) q n t
    = ((∑ s ∈ Ico (256 * (q + 1 - n)) (256 * (q + 1)), su (zr x0 x1 h) t s * (Real.log 2)⁻¹ : ℝ) : EReal)
  | 0, _ => by rw [car, Nat.sub_zero, Ico_self, sum_empty, EReal.coe_zero]
  | n + 1, hn => by
    rw [car, tile_val hh, car_val hh q t n (by omega), SM_val hh, ← EReal.coe_add, ← EReal.coe_add,
      show q + 1 - (n + 1) = q - n by omega, show q + 1 - n = (q - n) + 1 by omega]
    generalize hk : q - n = k
    rw [← sum_Ico_consecutive _ (show 256 * k ≤ 256 * (k + 1) by omega) (show 256 * (k + 1) ≤ 256 * (q + 1) by omega),
      sum_eq_sum_Ico_succ_bot (show 256 * k < 256 * k + 256 by omega) (fun j => if 256 * k < j then su (zr x0 x1 h) t j * (Real.log 2)⁻¹ else 0),
      sum_eq_sum_Ico_succ_bot (show 256 * k < 256 * (k + 1) by omega) (fun s => su (zr x0 x1 h) t s * (Real.log 2)⁻¹),
      if_neg (lt_irrefl _), show 256 * (k + 1) = 256 * k + 256 by ring]
    rw [sum_congr rfl fun j hj => if_pos (show 256 * k < j by have := mem_Ico.1 hj; omega)]
    congr 1
    ring

/-- What the columns after one break off, in base 2. -/
theorem AF_val (hh : h < 2) {k t s : ℕ} (ht : t < 2048) (hk : k ≤ t / 256) (hs : 256 * k ≤ s) (hs' : s < 256 * k + 256) : AF x0 x1 h k t s
    = ((sf (zr x0 x1 h) t s * (Real.log 2)⁻¹ : ℝ) : EReal) := by
  have e : ∑ j ∈ Ico (256 * (k + 1)) (256 * (t / 256 + 1)), su (zr x0 x1 h) t j * (Real.log 2)⁻¹
      = ∑ j ∈ Ico (256 * k + 256) (256 * (t / 256 + 1)), (if s < j then su (zr x0 x1 h) t j * (Real.log 2)⁻¹ else 0) := by
    rw [show 256 * (k + 1) = 256 * k + 256 by ring]
    exact sum_congr rfl fun j hj => (if_pos (show s < j by have := mem_Ico.1 hj; omega)).symm
  rw [AF, tile_val hh, CA, car_val hh _ _ _ (by omega), ← EReal.coe_add, show t / 256 + 1 - (t / 256 + 1 - (k + 1)) = k + 1 by omega, e,
    sum_Ico_consecutive _ (by omega) (by omega), sum_all _ (by omega), sf, sum_mul]
  · exact congrArg _ (sum_congr rfl fun j _ => by rw [ite_mul, zero_mul])
  · exact fun j hj => if_neg (by omega)
  · exact fun j hj => by rw [su, if_neg (show ¬ j < t by omega), zero_mul, ite_self]

/-- The weight of a column. -/
theorem WM_val (hh : h < 2) {k t : ℕ} (ht : t < 2048) (hk : k ≤ t / 256) (j : Fin 256) : WM x0 x1 h k t (256 * k + j.val)
    = ((sw (zr x0 x1 h) t (256 * k + j.val) : ℝ) : EReal) := by
  rw [WM, low, sw]
  split
  · have h2 : Real.log 2 ≠ 0 := log2_pos.ne'
    rw [WX, AF_val hh ht hk (by omega) (by omega), Z_val hh, SP, Z_val hh, soft_sp, ← EReal.coe_sub, ← EReal.coe_sub, Ideal.exp2_coe]
    refine congrArg _ ((Real.rpow_def_of_pos two_pos _).trans (congrArg _ ?_))
    field_simp
  · rw [EReal.coe_zero]

/-- The kernel's weighted sums over some of the column tiles. -/
theorem acn_val (hh : h < 2) [Finite x2] {t : ℕ} (ht : t < 2048) (l : ℕ) : ∀ n, n ≤ t / 256 + 1 →
    acn (WM x0 x1 h) (rd x2) (t / 256) n t l
      = ((∑ s ∈ Ico (256 * (t / 256 + 1 - n)) (256 * (t / 256 + 1)), sw (zr x0 x1 h) t s * (rd x2 s l).toReal : ℝ) : EReal)
  | 0, _ => by rw [acn, Nat.sub_zero, Ico_self, sum_empty, EReal.coe_zero]
  | n + 1, hn => by
    have e : ∀ j : Fin 256, WM x0 x1 h (t / 256 - n) t (256 * (t / 256 - n) + j.val) * rd x2 (256 * (t / 256 - n) + j.val) l
        = ((sw (zr x0 x1 h) t (256 * (t / 256 - n) + j.val) * (rd x2 (256 * (t / 256 - n) + j.val) l).toReal : ℝ) : EReal) := fun j => by
      rw [WM_val hh ht (by omega), EReal.coe_mul, ← rd_val]
    rw [acn, acn_val hh ht l n (by omega), sum_congr rfl fun j _ => e j,
      sum_tile (fun s => sw (zr x0 x1 h) t s * (rd x2 s l).toReal), ← EReal.coe_add, add_comm,
      show 256 * (t / 256 - n) + 256 = 256 * (t / 256 + 1 - n) by omega,
      sum_Ico_consecutive _ (by omega) (by omega), show t / 256 + 1 - (n + 1) = t / 256 - n by omega]

/-- The kernel's weighted sums over all columns. -/
theorem AC_val (hh : h < 2) [Finite x2] {t : ℕ} (ht : t < 2048) (l : ℕ) : AC x0 x1 x2 h 0 t l
    = ((∑ s ∈ range 2048, sw (zr x0 x1 h) t s * (rd x2 s l).toReal : ℝ) : EReal) := by
  rw [AC, Nat.sub_zero, acn_val hh ht l _ le_rfl, Nat.sub_self, Nat.mul_zero, sum_all _ (by omega)]
  · exact fun s hs => absurd hs (by omega)
  · exact fun s hs => by rw [sw, if_neg (by omega), zero_mul]

end

end Cert.Stick

end
-- ==== Proof.StickRef.lean ====
/-
  The reference's stick-breaking branch, read at an index from the projection array.
-/
module

public import proofs.«01_k».proof.Proof.RefScore

@[expose] public section

set_option maxRecDepth 16384

noncomputable section

open Idealize.ShloMosaic Idealize.ShloMosaic.StableHlo Cert.ReferenceIdeal Cert.ReferenceIdeal.Gen Cert.ReferenceIdeal.Value Cert.RealFox Finset
open scoped BigOperators

namespace Cert.StickRef

/-- The strict comparison of a column index with a row index. -/
theorem slt_word {a b : ℕ} (ha : a < 2048) (hb : b < 2048) : IntOp.cmpi .slt (BitVec.ofNat 32 a) (BitVec.ofNat 32 b) = if a < b then 1#1 else 0#1 := by
  have hs : (BitVec.ofNat 32 a).slt (BitVec.ofNat 32 b) = decide (a < b) := by
    rw [BitVec.slt_eq_decide, BitVec.toInt_eq_toNat_of_lt (by simp; omega), BitVec.toInt_eq_toNat_of_lt (by simp; omega)]
    simp
    omega
  simp only [IntOp.cmpi, hs]
  by_cases h : a < b <;> simp [h]

/-- The scores. -/
def scores (A : FVec Ideal S16x2048x6152 .f32) : FVec Ideal S16x8x2048x2048 .f32 :=
  mulf (Host.dotGeneral dot_S16x8x2048x64_S16x8x2048x64_S16x8x2048x2048_3_3_2_2_01_01 none (transpose S16x8x2048x64 [0, 2, 1, 3] (shapeCast _ (extractStridedSlice S16x2048x512 ![0, 0, 0] A slices_S16x2048x6152_S16x2048x512_0_0_0) shapeCasts_S16x2048x512_S16x2048x8x64) transposes_S16x2048x8x64_S16x8x2048x64_0_2_1_3) (transpose S16x8x2048x64 [0, 2, 1, 3] (shapeCast _ (extractStridedSlice S16x2048x512 ![0, 0, 512] A slices_S16x2048x6152_S16x2048x512_0_0_512) shapeCasts_S16x2048x512_S16x2048x8x64) transposes_S16x2048x8x64_S16x8x2048x64_0_2_1_3)) (broadcastInDim S16x8x2048x2048 ![] bcast_S_S16x8x2048x2048 (constant S_ .f32 0x3E000000#32))

/-- The scores read at an index. -/
theorem scores_read (A : FVec Ideal S16x2048x6152 .f32) (b : Fin 16) (h : Fin 8) (t s : Fin 2048) :
    (scores A : S16x8x2048x2048.Idx → EReal) (ix4 b h t s)
      = (∑ d : Fin 64, A (ix3 b t ⟨h.val * 64 + d.val, by omega⟩) * A (ix3 b s ⟨512 + (h.val * 64 + d.val), by omega⟩))
        * Ideal.ofBits .f32 0x3E000000#32 := by
  unfold scores
  pointwise

/-- One where a column lies below a row. -/
def mask : IVec S2048x2048 1 :=
  cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))

/-- The mask read at an index. -/
theorem mask_read (t s : Fin 2048) : mask (ix2 t s) = if s.val < t.val then 1#1 else 0#1 := by
  rw [← slt_word s.isLt t.isLt]
  unfold mask
  pointwise

/-- An array of zeros. -/
def zeros : FVec Ideal S16x8x2048x2048 .f32 := broadcastInDim S16x8x2048x2048 ![] bcast_S_S16x8x2048x2048 (constant S_ .f32 0x00000000#32)

/-- Its entries. -/
theorem zeros_read (b : Fin 16) (h : Fin 8) (t s : Fin 2048) : (zeros : S16x8x2048x2048.Idx → EReal) (ix4 b h t s) = 0 := by
  rw [← Ideal.ofBits_zero_f32]
  unfold zeros
  pointwise

/-- The logarithm of the logistic function of the numbers whose negatives are given. -/
def logs (Y O : FVec Ideal S16x8x2048x2048 .f32) : FVec Ideal S16x8x2048x2048 .f32 :=
  Host.negf (select (cmpf .une (subf Y O) (subf Y O)) (addf Y O) (addf (maximumf Y O) (Host.log1p (Host.exp (Host.negf (Host.absf (subf Y O)))))))

/-- Read at an index where the number is real. -/
theorem logs_real (Y O : FVec Ideal S16x8x2048x2048 .f32) (b : Fin 16) (h : Fin 8) (t s : Fin 2048) (y : ℝ)
    (hY : (Y : S16x8x2048x2048.Idx → EReal) (ix4 b h t s) = ((-y : ℝ) : EReal)) (hO : (O : S16x8x2048x2048.Idx → EReal) (ix4 b h t s) = 0) :
    (logs Y O : S16x8x2048x2048.Idx → EReal) (ix4 b h t s) = ((lsr y : ℝ) : EReal) := by
  unfold logs
  pointwise
  generalize hY' : Y (ix4 b h t s) = Y' at *
  generalize hO' : O (ix4 b h t s) = O' at *
  subst hY hO
  show -(if ((-y : ℝ) : EReal) - 0 ≠ ((-y : ℝ) : EReal) - 0 then ((-y : ℝ) : EReal) + 0
    else max ((-y : ℝ) : EReal) 0 + Ideal.log1p (Ideal.exp (-max (((-y : ℝ) : EReal) - 0) (-(((-y : ℝ) : EReal) - 0))))) = _
  rw [if_neg (not_not.2 rfl), sub_zero, Ref.lsr_real]

/-- An array, zero where the column does not lie below the row. -/
def keep (Y O : FVec Ideal S16x8x2048x2048 .f32) (K : IVec S2048x2048 1) : FVec Ideal S16x8x2048x2048 .f32 :=
  select (broadcastInDim S16x8x2048x2048 ![2, 3] bcast_S2048x2048_S16x8x2048x2048_2_3 K) Y O

/-- Read at an index. -/
theorem keep_read (Y : FVec Ideal S16x8x2048x2048 .f32) (b : Fin 16) (h : Fin 8) (t s : Fin 2048) :
    (keep Y zeros mask : S16x8x2048x2048.Idx → EReal) (ix4 b h t s) = if s.val < t.val then Y (ix4 b h t s) else 0 := by
  have e : ∀ (O : FVec Ideal S16x8x2048x2048 .f32) (K : IVec S2048x2048 1), (keep Y O K : S16x8x2048x2048.Idx → EReal) (ix4 b h t s)
      = Scalar.select (K (ix2 t s)) (Y (ix4 b h t s)) (O (ix4 b h t s)) := fun O K => by
    unfold keep
    pointwise
  rw [e, mask_read, zeros_read]
  split_ifs <;> rfl

/-- One where a column lies below a row, as numbers. -/
def ones (K : IVec S2048x2048 1) : FVec Ideal S2048x2048 .f32 :=
  select K (broadcastInDim S2048x2048 ![] bcast_S_S2048x2048 (constant S_ .f32 0x3F800000#32)) (broadcastInDim S2048x2048 ![] bcast_S_S2048x2048 (constant S_ .f32 0x00000000#32))

/-- Read at an index. -/
theorem ones_read (t s : Fin 2048) : (ones mask : S2048x2048.Idx → EReal) (ix2 t s) = if s.val < t.val then 1 else 0 := by
  have e : ∀ (K : IVec S2048x2048 1), (ones K : S2048x2048.Idx → EReal) (ix2 t s)
      = Scalar.select (K (ix2 t s)) (Ideal.ofBits .f32 0x3F800000#32) (Ideal.ofBits .f32 0x00000000#32) := fun K => by
    unfold ones
    pointwise
  rw [e, mask_read, Ideal.ofBits_one_f32, Ideal.ofBits_zero_f32]
  split_ifs <;> rfl

/-- The weights, from the logarithms, the masked ones and the masks. -/
def weights (S T : FVec Ideal S16x8x2048x2048 .f32) (O : FVec Ideal S2048x2048 .f32) : FVec Ideal S16x8x2048x2048 .f32 :=
  Host.exp (addf S (Host.dotGeneral dot_S16x8x2048x2048_S2048x2048_S16x8x2048x2048_3_0_012_1_n_n none T O))

/-- Read at an index. -/
theorem weights_read (S T : FVec Ideal S16x8x2048x2048 .f32) (O : FVec Ideal S2048x2048 .f32) (b : Fin 16) (h : Fin 8) (t s : Fin 2048) :
    (weights S T O : S16x8x2048x2048.Idx → EReal) (ix4 b h t s)
      = Ideal.exp (S (ix4 b h t s) + ∑ j : Fin 2048, T (ix4 b h t j) * O (ix2 j s)) := by
  unfold weights
  pointwise

/-- The gated sums, from the weights and the projection. -/
def outs (W : FVec Ideal S16x8x2048x2048 .f32) (A : FVec Ideal S16x2048x6152 .f32) : FVec Ideal S16x2048x512 .f32 :=
  (mulf (shapeCast _ (transpose S16x2048x8x64 [0, 2, 1, 3] (Host.dotGeneral dot_S16x8x2048x2048_S16x8x2048x64_S16x8x2048x64_3_2_2_3_01_01 none W (transpose S16x8x2048x64 [0, 2, 1, 3] (shapeCast _ (extractStridedSlice S16x2048x512 ![0, 0, 1024] A slices_S16x2048x6152_S16x2048x512_0_0_1024) shapeCasts_S16x2048x512_S16x2048x8x64) transposes_S16x2048x8x64_S16x8x2048x64_0_2_1_3)) transposes_S16x8x2048x64_S16x2048x8x64_0_2_1_3) shapeCasts_S16x2048x8x64_S16x2048x512) (mulf (extractStridedSlice S16x2048x512 ![0, 0, 1536] A slices_S16x2048x6152_S16x2048x512_0_0_1536) (Host.divf (broadcastInDim S16x2048x512 ![] bcast_S_S16x2048x512 (constant S_ .f32 0x3F800000#32)) (addf (broadcastInDim S16x2048x512 ![] bcast_S_S16x2048x512 (constant S_ .f32 0x3F800000#32)) (Host.exp (Host.negf (extractStridedSlice S16x2048x512 ![0, 0, 1536] A slices_S16x2048x6152_S16x2048x512_0_0_1536)))))))

/-- Read at an index. -/
theorem outs_read (W : FVec Ideal S16x8x2048x2048 .f32) (A : FVec Ideal S16x2048x6152 .f32) (b : Fin 16) (t : Fin 2048) (n : Fin 512) :
    (outs W A : S16x2048x512.Idx → EReal) (ix3 b t n)
      = (∑ s : Fin 2048, W (ix4 b ⟨n.val / 64, by omega⟩ t s) * A (ix3 b s ⟨1024 + n.val, by omega⟩))
        * (A (ix3 b t ⟨1536 + n.val, by omega⟩) * Ideal.logistic (A (ix3 b t ⟨1536 + n.val, by omega⟩))) := by
  unfold outs Ideal.logistic
  pointwise

/-- The branch, from the projection. -/
def result (A : FVec Ideal S16x2048x6152 .f32) : FVec Ideal S16x2048x512 .f32 :=
  outs (keep (weights (logs (Host.negf (scores A)) zeros) (keep (logs (Host.negf (Host.negf (scores A))) zeros) zeros mask) (ones mask)) zeros mask) A

end Cert.StickRef

end
-- ==== Proof.StickEqual.lean ====
/-
  The stick-breaking kernel and the reference compute the same branch.
-/
module

public import proofs.«01_k».proof.Proof.StickReal
public import proofs.«01_k».proof.Proof.StickRef

@[expose] public section

set_option maxRecDepth 16384

noncomputable section

open Idealize.ShloMosaic Idealize.ShloMosaic.StableHlo Finset
open Cert.RealFox (sum_real lsr pr)
open Cert.Ref (V26 R0 RealParams v26_real word_eighth)
open Cert.ReferenceIdeal (τ sig)
open Cert.Stick (sp su sf sw zr cell IsR)
open scoped BigOperators

namespace Cert.StickEqual

/-- The logarithm of the logistic function is the number less its softplus. -/
theorem lsr_sub (y : ℝ) : lsr y = y - sp y := by
  have h1 : 0 < 1 + Real.exp (-y) := by have := Real.exp_pos (-y); linarith
  rw [lsr, sp]
  rcases le_total 0 y with h | h
  · rw [min_eq_right h, max_eq_left (by linarith)]
    have : Real.log (1 + Real.exp y) = y + Real.log (1 + Real.exp (-y)) := by
      rw [← Real.log_exp y, ← Real.log_mul (Real.exp_pos _).ne' (by rw [Real.log_exp]; exact h1.ne'), Real.log_exp, mul_add, mul_one, ← Real.exp_add, add_neg_cancel, Real.exp_zero, add_comm]
    rw [this]; ring
  · rw [min_eq_left h, max_eq_right (by linarith), neg_neg]

/-- The logarithm of the logistic function of the negative is the softplus, negated. -/
theorem lsr_neg (y : ℝ) : lsr (-y) = -sp y := by
  have h1 : 0 < 1 + Real.exp (-y) := by have := Real.exp_pos (-y); linarith
  rw [lsr_sub, sp, sp]
  have : Real.log (1 + Real.exp y) = y + Real.log (1 + Real.exp (-y)) := by
    rw [← Real.log_exp y, ← Real.log_mul (Real.exp_pos _).ne' (by rw [Real.log_exp]; exact h1.ne'), Real.log_exp, mul_add, mul_one, ← Real.exp_add, add_neg_cancel, Real.exp_zero, add_comm]
  rw [this]; ring

/-- Equal scores give equal weights. -/
theorem sw_congr {z z' : ℕ → ℕ → ℝ} {t : ℕ} (h : ∀ s, s < 2048 → z t s = z' t s) {s : ℕ} (hs : s < 2048) : sw z t s = sw z' t s := by
  have hf : sf z t s = sf z' t s := sum_congr rfl fun j hj => by rw [su, su, h j (mem_range.1 hj)]
  rw [sw, sw, h s hs, hf]

/-- The score of a query and a key of head `H` of sequence `b`, as an exponent of two. -/
def zq (P : ℕ → ℕ → ℕ → ℝ) (b H t s : ℕ) : ℝ :=
  (∑ d ∈ range 64, P b t (64 * H + d) * P b s (512 + (64 * H + d))) * (8⁻¹ * (Real.log 2)⁻¹)

/-- The gated sum at a place of the branch, from the projections. -/
def val (P : ℕ → ℕ → ℕ → ℝ) (b t n : ℕ) : ℝ :=
  (∑ s ∈ range 2048, sw (zq P b (n / 64)) t s * P b s (1024 + n)) * (P b t (1536 + n) * (1 + Real.exp (-P b t (1536 + n)))⁻¹)

/-- The logarithm of two is not zero. -/
theorem log_two_ne : Real.log 2 ≠ 0 := (Real.log_pos (by norm_num)).ne'

section kernel

variable {A : (⟨3, ![16, 2048, 6144]⟩ : Shape).Idx → EReal} {P : ℕ → ℕ → ℕ → ℝ} {b : ℕ}
  (hq : ∀ t n, t < 2048 → n < 512 → cell A b t n = ((P b t n * (8⁻¹ * (Real.log 2)⁻¹) : ℝ) : EReal))
  (hp : ∀ t n, t < 2048 → n < 1536 → cell A b t (512 + n) = ((P b t (512 + n) : ℝ) : EReal))
include hq hp

/-- The kernel's result. -/
theorem kernel_val {t n : ℕ} (ht : t < 2048) (hn : n < 512) : Stick.stickArr A b t n = ((val P b t n : ℝ) : EReal) := by
  have pl : ∀ {t n k : ℕ}, t < 2048 → k = 512 + n → n < 1536 → cell A b t k = ((P b t k : ℝ) : EReal) := fun ht hk hn => by
    subst hk
    exact hp _ _ ht hn
  have i0 : Stick.Finite (Stick.slab A b (n / 128)) := Stick.finite_slab fun t l ht hl => ⟨_, hq t _ ht (by omega)⟩
  have i1 : Stick.Finite (Stick.slab A b (4 + n / 128)) := Stick.finite_slab fun t l ht hl =>
    ⟨_, pl (n := 128 * (n / 128) + l) ht (by omega) (by omega)⟩
  have i2 : Stick.Finite (Stick.slab A b (8 + n / 128)) := Stick.finite_slab fun t l ht hl =>
    ⟨_, pl (n := 512 + 128 * (n / 128) + l) ht (by omega) (by omega)⟩
  have hz : ∀ h, h = n % 128 / 64 → ∀ s, s < 2048 → zr (Stick.slab A b (n / 128)) (Stick.slab A b (4 + n / 128)) h t s = zq P b (n / 64) t s := by
    intro h hh s hs
    rw [zr, zq, sum_mul]
    refine sum_congr rfl fun d hd => ?_
    have hd' := mem_range.1 hd
    rw [Stick.rd_slab A _ _ ht (by omega), Stick.rd_slab A _ _ hs (by omega), show 128 * (n / 128) + (64 * h + d) = 64 * (n / 64) + d by omega,
      show 128 * (4 + n / 128) + (64 * h + d) = 512 + (64 * (n / 64) + d) by omega, hq t _ ht (by omega), hp s _ hs (by omega), EReal.toReal_coe, EReal.toReal_coe]
    ring
  have ha : ∀ h, h < 2 → h = n % 128 / 64 → Stick.AC (Stick.slab A b (n / 128)) (Stick.slab A b (4 + n / 128)) (Stick.slab A b (8 + n / 128)) h 0 t (n % 128)
      = ((∑ s ∈ range 2048, sw (zq P b (n / 64)) t s * P b s (1024 + n) : ℝ) : EReal) := by
    intro h h2 hh
    rw [Stick.AC_val h2 ht]
    refine congrArg _ (sum_congr rfl fun s hs => ?_)
    have hs' := mem_range.1 hs
    rw [sw_congr (hz h hh) hs', Stick.rd_slab A _ _ hs' (by omega), show 128 * (8 + n / 128) + n % 128 = 1024 + n by omega,
      pl (n := 512 + n) hs' (by omega) (by omega), EReal.toReal_coe]
  rw [Stick.stickArr, Stick.GX, val, Stick.rd_slab A _ _ ht (by omega), show 128 * (12 + n / 128) + n % 128 = 1536 + n by omega,
    pl (n := 1024 + n) ht (by omega) (by omega), Ideal.logistic_coe, EReal.coe_mul, ← EReal.coe_mul (P b t (1536 + n))]
  refine congrArg (fun e : EReal => e * _) ?_
  split
  · exact ha 0 (by omega) (by omega)
  · exact ha 1 (by omega) (by omega)

end kernel

variable {A : Cert.ReferenceIdeal.S16x2048x6152.Idx → EReal} {P : ℕ → ℕ → ℕ → ℝ}
  (hA : ∀ (b : Fin 16) (t : Fin 2048) (n : Fin 6152), A (ix3 b t n) = ((P b.val t.val n.val : ℝ) : EReal))
include hA

/-- The reference's scores. -/
theorem scores_val (b : Fin 16) (h : Fin 8) (t s : Fin 2048) :
    (StickRef.scores A : ReferenceIdeal.S16x8x2048x2048.Idx → EReal) (ix4 b h t s) = ((zq P b.val h.val t.val s.val * Real.log 2 : ℝ) : EReal) := by
  have e : zq P b.val h.val t.val s.val * Real.log 2
      = (∑ d ∈ range 64, P b.val t.val (h.val * 64 + d) * P b.val s.val (512 + (h.val * 64 + d))) * 8⁻¹ := by
    rw [zq, mul_assoc, mul_assoc, inv_mul_cancel₀ log_two_ne, mul_one, Nat.mul_comm 64]
  rw [StickRef.scores_read, word_eighth, e, EReal.coe_mul, ← sum_real,
    ← Fin.sum_univ_eq_sum_range (fun d => ((P b.val t.val (h.val * 64 + d) * P b.val s.val (512 + (h.val * 64 + d)) : ℝ) : EReal)) 64]
  refine congrArg (fun e : EReal => e * _) (sum_congr rfl fun d _ => ?_)
  rw [EReal.coe_mul, hA, hA]

/-- The reference's weights. -/
theorem weights_val (b : Fin 16) (h : Fin 8) (t s : Fin 2048) :
    (StickRef.keep (StickRef.weights (StickRef.logs (Host.negf (StickRef.scores A)) StickRef.zeros)
      (StickRef.keep (StickRef.logs (Host.negf (Host.negf (StickRef.scores A))) StickRef.zeros) StickRef.zeros StickRef.mask)
      (StickRef.ones StickRef.mask)) StickRef.zeros StickRef.mask : ReferenceIdeal.S16x8x2048x2048.Idx → EReal) (ix4 b h t s)
      = ((sw (zq P b.val h.val) t.val s.val : ℝ) : EReal) := by
  have e1 : (StickRef.logs (Host.negf (StickRef.scores A)) StickRef.zeros : ReferenceIdeal.S16x8x2048x2048.Idx → EReal) (ix4 b h t s)
      = ((lsr (zq P b.val h.val t.val s.val * Real.log 2) : ℝ) : EReal) :=
    StickRef.logs_real _ _ b h t s _ (by
      show -((StickRef.scores A : ReferenceIdeal.S16x8x2048x2048.Idx → EReal) (ix4 b h t s)) = _
      rw [scores_val hA, EReal.coe_neg]) (StickRef.zeros_read b h t s)
  have e2 : ∀ j : Fin 2048, (StickRef.logs (Host.negf (Host.negf (StickRef.scores A))) StickRef.zeros : ReferenceIdeal.S16x8x2048x2048.Idx → EReal) (ix4 b h t j)
      = ((lsr (-(zq P b.val h.val t.val j.val * Real.log 2)) : ℝ) : EReal) := fun j =>
    StickRef.logs_real _ _ b h t j _ (by
      show -(-((StickRef.scores A : ReferenceIdeal.S16x8x2048x2048.Idx → EReal) (ix4 b h t j))) = _
      rw [scores_val hA, neg_neg, neg_neg]) (StickRef.zeros_read b h t j)
  rw [StickRef.keep_read, StickRef.weights_read, e1, sw]
  split
  · have e3 : ∀ j : Fin 2048, (StickRef.keep (StickRef.logs (Host.negf (Host.negf (StickRef.scores A))) StickRef.zeros) StickRef.zeros StickRef.mask : ReferenceIdeal.S16x8x2048x2048.Idx → EReal) (ix4 b h t j)
        * (StickRef.ones StickRef.mask : ReferenceIdeal.S2048x2048.Idx → EReal) (ix2 j s)
        = ((if s.val < j.val then -su (zq P b.val h.val) t.val j.val else 0 : ℝ) : EReal) := fun j => by
      rw [StickRef.keep_read, StickRef.ones_read, e2, lsr_neg, su]
      split_ifs
      · rw [mul_one]
      · rw [mul_zero, EReal.coe_zero]
      · rw [mul_one, neg_zero, EReal.coe_zero]
      · rw [mul_zero, EReal.coe_zero]
    rw [sum_congr rfl fun j _ => e3 j, sum_real, Fin.sum_univ_eq_sum_range (fun j => if s.val < j then -su (zq P b.val h.val) t.val j else 0) 2048,
      ← EReal.coe_add, Ideal.exp_coe, lsr_sub, sf]
    refine congrArg _ (congrArg _ ?_)
    rw [sub_eq_add_neg (_ - _), ← sum_neg_distrib]
    refine congrArg _ (sum_congr rfl fun j _ => ?_)
    split_ifs
    · rfl
    · rw [neg_zero]
  · rw [EReal.coe_zero]

/-- The reference's branch over real projections. -/
theorem branch_val (b : Fin 16) (t : Fin 2048) (n : Fin 512) :
    (StickRef.result A : ReferenceIdeal.S16x2048x512.Idx → EReal) (ix3 b t n) = ((val P b.val t.val n.val : ℝ) : EReal) := by
  rw [StickRef.result, StickRef.outs_read, val, hA, Ideal.logistic_coe, EReal.coe_mul, ← EReal.coe_mul (P b.val t.val (1536 + n.val)), ← sum_real,
    ← Fin.sum_univ_eq_sum_range (fun s => ((sw (zq P b.val (n.val / 64)) t.val s * P b.val s (1024 + n.val) : ℝ) : EReal)) 2048]
  refine congrArg (fun e : EReal => e * _) (sum_congr rfl fun s _ => ?_)
  rw [weights_val hA, EReal.coe_mul, hA]

omit hA in
/-- The reference's stick-breaking branch, as an array. -/
def VS (V0 : Valuation τ sig (Elt Ideal)) : Cert.ReferenceIdeal.S16x2048x512.Idx → EReal := StickRef.result (V26 V0)

omit hA in
/-- It is the branch over the real projections. -/
theorem reference_val {V0 : Valuation τ sig (Elt Ideal)} {M : ℕ → ℕ → ℝ} {g : ℕ → ℝ} {W : ℕ → ℕ → ℝ} {B : ℕ → ℝ} (H : RealParams V0 M g W B)
    (b : Fin 16) (t : Fin 2048) (n : Fin 512) : VS V0 (ix3 b t n) = ((val (pr (Proj.vox (R0 V0)) M g W) b.val t.val n.val : ℝ) : EReal) :=
  branch_val (fun b t n => v26_real H b t n) b t n

end Cert.StickEqual

end
-- ==== Proof.HostMerge.lean ====
/-
  What the kernel's program holds around its last call, and its result over real parameters.
-/
module

public import proofs.«01_k».proof.Proof.KernelReal
public import proofs.«01_k».proof.Proof.Merge
public import proofs.«01_k».proof.Proof.StickEqual

@[expose] public section

set_option maxRecDepth 16384

noncomputable section

open Idealize.ShloMosaic Cert.KernelIdeal Cert.KernelIdeal.Gen Cert.RealFox Finset
open scoped BigOperators

namespace Cert.Host

variable (m : (ℓ : Loc nD τ sig) → Buf (Elt Ideal) ℓ) (ρ : Dev nD → PrngReg) (c : Dev nD)

/-- The first branch's weights. -/
def A5 : S1x512x1024.Idx → EReal := m ((c.tc : Thread nD τ).loc main_arg5)
/-- The second branch's weights. -/
def A6 : S1x512x1024.Idx → EReal := m ((c.tc : Thread nD τ).loc main_arg6)
/-- The gates' offsets. -/
def A7 : S1x2048.Idx → EReal := m ((c.tc : Thread nD τ).loc main_arg7)
/-- The output weights. -/
def A8 : S1x1024x1024.Idx → EReal := m ((c.tc : Thread nD τ).loc main_arg8)
/-- The last gains. -/
def A9 : S1024.Idx → EReal := m ((c.tc : Thread nD τ).loc main_arg9)

/-- The first branch's rows. -/
theorem v23_read {b t k : ℕ} (hb : b < 16) (ht : t < 2048) (hk : k < 512) :
    Proj.mat (V7 m ρ c main_v23) (2048 * b + t) k
      = (W6 m ρ c (Proc.devRef .tc main_v22) : S16x2048x512.Idx → EReal) (ix3 ⟨b, hb⟩ ⟨t, ht⟩ ⟨k, hk⟩) := by
  rw [Proj.mat, dif_pos ⟨by omega, hk⟩]
  refine Eq.trans (b := (W6 m ρ c (Proc.devRef .tc main_v22) : S16x2048x512.Idx → EReal) (ix3 ⟨(2048 * b + t) / 2048, by omega⟩ ⟨(2048 * b + t) % 2048, by omega⟩ ⟨k, hk⟩)) ?_
    (congrArg (W6 m ρ c (Proc.devRef .tc main_v22) : S16x2048x512.Idx → EReal)
      (congrArg₂ (fun (p : Fin 16) (q : Fin 2048) => (ix3 p q ⟨k, hk⟩ : S16x2048x512.Idx)) (Fin.ext (show (2048 * b + t) / 2048 = b by omega)) (Fin.ext (show (2048 * b + t) % 2048 = t by omega))))
  show (W7 m ρ c (Proc.devRef .tc main_v23) : S32768x512.Idx → EReal) (ix2 ⟨2048 * b + t, by omega⟩ ⟨k, hk⟩) = (W6 m ρ c (Proc.devRef .tc main_v22) : S16x2048x512.Idx → EReal) _
  unfold W7; after_reads_at

/-- The second branch's rows. -/
theorem v24_read {b t k : ℕ} (hb : b < 16) (ht : t < 2048) (hk : k < 512) :
    Proj.mat (V7 m ρ c main_v24) (2048 * b + t) k
      = (W6 m ρ c (Proc.devRef .tc main_v21) : S16x2048x512.Idx → EReal) (ix3 ⟨b, hb⟩ ⟨t, ht⟩ ⟨k, hk⟩) := by
  rw [Proj.mat, dif_pos ⟨by omega, hk⟩]
  refine Eq.trans (b := (W6 m ρ c (Proc.devRef .tc main_v21) : S16x2048x512.Idx → EReal) (ix3 ⟨(2048 * b + t) / 2048, by omega⟩ ⟨(2048 * b + t) % 2048, by omega⟩ ⟨k, hk⟩)) ?_
    (congrArg (W6 m ρ c (Proc.devRef .tc main_v21) : S16x2048x512.Idx → EReal)
      (congrArg₂ (fun (p : Fin 16) (q : Fin 2048) => (ix3 p q ⟨k, hk⟩ : S16x2048x512.Idx)) (Fin.ext (show (2048 * b + t) / 2048 = b by omega)) (Fin.ext (show (2048 * b + t) % 2048 = t by omega))))
  show (W7 m ρ c (Proc.devRef .tc main_v24) : S32768x512.Idx → EReal) (ix2 ⟨2048 * b + t, by omega⟩ ⟨k, hk⟩) = (W6 m ρ c (Proc.devRef .tc main_v21) : S16x2048x512.Idx → EReal) _
  unfold W7; after_reads_at

/-- The gates' offsets. -/
theorem v26_read {k : ℕ} (hk : k < 2048) : Proj.mat (V7 m ρ c main_v26) 0 k = Proj.mat (A7 m c) 0 k := by
  rw [Proj.mat, dif_pos ⟨by omega, hk⟩]
  refine Eq.trans ?_ ((congrFun (W6_args m ρ c main_arg7 (by decide)) _).trans (Proj.mat_at (A7 m c) (ix2 0 ⟨k, hk⟩) rfl rfl))
  show (W7 m ρ c (Proc.devRef .tc main_v26) : S1x2048.Idx → EReal) (ix2 0 ⟨k, hk⟩) = W6 m ρ c (Proc.devRef .tc main_arg7) _
  unfold W7; after_reads_at

/-- The first branch's weights. -/
theorem v28_read {k n : ℕ} (hk : k < 512) (hn : n < 1024) : Proj.mat (V7 m ρ c main_v28) k n = Proj.vox (A5 m c) 0 k n := by
  rw [Proj.mat, dif_pos ⟨hk, hn⟩]
  refine Eq.trans ?_ ((congrFun (W6_args m ρ c main_arg5 (by decide)) _).trans (Proj.vox_at (A5 m c) (ix3 0 ⟨k, hk⟩ ⟨n, hn⟩) rfl rfl rfl))
  show (W7 m ρ c (Proc.devRef .tc main_v28) : S512x1024.Idx → EReal) (ix2 ⟨k, hk⟩ ⟨n, hn⟩) = W6 m ρ c (Proc.devRef .tc main_arg5) _
  unfold W7; after_reads_at

/-- The second branch's weights. -/
theorem v30_read {k n : ℕ} (hk : k < 512) (hn : n < 1024) : Proj.mat (V7 m ρ c main_v30) k n = Proj.vox (A6 m c) 0 k n := by
  rw [Proj.mat, dif_pos ⟨hk, hn⟩]
  refine Eq.trans ?_ ((congrFun (W6_args m ρ c main_arg6 (by decide)) _).trans (Proj.vox_at (A6 m c) (ix3 0 ⟨k, hk⟩ ⟨n, hn⟩) rfl rfl rfl))
  show (W7 m ρ c (Proc.devRef .tc main_v30) : S512x1024.Idx → EReal) (ix2 ⟨k, hk⟩ ⟨n, hn⟩) = W6 m ρ c (Proc.devRef .tc main_arg6) _
  unfold W7; after_reads_at

/-- The output weights. -/
theorem v32_read {k n : ℕ} (hk : k < 1024) (hn : n < 1024) : Proj.mat (V7 m ρ c main_v32) k n = Proj.vox (A8 m c) 0 k n := by
  rw [Proj.mat, dif_pos ⟨hk, hn⟩]
  refine Eq.trans ?_ ((congrFun (W6_args m ρ c main_arg8 (by decide)) _).trans (Proj.vox_at (A8 m c) (ix3 0 ⟨k, hk⟩ ⟨n, hn⟩) rfl rfl rfl))
  show (W7 m ρ c (Proc.devRef .tc main_v32) : S1024x1024.Idx → EReal) (ix2 ⟨k, hk⟩ ⟨n, hn⟩) = W6 m ρ c (Proc.devRef .tc main_arg8) _
  unfold W7; after_reads_at

/-- The last gains. -/
theorem v33_read {k : ℕ} (hk : k < 1024) : Proj.mat (V7 m ρ c main_v33) 0 k = Merge.vec (A9 m c) k := by
  rw [Proj.mat, dif_pos ⟨by omega, hk⟩, Merge.vec, dif_pos hk]
  refine Eq.trans ?_ (congrFun (W6_args m ρ c main_arg9 (by decide)) _)
  show (W7 m ρ c (Proc.devRef .tc main_v33) : S1x1024.Idx → EReal) (ix2 0 ⟨k, hk⟩) = W6 m ρ c (Proc.devRef .tc main_arg9) _
  unfold W7; after_reads_at
  refine congrArg (W6 m ρ c (Proc.devRef .tc main_arg9)) (funext fun d => ?_)
  match d with
  | 0 => rfl

/-- The input's rows are kept. -/
theorem v13_keep : V7 m ρ c main_v13 = V1 m ρ c main_v13 :=
  (W7_of m ρ c main_v13 (by decide)).trans ((W6_of m ρ c main_v13 (by decide)).trans ((W5_of m ρ c main_v13 (by decide)).trans ((W4_of m ρ c main_v13 (by decide)).trans
    ((W3_of m ρ c main_v13 (by decide)).trans (W2_of m ρ c main_v13 (by decide))))))

/-- The modulation's rows are kept. -/
theorem v14_keep : V7 m ρ c main_v14 = V1 m ρ c main_v14 :=
  (W7_of m ρ c main_v14 (by decide)).trans ((W6_of m ρ c main_v14 (by decide)).trans ((W5_of m ρ c main_v14 (by decide)).trans ((W4_of m ρ c main_v14 (by decide)).trans
    ((W3_of m ρ c main_v14 (by decide)).trans (W2_of m ρ c main_v14 (by decide))))))

/-- The projections. -/
theorem v17_keep : V7 m ρ c main_v17_0 = fun y : S32768x6144.Idx =>
    Proj.proj (hidn m ρ c) (Proj.mat (V1 m ρ c main_v2)) (Proj.mat (V1 m ρ c main_v4)) (y 0).val (y 1).val :=
  (W7_of m ρ c main_v17_0 (by decide)).trans ((W6_of m ρ c main_v17_0 (by decide)).trans ((W5_of m ρ c main_v17_0 (by decide)).trans ((W4_of m ρ c main_v17_0 (by decide)).trans
    ((W3_of m ρ c main_v17_0 (by decide)).trans ((W2_arr m ρ c 6).trans (Proj.proj_arr (V1 m ρ) c))))))

/-- The projections are kept until the stick-breaking call. -/
theorem v18_kept : V5 m ρ c main_v18 = V3 m ρ c main_v18 := (W5_of m ρ c main_v18 (by decide)).trans (v18_keep m ρ c)

variable {M : ℕ → ℕ → ℝ} {g : ℕ → ℝ} {W : ℕ → ℕ → ℝ} {B : ℕ → ℝ} {m c} (H : RealParams m c M g W B)
include H

/-- The gates' arguments. -/
theorem gate_real {b t k : ℕ} (hb : b < 16) (ht : t < 2048) (hk : k < 2048) :
    Proj.mat (V7 m ρ c main_v17_0) (2048 * b + t) (4096 + k) = ((pr (Proj.vox (A0 m c)) M g W b t (4104 + k) : ℝ) : EReal) := by
  rw [v17_keep, Proj.mat, dif_pos ⟨by omega, by omega⟩]
  show Proj.proj _ _ _ (2048 * b + t) (4096 + k) = _
  rw [Proj.proj, if_neg (by omega), show 4096 + k - 4096 = k by omega]
  exact dotRow_real (a := fun j => hr (Proj.vox (A0 m c)) M g b t j) (w := fun j => W j (4104 + k)) (fun _ hj => hidn_real ρ H hb ht hj)
    fun j hj => (v4_read m ρ c hj hk).trans (H.weight j _ hj (by omega))

/-- The stick-breaking queries' columns hold the scaled projections. -/
theorem stick_query {b t n : ℕ} (hb : b < 16) (ht : t < 2048) (hn : n < 512) :
    Stick.cell (V5 m ρ c main_v18) b t n = ((pr (Proj.vox (A0 m c)) M g W b t n * (8⁻¹ * (Real.log 2)⁻¹) : ℝ) : EReal) := by
  have e := v18_read m ρ c hb ht (n := n) (by omega)
  rw [Proj.proj, if_pos (by omega), if_pos (by omega), dot_real ρ H hb ht (by omega), Proj.qk, ← EReal.coe_mul] at e
  rw [v18_kept]
  exact e

/-- Its other columns hold the projections. -/
theorem stick_plain {b t n : ℕ} (hb : b < 16) (ht : t < 2048) (hn : n < 1536) :
    Stick.cell (V5 m ρ c main_v18) b t (512 + n) = ((pr (Proj.vox (A0 m c)) M g W b t (512 + n) : ℝ) : EReal) := by
  have e := v18_read m ρ c hb ht (n := 512 + n) (by omega)
  rw [Proj.proj, if_pos (by omega), if_neg (by omega), dot_real ρ H hb ht (by omega)] at e
  rw [v18_kept]
  exact e

/-- The stick-breaking call's result. -/
theorem stick_real (y : S16x2048x512.Idx) : (W6 m ρ c (Proc.devRef .tc main_v22) : S16x2048x512.Idx → EReal) y
    = ((StickEqual.val (pr (Proj.vox (A0 m c)) M g W) (y 0).val (y 1).val (y 2).val : ℝ) : EReal) := by
  have hA : ∀ b t n, b < 16 → t < 2048 → n < 1024 → Stick.IsR (Stick.cell (V5 m ρ c main_v18) b t n) := fun b t n hb ht hn => by
    rcases lt_or_ge n 512 with h | h
    · exact ⟨_, stick_query ρ H hb ht h⟩
    · obtain ⟨d, rfl⟩ := Nat.exists_eq_add_of_le h
      exact ⟨_, stick_plain ρ H hb ht (by omega)⟩
  refine ((congrFun (W6_arr m ρ c 4) y).trans (congrFun (Stick.stick_arr (V5 m ρ) c _ rfl hA) y)).trans ?_
  exact StickEqual.kernel_val (fun t n ht hn => stick_query ρ H (y 0).isLt ht hn) (fun t n ht hn => stick_plain ρ H (y 0).isLt ht hn) (y 1).isLt (y 2).isLt

/-- The kernel's result. -/
theorem layer_real (b : Fin 16) (t : Fin 2048) (n : Fin 1024) :
    (W9 m ρ c (Proc.devRef .tc main_v35) : S16x2048x1024.Idx → EReal) (ix3 b t n)
      = Merge.layer (Proj.vox (A0 m c)) (Proj.mat (A1 m c)) (fun b t j => ((StickEqual.val (pr (Proj.vox (A0 m c)) M g W) b t j : ℝ) : EReal))
        (fun b t j => ((out (Proj.vox (A0 m c)) M g W B b t j : ℝ) : EReal)) (fun b t k => ((pr (Proj.vox (A0 m c)) M g W b t (4104 + k) : ℝ) : EReal))
        (Proj.vox (A5 m c) 0) (Proj.vox (A6 m c) 0) (Proj.mat (A7 m c) 0) (Proj.vox (A8 m c) 0) (Merge.vec (A9 m c)) b.val t.val n.val := by
  have hb := b.isLt
  have ht := t.isLt
  refine Eq.trans (b := (W8 m ρ c (Proc.devRef .tc main_v34) : S32768x1024.Idx → EReal) (ix2 ⟨b.val * 2048 + t.val, by omega⟩ n)) ?_ ?_
  · unfold W9; after_reads_at
  refine ((congrFun (W8_arr m ρ c 10) (ix2 ⟨b.val * 2048 + t.val, by omega⟩ n)).trans
    (congrFun (Merge.merge_arr (V7 m ρ) c) (ix2 ⟨b.val * 2048 + t.val, by omega⟩ n))).trans ?_
  show Merge.normed _ _ (b.val * 2048 + t.val) n.val = Merge.normed _ _ t.val n.val
  rw [Nat.mul_comm b.val, v13_keep, v14_keep]
  refine Merge.row_congr (fun l hl => v13_read m ρ c hb ht hl) (fun l hl => ?_) (fun j hj => (v23_read m ρ c hb ht hj).trans (stick_real ρ H _))
    (fun j hj => (v24_read m ρ c hb ht hj).trans ((congrFun (W6_of m ρ c main_v21 (by decide)) _).trans (kernel_real ρ H _))) (fun k hk => gate_real ρ H hb ht hk) (fun j k hj hk => v28_read m ρ c hj hk)
    (fun j k hj hk => v30_read m ρ c hj hk) (fun j k hj hk => v32_read m ρ c hj hk) (fun k hk => v26_read m ρ c hk) (fun k hk => v33_read m ρ c hk) n.isLt
  show Proj.vox _ ((2048 * b.val + t.val) / 2048) 2 l = _
  rw [show (2048 * b.val + t.val) / 2048 = b.val by omega, v14_read m ρ c hb (by omega) hl]

end Cert.Host

end
-- ==== Proof.RefMerge.lean ====
/-
  The reference's end: the branches mixed by their gates, the output projection and the last normalisation.
-/
module

public import proofs.«01_k».proof.Proof.RefOut
public import proofs.«01_k».proof.Proof.Merge
public import proofs.«01_k».proof.Proof.StickEqual

@[expose] public section

set_option maxRecDepth 16384

noncomputable section

open Idealize.ShloMosaic Idealize.ShloMosaic.StableHlo Cert.ReferenceIdeal Cert.ReferenceIdeal.Gen Cert.ReferenceIdeal.Value Cert.RealFox Finset
open scoped BigOperators

namespace Cert.Ref

variable (V0 : Valuation τ sig (Elt Ideal))

/-- The first branch's weights. -/
def R5 : S1x512x1024.Idx → EReal := V0 (Proc.devRef .tc main_arg5)
/-- The second branch's weights. -/
def R6 : S1x512x1024.Idx → EReal := V0 (Proc.devRef .tc main_arg6)
/-- The gates' offsets. -/
def R7 : S1x2048.Idx → EReal := V0 (Proc.devRef .tc main_arg7)
/-- The output weights. -/
def R8 : S1x1024x1024.Idx → EReal := V0 (Proc.devRef .tc main_arg8)
/-- The last gains. -/
def R9 : S1024.Idx → EReal := V0 (Proc.devRef .tc main_arg9)

/-- The branches' gates, as an array. -/
def V127 : S16x2048x2x1024.Idx → EReal := res_main_v127 V0
/-- The layer before its last normalisation, as an array. -/
def V140 : S16x2048x1024.Idx → EReal := res_main_v140 V0
/-- The branches' gates from the projections and the offsets. -/
def gated (P : FVec Ideal S16x2048x6152 .f32) (BG : FVec Ideal S1x2048 .f32) : FVec Ideal S16x2048x2x1024 .f32 :=
  shapeCast _ (Host.divf (broadcastInDim S16x2048x2048 ![] bcast_S_S16x2048x2048 (constant S_ .f32 0x3F800000#32)) (addf (broadcastInDim S16x2048x2048 ![] bcast_S_S16x2048x2048 (constant S_ .f32 0x3F800000#32)) (Host.exp (Host.negf (addf (extractStridedSlice S16x2048x2048 ![0, 0, 4104] P slices_S16x2048x6152_S16x2048x2048_0_0_4104) (broadcastInDim S16x2048x2048 ![0, 1, 2] bcast_S1x1x2048_S16x2048x2048_0_1_2 (broadcastInDim S1x1x2048 ![2] bcast_S2048_S1x1x2048_2 (shapeCast _ BG shapeCasts_S1x2048_S2048)))))))) shapeCasts_S16x2048x2048_S16x2048x2x1024

/-- The first branch's gates read at an index. -/
theorem gate0_read (P : FVec Ideal S16x2048x6152 .f32) (BG : FVec Ideal S1x2048 .f32) (b : Fin 16) (t : Fin 2048) (k : Fin 1024) :
    (gated P BG : S16x2048x2x1024.Idx → EReal) (ix4 b t 0 k)
    = Ideal.logistic (P (ix3 b t ⟨4104 + k.val, by omega⟩) + BG (ix2 0 ⟨k.val, by omega⟩)) := by
  unfold gated Ideal.logistic
  pointwise

/-- The second branch's gates read at an index. -/
theorem gate1_read (P : FVec Ideal S16x2048x6152 .f32) (BG : FVec Ideal S1x2048 .f32) (b : Fin 16) (t : Fin 2048) (k : Fin 1024) :
    (gated P BG : S16x2048x2x1024.Idx → EReal) (ix4 b t 1 k)
    = Ideal.logistic (P (ix3 b t ⟨4104 + (1024 + k.val), by omega⟩) + BG (ix2 0 ⟨1024 + k.val, by omega⟩)) := by
  unfold gated Ideal.logistic
  pointwise

/-- The mixed branches from the gates, the branches and their weights. -/
def mix (G : FVec Ideal S16x2048x2x1024 .f32) (YA : FVec Ideal S16x2048x512 .f32) (YB : FVec Ideal S16x2048x512 .f32) (WA WB : FVec Ideal S1x512x1024 .f32) : FVec Ideal S16x2048x1024 .f32 :=
  (addf (mulf (shapeCast _ (extractStridedSlice S16x2048x1x1024 ![0, 0, 0, 0] G slices_S16x2048x2x1024_S16x2048x1x1024_0_0_0_0) shapeCasts_S16x2048x1x1024_S16x2048x1024) (Host.dotGeneral dot_S16x2048x512_S512x1024_S16x2048x1024_2_0_01_1_n_n none YA (shapeCast _ WA shapeCasts_S1x512x1024_S512x1024))) (mulf (shapeCast _ (extractStridedSlice S16x2048x1x1024 ![0, 0, 1, 0] G slices_S16x2048x2x1024_S16x2048x1x1024_0_0_1_0) shapeCasts_S16x2048x1x1024_S16x2048x1024) (Host.dotGeneral dot_S16x2048x512_S512x1024_S16x2048x1024_2_0_01_1_n_n none YB (shapeCast _ WB shapeCasts_S1x512x1024_S512x1024))))

/-- The mixed branches read at an index. -/
theorem mixed_read (G : FVec Ideal S16x2048x2x1024 .f32) (YA : FVec Ideal S16x2048x512 .f32) (YB : FVec Ideal S16x2048x512 .f32)
    (WA WB : FVec Ideal S1x512x1024 .f32) (b : Fin 16) (t : Fin 2048) (k : Fin 1024) :
    (mix G YA YB WA WB : S16x2048x1024.Idx → EReal) (ix3 b t k)
    = G (ix4 b t 0 k) * (∑ j : Fin 512, YA (ix3 b t j) * WA (ix3 0 j k)) + G (ix4 b t 1 k) * ∑ j : Fin 512, YB (ix3 b t j) * WB (ix3 0 j k) := by
  unfold mix
  pointwise

/-- The layer before its last normalisation from its input, the modulation, the mixed branches and the output weights. -/
def move (X : FVec Ideal S16x2048x1024 .f32) (N : FVec Ideal S16x3072 .f32) (MX : FVec Ideal S16x2048x1024 .f32) (WO : FVec Ideal S1x1024x1024 .f32) : FVec Ideal S16x2048x1024 .f32 :=
  addf X (mulf (broadcastInDim S16x2048x1024 ![0, 1, 2] bcast_S16x1x1024_S16x2048x1024_0_1_2 (broadcastInDim S16x1x1024 ![0, 2] bcast_S16x1024_S16x1x1024_0_2 (extractStridedSlice S16x1024 ![0, 2048] N slices_S16x3072_S16x1024_0_2048))) (Host.dotGeneral dot_S16x2048x1024_S1024x1024_S16x2048x1024_2_0_01_1_n_n none MX (shapeCast _ WO shapeCasts_S1x1024x1024_S1024x1024)))

/-- The layer before its last normalisation read at an index. -/
theorem moved_read (X : FVec Ideal S16x2048x1024 .f32) (N : FVec Ideal S16x3072 .f32) (MX : FVec Ideal S16x2048x1024 .f32)
    (WO : FVec Ideal S1x1024x1024 .f32) (b : Fin 16) (t : Fin 2048) (n : Fin 1024) :
    (move X N MX WO : S16x2048x1024.Idx → EReal) (ix3 b t n)
    = X (ix3 b t n) + N (ix2 b ⟨2048 + n.val, by omega⟩) * ∑ k : Fin 1024, MX (ix3 b t k) * WO (ix3 0 k n) := by
  unfold move
  pointwise

/-- The last normalisation. -/
def last (X : FVec Ideal S16x2048x1024 .f32) (F : FVec Ideal S1024 .f32) : FVec Ideal S16x2048x1024 .f32 :=
  mulf (mulf X (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf X X) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 F))

/-- The last normalisation read at an index. -/
theorem last_read (X : FVec Ideal S16x2048x1024 .f32) (F : FVec Ideal S1024 .f32) (b : Fin 16) (t : Fin 2048) (n : Fin 1024) :
    (last X F : S16x2048x1024.Idx → EReal) (ix3 b t n)
    = X (ix3 b t n) * Ideal.rsqrt (Ideal.div (∑ l : Fin 1024, X (ix3 b t l) * X (ix3 b t l)) (Ideal.ofBits .f32 0x44800000#32) + Ideal.ofBits .f32 0x358637BD#32) * F (ix1 n) := by
  unfold last
  pointwise

/-- The mixed branches, as an array. -/
def VX : S16x2048x1024.Idx → EReal := mix (V127 V0) (StickEqual.VS V0) (VY V0) (R5 V0) (R6 V0)

/-- They are the program's. -/
theorem v134_eq : VX V0 = res_main_v134 V0 := by
  unfold res_main_v134
  rfl

/-- The reference's gates. -/
theorem v127_eq : V127 V0 = gated (V26 V0) (R7 V0) := rfl

/-- The reference's layer before its last normalisation. -/
theorem v140_eq : V140 V0 = move (R0 V0) (R1 V0) (VX V0) (R8 V0) := by
  rw [v134_eq]
  rfl

/-- The reference's last normalisation. -/
theorem v153_eq : (val3 V0 (Proc.devRef .tc main_v153) : S16x2048x1024.Idx → EReal) = last (V140 V0) (R9 V0) := val3_main_v153 V0

variable {V0} {M : ℕ → ℕ → ℝ} {g : ℕ → ℝ} {W : ℕ → ℕ → ℝ} {B : ℕ → ℝ} (H : RealParams V0 M g W B)
include H

/-- The mixed branches over real parameters. -/
theorem mixed_real (b : Fin 16) (t : Fin 2048) (k : Fin 1024) : VX V0 (ix3 b t k)
    = Merge.mixed (fun t j => ((StickEqual.val (pr (Proj.vox (R0 V0)) M g W) b.val t j : ℝ) : EReal)) (fun t j => ((out (Proj.vox (R0 V0)) M g W B b.val t j : ℝ) : EReal))
      (fun t k => ((pr (Proj.vox (R0 V0)) M g W b.val t (4104 + k) : ℝ) : EReal)) (Proj.vox (R5 V0) 0) (Proj.vox (R6 V0) 0) (Proj.mat (R7 V0) 0) t.val k.val := by
  have e0 := gate0_read (V26 V0) (R7 V0) b t k
  have e1 := gate1_read (V26 V0) (R7 V0) b t k
  rw [v26_real H] at e0 e1
  rw [← v127_eq] at e0 e1
  refine (mixed_read (V127 V0) (StickEqual.VS V0) (VY V0) (R5 V0) (R6 V0) b t k).trans ?_
  refine congrArg₂ (fun x y : EReal => x + y) (congrArg₂ (fun x y : EReal => x * y) (e0.trans ?_) (sum_congr rfl fun j _ => ?_))
    (congrArg₂ (fun x y : EReal => x * y) (e1.trans ?_) (sum_congr rfl fun j _ => ?_))
  · exact congrArg (fun x => Ideal.logistic (_ + x)) (Proj.mat_at (R7 V0) (ix2 0 ⟨k.val, by omega⟩) rfl rfl)
  · exact congrArg₂ (fun x y : EReal => x * y) (StickEqual.reference_val H b t j) (Proj.vox_at (R5 V0) (ix3 0 j k) rfl rfl rfl)
  · exact congrArg (fun x => Ideal.logistic (_ + x)) (Proj.mat_at (R7 V0) (ix2 0 ⟨1024 + k.val, by omega⟩) rfl rfl)
  · exact congrArg₂ (fun x y : EReal => x * y) (vy_real H b t j) (Proj.vox_at (R6 V0) (ix3 0 j k) rfl rfl rfl)

/-- The layer before its last normalisation over real parameters. -/
theorem moved_real (b : Fin 16) (t : Fin 2048) (n : Fin 1024) : V140 V0 (ix3 b t n)
    = Merge.moved (Proj.vox (R0 V0) b.val) (fun _ k => Proj.mat (R1 V0) b.val (2048 + k))
      (Merge.mixed (fun t j => ((StickEqual.val (pr (Proj.vox (R0 V0)) M g W) b.val t j : ℝ) : EReal)) (fun t j => ((out (Proj.vox (R0 V0)) M g W B b.val t j : ℝ) : EReal))
        (fun t k => ((pr (Proj.vox (R0 V0)) M g W b.val t (4104 + k) : ℝ) : EReal)) (Proj.vox (R5 V0) 0) (Proj.vox (R6 V0) 0) (Proj.mat (R7 V0) 0))
      (Proj.vox (R8 V0) 0) t.val n.val := by
  rw [v140_eq]
  refine (moved_read (R0 V0) (R1 V0) (VX V0) (R8 V0) b t n).trans ?_
  refine congrArg₂ (fun x y : EReal => x + y) (Proj.vox_at (R0 V0) (ix3 b t n) rfl rfl rfl)
    (congrArg₂ (fun x y : EReal => x * y) (Proj.mat_at (R1 V0) (ix2 b ⟨2048 + n.val, by omega⟩) rfl rfl) (sum_congr rfl fun k _ => ?_))
  exact congrArg₂ (fun x y : EReal => x * y) (mixed_real H b t k) (Proj.vox_at (R8 V0) (ix3 0 k n) rfl rfl rfl)

/-- The reference's result. -/
theorem layer_real (b : Fin 16) (t : Fin 2048) (n : Fin 1024) : (val3 V0 (Proc.devRef .tc main_v153) : S16x2048x1024.Idx → EReal) (ix3 b t n)
    = Merge.layer (Proj.vox (R0 V0)) (Proj.mat (R1 V0)) (fun b t j => ((StickEqual.val (pr (Proj.vox (R0 V0)) M g W) b t j : ℝ) : EReal))
        (fun b t j => ((out (Proj.vox (R0 V0)) M g W B b t j : ℝ) : EReal)) (fun b t k => ((pr (Proj.vox (R0 V0)) M g W b t (4104 + k) : ℝ) : EReal))
        (Proj.vox (R5 V0) 0) (Proj.vox (R6 V0) 0) (Proj.mat (R7 V0) 0) (Proj.vox (R8 V0) 0) (Merge.vec (R9 V0)) b.val t.val n.val := by
  rw [v153_eq]
  refine (last_read (V140 V0) (R9 V0) b t n).trans ?_
  rw [moved_real H b t n, sum_congr rfl fun l _ => by rw [moved_real H b t l], Merge.layer, Merge.normed, Proj.rho, Merge.vec, dif_pos n.isLt]
  refine congrArg (fun i => _ * R9 V0 i) (funext fun d => ?_)
  match d with
  | 0 => rfl

end Cert.Ref

end
-- ==== Proof.Run.lean ====
/-
  The idealized kernel's run with its result.
-/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

-- the launch rule's implicit arguments are found by unifying its conclusion with this one
set_option backward.isDefEq.respectTransparency.types false in
/-- The kernel runs, its result is what the last host operation leaves and its arguments stay. -/
theorem value_run : θ_run defs (onTc (τ := τ) (main (F := Ideal))) ⟨m, fun _ => 0, ρ⟩ (fun r => ∀ c : Dev nD,
      r.2.mem ((c.tc : Thread nD τ).loc main_v35) = W9 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ => fun c =>
      ⟨h c _ (mem_uc main_v35 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)

end Cert.KernelIdeal.Gen

end
-- ==== Proof.Equal.lean ====
/-
  The idealized kernel and the reference compute the same result.
-/
module

public import proofs.«01_k».proof.Proof.Params
public import proofs.«01_k».proof.Proof.HostMerge
public import proofs.«01_k».proof.Proof.RefMerge
public import proofs.«01_k».proof.Proof.Run

@[expose] public section

set_option maxRecDepth 16384

noncomputable section

open Idealize.ShloMosaic Idealize.ShloMosaic.TcCoe Idealize.SL.Sem Idealize.ShloMosaic.StableHlo

namespace Cert.Equal

/-- The reference runs, its result is its last operation's and its arguments stay. -/
theorem reference_run (m : (ℓ : Loc Cert.ReferenceIdeal.nD Cert.ReferenceIdeal.τ Cert.ReferenceIdeal.sig) → Buf (Elt Ideal) ℓ) (g : Dev Cert.ReferenceIdeal.nD → PrngReg)
    (v : (c : Dev Cert.ReferenceIdeal.nD) → Buf (Elt Ideal) ((c.tc : Thread Cert.ReferenceIdeal.nD Cert.ReferenceIdeal.τ).loc Cert.ReferenceIdeal.main_v153))
    (hv : ∀ c, Cert.ReferenceIdeal.Value.val3 (launchContents m c) (Proc.devRef .tc Cert.ReferenceIdeal.main_v153) = v c) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v153) = v c
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)) :=
  (θ_run Cert.ReferenceIdeal.defs _ _).mono
    (fun _ h c => ⟨((h c).1.trans (Cert.ReferenceIdeal.Value.val3_main_v153 (launchContents m c)).symm).trans (hv c), (h c).2⟩)
    (Cert.ReferenceIdeal.Value.run (F := Ideal) m g)

/-- From memories agreeing on the arguments, finite parameters given, the two results are one array. -/
theorem results (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ)
    (hp : Cert.Pre_KernelIdeal_finite_params (hPre_finite_params := Params.pre_facts) m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    (Cert.ReferenceIdeal.Value.val3 (launchContents m' c) (Proc.devRef .tc Cert.ReferenceIdeal.main_v153) : Cert.ReferenceIdeal.S16x2048x1024.Idx → EReal)
      = (Cert.KernelIdeal.Gen.W9 m g c (Proc.devRef .tc Cert.KernelIdeal.main_v35) : Cert.KernelIdeal.S16x2048x1024.Idx → EReal) := by
  have H := Params.kernel_params m c hp
  have e0 : Ref.R0 (launchContents m' c) = Host.A0 m c := h0
  have e1 : Ref.R1 (launchContents m' c) = Host.A1 m c := h1
  have e2 : Ref.R2 (launchContents m' c) = Host.A2 m c := h2
  have e3 : Ref.R3 (launchContents m' c) = Host.A3 m c := h3
  have e4 : Ref.R4 (launchContents m' c) = Host.A4 m c := h4
  have e5 : Ref.R5 (launchContents m' c) = Host.A5 m c := h5
  have e6 : Ref.R6 (launchContents m' c) = Host.A6 m c := h6
  have e7 : Ref.R7 (launchContents m' c) = Host.A7 m c := h7
  have e8 : Ref.R8 (launchContents m' c) = Host.A8 m c := h8
  have e9 : Ref.R9 (launchContents m' c) = Host.A9 m c := h9
  have H' : Ref.RealParams (launchContents m' c) (fun b n => (Proj.mat (Host.A1 m c) b n).toReal) (fun k => (Proj.mat (Host.A2 m c) 0 k).toReal)
      (fun k n => (Proj.vox (Host.A3 m c) 0 k n).toReal) (fun h => (Proj.mat (Host.A4 m c) 0 h).toReal) :=
    ⟨by rw [e1]; exact H.mod, by rw [e2]; exact H.gain, by rw [e3]; exact H.weight, by rw [e4]; exact H.offset⟩
  funext y
  obtain ⟨b, t, n, rfl⟩ := Tiles.ex3 y
  refine (Ref.layer_real H' b t n).trans ?_
  rw [e0, e1, e5, e6, e7, e8, e9]
  exact (Host.layer_real g H b t n).symm

/-- The idealized kernel and the reference end with the same result. -/
theorem algebraic : Cert.algebraic_KernelIdeal_ReferenceIdeal_pre_finite_params (hKernelIdeal := Cert.KernelIdeal.Gen.facts)
    (hReferenceIdeal := Cert.ReferenceIdeal.Gen.facts) (hPre_finite_params := Params.pre_facts) := fun m g m' g' hp ha =>
  ⟨fun c => Cert.KernelIdeal.Gen.W9 m g c (Proc.devRef .tc Cert.KernelIdeal.main_v35), Cert.KernelIdeal.Gen.value_run m g,
    reference_run m' g' _ fun c => results m g m' hp c (ha c).1 (ha c).2.1 (ha c).2.2.1 (ha c).2.2.2.1 (ha c).2.2.2.2.1 (ha c).2.2.2.2.2.1 (ha c).2.2.2.2.2.2.1 (ha c).2.2.2.2.2.2.2.1 (ha c).2.2.2.2.2.2.2.2.1 (ha c).2.2.2.2.2.2.2.2.2⟩

end Cert.Equal

end
-- ==== Proof.Mod.lean ====
/-
  What the modulation kernel leaves: the condition's rows times the weights, plus the offsets. The kernel splits each
  operand into its rounded part and the rest; over the reals the rest is nothing.
-/
module

public import proofs.«01_k».proof.Proof.Merge
public import proofs.«01_k».proof.Proof.Gen.Kernel2Ideal.Frame
public import Idealize.ShloMosaic.Lib.StableHlo.ReadAt

@[expose] public section

set_option maxRecDepth 16384

noncomputable section

open Idealize.ShloMosaic hiding ix1 ix2 ix3
open Idealize.ShloMosaic.ValueIdx Cert.Kernel2Ideal Cert.Kernel2Ideal.Gen Cert.Tiles
open scoped BigOperators

namespace Cert.Mod

variable {a b r c q : ℕ} {C W : ℕ → ℕ → EReal} {B : ℕ → EReal}

/-- A number that is real. -/
def IsR (x : EReal) : Prop := ∃ v : ℝ, x = (v : EReal)

/-- A row of the condition times a column of the weights, plus the column's offset. -/
def modv (C W : ℕ → ℕ → EReal) (B : ℕ → EReal) (p n : ℕ) : EReal := (∑ k : Fin 1024, C p k.val * W k.val n) + B n

/-- A real vector less itself is zero, whatever the format in between. -/
theorem at_left {x : FVec Ideal ⟨2, ![a, b]⟩ .f32} {h : FTy.bits .bf16 < FTy.bits .f32} {h' : FTy.bits .bf16 < FTy.bits .f32}
    {h'' : FTy.bits .bf16 < FTy.bits .f32} (hx : ∀ j, IsR (x j)) :
    At (truncf .bf16 (subf x (extf .f32 (truncf .bf16 x h) h')) h'') (fun _ _ => 0) r c := fun j => by
  obtain ⟨v, hv⟩ := hx j
  show x j - x j = 0
  rw [hv, ← EReal.coe_sub, sub_self, EReal.coe_zero]

/-- What the kernel stores of a chunk of 1024 columns. -/
theorem at_out {x0 : Vec Ideal S16x1024 .f32} {x1 : Vec Ideal S1024x1024 .f32} {x2 : Vec Ideal S1x1024 .f32}
    (h0 : At (a := 16) (b := 1024) x0 C 0 0) (h1 : At (a := 1024) (b := 1024) x1 W 0 q) (h2 : At (a := 1) (b := 1024) x2 (fun _ => B) 0 q)
    (r0 : ∀ j, IsR (x0 j)) (r1 : ∀ j, IsR (x1 j)) :
    At1 (a := 16) (b := 1024) (out0_3 x0 x1 x2) (modv C W B) 0 q := fun y => by
  canon_tiles x h'
  unfold k0_pay1; dsimp only
  simp only [shapeCast_self]
  have e2 := Merge.at_whole (inb := inb_S1x1024_S1x1024_0_0) (a' := 1) (b' := 1024) h2
  have e : At (a := 16) (b := 1024) (broadcastTo S16x1024 (View.ld (Val := Elt Ideal) x2 r0_2) broadcasts_S1x1024_S16x1024) (fun _ => B) 0 q :=
    fun j => e2 _
  refine (at_lead ((at_add (at_add (at_add (Merge.at_prod rfl (at_truncf (Merge.at_whole h0)) (at_truncf (Merge.at_whole h1)))
    (Merge.at_prod rfl (at_truncf (Merge.at_whole h0)) (at_left fun j => r1 _)))
    (Merge.at_prod rfl (at_left (r := 0) (c := 0) fun j => r0 _) (at_truncf (Merge.at_whole h1)))) e).congr (H := modv C W B) fun i _ l _ => ?_) x).trans ?_
  · simp only [mul_zero, zero_mul, Finset.sum_const_zero, add_zero, modv]
  · rw [h'1, h'2]

/-- The places of the windows' blocks at a grid point. -/
theorem place : ∀ t : Fin grid0.N,
    win0_0.index t = ![0, 0] ∧ win0_1.index t = ![0, t.val] ∧ win0_2.index t = ![0, t.val] ∧ win0_3.index t = ![t.val, 0, 0] := by decide +kernel

variable (m : (ℓ : Loc nD τ sig) → Buf (Elt Ideal) ℓ) (c : Dev nD)

section arrays
variable (t : Fin grid0.N)

/-- The condition's rows. -/
theorem at_w0 : At (a := 16) (b := 1024) (iblk m c 0 t) (Proj.mat (V m c main_arg0)) 0 0 := fun y => by
  obtain ⟨i0, i1, i2, i3⟩ := place t
  blk_simp [iblk]
  refine Proj.mat_at _ _ ?_ ?_ <;> blk_simp [i0] <;> idx_bounds y <;> omega

/-- The block of the weights. -/
theorem at_w1 : At (a := 1024) (b := 1024) (iblk m c 1 t) (Proj.mat (V m c main_v0)) 0 (1024 * t.val) := fun y => by
  obtain ⟨i0, i1, i2, i3⟩ := place t
  blk_simp [iblk]
  refine Proj.mat_at _ _ ?_ ?_ <;> blk_simp [i1] <;> idx_bounds y <;> omega

/-- The block of the offsets. -/
theorem at_w2 : At (a := 1) (b := 1024) (iblk m c 2 t) (fun _ => Proj.mat (V m c main_v2) 0) 0 (1024 * t.val) := fun y => by
  obtain ⟨i0, i1, i2, i3⟩ := place t
  blk_simp [iblk]
  refine Proj.mat_at _ _ ?_ ?_ <;> blk_simp [i2] <;> idx_bounds y <;> omega

/-- Every entry of the condition's block is real. -/
theorem real_w0 (h : ∀ j : S16x1024.Idx, IsR ((V m c main_arg0 : S16x1024.Idx → EReal) j)) (j : S16x1024.Idx) : IsR ((iblk m c 0 t : S16x1024.Idx → EReal) j) := h _

/-- Every entry of the weights' block is real. -/
theorem real_w1 (h : ∀ j : S1024x3072.Idx, IsR ((V m c main_v0 : S1024x3072.Idx → EReal) j)) (j : S1024x1024.Idx) : IsR ((iblk m c 1 t : S1024x1024.Idx → EReal) j) := h _

end arrays

/-- What the write-backs leave in the result. -/
theorem mod_arr (hC : ∀ j : S16x1024.Idx, IsR ((V m c main_arg0 : S16x1024.Idx → EReal) j)) (hW : ∀ j : S1024x3072.Idx, IsR ((V m c main_v0 : S1024x3072.Idx → EReal) j)) :
    (dats m 0 c).arrAt 3 cfg0.N = fun y : S3x16x1024.Idx =>
      modv (Proj.mat (V m c main_arg0)) (Proj.mat (V m c main_v0)) (Proj.mat (V m c main_v2) 0) (y 1).val (1024 * (y 0).val + (y 2).val) := by
  refine (dats m 0 c).arrAt_eq_of_covers 3 _ (by decide +kernel) fun t hf y => ?_
  blk_simp
  rw [after0_3]
  obtain ⟨i0, i1, i2, i3⟩ := place t
  refine (at_out (at_w0 m c t) (at_w1 m c t) (at_w2 m c t) (real_w0 m c t hC) (real_w1 m c t hW) y).trans ?_
  have g0 : win0_3.index t 0 = t.val := by rw [i3]; rfl
  have g1 : win0_3.index t 1 = 0 := by rw [i3]; rfl
  have g2 : win0_3.index t 2 = 0 := by rw [i3]; rfl
  have hy : (y 0).val < 1 := (y 0).isLt
  rw [g0, g1, g2]
  congr 1 <;> omega

/-- The weights that the call reads. -/
theorem v0_read (j : S1024x3072.Idx) : (V m c main_v0 : S1024x3072.Idx → EReal) j = (m ((c.tc : Thread nD τ).loc main_arg1) : S1x1024x3072.Idx → EReal) (ix3 0 (j 0) (j 1)) := by
  obtain ⟨p, q, rfl⟩ := ex2 j
  show (V0 m c (Proc.devRef .tc main_v0) : S1024x3072.Idx → EReal) (ix2 p q) = m (c, Proc.devRef .tc main_arg1) _
  unfold V0; after_reads_at
  simp only [Proj.ix2_eq, Proj.ix3_eq]

/-- The offsets that the call reads. -/
theorem v2_read (q : Fin 3072) : (V m c main_v2 : S1x3072.Idx → EReal) (ix2 0 q) = (m ((c.tc : Thread nD τ).loc main_arg2) : S1x3072.Idx → EReal) (ix2 0 q) := by
  show (V0 m c (Proc.devRef .tc main_v2) : S1x3072.Idx → EReal) (ix2 0 q) = m (c, Proc.devRef .tc main_arg2) _
  unfold V0; after_reads_at
  simp only [Proj.ix2_eq, Proj.ix3_eq]

/-- The result is the call's result, its chunks side by side. -/
theorem v5_read (U : Valuation τ sig (Elt Ideal)) (p : Fin 16) (n : Fin 3072) :
    (StableHlo.after (List.flatten [hostOps1]) U (Proc.devRef .tc main_v5) : S16x3072.Idx → EReal) (ix2 p n)
      = (U (Proc.devRef .tc main_v3) : S3x16x1024.Idx → EReal) (ix3 ⟨n.val / 1024, by omega⟩ p ⟨n.val % 1024, by omega⟩) := by
  after_reads_at
  simp only [Proj.ix3_eq]

end Cert.Mod

end
-- ==== Proof.Equal2.lean ====
/-
  The idealized modulation kernel and its reference compute the same result.
-/
module

public import proofs.«01_k».proof.Proof.Mod
public import proofs.«01_k».proof.Proof.Params
public import proofs.«01_k».proof.Proof.Gen.Reference2Ideal.Run
public import proofs.«01_k».proof.Defs

@[expose] public section

set_option maxRecDepth 16384

noncomputable section

open Idealize.ShloMosaic hiding ix1 ix2 ix3
open Idealize.ShloMosaic.TcCoe Idealize.SL.Sem Idealize.ShloMosaic.StableHlo Idealize.ShloMosaic.ValueIdx Cert.Tiles
open scoped BigOperators

namespace Cert.Equal2

/-- What the precondition's own program needs of its shapes. -/
theorem pre_facts : Cert.Pre_finite_cond.Facts where
  bcast_S_S16x1024 := by decide
  bcast_S_S1x1024x3072 := by decide

section kernel
open Cert.Kernel2Ideal Cert.Kernel2Ideal.Gen

/-- What the kernel's program leaves as its result. -/
def val (m : (ℓ : Loc nD τ sig) → Buf (Elt Ideal) ℓ) (c : Dev nD) : Buf (Elt Ideal) ((c.tc : Thread nD τ).loc main_v5) :=
  Pipeline.afterTail₀ cfgs (dats m) 0 (V0 m) [hostOps1] c main_v5

/-- The kernel runs: its result is what its calls leave and its arguments stay. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v5) = val m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1 c).2 main_v5 (Pipeline.mem_restRefs_of main_v5 (by decide) (by decide)), h.2 c⟩)
    (θ_run_and (run_main (F := Ideal) m g) (unchanged (F := Ideal) m g))

/-- An entry of the kernel's result, the condition and the weights real. -/
theorem val_at (m : (ℓ : Loc nD τ sig) → Buf (Elt Ideal) ℓ) (c : Dev nD) (x : S16x1024.Idx → EReal) (w : S1x1024x3072.Idx → EReal) (b : S1x3072.Idx → EReal)
    (h0 : m ((c.tc : Thread nD τ).loc main_arg0) = x) (h1 : m ((c.tc : Thread nD τ).loc main_arg1) = w) (h2 : m ((c.tc : Thread nD τ).loc main_arg2) = b)
    (hC : ∀ j, Mod.IsR (x j)) (hW : ∀ j, Mod.IsR (w j)) (p : Fin 16) (n : Fin 3072) :
    (val m c : S16x3072.Idx → EReal) (ix2 p n) = (∑ k : Fin 1024, x (ix2 p k) * w (ix3 0 k n)) + b (ix2 0 n) := by
  have e0 : (V m c main_arg0 : S16x1024.Idx → EReal) = x := (V_main_arg0 m c).trans h0
  have e1 : ∀ j : S1024x3072.Idx, (V m c main_v0 : S1024x3072.Idx → EReal) j = w (ix3 0 (j 0) (j 1)) := fun j => (Mod.v0_read m c j).trans (congrFun h1 _)
  refine (Mod.v5_read _ p n).trans ?_
  refine (congrFun ((Pipeline.withArrays_arr spec0 (by decide) c (V0 m c) (fun w => (dats m 0 c).arrAt w cfg0.N) 3).trans
    (Mod.mod_arr m c (fun j => (hC j).imp fun _ h => (congrFun e0 j).trans h) (fun j => (hW _).imp fun _ h => (e1 j).trans h))) _).trans ?_
  show Mod.modv _ _ _ p.val (1024 * (n.val / 1024) + n.val % 1024) = _
  rw [Nat.div_add_mod, Mod.modv]
  refine congrArg₂ (· + ·) (Finset.sum_congr rfl fun k _ => congrArg₂ (· * ·) ?_ ?_) ?_
  · exact (Proj.mat_at (V m c main_arg0) (ix2 p k) rfl rfl).symm.trans (congrFun e0 _)
  · exact (Proj.mat_at (V m c main_v0) (ix2 k n) rfl rfl).symm.trans (e1 _)
  · exact (Proj.mat_at (V m c main_v2) (ix2 0 n) rfl rfl).symm.trans ((Mod.v2_read m c n).trans (congrFun h2 _))

end kernel

section reference
open Cert.Reference2Ideal Cert.Reference2Ideal.Gen

/-- An entry of the reference's result. -/
theorem ref_at (x : FVec Ideal S16x1024 .f32) (w : FVec Ideal S1x1024x3072 .f32) (b : FVec Ideal S1x3072 .f32) (p : Fin 16) (n : Fin 3072) :
    (addf (Host.dotGeneral dot_S16x1024_S1024x3072_S16x3072_1_0_0_1_n_n none x (shapeCast S1024x3072 w shapeCasts_S1x1024x3072_S1024x3072))
      (broadcastInDim S16x3072 ![0, 1] bcast_S1x3072_S16x3072_0_1 (broadcastInDim S1x3072 ![1] bcast_S3072_S1x3072_1 (shapeCast S3072 b shapeCasts_S1x3072_S3072))) : FVec Ideal S16x3072 .f32) (ix2 p n)
      = (∑ k : Fin 1024, (x (ix2 p k) : EReal) * (w (ix3 0 k n) : EReal)) + (b (ix2 0 n) : EReal) := by
  pointwise
  simp only [Proj.ix2_eq, Proj.ix3_eq]

end reference

/-- From memories agreeing on the arguments, a condition and weights of finite numbers given, the two results are one array. -/
theorem results (m : (ℓ : Loc Cert.Kernel2Ideal.nD Cert.Kernel2Ideal.τ Cert.Kernel2Ideal.sig) → Buf (Elt Ideal) ℓ)
    (hp : Cert.Pre_Kernel2Ideal_finite_cond (hPre_finite_cond := pre_facts) m) (c : Dev Cert.Kernel2Ideal.nD)
    (x : FVec Ideal Cert.Reference2Ideal.S16x1024 .f32) (w : FVec Ideal Cert.Reference2Ideal.S1x1024x3072 .f32) (b : FVec Ideal Cert.Reference2Ideal.S1x3072 .f32)
    (h0 : x = m ((c.tc : Thread Cert.Kernel2Ideal.nD Cert.Kernel2Ideal.τ).loc Cert.Kernel2Ideal.main_arg0))
    (h1 : w = m ((c.tc : Thread Cert.Kernel2Ideal.nD Cert.Kernel2Ideal.τ).loc Cert.Kernel2Ideal.main_arg1))
    (h2 : b = m ((c.tc : Thread Cert.Kernel2Ideal.nD Cert.Kernel2Ideal.τ).loc Cert.Kernel2Ideal.main_arg2))
    (y : Cert.Reference2Ideal.S16x3072.Idx → EReal)
    (hy : ∀ p n, y (ix2 p n) = (∑ k : Fin 1024, (x (ix2 p k) : EReal) * (w (ix3 0 k n) : EReal)) + (b (ix2 0 n) : EReal)) :
    y = (val m c : Cert.Kernel2Ideal.S16x3072.Idx → EReal) := by
  obtain ⟨q0, q1⟩ := hp c
  subst h0 h1 h2
  funext j
  obtain ⟨p, n, rfl⟩ := ex2 j
  exact (hy p n).trans (val_at m c _ _ _ rfl rfl rfl (fun i => ⟨_, Params.real_of_word _ (congrFun q0 i)⟩) (fun i => ⟨_, Params.real_of_word _ (congrFun q1 i)⟩) p n).symm

/-- The two programs' results agree. -/
theorem algebraic : Cert.algebraic_Kernel2Ideal_Reference2Ideal_pre_finite_cond (hKernel2Ideal := Cert.Kernel2Ideal.Gen.facts)
    (hReference2Ideal := Cert.Reference2Ideal.Gen.facts) (hPre_finite_cond := pre_facts) := fun m g m' g' hp ha =>
  ⟨val m, kernel_run m g,
    (θ_run Cert.Reference2Ideal.defs _ _).mono (fun _ h c => ⟨(h c).1.trans (results m hp c _ _ _ (ha c).1 (ha c).2.1 (ha c).2.2 _ fun p n => ref_at _ _ _ p n), (h c).2⟩)
      (Cert.Reference2Ideal.Value.run (F := Ideal) m' g')⟩

end Cert.Equal2

end
-- ==== Proof.lean ====
/-
  The claims of the certificate, put together from the modules under Proof/.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Frames
public import proofs.«01_k».proof.Proof.Frames2
public import proofs.«01_k».proof.Proof.Equal
public import proofs.«01_k».proof.Proof.Equal2
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Params.pre_facts, Cert.Equal2.pre_facts,
  frame_p, frame_pi, fun m ρ _ => Cert.KernelIdeal.Gen.frame m ρ, frame_ri, fun m ρ _ => frame_ri m ρ trivial,
  frame_p2, frame_pi2, fun m ρ _ => Cert.Kernel2Ideal.Gen.frame m ρ, frame_ri2, fun m ρ _ => frame_ri2 m ρ trivial,
  preserves, Cert.Equal.algebraic, preserves2, Cert.Equal2.algebraic⟩

end Cert.Proof

end
